-- ==== Defs.lean ====
def Pre_KernelXattn (m : (ℓ : Loc Cert.KernelXattn.nD Cert.KernelXattn.τ Cert.KernelXattn.sig) → Buf (Elt Bits) ℓ) : Prop :=
  True

def Pre_KernelXattnIdeal (m : (ℓ : Loc Cert.KernelXattnIdeal.nD Cert.KernelXattnIdeal.τ Cert.KernelXattnIdeal.sig) → Buf (Elt Ideal) ℓ) : Prop :=
  True

def Pre_KernelXattnIdeal_finite_xattn [hPre_finite_xattn : Cert.Pre_finite_xattn.Facts] (m : (ℓ : Loc Cert.KernelXattnIdeal.nD Cert.KernelXattnIdeal.τ Cert.KernelXattnIdeal.sig) → Buf (Elt Ideal) ℓ) : Prop :=
  ∀ c : Dev Cert.KernelXattnIdeal.nD,
    (Cert.Pre_finite_xattn.fn (F := Ideal) (m ((c.tc : Thread Cert.KernelXattnIdeal.nD Cert.KernelXattnIdeal.τ).loc Cert.KernelXattnIdeal.main_arg0)) (m ((c.tc : Thread Cert.KernelXattnIdeal.nD Cert.KernelXattnIdeal.τ).loc Cert.KernelXattnIdeal.main_arg1)) (m ((c.tc : Thread Cert.KernelXattnIdeal.nD Cert.KernelXattnIdeal.τ).loc Cert.KernelXattnIdeal.main_arg2))).1 = (fun _ => 1#1)
    ∧ (Cert.Pre_finite_xattn.fn (F := Ideal) (m ((c.tc : Thread Cert.KernelXattnIdeal.nD Cert.KernelXattnIdeal.τ).loc Cert.KernelXattnIdeal.main_arg0)) (m ((c.tc : Thread Cert.KernelXattnIdeal.nD Cert.KernelXattnIdeal.τ).loc Cert.KernelXattnIdeal.main_arg1)) (m ((c.tc : Thread Cert.KernelXattnIdeal.nD Cert.KernelXattnIdeal.τ).loc Cert.KernelXattnIdeal.main_arg2))).2.1 = (fun _ => 1#1)
    ∧ (Cert.Pre_finite_xattn.fn (F := Ideal) (m ((c.tc : Thread Cert.KernelXattnIdeal.nD Cert.KernelXattnIdeal.τ).loc Cert.KernelXattnIdeal.main_arg0)) (m ((c.tc : Thread Cert.KernelXattnIdeal.nD Cert.KernelXattnIdeal.τ).loc Cert.KernelXattnIdeal.main_arg1)) (m ((c.tc : Thread Cert.KernelXattnIdeal.nD Cert.KernelXattnIdeal.τ).loc Cert.KernelXattnIdeal.main_arg2))).2.2 = (fun _ => 1#1)

def Pre_ReferenceXattnIdeal (m : (ℓ : Loc Cert.ReferenceXattnIdeal.nD Cert.ReferenceXattnIdeal.τ Cert.ReferenceXattnIdeal.sig) → Buf (Elt Ideal) ℓ) : Prop :=
  True

def Pre_ReferenceXattnIdeal_finite_xattn [hPre_finite_xattn : Cert.Pre_finite_xattn.Facts] (m : (ℓ : Loc Cert.ReferenceXattnIdeal.nD Cert.ReferenceXattnIdeal.τ Cert.ReferenceXattnIdeal.sig) → Buf (Elt Ideal) ℓ) : Prop :=
  ∀ c : Dev Cert.ReferenceXattnIdeal.nD,
    (Cert.Pre_finite_xattn.fn (F := Ideal) (m ((c.tc : Thread Cert.ReferenceXattnIdeal.nD Cert.ReferenceXattnIdeal.τ).loc Cert.ReferenceXattnIdeal.main_arg0)) (m ((c.tc : Thread Cert.ReferenceXattnIdeal.nD Cert.ReferenceXattnIdeal.τ).loc Cert.ReferenceXattnIdeal.main_arg1)) (m ((c.tc : Thread Cert.ReferenceXattnIdeal.nD Cert.ReferenceXattnIdeal.τ).loc Cert.ReferenceXattnIdeal.main_arg2))).1 = (fun _ => 1#1)
    ∧ (Cert.Pre_finite_xattn.fn (F := Ideal) (m ((c.tc : Thread Cert.ReferenceXattnIdeal.nD Cert.ReferenceXattnIdeal.τ).loc Cert.ReferenceXattnIdeal.main_arg0)) (m ((c.tc : Thread Cert.ReferenceXattnIdeal.nD Cert.ReferenceXattnIdeal.τ).loc Cert.ReferenceXattnIdeal.main_arg1)) (m ((c.tc : Thread Cert.ReferenceXattnIdeal.nD Cert.ReferenceXattnIdeal.τ).loc Cert.ReferenceXattnIdeal.main_arg2))).2.1 = (fun _ => 1#1)
    ∧ (Cert.Pre_finite_xattn.fn (F := Ideal) (m ((c.tc : Thread Cert.ReferenceXattnIdeal.nD Cert.ReferenceXattnIdeal.τ).loc Cert.ReferenceXattnIdeal.main_arg0)) (m ((c.tc : Thread Cert.ReferenceXattnIdeal.nD Cert.ReferenceXattnIdeal.τ).loc Cert.ReferenceXattnIdeal.main_arg1)) (m ((c.tc : Thread Cert.ReferenceXattnIdeal.nD Cert.ReferenceXattnIdeal.τ).loc Cert.ReferenceXattnIdeal.main_arg2))).2.2 = (fun _ => 1#1)

def Pre_KernelRms (m : (ℓ : Loc Cert.KernelRms.nD Cert.KernelRms.τ Cert.KernelRms.sig) → Buf (Elt Bits) ℓ) : Prop :=
  True

def Pre_KernelRmsIdeal (m : (ℓ : Loc Cert.KernelRmsIdeal.nD Cert.KernelRmsIdeal.τ Cert.KernelRmsIdeal.sig) → Buf (Elt Ideal) ℓ) : Prop :=
  True

def Pre_KernelRmsIdeal_finite_rms [hPre_finite_rms : Cert.Pre_finite_rms.Facts] (m : (ℓ : Loc Cert.KernelRmsIdeal.nD Cert.KernelRmsIdeal.τ Cert.KernelRmsIdeal.sig) → Buf (Elt Ideal) ℓ) : Prop :=
  ∀ c : Dev Cert.KernelRmsIdeal.nD,
    (Cert.Pre_finite_rms.fn (F := Ideal) (m ((c.tc : Thread Cert.KernelRmsIdeal.nD Cert.KernelRmsIdeal.τ).loc Cert.KernelRmsIdeal.main_arg0)) (m ((c.tc : Thread Cert.KernelRmsIdeal.nD Cert.KernelRmsIdeal.τ).loc Cert.KernelRmsIdeal.main_arg1)) (m ((c.tc : Thread Cert.KernelRmsIdeal.nD Cert.KernelRmsIdeal.τ).loc Cert.KernelRmsIdeal.main_arg2))).1 = (fun _ => 1#1)
    ∧ (Cert.Pre_finite_rms.fn (F := Ideal) (m ((c.tc : Thread Cert.KernelRmsIdeal.nD Cert.KernelRmsIdeal.τ).loc Cert.KernelRmsIdeal.main_arg0)) (m ((c.tc : Thread Cert.KernelRmsIdeal.nD Cert.KernelRmsIdeal.τ).loc Cert.KernelRmsIdeal.main_arg1)) (m ((c.tc : Thread Cert.KernelRmsIdeal.nD Cert.KernelRmsIdeal.τ).loc Cert.KernelRmsIdeal.main_arg2))).2.1 = (fun _ => 1#1)
    ∧ (Cert.Pre_finite_rms.fn (F := Ideal) (m ((c.tc : Thread Cert.KernelRmsIdeal.nD Cert.KernelRmsIdeal.τ).loc Cert.KernelRmsIdeal.main_arg0)) (m ((c.tc : Thread Cert.KernelRmsIdeal.nD Cert.KernelRmsIdeal.τ).loc Cert.KernelRmsIdeal.main_arg1)) (m ((c.tc : Thread Cert.KernelRmsIdeal.nD Cert.KernelRmsIdeal.τ).loc Cert.KernelRmsIdeal.main_arg2))).2.2 = (fun _ => 1#1)

def Pre_ReferenceRmsIdeal (m : (ℓ : Loc Cert.ReferenceRmsIdeal.nD Cert.ReferenceRmsIdeal.τ Cert.ReferenceRmsIdeal.sig) → Buf (Elt Ideal) ℓ) : Prop :=
  True

def Pre_ReferenceRmsIdeal_finite_rms [hPre_finite_rms : Cert.Pre_finite_rms.Facts] (m : (ℓ : Loc Cert.ReferenceRmsIdeal.nD Cert.ReferenceRmsIdeal.τ Cert.ReferenceRmsIdeal.sig) → Buf (Elt Ideal) ℓ) : Prop :=
  ∀ c : Dev Cert.ReferenceRmsIdeal.nD,
    (Cert.Pre_finite_rms.fn (F := Ideal) (m ((c.tc : Thread Cert.ReferenceRmsIdeal.nD Cert.ReferenceRmsIdeal.τ).loc Cert.ReferenceRmsIdeal.main_arg0)) (m ((c.tc : Thread Cert.ReferenceRmsIdeal.nD Cert.ReferenceRmsIdeal.τ).loc Cert.ReferenceRmsIdeal.main_arg1)) (m ((c.tc : Thread Cert.ReferenceRmsIdeal.nD Cert.ReferenceRmsIdeal.τ).loc Cert.ReferenceRmsIdeal.main_arg2))).1 = (fun _ => 1#1)
    ∧ (Cert.Pre_finite_rms.fn (F := Ideal) (m ((c.tc : Thread Cert.ReferenceRmsIdeal.nD Cert.ReferenceRmsIdeal.τ).loc Cert.ReferenceRmsIdeal.main_arg0)) (m ((c.tc : Thread Cert.ReferenceRmsIdeal.nD Cert.ReferenceRmsIdeal.τ).loc Cert.ReferenceRmsIdeal.main_arg1)) (m ((c.tc : Thread Cert.ReferenceRmsIdeal.nD Cert.ReferenceRmsIdeal.τ).loc Cert.ReferenceRmsIdeal.main_arg2))).2.1 = (fun _ => 1#1)
    ∧ (Cert.Pre_finite_rms.fn (F := Ideal) (m ((c.tc : Thread Cert.ReferenceRmsIdeal.nD Cert.ReferenceRmsIdeal.τ).loc Cert.ReferenceRmsIdeal.main_arg0)) (m ((c.tc : Thread Cert.ReferenceRmsIdeal.nD Cert.ReferenceRmsIdeal.τ).loc Cert.ReferenceRmsIdeal.main_arg1)) (m ((c.tc : Thread Cert.ReferenceRmsIdeal.nD Cert.ReferenceRmsIdeal.τ).loc Cert.ReferenceRmsIdeal.main_arg2))).2.2 = (fun _ => 1#1)

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_KernelLossIdeal_finite_loss [hPre_finite_loss : Cert.Pre_finite_loss.Facts] (m : (ℓ : Loc Cert.KernelLossIdeal.nD Cert.KernelLossIdeal.τ Cert.KernelLossIdeal.sig) → Buf (Elt Ideal) ℓ) : Prop :=
  ∀ c : Dev Cert.KernelLossIdeal.nD,
    (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2))).1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2))).2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2))).2.2 = (fun _ => 1#1)

def Pre_ReferenceLossIdeal (m : (ℓ : Loc Cert.ReferenceLossIdeal.nD Cert.ReferenceLossIdeal.τ Cert.ReferenceLossIdeal.sig) → Buf (Elt Ideal) ℓ) : Prop :=
  True

def Pre_ReferenceLossIdeal_finite_loss [hPre_finite_loss : Cert.Pre_finite_loss.Facts] (m : (ℓ : Loc Cert.ReferenceLossIdeal.nD Cert.ReferenceLossIdeal.τ Cert.ReferenceLossIdeal.sig) → Buf (Elt Ideal) ℓ) : Prop :=
  ∀ c : Dev Cert.ReferenceLossIdeal.nD,
    (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2))).1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2))).2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2))).2.2 = (fun _ => 1#1)

def Pre_KernelMid (m : (ℓ : Loc Cert.KernelMid.nD Cert.KernelMid.τ Cert.KernelMid.sig) → Buf (Elt Bits) ℓ) : Prop :=
  True

def Pre_KernelMidIdeal (m : (ℓ : Loc Cert.KernelMidIdeal.nD Cert.KernelMidIdeal.τ Cert.KernelMidIdeal.sig) → Buf (Elt Ideal) ℓ) : Prop :=
  True

def Pre_KernelMidIdeal_finite_mid [hPre_finite_mid : Cert.Pre_finite_mid.Facts] (m : (ℓ : Loc Cert.KernelMidIdeal.nD Cert.KernelMidIdeal.τ Cert.KernelMidIdeal.sig) → Buf (Elt Ideal) ℓ) : Prop :=
  ∀ c : Dev Cert.KernelMidIdeal.nD,
    (Cert.Pre_finite_mid.fn (F := Ideal) (m ((c.tc : Thread Cert.KernelMidIdeal.nD Cert.KernelMidIdeal.τ).loc Cert.KernelMidIdeal.main_arg0)) (m ((c.tc : Thread Cert.KernelMidIdeal.nD Cert.KernelMidIdeal.τ).loc Cert.KernelMidIdeal.main_arg1)) (m ((c.tc : Thread Cert.KernelMidIdeal.nD Cert.KernelMidIdeal.τ).loc Cert.KernelMidIdeal.main_arg2)) (m ((c.tc : Thread Cert.KernelMidIdeal.nD Cert.KernelMidIdeal.τ).loc Cert.KernelMidIdeal.main_arg3))).1 = (fun _ => 1#1)
    ∧ (Cert.Pre_finite_mid.fn (F := Ideal) (m ((c.tc : Thread Cert.KernelMidIdeal.nD Cert.KernelMidIdeal.τ).loc Cert.KernelMidIdeal.main_arg0)) (m ((c.tc : Thread Cert.KernelMidIdeal.nD Cert.KernelMidIdeal.τ).loc Cert.KernelMidIdeal.main_arg1)) (m ((c.tc : Thread Cert.KernelMidIdeal.nD Cert.KernelMidIdeal.τ).loc Cert.KernelMidIdeal.main_arg2)) (m ((c.tc : Thread Cert.KernelMidIdeal.nD Cert.KernelMidIdeal.τ).loc Cert.KernelMidIdeal.main_arg3))).2.1 = (fun _ => 1#1)
    ∧ (Cert.Pre_finite_mid.fn (F := Ideal) (m ((c.tc : Thread Cert.KernelMidIdeal.nD Cert.KernelMidIdeal.τ).loc Cert.KernelMidIdeal.main_arg0)) (m ((c.tc : Thread Cert.KernelMidIdeal.nD Cert.KernelMidIdeal.τ).loc Cert.KernelMidIdeal.main_arg1)) (m ((c.tc : Thread Cert.KernelMidIdeal.nD Cert.KernelMidIdeal.τ).loc Cert.KernelMidIdeal.main_arg2)) (m ((c.tc : Thread Cert.KernelMidIdeal.nD Cert.KernelMidIdeal.τ).loc Cert.KernelMidIdeal.main_arg3))).2.2.1 = (fun _ => 1#1)
    ∧ (Cert.Pre_finite_mid.fn (F := Ideal) (m ((c.tc : Thread Cert.KernelMidIdeal.nD Cert.KernelMidIdeal.τ).loc Cert.KernelMidIdeal.main_arg0)) (m ((c.tc : Thread Cert.KernelMidIdeal.nD Cert.KernelMidIdeal.τ).loc Cert.KernelMidIdeal.main_arg1)) (m ((c.tc : Thread Cert.KernelMidIdeal.nD Cert.KernelMidIdeal.τ).loc Cert.KernelMidIdeal.main_arg2)) (m ((c.tc : Thread Cert.KernelMidIdeal.nD Cert.KernelMidIdeal.τ).loc Cert.KernelMidIdeal.main_arg3))).2.2.2 = (fun _ => 1#1)

def Pre_ReferenceMidIdeal (m : (ℓ : Loc Cert.ReferenceMidIdeal.nD Cert.ReferenceMidIdeal.τ Cert.ReferenceMidIdeal.sig) → Buf (Elt Ideal) ℓ) : Prop :=
  True

def Pre_ReferenceMidIdeal_finite_mid [hPre_finite_mid : Cert.Pre_finite_mid.Facts] (m : (ℓ : Loc Cert.ReferenceMidIdeal.nD Cert.ReferenceMidIdeal.τ Cert.ReferenceMidIdeal.sig) → Buf (Elt Ideal) ℓ) : Prop :=
  ∀ c : Dev Cert.ReferenceMidIdeal.nD,
    (Cert.Pre_finite_mid.fn (F := Ideal) (m ((c.tc : Thread Cert.ReferenceMidIdeal.nD Cert.ReferenceMidIdeal.τ).loc Cert.ReferenceMidIdeal.main_arg0)) (m ((c.tc : Thread Cert.ReferenceMidIdeal.nD Cert.ReferenceMidIdeal.τ).loc Cert.ReferenceMidIdeal.main_arg1)) (m ((c.tc : Thread Cert.ReferenceMidIdeal.nD Cert.ReferenceMidIdeal.τ).loc Cert.ReferenceMidIdeal.main_arg2)) (m ((c.tc : Thread Cert.ReferenceMidIdeal.nD Cert.ReferenceMidIdeal.τ).loc Cert.ReferenceMidIdeal.main_arg3))).1 = (fun _ => 1#1)
    ∧ (Cert.Pre_finite_mid.fn (F := Ideal) (m ((c.tc : Thread Cert.ReferenceMidIdeal.nD Cert.ReferenceMidIdeal.τ).loc Cert.ReferenceMidIdeal.main_arg0)) (m ((c.tc : Thread Cert.ReferenceMidIdeal.nD Cert.ReferenceMidIdeal.τ).loc Cert.ReferenceMidIdeal.main_arg1)) (m ((c.tc : Thread Cert.ReferenceMidIdeal.nD Cert.ReferenceMidIdeal.τ).loc Cert.ReferenceMidIdeal.main_arg2)) (m ((c.tc : Thread Cert.ReferenceMidIdeal.nD Cert.ReferenceMidIdeal.τ).loc Cert.ReferenceMidIdeal.main_arg3))).2.1 = (fun _ => 1#1)
    ∧ (Cert.Pre_finite_mid.fn (F := Ideal) (m ((c.tc : Thread Cert.ReferenceMidIdeal.nD Cert.ReferenceMidIdeal.τ).loc Cert.ReferenceMidIdeal.main_arg0)) (m ((c.tc : Thread Cert.ReferenceMidIdeal.nD Cert.ReferenceMidIdeal.τ).loc Cert.ReferenceMidIdeal.main_arg1)) (m ((c.tc : Thread Cert.ReferenceMidIdeal.nD Cert.ReferenceMidIdeal.τ).loc Cert.ReferenceMidIdeal.main_arg2)) (m ((c.tc : Thread Cert.ReferenceMidIdeal.nD Cert.ReferenceMidIdeal.τ).loc Cert.ReferenceMidIdeal.main_arg3))).2.2.1 = (fun _ => 1#1)
    ∧ (Cert.Pre_finite_mid.fn (F := Ideal) (m ((c.tc : Thread Cert.ReferenceMidIdeal.nD Cert.ReferenceMidIdeal.τ).loc Cert.ReferenceMidIdeal.main_arg0)) (m ((c.tc : Thread Cert.ReferenceMidIdeal.nD Cert.ReferenceMidIdeal.τ).loc Cert.ReferenceMidIdeal.main_arg1)) (m ((c.tc : Thread Cert.ReferenceMidIdeal.nD Cert.ReferenceMidIdeal.τ).loc Cert.ReferenceMidIdeal.main_arg2)) (m ((c.tc : Thread Cert.ReferenceMidIdeal.nD Cert.ReferenceMidIdeal.τ).loc Cert.ReferenceMidIdeal.main_arg3))).2.2.2 = (fun _ => 1#1)

def Pre_KernelDh (m : (ℓ : Loc Cert.KernelDh.nD Cert.KernelDh.τ Cert.KernelDh.sig) → Buf (Elt Bits) ℓ) : Prop :=
  True

def Pre_KernelDhIdeal (m : (ℓ : Loc Cert.KernelDhIdeal.nD Cert.KernelDhIdeal.τ Cert.KernelDhIdeal.sig) → Buf (Elt Ideal) ℓ) : Prop :=
  True

def Pre_KernelDhIdeal_finite_dh [hPre_finite_dh : Cert.Pre_finite_dh.Facts] (m : (ℓ : Loc Cert.KernelDhIdeal.nD Cert.KernelDhIdeal.τ Cert.KernelDhIdeal.sig) → Buf (Elt Ideal) ℓ) : Prop :=
  ∀ c : Dev Cert.KernelDhIdeal.nD,
    (Cert.Pre_finite_dh.fn (F := Ideal) (m ((c.tc : Thread Cert.KernelDhIdeal.nD Cert.KernelDhIdeal.τ).loc Cert.KernelDhIdeal.main_arg0)) (m ((c.tc : Thread Cert.KernelDhIdeal.nD Cert.KernelDhIdeal.τ).loc Cert.KernelDhIdeal.main_arg1)) (m ((c.tc : Thread Cert.KernelDhIdeal.nD Cert.KernelDhIdeal.τ).loc Cert.KernelDhIdeal.main_arg2)) (m ((c.tc : Thread Cert.KernelDhIdeal.nD Cert.KernelDhIdeal.τ).loc Cert.KernelDhIdeal.main_arg3)) (m ((c.tc : Thread Cert.KernelDhIdeal.nD Cert.KernelDhIdeal.τ).loc Cert.KernelDhIdeal.main_arg4)) (m ((c.tc : Thread Cert.KernelDhIdeal.nD Cert.KernelDhIdeal.τ).loc Cert.KernelDhIdeal.main_arg5)) (m ((c.tc : Thread Cert.KernelDhIdeal.nD Cert.KernelDhIdeal.τ).loc Cert.KernelDhIdeal.main_arg6))).1 = (fun _ => 1#1)
    ∧ (Cert.Pre_finite_dh.fn (F := Ideal) (m ((c.tc : Thread Cert.KernelDhIdeal.nD Cert.KernelDhIdeal.τ).loc Cert.KernelDhIdeal.main_arg0)) (m ((c.tc : Thread Cert.KernelDhIdeal.nD Cert.KernelDhIdeal.τ).loc Cert.KernelDhIdeal.main_arg1)) (m ((c.tc : Thread Cert.KernelDhIdeal.nD Cert.KernelDhIdeal.τ).loc Cert.KernelDhIdeal.main_arg2)) (m ((c.tc : Thread Cert.KernelDhIdeal.nD Cert.KernelDhIdeal.τ).loc Cert.KernelDhIdeal.main_arg3)) (m ((c.tc : Thread Cert.KernelDhIdeal.nD Cert.KernelDhIdeal.τ).loc Cert.KernelDhIdeal.main_arg4)) (m ((c.tc : Thread Cert.KernelDhIdeal.nD Cert.KernelDhIdeal.τ).loc Cert.KernelDhIdeal.main_arg5)) (m ((c.tc : Thread Cert.KernelDhIdeal.nD Cert.KernelDhIdeal.τ).loc Cert.KernelDhIdeal.main_arg6))).2.1 = (fun _ => 1#1)
    ∧ (Cert.Pre_finite_dh.fn (F := Ideal) (m ((c.tc : Thread Cert.KernelDhIdeal.nD Cert.KernelDhIdeal.τ).loc Cert.KernelDhIdeal.main_arg0)) (m ((c.tc : Thread Cert.KernelDhIdeal.nD Cert.KernelDhIdeal.τ).loc Cert.KernelDhIdeal.main_arg1)) (m ((c.tc : Thread Cert.KernelDhIdeal.nD Cert.KernelDhIdeal.τ).loc Cert.KernelDhIdeal.main_arg2)) (m ((c.tc : Thread Cert.KernelDhIdeal.nD Cert.KernelDhIdeal.τ).loc Cert.KernelDhIdeal.main_arg3)) (m ((c.tc : Thread Cert.KernelDhIdeal.nD Cert.KernelDhIdeal.τ).loc Cert.KernelDhIdeal.main_arg4)) (m ((c.tc : Thread Cert.KernelDhIdeal.nD Cert.KernelDhIdeal.τ).loc Cert.KernelDhIdeal.main_arg5)) (m ((c.tc : Thread Cert.KernelDhIdeal.nD Cert.KernelDhIdeal.τ).loc Cert.KernelDhIdeal.main_arg6))).2.2.1 = (fun _ => 1#1)
    ∧ (Cert.Pre_finite_dh.fn (F := Ideal) (m ((c.tc : Thread Cert.KernelDhIdeal.nD Cert.KernelDhIdeal.τ).loc Cert.KernelDhIdeal.main_arg0)) (m ((c.tc : Thread Cert.KernelDhIdeal.nD Cert.KernelDhIdeal.τ).loc Cert.KernelDhIdeal.main_arg1)) (m ((c.tc : Thread Cert.KernelDhIdeal.nD Cert.KernelDhIdeal.τ).loc Cert.KernelDhIdeal.main_arg2)) (m ((c.tc : Thread Cert.KernelDhIdeal.nD Cert.KernelDhIdeal.τ).loc Cert.KernelDhIdeal.main_arg3)) (m ((c.tc : Thread Cert.KernelDhIdeal.nD Cert.KernelDhIdeal.τ).loc Cert.KernelDhIdeal.main_arg4)) (m ((c.tc : Thread Cert.KernelDhIdeal.nD Cert.KernelDhIdeal.τ).loc Cert.KernelDhIdeal.main_arg5)) (m ((c.tc : Thread Cert.KernelDhIdeal.nD Cert.KernelDhIdeal.τ).loc Cert.KernelDhIdeal.main_arg6))).2.2.2.1 = (fun _ => 1#1)
    ∧ (Cert.Pre_finite_dh.fn (F := Ideal) (m ((c.tc : Thread Cert.KernelDhIdeal.nD Cert.KernelDhIdeal.τ).loc Cert.KernelDhIdeal.main_arg0)) (m ((c.tc : Thread Cert.KernelDhIdeal.nD Cert.KernelDhIdeal.τ).loc Cert.KernelDhIdeal.main_arg1)) (m ((c.tc : Thread Cert.KernelDhIdeal.nD Cert.KernelDhIdeal.τ).loc Cert.KernelDhIdeal.main_arg2)) (m ((c.tc : Thread Cert.KernelDhIdeal.nD Cert.KernelDhIdeal.τ).loc Cert.KernelDhIdeal.main_arg3)) (m ((c.tc : Thread Cert.KernelDhIdeal.nD Cert.KernelDhIdeal.τ).loc Cert.KernelDhIdeal.main_arg4)) (m ((c.tc : Thread Cert.KernelDhIdeal.nD Cert.KernelDhIdeal.τ).loc Cert.KernelDhIdeal.main_arg5)) (m ((c.tc : Thread Cert.KernelDhIdeal.nD Cert.KernelDhIdeal.τ).loc Cert.KernelDhIdeal.main_arg6))).2.2.2.2.1 = (fun _ => 1#1)
    ∧ (Cert.Pre_finite_dh.fn (F := Ideal) (m ((c.tc : Thread Cert.KernelDhIdeal.nD Cert.KernelDhIdeal.τ).loc Cert.KernelDhIdeal.main_arg0)) (m ((c.tc : Thread Cert.KernelDhIdeal.nD Cert.KernelDhIdeal.τ).loc Cert.KernelDhIdeal.main_arg1)) (m ((c.tc : Thread Cert.KernelDhIdeal.nD Cert.KernelDhIdeal.τ).loc Cert.KernelDhIdeal.main_arg2)) (m ((c.tc : Thread Cert.KernelDhIdeal.nD Cert.KernelDhIdeal.τ).loc Cert.KernelDhIdeal.main_arg3)) (m ((c.tc : Thread Cert.KernelDhIdeal.nD Cert.KernelDhIdeal.τ).loc Cert.KernelDhIdeal.main_arg4)) (m ((c.tc : Thread Cert.KernelDhIdeal.nD Cert.KernelDhIdeal.τ).loc Cert.KernelDhIdeal.main_arg5)) (m ((c.tc : Thread Cert.KernelDhIdeal.nD Cert.KernelDhIdeal.τ).loc Cert.KernelDhIdeal.main_arg6))).2.2.2.2.2 = (fun _ => 1#1)

def Pre_ReferenceDhIdeal (m : (ℓ : Loc Cert.ReferenceDhIdeal.nD Cert.ReferenceDhIdeal.τ Cert.ReferenceDhIdeal.sig) → Buf (Elt Ideal) ℓ) : Prop :=
  True

def Pre_ReferenceDhIdeal_finite_dh [hPre_finite_dh : Cert.Pre_finite_dh.Facts] (m : (ℓ : Loc Cert.ReferenceDhIdeal.nD Cert.ReferenceDhIdeal.τ Cert.ReferenceDhIdeal.sig) → Buf (Elt Ideal) ℓ) : Prop :=
  ∀ c : Dev Cert.ReferenceDhIdeal.nD,
    (Cert.Pre_finite_dh.fn (F := Ideal) (m ((c.tc : Thread Cert.ReferenceDhIdeal.nD Cert.ReferenceDhIdeal.τ).loc Cert.ReferenceDhIdeal.main_arg0)) (m ((c.tc : Thread Cert.ReferenceDhIdeal.nD Cert.ReferenceDhIdeal.τ).loc Cert.ReferenceDhIdeal.main_arg1)) (m ((c.tc : Thread Cert.ReferenceDhIdeal.nD Cert.ReferenceDhIdeal.τ).loc Cert.ReferenceDhIdeal.main_arg2)) (m ((c.tc : Thread Cert.ReferenceDhIdeal.nD Cert.ReferenceDhIdeal.τ).loc Cert.ReferenceDhIdeal.main_arg3)) (m ((c.tc : Thread Cert.ReferenceDhIdeal.nD Cert.ReferenceDhIdeal.τ).loc Cert.ReferenceDhIdeal.main_arg4)) (m ((c.tc : Thread Cert.ReferenceDhIdeal.nD Cert.ReferenceDhIdeal.τ).loc Cert.ReferenceDhIdeal.main_arg5)) (m ((c.tc : Thread Cert.ReferenceDhIdeal.nD Cert.ReferenceDhIdeal.τ).loc Cert.ReferenceDhIdeal.main_arg6))).1 = (fun _ => 1#1)
    ∧ (Cert.Pre_finite_dh.fn (F := Ideal) (m ((c.tc : Thread Cert.ReferenceDhIdeal.nD Cert.ReferenceDhIdeal.τ).loc Cert.ReferenceDhIdeal.main_arg0)) (m ((c.tc : Thread Cert.ReferenceDhIdeal.nD Cert.ReferenceDhIdeal.τ).loc Cert.ReferenceDhIdeal.main_arg1)) (m ((c.tc : Thread Cert.ReferenceDhIdeal.nD Cert.ReferenceDhIdeal.τ).loc Cert.ReferenceDhIdeal.main_arg2)) (m ((c.tc : Thread Cert.ReferenceDhIdeal.nD Cert.ReferenceDhIdeal.τ).loc Cert.ReferenceDhIdeal.main_arg3)) (m ((c.tc : Thread Cert.ReferenceDhIdeal.nD Cert.ReferenceDhIdeal.τ).loc Cert.ReferenceDhIdeal.main_arg4)) (m ((c.tc : Thread Cert.ReferenceDhIdeal.nD Cert.ReferenceDhIdeal.τ).loc Cert.ReferenceDhIdeal.main_arg5)) (m ((c.tc : Thread Cert.ReferenceDhIdeal.nD Cert.ReferenceDhIdeal.τ).loc Cert.ReferenceDhIdeal.main_arg6))).2.1 = (fun _ => 1#1)
    ∧ (Cert.Pre_finite_dh.fn (F := Ideal) (m ((c.tc : Thread Cert.ReferenceDhIdeal.nD Cert.ReferenceDhIdeal.τ).loc Cert.ReferenceDhIdeal.main_arg0)) (m ((c.tc : Thread Cert.ReferenceDhIdeal.nD Cert.ReferenceDhIdeal.τ).loc Cert.ReferenceDhIdeal.main_arg1)) (m ((c.tc : Thread Cert.ReferenceDhIdeal.nD Cert.ReferenceDhIdeal.τ).loc Cert.ReferenceDhIdeal.main_arg2)) (m ((c.tc : Thread Cert.ReferenceDhIdeal.nD Cert.ReferenceDhIdeal.τ).loc Cert.ReferenceDhIdeal.main_arg3)) (m ((c.tc : Thread Cert.ReferenceDhIdeal.nD Cert.ReferenceDhIdeal.τ).loc Cert.ReferenceDhIdeal.main_arg4)) (m ((c.tc : Thread Cert.ReferenceDhIdeal.nD Cert.ReferenceDhIdeal.τ).loc Cert.ReferenceDhIdeal.main_arg5)) (m ((c.tc : Thread Cert.ReferenceDhIdeal.nD Cert.ReferenceDhIdeal.τ).loc Cert.ReferenceDhIdeal.main_arg6))).2.2.1 = (fun _ => 1#1)
    ∧ (Cert.Pre_finite_dh.fn (F := Ideal) (m ((c.tc : Thread Cert.ReferenceDhIdeal.nD Cert.ReferenceDhIdeal.τ).loc Cert.ReferenceDhIdeal.main_arg0)) (m ((c.tc : Thread Cert.ReferenceDhIdeal.nD Cert.ReferenceDhIdeal.τ).loc Cert.ReferenceDhIdeal.main_arg1)) (m ((c.tc : Thread Cert.ReferenceDhIdeal.nD Cert.ReferenceDhIdeal.τ).loc Cert.ReferenceDhIdeal.main_arg2)) (m ((c.tc : Thread Cert.ReferenceDhIdeal.nD Cert.ReferenceDhIdeal.τ).loc Cert.ReferenceDhIdeal.main_arg3)) (m ((c.tc : Thread Cert.ReferenceDhIdeal.nD Cert.ReferenceDhIdeal.τ).loc Cert.ReferenceDhIdeal.main_arg4)) (m ((c.tc : Thread Cert.ReferenceDhIdeal.nD Cert.ReferenceDhIdeal.τ).loc Cert.ReferenceDhIdeal.main_arg5)) (m ((c.tc : Thread Cert.ReferenceDhIdeal.nD Cert.ReferenceDhIdeal.τ).loc Cert.ReferenceDhIdeal.main_arg6))).2.2.2.1 = (fun _ => 1#1)
    ∧ (Cert.Pre_finite_dh.fn (F := Ideal) (m ((c.tc : Thread Cert.ReferenceDhIdeal.nD Cert.ReferenceDhIdeal.τ).loc Cert.ReferenceDhIdeal.main_arg0)) (m ((c.tc : Thread Cert.ReferenceDhIdeal.nD Cert.ReferenceDhIdeal.τ).loc Cert.ReferenceDhIdeal.main_arg1)) (m ((c.tc : Thread Cert.ReferenceDhIdeal.nD Cert.ReferenceDhIdeal.τ).loc Cert.ReferenceDhIdeal.main_arg2)) (m ((c.tc : Thread Cert.ReferenceDhIdeal.nD Cert.ReferenceDhIdeal.τ).loc Cert.ReferenceDhIdeal.main_arg3)) (m ((c.tc : Thread Cert.ReferenceDhIdeal.nD Cert.ReferenceDhIdeal.τ).loc Cert.ReferenceDhIdeal.main_arg4)) (m ((c.tc : Thread Cert.ReferenceDhIdeal.nD Cert.ReferenceDhIdeal.τ).loc Cert.ReferenceDhIdeal.main_arg5)) (m ((c.tc : Thread Cert.ReferenceDhIdeal.nD Cert.ReferenceDhIdeal.τ).loc Cert.ReferenceDhIdeal.main_arg6))).2.2.2.2.1 = (fun _ => 1#1)
    ∧ (Cert.Pre_finite_dh.fn (F := Ideal) (m ((c.tc : Thread Cert.ReferenceDhIdeal.nD Cert.ReferenceDhIdeal.τ).loc Cert.ReferenceDhIdeal.main_arg0)) (m ((c.tc : Thread Cert.ReferenceDhIdeal.nD Cert.ReferenceDhIdeal.τ).loc Cert.ReferenceDhIdeal.main_arg1)) (m ((c.tc : Thread Cert.ReferenceDhIdeal.nD Cert.ReferenceDhIdeal.τ).loc Cert.ReferenceDhIdeal.main_arg2)) (m ((c.tc : Thread Cert.ReferenceDhIdeal.nD Cert.ReferenceDhIdeal.τ).loc Cert.ReferenceDhIdeal.main_arg3)) (m ((c.tc : Thread Cert.ReferenceDhIdeal.nD Cert.ReferenceDhIdeal.τ).loc Cert.ReferenceDhIdeal.main_arg4)) (m ((c.tc : Thread Cert.ReferenceDhIdeal.nD Cert.ReferenceDhIdeal.τ).loc Cert.ReferenceDhIdeal.main_arg5)) (m ((c.tc : Thread Cert.ReferenceDhIdeal.nD Cert.ReferenceDhIdeal.τ).loc Cert.ReferenceDhIdeal.main_arg6))).2.2.2.2.2 = (fun _ => 1#1)

def Pre_KernelDhn (m : (ℓ : Loc Cert.KernelDhn.nD Cert.KernelDhn.τ Cert.KernelDhn.sig) → Buf (Elt Bits) ℓ) : Prop :=
  True

def Pre_KernelDhnIdeal (m : (ℓ : Loc Cert.KernelDhnIdeal.nD Cert.KernelDhnIdeal.τ Cert.KernelDhnIdeal.sig) → Buf (Elt Ideal) ℓ) : Prop :=
  True

def Pre_KernelDhnIdeal_finite_dhn [hPre_finite_dhn : Cert.Pre_finite_dhn.Facts] (m : (ℓ : Loc Cert.KernelDhnIdeal.nD Cert.KernelDhnIdeal.τ Cert.KernelDhnIdeal.sig) → Buf (Elt Ideal) ℓ) : Prop :=
  ∀ c : Dev Cert.KernelDhnIdeal.nD,
    (Cert.Pre_finite_dhn.fn (F := Ideal) (m ((c.tc : Thread Cert.KernelDhnIdeal.nD Cert.KernelDhnIdeal.τ).loc Cert.KernelDhnIdeal.main_arg0)) (m ((c.tc : Thread Cert.KernelDhnIdeal.nD Cert.KernelDhnIdeal.τ).loc Cert.KernelDhnIdeal.main_arg1)) (m ((c.tc : Thread Cert.KernelDhnIdeal.nD Cert.KernelDhnIdeal.τ).loc Cert.KernelDhnIdeal.main_arg2)) (m ((c.tc : Thread Cert.KernelDhnIdeal.nD Cert.KernelDhnIdeal.τ).loc Cert.KernelDhnIdeal.main_arg3)) (m ((c.tc : Thread Cert.KernelDhnIdeal.nD Cert.KernelDhnIdeal.τ).loc Cert.KernelDhnIdeal.main_arg4)) (m ((c.tc : Thread Cert.KernelDhnIdeal.nD Cert.KernelDhnIdeal.τ).loc Cert.KernelDhnIdeal.main_arg5)) (m ((c.tc : Thread Cert.KernelDhnIdeal.nD Cert.KernelDhnIdeal.τ).loc Cert.KernelDhnIdeal.main_arg6))).1 = (fun _ => 1#1)
    ∧ (Cert.Pre_finite_dhn.fn (F := Ideal) (m ((c.tc : Thread Cert.KernelDhnIdeal.nD Cert.KernelDhnIdeal.τ).loc Cert.KernelDhnIdeal.main_arg0)) (m ((c.tc : Thread Cert.KernelDhnIdeal.nD Cert.KernelDhnIdeal.τ).loc Cert.KernelDhnIdeal.main_arg1)) (m ((c.tc : Thread Cert.KernelDhnIdeal.nD Cert.KernelDhnIdeal.τ).loc Cert.KernelDhnIdeal.main_arg2)) (m ((c.tc : Thread Cert.KernelDhnIdeal.nD Cert.KernelDhnIdeal.τ).loc Cert.KernelDhnIdeal.main_arg3)) (m ((c.tc : Thread Cert.KernelDhnIdeal.nD Cert.KernelDhnIdeal.τ).loc Cert.KernelDhnIdeal.main_arg4)) (m ((c.tc : Thread Cert.KernelDhnIdeal.nD Cert.KernelDhnIdeal.τ).loc Cert.KernelDhnIdeal.main_arg5)) (m ((c.tc : Thread Cert.KernelDhnIdeal.nD Cert.KernelDhnIdeal.τ).loc Cert.KernelDhnIdeal.main_arg6))).2.1 = (fun _ => 1#1)
    ∧ (Cert.Pre_finite_dhn.fn (F := Ideal) (m ((c.tc : Thread Cert.KernelDhnIdeal.nD Cert.KernelDhnIdeal.τ).loc Cert.KernelDhnIdeal.main_arg0)) (m ((c.tc : Thread Cert.KernelDhnIdeal.nD Cert.KernelDhnIdeal.τ).loc Cert.KernelDhnIdeal.main_arg1)) (m ((c.tc : Thread Cert.KernelDhnIdeal.nD Cert.KernelDhnIdeal.τ).loc Cert.KernelDhnIdeal.main_arg2)) (m ((c.tc : Thread Cert.KernelDhnIdeal.nD Cert.KernelDhnIdeal.τ).loc Cert.KernelDhnIdeal.main_arg3)) (m ((c.tc : Thread Cert.KernelDhnIdeal.nD Cert.KernelDhnIdeal.τ).loc Cert.KernelDhnIdeal.main_arg4)) (m ((c.tc : Thread Cert.KernelDhnIdeal.nD Cert.KernelDhnIdeal.τ).loc Cert.KernelDhnIdeal.main_arg5)) (m ((c.tc : Thread Cert.KernelDhnIdeal.nD Cert.KernelDhnIdeal.τ).loc Cert.KernelDhnIdeal.main_arg6))).2.2.1 = (fun _ => 1#1)
    ∧ (Cert.Pre_finite_dhn.fn (F := Ideal) (m ((c.tc : Thread Cert.KernelDhnIdeal.nD Cert.KernelDhnIdeal.τ).loc Cert.KernelDhnIdeal.main_arg0)) (m ((c.tc : Thread Cert.KernelDhnIdeal.nD Cert.KernelDhnIdeal.τ).loc Cert.KernelDhnIdeal.main_arg1)) (m ((c.tc : Thread Cert.KernelDhnIdeal.nD Cert.KernelDhnIdeal.τ).loc Cert.KernelDhnIdeal.main_arg2)) (m ((c.tc : Thread Cert.KernelDhnIdeal.nD Cert.KernelDhnIdeal.τ).loc Cert.KernelDhnIdeal.main_arg3)) (m ((c.tc : Thread Cert.KernelDhnIdeal.nD Cert.KernelDhnIdeal.τ).loc Cert.KernelDhnIdeal.main_arg4)) (m ((c.tc : Thread Cert.KernelDhnIdeal.nD Cert.KernelDhnIdeal.τ).loc Cert.KernelDhnIdeal.main_arg5)) (m ((c.tc : Thread Cert.KernelDhnIdeal.nD Cert.KernelDhnIdeal.τ).loc Cert.KernelDhnIdeal.main_arg6))).2.2.2.1 = (fun _ => 1#1)
    ∧ (Cert.Pre_finite_dhn.fn (F := Ideal) (m ((c.tc : Thread Cert.KernelDhnIdeal.nD Cert.KernelDhnIdeal.τ).loc Cert.KernelDhnIdeal.main_arg0)) (m ((c.tc : Thread Cert.KernelDhnIdeal.nD Cert.KernelDhnIdeal.τ).loc Cert.KernelDhnIdeal.main_arg1)) (m ((c.tc : Thread Cert.KernelDhnIdeal.nD Cert.KernelDhnIdeal.τ).loc Cert.KernelDhnIdeal.main_arg2)) (m ((c.tc : Thread Cert.KernelDhnIdeal.nD Cert.KernelDhnIdeal.τ).loc Cert.KernelDhnIdeal.main_arg3)) (m ((c.tc : Thread Cert.KernelDhnIdeal.nD Cert.KernelDhnIdeal.τ).loc Cert.KernelDhnIdeal.main_arg4)) (m ((c.tc : Thread Cert.KernelDhnIdeal.nD Cert.KernelDhnIdeal.τ).loc Cert.KernelDhnIdeal.main_arg5)) (m ((c.tc : Thread Cert.KernelDhnIdeal.nD Cert.KernelDhnIdeal.τ).loc Cert.KernelDhnIdeal.main_arg6))).2.2.2.2.1 = (fun _ => 1#1)
    ∧ (Cert.Pre_finite_dhn.fn (F := Ideal) (m ((c.tc : Thread Cert.KernelDhnIdeal.nD Cert.KernelDhnIdeal.τ).loc Cert.KernelDhnIdeal.main_arg0)) (m ((c.tc : Thread Cert.KernelDhnIdeal.nD Cert.KernelDhnIdeal.τ).loc Cert.KernelDhnIdeal.main_arg1)) (m ((c.tc : Thread Cert.KernelDhnIdeal.nD Cert.KernelDhnIdeal.τ).loc Cert.KernelDhnIdeal.main_arg2)) (m ((c.tc : Thread Cert.KernelDhnIdeal.nD Cert.KernelDhnIdeal.τ).loc Cert.KernelDhnIdeal.main_arg3)) (m ((c.tc : Thread Cert.KernelDhnIdeal.nD Cert.KernelDhnIdeal.τ).loc Cert.KernelDhnIdeal.main_arg4)) (m ((c.tc : Thread Cert.KernelDhnIdeal.nD Cert.KernelDhnIdeal.τ).loc Cert.KernelDhnIdeal.main_arg5)) (m ((c.tc : Thread Cert.KernelDhnIdeal.nD Cert.KernelDhnIdeal.τ).loc Cert.KernelDhnIdeal.main_arg6))).2.2.2.2.2 = (fun _ => 1#1)

def Pre_ReferenceDhnIdeal (m : (ℓ : Loc Cert.ReferenceDhnIdeal.nD Cert.ReferenceDhnIdeal.τ Cert.ReferenceDhnIdeal.sig) → Buf (Elt Ideal) ℓ) : Prop :=
  True

def Pre_ReferenceDhnIdeal_finite_dhn [hPre_finite_dhn : Cert.Pre_finite_dhn.Facts] (m : (ℓ : Loc Cert.ReferenceDhnIdeal.nD Cert.ReferenceDhnIdeal.τ Cert.ReferenceDhnIdeal.sig) → Buf (Elt Ideal) ℓ) : Prop :=
  ∀ c : Dev Cert.ReferenceDhnIdeal.nD,
    (Cert.Pre_finite_dhn.fn (F := Ideal) (m ((c.tc : Thread Cert.ReferenceDhnIdeal.nD Cert.ReferenceDhnIdeal.τ).loc Cert.ReferenceDhnIdeal.main_arg0)) (m ((c.tc : Thread Cert.ReferenceDhnIdeal.nD Cert.ReferenceDhnIdeal.τ).loc Cert.ReferenceDhnIdeal.main_arg1)) (m ((c.tc : Thread Cert.ReferenceDhnIdeal.nD Cert.ReferenceDhnIdeal.τ).loc Cert.ReferenceDhnIdeal.main_arg2)) (m ((c.tc : Thread Cert.ReferenceDhnIdeal.nD Cert.ReferenceDhnIdeal.τ).loc Cert.ReferenceDhnIdeal.main_arg3)) (m ((c.tc : Thread Cert.ReferenceDhnIdeal.nD Cert.ReferenceDhnIdeal.τ).loc Cert.ReferenceDhnIdeal.main_arg4)) (m ((c.tc : Thread Cert.ReferenceDhnIdeal.nD Cert.ReferenceDhnIdeal.τ).loc Cert.ReferenceDhnIdeal.main_arg5)) (m ((c.tc : Thread Cert.ReferenceDhnIdeal.nD Cert.ReferenceDhnIdeal.τ).loc Cert.ReferenceDhnIdeal.main_arg6))).1 = (fun _ => 1#1)
    ∧ (Cert.Pre_finite_dhn.fn (F := Ideal) (m ((c.tc : Thread Cert.ReferenceDhnIdeal.nD Cert.ReferenceDhnIdeal.τ).loc Cert.ReferenceDhnIdeal.main_arg0)) (m ((c.tc : Thread Cert.ReferenceDhnIdeal.nD Cert.ReferenceDhnIdeal.τ).loc Cert.ReferenceDhnIdeal.main_arg1)) (m ((c.tc : Thread Cert.ReferenceDhnIdeal.nD Cert.ReferenceDhnIdeal.τ).loc Cert.ReferenceDhnIdeal.main_arg2)) (m ((c.tc : Thread Cert.ReferenceDhnIdeal.nD Cert.ReferenceDhnIdeal.τ).loc Cert.ReferenceDhnIdeal.main_arg3)) (m ((c.tc : Thread Cert.ReferenceDhnIdeal.nD Cert.ReferenceDhnIdeal.τ).loc Cert.ReferenceDhnIdeal.main_arg4)) (m ((c.tc : Thread Cert.ReferenceDhnIdeal.nD Cert.ReferenceDhnIdeal.τ).loc Cert.ReferenceDhnIdeal.main_arg5)) (m ((c.tc : Thread Cert.ReferenceDhnIdeal.nD Cert.ReferenceDhnIdeal.τ).loc Cert.ReferenceDhnIdeal.main_arg6))).2.1 = (fun _ => 1#1)
    ∧ (Cert.Pre_finite_dhn.fn (F := Ideal) (m ((c.tc : Thread Cert.ReferenceDhnIdeal.nD Cert.ReferenceDhnIdeal.τ).loc Cert.ReferenceDhnIdeal.main_arg0)) (m ((c.tc : Thread Cert.ReferenceDhnIdeal.nD Cert.ReferenceDhnIdeal.τ).loc Cert.ReferenceDhnIdeal.main_arg1)) (m ((c.tc : Thread Cert.ReferenceDhnIdeal.nD Cert.ReferenceDhnIdeal.τ).loc Cert.ReferenceDhnIdeal.main_arg2)) (m ((c.tc : Thread Cert.ReferenceDhnIdeal.nD Cert.ReferenceDhnIdeal.τ).loc Cert.ReferenceDhnIdeal.main_arg3)) (m ((c.tc : Thread Cert.ReferenceDhnIdeal.nD Cert.ReferenceDhnIdeal.τ).loc Cert.ReferenceDhnIdeal.main_arg4)) (m ((c.tc : Thread Cert.ReferenceDhnIdeal.nD Cert.ReferenceDhnIdeal.τ).loc Cert.ReferenceDhnIdeal.main_arg5)) (m ((c.tc : Thread Cert.ReferenceDhnIdeal.nD Cert.ReferenceDhnIdeal.τ).loc Cert.ReferenceDhnIdeal.main_arg6))).2.2.1 = (fun _ => 1#1)
    ∧ (Cert.Pre_finite_dhn.fn (F := Ideal) (m ((c.tc : Thread Cert.ReferenceDhnIdeal.nD Cert.ReferenceDhnIdeal.τ).loc Cert.ReferenceDhnIdeal.main_arg0)) (m ((c.tc : Thread Cert.ReferenceDhnIdeal.nD Cert.ReferenceDhnIdeal.τ).loc Cert.ReferenceDhnIdeal.main_arg1)) (m ((c.tc : Thread Cert.ReferenceDhnIdeal.nD Cert.ReferenceDhnIdeal.τ).loc Cert.ReferenceDhnIdeal.main_arg2)) (m ((c.tc : Thread Cert.ReferenceDhnIdeal.nD Cert.ReferenceDhnIdeal.τ).loc Cert.ReferenceDhnIdeal.main_arg3)) (m ((c.tc : Thread Cert.ReferenceDhnIdeal.nD Cert.ReferenceDhnIdeal.τ).loc Cert.ReferenceDhnIdeal.main_arg4)) (m ((c.tc : Thread Cert.ReferenceDhnIdeal.nD Cert.ReferenceDhnIdeal.τ).loc Cert.ReferenceDhnIdeal.main_arg5)) (m ((c.tc : Thread Cert.ReferenceDhnIdeal.nD Cert.ReferenceDhnIdeal.τ).loc Cert.ReferenceDhnIdeal.main_arg6))).2.2.2.1 = (fun _ => 1#1)
    ∧ (Cert.Pre_finite_dhn.fn (F := Ideal) (m ((c.tc : Thread Cert.ReferenceDhnIdeal.nD Cert.ReferenceDhnIdeal.τ).loc Cert.ReferenceDhnIdeal.main_arg0)) (m ((c.tc : Thread Cert.ReferenceDhnIdeal.nD Cert.ReferenceDhnIdeal.τ).loc Cert.ReferenceDhnIdeal.main_arg1)) (m ((c.tc : Thread Cert.ReferenceDhnIdeal.nD Cert.ReferenceDhnIdeal.τ).loc Cert.ReferenceDhnIdeal.main_arg2)) (m ((c.tc : Thread Cert.ReferenceDhnIdeal.nD Cert.ReferenceDhnIdeal.τ).loc Cert.ReferenceDhnIdeal.main_arg3)) (m ((c.tc : Thread Cert.ReferenceDhnIdeal.nD Cert.ReferenceDhnIdeal.τ).loc Cert.ReferenceDhnIdeal.main_arg4)) (m ((c.tc : Thread Cert.ReferenceDhnIdeal.nD Cert.ReferenceDhnIdeal.τ).loc Cert.ReferenceDhnIdeal.main_arg5)) (m ((c.tc : Thread Cert.ReferenceDhnIdeal.nD Cert.ReferenceDhnIdeal.τ).loc Cert.ReferenceDhnIdeal.main_arg6))).2.2.2.2.1 = (fun _ => 1#1)
    ∧ (Cert.Pre_finite_dhn.fn (F := Ideal) (m ((c.tc : Thread Cert.ReferenceDhnIdeal.nD Cert.ReferenceDhnIdeal.τ).loc Cert.ReferenceDhnIdeal.main_arg0)) (m ((c.tc : Thread Cert.ReferenceDhnIdeal.nD Cert.ReferenceDhnIdeal.τ).loc Cert.ReferenceDhnIdeal.main_arg1)) (m ((c.tc : Thread Cert.ReferenceDhnIdeal.nD Cert.ReferenceDhnIdeal.τ).loc Cert.ReferenceDhnIdeal.main_arg2)) (m ((c.tc : Thread Cert.ReferenceDhnIdeal.nD Cert.ReferenceDhnIdeal.τ).loc Cert.ReferenceDhnIdeal.main_arg3)) (m ((c.tc : Thread Cert.ReferenceDhnIdeal.nD Cert.ReferenceDhnIdeal.τ).loc Cert.ReferenceDhnIdeal.main_arg4)) (m ((c.tc : Thread Cert.ReferenceDhnIdeal.nD Cert.ReferenceDhnIdeal.τ).loc Cert.ReferenceDhnIdeal.main_arg5)) (m ((c.tc : Thread Cert.ReferenceDhnIdeal.nD Cert.ReferenceDhnIdeal.τ).loc Cert.ReferenceDhnIdeal.main_arg6))).2.2.2.2.2 = (fun _ => 1#1)

def Pre_KernelDh3 (m : (ℓ : Loc Cert.KernelDh3.nD Cert.KernelDh3.τ Cert.KernelDh3.sig) → Buf (Elt Bits) ℓ) : Prop :=
  True

def Pre_KernelDh3Ideal (m : (ℓ : Loc Cert.KernelDh3Ideal.nD Cert.KernelDh3Ideal.τ Cert.KernelDh3Ideal.sig) → Buf (Elt Ideal) ℓ) : Prop :=
  True

def Pre_KernelDh3Ideal_finite_dh3 [hPre_finite_dh3 : Cert.Pre_finite_dh3.Facts] (m : (ℓ : Loc Cert.KernelDh3Ideal.nD Cert.KernelDh3Ideal.τ Cert.KernelDh3Ideal.sig) → Buf (Elt Ideal) ℓ) : Prop :=
  ∀ c : Dev Cert.KernelDh3Ideal.nD,
    (Cert.Pre_finite_dh3.fn (F := Ideal) (m ((c.tc : Thread Cert.KernelDh3Ideal.nD Cert.KernelDh3Ideal.τ).loc Cert.KernelDh3Ideal.main_arg0)) (m ((c.tc : Thread Cert.KernelDh3Ideal.nD Cert.KernelDh3Ideal.τ).loc Cert.KernelDh3Ideal.main_arg1)) (m ((c.tc : Thread Cert.KernelDh3Ideal.nD Cert.KernelDh3Ideal.τ).loc Cert.KernelDh3Ideal.main_arg2)) (m ((c.tc : Thread Cert.KernelDh3Ideal.nD Cert.KernelDh3Ideal.τ).loc Cert.KernelDh3Ideal.main_arg3)) (m ((c.tc : Thread Cert.KernelDh3Ideal.nD Cert.KernelDh3Ideal.τ).loc Cert.KernelDh3Ideal.main_arg4))).1 = (fun _ => 1#1)
    ∧ (Cert.Pre_finite_dh3.fn (F := Ideal) (m ((c.tc : Thread Cert.KernelDh3Ideal.nD Cert.KernelDh3Ideal.τ).loc Cert.KernelDh3Ideal.main_arg0)) (m ((c.tc : Thread Cert.KernelDh3Ideal.nD Cert.KernelDh3Ideal.τ).loc Cert.KernelDh3Ideal.main_arg1)) (m ((c.tc : Thread Cert.KernelDh3Ideal.nD Cert.KernelDh3Ideal.τ).loc Cert.KernelDh3Ideal.main_arg2)) (m ((c.tc : Thread Cert.KernelDh3Ideal.nD Cert.KernelDh3Ideal.τ).loc Cert.KernelDh3Ideal.main_arg3)) (m ((c.tc : Thread Cert.KernelDh3Ideal.nD Cert.KernelDh3Ideal.τ).loc Cert.KernelDh3Ideal.main_arg4))).2.1 = (fun _ => 1#1)
    ∧ (Cert.Pre_finite_dh3.fn (F := Ideal) (m ((c.tc : Thread Cert.KernelDh3Ideal.nD Cert.KernelDh3Ideal.τ).loc Cert.KernelDh3Ideal.main_arg0)) (m ((c.tc : Thread Cert.KernelDh3Ideal.nD Cert.KernelDh3Ideal.τ).loc Cert.KernelDh3Ideal.main_arg1)) (m ((c.tc : Thread Cert.KernelDh3Ideal.nD Cert.KernelDh3Ideal.τ).loc Cert.KernelDh3Ideal.main_arg2)) (m ((c.tc : Thread Cert.KernelDh3Ideal.nD Cert.KernelDh3Ideal.τ).loc Cert.KernelDh3Ideal.main_arg3)) (m ((c.tc : Thread Cert.KernelDh3Ideal.nD Cert.KernelDh3Ideal.τ).loc Cert.KernelDh3Ideal.main_arg4))).2.2.1 = (fun _ => 1#1)
    ∧ (Cert.Pre_finite_dh3.fn (F := Ideal) (m ((c.tc : Thread Cert.KernelDh3Ideal.nD Cert.KernelDh3Ideal.τ).loc Cert.KernelDh3Ideal.main_arg0)) (m ((c.tc : Thread Cert.KernelDh3Ideal.nD Cert.KernelDh3Ideal.τ).loc Cert.KernelDh3Ideal.main_arg1)) (m ((c.tc : Thread Cert.KernelDh3Ideal.nD Cert.KernelDh3Ideal.τ).loc Cert.KernelDh3Ideal.main_arg2)) (m ((c.tc : Thread Cert.KernelDh3Ideal.nD Cert.KernelDh3Ideal.τ).loc Cert.KernelDh3Ideal.main_arg3)) (m ((c.tc : Thread Cert.KernelDh3Ideal.nD Cert.KernelDh3Ideal.τ).loc Cert.KernelDh3Ideal.main_arg4))).2.2.2 = (fun _ => 1#1)

def Pre_ReferenceDh3Ideal (m : (ℓ : Loc Cert.ReferenceDh3Ideal.nD Cert.ReferenceDh3Ideal.τ Cert.ReferenceDh3Ideal.sig) → Buf (Elt Ideal) ℓ) : Prop :=
  True

def Pre_ReferenceDh3Ideal_finite_dh3 [hPre_finite_dh3 : Cert.Pre_finite_dh3.Facts] (m : (ℓ : Loc Cert.ReferenceDh3Ideal.nD Cert.ReferenceDh3Ideal.τ Cert.ReferenceDh3Ideal.sig) → Buf (Elt Ideal) ℓ) : Prop :=
  ∀ c : Dev Cert.ReferenceDh3Ideal.nD,
    (Cert.Pre_finite_dh3.fn (F := Ideal) (m ((c.tc : Thread Cert.ReferenceDh3Ideal.nD Cert.ReferenceDh3Ideal.τ).loc Cert.ReferenceDh3Ideal.main_arg0)) (m ((c.tc : Thread Cert.ReferenceDh3Ideal.nD Cert.ReferenceDh3Ideal.τ).loc Cert.ReferenceDh3Ideal.main_arg1)) (m ((c.tc : Thread Cert.ReferenceDh3Ideal.nD Cert.ReferenceDh3Ideal.τ).loc Cert.ReferenceDh3Ideal.main_arg2)) (m ((c.tc : Thread Cert.ReferenceDh3Ideal.nD Cert.ReferenceDh3Ideal.τ).loc Cert.ReferenceDh3Ideal.main_arg3)) (m ((c.tc : Thread Cert.ReferenceDh3Ideal.nD Cert.ReferenceDh3Ideal.τ).loc Cert.ReferenceDh3Ideal.main_arg4))).1 = (fun _ => 1#1)
    ∧ (Cert.Pre_finite_dh3.fn (F := Ideal) (m ((c.tc : Thread Cert.ReferenceDh3Ideal.nD Cert.ReferenceDh3Ideal.τ).loc Cert.ReferenceDh3Ideal.main_arg0)) (m ((c.tc : Thread Cert.ReferenceDh3Ideal.nD Cert.ReferenceDh3Ideal.τ).loc Cert.ReferenceDh3Ideal.main_arg1)) (m ((c.tc : Thread Cert.ReferenceDh3Ideal.nD Cert.ReferenceDh3Ideal.τ).loc Cert.ReferenceDh3Ideal.main_arg2)) (m ((c.tc : Thread Cert.ReferenceDh3Ideal.nD Cert.ReferenceDh3Ideal.τ).loc Cert.ReferenceDh3Ideal.main_arg3)) (m ((c.tc : Thread Cert.ReferenceDh3Ideal.nD Cert.ReferenceDh3Ideal.τ).loc Cert.ReferenceDh3Ideal.main_arg4))).2.1 = (fun _ => 1#1)
    ∧ (Cert.Pre_finite_dh3.fn (F := Ideal) (m ((c.tc : Thread Cert.ReferenceDh3Ideal.nD Cert.ReferenceDh3Ideal.τ).loc Cert.ReferenceDh3Ideal.main_arg0)) (m ((c.tc : Thread Cert.ReferenceDh3Ideal.nD Cert.ReferenceDh3Ideal.τ).loc Cert.ReferenceDh3Ideal.main_arg1)) (m ((c.tc : Thread Cert.ReferenceDh3Ideal.nD Cert.ReferenceDh3Ideal.τ).loc Cert.ReferenceDh3Ideal.main_arg2)) (m ((c.tc : Thread Cert.ReferenceDh3Ideal.nD Cert.ReferenceDh3Ideal.τ).loc Cert.ReferenceDh3Ideal.main_arg3)) (m ((c.tc : Thread Cert.ReferenceDh3Ideal.nD Cert.ReferenceDh3Ideal.τ).loc Cert.ReferenceDh3Ideal.main_arg4))).2.2.1 = (fun _ => 1#1)
    ∧ (Cert.Pre_finite_dh3.fn (F := Ideal) (m ((c.tc : Thread Cert.ReferenceDh3Ideal.nD Cert.ReferenceDh3Ideal.τ).loc Cert.ReferenceDh3Ideal.main_arg0)) (m ((c.tc : Thread Cert.ReferenceDh3Ideal.nD Cert.ReferenceDh3Ideal.τ).loc Cert.ReferenceDh3Ideal.main_arg1)) (m ((c.tc : Thread Cert.ReferenceDh3Ideal.nD Cert.ReferenceDh3Ideal.τ).loc Cert.ReferenceDh3Ideal.main_arg2)) (m ((c.tc : Thread Cert.ReferenceDh3Ideal.nD Cert.ReferenceDh3Ideal.τ).loc Cert.ReferenceDh3Ideal.main_arg3)) (m ((c.tc : Thread Cert.ReferenceDh3Ideal.nD Cert.ReferenceDh3Ideal.τ).loc Cert.ReferenceDh3Ideal.main_arg4))).2.2.2 = (fun _ => 1#1)

def Pre_KernelDh2 (m : (ℓ : Loc Cert.KernelDh2.nD Cert.KernelDh2.τ Cert.KernelDh2.sig) → Buf (Elt Bits) ℓ) : Prop :=
  True

def Pre_KernelDh2Ideal (m : (ℓ : Loc Cert.KernelDh2Ideal.nD Cert.KernelDh2Ideal.τ Cert.KernelDh2Ideal.sig) → Buf (Elt Ideal) ℓ) : Prop :=
  True

def Pre_KernelDh2Ideal_finite_dh2 [hPre_finite_dh2 : Cert.Pre_finite_dh2.Facts] (m : (ℓ : Loc Cert.KernelDh2Ideal.nD Cert.KernelDh2Ideal.τ Cert.KernelDh2Ideal.sig) → Buf (Elt Ideal) ℓ) : Prop :=
  ∀ c : Dev Cert.KernelDh2Ideal.nD,
    (Cert.Pre_finite_dh2.fn (F := Ideal) (m ((c.tc : Thread Cert.KernelDh2Ideal.nD Cert.KernelDh2Ideal.τ).loc Cert.KernelDh2Ideal.main_arg0)) (m ((c.tc : Thread Cert.KernelDh2Ideal.nD Cert.KernelDh2Ideal.τ).loc Cert.KernelDh2Ideal.main_arg1)) (m ((c.tc : Thread Cert.KernelDh2Ideal.nD Cert.KernelDh2Ideal.τ).loc Cert.KernelDh2Ideal.main_arg2)) (m ((c.tc : Thread Cert.KernelDh2Ideal.nD Cert.KernelDh2Ideal.τ).loc Cert.KernelDh2Ideal.main_arg3)) (m ((c.tc : Thread Cert.KernelDh2Ideal.nD Cert.KernelDh2Ideal.τ).loc Cert.KernelDh2Ideal.main_arg4))).1 = (fun _ => 1#1)
    ∧ (Cert.Pre_finite_dh2.fn (F := Ideal) (m ((c.tc : Thread Cert.KernelDh2Ideal.nD Cert.KernelDh2Ideal.τ).loc Cert.KernelDh2Ideal.main_arg0)) (m ((c.tc : Thread Cert.KernelDh2Ideal.nD Cert.KernelDh2Ideal.τ).loc Cert.KernelDh2Ideal.main_arg1)) (m ((c.tc : Thread Cert.KernelDh2Ideal.nD Cert.KernelDh2Ideal.τ).loc Cert.KernelDh2Ideal.main_arg2)) (m ((c.tc : Thread Cert.KernelDh2Ideal.nD Cert.KernelDh2Ideal.τ).loc Cert.KernelDh2Ideal.main_arg3)) (m ((c.tc : Thread Cert.KernelDh2Ideal.nD Cert.KernelDh2Ideal.τ).loc Cert.KernelDh2Ideal.main_arg4))).2.1 = (fun _ => 1#1)
    ∧ (Cert.Pre_finite_dh2.fn (F := Ideal) (m ((c.tc : Thread Cert.KernelDh2Ideal.nD Cert.KernelDh2Ideal.τ).loc Cert.KernelDh2Ideal.main_arg0)) (m ((c.tc : Thread Cert.KernelDh2Ideal.nD Cert.KernelDh2Ideal.τ).loc Cert.KernelDh2Ideal.main_arg1)) (m ((c.tc : Thread Cert.KernelDh2Ideal.nD Cert.KernelDh2Ideal.τ).loc Cert.KernelDh2Ideal.main_arg2)) (m ((c.tc : Thread Cert.KernelDh2Ideal.nD Cert.KernelDh2Ideal.τ).loc Cert.KernelDh2Ideal.main_arg3)) (m ((c.tc : Thread Cert.KernelDh2Ideal.nD Cert.KernelDh2Ideal.τ).loc Cert.KernelDh2Ideal.main_arg4))).2.2.1 = (fun _ => 1#1)
    ∧ (Cert.Pre_finite_dh2.fn (F := Ideal) (m ((c.tc : Thread Cert.KernelDh2Ideal.nD Cert.KernelDh2Ideal.τ).loc Cert.KernelDh2Ideal.main_arg0)) (m ((c.tc : Thread Cert.KernelDh2Ideal.nD Cert.KernelDh2Ideal.τ).loc Cert.KernelDh2Ideal.main_arg1)) (m ((c.tc : Thread Cert.KernelDh2Ideal.nD Cert.KernelDh2Ideal.τ).loc Cert.KernelDh2Ideal.main_arg2)) (m ((c.tc : Thread Cert.KernelDh2Ideal.nD Cert.KernelDh2Ideal.τ).loc Cert.KernelDh2Ideal.main_arg3)) (m ((c.tc : Thread Cert.KernelDh2Ideal.nD Cert.KernelDh2Ideal.τ).loc Cert.KernelDh2Ideal.main_arg4))).2.2.2 = (fun _ => 1#1)

def Pre_ReferenceDh2Ideal (m : (ℓ : Loc Cert.ReferenceDh2Ideal.nD Cert.ReferenceDh2Ideal.τ Cert.ReferenceDh2Ideal.sig) → Buf (Elt Ideal) ℓ) : Prop :=
  True

def Pre_ReferenceDh2Ideal_finite_dh2 [hPre_finite_dh2 : Cert.Pre_finite_dh2.Facts] (m : (ℓ : Loc Cert.ReferenceDh2Ideal.nD Cert.ReferenceDh2Ideal.τ Cert.ReferenceDh2Ideal.sig) → Buf (Elt Ideal) ℓ) : Prop :=
  ∀ c : Dev Cert.ReferenceDh2Ideal.nD,
    (Cert.Pre_finite_dh2.fn (F := Ideal) (m ((c.tc : Thread Cert.ReferenceDh2Ideal.nD Cert.ReferenceDh2Ideal.τ).loc Cert.ReferenceDh2Ideal.main_arg0)) (m ((c.tc : Thread Cert.ReferenceDh2Ideal.nD Cert.ReferenceDh2Ideal.τ).loc Cert.ReferenceDh2Ideal.main_arg1)) (m ((c.tc : Thread Cert.ReferenceDh2Ideal.nD Cert.ReferenceDh2Ideal.τ).loc Cert.ReferenceDh2Ideal.main_arg2)) (m ((c.tc : Thread Cert.ReferenceDh2Ideal.nD Cert.ReferenceDh2Ideal.τ).loc Cert.ReferenceDh2Ideal.main_arg3)) (m ((c.tc : Thread Cert.ReferenceDh2Ideal.nD Cert.ReferenceDh2Ideal.τ).loc Cert.ReferenceDh2Ideal.main_arg4))).1 = (fun _ => 1#1)
    ∧ (Cert.Pre_finite_dh2.fn (F := Ideal) (m ((c.tc : Thread Cert.ReferenceDh2Ideal.nD Cert.ReferenceDh2Ideal.τ).loc Cert.ReferenceDh2Ideal.main_arg0)) (m ((c.tc : Thread Cert.ReferenceDh2Ideal.nD Cert.ReferenceDh2Ideal.τ).loc Cert.ReferenceDh2Ideal.main_arg1)) (m ((c.tc : Thread Cert.ReferenceDh2Ideal.nD Cert.ReferenceDh2Ideal.τ).loc Cert.ReferenceDh2Ideal.main_arg2)) (m ((c.tc : Thread Cert.ReferenceDh2Ideal.nD Cert.ReferenceDh2Ideal.τ).loc Cert.ReferenceDh2Ideal.main_arg3)) (m ((c.tc : Thread Cert.ReferenceDh2Ideal.nD Cert.ReferenceDh2Ideal.τ).loc Cert.ReferenceDh2Ideal.main_arg4))).2.1 = (fun _ => 1#1)
    ∧ (Cert.Pre_finite_dh2.fn (F := Ideal) (m ((c.tc : Thread Cert.ReferenceDh2Ideal.nD Cert.ReferenceDh2Ideal.τ).loc Cert.ReferenceDh2Ideal.main_arg0)) (m ((c.tc : Thread Cert.ReferenceDh2Ideal.nD Cert.ReferenceDh2Ideal.τ).loc Cert.ReferenceDh2Ideal.main_arg1)) (m ((c.tc : Thread Cert.ReferenceDh2Ideal.nD Cert.ReferenceDh2Ideal.τ).loc Cert.ReferenceDh2Ideal.main_arg2)) (m ((c.tc : Thread Cert.ReferenceDh2Ideal.nD Cert.ReferenceDh2Ideal.τ).loc Cert.ReferenceDh2Ideal.main_arg3)) (m ((c.tc : Thread Cert.ReferenceDh2Ideal.nD Cert.ReferenceDh2Ideal.τ).loc Cert.ReferenceDh2Ideal.main_arg4))).2.2.1 = (fun _ => 1#1)
    ∧ (Cert.Pre_finite_dh2.fn (F := Ideal) (m ((c.tc : Thread Cert.ReferenceDh2Ideal.nD Cert.ReferenceDh2Ideal.τ).loc Cert.ReferenceDh2Ideal.main_arg0)) (m ((c.tc : Thread Cert.ReferenceDh2Ideal.nD Cert.ReferenceDh2Ideal.τ).loc Cert.ReferenceDh2Ideal.main_arg1)) (m ((c.tc : Thread Cert.ReferenceDh2Ideal.nD Cert.ReferenceDh2Ideal.τ).loc Cert.ReferenceDh2Ideal.main_arg2)) (m ((c.tc : Thread Cert.ReferenceDh2Ideal.nD Cert.ReferenceDh2Ideal.τ).loc Cert.ReferenceDh2Ideal.main_arg3)) (m ((c.tc : Thread Cert.ReferenceDh2Ideal.nD Cert.ReferenceDh2Ideal.τ).loc Cert.ReferenceDh2Ideal.main_arg4))).2.2.2 = (fun _ => 1#1)

def Pre_KernelDmg (m : (ℓ : Loc Cert.KernelDmg.nD Cert.KernelDmg.τ Cert.KernelDmg.sig) → Buf (Elt Bits) ℓ) : Prop :=
  True

def Pre_KernelDmgIdeal (m : (ℓ : Loc Cert.KernelDmgIdeal.nD Cert.KernelDmgIdeal.τ Cert.KernelDmgIdeal.sig) → Buf (Elt Ideal) ℓ) : Prop :=
  True

def Pre_KernelDmgIdeal_finite_dmg [hPre_finite_dmg : Cert.Pre_finite_dmg.Facts] (m : (ℓ : Loc Cert.KernelDmgIdeal.nD Cert.KernelDmgIdeal.τ Cert.KernelDmgIdeal.sig) → Buf (Elt Ideal) ℓ) : Prop :=
  ∀ c : Dev Cert.KernelDmgIdeal.nD,
    (Cert.Pre_finite_dmg.fn (F := Ideal) (m ((c.tc : Thread Cert.KernelDmgIdeal.nD Cert.KernelDmgIdeal.τ).loc Cert.KernelDmgIdeal.main_arg0)) (m ((c.tc : Thread Cert.KernelDmgIdeal.nD Cert.KernelDmgIdeal.τ).loc Cert.KernelDmgIdeal.main_arg1)) (m ((c.tc : Thread Cert.KernelDmgIdeal.nD Cert.KernelDmgIdeal.τ).loc Cert.KernelDmgIdeal.main_arg2)) (m ((c.tc : Thread Cert.KernelDmgIdeal.nD Cert.KernelDmgIdeal.τ).loc Cert.KernelDmgIdeal.main_arg3)) (m ((c.tc : Thread Cert.KernelDmgIdeal.nD Cert.KernelDmgIdeal.τ).loc Cert.KernelDmgIdeal.main_arg4)) (m ((c.tc : Thread Cert.KernelDmgIdeal.nD Cert.KernelDmgIdeal.τ).loc Cert.KernelDmgIdeal.main_arg5))).1 = (fun _ => 1#1)
    ∧ (Cert.Pre_finite_dmg.fn (F := Ideal) (m ((c.tc : Thread Cert.KernelDmgIdeal.nD Cert.KernelDmgIdeal.τ).loc Cert.KernelDmgIdeal.main_arg0)) (m ((c.tc : Thread Cert.KernelDmgIdeal.nD Cert.KernelDmgIdeal.τ).loc Cert.KernelDmgIdeal.main_arg1)) (m ((c.tc : Thread Cert.KernelDmgIdeal.nD Cert.KernelDmgIdeal.τ).loc Cert.KernelDmgIdeal.main_arg2)) (m ((c.tc : Thread Cert.KernelDmgIdeal.nD Cert.KernelDmgIdeal.τ).loc Cert.KernelDmgIdeal.main_arg3)) (m ((c.tc : Thread Cert.KernelDmgIdeal.nD Cert.KernelDmgIdeal.τ).loc Cert.KernelDmgIdeal.main_arg4)) (m ((c.tc : Thread Cert.KernelDmgIdeal.nD Cert.KernelDmgIdeal.τ).loc Cert.KernelDmgIdeal.main_arg5))).2.1 = (fun _ => 1#1)
    ∧ (Cert.Pre_finite_dmg.fn (F := Ideal) (m ((c.tc : Thread Cert.KernelDmgIdeal.nD Cert.KernelDmgIdeal.τ).loc Cert.KernelDmgIdeal.main_arg0)) (m ((c.tc : Thread Cert.KernelDmgIdeal.nD Cert.KernelDmgIdeal.τ).loc Cert.KernelDmgIdeal.main_arg1)) (m ((c.tc : Thread Cert.KernelDmgIdeal.nD Cert.KernelDmgIdeal.τ).loc Cert.KernelDmgIdeal.main_arg2)) (m ((c.tc : Thread Cert.KernelDmgIdeal.nD Cert.KernelDmgIdeal.τ).loc Cert.KernelDmgIdeal.main_arg3)) (m ((c.tc : Thread Cert.KernelDmgIdeal.nD Cert.KernelDmgIdeal.τ).loc Cert.KernelDmgIdeal.main_arg4)) (m ((c.tc : Thread Cert.KernelDmgIdeal.nD Cert.KernelDmgIdeal.τ).loc Cert.KernelDmgIdeal.main_arg5))).2.2.1 = (fun _ => 1#1)
    ∧ (Cert.Pre_finite_dmg.fn (F := Ideal) (m ((c.tc : Thread Cert.KernelDmgIdeal.nD Cert.KernelDmgIdeal.τ).loc Cert.KernelDmgIdeal.main_arg0)) (m ((c.tc : Thread Cert.KernelDmgIdeal.nD Cert.KernelDmgIdeal.τ).loc Cert.KernelDmgIdeal.main_arg1)) (m ((c.tc : Thread Cert.KernelDmgIdeal.nD Cert.KernelDmgIdeal.τ).loc Cert.KernelDmgIdeal.main_arg2)) (m ((c.tc : Thread Cert.KernelDmgIdeal.nD Cert.KernelDmgIdeal.τ).loc Cert.KernelDmgIdeal.main_arg3)) (m ((c.tc : Thread Cert.KernelDmgIdeal.nD Cert.KernelDmgIdeal.τ).loc Cert.KernelDmgIdeal.main_arg4)) (m ((c.tc : Thread Cert.KernelDmgIdeal.nD Cert.KernelDmgIdeal.τ).loc Cert.KernelDmgIdeal.main_arg5))).2.2.2.1 = (fun _ => 1#1)
    ∧ (Cert.Pre_finite_dmg.fn (F := Ideal) (m ((c.tc : Thread Cert.KernelDmgIdeal.nD Cert.KernelDmgIdeal.τ).loc Cert.KernelDmgIdeal.main_arg0)) (m ((c.tc : Thread Cert.KernelDmgIdeal.nD Cert.KernelDmgIdeal.τ).loc Cert.KernelDmgIdeal.main_arg1)) (m ((c.tc : Thread Cert.KernelDmgIdeal.nD Cert.KernelDmgIdeal.τ).loc Cert.KernelDmgIdeal.main_arg2)) (m ((c.tc : Thread Cert.KernelDmgIdeal.nD Cert.KernelDmgIdeal.τ).loc Cert.KernelDmgIdeal.main_arg3)) (m ((c.tc : Thread Cert.KernelDmgIdeal.nD Cert.KernelDmgIdeal.τ).loc Cert.KernelDmgIdeal.main_arg4)) (m ((c.tc : Thread Cert.KernelDmgIdeal.nD Cert.KernelDmgIdeal.τ).loc Cert.KernelDmgIdeal.main_arg5))).2.2.2.2.1 = (fun _ => 1#1)
    ∧ (Cert.Pre_finite_dmg.fn (F := Ideal) (m ((c.tc : Thread Cert.KernelDmgIdeal.nD Cert.KernelDmgIdeal.τ).loc Cert.KernelDmgIdeal.main_arg0)) (m ((c.tc : Thread Cert.KernelDmgIdeal.nD Cert.KernelDmgIdeal.τ).loc Cert.KernelDmgIdeal.main_arg1)) (m ((c.tc : Thread Cert.KernelDmgIdeal.nD Cert.KernelDmgIdeal.τ).loc Cert.KernelDmgIdeal.main_arg2)) (m ((c.tc : Thread Cert.KernelDmgIdeal.nD Cert.KernelDmgIdeal.τ).loc Cert.KernelDmgIdeal.main_arg3)) (m ((c.tc : Thread Cert.KernelDmgIdeal.nD Cert.KernelDmgIdeal.τ).loc Cert.KernelDmgIdeal.main_arg4)) (m ((c.tc : Thread Cert.KernelDmgIdeal.nD Cert.KernelDmgIdeal.τ).loc Cert.KernelDmgIdeal.main_arg5))).2.2.2.2.2 = (fun _ => 1#1)

def Pre_ReferenceDmgIdeal (m : (ℓ : Loc Cert.ReferenceDmgIdeal.nD Cert.ReferenceDmgIdeal.τ Cert.ReferenceDmgIdeal.sig) → Buf (Elt Ideal) ℓ) : Prop :=
  True

def Pre_ReferenceDmgIdeal_finite_dmg [hPre_finite_dmg : Cert.Pre_finite_dmg.Facts] (m : (ℓ : Loc Cert.ReferenceDmgIdeal.nD Cert.ReferenceDmgIdeal.τ Cert.ReferenceDmgIdeal.sig) → Buf (Elt Ideal) ℓ) : Prop :=
  ∀ c : Dev Cert.ReferenceDmgIdeal.nD,
    (Cert.Pre_finite_dmg.fn (F := Ideal) (m ((c.tc : Thread Cert.ReferenceDmgIdeal.nD Cert.ReferenceDmgIdeal.τ).loc Cert.ReferenceDmgIdeal.main_arg0)) (m ((c.tc : Thread Cert.ReferenceDmgIdeal.nD Cert.ReferenceDmgIdeal.τ).loc Cert.ReferenceDmgIdeal.main_arg1)) (m ((c.tc : Thread Cert.ReferenceDmgIdeal.nD Cert.ReferenceDmgIdeal.τ).loc Cert.ReferenceDmgIdeal.main_arg2)) (m ((c.tc : Thread Cert.ReferenceDmgIdeal.nD Cert.ReferenceDmgIdeal.τ).loc Cert.ReferenceDmgIdeal.main_arg3)) (m ((c.tc : Thread Cert.ReferenceDmgIdeal.nD Cert.ReferenceDmgIdeal.τ).loc Cert.ReferenceDmgIdeal.main_arg4)) (m ((c.tc : Thread Cert.ReferenceDmgIdeal.nD Cert.ReferenceDmgIdeal.τ).loc Cert.ReferenceDmgIdeal.main_arg5))).1 = (fun _ => 1#1)
    ∧ (Cert.Pre_finite_dmg.fn (F := Ideal) (m ((c.tc : Thread Cert.ReferenceDmgIdeal.nD Cert.ReferenceDmgIdeal.τ).loc Cert.ReferenceDmgIdeal.main_arg0)) (m ((c.tc : Thread Cert.ReferenceDmgIdeal.nD Cert.ReferenceDmgIdeal.τ).loc Cert.ReferenceDmgIdeal.main_arg1)) (m ((c.tc : Thread Cert.ReferenceDmgIdeal.nD Cert.ReferenceDmgIdeal.τ).loc Cert.ReferenceDmgIdeal.main_arg2)) (m ((c.tc : Thread Cert.ReferenceDmgIdeal.nD Cert.ReferenceDmgIdeal.τ).loc Cert.ReferenceDmgIdeal.main_arg3)) (m ((c.tc : Thread Cert.ReferenceDmgIdeal.nD Cert.ReferenceDmgIdeal.τ).loc Cert.ReferenceDmgIdeal.main_arg4)) (m ((c.tc : Thread Cert.ReferenceDmgIdeal.nD Cert.ReferenceDmgIdeal.τ).loc Cert.ReferenceDmgIdeal.main_arg5))).2.1 = (fun _ => 1#1)
    ∧ (Cert.Pre_finite_dmg.fn (F := Ideal) (m ((c.tc : Thread Cert.ReferenceDmgIdeal.nD Cert.ReferenceDmgIdeal.τ).loc Cert.ReferenceDmgIdeal.main_arg0)) (m ((c.tc : Thread Cert.ReferenceDmgIdeal.nD Cert.ReferenceDmgIdeal.τ).loc Cert.ReferenceDmgIdeal.main_arg1)) (m ((c.tc : Thread Cert.ReferenceDmgIdeal.nD Cert.ReferenceDmgIdeal.τ).loc Cert.ReferenceDmgIdeal.main_arg2)) (m ((c.tc : Thread Cert.ReferenceDmgIdeal.nD Cert.ReferenceDmgIdeal.τ).loc Cert.ReferenceDmgIdeal.main_arg3)) (m ((c.tc : Thread Cert.ReferenceDmgIdeal.nD Cert.ReferenceDmgIdeal.τ).loc Cert.ReferenceDmgIdeal.main_arg4)) (m ((c.tc : Thread Cert.ReferenceDmgIdeal.nD Cert.ReferenceDmgIdeal.τ).loc Cert.ReferenceDmgIdeal.main_arg5))).2.2.1 = (fun _ => 1#1)
    ∧ (Cert.Pre_finite_dmg.fn (F := Ideal) (m ((c.tc : Thread Cert.ReferenceDmgIdeal.nD Cert.ReferenceDmgIdeal.τ).loc Cert.ReferenceDmgIdeal.main_arg0)) (m ((c.tc : Thread Cert.ReferenceDmgIdeal.nD Cert.ReferenceDmgIdeal.τ).loc Cert.ReferenceDmgIdeal.main_arg1)) (m ((c.tc : Thread Cert.ReferenceDmgIdeal.nD Cert.ReferenceDmgIdeal.τ).loc Cert.ReferenceDmgIdeal.main_arg2)) (m ((c.tc : Thread Cert.ReferenceDmgIdeal.nD Cert.ReferenceDmgIdeal.τ).loc Cert.ReferenceDmgIdeal.main_arg3)) (m ((c.tc : Thread Cert.ReferenceDmgIdeal.nD Cert.ReferenceDmgIdeal.τ).loc Cert.ReferenceDmgIdeal.main_arg4)) (m ((c.tc : Thread Cert.ReferenceDmgIdeal.nD Cert.ReferenceDmgIdeal.τ).loc Cert.ReferenceDmgIdeal.main_arg5))).2.2.2.1 = (fun _ => 1#1)
    ∧ (Cert.Pre_finite_dmg.fn (F := Ideal) (m ((c.tc : Thread Cert.ReferenceDmgIdeal.nD Cert.ReferenceDmgIdeal.τ).loc Cert.ReferenceDmgIdeal.main_arg0)) (m ((c.tc : Thread Cert.ReferenceDmgIdeal.nD Cert.ReferenceDmgIdeal.τ).loc Cert.ReferenceDmgIdeal.main_arg1)) (m ((c.tc : Thread Cert.ReferenceDmgIdeal.nD Cert.ReferenceDmgIdeal.τ).loc Cert.ReferenceDmgIdeal.main_arg2)) (m ((c.tc : Thread Cert.ReferenceDmgIdeal.nD Cert.ReferenceDmgIdeal.τ).loc Cert.ReferenceDmgIdeal.main_arg3)) (m ((c.tc : Thread Cert.ReferenceDmgIdeal.nD Cert.ReferenceDmgIdeal.τ).loc Cert.ReferenceDmgIdeal.main_arg4)) (m ((c.tc : Thread Cert.ReferenceDmgIdeal.nD Cert.ReferenceDmgIdeal.τ).loc Cert.ReferenceDmgIdeal.main_arg5))).2.2.2.2.1 = (fun _ => 1#1)
    ∧ (Cert.Pre_finite_dmg.fn (F := Ideal) (m ((c.tc : Thread Cert.ReferenceDmgIdeal.nD Cert.ReferenceDmgIdeal.τ).loc Cert.ReferenceDmgIdeal.main_arg0)) (m ((c.tc : Thread Cert.ReferenceDmgIdeal.nD Cert.ReferenceDmgIdeal.τ).loc Cert.ReferenceDmgIdeal.main_arg1)) (m ((c.tc : Thread Cert.ReferenceDmgIdeal.nD Cert.ReferenceDmgIdeal.τ).loc Cert.ReferenceDmgIdeal.main_arg2)) (m ((c.tc : Thread Cert.ReferenceDmgIdeal.nD Cert.ReferenceDmgIdeal.τ).loc Cert.ReferenceDmgIdeal.main_arg3)) (m ((c.tc : Thread Cert.ReferenceDmgIdeal.nD Cert.ReferenceDmgIdeal.τ).loc Cert.ReferenceDmgIdeal.main_arg4)) (m ((c.tc : Thread Cert.ReferenceDmgIdeal.nD Cert.ReferenceDmgIdeal.τ).loc Cert.ReferenceDmgIdeal.main_arg5))).2.2.2.2.2 = (fun _ => 1#1)

def Pre_KernelPool (m : (ℓ : Loc Cert.KernelPool.nD Cert.KernelPool.τ Cert.KernelPool.sig) → Buf (Elt Bits) ℓ) : Prop :=
  True

def Pre_KernelPoolIdeal (m : (ℓ : Loc Cert.KernelPoolIdeal.nD Cert.KernelPoolIdeal.τ Cert.KernelPoolIdeal.sig) → Buf (Elt Ideal) ℓ) : Prop :=
  True

def Pre_KernelPoolIdeal_finite_pool [hPre_finite_pool : Cert.Pre_finite_pool.Facts] (m : (ℓ : Loc Cert.KernelPoolIdeal.nD Cert.KernelPoolIdeal.τ Cert.KernelPoolIdeal.sig) → Buf (Elt Ideal) ℓ) : Prop :=
  ∀ c : Dev Cert.KernelPoolIdeal.nD,
    (Cert.Pre_finite_pool.fn (F := Ideal) (m ((c.tc : Thread Cert.KernelPoolIdeal.nD Cert.KernelPoolIdeal.τ).loc Cert.KernelPoolIdeal.main_arg0)) (m ((c.tc : Thread Cert.KernelPoolIdeal.nD Cert.KernelPoolIdeal.τ).loc Cert.KernelPoolIdeal.main_arg1)) (m ((c.tc : Thread Cert.KernelPoolIdeal.nD Cert.KernelPoolIdeal.τ).loc Cert.KernelPoolIdeal.main_arg2)) (m ((c.tc : Thread Cert.KernelPoolIdeal.nD Cert.KernelPoolIdeal.τ).loc Cert.KernelPoolIdeal.main_arg3))).1 = (fun _ => 1#1)
    ∧ (Cert.Pre_finite_pool.fn (F := Ideal) (m ((c.tc : Thread Cert.KernelPoolIdeal.nD Cert.KernelPoolIdeal.τ).loc Cert.KernelPoolIdeal.main_arg0)) (m ((c.tc : Thread Cert.KernelPoolIdeal.nD Cert.KernelPoolIdeal.τ).loc Cert.KernelPoolIdeal.main_arg1)) (m ((c.tc : Thread Cert.KernelPoolIdeal.nD Cert.KernelPoolIdeal.τ).loc Cert.KernelPoolIdeal.main_arg2)) (m ((c.tc : Thread Cert.KernelPoolIdeal.nD Cert.KernelPoolIdeal.τ).loc Cert.KernelPoolIdeal.main_arg3))).2.1 = (fun _ => 1#1)
    ∧ (Cert.Pre_finite_pool.fn (F := Ideal) (m ((c.tc : Thread Cert.KernelPoolIdeal.nD Cert.KernelPoolIdeal.τ).loc Cert.KernelPoolIdeal.main_arg0)) (m ((c.tc : Thread Cert.KernelPoolIdeal.nD Cert.KernelPoolIdeal.τ).loc Cert.KernelPoolIdeal.main_arg1)) (m ((c.tc : Thread Cert.KernelPoolIdeal.nD Cert.KernelPoolIdeal.τ).loc Cert.KernelPoolIdeal.main_arg2)) (m ((c.tc : Thread Cert.KernelPoolIdeal.nD Cert.KernelPoolIdeal.τ).loc Cert.KernelPoolIdeal.main_arg3))).2.2.1 = (fun _ => 1#1)
    ∧ (Cert.Pre_finite_pool.fn (F := Ideal) (m ((c.tc : Thread Cert.KernelPoolIdeal.nD Cert.KernelPoolIdeal.τ).loc Cert.KernelPoolIdeal.main_arg0)) (m ((c.tc : Thread Cert.KernelPoolIdeal.nD Cert.KernelPoolIdeal.τ).loc Cert.KernelPoolIdeal.main_arg1)) (m ((c.tc : Thread Cert.KernelPoolIdeal.nD Cert.KernelPoolIdeal.τ).loc Cert.KernelPoolIdeal.main_arg2)) (m ((c.tc : Thread Cert.KernelPoolIdeal.nD Cert.KernelPoolIdeal.τ).loc Cert.KernelPoolIdeal.main_arg3))).2.2.2 = (fun _ => 1#1)

def Pre_ReferencePoolIdeal (m : (ℓ : Loc Cert.ReferencePoolIdeal.nD Cert.ReferencePoolIdeal.τ Cert.ReferencePoolIdeal.sig) → Buf (Elt Ideal) ℓ) : Prop :=
  True

def Pre_ReferencePoolIdeal_finite_pool [hPre_finite_pool : Cert.Pre_finite_pool.Facts] (m : (ℓ : Loc Cert.ReferencePoolIdeal.nD Cert.ReferencePoolIdeal.τ Cert.ReferencePoolIdeal.sig) → Buf (Elt Ideal) ℓ) : Prop :=
  ∀ c : Dev Cert.ReferencePoolIdeal.nD,
    (Cert.Pre_finite_pool.fn (F := Ideal) (m ((c.tc : Thread Cert.ReferencePoolIdeal.nD Cert.ReferencePoolIdeal.τ).loc Cert.ReferencePoolIdeal.main_arg0)) (m ((c.tc : Thread Cert.ReferencePoolIdeal.nD Cert.ReferencePoolIdeal.τ).loc Cert.ReferencePoolIdeal.main_arg1)) (m ((c.tc : Thread Cert.ReferencePoolIdeal.nD Cert.ReferencePoolIdeal.τ).loc Cert.ReferencePoolIdeal.main_arg2)) (m ((c.tc : Thread Cert.ReferencePoolIdeal.nD Cert.ReferencePoolIdeal.τ).loc Cert.ReferencePoolIdeal.main_arg3))).1 = (fun _ => 1#1)
    ∧ (Cert.Pre_finite_pool.fn (F := Ideal) (m ((c.tc : Thread Cert.ReferencePoolIdeal.nD Cert.ReferencePoolIdeal.τ).loc Cert.ReferencePoolIdeal.main_arg0)) (m ((c.tc : Thread Cert.ReferencePoolIdeal.nD Cert.ReferencePoolIdeal.τ).loc Cert.ReferencePoolIdeal.main_arg1)) (m ((c.tc : Thread Cert.ReferencePoolIdeal.nD Cert.ReferencePoolIdeal.τ).loc Cert.ReferencePoolIdeal.main_arg2)) (m ((c.tc : Thread Cert.ReferencePoolIdeal.nD Cert.ReferencePoolIdeal.τ).loc Cert.ReferencePoolIdeal.main_arg3))).2.1 = (fun _ => 1#1)
    ∧ (Cert.Pre_finite_pool.fn (F := Ideal) (m ((c.tc : Thread Cert.ReferencePoolIdeal.nD Cert.ReferencePoolIdeal.τ).loc Cert.ReferencePoolIdeal.main_arg0)) (m ((c.tc : Thread Cert.ReferencePoolIdeal.nD Cert.ReferencePoolIdeal.τ).loc Cert.ReferencePoolIdeal.main_arg1)) (m ((c.tc : Thread Cert.ReferencePoolIdeal.nD Cert.ReferencePoolIdeal.τ).loc Cert.ReferencePoolIdeal.main_arg2)) (m ((c.tc : Thread Cert.ReferencePoolIdeal.nD Cert.ReferencePoolIdeal.τ).loc Cert.ReferencePoolIdeal.main_arg3))).2.2.1 = (fun _ => 1#1)
    ∧ (Cert.Pre_finite_pool.fn (F := Ideal) (m ((c.tc : Thread Cert.ReferencePoolIdeal.nD Cert.ReferencePoolIdeal.τ).loc Cert.ReferencePoolIdeal.main_arg0)) (m ((c.tc : Thread Cert.ReferencePoolIdeal.nD Cert.ReferencePoolIdeal.τ).loc Cert.ReferencePoolIdeal.main_arg1)) (m ((c.tc : Thread Cert.ReferencePoolIdeal.nD Cert.ReferencePoolIdeal.τ).loc Cert.ReferencePoolIdeal.main_arg2)) (m ((c.tc : Thread Cert.ReferencePoolIdeal.nD Cert.ReferencePoolIdeal.τ).loc Cert.ReferencePoolIdeal.main_arg3))).2.2.2 = (fun _ => 1#1)

def Pre_KernelSwa (m : (ℓ : Loc Cert.KernelSwa.nD Cert.KernelSwa.τ Cert.KernelSwa.sig) → Buf (Elt Bits) ℓ) : Prop :=
  True

def Pre_KernelSwaIdeal (m : (ℓ : Loc Cert.KernelSwaIdeal.nD Cert.KernelSwaIdeal.τ Cert.KernelSwaIdeal.sig) → Buf (Elt Ideal) ℓ) : Prop :=
  True

def Pre_KernelSwaIdeal_finite_swa [hPre_finite_swa : Cert.Pre_finite_swa.Facts] (m : (ℓ : Loc Cert.KernelSwaIdeal.nD Cert.KernelSwaIdeal.τ Cert.KernelSwaIdeal.sig) → Buf (Elt Ideal) ℓ) : Prop :=
  ∀ c : Dev Cert.KernelSwaIdeal.nD,
    (Cert.Pre_finite_swa.fn (F := Ideal) (m ((c.tc : Thread Cert.KernelSwaIdeal.nD Cert.KernelSwaIdeal.τ).loc Cert.KernelSwaIdeal.main_arg0)) (m ((c.tc : Thread Cert.KernelSwaIdeal.nD Cert.KernelSwaIdeal.τ).loc Cert.KernelSwaIdeal.main_arg1)) (m ((c.tc : Thread Cert.KernelSwaIdeal.nD Cert.KernelSwaIdeal.τ).loc Cert.KernelSwaIdeal.main_arg2)) (m ((c.tc : Thread Cert.KernelSwaIdeal.nD Cert.KernelSwaIdeal.τ).loc Cert.KernelSwaIdeal.main_arg3)) (m ((c.tc : Thread Cert.KernelSwaIdeal.nD Cert.KernelSwaIdeal.τ).loc Cert.KernelSwaIdeal.main_arg4))).1 = (fun _ => 1#1)
    ∧ (Cert.Pre_finite_swa.fn (F := Ideal) (m ((c.tc : Thread Cert.KernelSwaIdeal.nD Cert.KernelSwaIdeal.τ).loc Cert.KernelSwaIdeal.main_arg0)) (m ((c.tc : Thread Cert.KernelSwaIdeal.nD Cert.KernelSwaIdeal.τ).loc Cert.KernelSwaIdeal.main_arg1)) (m ((c.tc : Thread Cert.KernelSwaIdeal.nD Cert.KernelSwaIdeal.τ).loc Cert.KernelSwaIdeal.main_arg2)) (m ((c.tc : Thread Cert.KernelSwaIdeal.nD Cert.KernelSwaIdeal.τ).loc Cert.KernelSwaIdeal.main_arg3)) (m ((c.tc : Thread Cert.KernelSwaIdeal.nD Cert.KernelSwaIdeal.τ).loc Cert.KernelSwaIdeal.main_arg4))).2.1 = (fun _ => 1#1)
    ∧ (Cert.Pre_finite_swa.fn (F := Ideal) (m ((c.tc : Thread Cert.KernelSwaIdeal.nD Cert.KernelSwaIdeal.τ).loc Cert.KernelSwaIdeal.main_arg0)) (m ((c.tc : Thread Cert.KernelSwaIdeal.nD Cert.KernelSwaIdeal.τ).loc Cert.KernelSwaIdeal.main_arg1)) (m ((c.tc : Thread Cert.KernelSwaIdeal.nD Cert.KernelSwaIdeal.τ).loc Cert.KernelSwaIdeal.main_arg2)) (m ((c.tc : Thread Cert.KernelSwaIdeal.nD Cert.KernelSwaIdeal.τ).loc Cert.KernelSwaIdeal.main_arg3)) (m ((c.tc : Thread Cert.KernelSwaIdeal.nD Cert.KernelSwaIdeal.τ).loc Cert.KernelSwaIdeal.main_arg4))).2.2 = (fun _ => 1#1)

def Pre_ReferenceSwaIdeal (m : (ℓ : Loc Cert.ReferenceSwaIdeal.nD Cert.ReferenceSwaIdeal.τ Cert.ReferenceSwaIdeal.sig) → Buf (Elt Ideal) ℓ) : Prop :=
  True

def Pre_ReferenceSwaIdeal_finite_swa [hPre_finite_swa : Cert.Pre_finite_swa.Facts] (m : (ℓ : Loc Cert.ReferenceSwaIdeal.nD Cert.ReferenceSwaIdeal.τ Cert.ReferenceSwaIdeal.sig) → Buf (Elt Ideal) ℓ) : Prop :=
  ∀ c : Dev Cert.ReferenceSwaIdeal.nD,
    (Cert.Pre_finite_swa.fn (F := Ideal) (m ((c.tc : Thread Cert.ReferenceSwaIdeal.nD Cert.ReferenceSwaIdeal.τ).loc Cert.ReferenceSwaIdeal.main_arg0)) (m ((c.tc : Thread Cert.ReferenceSwaIdeal.nD Cert.ReferenceSwaIdeal.τ).loc Cert.ReferenceSwaIdeal.main_arg1)) (m ((c.tc : Thread Cert.ReferenceSwaIdeal.nD Cert.ReferenceSwaIdeal.τ).loc Cert.ReferenceSwaIdeal.main_arg2)) (m ((c.tc : Thread Cert.ReferenceSwaIdeal.nD Cert.ReferenceSwaIdeal.τ).loc Cert.ReferenceSwaIdeal.main_arg3)) (m ((c.tc : Thread Cert.ReferenceSwaIdeal.nD Cert.ReferenceSwaIdeal.τ).loc Cert.ReferenceSwaIdeal.main_arg4))).1 = (fun _ => 1#1)
    ∧ (Cert.Pre_finite_swa.fn (F := Ideal) (m ((c.tc : Thread Cert.ReferenceSwaIdeal.nD Cert.ReferenceSwaIdeal.τ).loc Cert.ReferenceSwaIdeal.main_arg0)) (m ((c.tc : Thread Cert.ReferenceSwaIdeal.nD Cert.ReferenceSwaIdeal.τ).loc Cert.ReferenceSwaIdeal.main_arg1)) (m ((c.tc : Thread Cert.ReferenceSwaIdeal.nD Cert.ReferenceSwaIdeal.τ).loc Cert.ReferenceSwaIdeal.main_arg2)) (m ((c.tc : Thread Cert.ReferenceSwaIdeal.nD Cert.ReferenceSwaIdeal.τ).loc Cert.ReferenceSwaIdeal.main_arg3)) (m ((c.tc : Thread Cert.ReferenceSwaIdeal.nD Cert.ReferenceSwaIdeal.τ).loc Cert.ReferenceSwaIdeal.main_arg4))).2.1 = (fun _ => 1#1)
    ∧ (Cert.Pre_finite_swa.fn (F := Ideal) (m ((c.tc : Thread Cert.ReferenceSwaIdeal.nD Cert.ReferenceSwaIdeal.τ).loc Cert.ReferenceSwaIdeal.main_arg0)) (m ((c.tc : Thread Cert.ReferenceSwaIdeal.nD Cert.ReferenceSwaIdeal.τ).loc Cert.ReferenceSwaIdeal.main_arg1)) (m ((c.tc : Thread Cert.ReferenceSwaIdeal.nD Cert.ReferenceSwaIdeal.τ).loc Cert.ReferenceSwaIdeal.main_arg2)) (m ((c.tc : Thread Cert.ReferenceSwaIdeal.nD Cert.ReferenceSwaIdeal.τ).loc Cert.ReferenceSwaIdeal.main_arg3)) (m ((c.tc : Thread Cert.ReferenceSwaIdeal.nD Cert.ReferenceSwaIdeal.τ).loc Cert.ReferenceSwaIdeal.main_arg4))).2.2 = (fun _ => 1#1)

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelXattnF (m : (ℓ : Loc Cert.KernelXattnF.nD Cert.KernelXattnF.τ Cert.KernelXattnF.sig) → Buf (Elt Bits) ℓ) : Prop :=
  True

def Pre_KernelXattnFIdeal (m : (ℓ : Loc Cert.KernelXattnFIdeal.nD Cert.KernelXattnFIdeal.τ Cert.KernelXattnFIdeal.sig) → Buf (Elt Ideal) ℓ) : Prop :=
  True

def Pre_ReferenceXattnFIdeal (m : (ℓ : Loc Cert.ReferenceXattnFIdeal.nD Cert.ReferenceXattnFIdeal.τ Cert.ReferenceXattnFIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelRmsF (m : (ℓ : Loc Cert.KernelRmsF.nD Cert.KernelRmsF.τ Cert.KernelRmsF.sig) → Buf (Elt Bits) ℓ) : Prop :=
  True

def Pre_KernelRmsFIdeal (m : (ℓ : Loc Cert.KernelRmsFIdeal.nD Cert.KernelRmsFIdeal.τ Cert.KernelRmsFIdeal.sig) → Buf (Elt Ideal) ℓ) : Prop :=
  True

def Pre_ReferenceRmsFIdeal (m : (ℓ : Loc Cert.ReferenceRmsFIdeal.nD Cert.ReferenceRmsFIdeal.τ Cert.ReferenceRmsFIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def quiescent_KernelXattn [hKernelXattn : Cert.KernelXattn.Facts] : Prop :=
  ∀ (m : (ℓ : Loc Cert.KernelXattn.nD Cert.KernelXattn.τ Cert.KernelXattn.sig) → Buf (Elt Bits) ℓ) (g : Dev Cert.KernelXattn.nD → PrngReg), Pre_KernelXattn m →
    θ_run (Cert.KernelXattn.defs (F := Bits)) (onTc (τ := Cert.KernelXattn.τ) (Cert.KernelXattn.main (F := Bits))) ⟨m, fun _ => 0, g⟩ (fun r => (∀ c : Dev Cert.KernelXattn.nD,
      r.2.mem ((c.tc : Thread Cert.KernelXattn.nD Cert.KernelXattn.τ).loc Cert.KernelXattn.main_arg0) = m ((c.tc : Thread Cert.KernelXattn.nD Cert.KernelXattn.τ).loc Cert.KernelXattn.main_arg0)
      ∧ r.2.mem ((c.tc : Thread Cert.KernelXattn.nD Cert.KernelXattn.τ).loc Cert.KernelXattn.main_arg1) = m ((c.tc : Thread Cert.KernelXattn.nD Cert.KernelXattn.τ).loc Cert.KernelXattn.main_arg1)
      ∧ r.2.mem ((c.tc : Thread Cert.KernelXattn.nD Cert.KernelXattn.τ).loc Cert.KernelXattn.main_arg2) = m ((c.tc : Thread Cert.KernelXattn.nD Cert.KernelXattn.τ).loc Cert.KernelXattn.main_arg2))
      ∧ r.2.sem = fun _ => 0)

def quiescent_KernelXattnIdeal [hKernelXattnIdeal : Cert.KernelXattnIdeal.Facts] : Prop :=
  ∀ (m : (ℓ : Loc Cert.KernelXattnIdeal.nD Cert.KernelXattnIdeal.τ Cert.KernelXattnIdeal.sig) → Buf (Elt Ideal) ℓ) (g : Dev Cert.KernelXattnIdeal.nD → PrngReg), Pre_KernelXattnIdeal m →
    θ_run (Cert.KernelXattnIdeal.defs (F := Ideal)) (onTc (τ := Cert.KernelXattnIdeal.τ) (Cert.KernelXattnIdeal.main (F := Ideal))) ⟨m, fun _ => 0, g⟩ (fun r => (∀ c : Dev Cert.KernelXattnIdeal.nD,
      r.2.mem ((c.tc : Thread Cert.KernelXattnIdeal.nD Cert.KernelXattnIdeal.τ).loc Cert.KernelXattnIdeal.main_arg0) = m ((c.tc : Thread Cert.KernelXattnIdeal.nD Cert.KernelXattnIdeal.τ).loc Cert.KernelXattnIdeal.main_arg0)
      ∧ r.2.mem ((c.tc : Thread Cert.KernelXattnIdeal.nD Cert.KernelXattnIdeal.τ).loc Cert.KernelXattnIdeal.main_arg1) = m ((c.tc : Thread Cert.KernelXattnIdeal.nD Cert.KernelXattnIdeal.τ).loc Cert.KernelXattnIdeal.main_arg1)
      ∧ r.2.mem ((c.tc : Thread Cert.KernelXattnIdeal.nD Cert.KernelXattnIdeal.τ).loc Cert.KernelXattnIdeal.main_arg2) = m ((c.tc : Thread Cert.KernelXattnIdeal.nD Cert.KernelXattnIdeal.τ).loc Cert.KernelXattnIdeal.main_arg2))
      ∧ r.2.sem = fun _ => 0)

def quiescent_KernelXattnIdeal_pre_finite_xattn [hKernelXattnIdeal : Cert.KernelXattnIdeal.Facts] [hPre_finite_xattn : Cert.Pre_finite_xattn.Facts] : Prop :=
  ∀ (m : (ℓ : Loc Cert.KernelXattnIdeal.nD Cert.KernelXattnIdeal.τ Cert.KernelXattnIdeal.sig) → Buf (Elt Ideal) ℓ) (g : Dev Cert.KernelXattnIdeal.nD → PrngReg), Pre_KernelXattnIdeal_finite_xattn m →
    θ_run (Cert.KernelXattnIdeal.defs (F := Ideal)) (onTc (τ := Cert.KernelXattnIdeal.τ) (Cert.KernelXattnIdeal.main (F := Ideal))) ⟨m, fun _ => 0, g⟩ (fun r => (∀ c : Dev Cert.KernelXattnIdeal.nD,
      r.2.mem ((c.tc : Thread Cert.KernelXattnIdeal.nD Cert.KernelXattnIdeal.τ).loc Cert.KernelXattnIdeal.main_arg0) = m ((c.tc : Thread Cert.KernelXattnIdeal.nD Cert.KernelXattnIdeal.τ).loc Cert.KernelXattnIdeal.main_arg0)
      ∧ r.2.mem ((c.tc : Thread Cert.KernelXattnIdeal.nD Cert.KernelXattnIdeal.τ).loc Cert.KernelXattnIdeal.main_arg1) = m ((c.tc : Thread Cert.KernelXattnIdeal.nD Cert.KernelXattnIdeal.τ).loc Cert.KernelXattnIdeal.main_arg1)
      ∧ r.2.mem ((c.tc : Thread Cert.KernelXattnIdeal.nD Cert.KernelXattnIdeal.τ).loc Cert.KernelXattnIdeal.main_arg2) = m ((c.tc : Thread Cert.KernelXattnIdeal.nD Cert.KernelXattnIdeal.τ).loc Cert.KernelXattnIdeal.main_arg2))
      ∧ r.2.sem = fun _ => 0)

def quiescent_ReferenceXattnIdeal [hReferenceXattnIdeal : Cert.ReferenceXattnIdeal.Facts] : Prop :=
  ∀ (m : (ℓ : Loc Cert.ReferenceXattnIdeal.nD Cert.ReferenceXattnIdeal.τ Cert.ReferenceXattnIdeal.sig) → Buf (Elt Ideal) ℓ) (g : Dev Cert.ReferenceXattnIdeal.nD → PrngReg), Pre_ReferenceXattnIdeal m →
    θ_run (Cert.ReferenceXattnIdeal.defs (F := Ideal)) (onTc (τ := Cert.ReferenceXattnIdeal.τ) (Cert.ReferenceXattnIdeal.main (F := Ideal))) ⟨m, fun _ => 0, g⟩ (fun r => (∀ c : Dev Cert.ReferenceXattnIdeal.nD,
      r.2.mem ((c.tc : Thread Cert.ReferenceXattnIdeal.nD Cert.ReferenceXattnIdeal.τ).loc Cert.ReferenceXattnIdeal.main_arg0) = m ((c.tc : Thread Cert.ReferenceXattnIdeal.nD Cert.ReferenceXattnIdeal.τ).loc Cert.ReferenceXattnIdeal.main_arg0)
      ∧ r.2.mem ((c.tc : Thread Cert.ReferenceXattnIdeal.nD Cert.ReferenceXattnIdeal.τ).loc Cert.ReferenceXattnIdeal.main_arg1) = m ((c.tc : Thread Cert.ReferenceXattnIdeal.nD Cert.ReferenceXattnIdeal.τ).loc Cert.ReferenceXattnIdeal.main_arg1)
      ∧ r.2.mem ((c.tc : Thread Cert.ReferenceXattnIdeal.nD Cert.ReferenceXattnIdeal.τ).loc Cert.ReferenceXattnIdeal.main_arg2) = m ((c.tc : Thread Cert.ReferenceXattnIdeal.nD Cert.ReferenceXattnIdeal.τ).loc Cert.ReferenceXattnIdeal.main_arg2))
      ∧ r.2.sem = fun _ => 0)

def quiescent_ReferenceXattnIdeal_pre_finite_xattn [hReferenceXattnIdeal : Cert.ReferenceXattnIdeal.Facts] [hPre_finite_xattn : Cert.Pre_finite_xattn.Facts] : Prop :=
  ∀ (m : (ℓ : Loc Cert.ReferenceXattnIdeal.nD Cert.ReferenceXattnIdeal.τ Cert.ReferenceXattnIdeal.sig) → Buf (Elt Ideal) ℓ) (g : Dev Cert.ReferenceXattnIdeal.nD → PrngReg), Pre_ReferenceXattnIdeal_finite_xattn m →
    θ_run (Cert.ReferenceXattnIdeal.defs (F := Ideal)) (onTc (τ := Cert.ReferenceXattnIdeal.τ) (Cert.ReferenceXattnIdeal.main (F := Ideal))) ⟨m, fun _ => 0, g⟩ (fun r => (∀ c : Dev Cert.ReferenceXattnIdeal.nD,
      r.2.mem ((c.tc : Thread Cert.ReferenceXattnIdeal.nD Cert.ReferenceXattnIdeal.τ).loc Cert.ReferenceXattnIdeal.main_arg0) = m ((c.tc : Thread Cert.ReferenceXattnIdeal.nD Cert.ReferenceXattnIdeal.τ).loc Cert.ReferenceXattnIdeal.main_arg0)
      ∧ r.2.mem ((c.tc : Thread Cert.ReferenceXattnIdeal.nD Cert.ReferenceXattnIdeal.τ).loc Cert.ReferenceXattnIdeal.main_arg1) = m ((c.tc : Thread Cert.ReferenceXattnIdeal.nD Cert.ReferenceXattnIdeal.τ).loc Cert.ReferenceXattnIdeal.main_arg1)
      ∧ r.2.mem ((c.tc : Thread Cert.ReferenceXattnIdeal.nD Cert.ReferenceXattnIdeal.τ).loc Cert.ReferenceXattnIdeal.main_arg2) = m ((c.tc : Thread Cert.ReferenceXattnIdeal.nD Cert.ReferenceXattnIdeal.τ).loc Cert.ReferenceXattnIdeal.main_arg2))
      ∧ r.2.sem = fun _ => 0)

def quiescent_KernelRms [hKernelRms : Cert.KernelRms.Facts] : Prop :=
  ∀ (m : (ℓ : Loc Cert.KernelRms.nD Cert.KernelRms.τ Cert.KernelRms.sig) → Buf (Elt Bits) ℓ) (g : Dev Cert.KernelRms.nD → PrngReg), Pre_KernelRms m →
    θ_run (Cert.KernelRms.defs (F := Bits)) (onTc (τ := Cert.KernelRms.τ) (Cert.KernelRms.main (F := Bits))) ⟨m, fun _ => 0, g⟩ (fun r => (∀ c : Dev Cert.KernelRms.nD,
      r.2.mem ((c.tc : Thread Cert.KernelRms.nD Cert.KernelRms.τ).loc Cert.KernelRms.main_arg0) = m ((c.tc : Thread Cert.KernelRms.nD Cert.KernelRms.τ).loc Cert.KernelRms.main_arg0)
      ∧ r.2.mem ((c.tc : Thread Cert.KernelRms.nD Cert.KernelRms.τ).loc Cert.KernelRms.main_arg1) = m ((c.tc : Thread Cert.KernelRms.nD Cert.KernelRms.τ).loc Cert.KernelRms.main_arg1)
      ∧ r.2.mem ((c.tc : Thread Cert.KernelRms.nD Cert.KernelRms.τ).loc Cert.KernelRms.main_arg2) = m ((c.tc : Thread Cert.KernelRms.nD Cert.KernelRms.τ).loc Cert.KernelRms.main_arg2))
      ∧ r.2.sem = fun _ => 0)

def quiescent_KernelRmsIdeal [hKernelRmsIdeal : Cert.KernelRmsIdeal.Facts] : Prop :=
  ∀ (m : (ℓ : Loc Cert.KernelRmsIdeal.nD Cert.KernelRmsIdeal.τ Cert.KernelRmsIdeal.sig) → Buf (Elt Ideal) ℓ) (g : Dev Cert.KernelRmsIdeal.nD → PrngReg), Pre_KernelRmsIdeal m →
    θ_run (Cert.KernelRmsIdeal.defs (F := Ideal)) (onTc (τ := Cert.KernelRmsIdeal.τ) (Cert.KernelRmsIdeal.main (F := Ideal))) ⟨m, fun _ => 0, g⟩ (fun r => (∀ c : Dev Cert.KernelRmsIdeal.nD,
      r.2.mem ((c.tc : Thread Cert.KernelRmsIdeal.nD Cert.KernelRmsIdeal.τ).loc Cert.KernelRmsIdeal.main_arg0) = m ((c.tc : Thread Cert.KernelRmsIdeal.nD Cert.KernelRmsIdeal.τ).loc Cert.KernelRmsIdeal.main_arg0)
      ∧ r.2.mem ((c.tc : Thread Cert.KernelRmsIdeal.nD Cert.KernelRmsIdeal.τ).loc Cert.KernelRmsIdeal.main_arg1) = m ((c.tc : Thread Cert.KernelRmsIdeal.nD Cert.KernelRmsIdeal.τ).loc Cert.KernelRmsIdeal.main_arg1)
      ∧ r.2.mem ((c.tc : Thread Cert.KernelRmsIdeal.nD Cert.KernelRmsIdeal.τ).loc Cert.KernelRmsIdeal.main_arg2) = m ((c.tc : Thread Cert.KernelRmsIdeal.nD Cert.KernelRmsIdeal.τ).loc Cert.KernelRmsIdeal.main_arg2))
      ∧ r.2.sem = fun _ => 0)

def quiescent_KernelRmsIdeal_pre_finite_rms [hKernelRmsIdeal : Cert.KernelRmsIdeal.Facts] [hPre_finite_rms : Cert.Pre_finite_rms.Facts] : Prop :=
  ∀ (m : (ℓ : Loc Cert.KernelRmsIdeal.nD Cert.KernelRmsIdeal.τ Cert.KernelRmsIdeal.sig) → Buf (Elt Ideal) ℓ) (g : Dev Cert.KernelRmsIdeal.nD → PrngReg), Pre_KernelRmsIdeal_finite_rms m →
    θ_run (Cert.KernelRmsIdeal.defs (F := Ideal)) (onTc (τ := Cert.KernelRmsIdeal.τ) (Cert.KernelRmsIdeal.main (F := Ideal))) ⟨m, fun _ => 0, g⟩ (fun r => (∀ c : Dev Cert.KernelRmsIdeal.nD,
      r.2.mem ((c.tc : Thread Cert.KernelRmsIdeal.nD Cert.KernelRmsIdeal.τ).loc Cert.KernelRmsIdeal.main_arg0) = m ((c.tc : Thread Cert.KernelRmsIdeal.nD Cert.KernelRmsIdeal.τ).loc Cert.KernelRmsIdeal.main_arg0)
      ∧ r.2.mem ((c.tc : Thread Cert.KernelRmsIdeal.nD Cert.KernelRmsIdeal.τ).loc Cert.KernelRmsIdeal.main_arg1) = m ((c.tc : Thread Cert.KernelRmsIdeal.nD Cert.KernelRmsIdeal.τ).loc Cert.KernelRmsIdeal.main_arg1)
      ∧ r.2.mem ((c.tc : Thread Cert.KernelRmsIdeal.nD Cert.KernelRmsIdeal.τ).loc Cert.KernelRmsIdeal.main_arg2) = m ((c.tc : Thread Cert.KernelRmsIdeal.nD Cert.KernelRmsIdeal.τ).loc Cert.KernelRmsIdeal.main_arg2))
      ∧ r.2.sem = fun _ => 0)

def quiescent_ReferenceRmsIdeal [hReferenceRmsIdeal : Cert.ReferenceRmsIdeal.Facts] : Prop :=
  ∀ (m : (ℓ : Loc Cert.ReferenceRmsIdeal.nD Cert.ReferenceRmsIdeal.τ Cert.ReferenceRmsIdeal.sig) → Buf (Elt Ideal) ℓ) (g : Dev Cert.ReferenceRmsIdeal.nD → PrngReg), Pre_ReferenceRmsIdeal m →
    θ_run (Cert.ReferenceRmsIdeal.defs (F := Ideal)) (onTc (τ := Cert.ReferenceRmsIdeal.τ) (Cert.ReferenceRmsIdeal.main (F := Ideal))) ⟨m, fun _ => 0, g⟩ (fun r => (∀ c : Dev Cert.ReferenceRmsIdeal.nD,
      r.2.mem ((c.tc : Thread Cert.ReferenceRmsIdeal.nD Cert.ReferenceRmsIdeal.τ).loc Cert.ReferenceRmsIdeal.main_arg0) = m ((c.tc : Thread Cert.ReferenceRmsIdeal.nD Cert.ReferenceRmsIdeal.τ).loc Cert.ReferenceRmsIdeal.main_arg0)
      ∧ r.2.mem ((c.tc : Thread Cert.ReferenceRmsIdeal.nD Cert.ReferenceRmsIdeal.τ).loc Cert.ReferenceRmsIdeal.main_arg1) = m ((c.tc : Thread Cert.ReferenceRmsIdeal.nD Cert.ReferenceRmsIdeal.τ).loc Cert.ReferenceRmsIdeal.main_arg1)
      ∧ r.2.mem ((c.tc : Thread Cert.ReferenceRmsIdeal.nD Cert.ReferenceRmsIdeal.τ).loc Cert.ReferenceRmsIdeal.main_arg2) = m ((c.tc : Thread Cert.ReferenceRmsIdeal.nD Cert.ReferenceRmsIdeal.τ).loc Cert.ReferenceRmsIdeal.main_arg2))
      ∧ r.2.sem = fun _ => 0)

def quiescent_ReferenceRmsIdeal_pre_finite_rms [hReferenceRmsIdeal : Cert.ReferenceRmsIdeal.Facts] [hPre_finite_rms : Cert.Pre_finite_rms.Facts] : Prop :=
  ∀ (m : (ℓ : Loc Cert.ReferenceRmsIdeal.nD Cert.ReferenceRmsIdeal.τ Cert.ReferenceRmsIdeal.sig) → Buf (Elt Ideal) ℓ) (g : Dev Cert.ReferenceRmsIdeal.nD → PrngReg), Pre_ReferenceRmsIdeal_finite_rms m →
    θ_run (Cert.ReferenceRmsIdeal.defs (F := Ideal)) (onTc (τ := Cert.ReferenceRmsIdeal.τ) (Cert.ReferenceRmsIdeal.main (F := Ideal))) ⟨m, fun _ => 0, g⟩ (fun r => (∀ c : Dev Cert.ReferenceRmsIdeal.nD,
      r.2.mem ((c.tc : Thread Cert.ReferenceRmsIdeal.nD Cert.ReferenceRmsIdeal.τ).loc Cert.ReferenceRmsIdeal.main_arg0) = m ((c.tc : Thread Cert.ReferenceRmsIdeal.nD Cert.ReferenceRmsIdeal.τ).loc Cert.ReferenceRmsIdeal.main_arg0)
      ∧ r.2.mem ((c.tc : Thread Cert.ReferenceRmsIdeal.nD Cert.ReferenceRmsIdeal.τ).loc Cert.ReferenceRmsIdeal.main_arg1) = m ((c.tc : Thread Cert.ReferenceRmsIdeal.nD Cert.ReferenceRmsIdeal.τ).loc Cert.ReferenceRmsIdeal.main_arg1)
      ∧ r.2.mem ((c.tc : Thread Cert.ReferenceRmsIdeal.nD Cert.ReferenceRmsIdeal.τ).loc Cert.ReferenceRmsIdeal.main_arg2) = m ((c.tc : Thread Cert.ReferenceRmsIdeal.nD Cert.ReferenceRmsIdeal.τ).loc Cert.ReferenceRmsIdeal.main_arg2))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ r.2.sem = fun _ => 0)

def quiescent_KernelLossIdeal_pre_finite_loss [hKernelLossIdeal : Cert.KernelLossIdeal.Facts] [hPre_finite_loss : Cert.Pre_finite_loss.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal_finite_loss m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2))
      ∧ r.2.sem = fun _ => 0)

def quiescent_ReferenceLossIdeal_pre_finite_loss [hReferenceLossIdeal : Cert.ReferenceLossIdeal.Facts] [hPre_finite_loss : Cert.Pre_finite_loss.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal_finite_loss m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2))
      ∧ r.2.sem = fun _ => 0)

def quiescent_KernelMid [hKernelMid : Cert.KernelMid.Facts] : Prop :=
  ∀ (m : (ℓ : Loc Cert.KernelMid.nD Cert.KernelMid.τ Cert.KernelMid.sig) → Buf (Elt Bits) ℓ) (g : Dev Cert.KernelMid.nD → PrngReg), Pre_KernelMid m →
    θ_run (Cert.KernelMid.defs (F := Bits)) (onTc (τ := Cert.KernelMid.τ) (Cert.KernelMid.main (F := Bits))) ⟨m, fun _ => 0, g⟩ (fun r => (∀ c : Dev Cert.KernelMid.nD,
      r.2.mem ((c.tc : Thread Cert.KernelMid.nD Cert.KernelMid.τ).loc Cert.KernelMid.main_arg0) = m ((c.tc : Thread Cert.KernelMid.nD Cert.KernelMid.τ).loc Cert.KernelMid.main_arg0)
      ∧ r.2.mem ((c.tc : Thread Cert.KernelMid.nD Cert.KernelMid.τ).loc Cert.KernelMid.main_arg1) = m ((c.tc : Thread Cert.KernelMid.nD Cert.KernelMid.τ).loc Cert.KernelMid.main_arg1)
      ∧ r.2.mem ((c.tc : Thread Cert.KernelMid.nD Cert.KernelMid.τ).loc Cert.KernelMid.main_arg2) = m ((c.tc : Thread Cert.KernelMid.nD Cert.KernelMid.τ).loc Cert.KernelMid.main_arg2)
      ∧ r.2.mem ((c.tc : Thread Cert.KernelMid.nD Cert.KernelMid.τ).loc Cert.KernelMid.main_arg3) = m ((c.tc : Thread Cert.KernelMid.nD Cert.KernelMid.τ).loc Cert.KernelMid.main_arg3))
      ∧ r.2.sem = fun _ => 0)

def quiescent_KernelMidIdeal [hKernelMidIdeal : Cert.KernelMidIdeal.Facts] : Prop :=
  ∀ (m : (ℓ : Loc Cert.KernelMidIdeal.nD Cert.KernelMidIdeal.τ Cert.KernelMidIdeal.sig) → Buf (Elt Ideal) ℓ) (g : Dev Cert.KernelMidIdeal.nD → PrngReg), Pre_KernelMidIdeal m →
    θ_run (Cert.KernelMidIdeal.defs (F := Ideal)) (onTc (τ := Cert.KernelMidIdeal.τ) (Cert.KernelMidIdeal.main (F := Ideal))) ⟨m, fun _ => 0, g⟩ (fun r => (∀ c : Dev Cert.KernelMidIdeal.nD,
      r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
      ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
      ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
      ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3))
      ∧ r.2.sem = fun _ => 0)

def quiescent_KernelMidIdeal_pre_finite_mid [hKernelMidIdeal : Cert.KernelMidIdeal.Facts] [hPre_finite_mid : Cert.Pre_finite_mid.Facts] : Prop :=
  ∀ (m : (ℓ : Loc Cert.KernelMidIdeal.nD Cert.KernelMidIdeal.τ Cert.KernelMidIdeal.sig) → Buf (Elt Ideal) ℓ) (g : Dev Cert.KernelMidIdeal.nD → PrngReg), Pre_KernelMidIdeal_finite_mid m →
    θ_run (Cert.KernelMidIdeal.defs (F := Ideal)) (onTc (τ := Cert.KernelMidIdeal.τ) (Cert.KernelMidIdeal.main (F := Ideal))) ⟨m, fun _ => 0, g⟩ (fun r => (∀ c : Dev Cert.KernelMidIdeal.nD,
      r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
      ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
      ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
      ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3))
      ∧ r.2.sem = fun _ => 0)

def quiescent_ReferenceMidIdeal [hReferenceMidIdeal : Cert.ReferenceMidIdeal.Facts] : Prop :=
  ∀ (m : (ℓ : Loc Cert.ReferenceMidIdeal.nD Cert.ReferenceMidIdeal.τ Cert.ReferenceMidIdeal.sig) → Buf (Elt Ideal) ℓ) (g : Dev Cert.ReferenceMidIdeal.nD → PrngReg), Pre_ReferenceMidIdeal m →
    θ_run (Cert.ReferenceMidIdeal.defs (F := Ideal)) (onTc (τ := Cert.ReferenceMidIdeal.τ) (Cert.ReferenceMidIdeal.main (F := Ideal))) ⟨m, fun _ => 0, g⟩ (fun r => (∀ c : Dev Cert.ReferenceMidIdeal.nD,
      r.2.mem ((c.tc : Thread Cert.ReferenceMidIdeal.nD Cert.ReferenceMidIdeal.τ).loc Cert.ReferenceMidIdeal.main_arg0) = m ((c.tc : Thread Cert.ReferenceMidIdeal.nD Cert.ReferenceMidIdeal.τ).loc Cert.ReferenceMidIdeal.main_arg0)
      ∧ r.2.mem ((c.tc : Thread Cert.ReferenceMidIdeal.nD Cert.ReferenceMidIdeal.τ).loc Cert.ReferenceMidIdeal.main_arg1) = m ((c.tc : Thread Cert.ReferenceMidIdeal.nD Cert.ReferenceMidIdeal.τ).loc Cert.ReferenceMidIdeal.main_arg1)
      ∧ r.2.mem ((c.tc : Thread Cert.ReferenceMidIdeal.nD Cert.ReferenceMidIdeal.τ).loc Cert.ReferenceMidIdeal.main_arg2) = m ((c.tc : Thread Cert.ReferenceMidIdeal.nD Cert.ReferenceMidIdeal.τ).loc Cert.ReferenceMidIdeal.main_arg2)
      ∧ r.2.mem ((c.tc : Thread Cert.ReferenceMidIdeal.nD Cert.ReferenceMidIdeal.τ).loc Cert.ReferenceMidIdeal.main_arg3) = m ((c.tc : Thread Cert.ReferenceMidIdeal.nD Cert.ReferenceMidIdeal.τ).loc Cert.ReferenceMidIdeal.main_arg3))
      ∧ r.2.sem = fun _ => 0)

def quiescent_ReferenceMidIdeal_pre_finite_mid [hReferenceMidIdeal : Cert.ReferenceMidIdeal.Facts] [hPre_finite_mid : Cert.Pre_finite_mid.Facts] : Prop :=
  ∀ (m : (ℓ : Loc Cert.ReferenceMidIdeal.nD Cert.ReferenceMidIdeal.τ Cert.ReferenceMidIdeal.sig) → Buf (Elt Ideal) ℓ) (g : Dev Cert.ReferenceMidIdeal.nD → PrngReg), Pre_ReferenceMidIdeal_finite_mid m →
    θ_run (Cert.ReferenceMidIdeal.defs (F := Ideal)) (onTc (τ := Cert.ReferenceMidIdeal.τ) (Cert.ReferenceMidIdeal.main (F := Ideal))) ⟨m, fun _ => 0, g⟩ (fun r => (∀ c : Dev Cert.ReferenceMidIdeal.nD,
      r.2.mem ((c.tc : Thread Cert.ReferenceMidIdeal.nD Cert.ReferenceMidIdeal.τ).loc Cert.ReferenceMidIdeal.main_arg0) = m ((c.tc : Thread Cert.ReferenceMidIdeal.nD Cert.ReferenceMidIdeal.τ).loc Cert.ReferenceMidIdeal.main_arg0)
      ∧ r.2.mem ((c.tc : Thread Cert.ReferenceMidIdeal.nD Cert.ReferenceMidIdeal.τ).loc Cert.ReferenceMidIdeal.main_arg1) = m ((c.tc : Thread Cert.ReferenceMidIdeal.nD Cert.ReferenceMidIdeal.τ).loc Cert.ReferenceMidIdeal.main_arg1)
      ∧ r.2.mem ((c.tc : Thread Cert.ReferenceMidIdeal.nD Cert.ReferenceMidIdeal.τ).loc Cert.ReferenceMidIdeal.main_arg2) = m ((c.tc : Thread Cert.ReferenceMidIdeal.nD Cert.ReferenceMidIdeal.τ).loc Cert.ReferenceMidIdeal.main_arg2)
      ∧ r.2.mem ((c.tc : Thread Cert.ReferenceMidIdeal.nD Cert.ReferenceMidIdeal.τ).loc Cert.ReferenceMidIdeal.main_arg3) = m ((c.tc : Thread Cert.ReferenceMidIdeal.nD Cert.ReferenceMidIdeal.τ).loc Cert.ReferenceMidIdeal.main_arg3))
      ∧ r.2.sem = fun _ => 0)

def quiescent_KernelDh [hKernelDh : Cert.KernelDh.Facts] : Prop :=
  ∀ (m : (ℓ : Loc Cert.KernelDh.nD Cert.KernelDh.τ Cert.KernelDh.sig) → Buf (Elt Bits) ℓ) (g : Dev Cert.KernelDh.nD → PrngReg), Pre_KernelDh m →
    θ_run (Cert.KernelDh.defs (F := Bits)) (onTc (τ := Cert.KernelDh.τ) (Cert.KernelDh.main (F := Bits))) ⟨m, fun _ => 0, g⟩ (fun r => (∀ c : Dev Cert.KernelDh.nD,
      r.2.mem ((c.tc : Thread Cert.KernelDh.nD Cert.KernelDh.τ).loc Cert.KernelDh.main_arg0) = m ((c.tc : Thread Cert.KernelDh.nD Cert.KernelDh.τ).loc Cert.KernelDh.main_arg0)
      ∧ r.2.mem ((c.tc : Thread Cert.KernelDh.nD Cert.KernelDh.τ).loc Cert.KernelDh.main_arg1) = m ((c.tc : Thread Cert.KernelDh.nD Cert.KernelDh.τ).loc Cert.KernelDh.main_arg1)
      ∧ r.2.mem ((c.tc : Thread Cert.KernelDh.nD Cert.KernelDh.τ).loc Cert.KernelDh.main_arg2) = m ((c.tc : Thread Cert.KernelDh.nD Cert.KernelDh.τ).loc Cert.KernelDh.main_arg2)
      ∧ r.2.mem ((c.tc : Thread Cert.KernelDh.nD Cert.KernelDh.τ).loc Cert.KernelDh.main_arg3) = m ((c.tc : Thread Cert.KernelDh.nD Cert.KernelDh.τ).loc Cert.KernelDh.main_arg3)
      ∧ r.2.mem ((c.tc : Thread Cert.KernelDh.nD Cert.KernelDh.τ).loc Cert.KernelDh.main_arg4) = m ((c.tc : Thread Cert.KernelDh.nD Cert.KernelDh.τ).loc Cert.KernelDh.main_arg4)
      ∧ r.2.mem ((c.tc : Thread Cert.KernelDh.nD Cert.KernelDh.τ).loc Cert.KernelDh.main_arg5) = m ((c.tc : Thread Cert.KernelDh.nD Cert.KernelDh.τ).loc Cert.KernelDh.main_arg5)
      ∧ r.2.mem ((c.tc : Thread Cert.KernelDh.nD Cert.KernelDh.τ).loc Cert.KernelDh.main_arg6) = m ((c.tc : Thread Cert.KernelDh.nD Cert.KernelDh.τ).loc Cert.KernelDh.main_arg6))
      ∧ r.2.sem = fun _ => 0)

def quiescent_KernelDhIdeal [hKernelDhIdeal : Cert.KernelDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg), Pre_KernelDhIdeal m →
    θ_run (Cert.KernelDhIdeal.defs (F := Ideal)) (onTc (τ := Cert.KernelDhIdeal.τ) (Cert.KernelDhIdeal.main (F := Ideal))) ⟨m, fun _ => 0, g⟩ (fun r => (∀ c : Dev Cert.KernelDhIdeal.nD,
      r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
      ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
      ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2)
      ∧ r.2.mem ((c.tc : Thread Cert.KernelDhIdeal.nD Cert.KernelDhIdeal.τ).loc Cert.KernelDhIdeal.main_arg3) = m ((c.tc : Thread Cert.KernelDhIdeal.nD Cert.KernelDhIdeal.τ).loc Cert.KernelDhIdeal.main_arg3)
      ∧ r.2.mem ((c.tc : Thread Cert.KernelDhIdeal.nD Cert.KernelDhIdeal.τ).loc Cert.KernelDhIdeal.main_arg4) = m ((c.tc : Thread Cert.KernelDhIdeal.nD Cert.KernelDhIdeal.τ).loc Cert.KernelDhIdeal.main_arg4)
      ∧ r.2.mem ((c.tc : Thread Cert.KernelDhIdeal.nD Cert.KernelDhIdeal.τ).loc Cert.KernelDhIdeal.main_arg5) = m ((c.tc : Thread Cert.KernelDhIdeal.nD Cert.KernelDhIdeal.τ).loc Cert.KernelDhIdeal.main_arg5)
      ∧ r.2.mem ((c.tc : Thread Cert.KernelDhIdeal.nD Cert.KernelDhIdeal.τ).loc Cert.KernelDhIdeal.main_arg6) = m ((c.tc : Thread Cert.KernelDhIdeal.nD Cert.KernelDhIdeal.τ).loc Cert.KernelDhIdeal.main_arg6))
      ∧ r.2.sem = fun _ => 0)

def quiescent_KernelDhIdeal_pre_finite_dh [hKernelDhIdeal : Cert.KernelDhIdeal.Facts] [hPre_finite_dh : Cert.Pre_finite_dh.Facts] : Prop :=
  ∀ (m : (ℓ : Loc Cert.KernelDhIdeal.nD Cert.KernelDhIdeal.τ Cert.KernelDhIdeal.sig) → Buf (Elt Ideal) ℓ) (g : Dev Cert.KernelDhIdeal.nD → PrngReg), Pre_KernelDhIdeal_finite_dh m →
    θ_run (Cert.KernelDhIdeal.defs (F := Ideal)) (onTc (τ := Cert.KernelDhIdeal.τ) (Cert.KernelDhIdeal.main (F := Ideal))) ⟨m, fun _ => 0, g⟩ (fun r => (∀ c : Dev Cert.KernelDhIdeal.nD,
      r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
      ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
      ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2)
      ∧ r.2.mem ((c.tc : Thread Cert.KernelDhIdeal.nD Cert.KernelDhIdeal.τ).loc Cert.KernelDhIdeal.main_arg3) = m ((c.tc : Thread Cert.KernelDhIdeal.nD Cert.KernelDhIdeal.τ).loc Cert.KernelDhIdeal.main_arg3)
      ∧ r.2.mem ((c.tc : Thread Cert.KernelDhIdeal.nD Cert.KernelDhIdeal.τ).loc Cert.KernelDhIdeal.main_arg4) = m ((c.tc : Thread Cert.KernelDhIdeal.nD Cert.KernelDhIdeal.τ).loc Cert.KernelDhIdeal.main_arg4)
      ∧ r.2.mem ((c.tc : Thread Cert.KernelDhIdeal.nD Cert.KernelDhIdeal.τ).loc Cert.KernelDhIdeal.main_arg5) = m ((c.tc : Thread Cert.KernelDhIdeal.nD Cert.KernelDhIdeal.τ).loc Cert.KernelDhIdeal.main_arg5)
      ∧ r.2.mem ((c.tc : Thread Cert.KernelDhIdeal.nD Cert.KernelDhIdeal.τ).loc Cert.KernelDhIdeal.main_arg6) = m ((c.tc : Thread Cert.KernelDhIdeal.nD Cert.KernelDhIdeal.τ).loc Cert.KernelDhIdeal.main_arg6))
      ∧ r.2.sem = fun _ => 0)

def quiescent_ReferenceDhIdeal [hReferenceDhIdeal : Cert.ReferenceDhIdeal.Facts] : Prop :=
  ∀ (m : (ℓ : Loc Cert.ReferenceDhIdeal.nD Cert.ReferenceDhIdeal.τ Cert.ReferenceDhIdeal.sig) → Buf (Elt Ideal) ℓ) (g : Dev Cert.ReferenceDhIdeal.nD → PrngReg), Pre_ReferenceDhIdeal m →
    θ_run (Cert.ReferenceDhIdeal.defs (F := Ideal)) (onTc (τ := Cert.ReferenceDhIdeal.τ) (Cert.ReferenceDhIdeal.main (F := Ideal))) ⟨m, fun _ => 0, g⟩ (fun r => (∀ c : Dev Cert.ReferenceDhIdeal.nD,
      r.2.mem ((c.tc : Thread Cert.ReferenceDhIdeal.nD Cert.ReferenceDhIdeal.τ).loc Cert.ReferenceDhIdeal.main_arg0) = m ((c.tc : Thread Cert.ReferenceDhIdeal.nD Cert.ReferenceDhIdeal.τ).loc Cert.ReferenceDhIdeal.main_arg0)
      ∧ r.2.mem ((c.tc : Thread Cert.ReferenceDhIdeal.nD Cert.ReferenceDhIdeal.τ).loc Cert.ReferenceDhIdeal.main_arg1) = m ((c.tc : Thread Cert.ReferenceDhIdeal.nD Cert.ReferenceDhIdeal.τ).loc Cert.ReferenceDhIdeal.main_arg1)
      ∧ r.2.mem ((c.tc : Thread Cert.ReferenceDhIdeal.nD Cert.ReferenceDhIdeal.τ).loc Cert.ReferenceDhIdeal.main_arg2) = m ((c.tc : Thread Cert.ReferenceDhIdeal.nD Cert.ReferenceDhIdeal.τ).loc Cert.ReferenceDhIdeal.main_arg2)
      ∧ r.2.mem ((c.tc : Thread Cert.ReferenceDhIdeal.nD Cert.ReferenceDhIdeal.τ).loc Cert.ReferenceDhIdeal.main_arg3) = m ((c.tc : Thread Cert.ReferenceDhIdeal.nD Cert.ReferenceDhIdeal.τ).loc Cert.ReferenceDhIdeal.main_arg3)
      ∧ r.2.mem ((c.tc : Thread Cert.ReferenceDhIdeal.nD Cert.ReferenceDhIdeal.τ).loc Cert.ReferenceDhIdeal.main_arg4) = m ((c.tc : Thread Cert.ReferenceDhIdeal.nD Cert.ReferenceDhIdeal.τ).loc Cert.ReferenceDhIdeal.main_arg4)
      ∧ r.2.mem ((c.tc : Thread Cert.ReferenceDhIdeal.nD Cert.ReferenceDhIdeal.τ).loc Cert.ReferenceDhIdeal.main_arg5) = m ((c.tc : Thread Cert.ReferenceDhIdeal.nD Cert.ReferenceDhIdeal.τ).loc Cert.ReferenceDhIdeal.main_arg5)
      ∧ r.2.mem ((c.tc : Thread Cert.ReferenceDhIdeal.nD Cert.ReferenceDhIdeal.τ).loc Cert.ReferenceDhIdeal.main_arg6) = m ((c.tc : Thread Cert.ReferenceDhIdeal.nD Cert.ReferenceDhIdeal.τ).loc Cert.ReferenceDhIdeal.main_arg6))
      ∧ r.2.sem = fun _ => 0)

def quiescent_ReferenceDhIdeal_pre_finite_dh [hReferenceDhIdeal : Cert.ReferenceDhIdeal.Facts] [hPre_finite_dh : Cert.Pre_finite_dh.Facts] : Prop :=
  ∀ (m : (ℓ : Loc Cert.ReferenceDhIdeal.nD Cert.ReferenceDhIdeal.τ Cert.ReferenceDhIdeal.sig) → Buf (Elt Ideal) ℓ) (g : Dev Cert.ReferenceDhIdeal.nD → PrngReg), Pre_ReferenceDhIdeal_finite_dh m →
    θ_run (Cert.ReferenceDhIdeal.defs (F := Ideal)) (onTc (τ := Cert.ReferenceDhIdeal.τ) (Cert.ReferenceDhIdeal.main (F := Ideal))) ⟨m, fun _ => 0, g⟩ (fun r => (∀ c : Dev Cert.ReferenceDhIdeal.nD,
      r.2.mem ((c.tc : Thread Cert.ReferenceDhIdeal.nD Cert.ReferenceDhIdeal.τ).loc Cert.ReferenceDhIdeal.main_arg0) = m ((c.tc : Thread Cert.ReferenceDhIdeal.nD Cert.ReferenceDhIdeal.τ).loc Cert.ReferenceDhIdeal.main_arg0)
      ∧ r.2.mem ((c.tc : Thread Cert.ReferenceDhIdeal.nD Cert.ReferenceDhIdeal.τ).loc Cert.ReferenceDhIdeal.main_arg1) = m ((c.tc : Thread Cert.ReferenceDhIdeal.nD Cert.ReferenceDhIdeal.τ).loc Cert.ReferenceDhIdeal.main_arg1)
      ∧ r.2.mem ((c.tc : Thread Cert.ReferenceDhIdeal.nD Cert.ReferenceDhIdeal.τ).loc Cert.ReferenceDhIdeal.main_arg2) = m ((c.tc : Thread Cert.ReferenceDhIdeal.nD Cert.ReferenceDhIdeal.τ).loc Cert.ReferenceDhIdeal.main_arg2)
      ∧ r.2.mem ((c.tc : Thread Cert.ReferenceDhIdeal.nD Cert.ReferenceDhIdeal.τ).loc Cert.ReferenceDhIdeal.main_arg3) = m ((c.tc : Thread Cert.ReferenceDhIdeal.nD Cert.ReferenceDhIdeal.τ).loc Cert.ReferenceDhIdeal.main_arg3)
      ∧ r.2.mem ((c.tc : Thread Cert.ReferenceDhIdeal.nD Cert.ReferenceDhIdeal.τ).loc Cert.ReferenceDhIdeal.main_arg4) = m ((c.tc : Thread Cert.ReferenceDhIdeal.nD Cert.ReferenceDhIdeal.τ).loc Cert.ReferenceDhIdeal.main_arg4)
      ∧ r.2.mem ((c.tc : Thread Cert.ReferenceDhIdeal.nD Cert.ReferenceDhIdeal.τ).loc Cert.ReferenceDhIdeal.main_arg5) = m ((c.tc : Thread Cert.ReferenceDhIdeal.nD Cert.ReferenceDhIdeal.τ).loc Cert.ReferenceDhIdeal.main_arg5)
      ∧ r.2.mem ((c.tc : Thread Cert.ReferenceDhIdeal.nD Cert.ReferenceDhIdeal.τ).loc Cert.ReferenceDhIdeal.main_arg6) = m ((c.tc : Thread Cert.ReferenceDhIdeal.nD Cert.ReferenceDhIdeal.τ).loc Cert.ReferenceDhIdeal.main_arg6))
      ∧ r.2.sem = fun _ => 0)

def quiescent_KernelDhn [hKernelDhn : Cert.KernelDhn.Facts] : Prop :=
  ∀ (m : (ℓ : Loc Cert.KernelDhn.nD Cert.KernelDhn.τ Cert.KernelDhn.sig) → Buf (Elt Bits) ℓ) (g : Dev Cert.KernelDhn.nD → PrngReg), Pre_KernelDhn m →
    θ_run (Cert.KernelDhn.defs (F := Bits)) (onTc (τ := Cert.KernelDhn.τ) (Cert.KernelDhn.main (F := Bits))) ⟨m, fun _ => 0, g⟩ (fun r => (∀ c : Dev Cert.KernelDhn.nD,
      r.2.mem ((c.tc : Thread Cert.KernelDhn.nD Cert.KernelDhn.τ).loc Cert.KernelDhn.main_arg0) = m ((c.tc : Thread Cert.KernelDhn.nD Cert.KernelDhn.τ).loc Cert.KernelDhn.main_arg0)
      ∧ r.2.mem ((c.tc : Thread Cert.KernelDhn.nD Cert.KernelDhn.τ).loc Cert.KernelDhn.main_arg1) = m ((c.tc : Thread Cert.KernelDhn.nD Cert.KernelDhn.τ).loc Cert.KernelDhn.main_arg1)
      ∧ r.2.mem ((c.tc : Thread Cert.KernelDhn.nD Cert.KernelDhn.τ).loc Cert.KernelDhn.main_arg2) = m ((c.tc : Thread Cert.KernelDhn.nD Cert.KernelDhn.τ).loc Cert.KernelDhn.main_arg2)
      ∧ r.2.mem ((c.tc : Thread Cert.KernelDhn.nD Cert.KernelDhn.τ).loc Cert.KernelDhn.main_arg3) = m ((c.tc : Thread Cert.KernelDhn.nD Cert.KernelDhn.τ).loc Cert.KernelDhn.main_arg3)
      ∧ r.2.mem ((c.tc : Thread Cert.KernelDhn.nD Cert.KernelDhn.τ).loc Cert.KernelDhn.main_arg4) = m ((c.tc : Thread Cert.KernelDhn.nD Cert.KernelDhn.τ).loc Cert.KernelDhn.main_arg4)
      ∧ r.2.mem ((c.tc : Thread Cert.KernelDhn.nD Cert.KernelDhn.τ).loc Cert.KernelDhn.main_arg5) = m ((c.tc : Thread Cert.KernelDhn.nD Cert.KernelDhn.τ).loc Cert.KernelDhn.main_arg5)
      ∧ r.2.mem ((c.tc : Thread Cert.KernelDhn.nD Cert.KernelDhn.τ).loc Cert.KernelDhn.main_arg6) = m ((c.tc : Thread Cert.KernelDhn.nD Cert.KernelDhn.τ).loc Cert.KernelDhn.main_arg6))
      ∧ r.2.sem = fun _ => 0)

def quiescent_KernelDhnIdeal [hKernelDhnIdeal : Cert.KernelDhnIdeal.Facts] : Prop :=
  ∀ (m : (ℓ : Loc Cert.KernelDhnIdeal.nD Cert.KernelDhnIdeal.τ Cert.KernelDhnIdeal.sig) → Buf (Elt Ideal) ℓ) (g : Dev Cert.KernelDhnIdeal.nD → PrngReg), Pre_KernelDhnIdeal m →
    θ_run (Cert.KernelDhnIdeal.defs (F := Ideal)) (onTc (τ := Cert.KernelDhnIdeal.τ) (Cert.KernelDhnIdeal.main (F := Ideal))) ⟨m, fun _ => 0, g⟩ (fun r => (∀ c : Dev Cert.KernelDhnIdeal.nD,
      r.2.mem ((c.tc : Thread Cert.KernelDhnIdeal.nD Cert.KernelDhnIdeal.τ).loc Cert.KernelDhnIdeal.main_arg0) = m ((c.tc : Thread Cert.KernelDhnIdeal.nD Cert.KernelDhnIdeal.τ).loc Cert.KernelDhnIdeal.main_arg0)
      ∧ r.2.mem ((c.tc : Thread Cert.KernelDhnIdeal.nD Cert.KernelDhnIdeal.τ).loc Cert.KernelDhnIdeal.main_arg1) = m ((c.tc : Thread Cert.KernelDhnIdeal.nD Cert.KernelDhnIdeal.τ).loc Cert.KernelDhnIdeal.main_arg1)
      ∧ r.2.mem ((c.tc : Thread Cert.KernelDhnIdeal.nD Cert.KernelDhnIdeal.τ).loc Cert.KernelDhnIdeal.main_arg2) = m ((c.tc : Thread Cert.KernelDhnIdeal.nD Cert.KernelDhnIdeal.τ).loc Cert.KernelDhnIdeal.main_arg2)
      ∧ r.2.mem ((c.tc : Thread Cert.KernelDhnIdeal.nD Cert.KernelDhnIdeal.τ).loc Cert.KernelDhnIdeal.main_arg3) = m ((c.tc : Thread Cert.KernelDhnIdeal.nD Cert.KernelDhnIdeal.τ).loc Cert.KernelDhnIdeal.main_arg3)
      ∧ r.2.mem ((c.tc : Thread Cert.KernelDhnIdeal.nD Cert.KernelDhnIdeal.τ).loc Cert.KernelDhnIdeal.main_arg4) = m ((c.tc : Thread Cert.KernelDhnIdeal.nD Cert.KernelDhnIdeal.τ).loc Cert.KernelDhnIdeal.main_arg4)
      ∧ r.2.mem ((c.tc : Thread Cert.KernelDhnIdeal.nD Cert.KernelDhnIdeal.τ).loc Cert.KernelDhnIdeal.main_arg5) = m ((c.tc : Thread Cert.KernelDhnIdeal.nD Cert.KernelDhnIdeal.τ).loc Cert.KernelDhnIdeal.main_arg5)
      ∧ r.2.mem ((c.tc : Thread Cert.KernelDhnIdeal.nD Cert.KernelDhnIdeal.τ).loc Cert.KernelDhnIdeal.main_arg6) = m ((c.tc : Thread Cert.KernelDhnIdeal.nD Cert.KernelDhnIdeal.τ).loc Cert.KernelDhnIdeal.main_arg6))
      ∧ r.2.sem = fun _ => 0)

def quiescent_KernelDhnIdeal_pre_finite_dhn [hKernelDhnIdeal : Cert.KernelDhnIdeal.Facts] [hPre_finite_dhn : Cert.Pre_finite_dhn.Facts] : Prop :=
  ∀ (m : (ℓ : Loc Cert.KernelDhnIdeal.nD Cert.KernelDhnIdeal.τ Cert.KernelDhnIdeal.sig) → Buf (Elt Ideal) ℓ) (g : Dev Cert.KernelDhnIdeal.nD → PrngReg), Pre_KernelDhnIdeal_finite_dhn m →
    θ_run (Cert.KernelDhnIdeal.defs (F := Ideal)) (onTc (τ := Cert.KernelDhnIdeal.τ) (Cert.KernelDhnIdeal.main (F := Ideal))) ⟨m, fun _ => 0, g⟩ (fun r => (∀ c : Dev Cert.KernelDhnIdeal.nD,
      r.2.mem ((c.tc : Thread Cert.KernelDhnIdeal.nD Cert.KernelDhnIdeal.τ).loc Cert.KernelDhnIdeal.main_arg0) = m ((c.tc : Thread Cert.KernelDhnIdeal.nD Cert.KernelDhnIdeal.τ).loc Cert.KernelDhnIdeal.main_arg0)
      ∧ r.2.mem ((c.tc : Thread Cert.KernelDhnIdeal.nD Cert.KernelDhnIdeal.τ).loc Cert.KernelDhnIdeal.main_arg1) = m ((c.tc : Thread Cert.KernelDhnIdeal.nD Cert.KernelDhnIdeal.τ).loc Cert.KernelDhnIdeal.main_arg1)
      ∧ r.2.mem ((c.tc : Thread Cert.KernelDhnIdeal.nD Cert.KernelDhnIdeal.τ).loc Cert.KernelDhnIdeal.main_arg2) = m ((c.tc : Thread Cert.KernelDhnIdeal.nD Cert.KernelDhnIdeal.τ).loc Cert.KernelDhnIdeal.main_arg2)
      ∧ r.2.mem ((c.tc : Thread Cert.KernelDhnIdeal.nD Cert.KernelDhnIdeal.τ).loc Cert.KernelDhnIdeal.main_arg3) = m ((c.tc : Thread Cert.KernelDhnIdeal.nD Cert.KernelDhnIdeal.τ).loc Cert.KernelDhnIdeal.main_arg3)
      ∧ r.2.mem ((c.tc : Thread Cert.KernelDhnIdeal.nD Cert.KernelDhnIdeal.τ).loc Cert.KernelDhnIdeal.main_arg4) = m ((c.tc : Thread Cert.KernelDhnIdeal.nD Cert.KernelDhnIdeal.τ).loc Cert.KernelDhnIdeal.main_arg4)
      ∧ r.2.mem ((c.tc : Thread Cert.KernelDhnIdeal.nD Cert.KernelDhnIdeal.τ).loc Cert.KernelDhnIdeal.main_arg5) = m ((c.tc : Thread Cert.KernelDhnIdeal.nD Cert.KernelDhnIdeal.τ).loc Cert.KernelDhnIdeal.main_arg5)
      ∧ r.2.mem ((c.tc : Thread Cert.KernelDhnIdeal.nD Cert.KernelDhnIdeal.τ).loc Cert.KernelDhnIdeal.main_arg6) = m ((c.tc : Thread Cert.KernelDhnIdeal.nD Cert.KernelDhnIdeal.τ).loc Cert.KernelDhnIdeal.main_arg6))
      ∧ r.2.sem = fun _ => 0)

def quiescent_ReferenceDhnIdeal [hReferenceDhnIdeal : Cert.ReferenceDhnIdeal.Facts] : Prop :=
  ∀ (m : (ℓ : Loc Cert.ReferenceDhnIdeal.nD Cert.ReferenceDhnIdeal.τ Cert.ReferenceDhnIdeal.sig) → Buf (Elt Ideal) ℓ) (g : Dev Cert.ReferenceDhnIdeal.nD → PrngReg), Pre_ReferenceDhnIdeal m →
    θ_run (Cert.ReferenceDhnIdeal.defs (F := Ideal)) (onTc (τ := Cert.ReferenceDhnIdeal.τ) (Cert.ReferenceDhnIdeal.main (F := Ideal))) ⟨m, fun _ => 0, g⟩ (fun r => (∀ c : Dev Cert.ReferenceDhnIdeal.nD,
      r.2.mem ((c.tc : Thread Cert.ReferenceDhnIdeal.nD Cert.ReferenceDhnIdeal.τ).loc Cert.ReferenceDhnIdeal.main_arg0) = m ((c.tc : Thread Cert.ReferenceDhnIdeal.nD Cert.ReferenceDhnIdeal.τ).loc Cert.ReferenceDhnIdeal.main_arg0)
      ∧ r.2.mem ((c.tc : Thread Cert.ReferenceDhnIdeal.nD Cert.ReferenceDhnIdeal.τ).loc Cert.ReferenceDhnIdeal.main_arg1) = m ((c.tc : Thread Cert.ReferenceDhnIdeal.nD Cert.ReferenceDhnIdeal.τ).loc Cert.ReferenceDhnIdeal.main_arg1)
      ∧ r.2.mem ((c.tc : Thread Cert.ReferenceDhnIdeal.nD Cert.ReferenceDhnIdeal.τ).loc Cert.ReferenceDhnIdeal.main_arg2) = m ((c.tc : Thread Cert.ReferenceDhnIdeal.nD Cert.ReferenceDhnIdeal.τ).loc Cert.ReferenceDhnIdeal.main_arg2)
      ∧ r.2.mem ((c.tc : Thread Cert.ReferenceDhnIdeal.nD Cert.ReferenceDhnIdeal.τ).loc Cert.ReferenceDhnIdeal.main_arg3) = m ((c.tc : Thread Cert.ReferenceDhnIdeal.nD Cert.ReferenceDhnIdeal.τ).loc Cert.ReferenceDhnIdeal.main_arg3)
      ∧ r.2.mem ((c.tc : Thread Cert.ReferenceDhnIdeal.nD Cert.ReferenceDhnIdeal.τ).loc Cert.ReferenceDhnIdeal.main_arg4) = m ((c.tc : Thread Cert.ReferenceDhnIdeal.nD Cert.ReferenceDhnIdeal.τ).loc Cert.ReferenceDhnIdeal.main_arg4)
      ∧ r.2.mem ((c.tc : Thread Cert.ReferenceDhnIdeal.nD Cert.ReferenceDhnIdeal.τ).loc Cert.ReferenceDhnIdeal.main_arg5) = m ((c.tc : Thread Cert.ReferenceDhnIdeal.nD Cert.ReferenceDhnIdeal.τ).loc Cert.ReferenceDhnIdeal.main_arg5)
      ∧ r.2.mem ((c.tc : Thread Cert.ReferenceDhnIdeal.nD Cert.ReferenceDhnIdeal.τ).loc Cert.ReferenceDhnIdeal.main_arg6) = m ((c.tc : Thread Cert.ReferenceDhnIdeal.nD Cert.ReferenceDhnIdeal.τ).loc Cert.ReferenceDhnIdeal.main_arg6))
      ∧ r.2.sem = fun _ => 0)

def quiescent_ReferenceDhnIdeal_pre_finite_dhn [hReferenceDhnIdeal : Cert.ReferenceDhnIdeal.Facts] [hPre_finite_dhn : Cert.Pre_finite_dhn.Facts] : Prop :=
  ∀ (m : (ℓ : Loc Cert.ReferenceDhnIdeal.nD Cert.ReferenceDhnIdeal.τ Cert.ReferenceDhnIdeal.sig) → Buf (Elt Ideal) ℓ) (g : Dev Cert.ReferenceDhnIdeal.nD → PrngReg), Pre_ReferenceDhnIdeal_finite_dhn m →
    θ_run (Cert.ReferenceDhnIdeal.defs (F := Ideal)) (onTc (τ := Cert.ReferenceDhnIdeal.τ) (Cert.ReferenceDhnIdeal.main (F := Ideal))) ⟨m, fun _ => 0, g⟩ (fun r => (∀ c : Dev Cert.ReferenceDhnIdeal.nD,
      r.2.mem ((c.tc : Thread Cert.ReferenceDhnIdeal.nD Cert.ReferenceDhnIdeal.τ).loc Cert.ReferenceDhnIdeal.main_arg0) = m ((c.tc : Thread Cert.ReferenceDhnIdeal.nD Cert.ReferenceDhnIdeal.τ).loc Cert.ReferenceDhnIdeal.main_arg0)
      ∧ r.2.mem ((c.tc : Thread Cert.ReferenceDhnIdeal.nD Cert.ReferenceDhnIdeal.τ).loc Cert.ReferenceDhnIdeal.main_arg1) = m ((c.tc : Thread Cert.ReferenceDhnIdeal.nD Cert.ReferenceDhnIdeal.τ).loc Cert.ReferenceDhnIdeal.main_arg1)
      ∧ r.2.mem ((c.tc : Thread Cert.ReferenceDhnIdeal.nD Cert.ReferenceDhnIdeal.τ).loc Cert.ReferenceDhnIdeal.main_arg2) = m ((c.tc : Thread Cert.ReferenceDhnIdeal.nD Cert.ReferenceDhnIdeal.τ).loc Cert.ReferenceDhnIdeal.main_arg2)
      ∧ r.2.mem ((c.tc : Thread Cert.ReferenceDhnIdeal.nD Cert.ReferenceDhnIdeal.τ).loc Cert.ReferenceDhnIdeal.main_arg3) = m ((c.tc : Thread Cert.ReferenceDhnIdeal.nD Cert.ReferenceDhnIdeal.τ).loc Cert.ReferenceDhnIdeal.main_arg3)
      ∧ r.2.mem ((c.tc : Thread Cert.ReferenceDhnIdeal.nD Cert.ReferenceDhnIdeal.τ).loc Cert.ReferenceDhnIdeal.main_arg4) = m ((c.tc : Thread Cert.ReferenceDhnIdeal.nD Cert.ReferenceDhnIdeal.τ).loc Cert.ReferenceDhnIdeal.main_arg4)
      ∧ r.2.mem ((c.tc : Thread Cert.ReferenceDhnIdeal.nD Cert.ReferenceDhnIdeal.τ).loc Cert.ReferenceDhnIdeal.main_arg5) = m ((c.tc : Thread Cert.ReferenceDhnIdeal.nD Cert.ReferenceDhnIdeal.τ).loc Cert.ReferenceDhnIdeal.main_arg5)
      ∧ r.2.mem ((c.tc : Thread Cert.ReferenceDhnIdeal.nD Cert.ReferenceDhnIdeal.τ).loc Cert.ReferenceDhnIdeal.main_arg6) = m ((c.tc : Thread Cert.ReferenceDhnIdeal.nD Cert.ReferenceDhnIdeal.τ).loc Cert.ReferenceDhnIdeal.main_arg6))
      ∧ r.2.sem = fun _ => 0)

def quiescent_KernelDh3 [hKernelDh3 : Cert.KernelDh3.Facts] : Prop :=
  ∀ (m : (ℓ : Loc Cert.KernelDh3.nD Cert.KernelDh3.τ Cert.KernelDh3.sig) → Buf (Elt Bits) ℓ) (g : Dev Cert.KernelDh3.nD → PrngReg), Pre_KernelDh3 m →
    θ_run (Cert.KernelDh3.defs (F := Bits)) (onTc (τ := Cert.KernelDh3.τ) (Cert.KernelDh3.main (F := Bits))) ⟨m, fun _ => 0, g⟩ (fun r => (∀ c : Dev Cert.KernelDh3.nD,
      r.2.mem ((c.tc : Thread Cert.KernelDh3.nD Cert.KernelDh3.τ).loc Cert.KernelDh3.main_arg0) = m ((c.tc : Thread Cert.KernelDh3.nD Cert.KernelDh3.τ).loc Cert.KernelDh3.main_arg0)
      ∧ r.2.mem ((c.tc : Thread Cert.KernelDh3.nD Cert.KernelDh3.τ).loc Cert.KernelDh3.main_arg1) = m ((c.tc : Thread Cert.KernelDh3.nD Cert.KernelDh3.τ).loc Cert.KernelDh3.main_arg1)
      ∧ r.2.mem ((c.tc : Thread Cert.KernelDh3.nD Cert.KernelDh3.τ).loc Cert.KernelDh3.main_arg2) = m ((c.tc : Thread Cert.KernelDh3.nD Cert.KernelDh3.τ).loc Cert.KernelDh3.main_arg2)
      ∧ r.2.mem ((c.tc : Thread Cert.KernelDh3.nD Cert.KernelDh3.τ).loc Cert.KernelDh3.main_arg3) = m ((c.tc : Thread Cert.KernelDh3.nD Cert.KernelDh3.τ).loc Cert.KernelDh3.main_arg3)
      ∧ r.2.mem ((c.tc : Thread Cert.KernelDh3.nD Cert.KernelDh3.τ).loc Cert.KernelDh3.main_arg4) = m ((c.tc : Thread Cert.KernelDh3.nD Cert.KernelDh3.τ).loc Cert.KernelDh3.main_arg4))
      ∧ r.2.sem = fun _ => 0)

def quiescent_KernelDh3Ideal [hKernelDh3Ideal : Cert.KernelDh3Ideal.Facts] : Prop :=
  ∀ (m : (ℓ : Loc Cert.KernelDh3Ideal.nD Cert.KernelDh3Ideal.τ Cert.KernelDh3Ideal.sig) → Buf (Elt Ideal) ℓ) (g : Dev Cert.KernelDh3Ideal.nD → PrngReg), Pre_KernelDh3Ideal m →
    θ_run (Cert.KernelDh3Ideal.defs (F := Ideal)) (onTc (τ := Cert.KernelDh3Ideal.τ) (Cert.KernelDh3Ideal.main (F := Ideal))) ⟨m, fun _ => 0, g⟩ (fun r => (∀ c : Dev Cert.KernelDh3Ideal.nD,
      r.2.mem ((c.tc : Thread Cert.KernelDh3Ideal.nD Cert.KernelDh3Ideal.τ).loc Cert.KernelDh3Ideal.main_arg0) = m ((c.tc : Thread Cert.KernelDh3Ideal.nD Cert.KernelDh3Ideal.τ).loc Cert.KernelDh3Ideal.main_arg0)
      ∧ r.2.mem ((c.tc : Thread Cert.KernelDh3Ideal.nD Cert.KernelDh3Ideal.τ).loc Cert.KernelDh3Ideal.main_arg1) = m ((c.tc : Thread Cert.KernelDh3Ideal.nD Cert.KernelDh3Ideal.τ).loc Cert.KernelDh3Ideal.main_arg1)
      ∧ r.2.mem ((c.tc : Thread Cert.KernelDh3Ideal.nD Cert.KernelDh3Ideal.τ).loc Cert.KernelDh3Ideal.main_arg2) = m ((c.tc : Thread Cert.KernelDh3Ideal.nD Cert.KernelDh3Ideal.τ).loc Cert.KernelDh3Ideal.main_arg2)
      ∧ r.2.mem ((c.tc : Thread Cert.KernelDh3Ideal.nD Cert.KernelDh3Ideal.τ).loc Cert.KernelDh3Ideal.main_arg3) = m ((c.tc : Thread Cert.KernelDh3Ideal.nD Cert.KernelDh3Ideal.τ).loc Cert.KernelDh3Ideal.main_arg3)
      ∧ r.2.mem ((c.tc : Thread Cert.KernelDh3Ideal.nD Cert.KernelDh3Ideal.τ).loc Cert.KernelDh3Ideal.main_arg4) = m ((c.tc : Thread Cert.KernelDh3Ideal.nD Cert.KernelDh3Ideal.τ).loc Cert.KernelDh3Ideal.main_arg4))
      ∧ r.2.sem = fun _ => 0)

def quiescent_KernelDh3Ideal_pre_finite_dh3 [hKernelDh3Ideal : Cert.KernelDh3Ideal.Facts] [hPre_finite_dh3 : Cert.Pre_finite_dh3.Facts] : Prop :=
  ∀ (m : (ℓ : Loc Cert.KernelDh3Ideal.nD Cert.KernelDh3Ideal.τ Cert.KernelDh3Ideal.sig) → Buf (Elt Ideal) ℓ) (g : Dev Cert.KernelDh3Ideal.nD → PrngReg), Pre_KernelDh3Ideal_finite_dh3 m →
    θ_run (Cert.KernelDh3Ideal.defs (F := Ideal)) (onTc (τ := Cert.KernelDh3Ideal.τ) (Cert.KernelDh3Ideal.main (F := Ideal))) ⟨m, fun _ => 0, g⟩ (fun r => (∀ c : Dev Cert.KernelDh3Ideal.nD,
      r.2.mem ((c.tc : Thread Cert.KernelDh3Ideal.nD Cert.KernelDh3Ideal.τ).loc Cert.KernelDh3Ideal.main_arg0) = m ((c.tc : Thread Cert.KernelDh3Ideal.nD Cert.KernelDh3Ideal.τ).loc Cert.KernelDh3Ideal.main_arg0)
      ∧ r.2.mem ((c.tc : Thread Cert.KernelDh3Ideal.nD Cert.KernelDh3Ideal.τ).loc Cert.KernelDh3Ideal.main_arg1) = m ((c.tc : Thread Cert.KernelDh3Ideal.nD Cert.KernelDh3Ideal.τ).loc Cert.KernelDh3Ideal.main_arg1)
      ∧ r.2.mem ((c.tc : Thread Cert.KernelDh3Ideal.nD Cert.KernelDh3Ideal.τ).loc Cert.KernelDh3Ideal.main_arg2) = m ((c.tc : Thread Cert.KernelDh3Ideal.nD Cert.KernelDh3Ideal.τ).loc Cert.KernelDh3Ideal.main_arg2)
      ∧ r.2.mem ((c.tc : Thread Cert.KernelDh3Ideal.nD Cert.KernelDh3Ideal.τ).loc Cert.KernelDh3Ideal.main_arg3) = m ((c.tc : Thread Cert.KernelDh3Ideal.nD Cert.KernelDh3Ideal.τ).loc Cert.KernelDh3Ideal.main_arg3)
      ∧ r.2.mem ((c.tc : Thread Cert.KernelDh3Ideal.nD Cert.KernelDh3Ideal.τ).loc Cert.KernelDh3Ideal.main_arg4) = m ((c.tc : Thread Cert.KernelDh3Ideal.nD Cert.KernelDh3Ideal.τ).loc Cert.KernelDh3Ideal.main_arg4))
      ∧ r.2.sem = fun _ => 0)

def quiescent_ReferenceDh3Ideal [hReferenceDh3Ideal : Cert.ReferenceDh3Ideal.Facts] : Prop :=
  ∀ (m : (ℓ : Loc Cert.ReferenceDh3Ideal.nD Cert.ReferenceDh3Ideal.τ Cert.ReferenceDh3Ideal.sig) → Buf (Elt Ideal) ℓ) (g : Dev Cert.ReferenceDh3Ideal.nD → PrngReg), Pre_ReferenceDh3Ideal m →
    θ_run (Cert.ReferenceDh3Ideal.defs (F := Ideal)) (onTc (τ := Cert.ReferenceDh3Ideal.τ) (Cert.ReferenceDh3Ideal.main (F := Ideal))) ⟨m, fun _ => 0, g⟩ (fun r => (∀ c : Dev Cert.ReferenceDh3Ideal.nD,
      r.2.mem ((c.tc : Thread Cert.ReferenceDh3Ideal.nD Cert.ReferenceDh3Ideal.τ).loc Cert.ReferenceDh3Ideal.main_arg0) = m ((c.tc : Thread Cert.ReferenceDh3Ideal.nD Cert.ReferenceDh3Ideal.τ).loc Cert.ReferenceDh3Ideal.main_arg0)
      ∧ r.2.mem ((c.tc : Thread Cert.ReferenceDh3Ideal.nD Cert.ReferenceDh3Ideal.τ).loc Cert.ReferenceDh3Ideal.main_arg1) = m ((c.tc : Thread Cert.ReferenceDh3Ideal.nD Cert.ReferenceDh3Ideal.τ).loc Cert.ReferenceDh3Ideal.main_arg1)
      ∧ r.2.mem ((c.tc : Thread Cert.ReferenceDh3Ideal.nD Cert.ReferenceDh3Ideal.τ).loc Cert.ReferenceDh3Ideal.main_arg2) = m ((c.tc : Thread Cert.ReferenceDh3Ideal.nD Cert.ReferenceDh3Ideal.τ).loc Cert.ReferenceDh3Ideal.main_arg2)
      ∧ r.2.mem ((c.tc : Thread Cert.ReferenceDh3Ideal.nD Cert.ReferenceDh3Ideal.τ).loc Cert.ReferenceDh3Ideal.main_arg3) = m ((c.tc : Thread Cert.ReferenceDh3Ideal.nD Cert.ReferenceDh3Ideal.τ).loc Cert.ReferenceDh3Ideal.main_arg3)
      ∧ r.2.mem ((c.tc : Thread Cert.ReferenceDh3Ideal.nD Cert.ReferenceDh3Ideal.τ).loc Cert.ReferenceDh3Ideal.main_arg4) = m ((c.tc : Thread Cert.ReferenceDh3Ideal.nD Cert.ReferenceDh3Ideal.τ).loc Cert.ReferenceDh3Ideal.main_arg4))
      ∧ r.2.sem = fun _ => 0)

def quiescent_ReferenceDh3Ideal_pre_finite_dh3 [hReferenceDh3Ideal : Cert.ReferenceDh3Ideal.Facts] [hPre_finite_dh3 : Cert.Pre_finite_dh3.Facts] : Prop :=
  ∀ (m : (ℓ : Loc Cert.ReferenceDh3Ideal.nD Cert.ReferenceDh3Ideal.τ Cert.ReferenceDh3Ideal.sig) → Buf (Elt Ideal) ℓ) (g : Dev Cert.ReferenceDh3Ideal.nD → PrngReg), Pre_ReferenceDh3Ideal_finite_dh3 m →
    θ_run (Cert.ReferenceDh3Ideal.defs (F := Ideal)) (onTc (τ := Cert.ReferenceDh3Ideal.τ) (Cert.ReferenceDh3Ideal.main (F := Ideal))) ⟨m, fun _ => 0, g⟩ (fun r => (∀ c : Dev Cert.ReferenceDh3Ideal.nD,
      r.2.mem ((c.tc : Thread Cert.ReferenceDh3Ideal.nD Cert.ReferenceDh3Ideal.τ).loc Cert.ReferenceDh3Ideal.main_arg0) = m ((c.tc : Thread Cert.ReferenceDh3Ideal.nD Cert.ReferenceDh3Ideal.τ).loc Cert.ReferenceDh3Ideal.main_arg0)
      ∧ r.2.mem ((c.tc : Thread Cert.ReferenceDh3Ideal.nD Cert.ReferenceDh3Ideal.τ).loc Cert.ReferenceDh3Ideal.main_arg1) = m ((c.tc : Thread Cert.ReferenceDh3Ideal.nD Cert.ReferenceDh3Ideal.τ).loc Cert.ReferenceDh3Ideal.main_arg1)
      ∧ r.2.mem ((c.tc : Thread Cert.ReferenceDh3Ideal.nD Cert.ReferenceDh3Ideal.τ).loc Cert.ReferenceDh3Ideal.main_arg2) = m ((c.tc : Thread Cert.ReferenceDh3Ideal.nD Cert.ReferenceDh3Ideal.τ).loc Cert.ReferenceDh3Ideal.main_arg2)
      ∧ r.2.mem ((c.tc : Thread Cert.ReferenceDh3Ideal.nD Cert.ReferenceDh3Ideal.τ).loc Cert.ReferenceDh3Ideal.main_arg3) = m ((c.tc : Thread Cert.ReferenceDh3Ideal.nD Cert.ReferenceDh3Ideal.τ).loc Cert.ReferenceDh3Ideal.main_arg3)
      ∧ r.2.mem ((c.tc : Thread Cert.ReferenceDh3Ideal.nD Cert.ReferenceDh3Ideal.τ).loc Cert.ReferenceDh3Ideal.main_arg4) = m ((c.tc : Thread Cert.ReferenceDh3Ideal.nD Cert.ReferenceDh3Ideal.τ).loc Cert.ReferenceDh3Ideal.main_arg4))
      ∧ r.2.sem = fun _ => 0)

def quiescent_KernelDh2 [hKernelDh2 : Cert.KernelDh2.Facts] : Prop :=
  ∀ (m : (ℓ : Loc Cert.KernelDh2.nD Cert.KernelDh2.τ Cert.KernelDh2.sig) → Buf (Elt Bits) ℓ) (g : Dev Cert.KernelDh2.nD → PrngReg), Pre_KernelDh2 m →
    θ_run (Cert.KernelDh2.defs (F := Bits)) (onTc (τ := Cert.KernelDh2.τ) (Cert.KernelDh2.main (F := Bits))) ⟨m, fun _ => 0, g⟩ (fun r => (∀ c : Dev Cert.KernelDh2.nD,
      r.2.mem ((c.tc : Thread Cert.KernelDh2.nD Cert.KernelDh2.τ).loc Cert.KernelDh2.main_arg0) = m ((c.tc : Thread Cert.KernelDh2.nD Cert.KernelDh2.τ).loc Cert.KernelDh2.main_arg0)
      ∧ r.2.mem ((c.tc : Thread Cert.KernelDh2.nD Cert.KernelDh2.τ).loc Cert.KernelDh2.main_arg1) = m ((c.tc : Thread Cert.KernelDh2.nD Cert.KernelDh2.τ).loc Cert.KernelDh2.main_arg1)
      ∧ r.2.mem ((c.tc : Thread Cert.KernelDh2.nD Cert.KernelDh2.τ).loc Cert.KernelDh2.main_arg2) = m ((c.tc : Thread Cert.KernelDh2.nD Cert.KernelDh2.τ).loc Cert.KernelDh2.main_arg2)
      ∧ r.2.mem ((c.tc : Thread Cert.KernelDh2.nD Cert.KernelDh2.τ).loc Cert.KernelDh2.main_arg3) = m ((c.tc : Thread Cert.KernelDh2.nD Cert.KernelDh2.τ).loc Cert.KernelDh2.main_arg3)
      ∧ r.2.mem ((c.tc : Thread Cert.KernelDh2.nD Cert.KernelDh2.τ).loc Cert.KernelDh2.main_arg4) = m ((c.tc : Thread Cert.KernelDh2.nD Cert.KernelDh2.τ).loc Cert.KernelDh2.main_arg4))
      ∧ r.2.sem = fun _ => 0)

def quiescent_KernelDh2Ideal [hKernelDh2Ideal : Cert.KernelDh2Ideal.Facts] : Prop :=
  ∀ (m : (ℓ : Loc Cert.KernelDh2Ideal.nD Cert.KernelDh2Ideal.τ Cert.KernelDh2Ideal.sig) → Buf (Elt Ideal) ℓ) (g : Dev Cert.KernelDh2Ideal.nD → PrngReg), Pre_KernelDh2Ideal m →
    θ_run (Cert.KernelDh2Ideal.defs (F := Ideal)) (onTc (τ := Cert.KernelDh2Ideal.τ) (Cert.KernelDh2Ideal.main (F := Ideal))) ⟨m, fun _ => 0, g⟩ (fun r => (∀ c : Dev Cert.KernelDh2Ideal.nD,
      r.2.mem ((c.tc : Thread Cert.KernelDh2Ideal.nD Cert.KernelDh2Ideal.τ).loc Cert.KernelDh2Ideal.main_arg0) = m ((c.tc : Thread Cert.KernelDh2Ideal.nD Cert.KernelDh2Ideal.τ).loc Cert.KernelDh2Ideal.main_arg0)
      ∧ r.2.mem ((c.tc : Thread Cert.KernelDh2Ideal.nD Cert.KernelDh2Ideal.τ).loc Cert.KernelDh2Ideal.main_arg1) = m ((c.tc : Thread Cert.KernelDh2Ideal.nD Cert.KernelDh2Ideal.τ).loc Cert.KernelDh2Ideal.main_arg1)
      ∧ r.2.mem ((c.tc : Thread Cert.KernelDh2Ideal.nD Cert.KernelDh2Ideal.τ).loc Cert.KernelDh2Ideal.main_arg2) = m ((c.tc : Thread Cert.KernelDh2Ideal.nD Cert.KernelDh2Ideal.τ).loc Cert.KernelDh2Ideal.main_arg2)
      ∧ r.2.mem ((c.tc : Thread Cert.KernelDh2Ideal.nD Cert.KernelDh2Ideal.τ).loc Cert.KernelDh2Ideal.main_arg3) = m ((c.tc : Thread Cert.KernelDh2Ideal.nD Cert.KernelDh2Ideal.τ).loc Cert.KernelDh2Ideal.main_arg3)
      ∧ r.2.mem ((c.tc : Thread Cert.KernelDh2Ideal.nD Cert.KernelDh2Ideal.τ).loc Cert.KernelDh2Ideal.main_arg4) = m ((c.tc : Thread Cert.KernelDh2Ideal.nD Cert.KernelDh2Ideal.τ).loc Cert.KernelDh2Ideal.main_arg4))
      ∧ r.2.sem = fun _ => 0)

def quiescent_KernelDh2Ideal_pre_finite_dh2 [hKernelDh2Ideal : Cert.KernelDh2Ideal.Facts] [hPre_finite_dh2 : Cert.Pre_finite_dh2.Facts] : Prop :=
  ∀ (m : (ℓ : Loc Cert.KernelDh2Ideal.nD Cert.KernelDh2Ideal.τ Cert.KernelDh2Ideal.sig) → Buf (Elt Ideal) ℓ) (g : Dev Cert.KernelDh2Ideal.nD → PrngReg), Pre_KernelDh2Ideal_finite_dh2 m →
    θ_run (Cert.KernelDh2Ideal.defs (F := Ideal)) (onTc (τ := Cert.KernelDh2Ideal.τ) (Cert.KernelDh2Ideal.main (F := Ideal))) ⟨m, fun _ => 0, g⟩ (fun r => (∀ c : Dev Cert.KernelDh2Ideal.nD,
      r.2.mem ((c.tc : Thread Cert.KernelDh2Ideal.nD Cert.KernelDh2Ideal.τ).loc Cert.KernelDh2Ideal.main_arg0) = m ((c.tc : Thread Cert.KernelDh2Ideal.nD Cert.KernelDh2Ideal.τ).loc Cert.KernelDh2Ideal.main_arg0)
      ∧ r.2.mem ((c.tc : Thread Cert.KernelDh2Ideal.nD Cert.KernelDh2Ideal.τ).loc Cert.KernelDh2Ideal.main_arg1) = m ((c.tc : Thread Cert.KernelDh2Ideal.nD Cert.KernelDh2Ideal.τ).loc Cert.KernelDh2Ideal.main_arg1)
      ∧ r.2.mem ((c.tc : Thread Cert.KernelDh2Ideal.nD Cert.KernelDh2Ideal.τ).loc Cert.KernelDh2Ideal.main_arg2) = m ((c.tc : Thread Cert.KernelDh2Ideal.nD Cert.KernelDh2Ideal.τ).loc Cert.KernelDh2Ideal.main_arg2)
      ∧ r.2.mem ((c.tc : Thread Cert.KernelDh2Ideal.nD Cert.KernelDh2Ideal.τ).loc Cert.KernelDh2Ideal.main_arg3) = m ((c.tc : Thread Cert.KernelDh2Ideal.nD Cert.KernelDh2Ideal.τ).loc Cert.KernelDh2Ideal.main_arg3)
      ∧ r.2.mem ((c.tc : Thread Cert.KernelDh2Ideal.nD Cert.KernelDh2Ideal.τ).loc Cert.KernelDh2Ideal.main_arg4) = m ((c.tc : Thread Cert.KernelDh2Ideal.nD Cert.KernelDh2Ideal.τ).loc Cert.KernelDh2Ideal.main_arg4))
      ∧ r.2.sem = fun _ => 0)

def quiescent_ReferenceDh2Ideal [hReferenceDh2Ideal : Cert.ReferenceDh2Ideal.Facts] : Prop :=
  ∀ (m : (ℓ : Loc Cert.ReferenceDh2Ideal.nD Cert.ReferenceDh2Ideal.τ Cert.ReferenceDh2Ideal.sig) → Buf (Elt Ideal) ℓ) (g : Dev Cert.ReferenceDh2Ideal.nD → PrngReg), Pre_ReferenceDh2Ideal m →
    θ_run (Cert.ReferenceDh2Ideal.defs (F := Ideal)) (onTc (τ := Cert.ReferenceDh2Ideal.τ) (Cert.ReferenceDh2Ideal.main (F := Ideal))) ⟨m, fun _ => 0, g⟩ (fun r => (∀ c : Dev Cert.ReferenceDh2Ideal.nD,
      r.2.mem ((c.tc : Thread Cert.ReferenceDh2Ideal.nD Cert.ReferenceDh2Ideal.τ).loc Cert.ReferenceDh2Ideal.main_arg0) = m ((c.tc : Thread Cert.ReferenceDh2Ideal.nD Cert.ReferenceDh2Ideal.τ).loc Cert.ReferenceDh2Ideal.main_arg0)
      ∧ r.2.mem ((c.tc : Thread Cert.ReferenceDh2Ideal.nD Cert.ReferenceDh2Ideal.τ).loc Cert.ReferenceDh2Ideal.main_arg1) = m ((c.tc : Thread Cert.ReferenceDh2Ideal.nD Cert.ReferenceDh2Ideal.τ).loc Cert.ReferenceDh2Ideal.main_arg1)
      ∧ r.2.mem ((c.tc : Thread Cert.ReferenceDh2Ideal.nD Cert.ReferenceDh2Ideal.τ).loc Cert.ReferenceDh2Ideal.main_arg2) = m ((c.tc : Thread Cert.ReferenceDh2Ideal.nD Cert.ReferenceDh2Ideal.τ).loc Cert.ReferenceDh2Ideal.main_arg2)
      ∧ r.2.mem ((c.tc : Thread Cert.ReferenceDh2Ideal.nD Cert.ReferenceDh2Ideal.τ).loc Cert.ReferenceDh2Ideal.main_arg3) = m ((c.tc : Thread Cert.ReferenceDh2Ideal.nD Cert.ReferenceDh2Ideal.τ).loc Cert.ReferenceDh2Ideal.main_arg3)
      ∧ r.2.mem ((c.tc : Thread Cert.ReferenceDh2Ideal.nD Cert.ReferenceDh2Ideal.τ).loc Cert.ReferenceDh2Ideal.main_arg4) = m ((c.tc : Thread Cert.ReferenceDh2Ideal.nD Cert.ReferenceDh2Ideal.τ).loc Cert.ReferenceDh2Ideal.main_arg4))
      ∧ r.2.sem = fun _ => 0)

def quiescent_ReferenceDh2Ideal_pre_finite_dh2 [hReferenceDh2Ideal : Cert.ReferenceDh2Ideal.Facts] [hPre_finite_dh2 : Cert.Pre_finite_dh2.Facts] : Prop :=
  ∀ (m : (ℓ : Loc Cert.ReferenceDh2Ideal.nD Cert.ReferenceDh2Ideal.τ Cert.ReferenceDh2Ideal.sig) → Buf (Elt Ideal) ℓ) (g : Dev Cert.ReferenceDh2Ideal.nD → PrngReg), Pre_ReferenceDh2Ideal_finite_dh2 m →
    θ_run (Cert.ReferenceDh2Ideal.defs (F := Ideal)) (onTc (τ := Cert.ReferenceDh2Ideal.τ) (Cert.ReferenceDh2Ideal.main (F := Ideal))) ⟨m, fun _ => 0, g⟩ (fun r => (∀ c : Dev Cert.ReferenceDh2Ideal.nD,
      r.2.mem ((c.tc : Thread Cert.ReferenceDh2Ideal.nD Cert.ReferenceDh2Ideal.τ).loc Cert.ReferenceDh2Ideal.main_arg0) = m ((c.tc : Thread Cert.ReferenceDh2Ideal.nD Cert.ReferenceDh2Ideal.τ).loc Cert.ReferenceDh2Ideal.main_arg0)
      ∧ r.2.mem ((c.tc : Thread Cert.ReferenceDh2Ideal.nD Cert.ReferenceDh2Ideal.τ).loc Cert.ReferenceDh2Ideal.main_arg1) = m ((c.tc : Thread Cert.ReferenceDh2Ideal.nD Cert.ReferenceDh2Ideal.τ).loc Cert.ReferenceDh2Ideal.main_arg1)
      ∧ r.2.mem ((c.tc : Thread Cert.ReferenceDh2Ideal.nD Cert.ReferenceDh2Ideal.τ).loc Cert.ReferenceDh2Ideal.main_arg2) = m ((c.tc : Thread Cert.ReferenceDh2Ideal.nD Cert.ReferenceDh2Ideal.τ).loc Cert.ReferenceDh2Ideal.main_arg2)
      ∧ r.2.mem ((c.tc : Thread Cert.ReferenceDh2Ideal.nD Cert.ReferenceDh2Ideal.τ).loc Cert.ReferenceDh2Ideal.main_arg3) = m ((c.tc : Thread Cert.ReferenceDh2Ideal.nD Cert.ReferenceDh2Ideal.τ).loc Cert.ReferenceDh2Ideal.main_arg3)
      ∧ r.2.mem ((c.tc : Thread Cert.ReferenceDh2Ideal.nD Cert.ReferenceDh2Ideal.τ).loc Cert.ReferenceDh2Ideal.main_arg4) = m ((c.tc : Thread Cert.ReferenceDh2Ideal.nD Cert.ReferenceDh2Ideal.τ).loc Cert.ReferenceDh2Ideal.main_arg4))
      ∧ r.2.sem = fun _ => 0)

def quiescent_KernelDmg [hKernelDmg : Cert.KernelDmg.Facts] : Prop :=
  ∀ (m : (ℓ : Loc Cert.KernelDmg.nD Cert.KernelDmg.τ Cert.KernelDmg.sig) → Buf (Elt Bits) ℓ) (g : Dev Cert.KernelDmg.nD → PrngReg), Pre_KernelDmg m →
    θ_run (Cert.KernelDmg.defs (F := Bits)) (onTc (τ := Cert.KernelDmg.τ) (Cert.KernelDmg.main (F := Bits))) ⟨m, fun _ => 0, g⟩ (fun r => (∀ c : Dev Cert.KernelDmg.nD,
      r.2.mem ((c.tc : Thread Cert.KernelDmg.nD Cert.KernelDmg.τ).loc Cert.KernelDmg.main_arg0) = m ((c.tc : Thread Cert.KernelDmg.nD Cert.KernelDmg.τ).loc Cert.KernelDmg.main_arg0)
      ∧ r.2.mem ((c.tc : Thread Cert.KernelDmg.nD Cert.KernelDmg.τ).loc Cert.KernelDmg.main_arg1) = m ((c.tc : Thread Cert.KernelDmg.nD Cert.KernelDmg.τ).loc Cert.KernelDmg.main_arg1)
      ∧ r.2.mem ((c.tc : Thread Cert.KernelDmg.nD Cert.KernelDmg.τ).loc Cert.KernelDmg.main_arg2) = m ((c.tc : Thread Cert.KernelDmg.nD Cert.KernelDmg.τ).loc Cert.KernelDmg.main_arg2)
      ∧ r.2.mem ((c.tc : Thread Cert.KernelDmg.nD Cert.KernelDmg.τ).loc Cert.KernelDmg.main_arg3) = m ((c.tc : Thread Cert.KernelDmg.nD Cert.KernelDmg.τ).loc Cert.KernelDmg.main_arg3)
      ∧ r.2.mem ((c.tc : Thread Cert.KernelDmg.nD Cert.KernelDmg.τ).loc Cert.KernelDmg.main_arg4) = m ((c.tc : Thread Cert.KernelDmg.nD Cert.KernelDmg.τ).loc Cert.KernelDmg.main_arg4)
      ∧ r.2.mem ((c.tc : Thread Cert.KernelDmg.nD Cert.KernelDmg.τ).loc Cert.KernelDmg.main_arg5) = m ((c.tc : Thread Cert.KernelDmg.nD Cert.KernelDmg.τ).loc Cert.KernelDmg.main_arg5))
      ∧ r.2.sem = fun _ => 0)

def quiescent_KernelDmgIdeal [hKernelDmgIdeal : Cert.KernelDmgIdeal.Facts] : Prop :=
  ∀ (m : (ℓ : Loc Cert.KernelDmgIdeal.nD Cert.KernelDmgIdeal.τ Cert.KernelDmgIdeal.sig) → Buf (Elt Ideal) ℓ) (g : Dev Cert.KernelDmgIdeal.nD → PrngReg), Pre_KernelDmgIdeal m →
    θ_run (Cert.KernelDmgIdeal.defs (F := Ideal)) (onTc (τ := Cert.KernelDmgIdeal.τ) (Cert.KernelDmgIdeal.main (F := Ideal))) ⟨m, fun _ => 0, g⟩ (fun r => (∀ c : Dev Cert.KernelDmgIdeal.nD,
      r.2.mem ((c.tc : Thread Cert.KernelDmgIdeal.nD Cert.KernelDmgIdeal.τ).loc Cert.KernelDmgIdeal.main_arg0) = m ((c.tc : Thread Cert.KernelDmgIdeal.nD Cert.KernelDmgIdeal.τ).loc Cert.KernelDmgIdeal.main_arg0)
      ∧ r.2.mem ((c.tc : Thread Cert.KernelDmgIdeal.nD Cert.KernelDmgIdeal.τ).loc Cert.KernelDmgIdeal.main_arg1) = m ((c.tc : Thread Cert.KernelDmgIdeal.nD Cert.KernelDmgIdeal.τ).loc Cert.KernelDmgIdeal.main_arg1)
      ∧ r.2.mem ((c.tc : Thread Cert.KernelDmgIdeal.nD Cert.KernelDmgIdeal.τ).loc Cert.KernelDmgIdeal.main_arg2) = m ((c.tc : Thread Cert.KernelDmgIdeal.nD Cert.KernelDmgIdeal.τ).loc Cert.KernelDmgIdeal.main_arg2)
      ∧ r.2.mem ((c.tc : Thread Cert.KernelDmgIdeal.nD Cert.KernelDmgIdeal.τ).loc Cert.KernelDmgIdeal.main_arg3) = m ((c.tc : Thread Cert.KernelDmgIdeal.nD Cert.KernelDmgIdeal.τ).loc Cert.KernelDmgIdeal.main_arg3)
      ∧ r.2.mem ((c.tc : Thread Cert.KernelDmgIdeal.nD Cert.KernelDmgIdeal.τ).loc Cert.KernelDmgIdeal.main_arg4) = m ((c.tc : Thread Cert.KernelDmgIdeal.nD Cert.KernelDmgIdeal.τ).loc Cert.KernelDmgIdeal.main_arg4)
      ∧ r.2.mem ((c.tc : Thread Cert.KernelDmgIdeal.nD Cert.KernelDmgIdeal.τ).loc Cert.KernelDmgIdeal.main_arg5) = m ((c.tc : Thread Cert.KernelDmgIdeal.nD Cert.KernelDmgIdeal.τ).loc Cert.KernelDmgIdeal.main_arg5))
      ∧ r.2.sem = fun _ => 0)

def quiescent_KernelDmgIdeal_pre_finite_dmg [hKernelDmgIdeal : Cert.KernelDmgIdeal.Facts] [hPre_finite_dmg : Cert.Pre_finite_dmg.Facts] : Prop :=
  ∀ (m : (ℓ : Loc Cert.KernelDmgIdeal.nD Cert.KernelDmgIdeal.τ Cert.KernelDmgIdeal.sig) → Buf (Elt Ideal) ℓ) (g : Dev Cert.KernelDmgIdeal.nD → PrngReg), Pre_KernelDmgIdeal_finite_dmg m →
    θ_run (Cert.KernelDmgIdeal.defs (F := Ideal)) (onTc (τ := Cert.KernelDmgIdeal.τ) (Cert.KernelDmgIdeal.main (F := Ideal))) ⟨m, fun _ => 0, g⟩ (fun r => (∀ c : Dev Cert.KernelDmgIdeal.nD,
      r.2.mem ((c.tc : Thread Cert.KernelDmgIdeal.nD Cert.KernelDmgIdeal.τ).loc Cert.KernelDmgIdeal.main_arg0) = m ((c.tc : Thread Cert.KernelDmgIdeal.nD Cert.KernelDmgIdeal.τ).loc Cert.KernelDmgIdeal.main_arg0)
      ∧ r.2.mem ((c.tc : Thread Cert.KernelDmgIdeal.nD Cert.KernelDmgIdeal.τ).loc Cert.KernelDmgIdeal.main_arg1) = m ((c.tc : Thread Cert.KernelDmgIdeal.nD Cert.KernelDmgIdeal.τ).loc Cert.KernelDmgIdeal.main_arg1)
      ∧ r.2.mem ((c.tc : Thread Cert.KernelDmgIdeal.nD Cert.KernelDmgIdeal.τ).loc Cert.KernelDmgIdeal.main_arg2) = m ((c.tc : Thread Cert.KernelDmgIdeal.nD Cert.KernelDmgIdeal.τ).loc Cert.KernelDmgIdeal.main_arg2)
      ∧ r.2.mem ((c.tc : Thread Cert.KernelDmgIdeal.nD Cert.KernelDmgIdeal.τ).loc Cert.KernelDmgIdeal.main_arg3) = m ((c.tc : Thread Cert.KernelDmgIdeal.nD Cert.KernelDmgIdeal.τ).loc Cert.KernelDmgIdeal.main_arg3)
      ∧ r.2.mem ((c.tc : Thread Cert.KernelDmgIdeal.nD Cert.KernelDmgIdeal.τ).loc Cert.KernelDmgIdeal.main_arg4) = m ((c.tc : Thread Cert.KernelDmgIdeal.nD Cert.KernelDmgIdeal.τ).loc Cert.KernelDmgIdeal.main_arg4)
      ∧ r.2.mem ((c.tc : Thread Cert.KernelDmgIdeal.nD Cert.KernelDmgIdeal.τ).loc Cert.KernelDmgIdeal.main_arg5) = m ((c.tc : Thread Cert.KernelDmgIdeal.nD Cert.KernelDmgIdeal.τ).loc Cert.KernelDmgIdeal.main_arg5))
      ∧ r.2.sem = fun _ => 0)

def quiescent_ReferenceDmgIdeal [hReferenceDmgIdeal : Cert.ReferenceDmgIdeal.Facts] : Prop :=
  ∀ (m : (ℓ : Loc Cert.ReferenceDmgIdeal.nD Cert.ReferenceDmgIdeal.τ Cert.ReferenceDmgIdeal.sig) → Buf (Elt Ideal) ℓ) (g : Dev Cert.ReferenceDmgIdeal.nD → PrngReg), Pre_ReferenceDmgIdeal m →
    θ_run (Cert.ReferenceDmgIdeal.defs (F := Ideal)) (onTc (τ := Cert.ReferenceDmgIdeal.τ) (Cert.ReferenceDmgIdeal.main (F := Ideal))) ⟨m, fun _ => 0, g⟩ (fun r => (∀ c : Dev Cert.ReferenceDmgIdeal.nD,
      r.2.mem ((c.tc : Thread Cert.ReferenceDmgIdeal.nD Cert.ReferenceDmgIdeal.τ).loc Cert.ReferenceDmgIdeal.main_arg0) = m ((c.tc : Thread Cert.ReferenceDmgIdeal.nD Cert.ReferenceDmgIdeal.τ).loc Cert.ReferenceDmgIdeal.main_arg0)
      ∧ r.2.mem ((c.tc : Thread Cert.ReferenceDmgIdeal.nD Cert.ReferenceDmgIdeal.τ).loc Cert.ReferenceDmgIdeal.main_arg1) = m ((c.tc : Thread Cert.ReferenceDmgIdeal.nD Cert.ReferenceDmgIdeal.τ).loc Cert.ReferenceDmgIdeal.main_arg1)
      ∧ r.2.mem ((c.tc : Thread Cert.ReferenceDmgIdeal.nD Cert.ReferenceDmgIdeal.τ).loc Cert.ReferenceDmgIdeal.main_arg2) = m ((c.tc : Thread Cert.ReferenceDmgIdeal.nD Cert.ReferenceDmgIdeal.τ).loc Cert.ReferenceDmgIdeal.main_arg2)
      ∧ r.2.mem ((c.tc : Thread Cert.ReferenceDmgIdeal.nD Cert.ReferenceDmgIdeal.τ).loc Cert.ReferenceDmgIdeal.main_arg3) = m ((c.tc : Thread Cert.ReferenceDmgIdeal.nD Cert.ReferenceDmgIdeal.τ).loc Cert.ReferenceDmgIdeal.main_arg3)
      ∧ r.2.mem ((c.tc : Thread Cert.ReferenceDmgIdeal.nD Cert.ReferenceDmgIdeal.τ).loc Cert.ReferenceDmgIdeal.main_arg4) = m ((c.tc : Thread Cert.ReferenceDmgIdeal.nD Cert.ReferenceDmgIdeal.τ).loc Cert.ReferenceDmgIdeal.main_arg4)
      ∧ r.2.mem ((c.tc : Thread Cert.ReferenceDmgIdeal.nD Cert.ReferenceDmgIdeal.τ).loc Cert.ReferenceDmgIdeal.main_arg5) = m ((c.tc : Thread Cert.ReferenceDmgIdeal.nD Cert.ReferenceDmgIdeal.τ).loc Cert.ReferenceDmgIdeal.main_arg5))
      ∧ r.2.sem = fun _ => 0)

def quiescent_ReferenceDmgIdeal_pre_finite_dmg [hReferenceDmgIdeal : Cert.ReferenceDmgIdeal.Facts] [hPre_finite_dmg : Cert.Pre_finite_dmg.Facts] : Prop :=
  ∀ (m : (ℓ : Loc Cert.ReferenceDmgIdeal.nD Cert.ReferenceDmgIdeal.τ Cert.ReferenceDmgIdeal.sig) → Buf (Elt Ideal) ℓ) (g : Dev Cert.ReferenceDmgIdeal.nD → PrngReg), Pre_ReferenceDmgIdeal_finite_dmg m →
    θ_run (Cert.ReferenceDmgIdeal.defs (F := Ideal)) (onTc (τ := Cert.ReferenceDmgIdeal.τ) (Cert.ReferenceDmgIdeal.main (F := Ideal))) ⟨m, fun _ => 0, g⟩ (fun r => (∀ c : Dev Cert.ReferenceDmgIdeal.nD,
      r.2.mem ((c.tc : Thread Cert.ReferenceDmgIdeal.nD Cert.ReferenceDmgIdeal.τ).loc Cert.ReferenceDmgIdeal.main_arg0) = m ((c.tc : Thread Cert.ReferenceDmgIdeal.nD Cert.ReferenceDmgIdeal.τ).loc Cert.ReferenceDmgIdeal.main_arg0)
      ∧ r.2.mem ((c.tc : Thread Cert.ReferenceDmgIdeal.nD Cert.ReferenceDmgIdeal.τ).loc Cert.ReferenceDmgIdeal.main_arg1) = m ((c.tc : Thread Cert.ReferenceDmgIdeal.nD Cert.ReferenceDmgIdeal.τ).loc Cert.ReferenceDmgIdeal.main_arg1)
      ∧ r.2.mem ((c.tc : Thread Cert.ReferenceDmgIdeal.nD Cert.ReferenceDmgIdeal.τ).loc Cert.ReferenceDmgIdeal.main_arg2) = m ((c.tc : Thread Cert.ReferenceDmgIdeal.nD Cert.ReferenceDmgIdeal.τ).loc Cert.ReferenceDmgIdeal.main_arg2)
      ∧ r.2.mem ((c.tc : Thread Cert.ReferenceDmgIdeal.nD Cert.ReferenceDmgIdeal.τ).loc Cert.ReferenceDmgIdeal.main_arg3) = m ((c.tc : Thread Cert.ReferenceDmgIdeal.nD Cert.ReferenceDmgIdeal.τ).loc Cert.ReferenceDmgIdeal.main_arg3)
      ∧ r.2.mem ((c.tc : Thread Cert.ReferenceDmgIdeal.nD Cert.ReferenceDmgIdeal.τ).loc Cert.ReferenceDmgIdeal.main_arg4) = m ((c.tc : Thread Cert.ReferenceDmgIdeal.nD Cert.ReferenceDmgIdeal.τ).loc Cert.ReferenceDmgIdeal.main_arg4)
      ∧ r.2.mem ((c.tc : Thread Cert.ReferenceDmgIdeal.nD Cert.ReferenceDmgIdeal.τ).loc Cert.ReferenceDmgIdeal.main_arg5) = m ((c.tc : Thread Cert.ReferenceDmgIdeal.nD Cert.ReferenceDmgIdeal.τ).loc Cert.ReferenceDmgIdeal.main_arg5))
      ∧ r.2.sem = fun _ => 0)

def quiescent_KernelPool [hKernelPool : Cert.KernelPool.Facts] : Prop :=
  ∀ (m : (ℓ : Loc Cert.KernelPool.nD Cert.KernelPool.τ Cert.KernelPool.sig) → Buf (Elt Bits) ℓ) (g : Dev Cert.KernelPool.nD → PrngReg), Pre_KernelPool m →
    θ_run (Cert.KernelPool.defs (F := Bits)) (onTc (τ := Cert.KernelPool.τ) (Cert.KernelPool.main (F := Bits))) ⟨m, fun _ => 0, g⟩ (fun r => (∀ c : Dev Cert.KernelPool.nD,
      r.2.mem ((c.tc : Thread Cert.KernelPool.nD Cert.KernelPool.τ).loc Cert.KernelPool.main_arg0) = m ((c.tc : Thread Cert.KernelPool.nD Cert.KernelPool.τ).loc Cert.KernelPool.main_arg0)
      ∧ r.2.mem ((c.tc : Thread Cert.KernelPool.nD Cert.KernelPool.τ).loc Cert.KernelPool.main_arg1) = m ((c.tc : Thread Cert.KernelPool.nD Cert.KernelPool.τ).loc Cert.KernelPool.main_arg1)
      ∧ r.2.mem ((c.tc : Thread Cert.KernelPool.nD Cert.KernelPool.τ).loc Cert.KernelPool.main_arg2) = m ((c.tc : Thread Cert.KernelPool.nD Cert.KernelPool.τ).loc Cert.KernelPool.main_arg2)
      ∧ r.2.mem ((c.tc : Thread Cert.KernelPool.nD Cert.KernelPool.τ).loc Cert.KernelPool.main_arg3) = m ((c.tc : Thread Cert.KernelPool.nD Cert.KernelPool.τ).loc Cert.KernelPool.main_arg3))
      ∧ r.2.sem = fun _ => 0)

def quiescent_KernelPoolIdeal [hKernelPoolIdeal : Cert.KernelPoolIdeal.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg), Pre_KernelPoolIdeal m →
    θ_run (Cert.KernelPoolIdeal.defs (F := Ideal)) (onTc (τ := Cert.KernelPoolIdeal.τ) (Cert.KernelPoolIdeal.main (F := Ideal))) ⟨m, fun _ => 0, g⟩ (fun r => (∀ c : Dev Cert.KernelPoolIdeal.nD,
      r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
      ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
      ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2)
      ∧ r.2.mem ((c.tc : Thread Cert.KernelPoolIdeal.nD Cert.KernelPoolIdeal.τ).loc Cert.KernelPoolIdeal.main_arg3) = m ((c.tc : Thread Cert.KernelPoolIdeal.nD Cert.KernelPoolIdeal.τ).loc Cert.KernelPoolIdeal.main_arg3))
      ∧ r.2.sem = fun _ => 0)

def quiescent_KernelPoolIdeal_pre_finite_pool [hKernelPoolIdeal : Cert.KernelPoolIdeal.Facts] [hPre_finite_pool : Cert.Pre_finite_pool.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg), Pre_KernelPoolIdeal_finite_pool m →
    θ_run (Cert.KernelPoolIdeal.defs (F := Ideal)) (onTc (τ := Cert.KernelPoolIdeal.τ) (Cert.KernelPoolIdeal.main (F := Ideal))) ⟨m, fun _ => 0, g⟩ (fun r => (∀ c : Dev Cert.KernelPoolIdeal.nD,
      r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
      ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
      ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2)
      ∧ r.2.mem ((c.tc : Thread Cert.KernelPoolIdeal.nD Cert.KernelPoolIdeal.τ).loc Cert.KernelPoolIdeal.main_arg3) = m ((c.tc : Thread Cert.KernelPoolIdeal.nD Cert.KernelPoolIdeal.τ).loc Cert.KernelPoolIdeal.main_arg3))
      ∧ r.2.sem = fun _ => 0)

def quiescent_ReferencePoolIdeal [hReferencePoolIdeal : Cert.ReferencePoolIdeal.Facts] : Prop :=
  ∀ (m : (ℓ : Loc Cert.ReferencePoolIdeal.nD Cert.ReferencePoolIdeal.τ Cert.ReferencePoolIdeal.sig) → Buf (Elt Ideal) ℓ) (g : Dev Cert.ReferencePoolIdeal.nD → PrngReg), Pre_ReferencePoolIdeal m →
    θ_run (Cert.ReferencePoolIdeal.defs (F := Ideal)) (onTc (τ := Cert.ReferencePoolIdeal.τ) (Cert.ReferencePoolIdeal.main (F := Ideal))) ⟨m, fun _ => 0, g⟩ (fun r => (∀ c : Dev Cert.ReferencePoolIdeal.nD,
      r.2.mem ((c.tc : Thread Cert.ReferencePoolIdeal.nD Cert.ReferencePoolIdeal.τ).loc Cert.ReferencePoolIdeal.main_arg0) = m ((c.tc : Thread Cert.ReferencePoolIdeal.nD Cert.ReferencePoolIdeal.τ).loc Cert.ReferencePoolIdeal.main_arg0)
      ∧ r.2.mem ((c.tc : Thread Cert.ReferencePoolIdeal.nD Cert.ReferencePoolIdeal.τ).loc Cert.ReferencePoolIdeal.main_arg1) = m ((c.tc : Thread Cert.ReferencePoolIdeal.nD Cert.ReferencePoolIdeal.τ).loc Cert.ReferencePoolIdeal.main_arg1)
      ∧ r.2.mem ((c.tc : Thread Cert.ReferencePoolIdeal.nD Cert.ReferencePoolIdeal.τ).loc Cert.ReferencePoolIdeal.main_arg2) = m ((c.tc : Thread Cert.ReferencePoolIdeal.nD Cert.ReferencePoolIdeal.τ).loc Cert.ReferencePoolIdeal.main_arg2)
      ∧ r.2.mem ((c.tc : Thread Cert.ReferencePoolIdeal.nD Cert.ReferencePoolIdeal.τ).loc Cert.ReferencePoolIdeal.main_arg3) = m ((c.tc : Thread Cert.ReferencePoolIdeal.nD Cert.ReferencePoolIdeal.τ).loc Cert.ReferencePoolIdeal.main_arg3))
      ∧ r.2.sem = fun _ => 0)

def quiescent_ReferencePoolIdeal_pre_finite_pool [hReferencePoolIdeal : Cert.ReferencePoolIdeal.Facts] [hPre_finite_pool : Cert.Pre_finite_pool.Facts] : Prop :=
  ∀ (m : (ℓ : Loc Cert.ReferencePoolIdeal.nD Cert.ReferencePoolIdeal.τ Cert.ReferencePoolIdeal.sig) → Buf (Elt Ideal) ℓ) (g : Dev Cert.ReferencePoolIdeal.nD → PrngReg), Pre_ReferencePoolIdeal_finite_pool m →
    θ_run (Cert.ReferencePoolIdeal.defs (F := Ideal)) (onTc (τ := Cert.ReferencePoolIdeal.τ) (Cert.ReferencePoolIdeal.main (F := Ideal))) ⟨m, fun _ => 0, g⟩ (fun r => (∀ c : Dev Cert.ReferencePoolIdeal.nD,
      r.2.mem ((c.tc : Thread Cert.ReferencePoolIdeal.nD Cert.ReferencePoolIdeal.τ).loc Cert.ReferencePoolIdeal.main_arg0) = m ((c.tc : Thread Cert.ReferencePoolIdeal.nD Cert.ReferencePoolIdeal.τ).loc Cert.ReferencePoolIdeal.main_arg0)
      ∧ r.2.mem ((c.tc : Thread Cert.ReferencePoolIdeal.nD Cert.ReferencePoolIdeal.τ).loc Cert.ReferencePoolIdeal.main_arg1) = m ((c.tc : Thread Cert.ReferencePoolIdeal.nD Cert.ReferencePoolIdeal.τ).loc Cert.ReferencePoolIdeal.main_arg1)
      ∧ r.2.mem ((c.tc : Thread Cert.ReferencePoolIdeal.nD Cert.ReferencePoolIdeal.τ).loc Cert.ReferencePoolIdeal.main_arg2) = m ((c.tc : Thread Cert.ReferencePoolIdeal.nD Cert.ReferencePoolIdeal.τ).loc Cert.ReferencePoolIdeal.main_arg2)
      ∧ r.2.mem ((c.tc : Thread Cert.ReferencePoolIdeal.nD Cert.ReferencePoolIdeal.τ).loc Cert.ReferencePoolIdeal.main_arg3) = m ((c.tc : Thread Cert.ReferencePoolIdeal.nD Cert.ReferencePoolIdeal.τ).loc Cert.ReferencePoolIdeal.main_arg3))
      ∧ r.2.sem = fun _ => 0)

def quiescent_KernelSwa [hKernelSwa : Cert.KernelSwa.Facts] : Prop :=
  ∀ (m : (ℓ : Loc Cert.KernelSwa.nD Cert.KernelSwa.τ Cert.KernelSwa.sig) → Buf (Elt Bits) ℓ) (g : Dev Cert.KernelSwa.nD → PrngReg), Pre_KernelSwa m →
    θ_run (Cert.KernelSwa.defs (F := Bits)) (onTc (τ := Cert.KernelSwa.τ) (Cert.KernelSwa.main (F := Bits))) ⟨m, fun _ => 0, g⟩ (fun r => (∀ c : Dev Cert.KernelSwa.nD,
      r.2.mem ((c.tc : Thread Cert.KernelSwa.nD Cert.KernelSwa.τ).loc Cert.KernelSwa.main_arg0) = m ((c.tc : Thread Cert.KernelSwa.nD Cert.KernelSwa.τ).loc Cert.KernelSwa.main_arg0)
      ∧ r.2.mem ((c.tc : Thread Cert.KernelSwa.nD Cert.KernelSwa.τ).loc Cert.KernelSwa.main_arg1) = m ((c.tc : Thread Cert.KernelSwa.nD Cert.KernelSwa.τ).loc Cert.KernelSwa.main_arg1)
      ∧ r.2.mem ((c.tc : Thread Cert.KernelSwa.nD Cert.KernelSwa.τ).loc Cert.KernelSwa.main_arg2) = m ((c.tc : Thread Cert.KernelSwa.nD Cert.KernelSwa.τ).loc Cert.KernelSwa.main_arg2)
      ∧ r.2.mem ((c.tc : Thread Cert.KernelSwa.nD Cert.KernelSwa.τ).loc Cert.KernelSwa.main_arg3) = m ((c.tc : Thread Cert.KernelSwa.nD Cert.KernelSwa.τ).loc Cert.KernelSwa.main_arg3)
      ∧ r.2.mem ((c.tc : Thread Cert.KernelSwa.nD Cert.KernelSwa.τ).loc Cert.KernelSwa.main_arg4) = m ((c.tc : Thread Cert.KernelSwa.nD Cert.KernelSwa.τ).loc Cert.KernelSwa.main_arg4))
      ∧ r.2.sem = fun _ => 0)

def quiescent_KernelSwaIdeal [hKernelSwaIdeal : Cert.KernelSwaIdeal.Facts] : Prop :=
  ∀ (m : (ℓ : Loc Cert.KernelSwaIdeal.nD Cert.KernelSwaIdeal.τ Cert.KernelSwaIdeal.sig) → Buf (Elt Ideal) ℓ) (g : Dev Cert.KernelSwaIdeal.nD → PrngReg), Pre_KernelSwaIdeal m →
    θ_run (Cert.KernelSwaIdeal.defs (F := Ideal)) (onTc (τ := Cert.KernelSwaIdeal.τ) (Cert.KernelSwaIdeal.main (F := Ideal))) ⟨m, fun _ => 0, g⟩ (fun r => (∀ c : Dev Cert.KernelSwaIdeal.nD,
      r.2.mem ((c.tc : Thread Cert.KernelSwaIdeal.nD Cert.KernelSwaIdeal.τ).loc Cert.KernelSwaIdeal.main_arg0) = m ((c.tc : Thread Cert.KernelSwaIdeal.nD Cert.KernelSwaIdeal.τ).loc Cert.KernelSwaIdeal.main_arg0)
      ∧ r.2.mem ((c.tc : Thread Cert.KernelSwaIdeal.nD Cert.KernelSwaIdeal.τ).loc Cert.KernelSwaIdeal.main_arg1) = m ((c.tc : Thread Cert.KernelSwaIdeal.nD Cert.KernelSwaIdeal.τ).loc Cert.KernelSwaIdeal.main_arg1)
      ∧ r.2.mem ((c.tc : Thread Cert.KernelSwaIdeal.nD Cert.KernelSwaIdeal.τ).loc Cert.KernelSwaIdeal.main_arg2) = m ((c.tc : Thread Cert.KernelSwaIdeal.nD Cert.KernelSwaIdeal.τ).loc Cert.KernelSwaIdeal.main_arg2)
      ∧ r.2.mem ((c.tc : Thread Cert.KernelSwaIdeal.nD Cert.KernelSwaIdeal.τ).loc Cert.KernelSwaIdeal.main_arg3) = m ((c.tc : Thread Cert.KernelSwaIdeal.nD Cert.KernelSwaIdeal.τ).loc Cert.KernelSwaIdeal.main_arg3)
      ∧ r.2.mem ((c.tc : Thread Cert.KernelSwaIdeal.nD Cert.KernelSwaIdeal.τ).loc Cert.KernelSwaIdeal.main_arg4) = m ((c.tc : Thread Cert.KernelSwaIdeal.nD Cert.KernelSwaIdeal.τ).loc Cert.KernelSwaIdeal.main_arg4))
      ∧ r.2.sem = fun _ => 0)

def quiescent_KernelSwaIdeal_pre_finite_swa [hKernelSwaIdeal : Cert.KernelSwaIdeal.Facts] [hPre_finite_swa : Cert.Pre_finite_swa.Facts] : Prop :=
  ∀ (m : (ℓ : Loc Cert.KernelSwaIdeal.nD Cert.KernelSwaIdeal.τ Cert.KernelSwaIdeal.sig) → Buf (Elt Ideal) ℓ) (g : Dev Cert.KernelSwaIdeal.nD → PrngReg), Pre_KernelSwaIdeal_finite_swa m →
    θ_run (Cert.KernelSwaIdeal.defs (F := Ideal)) (onTc (τ := Cert.KernelSwaIdeal.τ) (Cert.KernelSwaIdeal.main (F := Ideal))) ⟨m, fun _ => 0, g⟩ (fun r => (∀ c : Dev Cert.KernelSwaIdeal.nD,
      r.2.mem ((c.tc : Thread Cert.KernelSwaIdeal.nD Cert.KernelSwaIdeal.τ).loc Cert.KernelSwaIdeal.main_arg0) = m ((c.tc : Thread Cert.KernelSwaIdeal.nD Cert.KernelSwaIdeal.τ).loc Cert.KernelSwaIdeal.main_arg0)
      ∧ r.2.mem ((c.tc : Thread Cert.KernelSwaIdeal.nD Cert.KernelSwaIdeal.τ).loc Cert.KernelSwaIdeal.main_arg1) = m ((c.tc : Thread Cert.KernelSwaIdeal.nD Cert.KernelSwaIdeal.τ).loc Cert.KernelSwaIdeal.main_arg1)
      ∧ r.2.mem ((c.tc : Thread Cert.KernelSwaIdeal.nD Cert.KernelSwaIdeal.τ).loc Cert.KernelSwaIdeal.main_arg2) = m ((c.tc : Thread Cert.KernelSwaIdeal.nD Cert.KernelSwaIdeal.τ).loc Cert.KernelSwaIdeal.main_arg2)
      ∧ r.2.mem ((c.tc : Thread Cert.KernelSwaIdeal.nD Cert.KernelSwaIdeal.τ).loc Cert.KernelSwaIdeal.main_arg3) = m ((c.tc : Thread Cert.KernelSwaIdeal.nD Cert.KernelSwaIdeal.τ).loc Cert.KernelSwaIdeal.main_arg3)
      ∧ r.2.mem ((c.tc : Thread Cert.KernelSwaIdeal.nD Cert.KernelSwaIdeal.τ).loc Cert.KernelSwaIdeal.main_arg4) = m ((c.tc : Thread Cert.KernelSwaIdeal.nD Cert.KernelSwaIdeal.τ).loc Cert.KernelSwaIdeal.main_arg4))
      ∧ r.2.sem = fun _ => 0)

def quiescent_ReferenceSwaIdeal [hReferenceSwaIdeal : Cert.ReferenceSwaIdeal.Facts] : Prop :=
  ∀ (m : (ℓ : Loc Cert.ReferenceSwaIdeal.nD Cert.ReferenceSwaIdeal.τ Cert.ReferenceSwaIdeal.sig) → Buf (Elt Ideal) ℓ) (g : Dev Cert.ReferenceSwaIdeal.nD → PrngReg), Pre_ReferenceSwaIdeal m →
    θ_run (Cert.ReferenceSwaIdeal.defs (F := Ideal)) (onTc (τ := Cert.ReferenceSwaIdeal.τ) (Cert.ReferenceSwaIdeal.main (F := Ideal))) ⟨m, fun _ => 0, g⟩ (fun r => (∀ c : Dev Cert.ReferenceSwaIdeal.nD,
      r.2.mem ((c.tc : Thread Cert.ReferenceSwaIdeal.nD Cert.ReferenceSwaIdeal.τ).loc Cert.ReferenceSwaIdeal.main_arg0) = m ((c.tc : Thread Cert.ReferenceSwaIdeal.nD Cert.ReferenceSwaIdeal.τ).loc Cert.ReferenceSwaIdeal.main_arg0)
      ∧ r.2.mem ((c.tc : Thread Cert.ReferenceSwaIdeal.nD Cert.ReferenceSwaIdeal.τ).loc Cert.ReferenceSwaIdeal.main_arg1) = m ((c.tc : Thread Cert.ReferenceSwaIdeal.nD Cert.ReferenceSwaIdeal.τ).loc Cert.ReferenceSwaIdeal.main_arg1)
      ∧ r.2.mem ((c.tc : Thread Cert.ReferenceSwaIdeal.nD Cert.ReferenceSwaIdeal.τ).loc Cert.ReferenceSwaIdeal.main_arg2) = m ((c.tc : Thread Cert.ReferenceSwaIdeal.nD Cert.ReferenceSwaIdeal.τ).loc Cert.ReferenceSwaIdeal.main_arg2)
      ∧ r.2.mem ((c.tc : Thread Cert.ReferenceSwaIdeal.nD Cert.ReferenceSwaIdeal.τ).loc Cert.ReferenceSwaIdeal.main_arg3) = m ((c.tc : Thread Cert.ReferenceSwaIdeal.nD Cert.ReferenceSwaIdeal.τ).loc Cert.ReferenceSwaIdeal.main_arg3)
      ∧ r.2.mem ((c.tc : Thread Cert.ReferenceSwaIdeal.nD Cert.ReferenceSwaIdeal.τ).loc Cert.ReferenceSwaIdeal.main_arg4) = m ((c.tc : Thread Cert.ReferenceSwaIdeal.nD Cert.ReferenceSwaIdeal.τ).loc Cert.ReferenceSwaIdeal.main_arg4))
      ∧ r.2.sem = fun _ => 0)

def quiescent_ReferenceSwaIdeal_pre_finite_swa [hReferenceSwaIdeal : Cert.ReferenceSwaIdeal.Facts] [hPre_finite_swa : Cert.Pre_finite_swa.Facts] : Prop :=
  ∀ (m : (ℓ : Loc Cert.ReferenceSwaIdeal.nD Cert.ReferenceSwaIdeal.τ Cert.ReferenceSwaIdeal.sig) → Buf (Elt Ideal) ℓ) (g : Dev Cert.ReferenceSwaIdeal.nD → PrngReg), Pre_ReferenceSwaIdeal_finite_swa m →
    θ_run (Cert.ReferenceSwaIdeal.defs (F := Ideal)) (onTc (τ := Cert.ReferenceSwaIdeal.τ) (Cert.ReferenceSwaIdeal.main (F := Ideal))) ⟨m, fun _ => 0, g⟩ (fun r => (∀ c : Dev Cert.ReferenceSwaIdeal.nD,
      r.2.mem ((c.tc : Thread Cert.ReferenceSwaIdeal.nD Cert.ReferenceSwaIdeal.τ).loc Cert.ReferenceSwaIdeal.main_arg0) = m ((c.tc : Thread Cert.ReferenceSwaIdeal.nD Cert.ReferenceSwaIdeal.τ).loc Cert.ReferenceSwaIdeal.main_arg0)
      ∧ r.2.mem ((c.tc : Thread Cert.ReferenceSwaIdeal.nD Cert.ReferenceSwaIdeal.τ).loc Cert.ReferenceSwaIdeal.main_arg1) = m ((c.tc : Thread Cert.ReferenceSwaIdeal.nD Cert.ReferenceSwaIdeal.τ).loc Cert.ReferenceSwaIdeal.main_arg1)
      ∧ r.2.mem ((c.tc : Thread Cert.ReferenceSwaIdeal.nD Cert.ReferenceSwaIdeal.τ).loc Cert.ReferenceSwaIdeal.main_arg2) = m ((c.tc : Thread Cert.ReferenceSwaIdeal.nD Cert.ReferenceSwaIdeal.τ).loc Cert.ReferenceSwaIdeal.main_arg2)
      ∧ r.2.mem ((c.tc : Thread Cert.ReferenceSwaIdeal.nD Cert.ReferenceSwaIdeal.τ).loc Cert.ReferenceSwaIdeal.main_arg3) = m ((c.tc : Thread Cert.ReferenceSwaIdeal.nD Cert.ReferenceSwaIdeal.τ).loc Cert.ReferenceSwaIdeal.main_arg3)
      ∧ r.2.mem ((c.tc : Thread Cert.ReferenceSwaIdeal.nD Cert.ReferenceSwaIdeal.τ).loc Cert.ReferenceSwaIdeal.main_arg4) = m ((c.tc : Thread Cert.ReferenceSwaIdeal.nD Cert.ReferenceSwaIdeal.τ).loc Cert.ReferenceSwaIdeal.main_arg4))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2))
      ∧ r.2.sem = fun _ => 0)

def quiescent_KernelXattnF [hKernelXattnF : Cert.KernelXattnF.Facts] : Prop :=
  ∀ (m : (ℓ : Loc Cert.KernelXattnF.nD Cert.KernelXattnF.τ Cert.KernelXattnF.sig) → Buf (Elt Bits) ℓ) (g : Dev Cert.KernelXattnF.nD → PrngReg), Pre_KernelXattnF m →
    θ_run (Cert.KernelXattnF.defs (F := Bits)) (onTc (τ := Cert.KernelXattnF.τ) (Cert.KernelXattnF.main (F := Bits))) ⟨m, fun _ => 0, g⟩ (fun r => (∀ c : Dev Cert.KernelXattnF.nD,
      r.2.mem ((c.tc : Thread Cert.KernelXattnF.nD Cert.KernelXattnF.τ).loc Cert.KernelXattnF.main_arg0) = m ((c.tc : Thread Cert.KernelXattnF.nD Cert.KernelXattnF.τ).loc Cert.KernelXattnF.main_arg0)
      ∧ r.2.mem ((c.tc : Thread Cert.KernelXattnF.nD Cert.KernelXattnF.τ).loc Cert.KernelXattnF.main_arg1) = m ((c.tc : Thread Cert.KernelXattnF.nD Cert.KernelXattnF.τ).loc Cert.KernelXattnF.main_arg1))
      ∧ r.2.sem = fun _ => 0)

def quiescent_KernelXattnFIdeal [hKernelXattnFIdeal : Cert.KernelXattnFIdeal.Facts] : Prop :=
  ∀ (m : (ℓ : Loc Cert.KernelXattnFIdeal.nD Cert.KernelXattnFIdeal.τ Cert.KernelXattnFIdeal.sig) → Buf (Elt Ideal) ℓ) (g : Dev Cert.KernelXattnFIdeal.nD → PrngReg), Pre_KernelXattnFIdeal m →
    θ_run (Cert.KernelXattnFIdeal.defs (F := Ideal)) (onTc (τ := Cert.KernelXattnFIdeal.τ) (Cert.KernelXattnFIdeal.main (F := Ideal))) ⟨m, fun _ => 0, g⟩ (fun r => (∀ c : Dev Cert.KernelXattnFIdeal.nD,
      r.2.mem ((c.tc : Thread Cert.KernelXattnFIdeal.nD Cert.KernelXattnFIdeal.τ).loc Cert.KernelXattnFIdeal.main_arg0) = m ((c.tc : Thread Cert.KernelXattnFIdeal.nD Cert.KernelXattnFIdeal.τ).loc Cert.KernelXattnFIdeal.main_arg0)
      ∧ r.2.mem ((c.tc : Thread Cert.KernelXattnFIdeal.nD Cert.KernelXattnFIdeal.τ).loc Cert.KernelXattnFIdeal.main_arg1) = m ((c.tc : Thread Cert.KernelXattnFIdeal.nD Cert.KernelXattnFIdeal.τ).loc Cert.KernelXattnFIdeal.main_arg1))
      ∧ r.2.sem = fun _ => 0)

def quiescent_ReferenceXattnFIdeal [hReferenceXattnFIdeal : Cert.ReferenceXattnFIdeal.Facts] : Prop :=
  ∀ (m : (ℓ : Loc Cert.ReferenceXattnFIdeal.nD Cert.ReferenceXattnFIdeal.τ Cert.ReferenceXattnFIdeal.sig) → Buf (Elt Ideal) ℓ) (g : Dev Cert.ReferenceXattnFIdeal.nD → PrngReg), Pre_ReferenceXattnFIdeal m →
    θ_run (Cert.ReferenceXattnFIdeal.defs (F := Ideal)) (onTc (τ := Cert.ReferenceXattnFIdeal.τ) (Cert.ReferenceXattnFIdeal.main (F := Ideal))) ⟨m, fun _ => 0, g⟩ (fun r => (∀ c : Dev Cert.ReferenceXattnFIdeal.nD,
      r.2.mem ((c.tc : Thread Cert.ReferenceXattnFIdeal.nD Cert.ReferenceXattnFIdeal.τ).loc Cert.ReferenceXattnFIdeal.main_arg0) = m ((c.tc : Thread Cert.ReferenceXattnFIdeal.nD Cert.ReferenceXattnFIdeal.τ).loc Cert.ReferenceXattnFIdeal.main_arg0)
      ∧ r.2.mem ((c.tc : Thread Cert.ReferenceXattnFIdeal.nD Cert.ReferenceXattnFIdeal.τ).loc Cert.ReferenceXattnFIdeal.main_arg1) = m ((c.tc : Thread Cert.ReferenceXattnFIdeal.nD Cert.ReferenceXattnFIdeal.τ).loc Cert.ReferenceXattnFIdeal.main_arg1))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2))
      ∧ r.2.sem = fun _ => 0)

def quiescent_KernelRmsF [hKernelRmsF : Cert.KernelRmsF.Facts] : Prop :=
  ∀ (m : (ℓ : Loc Cert.KernelRmsF.nD Cert.KernelRmsF.τ Cert.KernelRmsF.sig) → Buf (Elt Bits) ℓ) (g : Dev Cert.KernelRmsF.nD → PrngReg), Pre_KernelRmsF m →
    θ_run (Cert.KernelRmsF.defs (F := Bits)) (onTc (τ := Cert.KernelRmsF.τ) (Cert.KernelRmsF.main (F := Bits))) ⟨m, fun _ => 0, g⟩ (fun r => (∀ c : Dev Cert.KernelRmsF.nD,
      r.2.mem ((c.tc : Thread Cert.KernelRmsF.nD Cert.KernelRmsF.τ).loc Cert.KernelRmsF.main_arg0) = m ((c.tc : Thread Cert.KernelRmsF.nD Cert.KernelRmsF.τ).loc Cert.KernelRmsF.main_arg0)
      ∧ r.2.mem ((c.tc : Thread Cert.KernelRmsF.nD Cert.KernelRmsF.τ).loc Cert.KernelRmsF.main_arg1) = m ((c.tc : Thread Cert.KernelRmsF.nD Cert.KernelRmsF.τ).loc Cert.KernelRmsF.main_arg1))
      ∧ r.2.sem = fun _ => 0)

def quiescent_KernelRmsFIdeal [hKernelRmsFIdeal : Cert.KernelRmsFIdeal.Facts] : Prop :=
  ∀ (m : (ℓ : Loc Cert.KernelRmsFIdeal.nD Cert.KernelRmsFIdeal.τ Cert.KernelRmsFIdeal.sig) → Buf (Elt Ideal) ℓ) (g : Dev Cert.KernelRmsFIdeal.nD → PrngReg), Pre_KernelRmsFIdeal m →
    θ_run (Cert.KernelRmsFIdeal.defs (F := Ideal)) (onTc (τ := Cert.KernelRmsFIdeal.τ) (Cert.KernelRmsFIdeal.main (F := Ideal))) ⟨m, fun _ => 0, g⟩ (fun r => (∀ c : Dev Cert.KernelRmsFIdeal.nD,
      r.2.mem ((c.tc : Thread Cert.KernelRmsFIdeal.nD Cert.KernelRmsFIdeal.τ).loc Cert.KernelRmsFIdeal.main_arg0) = m ((c.tc : Thread Cert.KernelRmsFIdeal.nD Cert.KernelRmsFIdeal.τ).loc Cert.KernelRmsFIdeal.main_arg0)
      ∧ r.2.mem ((c.tc : Thread Cert.KernelRmsFIdeal.nD Cert.KernelRmsFIdeal.τ).loc Cert.KernelRmsFIdeal.main_arg1) = m ((c.tc : Thread Cert.KernelRmsFIdeal.nD Cert.KernelRmsFIdeal.τ).loc Cert.KernelRmsFIdeal.main_arg1))
      ∧ r.2.sem = fun _ => 0)

def quiescent_ReferenceRmsFIdeal [hReferenceRmsFIdeal : Cert.ReferenceRmsFIdeal.Facts] : Prop :=
  ∀ (m : (ℓ : Loc Cert.ReferenceRmsFIdeal.nD Cert.ReferenceRmsFIdeal.τ Cert.ReferenceRmsFIdeal.sig) → Buf (Elt Ideal) ℓ) (g : Dev Cert.ReferenceRmsFIdeal.nD → PrngReg), Pre_ReferenceRmsFIdeal m →
    θ_run (Cert.ReferenceRmsFIdeal.defs (F := Ideal)) (onTc (τ := Cert.ReferenceRmsFIdeal.τ) (Cert.ReferenceRmsFIdeal.main (F := Ideal))) ⟨m, fun _ => 0, g⟩ (fun r => (∀ c : Dev Cert.ReferenceRmsFIdeal.nD,
      r.2.mem ((c.tc : Thread Cert.ReferenceRmsFIdeal.nD Cert.ReferenceRmsFIdeal.τ).loc Cert.ReferenceRmsFIdeal.main_arg0) = m ((c.tc : Thread Cert.ReferenceRmsFIdeal.nD Cert.ReferenceRmsFIdeal.τ).loc Cert.ReferenceRmsFIdeal.main_arg0)
      ∧ r.2.mem ((c.tc : Thread Cert.ReferenceRmsFIdeal.nD Cert.ReferenceRmsFIdeal.τ).loc Cert.ReferenceRmsFIdeal.main_arg1) = m ((c.tc : Thread Cert.ReferenceRmsFIdeal.nD Cert.ReferenceRmsFIdeal.τ).loc Cert.ReferenceRmsFIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3))
      ∧ r.2.sem = fun _ => 0)

def preserves_KernelXattn_KernelXattnIdeal : Prop :=
  True

def algebraic_KernelXattnIdeal_ReferenceXattnIdeal_pre_finite_xattn [hKernelXattnIdeal : Cert.KernelXattnIdeal.Facts] [hReferenceXattnIdeal : Cert.ReferenceXattnIdeal.Facts] [hPre_finite_xattn : Cert.Pre_finite_xattn.Facts] : Prop :=
  ∀ (m : (ℓ : Loc Cert.KernelXattnIdeal.nD Cert.KernelXattnIdeal.τ Cert.KernelXattnIdeal.sig) → Buf (Elt Ideal) ℓ) (g : Dev Cert.KernelXattnIdeal.nD → PrngReg)
    (m' : (ℓ : Loc Cert.ReferenceXattnIdeal.nD Cert.ReferenceXattnIdeal.τ Cert.ReferenceXattnIdeal.sig) → Buf (Elt Ideal) ℓ) (g' : Dev Cert.ReferenceXattnIdeal.nD → PrngReg), Pre_KernelXattnIdeal_finite_xattn m →
    (∀ c : Dev Cert.KernelXattnIdeal.nD,
      m' ((c.tc : Thread Cert.ReferenceXattnIdeal.nD Cert.ReferenceXattnIdeal.τ).loc Cert.ReferenceXattnIdeal.main_arg0) = m ((c.tc : Thread Cert.KernelXattnIdeal.nD Cert.KernelXattnIdeal.τ).loc Cert.KernelXattnIdeal.main_arg0)
      ∧ m' ((c.tc : Thread Cert.ReferenceXattnIdeal.nD Cert.ReferenceXattnIdeal.τ).loc Cert.ReferenceXattnIdeal.main_arg1) = m ((c.tc : Thread Cert.KernelXattnIdeal.nD Cert.KernelXattnIdeal.τ).loc Cert.KernelXattnIdeal.main_arg1)
      ∧ m' ((c.tc : Thread Cert.ReferenceXattnIdeal.nD Cert.ReferenceXattnIdeal.τ).loc Cert.ReferenceXattnIdeal.main_arg2) = m ((c.tc : Thread Cert.KernelXattnIdeal.nD Cert.KernelXattnIdeal.τ).loc Cert.KernelXattnIdeal.main_arg2)) →
    ∃ (v0 : (c : Dev Cert.KernelXattnIdeal.nD) → Buf (Elt Ideal) ((c.tc : Thread Cert.KernelXattnIdeal.nD Cert.KernelXattnIdeal.τ).loc Cert.KernelXattnIdeal.main_v3_0)) (v1 : (c : Dev Cert.KernelXattnIdeal.nD) → Buf (Elt Ideal) ((c.tc : Thread Cert.KernelXattnIdeal.nD Cert.KernelXattnIdeal.τ).loc Cert.KernelXattnIdeal.main_v3_1)),
      θ_run (Cert.KernelXattnIdeal.defs (F := Ideal)) (onTc (τ := Cert.KernelXattnIdeal.τ) (Cert.KernelXattnIdeal.main (F := Ideal))) ⟨m, fun _ => 0, g⟩ (fun r => ∀ c : Dev Cert.KernelXattnIdeal.nD,
          r.2.mem ((c.tc : Thread Cert.KernelXattnIdeal.nD Cert.KernelXattnIdeal.τ).loc Cert.KernelXattnIdeal.main_v3_0) = v0 c
          ∧ r.2.mem ((c.tc : Thread Cert.KernelXattnIdeal.nD Cert.KernelXattnIdeal.τ).loc Cert.KernelXattnIdeal.main_v3_1) = v1 c
          ∧ r.2.mem ((c.tc : Thread Cert.KernelXattnIdeal.nD Cert.KernelXattnIdeal.τ).loc Cert.KernelXattnIdeal.main_arg0) = m ((c.tc : Thread Cert.KernelXattnIdeal.nD Cert.KernelXattnIdeal.τ).loc Cert.KernelXattnIdeal.main_arg0)
          ∧ r.2.mem ((c.tc : Thread Cert.KernelXattnIdeal.nD Cert.KernelXattnIdeal.τ).loc Cert.KernelXattnIdeal.main_arg1) = m ((c.tc : Thread Cert.KernelXattnIdeal.nD Cert.KernelXattnIdeal.τ).loc Cert.KernelXattnIdeal.main_arg1)
          ∧ r.2.mem ((c.tc : Thread Cert.KernelXattnIdeal.nD Cert.KernelXattnIdeal.τ).loc Cert.KernelXattnIdeal.main_arg2) = m ((c.tc : Thread Cert.KernelXattnIdeal.nD Cert.KernelXattnIdeal.τ).loc Cert.KernelXattnIdeal.main_arg2))
      ∧ θ_run (Cert.ReferenceXattnIdeal.defs (F := Ideal)) (onTc (τ := Cert.ReferenceXattnIdeal.τ) (Cert.ReferenceXattnIdeal.main (F := Ideal))) ⟨m', fun _ => 0, g'⟩ (fun r => ∀ c : Dev Cert.ReferenceXattnIdeal.nD,
          r.2.mem ((c.tc : Thread Cert.ReferenceXattnIdeal.nD Cert.ReferenceXattnIdeal.τ).loc Cert.ReferenceXattnIdeal.main_v70) = v0 c
          ∧ r.2.mem ((c.tc : Thread Cert.ReferenceXattnIdeal.nD Cert.ReferenceXattnIdeal.τ).loc Cert.ReferenceXattnIdeal.main_v68) = v1 c
          ∧ r.2.mem ((c.tc : Thread Cert.ReferenceXattnIdeal.nD Cert.ReferenceXattnIdeal.τ).loc Cert.ReferenceXattnIdeal.main_arg0) = m' ((c.tc : Thread Cert.ReferenceXattnIdeal.nD Cert.ReferenceXattnIdeal.τ).loc Cert.ReferenceXattnIdeal.main_arg0)
          ∧ r.2.mem ((c.tc : Thread Cert.ReferenceXattnIdeal.nD Cert.ReferenceXattnIdeal.τ).loc Cert.ReferenceXattnIdeal.main_arg1) = m' ((c.tc : Thread Cert.ReferenceXattnIdeal.nD Cert.ReferenceXattnIdeal.τ).loc Cert.ReferenceXattnIdeal.main_arg1)
          ∧ r.2.mem ((c.tc : Thread Cert.ReferenceXattnIdeal.nD Cert.ReferenceXattnIdeal.τ).loc Cert.ReferenceXattnIdeal.main_arg2) = m' ((c.tc : Thread Cert.ReferenceXattnIdeal.nD Cert.ReferenceXattnIdeal.τ).loc Cert.ReferenceXattnIdeal.main_arg2))

def preserves_KernelRms_KernelRmsIdeal : Prop :=
  True

def algebraic_KernelRmsIdeal_ReferenceRmsIdeal_pre_finite_rms [hKernelRmsIdeal : Cert.KernelRmsIdeal.Facts] [hReferenceRmsIdeal : Cert.ReferenceRmsIdeal.Facts] [hPre_finite_rms : Cert.Pre_finite_rms.Facts] : Prop :=
  ∀ (m : (ℓ : Loc Cert.KernelRmsIdeal.nD Cert.KernelRmsIdeal.τ Cert.KernelRmsIdeal.sig) → Buf (Elt Ideal) ℓ) (g : Dev Cert.KernelRmsIdeal.nD → PrngReg)
    (m' : (ℓ : Loc Cert.ReferenceRmsIdeal.nD Cert.ReferenceRmsIdeal.τ Cert.ReferenceRmsIdeal.sig) → Buf (Elt Ideal) ℓ) (g' : Dev Cert.ReferenceRmsIdeal.nD → PrngReg), Pre_KernelRmsIdeal_finite_rms m →
    (∀ c : Dev Cert.KernelRmsIdeal.nD,
      m' ((c.tc : Thread Cert.ReferenceRmsIdeal.nD Cert.ReferenceRmsIdeal.τ).loc Cert.ReferenceRmsIdeal.main_arg0) = m ((c.tc : Thread Cert.KernelRmsIdeal.nD Cert.KernelRmsIdeal.τ).loc Cert.KernelRmsIdeal.main_arg0)
      ∧ m' ((c.tc : Thread Cert.ReferenceRmsIdeal.nD Cert.ReferenceRmsIdeal.τ).loc Cert.ReferenceRmsIdeal.main_arg1) = m ((c.tc : Thread Cert.KernelRmsIdeal.nD Cert.KernelRmsIdeal.τ).loc Cert.KernelRmsIdeal.main_arg1)
      ∧ m' ((c.tc : Thread Cert.ReferenceRmsIdeal.nD Cert.ReferenceRmsIdeal.τ).loc Cert.ReferenceRmsIdeal.main_arg2) = m ((c.tc : Thread Cert.KernelRmsIdeal.nD Cert.KernelRmsIdeal.τ).loc Cert.KernelRmsIdeal.main_arg2)) →
    ∃ (v0 : (c : Dev Cert.KernelRmsIdeal.nD) → Buf (Elt Ideal) ((c.tc : Thread Cert.KernelRmsIdeal.nD Cert.KernelRmsIdeal.τ).loc Cert.KernelRmsIdeal.main_v1_0)) (v1 : (c : Dev Cert.KernelRmsIdeal.nD) → Buf (Elt Ideal) ((c.tc : Thread Cert.KernelRmsIdeal.nD Cert.KernelRmsIdeal.τ).loc Cert.KernelRmsIdeal.main_v1_1)),
      θ_run (Cert.KernelRmsIdeal.defs (F := Ideal)) (onTc (τ := Cert.KernelRmsIdeal.τ) (Cert.KernelRmsIdeal.main (F := Ideal))) ⟨m, fun _ => 0, g⟩ (fun r => ∀ c : Dev Cert.KernelRmsIdeal.nD,
          r.2.mem ((c.tc : Thread Cert.KernelRmsIdeal.nD Cert.KernelRmsIdeal.τ).loc Cert.KernelRmsIdeal.main_v1_0) = v0 c
          ∧ r.2.mem ((c.tc : Thread Cert.KernelRmsIdeal.nD Cert.KernelRmsIdeal.τ).loc Cert.KernelRmsIdeal.main_v1_1) = v1 c
          ∧ r.2.mem ((c.tc : Thread Cert.KernelRmsIdeal.nD Cert.KernelRmsIdeal.τ).loc Cert.KernelRmsIdeal.main_arg0) = m ((c.tc : Thread Cert.KernelRmsIdeal.nD Cert.KernelRmsIdeal.τ).loc Cert.KernelRmsIdeal.main_arg0)
          ∧ r.2.mem ((c.tc : Thread Cert.KernelRmsIdeal.nD Cert.KernelRmsIdeal.τ).loc Cert.KernelRmsIdeal.main_arg1) = m ((c.tc : Thread Cert.KernelRmsIdeal.nD Cert.KernelRmsIdeal.τ).loc Cert.KernelRmsIdeal.main_arg1)
          ∧ r.2.mem ((c.tc : Thread Cert.KernelRmsIdeal.nD Cert.KernelRmsIdeal.τ).loc Cert.KernelRmsIdeal.main_arg2) = m ((c.tc : Thread Cert.KernelRmsIdeal.nD Cert.KernelRmsIdeal.τ).loc Cert.KernelRmsIdeal.main_arg2))
      ∧ θ_run (Cert.ReferenceRmsIdeal.defs (F := Ideal)) (onTc (τ := Cert.ReferenceRmsIdeal.τ) (Cert.ReferenceRmsIdeal.main (F := Ideal))) ⟨m', fun _ => 0, g'⟩ (fun r => ∀ c : Dev Cert.ReferenceRmsIdeal.nD,
          r.2.mem ((c.tc : Thread Cert.ReferenceRmsIdeal.nD Cert.ReferenceRmsIdeal.τ).loc Cert.ReferenceRmsIdeal.main_v35) = v0 c
          ∧ r.2.mem ((c.tc : Thread Cert.ReferenceRmsIdeal.nD Cert.ReferenceRmsIdeal.τ).loc Cert.ReferenceRmsIdeal.main_v36) = v1 c
          ∧ r.2.mem ((c.tc : Thread Cert.ReferenceRmsIdeal.nD Cert.ReferenceRmsIdeal.τ).loc Cert.ReferenceRmsIdeal.main_arg0) = m' ((c.tc : Thread Cert.ReferenceRmsIdeal.nD Cert.ReferenceRmsIdeal.τ).loc Cert.ReferenceRmsIdeal.main_arg0)
          ∧ r.2.mem ((c.tc : Thread Cert.ReferenceRmsIdeal.nD Cert.ReferenceRmsIdeal.τ).loc Cert.ReferenceRmsIdeal.main_arg1) = m' ((c.tc : Thread Cert.ReferenceRmsIdeal.nD Cert.ReferenceRmsIdeal.τ).loc Cert.ReferenceRmsIdeal.main_arg1)
          ∧ r.2.mem ((c.tc : Thread Cert.ReferenceRmsIdeal.nD Cert.ReferenceRmsIdeal.τ).loc Cert.ReferenceRmsIdeal.main_arg2) = m' ((c.tc : Thread Cert.ReferenceRmsIdeal.nD Cert.ReferenceRmsIdeal.τ).loc Cert.ReferenceRmsIdeal.main_arg2))

def preserves_KernelLoss_KernelLossIdeal : Prop :=
  True

def algebraic_KernelLossIdeal_ReferenceLossIdeal_pre_finite_loss [hKernelLossIdeal : Cert.KernelLossIdeal.Facts] [hReferenceLossIdeal : Cert.ReferenceLossIdeal.Facts] [hPre_finite_loss : Cert.Pre_finite_loss.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal_finite_loss m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)) →
    ∃ (v0 : (c : Dev Cert.KernelLossIdeal.nD) → Buf (Elt Ideal) ((c.tc : Thread Cert.KernelLossIdeal.nD Cert.KernelLossIdeal.τ).loc Cert.KernelLossIdeal.main_v1_0)) (v1 : (c : Dev Cert.KernelLossIdeal.nD) → Buf (Elt Ideal) ((c.tc : Thread Cert.KernelLossIdeal.nD Cert.KernelLossIdeal.τ).loc Cert.KernelLossIdeal.main_v1_1)) (v2 : (c : Dev Cert.KernelLossIdeal.nD) → Buf (Elt Ideal) ((c.tc : Thread Cert.KernelLossIdeal.nD Cert.KernelLossIdeal.τ).loc Cert.KernelLossIdeal.main_v1_2)) (v3 : (c : Dev Cert.KernelLossIdeal.nD) → Buf (Elt Ideal) ((c.tc : Thread Cert.KernelLossIdeal.nD Cert.KernelLossIdeal.τ).loc Cert.KernelLossIdeal.main_v1_3)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v1_0) = v0 c
          ∧ r.2.mem ((c.tc : Thread Cert.KernelLossIdeal.nD Cert.KernelLossIdeal.τ).loc Cert.KernelLossIdeal.main_v1_1) = v1 c
          ∧ r.2.mem ((c.tc : Thread Cert.KernelLossIdeal.nD Cert.KernelLossIdeal.τ).loc Cert.KernelLossIdeal.main_v1_2) = v2 c
          ∧ r.2.mem ((c.tc : Thread Cert.KernelLossIdeal.nD Cert.KernelLossIdeal.τ).loc Cert.KernelLossIdeal.main_v1_3) = v3 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v51) = v0 c
          ∧ r.2.mem ((c.tc : Thread Cert.ReferenceLossIdeal.nD Cert.ReferenceLossIdeal.τ).loc Cert.ReferenceLossIdeal.main_v50) = v1 c
          ∧ r.2.mem ((c.tc : Thread Cert.ReferenceLossIdeal.nD Cert.ReferenceLossIdeal.τ).loc Cert.ReferenceLossIdeal.main_v54) = v2 c
          ∧ r.2.mem ((c.tc : Thread Cert.ReferenceLossIdeal.nD Cert.ReferenceLossIdeal.τ).loc Cert.ReferenceLossIdeal.main_v55) = v3 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2))

def preserves_KernelMid_KernelMidIdeal : Prop :=
  True

def algebraic_KernelMidIdeal_ReferenceMidIdeal_pre_finite_mid [hKernelMidIdeal : Cert.KernelMidIdeal.Facts] [hReferenceMidIdeal : Cert.ReferenceMidIdeal.Facts] [hPre_finite_mid : Cert.Pre_finite_mid.Facts] : Prop :=
  ∀ (m : (ℓ : Loc Cert.KernelMidIdeal.nD Cert.KernelMidIdeal.τ Cert.KernelMidIdeal.sig) → Buf (Elt Ideal) ℓ) (g : Dev Cert.KernelMidIdeal.nD → PrngReg)
    (m' : (ℓ : Loc Cert.ReferenceMidIdeal.nD Cert.ReferenceMidIdeal.τ Cert.ReferenceMidIdeal.sig) → Buf (Elt Ideal) ℓ) (g' : Dev Cert.ReferenceMidIdeal.nD → PrngReg), Pre_KernelMidIdeal_finite_mid m →
    (∀ c : Dev Cert.KernelMidIdeal.nD,
      m' ((c.tc : Thread Cert.ReferenceMidIdeal.nD Cert.ReferenceMidIdeal.τ).loc Cert.ReferenceMidIdeal.main_arg0) = m ((c.tc : Thread Cert.KernelMidIdeal.nD Cert.KernelMidIdeal.τ).loc Cert.KernelMidIdeal.main_arg0)
      ∧ m' ((c.tc : Thread Cert.ReferenceMidIdeal.nD Cert.ReferenceMidIdeal.τ).loc Cert.ReferenceMidIdeal.main_arg1) = m ((c.tc : Thread Cert.KernelMidIdeal.nD Cert.KernelMidIdeal.τ).loc Cert.KernelMidIdeal.main_arg1)
      ∧ m' ((c.tc : Thread Cert.ReferenceMidIdeal.nD Cert.ReferenceMidIdeal.τ).loc Cert.ReferenceMidIdeal.main_arg2) = m ((c.tc : Thread Cert.KernelMidIdeal.nD Cert.KernelMidIdeal.τ).loc Cert.KernelMidIdeal.main_arg2)
      ∧ m' ((c.tc : Thread Cert.ReferenceMidIdeal.nD Cert.ReferenceMidIdeal.τ).loc Cert.ReferenceMidIdeal.main_arg3) = m ((c.tc : Thread Cert.KernelMidIdeal.nD Cert.KernelMidIdeal.τ).loc Cert.KernelMidIdeal.main_arg3)) →
    ∃ (v0 : (c : Dev Cert.KernelMidIdeal.nD) → Buf (Elt Ideal) ((c.tc : Thread Cert.KernelMidIdeal.nD Cert.KernelMidIdeal.τ).loc Cert.KernelMidIdeal.main_v4_0)) (v1 : (c : Dev Cert.KernelMidIdeal.nD) → Buf (Elt Ideal) ((c.tc : Thread Cert.KernelMidIdeal.nD Cert.KernelMidIdeal.τ).loc Cert.KernelMidIdeal.main_v4_1)),
      θ_run (Cert.KernelMidIdeal.defs (F := Ideal)) (onTc (τ := Cert.KernelMidIdeal.τ) (Cert.KernelMidIdeal.main (F := Ideal))) ⟨m, fun _ => 0, g⟩ (fun r => ∀ c : Dev Cert.KernelMidIdeal.nD,
          r.2.mem ((c.tc : Thread Cert.KernelMidIdeal.nD Cert.KernelMidIdeal.τ).loc Cert.KernelMidIdeal.main_v4_0) = v0 c
          ∧ r.2.mem ((c.tc : Thread Cert.KernelMidIdeal.nD Cert.KernelMidIdeal.τ).loc Cert.KernelMidIdeal.main_v4_1) = v1 c
          ∧ r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
          ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
          ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
          ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3))
      ∧ θ_run (Cert.ReferenceMidIdeal.defs (F := Ideal)) (onTc (τ := Cert.ReferenceMidIdeal.τ) (Cert.ReferenceMidIdeal.main (F := Ideal))) ⟨m', fun _ => 0, g'⟩ (fun r => ∀ c : Dev Cert.ReferenceMidIdeal.nD,
          r.2.mem ((c.tc : Thread Cert.ReferenceMidIdeal.nD Cert.ReferenceMidIdeal.τ).loc Cert.ReferenceMidIdeal.main_v7) = v0 c
          ∧ r.2.mem ((c.tc : Thread Cert.ReferenceMidIdeal.nD Cert.ReferenceMidIdeal.τ).loc Cert.ReferenceMidIdeal.main_v8) = v1 c
          ∧ r.2.mem ((c.tc : Thread Cert.ReferenceMidIdeal.nD Cert.ReferenceMidIdeal.τ).loc Cert.ReferenceMidIdeal.main_arg0) = m' ((c.tc : Thread Cert.ReferenceMidIdeal.nD Cert.ReferenceMidIdeal.τ).loc Cert.ReferenceMidIdeal.main_arg0)
          ∧ r.2.mem ((c.tc : Thread Cert.ReferenceMidIdeal.nD Cert.ReferenceMidIdeal.τ).loc Cert.ReferenceMidIdeal.main_arg1) = m' ((c.tc : Thread Cert.ReferenceMidIdeal.nD Cert.ReferenceMidIdeal.τ).loc Cert.ReferenceMidIdeal.main_arg1)
          ∧ r.2.mem ((c.tc : Thread Cert.ReferenceMidIdeal.nD Cert.ReferenceMidIdeal.τ).loc Cert.ReferenceMidIdeal.main_arg2) = m' ((c.tc : Thread Cert.ReferenceMidIdeal.nD Cert.ReferenceMidIdeal.τ).loc Cert.ReferenceMidIdeal.main_arg2)
          ∧ r.2.mem ((c.tc : Thread Cert.ReferenceMidIdeal.nD Cert.ReferenceMidIdeal.τ).loc Cert.ReferenceMidIdeal.main_arg3) = m' ((c.tc : Thread Cert.ReferenceMidIdeal.nD Cert.ReferenceMidIdeal.τ).loc Cert.ReferenceMidIdeal.main_arg3))

def preserves_KernelDh_KernelDhIdeal : Prop :=
  True

def algebraic_KernelDhIdeal_ReferenceDhIdeal_pre_finite_dh [hKernelDhIdeal : Cert.KernelDhIdeal.Facts] [hReferenceDhIdeal : Cert.ReferenceDhIdeal.Facts] [hPre_finite_dh : Cert.Pre_finite_dh.Facts] : Prop :=
  ∀ (m : (ℓ : Loc Cert.KernelDhIdeal.nD Cert.KernelDhIdeal.τ Cert.KernelDhIdeal.sig) → Buf (Elt Ideal) ℓ) (g : Dev Cert.KernelDhIdeal.nD → PrngReg)
    (m' : (ℓ : Loc Cert.ReferenceDhIdeal.nD Cert.ReferenceDhIdeal.τ Cert.ReferenceDhIdeal.sig) → Buf (Elt Ideal) ℓ) (g' : Dev Cert.ReferenceDhIdeal.nD → PrngReg), Pre_KernelDhIdeal_finite_dh m →
    (∀ c : Dev Cert.KernelDhIdeal.nD,
      m' ((c.tc : Thread Cert.ReferenceDhIdeal.nD Cert.ReferenceDhIdeal.τ).loc Cert.ReferenceDhIdeal.main_arg0) = m ((c.tc : Thread Cert.KernelDhIdeal.nD Cert.KernelDhIdeal.τ).loc Cert.KernelDhIdeal.main_arg0)
      ∧ m' ((c.tc : Thread Cert.ReferenceDhIdeal.nD Cert.ReferenceDhIdeal.τ).loc Cert.ReferenceDhIdeal.main_arg1) = m ((c.tc : Thread Cert.KernelDhIdeal.nD Cert.KernelDhIdeal.τ).loc Cert.KernelDhIdeal.main_arg1)
      ∧ m' ((c.tc : Thread Cert.ReferenceDhIdeal.nD Cert.ReferenceDhIdeal.τ).loc Cert.ReferenceDhIdeal.main_arg2) = m ((c.tc : Thread Cert.KernelDhIdeal.nD Cert.KernelDhIdeal.τ).loc Cert.KernelDhIdeal.main_arg2)
      ∧ m' ((c.tc : Thread Cert.ReferenceDhIdeal.nD Cert.ReferenceDhIdeal.τ).loc Cert.ReferenceDhIdeal.main_arg3) = m ((c.tc : Thread Cert.KernelDhIdeal.nD Cert.KernelDhIdeal.τ).loc Cert.KernelDhIdeal.main_arg3)
      ∧ m' ((c.tc : Thread Cert.ReferenceDhIdeal.nD Cert.ReferenceDhIdeal.τ).loc Cert.ReferenceDhIdeal.main_arg4) = m ((c.tc : Thread Cert.KernelDhIdeal.nD Cert.KernelDhIdeal.τ).loc Cert.KernelDhIdeal.main_arg4)
      ∧ m' ((c.tc : Thread Cert.ReferenceDhIdeal.nD Cert.ReferenceDhIdeal.τ).loc Cert.ReferenceDhIdeal.main_arg5) = m ((c.tc : Thread Cert.KernelDhIdeal.nD Cert.KernelDhIdeal.τ).loc Cert.KernelDhIdeal.main_arg5)
      ∧ m' ((c.tc : Thread Cert.ReferenceDhIdeal.nD Cert.ReferenceDhIdeal.τ).loc Cert.ReferenceDhIdeal.main_arg6) = m ((c.tc : Thread Cert.KernelDhIdeal.nD Cert.KernelDhIdeal.τ).loc Cert.KernelDhIdeal.main_arg6)) →
    ∃ (v0 : (c : Dev Cert.KernelDhIdeal.nD) → Buf (Elt Ideal) ((c.tc : Thread Cert.KernelDhIdeal.nD Cert.KernelDhIdeal.τ).loc Cert.KernelDhIdeal.main_v7_0)) (v1 : (c : Dev Cert.KernelDhIdeal.nD) → Buf (Elt Ideal) ((c.tc : Thread Cert.KernelDhIdeal.nD Cert.KernelDhIdeal.τ).loc Cert.KernelDhIdeal.main_v7_1)) (v2 : (c : Dev Cert.KernelDhIdeal.nD) → Buf (Elt Ideal) ((c.tc : Thread Cert.KernelDhIdeal.nD Cert.KernelDhIdeal.τ).loc Cert.KernelDhIdeal.main_v7_2)),
      θ_run (Cert.KernelDhIdeal.defs (F := Ideal)) (onTc (τ := Cert.KernelDhIdeal.τ) (Cert.KernelDhIdeal.main (F := Ideal))) ⟨m, fun _ => 0, g⟩ (fun r => ∀ c : Dev Cert.KernelDhIdeal.nD,
          r.2.mem ((c.tc : Thread Cert.KernelDhIdeal.nD Cert.KernelDhIdeal.τ).loc Cert.KernelDhIdeal.main_v7_0) = v0 c
          ∧ r.2.mem ((c.tc : Thread Cert.KernelDhIdeal.nD Cert.KernelDhIdeal.τ).loc Cert.KernelDhIdeal.main_v7_1) = v1 c
          ∧ r.2.mem ((c.tc : Thread Cert.KernelDhIdeal.nD Cert.KernelDhIdeal.τ).loc Cert.KernelDhIdeal.main_v7_2) = v2 c
          ∧ r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
          ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
          ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2)
          ∧ r.2.mem ((c.tc : Thread Cert.KernelDhIdeal.nD Cert.KernelDhIdeal.τ).loc Cert.KernelDhIdeal.main_arg3) = m ((c.tc : Thread Cert.KernelDhIdeal.nD Cert.KernelDhIdeal.τ).loc Cert.KernelDhIdeal.main_arg3)
          ∧ r.2.mem ((c.tc : Thread Cert.KernelDhIdeal.nD Cert.KernelDhIdeal.τ).loc Cert.KernelDhIdeal.main_arg4) = m ((c.tc : Thread Cert.KernelDhIdeal.nD Cert.KernelDhIdeal.τ).loc Cert.KernelDhIdeal.main_arg4)
          ∧ r.2.mem ((c.tc : Thread Cert.KernelDhIdeal.nD Cert.KernelDhIdeal.τ).loc Cert.KernelDhIdeal.main_arg5) = m ((c.tc : Thread Cert.KernelDhIdeal.nD Cert.KernelDhIdeal.τ).loc Cert.KernelDhIdeal.main_arg5)
          ∧ r.2.mem ((c.tc : Thread Cert.KernelDhIdeal.nD Cert.KernelDhIdeal.τ).loc Cert.KernelDhIdeal.main_arg6) = m ((c.tc : Thread Cert.KernelDhIdeal.nD Cert.KernelDhIdeal.τ).loc Cert.KernelDhIdeal.main_arg6))
      ∧ θ_run (Cert.ReferenceDhIdeal.defs (F := Ideal)) (onTc (τ := Cert.ReferenceDhIdeal.τ) (Cert.ReferenceDhIdeal.main (F := Ideal))) ⟨m', fun _ => 0, g'⟩ (fun r => ∀ c : Dev Cert.ReferenceDhIdeal.nD,
          r.2.mem ((c.tc : Thread Cert.ReferenceDhIdeal.nD Cert.ReferenceDhIdeal.τ).loc Cert.ReferenceDhIdeal.main_v41) = v0 c
          ∧ r.2.mem ((c.tc : Thread Cert.ReferenceDhIdeal.nD Cert.ReferenceDhIdeal.τ).loc Cert.ReferenceDhIdeal.main_v42) = v1 c
          ∧ r.2.mem ((c.tc : Thread Cert.ReferenceDhIdeal.nD Cert.ReferenceDhIdeal.τ).loc Cert.ReferenceDhIdeal.main_v45) = v2 c
          ∧ r.2.mem ((c.tc : Thread Cert.ReferenceDhIdeal.nD Cert.ReferenceDhIdeal.τ).loc Cert.ReferenceDhIdeal.main_arg0) = m' ((c.tc : Thread Cert.ReferenceDhIdeal.nD Cert.ReferenceDhIdeal.τ).loc Cert.ReferenceDhIdeal.main_arg0)
          ∧ r.2.mem ((c.tc : Thread Cert.ReferenceDhIdeal.nD Cert.ReferenceDhIdeal.τ).loc Cert.ReferenceDhIdeal.main_arg1) = m' ((c.tc : Thread Cert.ReferenceDhIdeal.nD Cert.ReferenceDhIdeal.τ).loc Cert.ReferenceDhIdeal.main_arg1)
          ∧ r.2.mem ((c.tc : Thread Cert.ReferenceDhIdeal.nD Cert.ReferenceDhIdeal.τ).loc Cert.ReferenceDhIdeal.main_arg2) = m' ((c.tc : Thread Cert.ReferenceDhIdeal.nD Cert.ReferenceDhIdeal.τ).loc Cert.ReferenceDhIdeal.main_arg2)
          ∧ r.2.mem ((c.tc : Thread Cert.ReferenceDhIdeal.nD Cert.ReferenceDhIdeal.τ).loc Cert.ReferenceDhIdeal.main_arg3) = m' ((c.tc : Thread Cert.ReferenceDhIdeal.nD Cert.ReferenceDhIdeal.τ).loc Cert.ReferenceDhIdeal.main_arg3)
          ∧ r.2.mem ((c.tc : Thread Cert.ReferenceDhIdeal.nD Cert.ReferenceDhIdeal.τ).loc Cert.ReferenceDhIdeal.main_arg4) = m' ((c.tc : Thread Cert.ReferenceDhIdeal.nD Cert.ReferenceDhIdeal.τ).loc Cert.ReferenceDhIdeal.main_arg4)
          ∧ r.2.mem ((c.tc : Thread Cert.ReferenceDhIdeal.nD Cert.ReferenceDhIdeal.τ).loc Cert.ReferenceDhIdeal.main_arg5) = m' ((c.tc : Thread Cert.ReferenceDhIdeal.nD Cert.ReferenceDhIdeal.τ).loc Cert.ReferenceDhIdeal.main_arg5)
          ∧ r.2.mem ((c.tc : Thread Cert.ReferenceDhIdeal.nD Cert.ReferenceDhIdeal.τ).loc Cert.ReferenceDhIdeal.main_arg6) = m' ((c.tc : Thread Cert.ReferenceDhIdeal.nD Cert.ReferenceDhIdeal.τ).loc Cert.ReferenceDhIdeal.main_arg6))

def preserves_KernelDhn_KernelDhnIdeal : Prop :=
  True

def algebraic_KernelDhnIdeal_ReferenceDhnIdeal_pre_finite_dhn [hKernelDhnIdeal : Cert.KernelDhnIdeal.Facts] [hReferenceDhnIdeal : Cert.ReferenceDhnIdeal.Facts] [hPre_finite_dhn : Cert.Pre_finite_dhn.Facts] : Prop :=
  ∀ (m : (ℓ : Loc Cert.KernelDhnIdeal.nD Cert.KernelDhnIdeal.τ Cert.KernelDhnIdeal.sig) → Buf (Elt Ideal) ℓ) (g : Dev Cert.KernelDhnIdeal.nD → PrngReg)
    (m' : (ℓ : Loc Cert.ReferenceDhnIdeal.nD Cert.ReferenceDhnIdeal.τ Cert.ReferenceDhnIdeal.sig) → Buf (Elt Ideal) ℓ) (g' : Dev Cert.ReferenceDhnIdeal.nD → PrngReg), Pre_KernelDhnIdeal_finite_dhn m →
    (∀ c : Dev Cert.KernelDhnIdeal.nD,
      m' ((c.tc : Thread Cert.ReferenceDhnIdeal.nD Cert.ReferenceDhnIdeal.τ).loc Cert.ReferenceDhnIdeal.main_arg0) = m ((c.tc : Thread Cert.KernelDhnIdeal.nD Cert.KernelDhnIdeal.τ).loc Cert.KernelDhnIdeal.main_arg0)
      ∧ m' ((c.tc : Thread Cert.ReferenceDhnIdeal.nD Cert.ReferenceDhnIdeal.τ).loc Cert.ReferenceDhnIdeal.main_arg1) = m ((c.tc : Thread Cert.KernelDhnIdeal.nD Cert.KernelDhnIdeal.τ).loc Cert.KernelDhnIdeal.main_arg1)
      ∧ m' ((c.tc : Thread Cert.ReferenceDhnIdeal.nD Cert.ReferenceDhnIdeal.τ).loc Cert.ReferenceDhnIdeal.main_arg2) = m ((c.tc : Thread Cert.KernelDhnIdeal.nD Cert.KernelDhnIdeal.τ).loc Cert.KernelDhnIdeal.main_arg2)
      ∧ m' ((c.tc : Thread Cert.ReferenceDhnIdeal.nD Cert.ReferenceDhnIdeal.τ).loc Cert.ReferenceDhnIdeal.main_arg3) = m ((c.tc : Thread Cert.KernelDhnIdeal.nD Cert.KernelDhnIdeal.τ).loc Cert.KernelDhnIdeal.main_arg3)
      ∧ m' ((c.tc : Thread Cert.ReferenceDhnIdeal.nD Cert.ReferenceDhnIdeal.τ).loc Cert.ReferenceDhnIdeal.main_arg4) = m ((c.tc : Thread Cert.KernelDhnIdeal.nD Cert.KernelDhnIdeal.τ).loc Cert.KernelDhnIdeal.main_arg4)
      ∧ m' ((c.tc : Thread Cert.ReferenceDhnIdeal.nD Cert.ReferenceDhnIdeal.τ).loc Cert.ReferenceDhnIdeal.main_arg5) = m ((c.tc : Thread Cert.KernelDhnIdeal.nD Cert.KernelDhnIdeal.τ).loc Cert.KernelDhnIdeal.main_arg5)
      ∧ m' ((c.tc : Thread Cert.ReferenceDhnIdeal.nD Cert.ReferenceDhnIdeal.τ).loc Cert.ReferenceDhnIdeal.main_arg6) = m ((c.tc : Thread Cert.KernelDhnIdeal.nD Cert.KernelDhnIdeal.τ).loc Cert.KernelDhnIdeal.main_arg6)) →
    ∃ (v0 : (c : Dev Cert.KernelDhnIdeal.nD) → Buf (Elt Ideal) ((c.tc : Thread Cert.KernelDhnIdeal.nD Cert.KernelDhnIdeal.τ).loc Cert.KernelDhnIdeal.main_v7_0)) (v1 : (c : Dev Cert.KernelDhnIdeal.nD) → Buf (Elt Ideal) ((c.tc : Thread Cert.KernelDhnIdeal.nD Cert.KernelDhnIdeal.τ).loc Cert.KernelDhnIdeal.main_v7_1)),
      θ_run (Cert.KernelDhnIdeal.defs (F := Ideal)) (onTc (τ := Cert.KernelDhnIdeal.τ) (Cert.KernelDhnIdeal.main (F := Ideal))) ⟨m, fun _ => 0, g⟩ (fun r => ∀ c : Dev Cert.KernelDhnIdeal.nD,
          r.2.mem ((c.tc : Thread Cert.KernelDhnIdeal.nD Cert.KernelDhnIdeal.τ).loc Cert.KernelDhnIdeal.main_v7_0) = v0 c
          ∧ r.2.mem ((c.tc : Thread Cert.KernelDhnIdeal.nD Cert.KernelDhnIdeal.τ).loc Cert.KernelDhnIdeal.main_v7_1) = v1 c
          ∧ r.2.mem ((c.tc : Thread Cert.KernelDhnIdeal.nD Cert.KernelDhnIdeal.τ).loc Cert.KernelDhnIdeal.main_arg0) = m ((c.tc : Thread Cert.KernelDhnIdeal.nD Cert.KernelDhnIdeal.τ).loc Cert.KernelDhnIdeal.main_arg0)
          ∧ r.2.mem ((c.tc : Thread Cert.KernelDhnIdeal.nD Cert.KernelDhnIdeal.τ).loc Cert.KernelDhnIdeal.main_arg1) = m ((c.tc : Thread Cert.KernelDhnIdeal.nD Cert.KernelDhnIdeal.τ).loc Cert.KernelDhnIdeal.main_arg1)
          ∧ r.2.mem ((c.tc : Thread Cert.KernelDhnIdeal.nD Cert.KernelDhnIdeal.τ).loc Cert.KernelDhnIdeal.main_arg2) = m ((c.tc : Thread Cert.KernelDhnIdeal.nD Cert.KernelDhnIdeal.τ).loc Cert.KernelDhnIdeal.main_arg2)
          ∧ r.2.mem ((c.tc : Thread Cert.KernelDhnIdeal.nD Cert.KernelDhnIdeal.τ).loc Cert.KernelDhnIdeal.main_arg3) = m ((c.tc : Thread Cert.KernelDhnIdeal.nD Cert.KernelDhnIdeal.τ).loc Cert.KernelDhnIdeal.main_arg3)
          ∧ r.2.mem ((c.tc : Thread Cert.KernelDhnIdeal.nD Cert.KernelDhnIdeal.τ).loc Cert.KernelDhnIdeal.main_arg4) = m ((c.tc : Thread Cert.KernelDhnIdeal.nD Cert.KernelDhnIdeal.τ).loc Cert.KernelDhnIdeal.main_arg4)
          ∧ r.2.mem ((c.tc : Thread Cert.KernelDhnIdeal.nD Cert.KernelDhnIdeal.τ).loc Cert.KernelDhnIdeal.main_arg5) = m ((c.tc : Thread Cert.KernelDhnIdeal.nD Cert.KernelDhnIdeal.τ).loc Cert.KernelDhnIdeal.main_arg5)
          ∧ r.2.mem ((c.tc : Thread Cert.KernelDhnIdeal.nD Cert.KernelDhnIdeal.τ).loc Cert.KernelDhnIdeal.main_arg6) = m ((c.tc : Thread Cert.KernelDhnIdeal.nD Cert.KernelDhnIdeal.τ).loc Cert.KernelDhnIdeal.main_arg6))
      ∧ θ_run (Cert.ReferenceDhnIdeal.defs (F := Ideal)) (onTc (τ := Cert.ReferenceDhnIdeal.τ) (Cert.ReferenceDhnIdeal.main (F := Ideal))) ⟨m', fun _ => 0, g'⟩ (fun r => ∀ c : Dev Cert.ReferenceDhnIdeal.nD,
          r.2.mem ((c.tc : Thread Cert.ReferenceDhnIdeal.nD Cert.ReferenceDhnIdeal.τ).loc Cert.ReferenceDhnIdeal.main_v41) = v0 c
          ∧ r.2.mem ((c.tc : Thread Cert.ReferenceDhnIdeal.nD Cert.ReferenceDhnIdeal.τ).loc Cert.ReferenceDhnIdeal.main_v42) = v1 c
          ∧ r.2.mem ((c.tc : Thread Cert.ReferenceDhnIdeal.nD Cert.ReferenceDhnIdeal.τ).loc Cert.ReferenceDhnIdeal.main_arg0) = m' ((c.tc : Thread Cert.ReferenceDhnIdeal.nD Cert.ReferenceDhnIdeal.τ).loc Cert.ReferenceDhnIdeal.main_arg0)
          ∧ r.2.mem ((c.tc : Thread Cert.ReferenceDhnIdeal.nD Cert.ReferenceDhnIdeal.τ).loc Cert.ReferenceDhnIdeal.main_arg1) = m' ((c.tc : Thread Cert.ReferenceDhnIdeal.nD Cert.ReferenceDhnIdeal.τ).loc Cert.ReferenceDhnIdeal.main_arg1)
          ∧ r.2.mem ((c.tc : Thread Cert.ReferenceDhnIdeal.nD Cert.ReferenceDhnIdeal.τ).loc Cert.ReferenceDhnIdeal.main_arg2) = m' ((c.tc : Thread Cert.ReferenceDhnIdeal.nD Cert.ReferenceDhnIdeal.τ).loc Cert.ReferenceDhnIdeal.main_arg2)
          ∧ r.2.mem ((c.tc : Thread Cert.ReferenceDhnIdeal.nD Cert.ReferenceDhnIdeal.τ).loc Cert.ReferenceDhnIdeal.main_arg3) = m' ((c.tc : Thread Cert.ReferenceDhnIdeal.nD Cert.ReferenceDhnIdeal.τ).loc Cert.ReferenceDhnIdeal.main_arg3)
          ∧ r.2.mem ((c.tc : Thread Cert.ReferenceDhnIdeal.nD Cert.ReferenceDhnIdeal.τ).loc Cert.ReferenceDhnIdeal.main_arg4) = m' ((c.tc : Thread Cert.ReferenceDhnIdeal.nD Cert.ReferenceDhnIdeal.τ).loc Cert.ReferenceDhnIdeal.main_arg4)
          ∧ r.2.mem ((c.tc : Thread Cert.ReferenceDhnIdeal.nD Cert.ReferenceDhnIdeal.τ).loc Cert.ReferenceDhnIdeal.main_arg5) = m' ((c.tc : Thread Cert.ReferenceDhnIdeal.nD Cert.ReferenceDhnIdeal.τ).loc Cert.ReferenceDhnIdeal.main_arg5)
          ∧ r.2.mem ((c.tc : Thread Cert.ReferenceDhnIdeal.nD Cert.ReferenceDhnIdeal.τ).loc Cert.ReferenceDhnIdeal.main_arg6) = m' ((c.tc : Thread Cert.ReferenceDhnIdeal.nD Cert.ReferenceDhnIdeal.τ).loc Cert.ReferenceDhnIdeal.main_arg6))

def preserves_KernelDh3_KernelDh3Ideal : Prop :=
  True

def algebraic_KernelDh3Ideal_ReferenceDh3Ideal_pre_finite_dh3 [hKernelDh3Ideal : Cert.KernelDh3Ideal.Facts] [hReferenceDh3Ideal : Cert.ReferenceDh3Ideal.Facts] [hPre_finite_dh3 : Cert.Pre_finite_dh3.Facts] : Prop :=
  ∀ (m : (ℓ : Loc Cert.KernelDh3Ideal.nD Cert.KernelDh3Ideal.τ Cert.KernelDh3Ideal.sig) → Buf (Elt Ideal) ℓ) (g : Dev Cert.KernelDh3Ideal.nD → PrngReg)
    (m' : (ℓ : Loc Cert.ReferenceDh3Ideal.nD Cert.ReferenceDh3Ideal.τ Cert.ReferenceDh3Ideal.sig) → Buf (Elt Ideal) ℓ) (g' : Dev Cert.ReferenceDh3Ideal.nD → PrngReg), Pre_KernelDh3Ideal_finite_dh3 m →
    (∀ c : Dev Cert.KernelDh3Ideal.nD,
      m' ((c.tc : Thread Cert.ReferenceDh3Ideal.nD Cert.ReferenceDh3Ideal.τ).loc Cert.ReferenceDh3Ideal.main_arg0) = m ((c.tc : Thread Cert.KernelDh3Ideal.nD Cert.KernelDh3Ideal.τ).loc Cert.KernelDh3Ideal.main_arg0)
      ∧ m' ((c.tc : Thread Cert.ReferenceDh3Ideal.nD Cert.ReferenceDh3Ideal.τ).loc Cert.ReferenceDh3Ideal.main_arg1) = m ((c.tc : Thread Cert.KernelDh3Ideal.nD Cert.KernelDh3Ideal.τ).loc Cert.KernelDh3Ideal.main_arg1)
      ∧ m' ((c.tc : Thread Cert.ReferenceDh3Ideal.nD Cert.ReferenceDh3Ideal.τ).loc Cert.ReferenceDh3Ideal.main_arg2) = m ((c.tc : Thread Cert.KernelDh3Ideal.nD Cert.KernelDh3Ideal.τ).loc Cert.KernelDh3Ideal.main_arg2)
      ∧ m' ((c.tc : Thread Cert.ReferenceDh3Ideal.nD Cert.ReferenceDh3Ideal.τ).loc Cert.ReferenceDh3Ideal.main_arg3) = m ((c.tc : Thread Cert.KernelDh3Ideal.nD Cert.KernelDh3Ideal.τ).loc Cert.KernelDh3Ideal.main_arg3)
      ∧ m' ((c.tc : Thread Cert.ReferenceDh3Ideal.nD Cert.ReferenceDh3Ideal.τ).loc Cert.ReferenceDh3Ideal.main_arg4) = m ((c.tc : Thread Cert.KernelDh3Ideal.nD Cert.KernelDh3Ideal.τ).loc Cert.KernelDh3Ideal.main_arg4)) →
    ∃ (v0 : (c : Dev Cert.KernelDh3Ideal.nD) → Buf (Elt Ideal) ((c.tc : Thread Cert.KernelDh3Ideal.nD Cert.KernelDh3Ideal.τ).loc Cert.KernelDh3Ideal.main_v3_0)) (v1 : (c : Dev Cert.KernelDh3Ideal.nD) → Buf (Elt Ideal) ((c.tc : Thread Cert.KernelDh3Ideal.nD Cert.KernelDh3Ideal.τ).loc Cert.KernelDh3Ideal.main_v3_1)),
      θ_run (Cert.KernelDh3Ideal.defs (F := Ideal)) (onTc (τ := Cert.KernelDh3Ideal.τ) (Cert.KernelDh3Ideal.main (F := Ideal))) ⟨m, fun _ => 0, g⟩ (fun r => ∀ c : Dev Cert.KernelDh3Ideal.nD,
          r.2.mem ((c.tc : Thread Cert.KernelDh3Ideal.nD Cert.KernelDh3Ideal.τ).loc Cert.KernelDh3Ideal.main_v3_0) = v0 c
          ∧ r.2.mem ((c.tc : Thread Cert.KernelDh3Ideal.nD Cert.KernelDh3Ideal.τ).loc Cert.KernelDh3Ideal.main_v3_1) = v1 c
          ∧ r.2.mem ((c.tc : Thread Cert.KernelDh3Ideal.nD Cert.KernelDh3Ideal.τ).loc Cert.KernelDh3Ideal.main_arg0) = m ((c.tc : Thread Cert.KernelDh3Ideal.nD Cert.KernelDh3Ideal.τ).loc Cert.KernelDh3Ideal.main_arg0)
          ∧ r.2.mem ((c.tc : Thread Cert.KernelDh3Ideal.nD Cert.KernelDh3Ideal.τ).loc Cert.KernelDh3Ideal.main_arg1) = m ((c.tc : Thread Cert.KernelDh3Ideal.nD Cert.KernelDh3Ideal.τ).loc Cert.KernelDh3Ideal.main_arg1)
          ∧ r.2.mem ((c.tc : Thread Cert.KernelDh3Ideal.nD Cert.KernelDh3Ideal.τ).loc Cert.KernelDh3Ideal.main_arg2) = m ((c.tc : Thread Cert.KernelDh3Ideal.nD Cert.KernelDh3Ideal.τ).loc Cert.KernelDh3Ideal.main_arg2)
          ∧ r.2.mem ((c.tc : Thread Cert.KernelDh3Ideal.nD Cert.KernelDh3Ideal.τ).loc Cert.KernelDh3Ideal.main_arg3) = m ((c.tc : Thread Cert.KernelDh3Ideal.nD Cert.KernelDh3Ideal.τ).loc Cert.KernelDh3Ideal.main_arg3)
          ∧ r.2.mem ((c.tc : Thread Cert.KernelDh3Ideal.nD Cert.KernelDh3Ideal.τ).loc Cert.KernelDh3Ideal.main_arg4) = m ((c.tc : Thread Cert.KernelDh3Ideal.nD Cert.KernelDh3Ideal.τ).loc Cert.KernelDh3Ideal.main_arg4))
      ∧ θ_run (Cert.ReferenceDh3Ideal.defs (F := Ideal)) (onTc (τ := Cert.ReferenceDh3Ideal.τ) (Cert.ReferenceDh3Ideal.main (F := Ideal))) ⟨m', fun _ => 0, g'⟩ (fun r => ∀ c : Dev Cert.ReferenceDh3Ideal.nD,
          r.2.mem ((c.tc : Thread Cert.ReferenceDh3Ideal.nD Cert.ReferenceDh3Ideal.τ).loc Cert.ReferenceDh3Ideal.main_v38) = v0 c
          ∧ r.2.mem ((c.tc : Thread Cert.ReferenceDh3Ideal.nD Cert.ReferenceDh3Ideal.τ).loc Cert.ReferenceDh3Ideal.main_v39) = v1 c
          ∧ r.2.mem ((c.tc : Thread Cert.ReferenceDh3Ideal.nD Cert.ReferenceDh3Ideal.τ).loc Cert.ReferenceDh3Ideal.main_arg0) = m' ((c.tc : Thread Cert.ReferenceDh3Ideal.nD Cert.ReferenceDh3Ideal.τ).loc Cert.ReferenceDh3Ideal.main_arg0)
          ∧ r.2.mem ((c.tc : Thread Cert.ReferenceDh3Ideal.nD Cert.ReferenceDh3Ideal.τ).loc Cert.ReferenceDh3Ideal.main_arg1) = m' ((c.tc : Thread Cert.ReferenceDh3Ideal.nD Cert.ReferenceDh3Ideal.τ).loc Cert.ReferenceDh3Ideal.main_arg1)
          ∧ r.2.mem ((c.tc : Thread Cert.ReferenceDh3Ideal.nD Cert.ReferenceDh3Ideal.τ).loc Cert.ReferenceDh3Ideal.main_arg2) = m' ((c.tc : Thread Cert.ReferenceDh3Ideal.nD Cert.ReferenceDh3Ideal.τ).loc Cert.ReferenceDh3Ideal.main_arg2)
          ∧ r.2.mem ((c.tc : Thread Cert.ReferenceDh3Ideal.nD Cert.ReferenceDh3Ideal.τ).loc Cert.ReferenceDh3Ideal.main_arg3) = m' ((c.tc : Thread Cert.ReferenceDh3Ideal.nD Cert.ReferenceDh3Ideal.τ).loc Cert.ReferenceDh3Ideal.main_arg3)
          ∧ r.2.mem ((c.tc : Thread Cert.ReferenceDh3Ideal.nD Cert.ReferenceDh3Ideal.τ).loc Cert.ReferenceDh3Ideal.main_arg4) = m' ((c.tc : Thread Cert.ReferenceDh3Ideal.nD Cert.ReferenceDh3Ideal.τ).loc Cert.ReferenceDh3Ideal.main_arg4))

def preserves_KernelDh2_KernelDh2Ideal : Prop :=
  True

def algebraic_KernelDh2Ideal_ReferenceDh2Ideal_pre_finite_dh2 [hKernelDh2Ideal : Cert.KernelDh2Ideal.Facts] [hReferenceDh2Ideal : Cert.ReferenceDh2Ideal.Facts] [hPre_finite_dh2 : Cert.Pre_finite_dh2.Facts] : Prop :=
  ∀ (m : (ℓ : Loc Cert.KernelDh2Ideal.nD Cert.KernelDh2Ideal.τ Cert.KernelDh2Ideal.sig) → Buf (Elt Ideal) ℓ) (g : Dev Cert.KernelDh2Ideal.nD → PrngReg)
    (m' : (ℓ : Loc Cert.ReferenceDh2Ideal.nD Cert.ReferenceDh2Ideal.τ Cert.ReferenceDh2Ideal.sig) → Buf (Elt Ideal) ℓ) (g' : Dev Cert.ReferenceDh2Ideal.nD → PrngReg), Pre_KernelDh2Ideal_finite_dh2 m →
    (∀ c : Dev Cert.KernelDh2Ideal.nD,
      m' ((c.tc : Thread Cert.ReferenceDh2Ideal.nD Cert.ReferenceDh2Ideal.τ).loc Cert.ReferenceDh2Ideal.main_arg0) = m ((c.tc : Thread Cert.KernelDh2Ideal.nD Cert.KernelDh2Ideal.τ).loc Cert.KernelDh2Ideal.main_arg0)
      ∧ m' ((c.tc : Thread Cert.ReferenceDh2Ideal.nD Cert.ReferenceDh2Ideal.τ).loc Cert.ReferenceDh2Ideal.main_arg1) = m ((c.tc : Thread Cert.KernelDh2Ideal.nD Cert.KernelDh2Ideal.τ).loc Cert.KernelDh2Ideal.main_arg1)
      ∧ m' ((c.tc : Thread Cert.ReferenceDh2Ideal.nD Cert.ReferenceDh2Ideal.τ).loc Cert.ReferenceDh2Ideal.main_arg2) = m ((c.tc : Thread Cert.KernelDh2Ideal.nD Cert.KernelDh2Ideal.τ).loc Cert.KernelDh2Ideal.main_arg2)
      ∧ m' ((c.tc : Thread Cert.ReferenceDh2Ideal.nD Cert.ReferenceDh2Ideal.τ).loc Cert.ReferenceDh2Ideal.main_arg3) = m ((c.tc : Thread Cert.KernelDh2Ideal.nD Cert.KernelDh2Ideal.τ).loc Cert.KernelDh2Ideal.main_arg3)
      ∧ m' ((c.tc : Thread Cert.ReferenceDh2Ideal.nD Cert.ReferenceDh2Ideal.τ).loc Cert.ReferenceDh2Ideal.main_arg4) = m ((c.tc : Thread Cert.KernelDh2Ideal.nD Cert.KernelDh2Ideal.τ).loc Cert.KernelDh2Ideal.main_arg4)) →
    ∃ (v0 : (c : Dev Cert.KernelDh2Ideal.nD) → Buf (Elt Ideal) ((c.tc : Thread Cert.KernelDh2Ideal.nD Cert.KernelDh2Ideal.τ).loc Cert.KernelDh2Ideal.main_v4_0)) (v1 : (c : Dev Cert.KernelDh2Ideal.nD) → Buf (Elt Ideal) ((c.tc : Thread Cert.KernelDh2Ideal.nD Cert.KernelDh2Ideal.τ).loc Cert.KernelDh2Ideal.main_v4_1)) (v2 : (c : Dev Cert.KernelDh2Ideal.nD) → Buf (Elt Ideal) ((c.tc : Thread Cert.KernelDh2Ideal.nD Cert.KernelDh2Ideal.τ).loc Cert.KernelDh2Ideal.main_v4_2)),
      θ_run (Cert.KernelDh2Ideal.defs (F := Ideal)) (onTc (τ := Cert.KernelDh2Ideal.τ) (Cert.KernelDh2Ideal.main (F := Ideal))) ⟨m, fun _ => 0, g⟩ (fun r => ∀ c : Dev Cert.KernelDh2Ideal.nD,
          r.2.mem ((c.tc : Thread Cert.KernelDh2Ideal.nD Cert.KernelDh2Ideal.τ).loc Cert.KernelDh2Ideal.main_v4_0) = v0 c
          ∧ r.2.mem ((c.tc : Thread Cert.KernelDh2Ideal.nD Cert.KernelDh2Ideal.τ).loc Cert.KernelDh2Ideal.main_v4_1) = v1 c
          ∧ r.2.mem ((c.tc : Thread Cert.KernelDh2Ideal.nD Cert.KernelDh2Ideal.τ).loc Cert.KernelDh2Ideal.main_v4_2) = v2 c
          ∧ r.2.mem ((c.tc : Thread Cert.KernelDh2Ideal.nD Cert.KernelDh2Ideal.τ).loc Cert.KernelDh2Ideal.main_arg0) = m ((c.tc : Thread Cert.KernelDh2Ideal.nD Cert.KernelDh2Ideal.τ).loc Cert.KernelDh2Ideal.main_arg0)
          ∧ r.2.mem ((c.tc : Thread Cert.KernelDh2Ideal.nD Cert.KernelDh2Ideal.τ).loc Cert.KernelDh2Ideal.main_arg1) = m ((c.tc : Thread Cert.KernelDh2Ideal.nD Cert.KernelDh2Ideal.τ).loc Cert.KernelDh2Ideal.main_arg1)
          ∧ r.2.mem ((c.tc : Thread Cert.KernelDh2Ideal.nD Cert.KernelDh2Ideal.τ).loc Cert.KernelDh2Ideal.main_arg2) = m ((c.tc : Thread Cert.KernelDh2Ideal.nD Cert.KernelDh2Ideal.τ).loc Cert.KernelDh2Ideal.main_arg2)
          ∧ r.2.mem ((c.tc : Thread Cert.KernelDh2Ideal.nD Cert.KernelDh2Ideal.τ).loc Cert.KernelDh2Ideal.main_arg3) = m ((c.tc : Thread Cert.KernelDh2Ideal.nD Cert.KernelDh2Ideal.τ).loc Cert.KernelDh2Ideal.main_arg3)
          ∧ r.2.mem ((c.tc : Thread Cert.KernelDh2Ideal.nD Cert.KernelDh2Ideal.τ).loc Cert.KernelDh2Ideal.main_arg4) = m ((c.tc : Thread Cert.KernelDh2Ideal.nD Cert.KernelDh2Ideal.τ).loc Cert.KernelDh2Ideal.main_arg4))
      ∧ θ_run (Cert.ReferenceDh2Ideal.defs (F := Ideal)) (onTc (τ := Cert.ReferenceDh2Ideal.τ) (Cert.ReferenceDh2Ideal.main (F := Ideal))) ⟨m', fun _ => 0, g'⟩ (fun r => ∀ c : Dev Cert.ReferenceDh2Ideal.nD,
          r.2.mem ((c.tc : Thread Cert.ReferenceDh2Ideal.nD Cert.ReferenceDh2Ideal.τ).loc Cert.ReferenceDh2Ideal.main_v38) = v0 c
          ∧ r.2.mem ((c.tc : Thread Cert.ReferenceDh2Ideal.nD Cert.ReferenceDh2Ideal.τ).loc Cert.ReferenceDh2Ideal.main_v39) = v1 c
          ∧ r.2.mem ((c.tc : Thread Cert.ReferenceDh2Ideal.nD Cert.ReferenceDh2Ideal.τ).loc Cert.ReferenceDh2Ideal.main_v42) = v2 c
          ∧ r.2.mem ((c.tc : Thread Cert.ReferenceDh2Ideal.nD Cert.ReferenceDh2Ideal.τ).loc Cert.ReferenceDh2Ideal.main_arg0) = m' ((c.tc : Thread Cert.ReferenceDh2Ideal.nD Cert.ReferenceDh2Ideal.τ).loc Cert.ReferenceDh2Ideal.main_arg0)
          ∧ r.2.mem ((c.tc : Thread Cert.ReferenceDh2Ideal.nD Cert.ReferenceDh2Ideal.τ).loc Cert.ReferenceDh2Ideal.main_arg1) = m' ((c.tc : Thread Cert.ReferenceDh2Ideal.nD Cert.ReferenceDh2Ideal.τ).loc Cert.ReferenceDh2Ideal.main_arg1)
          ∧ r.2.mem ((c.tc : Thread Cert.ReferenceDh2Ideal.nD Cert.ReferenceDh2Ideal.τ).loc Cert.ReferenceDh2Ideal.main_arg2) = m' ((c.tc : Thread Cert.ReferenceDh2Ideal.nD Cert.ReferenceDh2Ideal.τ).loc Cert.ReferenceDh2Ideal.main_arg2)
          ∧ r.2.mem ((c.tc : Thread Cert.ReferenceDh2Ideal.nD Cert.ReferenceDh2Ideal.τ).loc Cert.ReferenceDh2Ideal.main_arg3) = m' ((c.tc : Thread Cert.ReferenceDh2Ideal.nD Cert.ReferenceDh2Ideal.τ).loc Cert.ReferenceDh2Ideal.main_arg3)
          ∧ r.2.mem ((c.tc : Thread Cert.ReferenceDh2Ideal.nD Cert.ReferenceDh2Ideal.τ).loc Cert.ReferenceDh2Ideal.main_arg4) = m' ((c.tc : Thread Cert.ReferenceDh2Ideal.nD Cert.ReferenceDh2Ideal.τ).loc Cert.ReferenceDh2Ideal.main_arg4))

def preserves_KernelDmg_KernelDmgIdeal : Prop :=
  True

def algebraic_KernelDmgIdeal_ReferenceDmgIdeal_pre_finite_dmg [hKernelDmgIdeal : Cert.KernelDmgIdeal.Facts] [hReferenceDmgIdeal : Cert.ReferenceDmgIdeal.Facts] [hPre_finite_dmg : Cert.Pre_finite_dmg.Facts] : Prop :=
  ∀ (m : (ℓ : Loc Cert.KernelDmgIdeal.nD Cert.KernelDmgIdeal.τ Cert.KernelDmgIdeal.sig) → Buf (Elt Ideal) ℓ) (g : Dev Cert.KernelDmgIdeal.nD → PrngReg)
    (m' : (ℓ : Loc Cert.ReferenceDmgIdeal.nD Cert.ReferenceDmgIdeal.τ Cert.ReferenceDmgIdeal.sig) → Buf (Elt Ideal) ℓ) (g' : Dev Cert.ReferenceDmgIdeal.nD → PrngReg), Pre_KernelDmgIdeal_finite_dmg m →
    (∀ c : Dev Cert.KernelDmgIdeal.nD,
      m' ((c.tc : Thread Cert.ReferenceDmgIdeal.nD Cert.ReferenceDmgIdeal.τ).loc Cert.ReferenceDmgIdeal.main_arg0) = m ((c.tc : Thread Cert.KernelDmgIdeal.nD Cert.KernelDmgIdeal.τ).loc Cert.KernelDmgIdeal.main_arg0)
      ∧ m' ((c.tc : Thread Cert.ReferenceDmgIdeal.nD Cert.ReferenceDmgIdeal.τ).loc Cert.ReferenceDmgIdeal.main_arg1) = m ((c.tc : Thread Cert.KernelDmgIdeal.nD Cert.KernelDmgIdeal.τ).loc Cert.KernelDmgIdeal.main_arg1)
      ∧ m' ((c.tc : Thread Cert.ReferenceDmgIdeal.nD Cert.ReferenceDmgIdeal.τ).loc Cert.ReferenceDmgIdeal.main_arg2) = m ((c.tc : Thread Cert.KernelDmgIdeal.nD Cert.KernelDmgIdeal.τ).loc Cert.KernelDmgIdeal.main_arg2)
      ∧ m' ((c.tc : Thread Cert.ReferenceDmgIdeal.nD Cert.ReferenceDmgIdeal.τ).loc Cert.ReferenceDmgIdeal.main_arg3) = m ((c.tc : Thread Cert.KernelDmgIdeal.nD Cert.KernelDmgIdeal.τ).loc Cert.KernelDmgIdeal.main_arg3)
      ∧ m' ((c.tc : Thread Cert.ReferenceDmgIdeal.nD Cert.ReferenceDmgIdeal.τ).loc Cert.ReferenceDmgIdeal.main_arg4) = m ((c.tc : Thread Cert.KernelDmgIdeal.nD Cert.KernelDmgIdeal.τ).loc Cert.KernelDmgIdeal.main_arg4)
      ∧ m' ((c.tc : Thread Cert.ReferenceDmgIdeal.nD Cert.ReferenceDmgIdeal.τ).loc Cert.ReferenceDmgIdeal.main_arg5) = m ((c.tc : Thread Cert.KernelDmgIdeal.nD Cert.KernelDmgIdeal.τ).loc Cert.KernelDmgIdeal.main_arg5)) →
    ∃ (v0 : (c : Dev Cert.KernelDmgIdeal.nD) → Buf (Elt Ideal) ((c.tc : Thread Cert.KernelDmgIdeal.nD Cert.KernelDmgIdeal.τ).loc Cert.KernelDmgIdeal.main_v3_0)) (v1 : (c : Dev Cert.KernelDmgIdeal.nD) → Buf (Elt Ideal) ((c.tc : Thread Cert.KernelDmgIdeal.nD Cert.KernelDmgIdeal.τ).loc Cert.KernelDmgIdeal.main_v3_1)) (v2 : (c : Dev Cert.KernelDmgIdeal.nD) → Buf (Elt Ideal) ((c.tc : Thread Cert.KernelDmgIdeal.nD Cert.KernelDmgIdeal.τ).loc Cert.KernelDmgIdeal.main_v3_2)) (v3 : (c : Dev Cert.KernelDmgIdeal.nD) → Buf (Elt Ideal) ((c.tc : Thread Cert.KernelDmgIdeal.nD Cert.KernelDmgIdeal.τ).loc Cert.KernelDmgIdeal.main_v3_3)),
      θ_run (Cert.KernelDmgIdeal.defs (F := Ideal)) (onTc (τ := Cert.KernelDmgIdeal.τ) (Cert.KernelDmgIdeal.main (F := Ideal))) ⟨m, fun _ => 0, g⟩ (fun r => ∀ c : Dev Cert.KernelDmgIdeal.nD,
          r.2.mem ((c.tc : Thread Cert.KernelDmgIdeal.nD Cert.KernelDmgIdeal.τ).loc Cert.KernelDmgIdeal.main_v3_0) = v0 c
          ∧ r.2.mem ((c.tc : Thread Cert.KernelDmgIdeal.nD Cert.KernelDmgIdeal.τ).loc Cert.KernelDmgIdeal.main_v3_1) = v1 c
          ∧ r.2.mem ((c.tc : Thread Cert.KernelDmgIdeal.nD Cert.KernelDmgIdeal.τ).loc Cert.KernelDmgIdeal.main_v3_2) = v2 c
          ∧ r.2.mem ((c.tc : Thread Cert.KernelDmgIdeal.nD Cert.KernelDmgIdeal.τ).loc Cert.KernelDmgIdeal.main_v3_3) = v3 c
          ∧ r.2.mem ((c.tc : Thread Cert.KernelDmgIdeal.nD Cert.KernelDmgIdeal.τ).loc Cert.KernelDmgIdeal.main_arg0) = m ((c.tc : Thread Cert.KernelDmgIdeal.nD Cert.KernelDmgIdeal.τ).loc Cert.KernelDmgIdeal.main_arg0)
          ∧ r.2.mem ((c.tc : Thread Cert.KernelDmgIdeal.nD Cert.KernelDmgIdeal.τ).loc Cert.KernelDmgIdeal.main_arg1) = m ((c.tc : Thread Cert.KernelDmgIdeal.nD Cert.KernelDmgIdeal.τ).loc Cert.KernelDmgIdeal.main_arg1)
          ∧ r.2.mem ((c.tc : Thread Cert.KernelDmgIdeal.nD Cert.KernelDmgIdeal.τ).loc Cert.KernelDmgIdeal.main_arg2) = m ((c.tc : Thread Cert.KernelDmgIdeal.nD Cert.KernelDmgIdeal.τ).loc Cert.KernelDmgIdeal.main_arg2)
          ∧ r.2.mem ((c.tc : Thread Cert.KernelDmgIdeal.nD Cert.KernelDmgIdeal.τ).loc Cert.KernelDmgIdeal.main_arg3) = m ((c.tc : Thread Cert.KernelDmgIdeal.nD Cert.KernelDmgIdeal.τ).loc Cert.KernelDmgIdeal.main_arg3)
          ∧ r.2.mem ((c.tc : Thread Cert.KernelDmgIdeal.nD Cert.KernelDmgIdeal.τ).loc Cert.KernelDmgIdeal.main_arg4) = m ((c.tc : Thread Cert.KernelDmgIdeal.nD Cert.KernelDmgIdeal.τ).loc Cert.KernelDmgIdeal.main_arg4)
          ∧ r.2.mem ((c.tc : Thread Cert.KernelDmgIdeal.nD Cert.KernelDmgIdeal.τ).loc Cert.KernelDmgIdeal.main_arg5) = m ((c.tc : Thread Cert.KernelDmgIdeal.nD Cert.KernelDmgIdeal.τ).loc Cert.KernelDmgIdeal.main_arg5))
      ∧ θ_run (Cert.ReferenceDmgIdeal.defs (F := Ideal)) (onTc (τ := Cert.ReferenceDmgIdeal.τ) (Cert.ReferenceDmgIdeal.main (F := Ideal))) ⟨m', fun _ => 0, g'⟩ (fun r => ∀ c : Dev Cert.ReferenceDmgIdeal.nD,
          r.2.mem ((c.tc : Thread Cert.ReferenceDmgIdeal.nD Cert.ReferenceDmgIdeal.τ).loc Cert.ReferenceDmgIdeal.main_v76) = v0 c
          ∧ r.2.mem ((c.tc : Thread Cert.ReferenceDmgIdeal.nD Cert.ReferenceDmgIdeal.τ).loc Cert.ReferenceDmgIdeal.main_v56) = v1 c
          ∧ r.2.mem ((c.tc : Thread Cert.ReferenceDmgIdeal.nD Cert.ReferenceDmgIdeal.τ).loc Cert.ReferenceDmgIdeal.main_v77) = v2 c
          ∧ r.2.mem ((c.tc : Thread Cert.ReferenceDmgIdeal.nD Cert.ReferenceDmgIdeal.τ).loc Cert.ReferenceDmgIdeal.main_v78) = v3 c
          ∧ r.2.mem ((c.tc : Thread Cert.ReferenceDmgIdeal.nD Cert.ReferenceDmgIdeal.τ).loc Cert.ReferenceDmgIdeal.main_arg0) = m' ((c.tc : Thread Cert.ReferenceDmgIdeal.nD Cert.ReferenceDmgIdeal.τ).loc Cert.ReferenceDmgIdeal.main_arg0)
          ∧ r.2.mem ((c.tc : Thread Cert.ReferenceDmgIdeal.nD Cert.ReferenceDmgIdeal.τ).loc Cert.ReferenceDmgIdeal.main_arg1) = m' ((c.tc : Thread Cert.ReferenceDmgIdeal.nD Cert.ReferenceDmgIdeal.τ).loc Cert.ReferenceDmgIdeal.main_arg1)
          ∧ r.2.mem ((c.tc : Thread Cert.ReferenceDmgIdeal.nD Cert.ReferenceDmgIdeal.τ).loc Cert.ReferenceDmgIdeal.main_arg2) = m' ((c.tc : Thread Cert.ReferenceDmgIdeal.nD Cert.ReferenceDmgIdeal.τ).loc Cert.ReferenceDmgIdeal.main_arg2)
          ∧ r.2.mem ((c.tc : Thread Cert.ReferenceDmgIdeal.nD Cert.ReferenceDmgIdeal.τ).loc Cert.ReferenceDmgIdeal.main_arg3) = m' ((c.tc : Thread Cert.ReferenceDmgIdeal.nD Cert.ReferenceDmgIdeal.τ).loc Cert.ReferenceDmgIdeal.main_arg3)
          ∧ r.2.mem ((c.tc : Thread Cert.ReferenceDmgIdeal.nD Cert.ReferenceDmgIdeal.τ).loc Cert.ReferenceDmgIdeal.main_arg4) = m' ((c.tc : Thread Cert.ReferenceDmgIdeal.nD Cert.ReferenceDmgIdeal.τ).loc Cert.ReferenceDmgIdeal.main_arg4)
          ∧ r.2.mem ((c.tc : Thread Cert.ReferenceDmgIdeal.nD Cert.ReferenceDmgIdeal.τ).loc Cert.ReferenceDmgIdeal.main_arg5) = m' ((c.tc : Thread Cert.ReferenceDmgIdeal.nD Cert.ReferenceDmgIdeal.τ).loc Cert.ReferenceDmgIdeal.main_arg5))

def preserves_KernelPool_KernelPoolIdeal : Prop :=
  True

def algebraic_KernelPoolIdeal_ReferencePoolIdeal_pre_finite_pool [hKernelPoolIdeal : Cert.KernelPoolIdeal.Facts] [hReferencePoolIdeal : Cert.ReferencePoolIdeal.Facts] [hPre_finite_pool : Cert.Pre_finite_pool.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg)
    (m' : (ℓ : Loc Cert.ReferencePoolIdeal.nD Cert.ReferencePoolIdeal.τ Cert.ReferencePoolIdeal.sig) → Buf (Elt Ideal) ℓ) (g' : Dev Cert.ReferencePoolIdeal.nD → PrngReg), Pre_KernelPoolIdeal_finite_pool m →
    (∀ c : Dev Cert.KernelPoolIdeal.nD,
      m' ((c.tc : Thread Cert.ReferencePoolIdeal.nD Cert.ReferencePoolIdeal.τ).loc Cert.ReferencePoolIdeal.main_arg0) = m ((c.tc : Thread Cert.KernelPoolIdeal.nD Cert.KernelPoolIdeal.τ).loc Cert.KernelPoolIdeal.main_arg0)
      ∧ m' ((c.tc : Thread Cert.ReferencePoolIdeal.nD Cert.ReferencePoolIdeal.τ).loc Cert.ReferencePoolIdeal.main_arg1) = m ((c.tc : Thread Cert.KernelPoolIdeal.nD Cert.KernelPoolIdeal.τ).loc Cert.KernelPoolIdeal.main_arg1)
      ∧ m' ((c.tc : Thread Cert.ReferencePoolIdeal.nD Cert.ReferencePoolIdeal.τ).loc Cert.ReferencePoolIdeal.main_arg2) = m ((c.tc : Thread Cert.KernelPoolIdeal.nD Cert.KernelPoolIdeal.τ).loc Cert.KernelPoolIdeal.main_arg2)
      ∧ m' ((c.tc : Thread Cert.ReferencePoolIdeal.nD Cert.ReferencePoolIdeal.τ).loc Cert.ReferencePoolIdeal.main_arg3) = m ((c.tc : Thread Cert.KernelPoolIdeal.nD Cert.KernelPoolIdeal.τ).loc Cert.KernelPoolIdeal.main_arg3)) →
    ∃ (v0 : (c : Dev Cert.KernelPoolIdeal.nD) → Buf (Elt Ideal) ((c.tc : Thread Cert.KernelPoolIdeal.nD Cert.KernelPoolIdeal.τ).loc Cert.KernelPoolIdeal.main_v1_0)) (v1 : (c : Dev Cert.KernelPoolIdeal.nD) → Buf (Elt Ideal) ((c.tc : Thread Cert.KernelPoolIdeal.nD Cert.KernelPoolIdeal.τ).loc Cert.KernelPoolIdeal.main_v1_1)) (v2 : (c : Dev Cert.KernelPoolIdeal.nD) → Buf (Elt Ideal) ((c.tc : Thread Cert.KernelPoolIdeal.nD Cert.KernelPoolIdeal.τ).loc Cert.KernelPoolIdeal.main_v1_2)),
      θ_run (Cert.KernelPoolIdeal.defs (F := Ideal)) (onTc (τ := Cert.KernelPoolIdeal.τ) (Cert.KernelPoolIdeal.main (F := Ideal))) ⟨m, fun _ => 0, g⟩ (fun r => ∀ c : Dev Cert.KernelPoolIdeal.nD,
          r.2.mem ((c.tc : Thread Cert.KernelPoolIdeal.nD Cert.KernelPoolIdeal.τ).loc Cert.KernelPoolIdeal.main_v1_0) = v0 c
          ∧ r.2.mem ((c.tc : Thread Cert.KernelPoolIdeal.nD Cert.KernelPoolIdeal.τ).loc Cert.KernelPoolIdeal.main_v1_1) = v1 c
          ∧ r.2.mem ((c.tc : Thread Cert.KernelPoolIdeal.nD Cert.KernelPoolIdeal.τ).loc Cert.KernelPoolIdeal.main_v1_2) = v2 c
          ∧ r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
          ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
          ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2)
          ∧ r.2.mem ((c.tc : Thread Cert.KernelPoolIdeal.nD Cert.KernelPoolIdeal.τ).loc Cert.KernelPoolIdeal.main_arg3) = m ((c.tc : Thread Cert.KernelPoolIdeal.nD Cert.KernelPoolIdeal.τ).loc Cert.KernelPoolIdeal.main_arg3))
      ∧ θ_run (Cert.ReferencePoolIdeal.defs (F := Ideal)) (onTc (τ := Cert.ReferencePoolIdeal.τ) (Cert.ReferencePoolIdeal.main (F := Ideal))) ⟨m', fun _ => 0, g'⟩ (fun r => ∀ c : Dev Cert.ReferencePoolIdeal.nD,
          r.2.mem ((c.tc : Thread Cert.ReferencePoolIdeal.nD Cert.ReferencePoolIdeal.τ).loc Cert.ReferencePoolIdeal.main_v77) = v0 c
          ∧ r.2.mem ((c.tc : Thread Cert.ReferencePoolIdeal.nD Cert.ReferencePoolIdeal.τ).loc Cert.ReferencePoolIdeal.main_v64) = v1 c
          ∧ r.2.mem ((c.tc : Thread Cert.ReferencePoolIdeal.nD Cert.ReferencePoolIdeal.τ).loc Cert.ReferencePoolIdeal.main_v78) = v2 c
          ∧ r.2.mem ((c.tc : Thread Cert.ReferencePoolIdeal.nD Cert.ReferencePoolIdeal.τ).loc Cert.ReferencePoolIdeal.main_arg0) = m' ((c.tc : Thread Cert.ReferencePoolIdeal.nD Cert.ReferencePoolIdeal.τ).loc Cert.ReferencePoolIdeal.main_arg0)
          ∧ r.2.mem ((c.tc : Thread Cert.ReferencePoolIdeal.nD Cert.ReferencePoolIdeal.τ).loc Cert.ReferencePoolIdeal.main_arg1) = m' ((c.tc : Thread Cert.ReferencePoolIdeal.nD Cert.ReferencePoolIdeal.τ).loc Cert.ReferencePoolIdeal.main_arg1)
          ∧ r.2.mem ((c.tc : Thread Cert.ReferencePoolIdeal.nD Cert.ReferencePoolIdeal.τ).loc Cert.ReferencePoolIdeal.main_arg2) = m' ((c.tc : Thread Cert.ReferencePoolIdeal.nD Cert.ReferencePoolIdeal.τ).loc Cert.ReferencePoolIdeal.main_arg2)
          ∧ r.2.mem ((c.tc : Thread Cert.ReferencePoolIdeal.nD Cert.ReferencePoolIdeal.τ).loc Cert.ReferencePoolIdeal.main_arg3) = m' ((c.tc : Thread Cert.ReferencePoolIdeal.nD Cert.ReferencePoolIdeal.τ).loc Cert.ReferencePoolIdeal.main_arg3))

def preserves_KernelSwa_KernelSwaIdeal : Prop :=
  IdealRules.named_const.Statement Cert.KernelSwaIdeal.κ "mask" .f32 0xF149F2CA#32 ⊥

def algebraic_KernelSwaIdeal_ReferenceSwaIdeal_pre_finite_swa [hKernelSwaIdeal : Cert.KernelSwaIdeal.Facts] [hReferenceSwaIdeal : Cert.ReferenceSwaIdeal.Facts] [hPre_finite_swa : Cert.Pre_finite_swa.Facts] : Prop :=
  ∀ (m : (ℓ : Loc Cert.KernelSwaIdeal.nD Cert.KernelSwaIdeal.τ Cert.KernelSwaIdeal.sig) → Buf (Elt Ideal) ℓ) (g : Dev Cert.KernelSwaIdeal.nD → PrngReg)
    (m' : (ℓ : Loc Cert.ReferenceSwaIdeal.nD Cert.ReferenceSwaIdeal.τ Cert.ReferenceSwaIdeal.sig) → Buf (Elt Ideal) ℓ) (g' : Dev Cert.ReferenceSwaIdeal.nD → PrngReg), Pre_KernelSwaIdeal_finite_swa m →
    (∀ c : Dev Cert.KernelSwaIdeal.nD,
      m' ((c.tc : Thread Cert.ReferenceSwaIdeal.nD Cert.ReferenceSwaIdeal.τ).loc Cert.ReferenceSwaIdeal.main_arg0) = m ((c.tc : Thread Cert.KernelSwaIdeal.nD Cert.KernelSwaIdeal.τ).loc Cert.KernelSwaIdeal.main_arg0)
      ∧ m' ((c.tc : Thread Cert.ReferenceSwaIdeal.nD Cert.ReferenceSwaIdeal.τ).loc Cert.ReferenceSwaIdeal.main_arg1) = m ((c.tc : Thread Cert.KernelSwaIdeal.nD Cert.KernelSwaIdeal.τ).loc Cert.KernelSwaIdeal.main_arg1)
      ∧ m' ((c.tc : Thread Cert.ReferenceSwaIdeal.nD Cert.ReferenceSwaIdeal.τ).loc Cert.ReferenceSwaIdeal.main_arg2) = m ((c.tc : Thread Cert.KernelSwaIdeal.nD Cert.KernelSwaIdeal.τ).loc Cert.KernelSwaIdeal.main_arg2)
      ∧ m' ((c.tc : Thread Cert.ReferenceSwaIdeal.nD Cert.ReferenceSwaIdeal.τ).loc Cert.ReferenceSwaIdeal.main_arg3) = m ((c.tc : Thread Cert.KernelSwaIdeal.nD Cert.KernelSwaIdeal.τ).loc Cert.KernelSwaIdeal.main_arg3)
      ∧ m' ((c.tc : Thread Cert.ReferenceSwaIdeal.nD Cert.ReferenceSwaIdeal.τ).loc Cert.ReferenceSwaIdeal.main_arg4) = m ((c.tc : Thread Cert.KernelSwaIdeal.nD Cert.KernelSwaIdeal.τ).loc Cert.KernelSwaIdeal.main_arg4)) →
    ∃ (v0 : (c : Dev Cert.KernelSwaIdeal.nD) → Buf (Elt Ideal) ((c.tc : Thread Cert.KernelSwaIdeal.nD Cert.KernelSwaIdeal.τ).loc Cert.KernelSwaIdeal.main_v79_5)) (v1 : (c : Dev Cert.KernelSwaIdeal.nD) → Buf (Elt Ideal) ((c.tc : Thread Cert.KernelSwaIdeal.nD Cert.KernelSwaIdeal.τ).loc Cert.KernelSwaIdeal.main_v80)),
      θ_run (Cert.KernelSwaIdeal.defs (F := Ideal)) (onTc (τ := Cert.KernelSwaIdeal.τ) (Cert.KernelSwaIdeal.main (F := Ideal))) ⟨m, fun _ => 0, g⟩ (fun r => ∀ c : Dev Cert.KernelSwaIdeal.nD,
          r.2.mem ((c.tc : Thread Cert.KernelSwaIdeal.nD Cert.KernelSwaIdeal.τ).loc Cert.KernelSwaIdeal.main_v79_5) = v0 c
          ∧ r.2.mem ((c.tc : Thread Cert.KernelSwaIdeal.nD Cert.KernelSwaIdeal.τ).loc Cert.KernelSwaIdeal.main_v80) = v1 c
          ∧ r.2.mem ((c.tc : Thread Cert.KernelSwaIdeal.nD Cert.KernelSwaIdeal.τ).loc Cert.KernelSwaIdeal.main_arg0) = m ((c.tc : Thread Cert.KernelSwaIdeal.nD Cert.KernelSwaIdeal.τ).loc Cert.KernelSwaIdeal.main_arg0)
          ∧ r.2.mem ((c.tc : Thread Cert.KernelSwaIdeal.nD Cert.KernelSwaIdeal.τ).loc Cert.KernelSwaIdeal.main_arg1) = m ((c.tc : Thread Cert.KernelSwaIdeal.nD Cert.KernelSwaIdeal.τ).loc Cert.KernelSwaIdeal.main_arg1)
          ∧ r.2.mem ((c.tc : Thread Cert.KernelSwaIdeal.nD Cert.KernelSwaIdeal.τ).loc Cert.KernelSwaIdeal.main_arg2) = m ((c.tc : Thread Cert.KernelSwaIdeal.nD Cert.KernelSwaIdeal.τ).loc Cert.KernelSwaIdeal.main_arg2)
          ∧ r.2.mem ((c.tc : Thread Cert.KernelSwaIdeal.nD Cert.KernelSwaIdeal.τ).loc Cert.KernelSwaIdeal.main_arg3) = m ((c.tc : Thread Cert.KernelSwaIdeal.nD Cert.KernelSwaIdeal.τ).loc Cert.KernelSwaIdeal.main_arg3)
          ∧ r.2.mem ((c.tc : Thread Cert.KernelSwaIdeal.nD Cert.KernelSwaIdeal.τ).loc Cert.KernelSwaIdeal.main_arg4) = m ((c.tc : Thread Cert.KernelSwaIdeal.nD Cert.KernelSwaIdeal.τ).loc Cert.KernelSwaIdeal.main_arg4))
      ∧ θ_run (Cert.ReferenceSwaIdeal.defs (F := Ideal)) (onTc (τ := Cert.ReferenceSwaIdeal.τ) (Cert.ReferenceSwaIdeal.main (F := Ideal))) ⟨m', fun _ => 0, g'⟩ (fun r => ∀ c : Dev Cert.ReferenceSwaIdeal.nD,
          r.2.mem ((c.tc : Thread Cert.ReferenceSwaIdeal.nD Cert.ReferenceSwaIdeal.τ).loc Cert.ReferenceSwaIdeal.main_v229) = v0 c
          ∧ r.2.mem ((c.tc : Thread Cert.ReferenceSwaIdeal.nD Cert.ReferenceSwaIdeal.τ).loc Cert.ReferenceSwaIdeal.main_v230) = v1 c
          ∧ r.2.mem ((c.tc : Thread Cert.ReferenceSwaIdeal.nD Cert.ReferenceSwaIdeal.τ).loc Cert.ReferenceSwaIdeal.main_arg0) = m' ((c.tc : Thread Cert.ReferenceSwaIdeal.nD Cert.ReferenceSwaIdeal.τ).loc Cert.ReferenceSwaIdeal.main_arg0)
          ∧ r.2.mem ((c.tc : Thread Cert.ReferenceSwaIdeal.nD Cert.ReferenceSwaIdeal.τ).loc Cert.ReferenceSwaIdeal.main_arg1) = m' ((c.tc : Thread Cert.ReferenceSwaIdeal.nD Cert.ReferenceSwaIdeal.τ).loc Cert.ReferenceSwaIdeal.main_arg1)
          ∧ r.2.mem ((c.tc : Thread Cert.ReferenceSwaIdeal.nD Cert.ReferenceSwaIdeal.τ).loc Cert.ReferenceSwaIdeal.main_arg2) = m' ((c.tc : Thread Cert.ReferenceSwaIdeal.nD Cert.ReferenceSwaIdeal.τ).loc Cert.ReferenceSwaIdeal.main_arg2)
          ∧ r.2.mem ((c.tc : Thread Cert.ReferenceSwaIdeal.nD Cert.ReferenceSwaIdeal.τ).loc Cert.ReferenceSwaIdeal.main_arg3) = m' ((c.tc : Thread Cert.ReferenceSwaIdeal.nD Cert.ReferenceSwaIdeal.τ).loc Cert.ReferenceSwaIdeal.main_arg3)
          ∧ r.2.mem ((c.tc : Thread Cert.ReferenceSwaIdeal.nD Cert.ReferenceSwaIdeal.τ).loc Cert.ReferenceSwaIdeal.main_arg4) = m' ((c.tc : Thread Cert.ReferenceSwaIdeal.nD Cert.ReferenceSwaIdeal.τ).loc Cert.ReferenceSwaIdeal.main_arg4))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)) →
    ∃ (v0 : (c : Dev Cert.KernelProjIdeal.nD) → Buf (Elt Ideal) ((c.tc : Thread Cert.KernelProjIdeal.nD Cert.KernelProjIdeal.τ).loc Cert.KernelProjIdeal.main_v25_0)) (v1 : (c : Dev Cert.KernelProjIdeal.nD) → Buf (Elt Ideal) ((c.tc : Thread Cert.KernelProjIdeal.nD Cert.KernelProjIdeal.τ).loc Cert.KernelProjIdeal.main_v25_1)) (v2 : (c : Dev Cert.KernelProjIdeal.nD) → Buf (Elt Ideal) ((c.tc : Thread Cert.KernelProjIdeal.nD Cert.KernelProjIdeal.τ).loc Cert.KernelProjIdeal.main_v25_2)) (v3 : (c : Dev Cert.KernelProjIdeal.nD) → Buf (Elt Ideal) ((c.tc : Thread Cert.KernelProjIdeal.nD Cert.KernelProjIdeal.τ).loc Cert.KernelProjIdeal.main_v25_3)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v25_0) = v0 c
          ∧ r.2.mem ((c.tc : Thread Cert.KernelProjIdeal.nD Cert.KernelProjIdeal.τ).loc Cert.KernelProjIdeal.main_v25_1) = v1 c
          ∧ r.2.mem ((c.tc : Thread Cert.KernelProjIdeal.nD Cert.KernelProjIdeal.τ).loc Cert.KernelProjIdeal.main_v25_2) = v2 c
          ∧ r.2.mem ((c.tc : Thread Cert.KernelProjIdeal.nD Cert.KernelProjIdeal.τ).loc Cert.KernelProjIdeal.main_v25_3) = v3 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v55) = v0 c
          ∧ r.2.mem ((c.tc : Thread Cert.ReferenceProjIdeal.nD Cert.ReferenceProjIdeal.τ).loc Cert.ReferenceProjIdeal.main_v56) = v1 c
          ∧ r.2.mem ((c.tc : Thread Cert.ReferenceProjIdeal.nD Cert.ReferenceProjIdeal.τ).loc Cert.ReferenceProjIdeal.main_v57) = v2 c
          ∧ r.2.mem ((c.tc : Thread Cert.ReferenceProjIdeal.nD Cert.ReferenceProjIdeal.τ).loc Cert.ReferenceProjIdeal.main_v26) = v3 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2))

def preserves_KernelXattnF_KernelXattnFIdeal : Prop :=
  True

def algebraic_KernelXattnFIdeal_ReferenceXattnFIdeal [hKernelXattnFIdeal : Cert.KernelXattnFIdeal.Facts] [hReferenceXattnFIdeal : Cert.ReferenceXattnFIdeal.Facts] : Prop :=
  ∀ (m : (ℓ : Loc Cert.KernelXattnFIdeal.nD Cert.KernelXattnFIdeal.τ Cert.KernelXattnFIdeal.sig) → Buf (Elt Ideal) ℓ) (g : Dev Cert.KernelXattnFIdeal.nD → PrngReg)
    (m' : (ℓ : Loc Cert.ReferenceXattnFIdeal.nD Cert.ReferenceXattnFIdeal.τ Cert.ReferenceXattnFIdeal.sig) → Buf (Elt Ideal) ℓ) (g' : Dev Cert.ReferenceXattnFIdeal.nD → PrngReg), Pre_KernelXattnFIdeal m →
    (∀ c : Dev Cert.KernelXattnFIdeal.nD,
      m' ((c.tc : Thread Cert.ReferenceXattnFIdeal.nD Cert.ReferenceXattnFIdeal.τ).loc Cert.ReferenceXattnFIdeal.main_arg0) = m ((c.tc : Thread Cert.KernelXattnFIdeal.nD Cert.KernelXattnFIdeal.τ).loc Cert.KernelXattnFIdeal.main_arg0)
      ∧ m' ((c.tc : Thread Cert.ReferenceXattnFIdeal.nD Cert.ReferenceXattnFIdeal.τ).loc Cert.ReferenceXattnFIdeal.main_arg1) = m ((c.tc : Thread Cert.KernelXattnFIdeal.nD Cert.KernelXattnFIdeal.τ).loc Cert.KernelXattnFIdeal.main_arg1)) →
    ∃ (v0 : (c : Dev Cert.KernelXattnFIdeal.nD) → Buf (Elt Ideal) ((c.tc : Thread Cert.KernelXattnFIdeal.nD Cert.KernelXattnFIdeal.τ).loc Cert.KernelXattnFIdeal.main_v2)),
      θ_run (Cert.KernelXattnFIdeal.defs (F := Ideal)) (onTc (τ := Cert.KernelXattnFIdeal.τ) (Cert.KernelXattnFIdeal.main (F := Ideal))) ⟨m, fun _ => 0, g⟩ (fun r => ∀ c : Dev Cert.KernelXattnFIdeal.nD,
          r.2.mem ((c.tc : Thread Cert.KernelXattnFIdeal.nD Cert.KernelXattnFIdeal.τ).loc Cert.KernelXattnFIdeal.main_v2) = v0 c
          ∧ r.2.mem ((c.tc : Thread Cert.KernelXattnFIdeal.nD Cert.KernelXattnFIdeal.τ).loc Cert.KernelXattnFIdeal.main_arg0) = m ((c.tc : Thread Cert.KernelXattnFIdeal.nD Cert.KernelXattnFIdeal.τ).loc Cert.KernelXattnFIdeal.main_arg0)
          ∧ r.2.mem ((c.tc : Thread Cert.KernelXattnFIdeal.nD Cert.KernelXattnFIdeal.τ).loc Cert.KernelXattnFIdeal.main_arg1) = m ((c.tc : Thread Cert.KernelXattnFIdeal.nD Cert.KernelXattnFIdeal.τ).loc Cert.KernelXattnFIdeal.main_arg1))
      ∧ θ_run (Cert.ReferenceXattnFIdeal.defs (F := Ideal)) (onTc (τ := Cert.ReferenceXattnFIdeal.τ) (Cert.ReferenceXattnFIdeal.main (F := Ideal))) ⟨m', fun _ => 0, g'⟩ (fun r => ∀ c : Dev Cert.ReferenceXattnFIdeal.nD,
          r.2.mem ((c.tc : Thread Cert.ReferenceXattnFIdeal.nD Cert.ReferenceXattnFIdeal.τ).loc Cert.ReferenceXattnFIdeal.main_v23) = v0 c
          ∧ r.2.mem ((c.tc : Thread Cert.ReferenceXattnFIdeal.nD Cert.ReferenceXattnFIdeal.τ).loc Cert.ReferenceXattnFIdeal.main_arg0) = m' ((c.tc : Thread Cert.ReferenceXattnFIdeal.nD Cert.ReferenceXattnFIdeal.τ).loc Cert.ReferenceXattnFIdeal.main_arg0)
          ∧ r.2.mem ((c.tc : Thread Cert.ReferenceXattnFIdeal.nD Cert.ReferenceXattnFIdeal.τ).loc Cert.ReferenceXattnFIdeal.main_arg1) = m' ((c.tc : Thread Cert.ReferenceXattnFIdeal.nD Cert.ReferenceXattnFIdeal.τ).loc Cert.ReferenceXattnFIdeal.main_arg1))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)) →
    ∃ (v0 : (c : Dev Cert.KernelUpIdeal.nD) → Buf (Elt Ideal) ((c.tc : Thread Cert.KernelUpIdeal.nD Cert.KernelUpIdeal.τ).loc Cert.KernelUpIdeal.main_v5_0)) (v1 : (c : Dev Cert.KernelUpIdeal.nD) → Buf (Elt Ideal) ((c.tc : Thread Cert.KernelUpIdeal.nD Cert.KernelUpIdeal.τ).loc Cert.KernelUpIdeal.main_v5_1)) (v2 : (c : Dev Cert.KernelUpIdeal.nD) → Buf (Elt Ideal) ((c.tc : Thread Cert.KernelUpIdeal.nD Cert.KernelUpIdeal.τ).loc Cert.KernelUpIdeal.main_v5_2)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v5_0) = v0 c
          ∧ r.2.mem ((c.tc : Thread Cert.KernelUpIdeal.nD Cert.KernelUpIdeal.τ).loc Cert.KernelUpIdeal.main_v5_1) = v1 c
          ∧ r.2.mem ((c.tc : Thread Cert.KernelUpIdeal.nD Cert.KernelUpIdeal.τ).loc Cert.KernelUpIdeal.main_v5_2) = v2 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v4) = v0 c
          ∧ r.2.mem ((c.tc : Thread Cert.ReferenceUpIdeal.nD Cert.ReferenceUpIdeal.τ).loc Cert.ReferenceUpIdeal.main_v5) = v1 c
          ∧ r.2.mem ((c.tc : Thread Cert.ReferenceUpIdeal.nD Cert.ReferenceUpIdeal.τ).loc Cert.ReferenceUpIdeal.main_v6) = v2 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2))

def preserves_KernelRmsF_KernelRmsFIdeal : Prop :=
  True

def algebraic_KernelRmsFIdeal_ReferenceRmsFIdeal [hKernelRmsFIdeal : Cert.KernelRmsFIdeal.Facts] [hReferenceRmsFIdeal : Cert.ReferenceRmsFIdeal.Facts] : Prop :=
  ∀ (m : (ℓ : Loc Cert.KernelRmsFIdeal.nD Cert.KernelRmsFIdeal.τ Cert.KernelRmsFIdeal.sig) → Buf (Elt Ideal) ℓ) (g : Dev Cert.KernelRmsFIdeal.nD → PrngReg)
    (m' : (ℓ : Loc Cert.ReferenceRmsFIdeal.nD Cert.ReferenceRmsFIdeal.τ Cert.ReferenceRmsFIdeal.sig) → Buf (Elt Ideal) ℓ) (g' : Dev Cert.ReferenceRmsFIdeal.nD → PrngReg), Pre_KernelRmsFIdeal m →
    (∀ c : Dev Cert.KernelRmsFIdeal.nD,
      m' ((c.tc : Thread Cert.ReferenceRmsFIdeal.nD Cert.ReferenceRmsFIdeal.τ).loc Cert.ReferenceRmsFIdeal.main_arg0) = m ((c.tc : Thread Cert.KernelRmsFIdeal.nD Cert.KernelRmsFIdeal.τ).loc Cert.KernelRmsFIdeal.main_arg0)
      ∧ m' ((c.tc : Thread Cert.ReferenceRmsFIdeal.nD Cert.ReferenceRmsFIdeal.τ).loc Cert.ReferenceRmsFIdeal.main_arg1) = m ((c.tc : Thread Cert.KernelRmsFIdeal.nD Cert.KernelRmsFIdeal.τ).loc Cert.KernelRmsFIdeal.main_arg1)) →
    ∃ (v0 : (c : Dev Cert.KernelRmsFIdeal.nD) → Buf (Elt Ideal) ((c.tc : Thread Cert.KernelRmsFIdeal.nD Cert.KernelRmsFIdeal.τ).loc Cert.KernelRmsFIdeal.main_v1)),
      θ_run (Cert.KernelRmsFIdeal.defs (F := Ideal)) (onTc (τ := Cert.KernelRmsFIdeal.τ) (Cert.KernelRmsFIdeal.main (F := Ideal))) ⟨m, fun _ => 0, g⟩ (fun r => ∀ c : Dev Cert.KernelRmsFIdeal.nD,
          r.2.mem ((c.tc : Thread Cert.KernelRmsFIdeal.nD Cert.KernelRmsFIdeal.τ).loc Cert.KernelRmsFIdeal.main_v1) = v0 c
          ∧ r.2.mem ((c.tc : Thread Cert.KernelRmsFIdeal.nD Cert.KernelRmsFIdeal.τ).loc Cert.KernelRmsFIdeal.main_arg0) = m ((c.tc : Thread Cert.KernelRmsFIdeal.nD Cert.KernelRmsFIdeal.τ).loc Cert.KernelRmsFIdeal.main_arg0)
          ∧ r.2.mem ((c.tc : Thread Cert.KernelRmsFIdeal.nD Cert.KernelRmsFIdeal.τ).loc Cert.KernelRmsFIdeal.main_arg1) = m ((c.tc : Thread Cert.KernelRmsFIdeal.nD Cert.KernelRmsFIdeal.τ).loc Cert.KernelRmsFIdeal.main_arg1))
      ∧ θ_run (Cert.ReferenceRmsFIdeal.defs (F := Ideal)) (onTc (τ := Cert.ReferenceRmsFIdeal.τ) (Cert.ReferenceRmsFIdeal.main (F := Ideal))) ⟨m', fun _ => 0, g'⟩ (fun r => ∀ c : Dev Cert.ReferenceRmsFIdeal.nD,
          r.2.mem ((c.tc : Thread Cert.ReferenceRmsFIdeal.nD Cert.ReferenceRmsFIdeal.τ).loc Cert.ReferenceRmsFIdeal.main_v13) = v0 c
          ∧ r.2.mem ((c.tc : Thread Cert.ReferenceRmsFIdeal.nD Cert.ReferenceRmsFIdeal.τ).loc Cert.ReferenceRmsFIdeal.main_arg0) = m' ((c.tc : Thread Cert.ReferenceRmsFIdeal.nD Cert.ReferenceRmsFIdeal.τ).loc Cert.ReferenceRmsFIdeal.main_arg0)
          ∧ r.2.mem ((c.tc : Thread Cert.ReferenceRmsFIdeal.nD Cert.ReferenceRmsFIdeal.τ).loc Cert.ReferenceRmsFIdeal.main_arg1) = m' ((c.tc : Thread Cert.ReferenceRmsFIdeal.nD Cert.ReferenceRmsFIdeal.τ).loc Cert.ReferenceRmsFIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)) →
    ∃ (v0 : (c : Dev Cert.KernelDownIdeal.nD) → Buf (Elt Ideal) ((c.tc : Thread Cert.KernelDownIdeal.nD Cert.KernelDownIdeal.τ).loc Cert.KernelDownIdeal.main_v3_0)) (v1 : (c : Dev Cert.KernelDownIdeal.nD) → Buf (Elt Ideal) ((c.tc : Thread Cert.KernelDownIdeal.nD Cert.KernelDownIdeal.τ).loc Cert.KernelDownIdeal.main_v3_1)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v3_0) = v0 c
          ∧ r.2.mem ((c.tc : Thread Cert.KernelDownIdeal.nD Cert.KernelDownIdeal.τ).loc Cert.KernelDownIdeal.main_v3_1) = v1 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v3) = v0 c
          ∧ r.2.mem ((c.tc : Thread Cert.ReferenceDownIdeal.nD Cert.ReferenceDownIdeal.τ).loc Cert.ReferenceDownIdeal.main_v17) = v1 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3))

def Claim : Prop :=
  ∃ (hKernelXattn : Cert.KernelXattn.Facts) (hKernelXattnIdeal : Cert.KernelXattnIdeal.Facts) (hReferenceXattnIdeal : Cert.ReferenceXattnIdeal.Facts) (hKernelRms : Cert.KernelRms.Facts) (hKernelRmsIdeal : Cert.KernelRmsIdeal.Facts) (hReferenceRmsIdeal : Cert.ReferenceRmsIdeal.Facts) (hKernelLoss : Cert.KernelLoss.Facts) (hKernelLossIdeal : Cert.KernelLossIdeal.Facts) (hReferenceLossIdeal : Cert.ReferenceLossIdeal.Facts) (hKernelMid : Cert.KernelMid.Facts) (hKernelMidIdeal : Cert.KernelMidIdeal.Facts) (hReferenceMidIdeal : Cert.ReferenceMidIdeal.Facts) (hKernelDh : Cert.KernelDh.Facts) (hKernelDhIdeal : Cert.KernelDhIdeal.Facts) (hReferenceDhIdeal : Cert.ReferenceDhIdeal.Facts) (hKernelDhn : Cert.KernelDhn.Facts) (hKernelDhnIdeal : Cert.KernelDhnIdeal.Facts) (hReferenceDhnIdeal : Cert.ReferenceDhnIdeal.Facts) (hKernelDh3 : Cert.KernelDh3.Facts) (hKernelDh3Ideal : Cert.KernelDh3Ideal.Facts) (hReferenceDh3Ideal : Cert.ReferenceDh3Ideal.Facts) (hKernelDh2 : Cert.KernelDh2.Facts) (hKernelDh2Ideal : Cert.KernelDh2Ideal.Facts) (hReferenceDh2Ideal : Cert.ReferenceDh2Ideal.Facts) (hKernelDmg : Cert.KernelDmg.Facts) (hKernelDmgIdeal : Cert.KernelDmgIdeal.Facts) (hReferenceDmgIdeal : Cert.ReferenceDmgIdeal.Facts) (hKernelPool : Cert.KernelPool.Facts) (hKernelPoolIdeal : Cert.KernelPoolIdeal.Facts) (hReferencePoolIdeal : Cert.ReferencePoolIdeal.Facts) (hKernelSwa : Cert.KernelSwa.Facts) (hKernelSwaIdeal : Cert.KernelSwaIdeal.Facts) (hReferenceSwaIdeal : Cert.ReferenceSwaIdeal.Facts) (hKernelProj : Cert.KernelProj.Facts) (hKernelProjIdeal : Cert.KernelProjIdeal.Facts) (hReferenceProjIdeal : Cert.ReferenceProjIdeal.Facts) (hKernelXattnF : Cert.KernelXattnF.Facts) (hKernelXattnFIdeal : Cert.KernelXattnFIdeal.Facts) (hReferenceXattnFIdeal : Cert.ReferenceXattnFIdeal.Facts) (hKernelUp : Cert.KernelUp.Facts) (hKernelUpIdeal : Cert.KernelUpIdeal.Facts) (hReferenceUpIdeal : Cert.ReferenceUpIdeal.Facts) (hKernelRmsF : Cert.KernelRmsF.Facts) (hKernelRmsFIdeal : Cert.KernelRmsFIdeal.Facts) (hReferenceRmsFIdeal : Cert.ReferenceRmsFIdeal.Facts) (hKernelDown : Cert.KernelDown.Facts) (hKernelDownIdeal : Cert.KernelDownIdeal.Facts) (hReferenceDownIdeal : Cert.ReferenceDownIdeal.Facts) (hPre_finite_xattn : Cert.Pre_finite_xattn.Facts) (hPre_finite_rms : Cert.Pre_finite_rms.Facts) (hPre_finite_loss : Cert.Pre_finite_loss.Facts) (hPre_finite_mid : Cert.Pre_finite_mid.Facts) (hPre_finite_dh : Cert.Pre_finite_dh.Facts) (hPre_finite_dhn : Cert.Pre_finite_dhn.Facts) (hPre_finite_dh3 : Cert.Pre_finite_dh3.Facts) (hPre_finite_dh2 : Cert.Pre_finite_dh2.Facts) (hPre_finite_dmg : Cert.Pre_finite_dmg.Facts) (hPre_finite_pool : Cert.Pre_finite_pool.Facts) (hPre_finite_swa : Cert.Pre_finite_swa.Facts),
    quiescent_KernelXattn (hKernelXattn := hKernelXattn)
    ∧ quiescent_KernelXattnIdeal (hKernelXattnIdeal := hKernelXattnIdeal)
    ∧ quiescent_KernelXattnIdeal_pre_finite_xattn (hKernelXattnIdeal := hKernelXattnIdeal) (hPre_finite_xattn := hPre_finite_xattn)
    ∧ quiescent_ReferenceXattnIdeal (hReferenceXattnIdeal := hReferenceXattnIdeal)
    ∧ quiescent_ReferenceXattnIdeal_pre_finite_xattn (hReferenceXattnIdeal := hReferenceXattnIdeal) (hPre_finite_xattn := hPre_finite_xattn)
    ∧ quiescent_KernelRms (hKernelRms := hKernelRms)
    ∧ quiescent_KernelRmsIdeal (hKernelRmsIdeal := hKernelRmsIdeal)
    ∧ quiescent_KernelRmsIdeal_pre_finite_rms (hKernelRmsIdeal := hKernelRmsIdeal) (hPre_finite_rms := hPre_finite_rms)
    ∧ quiescent_ReferenceRmsIdeal (hReferenceRmsIdeal := hReferenceRmsIdeal)
    ∧ quiescent_ReferenceRmsIdeal_pre_finite_rms (hReferenceRmsIdeal := hReferenceRmsIdeal) (hPre_finite_rms := hPre_finite_rms)
    ∧ quiescent_KernelLoss (hKernelLoss := hKernelLoss)
    ∧ quiescent_KernelLossIdeal (hKernelLossIdeal := hKernelLossIdeal)
    ∧ quiescent_KernelLossIdeal_pre_finite_loss (hKernelLossIdeal := hKernelLossIdeal) (hPre_finite_loss := hPre_finite_loss)
    ∧ quiescent_ReferenceLossIdeal (hReferenceLossIdeal := hReferenceLossIdeal)
    ∧ quiescent_ReferenceLossIdeal_pre_finite_loss (hReferenceLossIdeal := hReferenceLossIdeal) (hPre_finite_loss := hPre_finite_loss)
    ∧ quiescent_KernelMid (hKernelMid := hKernelMid)
    ∧ quiescent_KernelMidIdeal (hKernelMidIdeal := hKernelMidIdeal)
    ∧ quiescent_KernelMidIdeal_pre_finite_mid (hKernelMidIdeal := hKernelMidIdeal) (hPre_finite_mid := hPre_finite_mid)
    ∧ quiescent_ReferenceMidIdeal (hReferenceMidIdeal := hReferenceMidIdeal)
    ∧ quiescent_ReferenceMidIdeal_pre_finite_mid (hReferenceMidIdeal := hReferenceMidIdeal) (hPre_finite_mid := hPre_finite_mid)
    ∧ quiescent_KernelDh (hKernelDh := hKernelDh)
    ∧ quiescent_KernelDhIdeal (hKernelDhIdeal := hKernelDhIdeal)
    ∧ quiescent_KernelDhIdeal_pre_finite_dh (hKernelDhIdeal := hKernelDhIdeal) (hPre_finite_dh := hPre_finite_dh)
    ∧ quiescent_ReferenceDhIdeal (hReferenceDhIdeal := hReferenceDhIdeal)
    ∧ quiescent_ReferenceDhIdeal_pre_finite_dh (hReferenceDhIdeal := hReferenceDhIdeal) (hPre_finite_dh := hPre_finite_dh)
    ∧ quiescent_KernelDhn (hKernelDhn := hKernelDhn)
    ∧ quiescent_KernelDhnIdeal (hKernelDhnIdeal := hKernelDhnIdeal)
    ∧ quiescent_KernelDhnIdeal_pre_finite_dhn (hKernelDhnIdeal := hKernelDhnIdeal) (hPre_finite_dhn := hPre_finite_dhn)
    ∧ quiescent_ReferenceDhnIdeal (hReferenceDhnIdeal := hReferenceDhnIdeal)
    ∧ quiescent_ReferenceDhnIdeal_pre_finite_dhn (hReferenceDhnIdeal := hReferenceDhnIdeal) (hPre_finite_dhn := hPre_finite_dhn)
    ∧ quiescent_KernelDh3 (hKernelDh3 := hKernelDh3)
    ∧ quiescent_KernelDh3Ideal (hKernelDh3Ideal := hKernelDh3Ideal)
    ∧ quiescent_KernelDh3Ideal_pre_finite_dh3 (hKernelDh3Ideal := hKernelDh3Ideal) (hPre_finite_dh3 := hPre_finite_dh3)
    ∧ quiescent_ReferenceDh3Ideal (hReferenceDh3Ideal := hReferenceDh3Ideal)
    ∧ quiescent_ReferenceDh3Ideal_pre_finite_dh3 (hReferenceDh3Ideal := hReferenceDh3Ideal) (hPre_finite_dh3 := hPre_finite_dh3)
    ∧ quiescent_KernelDh2 (hKernelDh2 := hKernelDh2)
    ∧ quiescent_KernelDh2Ideal (hKernelDh2Ideal := hKernelDh2Ideal)
    ∧ quiescent_KernelDh2Ideal_pre_finite_dh2 (hKernelDh2Ideal := hKernelDh2Ideal) (hPre_finite_dh2 := hPre_finite_dh2)
    ∧ quiescent_ReferenceDh2Ideal (hReferenceDh2Ideal := hReferenceDh2Ideal)
    ∧ quiescent_ReferenceDh2Ideal_pre_finite_dh2 (hReferenceDh2Ideal := hReferenceDh2Ideal) (hPre_finite_dh2 := hPre_finite_dh2)
    ∧ quiescent_KernelDmg (hKernelDmg := hKernelDmg)
    ∧ quiescent_KernelDmgIdeal (hKernelDmgIdeal := hKernelDmgIdeal)
    ∧ quiescent_KernelDmgIdeal_pre_finite_dmg (hKernelDmgIdeal := hKernelDmgIdeal) (hPre_finite_dmg := hPre_finite_dmg)
    ∧ quiescent_ReferenceDmgIdeal (hReferenceDmgIdeal := hReferenceDmgIdeal)
    ∧ quiescent_ReferenceDmgIdeal_pre_finite_dmg (hReferenceDmgIdeal := hReferenceDmgIdeal) (hPre_finite_dmg := hPre_finite_dmg)
    ∧ quiescent_KernelPool (hKernelPool := hKernelPool)
    ∧ quiescent_KernelPoolIdeal (hKernelPoolIdeal := hKernelPoolIdeal)
    ∧ quiescent_KernelPoolIdeal_pre_finite_pool (hKernelPoolIdeal := hKernelPoolIdeal) (hPre_finite_pool := hPre_finite_pool)
    ∧ quiescent_ReferencePoolIdeal (hReferencePoolIdeal := hReferencePoolIdeal)
    ∧ quiescent_ReferencePoolIdeal_pre_finite_pool (hReferencePoolIdeal := hReferencePoolIdeal) (hPre_finite_pool := hPre_finite_pool)
    ∧ quiescent_KernelSwa (hKernelSwa := hKernelSwa)
    ∧ quiescent_KernelSwaIdeal (hKernelSwaIdeal := hKernelSwaIdeal)
    ∧ quiescent_KernelSwaIdeal_pre_finite_swa (hKernelSwaIdeal := hKernelSwaIdeal) (hPre_finite_swa := hPre_finite_swa)
    ∧ quiescent_ReferenceSwaIdeal (hReferenceSwaIdeal := hReferenceSwaIdeal)
    ∧ quiescent_ReferenceSwaIdeal_pre_finite_swa (hReferenceSwaIdeal := hReferenceSwaIdeal) (hPre_finite_swa := hPre_finite_swa)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelXattnF (hKernelXattnF := hKernelXattnF)
    ∧ quiescent_KernelXattnFIdeal (hKernelXattnFIdeal := hKernelXattnFIdeal)
    ∧ quiescent_ReferenceXattnFIdeal (hReferenceXattnFIdeal := hReferenceXattnFIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelRmsF (hKernelRmsF := hKernelRmsF)
    ∧ quiescent_KernelRmsFIdeal (hKernelRmsFIdeal := hKernelRmsFIdeal)
    ∧ quiescent_ReferenceRmsFIdeal (hReferenceRmsFIdeal := hReferenceRmsFIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ preserves_KernelXattn_KernelXattnIdeal
    ∧ algebraic_KernelXattnIdeal_ReferenceXattnIdeal_pre_finite_xattn (hKernelXattnIdeal := hKernelXattnIdeal) (hReferenceXattnIdeal := hReferenceXattnIdeal) (hPre_finite_xattn := hPre_finite_xattn)
    ∧ preserves_KernelRms_KernelRmsIdeal
    ∧ algebraic_KernelRmsIdeal_ReferenceRmsIdeal_pre_finite_rms (hKernelRmsIdeal := hKernelRmsIdeal) (hReferenceRmsIdeal := hReferenceRmsIdeal) (hPre_finite_rms := hPre_finite_rms)
    ∧ preserves_KernelLoss_KernelLossIdeal
    ∧ algebraic_KernelLossIdeal_ReferenceLossIdeal_pre_finite_loss (hKernelLossIdeal := hKernelLossIdeal) (hReferenceLossIdeal := hReferenceLossIdeal) (hPre_finite_loss := hPre_finite_loss)
    ∧ preserves_KernelMid_KernelMidIdeal
    ∧ algebraic_KernelMidIdeal_ReferenceMidIdeal_pre_finite_mid (hKernelMidIdeal := hKernelMidIdeal) (hReferenceMidIdeal := hReferenceMidIdeal) (hPre_finite_mid := hPre_finite_mid)
    ∧ preserves_KernelDh_KernelDhIdeal
    ∧ algebraic_KernelDhIdeal_ReferenceDhIdeal_pre_finite_dh (hKernelDhIdeal := hKernelDhIdeal) (hReferenceDhIdeal := hReferenceDhIdeal) (hPre_finite_dh := hPre_finite_dh)
    ∧ preserves_KernelDhn_KernelDhnIdeal
    ∧ algebraic_KernelDhnIdeal_ReferenceDhnIdeal_pre_finite_dhn (hKernelDhnIdeal := hKernelDhnIdeal) (hReferenceDhnIdeal := hReferenceDhnIdeal) (hPre_finite_dhn := hPre_finite_dhn)
    ∧ preserves_KernelDh3_KernelDh3Ideal
    ∧ algebraic_KernelDh3Ideal_ReferenceDh3Ideal_pre_finite_dh3 (hKernelDh3Ideal := hKernelDh3Ideal) (hReferenceDh3Ideal := hReferenceDh3Ideal) (hPre_finite_dh3 := hPre_finite_dh3)
    ∧ preserves_KernelDh2_KernelDh2Ideal
    ∧ algebraic_KernelDh2Ideal_ReferenceDh2Ideal_pre_finite_dh2 (hKernelDh2Ideal := hKernelDh2Ideal) (hReferenceDh2Ideal := hReferenceDh2Ideal) (hPre_finite_dh2 := hPre_finite_dh2)
    ∧ preserves_KernelDmg_KernelDmgIdeal
    ∧ algebraic_KernelDmgIdeal_ReferenceDmgIdeal_pre_finite_dmg (hKernelDmgIdeal := hKernelDmgIdeal) (hReferenceDmgIdeal := hReferenceDmgIdeal) (hPre_finite_dmg := hPre_finite_dmg)
    ∧ preserves_KernelPool_KernelPoolIdeal
    ∧ algebraic_KernelPoolIdeal_ReferencePoolIdeal_pre_finite_pool (hKernelPoolIdeal := hKernelPoolIdeal) (hReferencePoolIdeal := hReferencePoolIdeal) (hPre_finite_pool := hPre_finite_pool)
    ∧ preserves_KernelSwa_KernelSwaIdeal
    ∧ algebraic_KernelSwaIdeal_ReferenceSwaIdeal_pre_finite_swa (hKernelSwaIdeal := hKernelSwaIdeal) (hReferenceSwaIdeal := hReferenceSwaIdeal) (hPre_finite_swa := hPre_finite_swa)
    ∧ preserves_KernelProj_KernelProjIdeal
    ∧ algebraic_KernelProjIdeal_ReferenceProjIdeal (hKernelProjIdeal := hKernelProjIdeal) (hReferenceProjIdeal := hReferenceProjIdeal)
    ∧ preserves_KernelXattnF_KernelXattnFIdeal
    ∧ algebraic_KernelXattnFIdeal_ReferenceXattnFIdeal (hKernelXattnFIdeal := hKernelXattnFIdeal) (hReferenceXattnFIdeal := hReferenceXattnFIdeal)
    ∧ preserves_KernelUp_KernelUpIdeal
    ∧ algebraic_KernelUpIdeal_ReferenceUpIdeal (hKernelUpIdeal := hKernelUpIdeal) (hReferenceUpIdeal := hReferenceUpIdeal)
    ∧ preserves_KernelRmsF_KernelRmsFIdeal
    ∧ algebraic_KernelRmsFIdeal_ReferenceRmsFIdeal (hKernelRmsFIdeal := hKernelRmsFIdeal) (hReferenceRmsFIdeal := hReferenceRmsFIdeal)
    ∧ preserves_KernelDown_KernelDownIdeal
    ∧ algebraic_KernelDownIdeal_ReferenceDownIdeal (hKernelDownIdeal := hKernelDownIdeal) (hReferenceDownIdeal := hReferenceDownIdeal)
-- ==== Pre_finite_dh.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S8192x2816 : S_.BroadcastsInDim S8192x2816 (![] : Fin 0 → Fin S8192x2816.rank)

variable [Facts]

def fn {F : FTy → Type} [FloatOps F] (main_arg0 : FVec F S8192x1024 .f32) (main_arg1 : FVec F S1024 .f32) (main_arg2 : FVec F S1024x2816 .f32) (main_arg3 : FVec F S1024x2816 .f32) (main_arg4 : FVec F S8192x1024 .f32) (main_arg5 : FVec F S8192x2816 .f32) (main_arg6 : FVec F S8192x2816 .f32) : IVec S8192x1024 1 × IVec S1024 1 × IVec S1024x2816 1 × IVec S1024x2816 1 × IVec S8192x2816 1 × IVec S8192x2816 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S8192x2816 .f32 := Host.absf main_arg5
  let main_cst_3 : FVec F S_ .f32 := constant S_ .f32 0x7F800000#32
  let main_v13 : FVec F S8192x2816 .f32 := broadcastInDim S8192x2816 ![] bcast_S_S8192x2816 main_cst_3
  let main_v14 : IVec S8192x2816 1 := cmpf .olt main_v12 main_v13
  let main_v15 : FVec F S8192x2816 .f32 := Host.absf main_arg6
  let main_cst_4 : FVec F S_ .f32 := constant S_ .f32 0x7F800000#32
  let main_v16 : FVec F S8192x2816 .f32 := broadcastInDim S8192x2816 ![] bcast_S_S8192x2816 main_cst_4
  let main_v17 : IVec S8192x2816 1 := cmpf .olt main_v15 main_v16
  (main_v2, main_v5, main_v8, main_v11, main_v14, main_v17)
-- ==== Pre_finite_dh2.lean ====
abbrev S8192x1024 : Shape := ⟨2, ![8192, 1024]⟩
abbrev S1024 : Shape := ⟨1, ![1024]⟩
abbrev S1024x1280 : Shape := ⟨2, ![1024, 1280]⟩
abbrev S8192x1280 : Shape := ⟨2, ![8192, 1280]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x1280 : S_.BroadcastsInDim S1024x1280 (![] : Fin 0 → Fin S1024x1280.rank)
  bcast_S_S8192x1280 : S_.BroadcastsInDim S8192x1280 (![] : Fin 0 → Fin S8192x1280.rank)

variable [Facts]

def fn {F : FTy → Type} [FloatOps F] (main_arg0 : FVec F S8192x1024 .f32) (main_arg1 : FVec F S1024 .f32) (main_arg2 : FVec F S1024x1280 .f32) (main_arg3 : FVec F S8192x1024 .f32) (main_arg4 : FVec F S8192x1280 .f32) : IVec S8192x1024 1 × IVec S1024 1 × IVec S1024x1280 1 × IVec S8192x1280 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x1280 .f32 := Host.absf main_arg2
  let main_cst_1 : FVec F S_ .f32 := constant S_ .f32 0x7F800000#32
  let main_v7 : FVec F S1024x1280 .f32 := broadcastInDim S1024x1280 ![] bcast_S_S1024x1280 main_cst_1
  let main_v8 : IVec S1024x1280 1 := cmpf .olt main_v6 main_v7
  let main_v9 : FVec F S8192x1280 .f32 := Host.absf main_arg4
  let main_cst_2 : FVec F S_ .f32 := constant S_ .f32 0x7F800000#32
  let main_v10 : FVec F S8192x1280 .f32 := broadcastInDim S8192x1280 ![] bcast_S_S8192x1280 main_cst_2
  let main_v11 : IVec S8192x1280 1 := cmpf .olt main_v9 main_v10
  (main_v2, main_v5, main_v8, main_v11)
-- ==== Pre_finite_dh3.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn {F : FTy → Type} [FloatOps F] (main_arg0 : FVec F S8192x1024 .f32) (main_arg1 : FVec F S1024 .f32) (main_arg2 : FVec F S1024x1024 .f32) (main_arg3 : FVec F S8192x1024 .f32) (main_arg4 : FVec F S8192x1024 .f32) : IVec S8192x1024 1 × IVec S1024 1 × IVec S1024x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S8192x1024 .f32 := Host.absf main_arg4
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Pre_finite_dhn.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S8192x2816 : S_.BroadcastsInDim S8192x2816 (![] : Fin 0 → Fin S8192x2816.rank)

variable [Facts]

def fn {F : FTy → Type} [FloatOps F] (main_arg0 : FVec F S8192x1024 .f32) (main_arg1 : FVec F S1024 .f32) (main_arg2 : FVec F S1024x2816 .f32) (main_arg3 : FVec F S1024x2816 .f32) (main_arg4 : FVec F S8192x1024 .f32) (main_arg5 : FVec F S8192x2816 .f32) (main_arg6 : FVec F S8192x2816 .f32) : IVec S8192x1024 1 × IVec S1024 1 × IVec S1024x2816 1 × IVec S1024x2816 1 × IVec S8192x2816 1 × IVec S8192x2816 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S8192x2816 .f32 := Host.absf main_arg5
  let main_cst_3 : FVec F S_ .f32 := constant S_ .f32 0x7F800000#32
  let main_v13 : FVec F S8192x2816 .f32 := broadcastInDim S8192x2816 ![] bcast_S_S8192x2816 main_cst_3
  let main_v14 : IVec S8192x2816 1 := cmpf .olt main_v12 main_v13
  let main_v15 : FVec F S8192x2816 .f32 := Host.absf main_arg6
  let main_cst_4 : FVec F S_ .f32 := constant S_ .f32 0x7F800000#32
  let main_v16 : FVec F S8192x2816 .f32 := broadcastInDim S8192x2816 ![] bcast_S_S8192x2816 main_cst_4
  let main_v17 : IVec S8192x2816 1 := cmpf .olt main_v15 main_v16
  (main_v2, main_v5, main_v8, main_v11, main_v14, main_v17)
-- ==== Pre_finite_dmg.lean ====
abbrev S8192x512 : Shape := ⟨2, ![8192, 512]⟩
abbrev S512 : Shape := ⟨1, ![512]⟩
abbrev S1024x1024 : Shape := ⟨2, ![1024, 1024]⟩
abbrev S8192x1024 : Shape := ⟨2, ![8192, 1024]⟩
abbrev S_ : Shape := ⟨0, ![]⟩

class Facts : Prop where
  bcast_S_S8192x512 : S_.BroadcastsInDim S8192x512 (![] : Fin 0 → Fin S8192x512.rank)
  bcast_S_S512 : S_.BroadcastsInDim S512 (![] : Fin 0 → Fin S512.rank)
  bcast_S_S1024x1024 : S_.BroadcastsInDim S1024x1024 (![] : Fin 0 → Fin S1024x1024.rank)
  bcast_S_S8192x1024 : S_.BroadcastsInDim S8192x1024 (![] : Fin 0 → Fin S8192x1024.rank)

variable [Facts]

def fn {F : FTy → Type} [FloatOps F] (main_arg0 : FVec F S8192x512 .f32) (main_arg1 : FVec F S8192x512 .f32) (main_arg2 : FVec F S512 .f32) (main_arg3 : FVec F S512 .f32) (main_arg4 : FVec F S1024x1024 .f32) (main_arg5 : FVec F S8192x1024 .f32) : IVec S8192x512 1 × IVec S8192x512 1 × IVec S512 1 × IVec S512 1 × IVec S1024x1024 1 × IVec S8192x1024 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== Pre_finite_loss.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x1024 .f32) (main_arg1 : FVec F S8192x1024 .f32) (main_arg2 : FVec F S1024 .f32) : IVec S8192x1024 1 × IVec S8192x1024 1 × IVec S1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  (main_v2, main_v5, main_v8)
-- ==== Pre_finite_mid.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

class Facts : Prop where
  bcast_S_S8192x2816 : S_.BroadcastsInDim S8192x2816 (![] : Fin 0 → Fin S8192x2816.rank)
  bcast_S_S2816x1024 : S_.BroadcastsInDim S2816x1024 (![] : Fin 0 → Fin S2816x1024.rank)
  bcast_S_S8192x1024 : S_.BroadcastsInDim S8192x1024 (![] : Fin 0 → Fin S8192x1024.rank)

variable [Facts]

def fn {F : FTy → Type} [FloatOps F] (main_arg0 : FVec F S8192x2816 .f32) (main_arg1 : FVec F S8192x2816 .f32) (main_arg2 : FVec F S2816x1024 .f32) (main_arg3 : FVec F S8192x1024 .f32) : IVec S8192x2816 1 × IVec S8192x2816 1 × IVec S2816x1024 1 × IVec S8192x1024 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_v3 : FVec F S8192x2816 .f32 := Host.absf main_arg1
  let main_cst_0 : FVec F S_ .f32 := constant S_ .f32 0x7F800000#32
  let main_v4 : FVec F S8192x2816 .f32 := broadcastInDim S8192x2816 ![] bcast_S_S8192x2816 main_cst_0
  let main_v5 : IVec S8192x2816 1 := cmpf .olt main_v3 main_v4
  let main_v6 : FVec F S2816x1024 .f32 := Host.absf main_arg2
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Pre_finite_pool.lean ====
abbrev S8192x512 : Shape := ⟨2, ![8192, 512]⟩
abbrev S4x128x128 : Shape := ⟨3, ![4, 128, 128]⟩
abbrev S512 : Shape := ⟨1, ![512]⟩
abbrev S_ : Shape := ⟨0, ![]⟩

class Facts : Prop where
  bcast_S_S8192x512 : S_.BroadcastsInDim S8192x512 (![] : Fin 0 → Fin S8192x512.rank)
  bcast_S_S4x128x128 : S_.BroadcastsInDim S4x128x128 (![] : Fin 0 → Fin S4x128x128.rank)
  bcast_S_S512 : S_.BroadcastsInDim S512 (![] : Fin 0 → Fin S512.rank)

variable [Facts]

def fn {F : FTy → Type} [FloatOps F] (main_arg0 : FVec F S8192x512 .f32) (main_arg1 : FVec F S4x128x128 .f32) (main_arg2 : FVec F S512 .f32) (main_arg3 : FVec F S8192x512 .f32) : IVec S8192x512 1 × IVec S4x128x128 1 × IVec S512 1 × IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S4x128x128 .f32 := Host.absf main_arg1
  let main_cst_0 : FVec F S_ .f32 := constant S_ .f32 0x7F800000#32
  let main_v4 : FVec F S4x128x128 .f32 := broadcastInDim S4x128x128 ![] bcast_S_S4x128x128 main_cst_0
  let main_v5 : IVec S4x128x128 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  (main_v2, main_v5, main_v8, main_v11)
-- ==== Pre_finite_rms.lean ====
abbrev S256x1024 : Shape := ⟨2, ![256, 1024]⟩
abbrev S1024 : Shape := ⟨1, ![1024]⟩
abbrev S_ : Shape := ⟨0, ![]⟩

class Facts : Prop where
  bcast_S_S256x1024 : S_.BroadcastsInDim S256x1024 (![] : Fin 0 → Fin S256x1024.rank)
  bcast_S_S1024 : S_.BroadcastsInDim S1024 (![] : Fin 0 → Fin S1024.rank)

variable [Facts]

def fn {F : FTy → Type} [FloatOps F] (main_arg0 : FVec F S256x1024 .f32) (main_arg1 : FVec F S1024 .f32) (main_arg2 : FVec F S256x1024 .f32) : IVec S256x1024 1 × IVec S1024 1 × IVec S256x1024 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S256x1024 .f32 := Host.absf main_arg2
  let main_cst_1 : FVec F S_ .f32 := constant S_ .f32 0x7F800000#32
  let main_v7 : FVec F S256x1024 .f32 := broadcastInDim S256x1024 ![] bcast_S_S256x1024 main_cst_1
  let main_v8 : IVec S256x1024 1 := cmpf .olt main_v6 main_v7
  (main_v2, main_v5, main_v8)
-- ==== Pre_finite_swa.lean ====
abbrev S8192x1280 : Shape := ⟨2, ![8192, 1280]⟩
abbrev S8192 : Shape := ⟨1, ![8192]⟩
abbrev S8 : Shape := ⟨1, ![8]⟩
abbrev S8192x512 : Shape := ⟨2, ![8192, 512]⟩
abbrev S_ : Shape := ⟨0, ![]⟩

class Facts : Prop where
  bcast_S_S8192x1280 : S_.BroadcastsInDim S8192x1280 (![] : Fin 0 → Fin S8192x1280.rank)
  bcast_S_S8 : S_.BroadcastsInDim S8 (![] : Fin 0 → Fin S8.rank)
  bcast_S_S8192x512 : S_.BroadcastsInDim S8192x512 (![] : Fin 0 → Fin S8192x512.rank)

variable [Facts]

def fn {F : FTy → Type} [FloatOps F] (main_arg0 : FVec F S8192x1280 .f32) (main_arg1 : IVec S8192 32) (main_arg2 : FVec F S8 .f32) (main_arg3 : FVec F S8192x512 .f32) (main_arg4 : FVec F S8192x512 .f32) : IVec S8192x1280 1 × IVec S8 1 × IVec S8192x512 1 :=
  let main_v0 : FVec F S8192x1280 .f32 := Host.absf main_arg0
  let main_cst : FVec F S_ .f32 := constant S_ .f32 0x7F800000#32
  let main_v1 : FVec F S8192x1280 .f32 := broadcastInDim S8192x1280 ![] bcast_S_S8192x1280 main_cst
  let main_v2 : IVec S8192x1280 1 := cmpf .olt main_v0 main_v1
  let main_v3 : FVec F S8 .f32 := Host.absf main_arg2
  let main_cst_0 : FVec F S_ .f32 := constant S_ .f32 0x7F800000#32
  let main_v4 : FVec F S8 .f32 := broadcastInDim S8 ![] bcast_S_S8 main_cst_0
  let main_v5 : IVec S8 1 := cmpf .olt main_v3 main_v4
  let main_v6 : FVec F S8192x512 .f32 := Host.absf main_arg3
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  (main_v2, main_v5, main_v8)
-- ==== Pre_finite_xattn.lean ====
abbrev S8192x1024 : Shape := ⟨2, ![8192, 1024]⟩
abbrev S256x2048 : Shape := ⟨2, ![256, 2048]⟩
abbrev S_ : Shape := ⟨0, ![]⟩

class Facts : Prop where
  bcast_S_S8192x1024 : S_.BroadcastsInDim S8192x1024 (![] : Fin 0 → Fin S8192x1024.rank)
  bcast_S_S256x2048 : S_.BroadcastsInDim S256x2048 (![] : Fin 0 → Fin S256x2048.rank)

variable [Facts]

def fn {F : FTy → Type} [FloatOps F] (main_arg0 : FVec F S8192x1024 .f32) (main_arg1 : FVec F S256x2048 .f32) (main_arg2 : FVec F S8192x1024 .f32) : IVec S8192x1024 1 × IVec S256x2048 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S256x2048 .f32 := Host.absf main_arg1
  let main_cst_0 : FVec F S_ .f32 := constant S_ .f32 0x7F800000#32
  let main_v4 : FVec F S256x2048 .f32 := broadcastInDim S256x2048 ![] bcast_S_S256x2048 main_cst_0
  let main_v5 : IVec S256x2048 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== KernelXattn.lean ====
abbrev S8192x1024 : Shape := ⟨2, ![8192, 1024]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S256x2048, .f32⟩
  | .hbm, ⟨2, _⟩ => ⟨S8192x1024, .f32⟩
  | .hbm, ⟨3, _⟩ => ⟨S8192x1024, .bf16⟩
  | .hbm, ⟨4, _⟩ => ⟨S256x2048, .bf16⟩
  | .hbm, ⟨5, _⟩ => ⟨S8192x1024, .bf16⟩
  | .hbm, ⟨6, _⟩ => ⟨S8192x1024, .bf16⟩
  | .hbm, ⟨7, _⟩ => ⟨S256x2048, .f32⟩
  | .local _ .vmem, ⟨0, _⟩ => ⟨S512x1024, .bf16⟩
  | .local _ .vmem, ⟨1, _⟩ => ⟨S512x1024, .bf16⟩
  | .local _ .vmem, ⟨2, _⟩ => ⟨S256x2048, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S256x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceXattnIdeal.lean ====
abbrev S8192x1024 : Shape := ⟨2, ![8192, 1024]⟩
abbrev S256x2048 : Shape := ⟨2, ![256, 2048]⟩
abbrev S8192x4x256 : Shape := ⟨3, ![8192, 4, 256]⟩
abbrev S256x2x4x256 : Shape := ⟨4, ![256, 2, 4, 256]⟩
abbrev S256x1x4x256 : Shape := ⟨4, ![256, 1, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩

abbrev nBuf : Space → Nat
  | .hbm => 90
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S256x2048, .f32⟩
  | .hbm, ⟨2, _⟩ => ⟨S8192x1024, .f32⟩
  | .hbm, ⟨3, _⟩ => ⟨S8192x4x256, .f32⟩
  | .hbm, ⟨4, _⟩ => ⟨S256x2x4x256, .f32⟩
  | .hbm, ⟨5, _⟩ => ⟨S256x1x4x256, .f32⟩
  | .hbm, ⟨6, _⟩ => ⟨S256x4x256, .f32⟩
  | .hbm, ⟨7, _⟩ => ⟨S256x1x4x256, .f32⟩
  | .hbm, ⟨8, _⟩ => ⟨S256x4x256, .f32⟩
  | .hbm, ⟨9, _⟩ => ⟨S4x8192x256, .f32⟩
  | .hbm, ⟨10, _⟩ => ⟨S_, .f32⟩
  | .hbm, ⟨11, _⟩ => ⟨S4x8192x256, .f32⟩
  | .hbm, ⟨12, _⟩ => ⟨S4x8192x256, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S4x8192x256, .f32⟩
  | .hbm, ⟨17, _⟩ => ⟨S4x8192x256, .i1⟩
  | .hbm, ⟨18, _⟩ => ⟨S4x8192x256, .f32⟩
  | .hbm, ⟨19, _⟩ => ⟨S_, .f32⟩
  | .hbm, ⟨20, _⟩ => ⟨S4x8192, .f32⟩
  | .hbm, ⟨21, _⟩ => ⟨S_, .f32⟩
  | .hbm, ⟨22, _⟩ => ⟨S4x8192, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S4x8192, .i1⟩
  | .hbm, ⟨27, _⟩ => ⟨S_, .f32⟩
  | .hbm, ⟨28, _⟩ => ⟨S4x8192, .f32⟩
  | .hbm, ⟨29, _⟩ => ⟨S4x8192, .i1⟩
  | .hbm, ⟨30, _⟩ => ⟨S_, .f32⟩
  | .hbm, ⟨31, _⟩ => ⟨S4x8192, .f32⟩
  | .hbm, ⟨32, _⟩ => ⟨S_, .f32⟩
  | .hbm, ⟨33, _⟩ => ⟨S4x8192, .f32⟩
  | .hbm, ⟨34, _⟩ => ⟨S_, .f32⟩
  | .hbm, ⟨35, _⟩ => ⟨S4x8192, .f32⟩
  | .hbm, ⟨36, _⟩ => ⟨S4x8192, .f32⟩
  | .hbm, ⟨37, _⟩ => ⟨S4x8192, .f32⟩
  | .hbm, ⟨38, _⟩ => ⟨S4x8192x1, .f32⟩
  | .hbm, ⟨39, _⟩ => ⟨S4x8192x256, .f32⟩
  | .hbm, ⟨40, _⟩ => ⟨S4x8192x256, .f32⟩
  | .hbm, ⟨41, _⟩ => ⟨S4x8192x256, .f32⟩
  | .hbm, ⟨42, _⟩ => ⟨S_, .f32⟩
  | .hbm, ⟨43, _⟩ => ⟨S4x8192, .f32⟩
  | .hbm, ⟨44, _⟩ => ⟨S4x8192x1, .f32⟩
  | .hbm, ⟨45, _⟩ => ⟨S4x8192x256, .f32⟩
  | .hbm, ⟨46, _⟩ => ⟨S4x8192x256, .f32⟩
  | .hbm, ⟨47, _⟩ => ⟨S4x8192x1, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S4x256x8192, .f32⟩
  | .hbm, ⟨52, _⟩ => ⟨S8192x4x256, .f32⟩
  | .hbm, ⟨53, _⟩ => ⟨S8192x1024, .f32⟩
  | .hbm, ⟨54, _⟩ => ⟨S8192x4x256, .f32⟩
  | .hbm, ⟨55, _⟩ => ⟨S4x256x8192, .f32⟩
  | .hbm, ⟨56, _⟩ => ⟨S4x8192x256, .f32⟩
  | .hbm, ⟨57, _⟩ => ⟨S4x256x256, .f32⟩
  | .hbm, ⟨58, _⟩ => ⟨S256x4x256, .f32⟩
  | .hbm, ⟨59, _⟩ => ⟨S4x8192x256, .f32⟩
  | .hbm, ⟨60, _⟩ => ⟨S4x8192x256, .f32⟩
  | .hbm, ⟨61, _⟩ => ⟨S4x8192x256, .f32⟩
  | .hbm, ⟨62, _⟩ => ⟨S_, .f32⟩
  | .hbm, ⟨63, _⟩ => ⟨S4x8192, .f32⟩
  | .hbm, ⟨64, _⟩ => ⟨S4x8192x1, .f32⟩
  | .hbm, ⟨65, _⟩ => ⟨S4x8192x1, .f32⟩
  | .hbm, ⟨66, _⟩ => ⟨S4x8192x256, .f32⟩
  | .hbm, ⟨67, _⟩ => ⟨S4x8192x256, .f32⟩
  | .hbm, ⟨68, _⟩ => ⟨S_, .f32⟩
  | .hbm, ⟨69, _⟩ => ⟨S4x8192, .f32⟩
  | .hbm, ⟨70, _⟩ => ⟨S4x8192x256, .f32⟩
  | .hbm, ⟨71, _⟩ => ⟨S4x8192x256, .f32⟩
  | .hbm, ⟨72, _⟩ => ⟨S4x8192x256, .f32⟩
  | .hbm, ⟨73, _⟩ => ⟨S_, .f32⟩
  | .hbm, ⟨74, _⟩ => ⟨S4x8192x256, .f32⟩
  | .hbm, ⟨75, _⟩ => ⟨S4x8192x256, .f32⟩
  | .hbm, ⟨76, _⟩ => ⟨S4x256x256, .f32⟩
  | .hbm, ⟨77, _⟩ => ⟨S256x4x256, .f32⟩
  | .hbm, ⟨78, _⟩ => ⟨S4x8192x256, .f32⟩
  | .hbm, ⟨79, _⟩ => ⟨S8192x4x256, .f32⟩
  | .hbm, ⟨80, _⟩ => ⟨S256x1x4x256, .f32⟩
  | .hbm, ⟨81, _⟩ => ⟨S_, .f32⟩
  | .hbm, ⟨82, _⟩ => ⟨S256x2x4x256, .f32⟩
  | .hbm, ⟨83, _⟩ => ⟨S256x1x4x256, .f32⟩
  | .hbm, ⟨84, _⟩ => ⟨S_, .f32⟩
  | .hbm, ⟨85, _⟩ => ⟨S256x2x4x256, .f32⟩
  | .hbm, ⟨86, _⟩ => ⟨S256x2x4x256, .f32⟩
  | .hbm, ⟨87, _⟩ => ⟨S256x2048, .f32⟩
  | .hbm, ⟨88, _⟩ => ⟨S8192x1024, .f32⟩
  | .hbm, ⟨89, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_10 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_11 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_12 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_13 : Ref sig .tc := ⟨.hbm, 81, rfl⟩
abbrev main_v64 : Ref sig .tc := ⟨.hbm, 82, rfl⟩
abbrev main_v65 : Ref sig .tc := ⟨.hbm, 83, rfl⟩
abbrev main_cst_14 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩

abbrev nD : Nat := 1
abbrev τ : Topo := Topo.v7x

variable {F : FTy → Type} [FloatOps F]
-- ==== KernelRms.lean ====
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S1x1024, .f32⟩
  | .hbm, ⟨4, _⟩ => ⟨S256x1024, .f32⟩
  | .hbm, ⟨5, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceRmsIdeal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S1x1024, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S1024, .f32⟩
  | .hbm, ⟨31, _⟩ => ⟨S256x1024, .f32⟩
  | .hbm, ⟨32, _⟩ => ⟨S_, .f32⟩
  | .hbm, ⟨33, _⟩ => ⟨S256, .f32⟩
  | .hbm, ⟨34, _⟩ => ⟨S256x1, .f32⟩
  | .hbm, ⟨35, _⟩ => ⟨S256x1024, .f32⟩
  | .hbm, ⟨36, _⟩ => ⟨S256x1024, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S_, .f32⟩
  | .hbm, ⟨42, _⟩ => ⟨S256, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== KernelLoss.lean ====
abbrev S8192x1024 : Shape := ⟨2, ![8192, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1x1024, .f32⟩
  | .hbm, ⟨4, _⟩ => ⟨S1x128, .f32⟩
  | .hbm, ⟨5, _⟩ => ⟨S8192x1024, .f32⟩
  | .hbm, ⟨6, _⟩ => ⟨S8192x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceLossIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S1x128, .f32⟩
  | .hbm, ⟨72, _⟩ => ⟨S_, .f32⟩
  | .hbm, ⟨73, _⟩ => ⟨S8192x1024, .f32⟩
  | .hbm, ⟨74, _⟩ => ⟨S8192x1024, .f32⟩
  | .hbm, ⟨75, _⟩ => ⟨S8192x1024, .bf16⟩
  | .hbm, ⟨76, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_16 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== KernelMid.lean ====
abbrev S8192x2816 : Shape := ⟨2, ![8192, 2816]⟩
abbrev S2816x1024 : Shape := ⟨2, ![2816, 1024]⟩
abbrev S8192x1024 : Shape := ⟨2, ![8192, 1024]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 10
  | .vmem => 12
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S8192x1024, .bf16⟩
  | .hbm, ⟨5, _⟩ => ⟨S2816x1024, .bf16⟩
  | .hbm, ⟨6, _⟩ => ⟨S8192x2816, .bf16⟩
  | .hbm, ⟨7, _⟩ => ⟨S8192x2816, .bf16⟩
  | .hbm, ⟨8, _⟩ => ⟨S8192x2816, .bf16⟩
  | .hbm, ⟨9, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceMidIdeal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x1024, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .bf16⟩
  | .hbm, ⟨27, _⟩ => ⟨S8192x2816, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== KernelDh.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S2816x1024 : Shape := ⟨2, ![2816, 1024]⟩
abbrev S1x1024 : Shape := ⟨2, ![1, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 17
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S8192x2816, .bf16⟩
  | .hbm, ⟨8, _⟩ => ⟨S2816x1024, .f32⟩
  | .hbm, ⟨9, _⟩ => ⟨S2816x1024, .bf16⟩
  | .hbm, ⟨10, _⟩ => ⟨S8192x2816, .bf16⟩
  | .hbm, ⟨11, _⟩ => ⟨S2816x1024, .f32⟩
  | .hbm, ⟨12, _⟩ => ⟨S2816x1024, .bf16⟩
  | .hbm, ⟨13, _⟩ => ⟨S1x1024, .f32⟩
  | .hbm, ⟨14, _⟩ => ⟨S8192x1024, .f32⟩
  | .hbm, ⟨15, _⟩ => ⟨S1x1024, .f32⟩
  | .hbm, ⟨16, _⟩ => ⟨S8192x1024, .bf16⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S256x1024, .bf16⟩
  | .local _ .vmem, ⟨15, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceDhIdeal.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x2816, .f32⟩
  | .hbm, ⟨28, _⟩ => ⟨S8192x2816, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S1x1024, .f32⟩
  | .hbm, ⟨59, _⟩ => ⟨S_, .f32⟩
  | .hbm, ⟨60, _⟩ => ⟨S8192x1024, .f32⟩
  | .hbm, ⟨61, _⟩ => ⟨S8192x1024, .f32⟩
  | .hbm, ⟨62, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== KernelDhn.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S2816x1024 : Shape := ⟨2, ![2816, 1024]⟩
abbrev S1x1024 : Shape := ⟨2, ![1, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 16
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S8192x2816, .bf16⟩
  | .hbm, ⟨8, _⟩ => ⟨S2816x1024, .f32⟩
  | .hbm, ⟨9, _⟩ => ⟨S2816x1024, .bf16⟩
  | .hbm, ⟨10, _⟩ => ⟨S8192x2816, .bf16⟩
  | .hbm, ⟨11, _⟩ => ⟨S2816x1024, .f32⟩
  | .hbm, ⟨12, _⟩ => ⟨S2816x1024, .bf16⟩
  | .hbm, ⟨13, _⟩ => ⟨S1x1024, .f32⟩
  | .hbm, ⟨14, _⟩ => ⟨S8192x1024, .f32⟩
  | .hbm, ⟨15, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceDhnIdeal.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x2816, .f32⟩
  | .hbm, ⟨28, _⟩ => ⟨S8192x2816, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== KernelDh3.lean ====
abbrev S8192x1024 : Shape := ⟨2, ![8192, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1024x1024, .bf16⟩
  | .hbm, ⟨7, _⟩ => ⟨S1x1024, .f32⟩
  | .hbm, ⟨8, _⟩ => ⟨S8192x1024, .f32⟩
  | .hbm, ⟨9, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceDh3Ideal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== KernelDh2.lean ====
abbrev S8192x1024 : Shape := ⟨2, ![8192, 1024]⟩
abbrev S1024 : Shape := ⟨1, ![1024]⟩
abbrev S1024x1280 : Shape := ⟨2, ![1024, 1280]⟩
abbrev S8192x1280 : Shape := ⟨2, ![8192, 1280]⟩
abbrev S1280x1024 : Shape := ⟨2, ![1280, 1024]⟩
abbrev S1x1024 : Shape := ⟨2, ![1, 1024]⟩
abbrev S512x1280 : Shape := ⟨2, ![512, 1280]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1280, .f32⟩
  | .hbm, ⟨3, _⟩ => ⟨S8192x1024, .f32⟩
  | .hbm, ⟨4, _⟩ => ⟨S8192x1280, .f32⟩
  | .hbm, ⟨5, _⟩ => ⟨S8192x1280, .bf16⟩
  | .hbm, ⟨6, _⟩ => ⟨S1280x1024, .f32⟩
  | .hbm, ⟨7, _⟩ => ⟨S1280x1024, .bf16⟩
  | .hbm, ⟨8, _⟩ => ⟨S1x1024, .f32⟩
  | .hbm, ⟨9, _⟩ => ⟨S8192x1024, .f32⟩
  | .hbm, ⟨10, _⟩ => ⟨S1x1024, .f32⟩
  | .hbm, ⟨11, _⟩ => ⟨S8192x1024, .bf16⟩
  | .local _ .vmem, ⟨0, _⟩ => ⟨S512x1280, .bf16⟩
  | .local _ .vmem, ⟨1, _⟩ => ⟨S512x1280, .bf16⟩
  | .local _ .vmem, ⟨2, _⟩ => ⟨S1280x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceDh2Ideal.lean ====
abbrev S8192x1024 : Shape := ⟨2, ![8192, 1024]⟩
abbrev S1024 : Shape := ⟨1, ![1024]⟩
abbrev S1024x1280 : Shape := ⟨2, ![1024, 1280]⟩
abbrev S8192x1280 : Shape := ⟨2, ![8192, 1280]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1280, .f32⟩
  | .hbm, ⟨3, _⟩ => ⟨S8192x1024, .f32⟩
  | .hbm, ⟨4, _⟩ => ⟨S8192x1280, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1280, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== KernelDmg.lean ====
abbrev S8192x512 : Shape := ⟨2, ![8192, 512]⟩
abbrev S512 : Shape := ⟨1, ![512]⟩
abbrev S1024x1024 : Shape := ⟨2, ![1024, 1024]⟩
abbrev S8192x1024 : Shape := ⟨2, ![8192, 1024]⟩
abbrev S1x512 : Shape := ⟨2, ![1, 512]⟩
abbrev S512x1024 : Shape := ⟨2, ![512, 1024]⟩
abbrev S512x512 : Shape := ⟨2, ![512, 512]⟩
abbrev S512x1 : Shape := ⟨2, ![512, 1]⟩

abbrev nBuf : Space → Nat
  | .hbm => 13
  | .vmem => 15
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S512, .f32⟩
  | .hbm, ⟨4, _⟩ => ⟨S1024x1024, .f32⟩
  | .hbm, ⟨5, _⟩ => ⟨S8192x1024, .f32⟩
  | .hbm, ⟨6, _⟩ => ⟨S1024x1024, .bf16⟩
  | .hbm, ⟨7, _⟩ => ⟨S1x512, .f32⟩
  | .hbm, ⟨8, _⟩ => ⟨S1x512, .f32⟩
  | .hbm, ⟨9, _⟩ => ⟨S8192x512, .f32⟩
  | .hbm, ⟨10, _⟩ => ⟨S8192x512, .f32⟩
  | .hbm, ⟨11, _⟩ => ⟨S1x512, .f32⟩
  | .hbm, ⟨12, _⟩ => ⟨S1x512, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S1x512, .f32⟩
  | .local _ .vmem, ⟨14, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceDmgIdeal.lean ====
abbrev S8192x512 : Shape := ⟨2, ![8192, 512]⟩
abbrev S512 : Shape := ⟨1, ![512]⟩
abbrev S1024x1024 : Shape := ⟨2, ![1024, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x512 : Shape := ⟨2, ![1, 512]⟩

abbrev nBuf : Space → Nat
  | .hbm => 103
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S512, .f32⟩
  | .hbm, ⟨4, _⟩ => ⟨S1024x1024, .f32⟩
  | .hbm, ⟨5, _⟩ => ⟨S8192x1024, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x512, .f32⟩
  | .hbm, ⟨22, _⟩ => ⟨S8192x512, .f32⟩
  | .hbm, ⟨23, _⟩ => ⟨S1x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x512, .f32⟩
  | .hbm, ⟨42, _⟩ => ⟨S8192x512, .f32⟩
  | .hbm, ⟨43, _⟩ => ⟨S1x512, .f32⟩
  | .hbm, ⟨44, _⟩ => ⟨S8192x512, .f32⟩
  | .hbm, ⟨45, _⟩ => ⟨S8192x512, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S_, .f32⟩
  | .hbm, ⟨53, _⟩ => ⟨S512, .f32⟩
  | .hbm, ⟨54, _⟩ => ⟨S1x512, .f32⟩
  | .hbm, ⟨55, _⟩ => ⟨S8192x512, .f32⟩
  | .hbm, ⟨56, _⟩ => ⟨S8192x512, .f32⟩
  | .hbm, ⟨57, _⟩ => ⟨S_, .f32⟩
  | .hbm, ⟨58, _⟩ => ⟨S512, .f32⟩
  | .hbm, ⟨59, _⟩ => ⟨S8192x512, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x512, .f32⟩
  | .hbm, ⟨64, _⟩ => ⟨S8192x512, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x512, .f32⟩
  | .hbm, ⟨72, _⟩ => ⟨S8192x512, .f32⟩
  | .hbm, ⟨73, _⟩ => ⟨S8192x512, .f32⟩
  | .hbm, ⟨74, _⟩ => ⟨S8192x512, .f32⟩
  | .hbm, ⟨75, _⟩ => ⟨S8192x512, .f32⟩
  | .hbm, ⟨76, _⟩ => ⟨S8192x512, .f32⟩
  | .hbm, ⟨77, _⟩ => ⟨S_, .f32⟩
  | .hbm, ⟨78, _⟩ => ⟨S512, .f32⟩
  | .hbm, ⟨79, _⟩ => ⟨S1x512, .f32⟩
  | .hbm, ⟨80, _⟩ => ⟨S8192x512, .f32⟩
  | .hbm, ⟨81, _⟩ => ⟨S8192x512, .f32⟩
  | .hbm, ⟨82, _⟩ => ⟨S_, .f32⟩
  | .hbm, ⟨83, _⟩ => ⟨S512, .f32⟩
  | .hbm, ⟨84, _⟩ => ⟨S8192x512, .f32⟩
  | .hbm, ⟨85, _⟩ => ⟨S_, .f32⟩
  | .hbm, ⟨86, _⟩ => ⟨S8192, .f32⟩
  | .hbm, ⟨87, _⟩ => ⟨S8192x1, .f32⟩
  | .hbm, ⟨88, _⟩ => ⟨S8192x512, .f32⟩
  | .hbm, ⟨89, _⟩ => ⟨S8192x512, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192, .f32⟩
  | .hbm, ⟨96, _⟩ => ⟨S8192x512, .f32⟩
  | .hbm, ⟨97, _⟩ => ⟨S8192x512, .f32⟩
  | .hbm, ⟨98, _⟩ => ⟨S8192x512, .f32⟩
  | .hbm, ⟨99, _⟩ => ⟨S8192x512, .f32⟩
  | .hbm, ⟨100, _⟩ => ⟨S8192x512, .f32⟩
  | .hbm, ⟨101, _⟩ => ⟨S1x512, .f32⟩
  | .hbm, ⟨102, _⟩ => ⟨S1x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_15 : Ref sig .tc := ⟨.hbm, 91, rfl⟩
abbrev main_v69 : Ref sig .tc := ⟨.hbm, 92, rfl⟩
abbrev main_v70 : Ref sig .tc := ⟨.hbm, 93, rfl⟩
abbrev main_cst_16 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩

abbrev nD : Nat := 1
abbrev τ : Topo := Topo.v7x

variable {F : FTy → Type} [FloatOps F]
-- ==== KernelPool.lean ====
abbrev S8192x512 : Shape := ⟨2, ![8192, 512]⟩
abbrev S4x128x128 : Shape := ⟨3, ![4, 128, 128]⟩
abbrev S512 : Shape := ⟨1, ![512]⟩
abbrev S1x512 : Shape := ⟨2, ![1, 512]⟩
abbrev S512x512 : Shape := ⟨2, ![512, 512]⟩
abbrev S16x512 : Shape := ⟨2, ![16, 512]⟩
abbrev S528x512 : Shape := ⟨2, ![528, 512]⟩
abbrev S528x128 : Shape := ⟨2, ![528, 128]⟩
abbrev S512x128 : Shape := ⟨2, ![512, 128]⟩
abbrev S512x1 : Shape := ⟨2, ![512, 1]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩
abbrev S528x1 : Shape := ⟨2, ![528, 1]⟩

abbrev nBuf : Space → Nat
  | .hbm => 8
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S4x128x128, .f32⟩
  | .hbm, ⟨2, _⟩ => ⟨S512, .f32⟩
  | .hbm, ⟨3, _⟩ => ⟨S8192x512, .f32⟩
  | .hbm, ⟨4, _⟩ => ⟨S1x512, .f32⟩
  | .hbm, ⟨5, _⟩ => ⟨S8192x512, .f32⟩
  | .hbm, ⟨6, _⟩ => ⟨S4x128x128, .f32⟩
  | .hbm, ⟨7, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S512x512, .f32⟩
  | .local _ .vmem, ⟨5, _⟩ => ⟨S512x512, .f32⟩
  | .local _ .vmem, ⟨6, _⟩ => ⟨S16x512, .f32⟩
  | .local _ .vmem, ⟨7, _⟩ => ⟨S16x512, .f32⟩
  | .local _ .vmem, ⟨8, _⟩ => ⟨S4x128x128, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S4x128x128, .f32⟩
  | .local _ .vmem, ⟨13, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferencePoolIdeal.lean ====
abbrev S8192x512 : Shape := ⟨2, ![8192, 512]⟩
abbrev S4x128x128 : Shape := ⟨3, ![4, 128, 128]⟩
abbrev S512 : Shape := ⟨1, ![512]⟩
abbrev S4 : Shape := ⟨1, ![4]⟩
abbrev S8192x4x128 : Shape := ⟨3, ![8192, 4, 128]⟩
abbrev S_ : Shape := ⟨0, ![]⟩
abbrev S1x4x128 : Shape := ⟨3, ![1, 4, 128]⟩
abbrev S8193x4x128 : Shape := ⟨3, ![8193, 4, 128]⟩
abbrev S8192 : Shape := ⟨1, ![8192]⟩
abbrev S8192x1 : Shape := ⟨2, ![8192, 1]⟩
abbrev S1x4 : Shape := ⟨2, ![1, 4]⟩
abbrev S8192x4 : Shape := ⟨2, ![8192, 4]⟩
abbrev S8192x4x1 : Shape := ⟨3, ![8192, 4, 1]⟩
abbrev S8192x4x2 : Shape := ⟨3, ![8192, 4, 2]⟩
abbrev S4x128x8192 : Shape := ⟨3, ![4, 128, 8192]⟩
abbrev S4x128 : Shape := ⟨2, ![4, 128]⟩
abbrev S4x8192x128 : Shape := ⟨3, ![4, 8192, 128]⟩
abbrev S1x512 : Shape := ⟨2, ![1, 512]⟩

abbrev nBuf : Space → Nat
  | .hbm => 101
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S4x128x128, .f32⟩
  | .hbm, ⟨2, _⟩ => ⟨S512, .f32⟩
  | .hbm, ⟨3, _⟩ => ⟨S8192x512, .f32⟩
  | .hbm, ⟨4, _⟩ => ⟨S4, .i32⟩
  | .hbm, ⟨5, _⟩ => ⟨S8192x4x128, .f32⟩
  | .hbm, ⟨6, _⟩ => ⟨S_, .f32⟩
  | .hbm, ⟨7, _⟩ => ⟨S_, .f32⟩
  | .hbm, ⟨8, _⟩ => ⟨S8192x4x128, .f32⟩
  | .hbm, ⟨9, _⟩ => ⟨S1x4x128, .f32⟩
  | .hbm, ⟨10, _⟩ => ⟨S_, .f32⟩
  | .hbm, ⟨11, _⟩ => ⟨S1x4x128, .f32⟩
  | .hbm, ⟨12, _⟩ => ⟨S8193x4x128, .f32⟩
  | .hbm, ⟨13, _⟩ => ⟨S_, .f32⟩
  | .hbm, ⟨14, _⟩ => ⟨S1x4x128, .f32⟩
  | .hbm, ⟨15, _⟩ => ⟨S8192, .i32⟩
  | .hbm, ⟨16, _⟩ => ⟨S8192x1, .i32⟩
  | .hbm, ⟨17, _⟩ => ⟨S1x4, .i32⟩
  | .hbm, ⟨18, _⟩ => ⟨S_, .i32⟩
  | .hbm, ⟨19, _⟩ => ⟨S8192x1, .i32⟩
  | .hbm, ⟨20, _⟩ => ⟨S8192x1, .i32⟩
  | .hbm, ⟨21, _⟩ => ⟨S8192x4, .i32⟩
  | .hbm, ⟨22, _⟩ => ⟨S8192x4, .i32⟩
  | .hbm, ⟨23, _⟩ => ⟨S8192x4, .i32⟩
  | .hbm, ⟨24, _⟩ => ⟨S_, .i32⟩
  | .hbm, ⟨25, _⟩ => ⟨S8192x4, .i32⟩
  | .hbm, ⟨26, _⟩ => ⟨S8192x4, .i32⟩
  | .hbm, ⟨27, _⟩ => ⟨S4, .i32⟩
  | .hbm, ⟨28, _⟩ => ⟨S1x4, .i32⟩
  | .hbm, ⟨29, _⟩ => ⟨S8192x4x128, .f32⟩
  | .hbm, ⟨30, _⟩ => ⟨S_, .i32⟩
  | .hbm, ⟨31, _⟩ => ⟨S8192x4, .i32⟩
  | .hbm, ⟨32, _⟩ => ⟨S8192x4, .i1⟩
  | .hbm, ⟨33, _⟩ => ⟨S_, .i32⟩
  | .hbm, ⟨34, _⟩ => ⟨S8192x4, .i32⟩
  | .hbm, ⟨35, _⟩ => ⟨S8192x4, .i32⟩
  | .hbm, ⟨36, _⟩ => ⟨S8192x4, .i32⟩
  | .hbm, ⟨37, _⟩ => ⟨S_, .i32⟩
  | .hbm, ⟨38, _⟩ => ⟨S1x4, .i32⟩
  | .hbm, ⟨39, _⟩ => ⟨S1x4, .i1⟩
  | .hbm, ⟨40, _⟩ => ⟨S_, .i32⟩
  | .hbm, ⟨41, _⟩ => ⟨S1x4, .i32⟩
  | .hbm, ⟨42, _⟩ => ⟨S1x4, .i32⟩
  | .hbm, ⟨43, _⟩ => ⟨S1x4, .i32⟩
  | .hbm, ⟨44, _⟩ => ⟨S8192x4, .i32⟩
  | .hbm, ⟨45, _⟩ => ⟨S8192x4x1, .i32⟩
  | .hbm, ⟨46, _⟩ => ⟨S8192x4x1, .i32⟩
  | .hbm, ⟨47, _⟩ => ⟨S8192x4x2, .i32⟩
  | .hbm, ⟨48, _⟩ => ⟨S8192x4x128, .f32⟩
  | .hbm, ⟨49, _⟩ => ⟨S8192x4x128, .f32⟩
  | .hbm, ⟨50, _⟩ => ⟨S_, .i32⟩
  | .hbm, ⟨51, _⟩ => ⟨S8192x1, .i32⟩
  | .hbm, ⟨52, _⟩ => ⟨S8192x1, .i32⟩
  | .hbm, ⟨53, _⟩ => ⟨S8192x4, .i32⟩
  | .hbm, ⟨54, _⟩ => ⟨S8192x4, .i32⟩
  | .hbm, ⟨55, _⟩ => ⟨S8192x4, .i32⟩
  | .hbm, ⟨56, _⟩ => ⟨S8192x4, .f32⟩
  | .hbm, ⟨57, _⟩ => ⟨S8192x4x1, .f32⟩
  | .hbm, ⟨58, _⟩ => ⟨S8192x4x128, .f32⟩
  | .hbm, ⟨59, _⟩ => ⟨S8192x4x128, .f32⟩
  | .hbm, ⟨60, _⟩ => ⟨S8192x4x128, .f32⟩
  | .hbm, ⟨61, _⟩ => ⟨S4x128x8192, .f32⟩
  | .hbm, ⟨62, _⟩ => ⟨S8192x4x128, .f32⟩
  | .hbm, ⟨63, _⟩ => ⟨S4x128, .f32⟩
  | .hbm, ⟨64, _⟩ => ⟨S1x4x128, .f32⟩
  | .hbm, ⟨65, _⟩ => ⟨S8192x4x128, .f32⟩
  | .hbm, ⟨66, _⟩ => ⟨S8192x4x128, .f32⟩
  | .hbm, ⟨67, _⟩ => ⟨S8192x512, .f32⟩
  | .hbm, ⟨68, _⟩ => ⟨S8192x4x128, .f32⟩
  | .hbm, ⟨69, _⟩ => ⟨S8192x4x128, .f32⟩
  | .hbm, ⟨70, _⟩ => ⟨S_, .f32⟩
  | .hbm, ⟨71, _⟩ => ⟨S4x128, .f32⟩
  | .hbm, ⟨72, _⟩ => ⟨S1x4x128, .f32⟩
  | .hbm, ⟨73, _⟩ => ⟨S8192x4x128, .f32⟩
  | .hbm, ⟨74, _⟩ => ⟨S8192x4x128, .f32⟩
  | .hbm, ⟨75, _⟩ => ⟨S_, .f32⟩
  | .hbm, ⟨76, _⟩ => ⟨S4x128, .f32⟩
  | .hbm, ⟨77, _⟩ => ⟨S512, .f32⟩
  | .hbm, ⟨78, _⟩ => ⟨S4x128x8192, .f32⟩
  | .hbm, ⟨79, _⟩ => ⟨S4x8192x128, .f32⟩
  | .hbm, ⟨80, _⟩ => ⟨S8192x4x128, .f32⟩
  | .hbm, ⟨81, _⟩ => ⟨S4x128x128, .f32⟩
  | .hbm, ⟨82, _⟩ => ⟨S4x128x128, .f32⟩
  | .hbm, ⟨83, _⟩ => ⟨S8192x4x128, .f32⟩
  | .hbm, ⟨84, _⟩ => ⟨S8192x4x128, .f32⟩
  | .hbm, ⟨85, _⟩ => ⟨S8192x4x128, .f32⟩
  | .hbm, ⟨86, _⟩ => ⟨S8192x4x128, .f32⟩
  | .hbm, ⟨87, _⟩ => ⟨S_, .f32⟩
  | .hbm, ⟨88, _⟩ => ⟨S8193x4x128, .f32⟩
  | .hbm, ⟨89, _⟩ => ⟨S8193x4x128, .f32⟩
  | .hbm, ⟨90, _⟩ => ⟨S_, .f32⟩
  | .hbm, ⟨91, _⟩ => ⟨S8193x4x128, .f32⟩
  | .hbm, ⟨92, _⟩ => ⟨S8193x4x128, .f32⟩
  | .hbm, ⟨93, _⟩ => ⟨S1x4x128, .f32⟩
  | .hbm, ⟨94, _⟩ => ⟨S8192x4x128, .f32⟩
  | .hbm, ⟨95, _⟩ => ⟨S_, .f32⟩
  | .hbm, ⟨96, _⟩ => ⟨S_, .f32⟩
  | .hbm, ⟨97, _⟩ => ⟨S8192x4x128, .f32⟩
  | .hbm, ⟨98, _⟩ => ⟨S8192x4x128, .f32⟩
  | .hbm, ⟨99, _⟩ => ⟨S8192x512, .f32⟩
  | .hbm, ⟨100, _⟩ => ⟨S1x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_9 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_10 : Ref sig .tc := ⟨.hbm, 87, rfl⟩
abbrev main_v69 : Ref sig .tc := ⟨.hbm, 88, rfl⟩
abbrev main_v70 : Ref sig .tc := ⟨.hbm, 89, rfl⟩
abbrev main_cst_11 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_call1_call0_cst : Ref sig .tc := ⟨.hbm, 95, rfl⟩
abbrev main_call1_call0_v0 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩

abbrev nD : Nat := 1
abbrev τ : Topo := Topo.v7x

variable {F : FTy → Type} [FloatOps F]
-- ==== KernelSwa.lean ====
abbrev S8192x1280 : Shape := ⟨2, ![8192, 1280]⟩
abbrev S8192 : Shape := ⟨1, ![8192]⟩
abbrev S8 : Shape := ⟨1, ![8]⟩
abbrev S8192x512 : Shape := ⟨2, ![8192, 512]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S8192x128 : Shape := ⟨2, ![8192, 128]⟩
abbrev S8192x8x64 : Shape := ⟨3, ![8192, 8, 64]⟩
abbrev S8192x8x32 : Shape := ⟨3, ![8192, 8, 32]⟩
abbrev S8192x2x64 : Shape := ⟨3, ![8192, 2, 64]⟩
abbrev S8192x2x32 : Shape := ⟨3, ![8192, 2, 32]⟩
abbrev S1x8 : Shape := ⟨2, ![1, 8]⟩
abbrev S2048x128 : Shape := ⟨2, ![2048, 128]⟩
abbrev S8x128 : Shape := ⟨2, ![8, 128]⟩
abbrev S512x512 : Shape := ⟨2, ![512, 512]⟩
abbrev S512x128 : Shape := ⟨2, ![512, 128]⟩
abbrev S128x128 : Shape := ⟨2, ![128, 128]⟩
abbrev S256x512 : Shape := ⟨2, ![256, 512]⟩
abbrev S1x1 : Shape := ⟨2, ![1, 1]⟩
abbrev S1x128 : Shape := ⟨2, ![1, 128]⟩
abbrev S1x512 : Shape := ⟨2, ![1, 512]⟩
abbrev S640x128 : Shape := ⟨2, ![640, 128]⟩
abbrev S128x512 : Shape := ⟨2, ![128, 512]⟩
abbrev S256x128 : Shape := ⟨2, ![256, 128]⟩
abbrev S128x64 : Shape := ⟨2, ![128, 64]⟩
abbrev S512x64 : Shape := ⟨2, ![512, 64]⟩
abbrev S256x64 : Shape := ⟨2, ![256, 64]⟩
abbrev S512 : Shape := ⟨1, ![512]⟩
abbrev S64x512 : Shape := ⟨2, ![64, 512]⟩
abbrev S64x128 : Shape := ⟨2, ![64, 128]⟩
abbrev S1 : Shape := ⟨1, ![1]⟩
abbrev S512x1280 : Shape := ⟨2, ![512, 1280]⟩
abbrev S384x128 : Shape := ⟨2, ![384, 128]⟩

abbrev nBuf : Space → Nat
  | .hbm => 99
  | .vmem => 41
  | .smem => 1
  | _ => 0

abbrev bufTy : (tb : Table) → Fin (tcTables nBuf tb) → BufTy
  | .hbm, ⟨0, _⟩ => ⟨S8192x1280, .f32⟩
  | .hbm, ⟨1, _⟩ => ⟨S8192, .i32⟩
  | .hbm, ⟨2, _⟩ => ⟨S8, .f32⟩
  | .hbm, ⟨3, _⟩ => ⟨S8192x512, .f32⟩
  | .hbm, ⟨4, _⟩ => ⟨S8192x512, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S8192, .f32⟩
  | .hbm, ⟨20, _⟩ => ⟨S8192x1, .f32⟩
  | .hbm, ⟨21, _⟩ => ⟨S1x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S8192x1x32, .f32⟩
  | .hbm, ⟨27, _⟩ => ⟨S8192x32, .f32⟩
  | .hbm, ⟨28, _⟩ => ⟨S8192x1x32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S8192, .f32⟩
  | .hbm, ⟨44, _⟩ => ⟨S8192x1, .f32⟩
  | .hbm, ⟨45, _⟩ => ⟨S1x32, .f32⟩
  | .hbm, ⟨46, _⟩ => ⟨S8192x32, .f32⟩
  | .hbm, ⟨47, _⟩ => ⟨S8192x32, .f32⟩
  | .hbm, ⟨48, _⟩ => ⟨S8192x32, .f32⟩
  | .hbm, ⟨49, _⟩ => ⟨S8192x32, .f32⟩
  | .hbm, ⟨50, _⟩ => ⟨S8192x32, .f32⟩
  | .hbm, ⟨51, _⟩ => ⟨S8192x128, .f32⟩
  | .hbm, ⟨52, _⟩ => ⟨S8192x32, .f32⟩
  | .hbm, ⟨53, _⟩ => ⟨S8192x32, .f32⟩
  | .hbm, ⟨54, _⟩ => ⟨S8192x128, .f32⟩
  | .hbm, ⟨55, _⟩ => ⟨S8192x512, .f32⟩
  | .hbm, ⟨56, _⟩ => ⟨S8192x8x64, .f32⟩
  | .hbm, ⟨57, _⟩ => ⟨S8192x8x32, .f32⟩
  | .hbm, ⟨58, _⟩ => ⟨S8192x8x32, .f32⟩
  | .hbm, ⟨59, _⟩ => ⟨S8192x8x32, .f32⟩
  | .hbm, ⟨60, _⟩ => ⟨S8192x8x32, .f32⟩
  | .hbm, ⟨61, _⟩ => ⟨S8192x8x32, .f32⟩
  | .hbm, ⟨62, _⟩ => ⟨S8192x8x32, .f32⟩
  | .hbm, ⟨63, _⟩ => ⟨S8192x8x32, .f32⟩
  | .hbm, ⟨64, _⟩ => ⟨S8192x8x32, .f32⟩
  | .hbm, ⟨65, _⟩ => ⟨S8192x8x32, .f32⟩
  | .hbm, ⟨66, _⟩ => ⟨S8192x8x32, .f32⟩
  | .hbm, ⟨67, _⟩ => ⟨S8192x8x32, .f32⟩
  | .hbm, ⟨68, _⟩ => ⟨S8192x8x32, .f32⟩
  | .hbm, ⟨69, _⟩ => ⟨S8192x8x64, .f32⟩
  | .hbm, ⟨70, _⟩ => ⟨S8192x512, .f32⟩
  | .hbm, ⟨71, _⟩ => ⟨S8192x512, .bf16⟩
  | .hbm, ⟨72, _⟩ => ⟨S8192x128, .f32⟩
  | .hbm, ⟨73, _⟩ => ⟨S8192x2x64, .f32⟩
  | .hbm, ⟨74, _⟩ => ⟨S8192x2x32, .f32⟩
  | .hbm, ⟨75, _⟩ => ⟨S8192x2x32, .f32⟩
  | .hbm, ⟨76, _⟩ => ⟨S8192x2x32, .f32⟩
  | .hbm, ⟨77, _⟩ => ⟨S8192x2x32, .f32⟩
  | .hbm, ⟨78, _⟩ => ⟨S8192x2x32, .f32⟩
  | .hbm, ⟨79, _⟩ => ⟨S8192x2x32, .f32⟩
  | .hbm, ⟨80, _⟩ => ⟨S8192x2x32, .f32⟩
  | .hbm, ⟨81, _⟩ => ⟨S8192x2x32, .f32⟩
  | .hbm, ⟨82, _⟩ => ⟨S8192x2x32, .f32⟩
  | .hbm, ⟨83, _⟩ => ⟨S8192x2x32, .f32⟩
  | .hbm, ⟨84, _⟩ => ⟨S8192x2x32, .f32⟩
  | .hbm, ⟨85, _⟩ => ⟨S8192x2x32, .f32⟩
  | .hbm, ⟨86, _⟩ => ⟨S8192x2x64, .f32⟩
  | .hbm, ⟨87, _⟩ => ⟨S8192x128, .f32⟩
  | .hbm, ⟨88, _⟩ => ⟨S8192x128, .bf16⟩
  | .hbm, ⟨89, _⟩ => ⟨S8192x128, .f32⟩
  | .hbm, ⟨90, _⟩ => ⟨S8192x128, .bf16⟩
  | .hbm, ⟨91, _⟩ => ⟨S1x8, .f32⟩
  | .hbm, ⟨92, _⟩ => ⟨S8192x512, .f32⟩
  | .hbm, ⟨93, _⟩ => ⟨S8192x128, .f32⟩
  | .hbm, ⟨94, _⟩ => ⟨S2048x128, .f32⟩
  | .hbm, ⟨95, _⟩ => ⟨S8192x128, .f32⟩
  | .hbm, ⟨96, _⟩ => ⟨S2048x128, .f32⟩
  | .hbm, ⟨97, _⟩ => ⟨S8x128, .f32⟩
  | .hbm, ⟨98, _⟩ => ⟨S8192x1280, .bf16⟩
  | .local _ .vmem, ⟨0, _⟩ => ⟨S512x512, .bf16⟩
  | .local _ .vmem, ⟨1, _⟩ => ⟨S512x512, .bf16⟩
  | .local _ .vmem, ⟨2, _⟩ => ⟨S512x128, .bf16⟩
  | .local _ .vmem, ⟨3, _⟩ => ⟨S512x128, .bf16⟩
  | .local _ .vmem, ⟨4, _⟩ => ⟨S128x128, .bf16⟩
  | .local _ .vmem, ⟨5, _⟩ => ⟨S128x128, .bf16⟩
  | .local _ .vmem, ⟨6, _⟩ => ⟨S512x128, .bf16⟩
  | .local _ .vmem, ⟨7, _⟩ => ⟨S512x128, .bf16⟩
  | .local _ .vmem, ⟨8, _⟩ => ⟨S128x128, .bf16⟩
  | .local _ .vmem, ⟨9, _⟩ => ⟨S128x128, .bf16⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x128, .f32⟩
  | .local _ .vmem, ⟨15, _⟩ => ⟨S512x128, .f32⟩
  | .local _ .vmem, ⟨16, _⟩ => ⟨S128x128, .f32⟩
  | .local _ .vmem, ⟨17, _⟩ => ⟨S128x128, .f32⟩
  | .local _ .vmem, ⟨18, _⟩ => ⟨S512x128, .f32⟩
  | .local _ .vmem, ⟨19, _⟩ => ⟨S512x128, .f32⟩
  | .local _ .vmem, ⟨20, _⟩ => ⟨S128x128, .f32⟩
  | .local _ .vmem, ⟨21, _⟩ => ⟨S128x128, .f32⟩
  | .local _ .vmem, ⟨22, _⟩ => ⟨S8x128, .f32⟩
  | .local _ .vmem, ⟨23, _⟩ => ⟨S512x512, .f32⟩
  | .local _ .vmem, ⟨24, _⟩ => ⟨S512x512, .f32⟩
  | .local _ .vmem, ⟨25, _⟩ => ⟨S512x128, .f32⟩
  | .local _ .vmem, ⟨26, _⟩ => ⟨S512x128, .f32⟩
  | .local _ .vmem, ⟨27, _⟩ => ⟨S128x128, .f32⟩
  | .local _ .vmem, ⟨28, _⟩ => ⟨S128x128, .f32⟩
  | .local _ .vmem, ⟨29, _⟩ => ⟨S512x128, .f32⟩
  | .local _ .vmem, ⟨30, _⟩ => ⟨S512x128, .f32⟩
  | .local _ .vmem, ⟨31, _⟩ => ⟨S128x128, .f32⟩
  | .local _ .vmem, ⟨32, _⟩ => ⟨S128x128, .f32⟩
  | .local _ .vmem, ⟨33, _⟩ => ⟨S512x512, .f32⟩
  | .local _ .vmem, ⟨34, _⟩ => ⟨S512x512, .f32⟩
  | .local _ .vmem, ⟨35, _⟩ => ⟨S512x128, .f32⟩
  | .local _ .vmem, ⟨36, _⟩ => ⟨S512x128, .f32⟩
  | .local _ .vmem, ⟨37, _⟩ => ⟨S512x128, .f32⟩
  | .local _ .vmem, ⟨38, _⟩ => ⟨S512x128, .f32⟩
  | .local _ .vmem, ⟨39, _⟩ => ⟨S512x1280, .bf16⟩
  | .local _ .vmem, ⟨40, _⟩ => ⟨S512x1280, .bf16⟩
  | .local _ .smem, ⟨0, _⟩ => ⟨S1x8, .f32⟩
  | _, _ => ⟨S8192x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .smem, ⟨0, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79_0 : Ref sig .tc := ⟨.hbm, 92, rfl⟩
abbrev main_v79_1 : Ref sig .tc := ⟨.hbm, 93, rfl⟩
abbrev main_v79_2 : Ref sig .tc := ⟨.hbm, 94, rfl⟩
abbrev main_v79_3 : Ref sig .tc := ⟨.hbm, 95, rfl⟩
abbrev main_v79_4 : Ref sig .tc := ⟨.hbm, 96, rfl⟩
abbrev main_v79_5 : Ref sig .tc := ⟨.hbm, 97, rfl⟩
abbrev main_v80 : Ref sig .tc := ⟨.hbm, 98, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc1_stg0_0 : Ref sig .tc := ⟨.vmem, 23, rfl⟩
abbrev cc1_stg0_1 : Ref sig .tc := ⟨.vmem, 24, rfl⟩
abbrev cc1_stg1_0 : Ref sig .tc := ⟨.vmem, 25, rfl⟩
abbrev cc1_stg1_1 : Ref sig .tc := ⟨.vmem, 26, rfl⟩
abbrev cc1_stg2_0 : Ref sig .tc := ⟨.vmem, 27, rfl⟩
abbrev cc1_stg2_1 : Ref sig .tc := ⟨.vmem, 28, rfl⟩
abbrev cc1_stg3_0 : Ref sig .tc := ⟨.vmem, 29, rfl⟩
abbrev cc1_stg3_1 : Ref sig .tc := ⟨.vmem, 30, rfl⟩
abbrev cc1_stg4_0 : Ref sig .tc := ⟨.vmem, 31, rfl⟩
abbrev cc1_stg4_1 : Ref sig .tc := ⟨.vmem, 32, rfl⟩
abbrev cc1_stg5_0 : Ref sig .tc := ⟨.vmem, 33, rfl⟩
abbrev cc1_stg5_1 : Ref sig .tc := ⟨.vmem, 34, rfl⟩
abbrev cc1_stg6_0 : Ref sig .tc := ⟨.vmem, 35, rfl⟩
abbrev cc1_stg6_1 : Ref sig .tc := ⟨.vmem, 36, rfl⟩
abbrev cc1_stg7_0 : Ref sig .tc := ⟨.vmem, 37, rfl⟩
abbrev cc1_stg7_1 : Ref sig .tc := ⟨.vmem, 38, rfl⟩
abbrev cc1_stg8_0 : Ref sig .tc := ⟨.vmem, 39, rfl⟩
abbrev cc1_stg8_1 : Ref sig .tc := ⟨.vmem, 40, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem2_1 : DmaSem sig := 29
abbrev cc1_sem3_0 : DmaSem sig := 30
abbrev cc1_sem3_1 : DmaSem sig := 31
abbrev cc1_sem4_0 : DmaSem sig := 32
abbrev cc1_sem4_1 : DmaSem sig := 33
abbrev cc1_sem5_0 : DmaSem sig := 34
abbrev cc1_sem5_1 : DmaSem sig := 35
abbrev cc1_sem6_0 : DmaSem sig := 36
abbrev cc1_sem6_1 : DmaSem sig := 37
abbrev cc1_sem7_0 : DmaSem sig := 38
abbrev cc1_sem7_1 : DmaSem sig := 39
abbrev cc1_sem8_0 : DmaSem sig := 40
abbrev cc1_sem8_1 : DmaSem sig := 41

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let c0_i32_0 : BitVec 32 := 0#32
  ![v1.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x1280 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== KernelSwaIdeal.lean ====
variable {F : FTy → Type} [FloatOps F] [Named F]
def κ : String → Option EReal := fun
  | "mask" => some ⊥
  | _ => none
-- ==== ReferenceSwaIdeal.lean ====
abbrev S8192x1280 : Shape := ⟨2, ![8192, 1280]⟩
abbrev S8192 : Shape := ⟨1, ![8192]⟩
abbrev S8 : Shape := ⟨1, ![8]⟩
abbrev S8192x512 : Shape := ⟨2, ![8192, 512]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S8192x8x64 : Shape := ⟨3, ![8192, 8, 64]⟩
abbrev S8192x128 : Shape := ⟨2, ![8192, 128]⟩
abbrev S8192x2x64 : Shape := ⟨3, ![8192, 2, 64]⟩
abbrev S8192x8x32 : Shape := ⟨3, ![8192, 8, 32]⟩
abbrev S8192x2x32 : Shape := ⟨3, ![8192, 2, 32]⟩
abbrev S64x128x2x4x64 : Shape := ⟨5, ![64, 128, 2, 4, 64]⟩
abbrev S64x128x2x64 : Shape := ⟨4, ![64, 128, 2, 64]⟩
abbrev S1x128x2x64 : Shape := ⟨4, ![1, 128, 2, 64]⟩
abbrev S63x128x2x64 : Shape := ⟨4, ![63, 128, 2, 64]⟩
abbrev S64x256x2x64 : Shape := ⟨4, ![64, 256, 2, 64]⟩
abbrev S2x64x256x128x4 : Shape := ⟨5, ![2, 64, 256, 128, 4]⟩
abbrev S2x4x64x128x256 : Shape := ⟨5, ![2, 4, 64, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S2x4x1x1x1 : Shape := ⟨5, ![2, 4, 1, 1, 1]⟩
abbrev S2x4x64x128x1 : Shape := ⟨5, ![2, 4, 64, 128, 1]⟩
abbrev S2x4x64x128x257 : Shape := ⟨5, ![2, 4, 64, 128, 257]⟩
abbrev S2x4x64x128 : Shape := ⟨4, ![2, 4, 64, 128]⟩
abbrev S64x2x64x4x128 : Shape := ⟨5, ![64, 2, 64, 4, 128]⟩
abbrev S64x2x4x128x256 : Shape := ⟨5, ![64, 2, 4, 128, 256]⟩
abbrev S64x2x64x256 : Shape := ⟨4, ![64, 2, 64, 256]⟩
abbrev S2x4 : Shape := ⟨2, ![2, 4]⟩
abbrev S2x64x128x4x64 : Shape := ⟨5, ![2, 64, 128, 4, 64]⟩
abbrev S2x64x256x64 : Shape := ⟨4, ![2, 64, 256, 64]⟩
abbrev S8x1 : Shape := ⟨2, ![8, 1]⟩
abbrev S8x128 : Shape := ⟨2, ![8, 128]⟩

abbrev nBuf : Space → Nat
  | .hbm => 284
  | .vmem => 0
  | .smem => 0
  | _ => 0

abbrev hbmTy0_0 (i : Nat) : BufTy := match i % 128 with
  | 0 => ⟨S8192x1280, .f32⟩
  | 1 => ⟨S8192, .i32⟩
  | 2 => ⟨S8, .f32⟩
  | 3 => ⟨S8192x512, .f32⟩
  | 4 => ⟨S8192x512, .f32⟩
  | 5 => ⟨S32, .f32⟩
  | 6 => ⟨S_, .f32⟩
  | 7 => ⟨S32, .f32⟩
  | 8 => ⟨S32, .f32⟩
  | 9 => ⟨S_, .f32⟩
  | 10 => ⟨S32, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S8192, .f32⟩
  | 20 => ⟨S8192x1, .f32⟩
  | 21 => ⟨S1x32, .f32⟩
  | 22 => ⟨S8192x32, .f32⟩
  | 23 => ⟨S8192x32, .f32⟩
  | 24 => ⟨S8192x32, .f32⟩
  | 25 => ⟨S8192x32, .f32⟩
  | 26 => ⟨S8192x1x32, .f32⟩
  | 27 => ⟨S8192x32, .f32⟩
  | 28 => ⟨S8192x1x32, .f32⟩
  | 29 => ⟨S8192x512, .f32⟩
  | 30 => ⟨S8192x8x64, .f32⟩
  | 31 => ⟨S8192x128, .f32⟩
  | 32 => ⟨S8192x2x64, .f32⟩
  | 33 => ⟨S8192x128, .f32⟩
  | 34 => ⟨S8192x2x64, .f32⟩
  | 35 => ⟨S8192x512, .f32⟩
  | 36 => ⟨S8192x8x32, .f32⟩
  | 37 => ⟨S8192x8x32, .f32⟩
  | 38 => ⟨S8192x8x32, .f32⟩
  | 39 => ⟨S8192x8x32, .f32⟩
  | 40 => ⟨S8192x8x32, .f32⟩
  | 41 => ⟨S8192x8x32, .f32⟩
  | 42 => ⟨S8192x8x32, .f32⟩
  | 43 => ⟨S8192x8x32, .f32⟩
  | 44 => ⟨S8192x8x32, .f32⟩
  | 45 => ⟨S8192x8x32, .f32⟩
  | 46 => ⟨S8192x8x32, .f32⟩
  | 47 => ⟨S8192x8x32, .f32⟩
  | 48 => ⟨S8192x8x64, .f32⟩
  | 49 => ⟨S8192x2x32, .f32⟩
  | 50 => ⟨S8192x2x32, .f32⟩
  | 51 => ⟨S8192x2x32, .f32⟩
  | 52 => ⟨S8192x2x32, .f32⟩
  | 53 => ⟨S8192x2x32, .f32⟩
  | 54 => ⟨S8192x2x32, .f32⟩
  | 55 => ⟨S8192x2x32, .f32⟩
  | 56 => ⟨S8192x2x32, .f32⟩
  | 57 => ⟨S8192x2x32, .f32⟩
  | 58 => ⟨S8192x2x32, .f32⟩
  | 59 => ⟨S8192x2x32, .f32⟩
  | 60 => ⟨S8192x2x32, .f32⟩
  | 61 => ⟨S8192x2x64, .f32⟩
  | 62 => ⟨S64x128x2x4x64, .f32⟩
  | 63 => ⟨S64x128x2x64, .f32⟩
  | 64 => ⟨S1x128x2x64, .f32⟩
  | 65 => ⟨S_, .f32⟩
  | 66 => ⟨S1x128x2x64, .f32⟩
  | 67 => ⟨S63x128x2x64, .f32⟩
  | 68 => ⟨S64x128x2x64, .f32⟩
  | 69 => ⟨S_, .f32⟩
  | 70 => ⟨S1x128x2x64, .f32⟩
  | 71 => ⟨S64x256x2x64, .f32⟩
  | 72 => ⟨S64x128x2x64, .f32⟩
  | 73 => ⟨S1x128x2x64, .f32⟩
  | 74 => ⟨S_, .f32⟩
  | 75 => ⟨S1x128x2x64, .f32⟩
  | 76 => ⟨S63x128x2x64, .f32⟩
  | 77 => ⟨S64x128x2x64, .f32⟩
  | 78 => ⟨S_, .f32⟩
  | 79 => ⟨S1x128x2x64, .f32⟩
  | 80 => ⟨S64x256x2x64, .f32⟩
  | 81 => ⟨S2x64x256x128x4, .f32⟩
  | 82 => ⟨S2x4x64x128x256, .f32⟩
  | 83 => ⟨S_, .f32⟩
  | 84 => ⟨S2x4x64x128x256, .f32⟩
  | 85 => ⟨S2x4x64x128x256, .f32⟩
  | 86 => ⟨S128, .i32⟩
  | 87 => ⟨S128x1, .i32⟩
  | 88 => ⟨S256, .i32⟩
  | 89 => ⟨S1x256, .i32⟩
  | 90 => ⟨S_, .i32⟩
  | 91 => ⟨S128x1, .i32⟩
  | 92 => ⟨S128x1, .i32⟩
  | 93 => ⟨S128x256, .i32⟩
  | 94 => ⟨S128x256, .i32⟩
  | 95 => ⟨S128x256, .i32⟩
  | 96 => ⟨S64, .i32⟩
  | 97 => ⟨S64x1x1, .i32⟩
  | 98 => ⟨S_, .i32⟩
  | 99 => ⟨S64x1x1, .i32⟩
  | 100 => ⟨S64x1x1, .i32⟩
  | 101 => ⟨S_, .i32⟩
  | 102 => ⟨S64x1x1, .i32⟩
  | 103 => ⟨S64x1x1, .i32⟩
  | 104 => ⟨S1x1x256, .i32⟩
  | 105 => ⟨S64x1x256, .i32⟩
  | 106 => ⟨S64x1x256, .i32⟩
  | 107 => ⟨S64x1x256, .i32⟩
  | 108 => ⟨S_, .i32⟩
  | 109 => ⟨S128x256, .i32⟩
  | 110 => ⟨S128x256, .i1⟩
  | 111 => ⟨S1x128x256, .i1⟩
  | 112 => ⟨S_, .i32⟩
  | 113 => ⟨S128x256, .i32⟩
  | 114 => ⟨S128x256, .i1⟩
  | 115 => ⟨S1x128x256, .i1⟩
  | 116 => ⟨S1x128x256, .i1⟩
  | 117 => ⟨S_, .i32⟩
  | 118 => ⟨S64x1x256, .i32⟩
  | 119 => ⟨S64x1x256, .i1⟩
  | 120 => ⟨S64x128x256, .i1⟩
  | 121 => ⟨S64x128x256, .i1⟩
  | 122 => ⟨S64x128x256, .i1⟩
  | 123 => ⟨S_, .f32⟩
  | 124 => ⟨S_, .f32⟩
  | 125 => ⟨S2x4x64x128x256, .i1⟩
  | 126 => ⟨S2x4x64x128x256, .f32⟩
  | 127 => ⟨S2x4x64x128x256, .f32⟩
  | _ => ⟨S8192x1280, .f32⟩

abbrev hbmTy0_1 (i : Nat) : BufTy := match i % 128 with
  | 0 => ⟨S_, .f32⟩
  | 1 => ⟨S2x4x64x128x256, .f32⟩
  | 2 => ⟨S2x4x1x1x1, .f32⟩
  | 3 => ⟨S2x4x64x128x1, .f32⟩
  | 4 => ⟨S2x4x64x128x257, .f32⟩
  | 5 => ⟨S_, .f32⟩
  | 6 => ⟨S2x4x64x128, .f32⟩
  | 7 => ⟨S2x4x64x128x1, .f32⟩
  | 8 => ⟨S2x4x64x128x257, .f32⟩
  | 9 => ⟨S2x4x64x128x257, .i1⟩
  | 10 => ⟨S2x4x64x128x257, .f32⟩
  | 11 => ⟨S_, .f32⟩
  | 12 => ⟨S2x4x64x128, .f32⟩
  | 13 => ⟨S_, .f32⟩
  | 14 => ⟨S2x4x64x128, .f32⟩
  | 15 => ⟨S2x4x64x128, .f32⟩
  | 16 => ⟨S_, .f32⟩
  | 17 => ⟨S2x4x64x128, .f32⟩
  | 18 => ⟨S2x4x64x128, .i1⟩
  | 19 => ⟨S_, .f32⟩
  | 20 => ⟨S2x4x64x128, .f32⟩
  | 21 => ⟨S2x4x64x128, .i1⟩
  | 22 => ⟨S_, .f32⟩
  | 23 => ⟨S2x4x64x128, .f32⟩
  | 24 => ⟨S_, .f32⟩
  | 25 => ⟨S2x4x64x128, .f32⟩
  | 26 => ⟨S_, .f32⟩
  | 27 => ⟨S2x4x64x128, .f32⟩
  | 28 => ⟨S2x4x64x128, .f32⟩
  | 29 => ⟨S2x4x64x128, .f32⟩
  | 30 => ⟨S2x4x64x128x1, .f32⟩
  | 31 => ⟨S2x4x64x128x257, .f32⟩
  | 32 => ⟨S2x4x64x128x257, .f32⟩
  | 33 => ⟨S2x4x64x128x257, .f32⟩
  | 34 => ⟨S_, .f32⟩
  | 35 => ⟨S2x4x64x128, .f32⟩
  | 36 => ⟨S2x4x64x128x1, .f32⟩
  | 37 => ⟨S2x4x64x128x257, .f32⟩
  | 38 => ⟨S2x4x64x128x257, .f32⟩
  | 39 => ⟨S2x4x64x128x1, .f32⟩
  | 40 => ⟨S_, .f32⟩
  | 41 => ⟨S2x4x64x128x1, .f32⟩
  | 42 => ⟨S2x4x64x128x1, .f32⟩
  | 43 => ⟨S2x4x64x128x256, .f32⟩
  | 44 => ⟨S64x2x64x4x128, .f32⟩
  | 45 => ⟨S64x128x2x4x64, .f32⟩
  | 46 => ⟨S8192x512, .f32⟩
  | 47 => ⟨S64x128x2x4x64, .f32⟩
  | 48 => ⟨S64x2x64x4x128, .f32⟩
  | 49 => ⟨S64x2x4x128x256, .f32⟩
  | 50 => ⟨S2x4x64x128x256, .f32⟩
  | 51 => ⟨S64x2x64x256, .f32⟩
  | 52 => ⟨S64x256x2x64, .f32⟩
  | 53 => ⟨S_, .f32⟩
  | 54 => ⟨S2x4x64x128x257, .f32⟩
  | 55 => ⟨S2x4x64x128x257, .f32⟩
  | 56 => ⟨S2x4x64x128x257, .f32⟩
  | 57 => ⟨S2x4x64x128x257, .f32⟩
  | 58 => ⟨S_, .f32⟩
  | 59 => ⟨S2x4x64x128, .f32⟩
  | 60 => ⟨S2x4x64x128x1, .f32⟩
  | 61 => ⟨S2x4x64x128x1, .f32⟩
  | 62 => ⟨S2x4x64x128x257, .f32⟩
  | 63 => ⟨S2x4x64x128x257, .f32⟩
  | 64 => ⟨S_, .f32⟩
  | 65 => ⟨S2x4x64x128, .f32⟩
  | 66 => ⟨S2x4x64x128x257, .f32⟩
  | 67 => ⟨S2x4x64x128x257, .f32⟩
  | 68 => ⟨S2x4x64x128x257, .f32⟩
  | 69 => ⟨S2x4x64x128x256, .f32⟩
  | 70 => ⟨S2x4x64x128x1, .f32⟩
  | 71 => ⟨S_, .f32⟩
  | 72 => ⟨S2x4, .f32⟩
  | 73 => ⟨S2x4x1x1x1, .f32⟩
  | 74 => ⟨S8, .f32⟩
  | 75 => ⟨S_, .f32⟩
  | 76 => ⟨S2x4x64x128x256, .f32⟩
  | 77 => ⟨S2x4x64x128x256, .f32⟩
  | 78 => ⟨S_, .f32⟩
  | 79 => ⟨S2x4x64x128x256, .f32⟩
  | 80 => ⟨S2x4x64x128x256, .f32⟩
  | 81 => ⟨S2x64x256x128x4, .f32⟩
  | 82 => ⟨S2x64x128x4x64, .f32⟩
  | 83 => ⟨S64x128x2x4x64, .f32⟩
  | 84 => ⟨S2x64x256x64, .f32⟩
  | 85 => ⟨S64x256x2x64, .f32⟩
  | 86 => ⟨S64x128x2x64, .f32⟩
  | 87 => ⟨S64x128x2x64, .f32⟩
  | 88 => ⟨S1x128x2x64, .f32⟩
  | 89 => ⟨S63x128x2x64, .f32⟩
  | 90 => ⟨S_, .f32⟩
  | 91 => ⟨S64x128x2x64, .f32⟩
  | 92 => ⟨S64x128x2x64, .f32⟩
  | 93 => ⟨S8192x2x64, .f32⟩
  | 94 => ⟨S64x128x2x64, .f32⟩
  | 95 => ⟨S64x128x2x64, .f32⟩
  | 96 => ⟨S1x128x2x64, .f32⟩
  | 97 => ⟨S63x128x2x64, .f32⟩
  | 98 => ⟨S_, .f32⟩
  | 99 => ⟨S64x128x2x64, .f32⟩
  | 100 => ⟨S64x128x2x64, .f32⟩
  | 101 => ⟨S8192x2x64, .f32⟩
  | 102 => ⟨S8192x8x64, .f32⟩
  | 103 => ⟨S8192x2x32, .f32⟩
  | 104 => ⟨S8192x2x32, .f32⟩
  | 105 => ⟨S8192x2x32, .f32⟩
  | 106 => ⟨S8192x2x32, .f32⟩
  | 107 => ⟨S8192x2x32, .f32⟩
  | 108 => ⟨S8192x2x32, .f32⟩
  | 109 => ⟨S8192x2x32, .f32⟩
  | 110 => ⟨S8192x2x32, .f32⟩
  | 111 => ⟨S8192x2x32, .f32⟩
  | 112 => ⟨S8192x2x32, .f32⟩
  | 113 => ⟨S8192x2x32, .f32⟩
  | 114 => ⟨S8192x2x32, .f32⟩
  | 115 => ⟨S8192x2x32, .f32⟩
  | 116 => ⟨S_, .f32⟩
  | 117 => ⟨S8192x2x64, .f32⟩
  | 118 => ⟨S_, .f32⟩
  | 119 => ⟨S8192x2x64, .f32⟩
  | 120 => ⟨S8192x2x64, .f32⟩
  | 121 => ⟨S8192x8x32, .f32⟩
  | 122 => ⟨S8192x8x32, .f32⟩
  | 123 => ⟨S8192x8x32, .f32⟩
  | 124 => ⟨S8192x8x32, .f32⟩
  | 125 => ⟨S8192x8x32, .f32⟩
  | 126 => ⟨S8192x8x32, .f32⟩
  | 127 => ⟨S8192x8x32, .f32⟩
  | _ => ⟨S8192x1280, .f32⟩

abbrev hbmTy0_2 (i : Nat) : BufTy := match i % 128 with
  | 0 => ⟨S8192x8x32, .f32⟩
  | 1 => ⟨S8192x8x32, .f32⟩
  | 2 => ⟨S8192x8x32, .f32⟩
  | 3 => ⟨S8192x8x32, .f32⟩
  | 4 => ⟨S8192x8x32, .f32⟩
  | 5 => ⟨S8192x8x32, .f32⟩
  | 6 => ⟨S_, .f32⟩
  | 7 => ⟨S8192x8x64, .f32⟩
  | 8 => ⟨S_, .f32⟩
  | 9 => ⟨S8192x8x64, .f32⟩
  | 10 => ⟨S8192x8x64, .f32⟩
  | 11 => ⟨S_, .f32⟩
  | 12 => ⟨S8192x1280, .f32⟩
  | 13 => ⟨S8192x128, .f32⟩
  | 14 => ⟨S_, .f32⟩
  | 15 => ⟨S8192x1280, .f32⟩
  | 16 => ⟨S8192x1280, .f32⟩
  | 17 => ⟨S8192x128, .f32⟩
  | 18 => ⟨S_, .f32⟩
  | 19 => ⟨S8192x1280, .f32⟩
  | 20 => ⟨S8192x1280, .f32⟩
  | 21 => ⟨S8192x512, .f32⟩
  | 22 => ⟨S_, .f32⟩
  | 23 => ⟨S8192x1280, .f32⟩
  | 24 => ⟨S8192x1280, .f32⟩
  | 25 => ⟨S8x1, .f32⟩
  | 26 => ⟨S8x128, .f32⟩
  | 27 => ⟨S8192x1280, .bf16⟩
  | _ => ⟨S8192x1280, .f32⟩

abbrev hbmTy (i : Nat) : BufTy := match i / 128 with
  | 0 => hbmTy0_0 i
  | 1 => hbmTy0_1 i
  | 2 => hbmTy0_2 i
  | _ => ⟨S8192x1280, .f32⟩

abbrev bufTy : (tb : Table) → Fin (tcTables nBuf tb) → BufTy
  | .hbm, ⟨i, _⟩ => hbmTy i
  | _, _ => ⟨S8192x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_cst_3 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_cst_4 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_cst_5 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_cst_6 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_cst_7 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_c : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_c_8 : Ref sig .tc := ⟨.hbm, 98, rfl⟩
abbrev main_v83 : Ref sig .tc := ⟨.hbm, 99, rfl⟩
abbrev main_v84 : Ref sig .tc := ⟨.hbm, 100, rfl⟩
abbrev main_c_9 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_c_10 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_c_11 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_c_12 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_cst_13 : Ref sig .tc := ⟨.hbm, 123, rfl⟩
abbrev main_call0_v0 : Ref sig .tc := ⟨.hbm, 124, rfl⟩
abbrev main_v103_1 : Ref sig .tc := ⟨.hbm, 125, rfl⟩
abbrev main_call0_v2 : Ref sig .tc := ⟨.hbm, 126, rfl⟩
abbrev main_v103_0 : Ref sig .tc := ⟨.hbm, 127, rfl⟩
abbrev main_call0_cst : Ref sig .tc := ⟨.hbm, 128, rfl⟩
abbrev main_v103_2 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_cst_14 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_cst_15 : Ref sig .tc := ⟨.hbm, 139, rfl⟩
abbrev main_v112 : Ref sig .tc := ⟨.hbm, 140, rfl⟩
abbrev main_cst_16 : Ref sig .tc := ⟨.hbm, 141, rfl⟩
abbrev main_v113 : Ref sig .tc := ⟨.hbm, 142, rfl⟩
abbrev main_v114 : Ref sig .tc := ⟨.hbm, 143, rfl⟩
abbrev main_cst_17 : Ref sig .tc := ⟨.hbm, 144, rfl⟩
abbrev main_v115 : Ref sig .tc := ⟨.hbm, 145, rfl⟩
abbrev main_v116 : Ref sig .tc := ⟨.hbm, 146, rfl⟩
abbrev main_cst_18 : Ref sig .tc := ⟨.hbm, 147, rfl⟩
abbrev main_v117 : Ref sig .tc := ⟨.hbm, 148, rfl⟩
abbrev main_v118 : Ref sig .tc := ⟨.hbm, 149, rfl⟩
abbrev main_cst_19 : Ref sig .tc := ⟨.hbm, 150, rfl⟩
abbrev main_v119 : Ref sig .tc := ⟨.hbm, 151, rfl⟩
abbrev main_cst_20 : Ref sig .tc := ⟨.hbm, 152, rfl⟩
abbrev main_v120 : Ref sig .tc := ⟨.hbm, 153, rfl⟩
abbrev main_cst_21 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_cst_22 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_cst_23 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_cst_24 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_cst_25 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_cst_26 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_cst_27 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_call1_cst : Ref sig .tc := ⟨.hbm, 203, rfl⟩
abbrev main_call1_v0 : Ref sig .tc := ⟨.hbm, 204, rfl⟩
abbrev main_v163 : Ref sig .tc := ⟨.hbm, 205, rfl⟩
abbrev main_cst_28 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_cst_29 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_cst_30 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_cst_31 : Ref sig .tc := ⟨.hbm, 244, rfl⟩
abbrev main_v199 : Ref sig .tc := ⟨.hbm, 245, rfl⟩
abbrev main_cst_32 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_cst_33 : Ref sig .tc := ⟨.hbm, 262, rfl⟩
abbrev main_v215 : Ref sig .tc := ⟨.hbm, 263, rfl⟩
abbrev main_cst_34 : Ref sig .tc := ⟨.hbm, 264, rfl⟩
abbrev main_v216 : Ref sig .tc := ⟨.hbm, 265, rfl⟩
abbrev main_v217 : Ref sig .tc := ⟨.hbm, 266, rfl⟩
abbrev main_cst_35 : Ref sig .tc := ⟨.hbm, 267, rfl⟩
abbrev main_v218 : Ref sig .tc := ⟨.hbm, 268, rfl⟩
abbrev main_v219 : Ref sig .tc := ⟨.hbm, 269, rfl⟩
abbrev main_cst_36 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_cst_37 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_cst_38 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_v230 : Ref sig .tc := ⟨.hbm, 283, rfl⟩

abbrev nD : Nat := 1
abbrev τ : Topo := Topo.v7x

variable {F : FTy → Type} [FloatOps F]
-- ==== KernelProj.lean ====
abbrev S8192x1024 : Shape := ⟨2, ![8192, 1024]⟩
abbrev S1024x1280 : Shape := ⟨2, ![1024, 1280]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S1280x1024 : Shape := ⟨2, ![1280, 1024]⟩
abbrev S8192x512 : Shape := ⟨2, ![8192, 512]⟩
abbrev S512x1024 : Shape := ⟨2, ![512, 1024]⟩
abbrev S512x128 : Shape := ⟨2, ![512, 128]⟩
abbrev S512x512 : Shape := ⟨2, ![512, 512]⟩
abbrev S512x1280 : Shape := ⟨2, ![512, 1280]⟩

abbrev nBuf : Space → Nat
  | .hbm => 36
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024x1280, .f32⟩
  | .hbm, ⟨2, _⟩ => ⟨S8192, .i32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S8192, .f32⟩
  | .hbm, ⟨18, _⟩ => ⟨S8192x1, .f32⟩
  | .hbm, ⟨19, _⟩ => ⟨S1x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x128, .f32⟩
  | .hbm, ⟨26, _⟩ => ⟨S8192x32, .f32⟩
  | .hbm, ⟨27, _⟩ => ⟨S8192x32, .f32⟩
  | .hbm, ⟨28, _⟩ => ⟨S8192x128, .f32⟩
  | .hbm, ⟨29, _⟩ => ⟨S8192x1024, .bf16⟩
  | .hbm, ⟨30, _⟩ => ⟨S1280x1024, .f32⟩
  | .hbm, ⟨31, _⟩ => ⟨S1280x1024, .bf16⟩
  | .hbm, ⟨32, _⟩ => ⟨S8192x512, .bf16⟩
  | .hbm, ⟨33, _⟩ => ⟨S8192x128, .bf16⟩
  | .hbm, ⟨34, _⟩ => ⟨S8192x128, .bf16⟩
  | .hbm, ⟨35, _⟩ => ⟨S8192x512, .f32⟩
  | .local _ .vmem, ⟨0, _⟩ => ⟨S512x1024, .bf16⟩
  | .local _ .vmem, ⟨1, _⟩ => ⟨S512x1024, .bf16⟩
  | .local _ .vmem, ⟨2, _⟩ => ⟨S1280x1024, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x512, .bf16⟩
  | .local _ .vmem, ⟨8, _⟩ => ⟨S512x512, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x512, .f32⟩
  | .local _ .vmem, ⟨14, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25_0 : Ref sig .tc := ⟨.hbm, 32, rfl⟩
abbrev main_v25_1 : Ref sig .tc := ⟨.hbm, 33, rfl⟩
abbrev main_v25_2 : Ref sig .tc := ⟨.hbm, 34, rfl⟩
abbrev main_v25_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceProjIdeal.lean ====
abbrev S8192x1024 : Shape := ⟨2, ![8192, 1024]⟩
abbrev S1024x1280 : Shape := ⟨2, ![1024, 1280]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S8192x1280 : Shape := ⟨2, ![8192, 1280]⟩
abbrev S8192x512 : Shape := ⟨2, ![8192, 512]⟩
abbrev S8192x8x64 : Shape := ⟨3, ![8192, 8, 64]⟩
abbrev S8192x128 : Shape := ⟨2, ![8192, 128]⟩
abbrev S8192x2x64 : Shape := ⟨3, ![8192, 2, 64]⟩
abbrev S8192x8x32 : Shape := ⟨3, ![8192, 8, 32]⟩
abbrev S8192x2x32 : Shape := ⟨3, ![8192, 2, 32]⟩

abbrev nBuf : Space → Nat
  | .hbm => 65
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1280, .f32⟩
  | .hbm, ⟨2, _⟩ => ⟨S8192, .i32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S8192, .f32⟩
  | .hbm, ⟨18, _⟩ => ⟨S8192x1, .f32⟩
  | .hbm, ⟨19, _⟩ => ⟨S1x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x1x32, .f32⟩
  | .hbm, ⟨25, _⟩ => ⟨S8192x32, .f32⟩
  | .hbm, ⟨26, _⟩ => ⟨S8192x1x32, .f32⟩
  | .hbm, ⟨27, _⟩ => ⟨S8192x1280, .f32⟩
  | .hbm, ⟨28, _⟩ => ⟨S8192x512, .f32⟩
  | .hbm, ⟨29, _⟩ => ⟨S8192x8x64, .f32⟩
  | .hbm, ⟨30, _⟩ => ⟨S8192x128, .f32⟩
  | .hbm, ⟨31, _⟩ => ⟨S8192x2x64, .f32⟩
  | .hbm, ⟨32, _⟩ => ⟨S8192x128, .f32⟩
  | .hbm, ⟨33, _⟩ => ⟨S8192x512, .f32⟩
  | .hbm, ⟨34, _⟩ => ⟨S8192x8x32, .f32⟩
  | .hbm, ⟨35, _⟩ => ⟨S8192x8x32, .f32⟩
  | .hbm, ⟨36, _⟩ => ⟨S8192x8x32, .f32⟩
  | .hbm, ⟨37, _⟩ => ⟨S8192x8x32, .f32⟩
  | .hbm, ⟨38, _⟩ => ⟨S8192x8x32, .f32⟩
  | .hbm, ⟨39, _⟩ => ⟨S8192x8x32, .f32⟩
  | .hbm, ⟨40, _⟩ => ⟨S8192x8x32, .f32⟩
  | .hbm, ⟨41, _⟩ => ⟨S8192x8x32, .f32⟩
  | .hbm, ⟨42, _⟩ => ⟨S8192x8x32, .f32⟩
  | .hbm, ⟨43, _⟩ => ⟨S8192x8x32, .f32⟩
  | .hbm, ⟨44, _⟩ => ⟨S8192x8x32, .f32⟩
  | .hbm, ⟨45, _⟩ => ⟨S8192x8x32, .f32⟩
  | .hbm, ⟨46, _⟩ => ⟨S8192x8x64, .f32⟩
  | .hbm, ⟨47, _⟩ => ⟨S8192x512, .f32⟩
  | .hbm, ⟨48, _⟩ => ⟨S8192x2x32, .f32⟩
  | .hbm, ⟨49, _⟩ => ⟨S8192x2x32, .f32⟩
  | .hbm, ⟨50, _⟩ => ⟨S8192x2x32, .f32⟩
  | .hbm, ⟨51, _⟩ => ⟨S8192x2x32, .f32⟩
  | .hbm, ⟨52, _⟩ => ⟨S8192x2x32, .f32⟩
  | .hbm, ⟨53, _⟩ => ⟨S8192x2x32, .f32⟩
  | .hbm, ⟨54, _⟩ => ⟨S8192x2x32, .f32⟩
  | .hbm, ⟨55, _⟩ => ⟨S8192x2x32, .f32⟩
  | .hbm, ⟨56, _⟩ => ⟨S8192x2x32, .f32⟩
  | .hbm, ⟨57, _⟩ => ⟨S8192x2x32, .f32⟩
  | .hbm, ⟨58, _⟩ => ⟨S8192x2x32, .f32⟩
  | .hbm, ⟨59, _⟩ => ⟨S8192x2x32, .f32⟩
  | .hbm, ⟨60, _⟩ => ⟨S8192x2x64, .f32⟩
  | .hbm, ⟨61, _⟩ => ⟨S8192x128, .f32⟩
  | .hbm, ⟨62, _⟩ => ⟨S8192x512, .bf16⟩
  | .hbm, ⟨63, _⟩ => ⟨S8192x128, .bf16⟩
  | .hbm, ⟨64, _⟩ => ⟨S8192x128, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩

abbrev nD : Nat := 1
abbrev τ : Topo := Topo.v7x

variable {F : FTy → Type} [FloatOps F]
-- ==== KernelXattnF.lean ====
abbrev S8192x1024 : Shape := ⟨2, ![8192, 1024]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S256x2048, .f32⟩
  | .hbm, ⟨2, _⟩ => ⟨S8192x1024, .bf16⟩
  | .hbm, ⟨3, _⟩ => ⟨S256x2048, .bf16⟩
  | .hbm, ⟨4, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S256x2048, .bf16⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceXattnFIdeal.lean ====
abbrev S8192x1024 : Shape := ⟨2, ![8192, 1024]⟩
abbrev S256x2048 : Shape := ⟨2, ![256, 2048]⟩
abbrev S8192x4x256 : Shape := ⟨3, ![8192, 4, 256]⟩
abbrev S256x2x4x256 : Shape := ⟨4, ![256, 2, 4, 256]⟩
abbrev S256x1x4x256 : Shape := ⟨4, ![256, 1, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S256x2048, .f32⟩
  | .hbm, ⟨2, _⟩ => ⟨S8192x4x256, .f32⟩
  | .hbm, ⟨3, _⟩ => ⟨S256x2x4x256, .f32⟩
  | .hbm, ⟨4, _⟩ => ⟨S256x1x4x256, .f32⟩
  | .hbm, ⟨5, _⟩ => ⟨S256x4x256, .f32⟩
  | .hbm, ⟨6, _⟩ => ⟨S256x1x4x256, .f32⟩
  | .hbm, ⟨7, _⟩ => ⟨S256x4x256, .f32⟩
  | .hbm, ⟨8, _⟩ => ⟨S4x8192x256, .f32⟩
  | .hbm, ⟨9, _⟩ => ⟨S_, .f32⟩
  | .hbm, ⟨10, _⟩ => ⟨S4x8192x256, .f32⟩
  | .hbm, ⟨11, _⟩ => ⟨S4x8192x256, .f32⟩
  | .hbm, ⟨12, _⟩ => ⟨S_, .f32⟩
  | .hbm, ⟨13, _⟩ => ⟨S4x8192, .f32⟩
  | .hbm, ⟨14, _⟩ => ⟨S_, .f32⟩
  | .hbm, ⟨15, _⟩ => ⟨S4x8192, .f32⟩
  | .hbm, ⟨16, _⟩ => ⟨S4x8192, .f32⟩
  | .hbm, ⟨17, _⟩ => ⟨S4x8192x1, .f32⟩
  | .hbm, ⟨18, _⟩ => ⟨S4x8192x256, .f32⟩
  | .hbm, ⟨19, _⟩ => ⟨S4x8192x256, .f32⟩
  | .hbm, ⟨20, _⟩ => ⟨S4x8192x256, .f32⟩
  | .hbm, ⟨21, _⟩ => ⟨S_, .f32⟩
  | .hbm, ⟨22, _⟩ => ⟨S4x8192, .f32⟩
  | .hbm, ⟨23, _⟩ => ⟨S4x8192x1, .f32⟩
  | .hbm, ⟨24, _⟩ => ⟨S4x8192x256, .f32⟩
  | .hbm, ⟨25, _⟩ => ⟨S4x8192x256, .f32⟩
  | .hbm, ⟨26, _⟩ => ⟨S4x256x8192, .f32⟩
  | .hbm, ⟨27, _⟩ => ⟨S8192x4x256, .f32⟩
  | .hbm, ⟨28, _⟩ => ⟨S8192x1024, .f32⟩
  | .hbm, ⟨29, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== KernelUp.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 11
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S8192x1024, .bf16⟩
  | .hbm, ⟨4, _⟩ => ⟨S2816x1024, .f32⟩
  | .hbm, ⟨5, _⟩ => ⟨S2816x1024, .bf16⟩
  | .hbm, ⟨6, _⟩ => ⟨S2816x1024, .f32⟩
  | .hbm, ⟨7, _⟩ => ⟨S2816x1024, .bf16⟩
  | .hbm, ⟨8, _⟩ => ⟨S8192x2816, .bf16⟩
  | .hbm, ⟨9, _⟩ => ⟨S8192x2816, .bf16⟩
  | .hbm, ⟨10, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceUpIdeal.lean ====
abbrev S8192x1024 : Shape := ⟨2, ![8192, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .bf16⟩
  | .hbm, ⟨16, _⟩ => ⟨S8192x2816, .bf16⟩
  | .hbm, ⟨17, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== KernelRmsF.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceRmsFIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelDown.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S8192x2816, .bf16⟩
  | .hbm, ⟨5, _⟩ => ⟨S2816x1024, .bf16⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceDownIdeal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Proof.Reals.lean ====
/- Finite extended reals: the precondition's meaning, the constants of the step as reals, and the closure of
   finiteness under sums and products. -/
module

public import Idealize.ShloMosaic.Lib.Pointwise
public import Idealize.ShloMosaic.Lib.IdealHost

@[expose] public section

noncomputable section

namespace Cert.Step

open Idealize.ShloMosaic
open scoped BigOperators

/-- `x` is a real number: neither infinity. -/
def IsReal (x : EReal) : Prop := ∃ a : ℝ, x = (a : EReal)

theorem IsReal.coe (a : ℝ) : IsReal (a : EReal) := ⟨a, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of reals, read in the extended reals. -/
theorem coe_sum {ι : Type} (s : Finset ι) (f : ι → ℝ) : ((∑ i ∈ s, f i : ℝ) : EReal) = ∑ i ∈ s, (f i : EReal) :=
  map_sum (⟨⟨fun a : ℝ => (a : EReal), EReal.coe_zero⟩, EReal.coe_add⟩ : ℝ →+ EReal) f s

theorem IsReal.sum {ι : Type} {s : Finset ι} {f : ι → EReal} (h : ∀ i, IsReal (f i)) : IsReal (∑ i ∈ s, f i) := by
  choose a ha using h
  exact ⟨∑ i ∈ s, a i, by rw [coe_sum]; exact Finset.sum_congr rfl fun i _ => ha i⟩

/-- The precondition `|x| < ∞` at one element. -/
theorem IsReal.of_abs_lt {x y : EReal} (hy : y = ⊤) (h : Ideal.cmp .olt (max x (-x)) y = 1#1) : IsReal x := by
  subst hy
  induction x with
  | bot => simp [Ideal.cmp] at h
  | top => simp [Ideal.cmp] at h
  | coe a => exact ⟨a, rfl⟩

/-- A residual's cotangent may be added first or last. -/
theorem add_last (a b c d : EReal) : a + b + c + d = b + c + d + a := by
  rw [add_comm a b, add_assoc b a c, add_comm a c, ← add_assoc, add_assoc, add_comm a d, ← add_assoc]

/-- The row of a whole array of `N * S` rows that the `t`-th block of `S` rows holds at row `r`. -/
abbrev rowOf {N S : ℕ} (t : Fin N) (r : Fin S) : Fin (N * S) :=
  ⟨t.val * S + r.val, by
    have := t.isLt; have := r.isLt; have := Nat.mul_le_mul_right S (show t.val + 1 ≤ N by omega); rw [Nat.add_mul] at this; omega⟩

/-- The words of the step's constants. -/
theorem bits_inf : Ideal.ofBits .f32 0x7F800000#32 = ⊤ := by
  simp [Ideal.ofBits, Ideal.ieee]

abbrev wOne : EReal := Ideal.ofBits .f32 0x3F800000#32

theorem bits_one : wOne = ((1 : ℝ) : EReal) := by
  simp only [wOne, Ideal.ofBits, Ideal.ieee]
  simp
  rw [← EReal.coe_mul]; norm_num

theorem bits_1024 : Ideal.ofBits .f32 0x44800000#32 = ((1024 : ℝ) : EReal) := by
  simp only [Ideal.ofBits, Ideal.ieee]
  simp
  rw [← EReal.coe_mul]; norm_num

theorem bits_512 : Ideal.ofBits .f32 0x44000000#32 = ((512 : ℝ) : EReal) := by
  simp only [Ideal.ofBits, Ideal.ieee]
  simp
  rw [← EReal.coe_mul]; norm_num

theorem bits_neg_half : Ideal.ofBits .f32 0xBF000000#32 = ((-1 / 2 : ℝ) : EReal) := by
  simp only [Ideal.ofBits, Ideal.ieee]
  simp
  rw [← EReal.coe_mul, ← EReal.coe_neg]; norm_num

/-- The norm's ε: some positive real. -/
theorem bits_eps : ∃ e : ℝ, 0 < e ∧ Ideal.ofBits .f32 0x358637BD#32 = (e : EReal) := by
  refine ⟨_, ?_, by simp only [Ideal.ofBits, Ideal.ieee]; simp; rfl⟩
  positivity

/-- The precondition as it is printed, `|x| < ∞` on a whole array: every element is a real number. -/
theorem isReal_of_pred {S : Shape} {x b : FVec Ideal S .f32} (hb : ∀ i, b i = Ideal.ofBits .f32 0x7F800000#32)
    (h : cmpf .olt (Host.absf x) b = fun _ => 1#1) (i : S.Idx) : IsReal (x i : EReal) :=
  IsReal.of_abs_lt ((hb i).trans bits_inf) (congrFun h i)

end Cert.Step

end
-- ==== Proof.NormGrad.lean ====
/- The gradient of the RMS norm at one row: the form with the normalised row, which a kernel computes, against the
   form that differentiating `x · rsqrt (mean x² + ε)` gives. -/
module

public import proofs.«01_k».proof.Proof.Reals

@[expose] public section

noncomputable section

namespace Cert.Step

open Idealize.ShloMosaic
open scoped BigOperators

variable {ι : Type} [Fintype ι]

/-- The mean square of a row plus ε. -/
def meanSq (D e : EReal) (x : ι → EReal) : EReal := Ideal.div (∑ k, x k * x k) D + e

/-- The reciprocal root of a row's mean square. -/
def rinv (D e : EReal) (x : ι → EReal) : EReal := Ideal.rsqrt (meanSq D e x)

/-- The norm's gradient with respect to the row `x` at the cotangent `d` of the normalised row, with the mean of
    `d` times the normalised row taken out: `r · (d − x̂ · mean (d · x̂))`, where `x̂ = x · r`. -/
def gradHat (D e : EReal) (x d : ι → EReal) (j : ι) : EReal :=
  rinv D e x * (d j - x j * rinv D e x * Ideal.div (∑ k, d k * (x k * rinv D e x)) D)

/-- What differentiating the mean square adds at an element, per unit of `x`: the cotangent of the mean square. -/
def coef (D e h : EReal) (x d : ι → EReal) : EReal :=
  Ideal.div ((∑ k, x k * d k) * (h * Ideal.div (rinv D e x) (meanSq D e x))) D

/-- The norm's gradient by the product rule: `d · r`, and the cotangent of the mean square once for each factor of
    `x · x`. -/
def gradRule (D e h : EReal) (x d : ι → EReal) (j : ι) : EReal :=
  d j * rinv D e x + x j * coef D e h x d + coef D e h x d * x j

/-- A finite row's mean square is a positive real. -/
theorem meanSq_real {D e : ℝ} (hD : 0 < D) (he : 0 < e) (a : ι → ℝ) :
    meanSq (D : EReal) e (fun k => (a k : EReal)) = (((∑ k, a k * a k) / D + e : ℝ) : EReal)
      ∧ 0 < (∑ k, a k * a k) / D + e := by
  refine ⟨?_, by have : 0 ≤ ∑ k, a k * a k := Finset.sum_nonneg fun k _ => mul_self_nonneg _
                 positivity⟩
  unfold meanSq
  rw [Ideal.div_coe hD.ne', EReal.coe_add, div_eq_mul_one_div (∑ k, a k * a k), EReal.coe_mul, coe_sum]
  simp only [EReal.coe_mul]

/-- The reciprocal root of a positive real. -/
theorem rsqrt_pos {v : ℝ} (hv : 0 < v) : Ideal.rsqrt (v : EReal) = (((Real.sqrt v)⁻¹ : ℝ) : EReal) := by
  show (if v < 0 then _ else if v = 0 then _ else _) = _
  rw [if_neg hv.le.not_gt, if_neg hv.ne']

/-- A finite row's reciprocal root is a real. -/
theorem rinv_isReal {D e : ℝ} (hD : 0 < D) (he : 0 < e) {x : ι → EReal} (hx : ∀ k, IsReal (x k)) :
    IsReal (rinv (D : EReal) e x) := by
  choose a ha using hx
  obtain rfl : x = fun k => (a k : EReal) := funext ha
  obtain ⟨h, hv⟩ := meanSq_real hD he a
  rw [rinv, h, rsqrt_pos hv]; exact IsReal.coe _

/-- The two forms of the norm's gradient agree on finite rows. -/
theorem gradHat_eq_gradRule {D e : ℝ} (hD : 0 < D) (he : 0 < e) {x d : ι → EReal} (hx : ∀ k, IsReal (x k))
    (hd : ∀ k, IsReal (d k)) (j : ι) :
    gradHat (D : EReal) e x d j = gradRule (D : EReal) e ((-1 / 2 : ℝ) : EReal) x d j := by
  choose a ha using hx
  choose b hb using hd
  obtain rfl : x = fun k => (a k : EReal) := funext ha
  obtain rfl : d = fun k => (b k : EReal) := funext hb
  obtain ⟨h, hv⟩ := meanSq_real hD he a
  unfold gradHat gradRule coef rinv
  rw [h, rsqrt_pos hv]
  generalize (∑ k, a k * a k) / D + e = v at hv
  have hs : Real.sqrt v * Real.sqrt v = v := Real.mul_self_sqrt hv.le
  have hs0 : Real.sqrt v ≠ 0 := (Real.sqrt_pos.2 hv).ne'
  simp only [Ideal.div_coe hv.ne', Ideal.div_coe hD.ne', ← EReal.coe_mul, ← coe_sum, ← EReal.coe_add, ← EReal.coe_sub]
  congr 1
  have e1 : ∑ k, b k * (a k * (Real.sqrt v)⁻¹) = (∑ k, a k * b k) * (Real.sqrt v)⁻¹ := by
    rw [Finset.sum_mul]; exact Finset.sum_congr rfl fun k _ => by ring
  rw [e1]
  generalize ∑ k, a k * b k = S
  generalize Real.sqrt v = s at *
  subst hs
  field_simp
  ring

/-! ## The norm of many rows with a gain -/

variable {κ : Type}

/-- The gradient with respect to the rows, in the kernels' form: `dh` is the cotangent of the normalised rows. -/
def normDx (D e : EReal) (x : κ → ι → EReal) (g : ι → EReal) (dh : κ → ι → EReal) (r : κ) (j : ι) : EReal :=
  gradHat D e (x r) (fun k => dh r k * g k) j

/-- The gradient with respect to the rows, in the product rule's form. -/
def normDxRule (D e h : EReal) (x : κ → ι → EReal) (g : ι → EReal) (dh : κ → ι → EReal) (r : κ) (j : ι) : EReal :=
  gradRule D e h (x r) (fun k => dh r k * g k) j

/-- One row's part of the gain's gradient: the cotangent times the normalised row. -/
def gainPart (D e : EReal) (x dh : κ → ι → EReal) (r : κ) (j : ι) : EReal := dh r j * (x r j * rinv D e (x r))

/-- The step's words: the norm's ε, the lengths 1024 and 512 of a row, and the −1/2 of the root's derivative. -/
abbrev wEps : EReal := Ideal.ofBits .f32 0x358637BD#32
abbrev w1024 : EReal := Ideal.ofBits .f32 0x44800000#32
abbrev w512 : EReal := Ideal.ofBits .f32 0x44000000#32
abbrev wNegHalf : EReal := Ideal.ofBits .f32 0xBF000000#32
abbrev wHalf : EReal := Ideal.ofBits .f32 0x3F000000#32

/-- The two forms agree where the rows, the gain and the cotangent are finite. -/
theorem normDx_eq {D : EReal} (hD : ∃ d : ℝ, 0 < d ∧ D = d) {x : κ → ι → EReal} {g : ι → EReal} {dh : κ → ι → EReal}
    (hx : ∀ r k, IsReal (x r k)) (hg : ∀ k, IsReal (g k)) (hdh : ∀ r k, IsReal (dh r k)) (r : κ) (j : ι) :
    normDx D wEps x g dh r j = normDxRule D wEps wNegHalf x g dh r j := by
  obtain ⟨d, hd, rfl⟩ := hD
  obtain ⟨e, he, hε⟩ := bits_eps
  unfold normDx normDxRule
  rw [wEps, wNegHalf, hε, bits_neg_half]
  exact gradHat_eq_gradRule hd he (hx r) (fun k => (hdh r k).mul (hg k)) j

theorem w1024_pos : ∃ d : ℝ, 0 < d ∧ w1024 = d := ⟨1024, by norm_num, bits_1024⟩
theorem w512_pos : ∃ d : ℝ, 0 < d ∧ w512 = d := ⟨512, by norm_num, bits_512⟩

end Cert.Step

end
-- ==== Proof.Softmax.lean ====
/- The softmax of one row of scores and its gradient: the row's probabilities, the product rule in two spellings, and what
   finite scores make of them. -/
module

public import proofs.«01_k».proof.Proof.NormGrad

@[expose] public section

noncomputable section

namespace Cert.Step

open Idealize.ShloMosaic
open scoped BigOperators

/-- Minus infinity, where a row's maximum starts. -/
abbrev wNegInf : EReal := Ideal.ofBits .f32 0xFF800000#32

/-- A row's maximum. -/
def rowMax {n : ℕ} (s : Fin n → EReal) : EReal := Finset.fold max wNegInf (fun k => s k) Finset.univ

/-- The reference's maximum along the last of three axes, at an index. -/
theorem host_max_last {a b n : ℕ} (v : FVec Ideal ⟨3, ![a, b, n]⟩ .f32) (c : FVec Ideal ⟨0, ![]⟩ .f32)
    (h : Shape.ReducesTo ⟨3, ![a, b, n]⟩ [2] ⟨2, ![a, b]⟩) (hu : 0 < Shape.numel ⟨0, ![]⟩) (j : Shape.Idx ⟨2, ![a, b]⟩) :
    Host.reduce FloatOps.maximumf v c h hu j =
      Finset.fold max (c (Shape.Idx.first hu)) (fun k : Fin n => v (ix3 (j 0) (j 1) k)) Finset.univ := by
  simp only [pointwise]

/-- A maximum that starts at minus infinity a second time is the same. -/
theorem max_rowMax {n : ℕ} (s : Fin n → EReal) : max wNegInf (rowMax s) = rowMax s :=
  max_eq_right ((Finset.le_fold_max _).2 (Or.inl le_rfl))

/-- A row's exponentials below its maximum. -/
def expBelow {n : ℕ} (s : Fin n → EReal) (k : Fin n) : EReal := Ideal.exp (s k - rowMax s)

/-- A row's probabilities. -/
def prob {n : ℕ} (s : Fin n → EReal) (k : Fin n) : EReal := Ideal.div (expBelow s k) (∑ j, expBelow s j)

/-- The gradient of the scores from the gradient `dp` of the probabilities. -/
def dScore {n : ℕ} (s dp : Fin n → EReal) (k : Fin n) : EReal := prob s k * (dp k - ∑ j, prob s j * dp j)

/-- The same by the product rule of the quotient: the exponentials' gradient times the exponential. -/
def dScoreRule {n : ℕ} (s dp : Fin n → EReal) (k : Fin n) : EReal :=
  (Ideal.div (dp k) (∑ j, expBelow s j) +
    -(∑ j, dp j * Ideal.div wOne ((∑ i, expBelow s i) * ∑ i, expBelow s i) * expBelow s j)) * expBelow s k

theorem bits_negInf : wNegInf = ⊥ := by
  simp [Ideal.ofBits, Ideal.ieee]

/-- A row of reals has a real maximum. -/
theorem rowMax_isReal {n : ℕ} (hn : 0 < n) {s : Fin n → EReal} (hs : ∀ k, IsReal (s k)) : IsReal (rowMax s) := by
  obtain ⟨k, -, hk⟩ := Finset.exists_mem_eq_sup Finset.univ ⟨(⟨0, hn⟩ : Fin n), Finset.mem_univ _⟩ s
  have e : rowMax s = Finset.univ.sup s := by rw [rowMax, bits_negInf]; rfl
  rw [e, hk]; exact hs k

/-- Its exponentials are positive reals. -/
theorem expBelow_real {n : ℕ} (hn : 0 < n) {s : Fin n → EReal} (hs : ∀ k, IsReal (s k)) :
    ∃ e : Fin n → ℝ, (∀ k, 0 < e k) ∧ ∀ k, expBelow s k = (e k : EReal) := by
  obtain ⟨M, hM⟩ := rowMax_isReal hn hs
  choose a ha using hs
  refine ⟨fun k => Real.exp (a k - M), fun k => Real.exp_pos _, fun k => ?_⟩
  rw [expBelow, ha k, hM, ← EReal.coe_sub]
  rfl

/-- The two spellings of the softmax's gradient agree where the exponentials are reals of positive sum. -/
theorem dScore_eq_of_exp {n : ℕ} {s dp : Fin n → EReal} {e : Fin n → ℝ} (hZ : 0 < ∑ j, e j) (hE : ∀ k, expBelow s k = (e k : EReal))
    (hd : ∀ k, IsReal (dp k)) (k : Fin n) : dScore s dp k = dScoreRule s dp k := by
  choose d hd using hd
  unfold dScore dScoreRule prob
  simp only [hE, hd, ← coe_sum, bits_one, ← EReal.coe_mul]
  generalize (∑ j, e j) = Z at hZ
  simp only [Ideal.div_coe hZ.ne', Ideal.div_coe (mul_pos hZ hZ).ne', ← EReal.coe_mul, ← coe_sum, ← EReal.coe_sub,
    ← EReal.coe_neg, ← EReal.coe_add]
  congr 1
  have e1 : ∑ j, e j * (1 / Z) * d j = (∑ j, e j * d j) * (1 / Z) := by
    rw [Finset.sum_mul]; exact Finset.sum_congr rfl fun j _ => by ring
  have e2 : ∑ j, d j * (1 * (1 / (Z * Z))) * e j = (∑ j, e j * d j) * (1 / (Z * Z)) := by
    rw [Finset.sum_mul]; exact Finset.sum_congr rfl fun j _ => by ring
  rw [e1, e2]
  field_simp
  ring

/-- The two spellings agree on finite rows. -/
theorem dScore_eq {n : ℕ} (hn : 0 < n) {s dp : Fin n → EReal} (hs : ∀ k, IsReal (s k)) (hd : ∀ k, IsReal (dp k))
    (k : Fin n) : dScore s dp k = dScoreRule s dp k := by
  obtain ⟨e, he, hE⟩ := expBelow_real hn hs
  exact dScore_eq_of_exp (Finset.sum_pos (fun j _ => he j) ⟨⟨0, hn⟩, Finset.mem_univ _⟩) hE hd k

end Cert.Step

end
-- ==== Proof.XattnSpec.lean ====
/- Cross attention's gradient as functions of the queries, the keys and values, and the output's cotangent: four heads of
   256 columns, the keys in the first 1024 columns of their array and the values in the others. -/
module

public import proofs.«01_k».proof.Proof.Softmax

@[expose] public section

noncomputable section

namespace Cert.Step.Xattn

open Idealize.ShloMosaic
open scoped BigOperators

/-- The scale of the scores. -/
abbrev wScale : EReal := Ideal.ofBits .f32 0x3D800000#32

/-- Column `d` of head `h`: of the queries, of the keys, of the values. -/
def colQ (h : Fin 4) (d : Fin 256) : Fin 1024 := ⟨h.val * 256 + d.val, by omega⟩
def colK (h : Fin 4) (d : Fin 256) : Fin 2048 := ⟨h.val * 256 + d.val, by omega⟩
def colV (h : Fin 4) (d : Fin 256) : Fin 2048 := ⟨1024 + h.val * 256 + d.val, by omega⟩

/-- The head of a column of the queries. -/
def head (i : Fin 1024) : Fin 4 := ⟨i.val / 256, by omega⟩

/-- A column of the queries among the columns of the keys and values, and back. -/
def wide (i : Fin 1024) : Fin 2048 := ⟨i.val, by omega⟩
def low (i : Fin 2048) : Fin 1024 := ⟨i.val % 1024, by omega⟩

variable (Q Do : Fin 8192 → Fin 1024 → EReal) (KV : Fin 256 → Fin 2048 → EReal)

/-- The scores of row `r` in head `h`. -/
def score (r : Fin 8192) (h : Fin 4) (k : Fin 256) : EReal := (∑ d : Fin 256, Q r (colQ h d) * KV k (colK h d)) * wScale

/-- The gradient of the probabilities. -/
def dProb (r : Fin 8192) (h : Fin 4) (k : Fin 256) : EReal := ∑ d : Fin 256, Do r (colQ h d) * KV k (colV h d)

/-- The gradient of the products of queries and keys, in the kernel's form and by the product rule. -/
def dS (r : Fin 8192) (h : Fin 4) (k : Fin 256) : EReal := dScore (score Q KV r h) (dProb Do KV r h) k * wScale
def dSRule (r : Fin 8192) (h : Fin 4) (k : Fin 256) : EReal := dScoreRule (score Q KV r h) (dProb Do KV r h) k * wScale

/-- What row `r` adds to the gradient of the keys and values, `ds` being the gradient of the products. -/
def part (ds : Fin 8192 → Fin 4 → Fin 256 → EReal) (r : Fin 8192) (k : Fin 256) (i : Fin 2048) : EReal :=
  if i.val < 1024 then ds r (head (low i)) k * Q r (low i) else prob (score Q KV r (head (low i))) k * Do r (low i)

end Cert.Step.Xattn

end
-- ==== Proof.Stores.lean ====
/- Stores over earlier ones: where the later stores cover an index, the earlier ones do not matter there. -/
module

public import Idealize.ShloMosaic.Lib.Pipeline.ValueKit
public import Idealize.ShloMosaic.Lib.Pipeline.ReadBack

@[expose] public section

noncomputable section

namespace Cert.Step

open Idealize.ShloMosaic

/-- At an index that one of the last stores `L` covers, what stands is what `L` alone leaves. -/
theorem canon_drop_earlier {Val : EltTy → Type} {S : Shape} {e : EltTy} [∀ e, Nonempty (Val e)] (L' : List (View.Piece Val S e)) :
    ∀ (L : List (View.Piece Val S e)) (y : S.Idx) (_ : ∃ p ∈ L, y ∈ p.1.set), View.canon (L ++ L') y = View.canon L y
  | [], _, hy => by obtain ⟨p, hp, _⟩ := hy; exact absurd hp List.not_mem_nil
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · obtain ⟨q, hq, hyq⟩ := hy
      rcases List.mem_cons.mp hq with rfl | hq'
      · exact absurd hyq hm
      · rw [List.cons_append, View.canon_cons_of_not_mem _ _ hm, View.canon_cons_of_not_mem _ _ hm]
        exact canon_drop_earlier L' L y ⟨q, hq', hyq⟩

end Cert.Step

end
-- ==== Proof.XattnKernel.lean ====
/- Cross attention's gradient: what the kernel leaves in its two result arrays, at an index. -/
module

public import proofs.«01_k».proof.Proof.XattnSpec
public import proofs.«01_k».proof.Proof.Gen.KernelXattnIdeal.Value
public import proofs.«01_k».proof.Proof.Stores

@[expose] public section

set_option maxRecDepth 16384

noncomputable section

namespace Cert.Step.Xattn

open Cert.KernelXattnIdeal Cert.KernelXattnIdeal.Gen Idealize.ShloMosaic Idealize.ShloMosaic.TcCoe Idealize.SL.Sem
open scoped BigOperators

variable (m : (ℓ : Loc nD τ sig) → Buf (Elt Ideal) ℓ)

/-- The argument arrays on core `c`: the queries, the keys and values, the output's cotangent. -/
abbrev Q (c : Dev nD) (r : Fin 8192) (k : Fin 1024) : EReal := (m ((c : Thread nD τ).loc main_arg0) : S8192x1024.Idx → EReal) (ix2 r k)
abbrev KV (c : Dev nD) (r : Fin 256) (k : Fin 2048) : EReal := (m ((c : Thread nD τ).loc main_arg1) : S256x2048.Idx → EReal) (ix2 r k)
abbrev Do (c : Dev nD) (r : Fin 8192) (k : Fin 1024) : EReal := (m ((c : Thread nD τ).loc main_arg2) : S8192x1024.Idx → EReal) (ix2 r k)

/-- What grid point `t` adds to it. -/
def tileTerm (c : Dev nD) (t : Fin 16) (k : Fin 256) (i : Fin 2048) : EReal :=
  ∑ r : Fin 512, part (Q m c) (Do m c) (KV m c) (dS (Q m c) (Do m c) (KV m c)) (rowOf (N := 16) (S := 512) t r) k i

theorem tileTerm_lo (c : Dev nD) (t : Fin 16) (k : Fin 256) (i : Fin 2048) (h : i.val < 1024) : tileTerm m c t k i =
    ∑ r : Fin 512, dS (Q m c) (Do m c) (KV m c) (rowOf (N := 16) (S := 512) t r) (head (low i)) k * Q m c (rowOf (N := 16) (S := 512) t r) (low i) :=
  Finset.sum_congr rfl fun _ _ => if_pos h

theorem tileTerm_hi (c : Dev nD) (t : Fin 16) (k : Fin 256) (i : Fin 2048) (h : ¬i.val < 1024) : tileTerm m c t k i =
    ∑ r : Fin 512, prob (score (Q m c) (KV m c) (rowOf (N := 16) (S := 512) t r) (head (low i))) k *
      Do m c (rowOf (N := 16) (S := 512) t r) (low i) :=
  Finset.sum_congr rfl fun _ _ => if_neg h

/-- Where each grid point's blocks lie. -/
theorem idx (t : Fin cfg0.N) : win0_0.index t = ![t.val, 0] ∧
    win0_1.index t = ![0, 0] ∧
    win0_2.index t = ![t.val, 0] ∧
    win0_3.index t = ![t.val, 0] ∧
    win0_4.index t = ![0, 0] :=
  (by decide +kernel : ∀ t : Fin grid0.N, win0_0.index t = ![t.val, 0] ∧
    win0_1.index t = ![0, 0] ∧
    win0_2.index t = ![t.val, 0] ∧
    win0_3.index t = ![t.val, 0] ∧
    win0_4.index t = ![0, 0]) t

/-- The first result is the gradient of the queries. -/
theorem dq (c : Dev nD) : (dats m 0 c).arrAt 3 cfg0.N = fun i : S8192x1024.Idx =>
    ∑ k : Fin 256, dS (Q m c) (Do m c) (KV m c) (i 0) (head (i 1)) k * KV m c k (wide (i 1)) := by
  refine (dats m 0 c).arrAt_eq_of_covers 3 _ (by decide +kernel) fun t hf y => ?_
  blk_simp
  rw [after0_3]
  rcases em (t.val % 16 = 0) with hh | hh
  on_goal 1 => rw [outsAt0_A m c t hh]
  on_goal 2 => rw [outsAt0_B m c t hh]
  all_goals
    frame_out
    canon_tiles x h
    all_goals
      unfold_payloads
      pointwise [dS, dScore, prob, expBelow, rowMax, score, dProb, head, wide, colQ, colK, colV, Q, KV, Do]
      blk_point [iblk, V, idx t]

set_option maxHeartbeats 4000000 in
/-- A grid point after the first adds its rows' parts. -/
theorem step (c : Dev nD) (t : Fin cfg0.N) (hh : ¬t.val % 16 = 0) (j : S256x2048.Idx) : (outsAt0 m c t.val t.isLt).2 j =
    (outsAt0 m c (t.val - 1) (Nat.lt_of_le_of_lt (Nat.sub_le _ _) t.isLt)).2 j + tileTerm m c t (j 0) (j 1) := by
  rw [outsAt0_B m c t hh]
  frame_out
  canon_tiles x h
  all_goals
    first
      | rw [tileTerm_lo m c t (j 0) (j 1) (by omega)]
      | rw [tileTerm_hi m c t (j 0) (j 1) (by omega)]
    unfold_payloads
    pointwise [h0, h1, rowOf, low, dS, dScore, prob, expBelow, rowMax, score, dProb, head, wide, colQ, colK, colV, Q, KV, Do]
    blk_point [iblk, V, idx t]

set_option maxHeartbeats 4000000 in
/-- The first grid point starts from zero. -/
theorem start (c : Dev nD) (t : Fin cfg0.N) (hh : t.val % 16 = 0) (j : S256x2048.Idx) : (outsAt0 m c t.val t.isLt).2 j =
    0 + tileTerm m c t (j 0) (j 1) := by
  rw [outsAt0_A m c t hh]
  frame_open
  simp (disch := decide) only [↓ View.readCov_skip, ↓ View.readCov_cons_toLoadRect, ↓ View.readCov_fill]
  frame_out
  refine (canon_drop_earlier [_] [_, _, _, _, _, _, _, _] j
    (View.cover_of_tiledL (s := S256x2048) _ ![256, 256] (by sl_kernel_rfl) j)).trans ?_
  canon_tiles x h
  all_goals
    first
      | rw [tileTerm_lo m c t (j 0) (j 1) (by omega)]
      | rw [tileTerm_hi m c t (j 0) (j 1) (by omega)]
    unfold_payloads
    pointwise [h0, h1, rowOf, low, dS, dScore, prob, expBelow, rowMax, score, dProb, head, wide, colQ, colK, colV, Q, KV, Do]
    blk_point [iblk, V, idx t]

/-- The second result, gathered over the grid, is the gradient of the keys and values. -/
theorem dkv (c : Dev nD) : (dats m 0 c).arrAt 4 cfg0.N = fun i : S256x2048.Idx =>
    ∑ r : Fin 8192, part (Q m c) (Do m c) (KV m c) (dS (Q m c) (Do m c) (KV m c)) r (i 0) (i 1) := by
  refine (dats m 0 c).arrAt_eq_of_after_last 4 t0_15 (by decide +kernel) _ fun j => ?_
  blk_simp
  rw [after0_4]
  refine (Pipeline.eq_sum_fin_of_reset_step_apply_last (fun n h => (outsAt0 m c n h).2) 16 (fun _ => (0 : EReal))
    (fun t j => tileTerm m c t (j 0) (j 1)) (fun t h j => start m c t h j) (fun t h j => step m c t h j)
    (by decide) t0_15 rfl j).trans ?_
  rw [zero_add]
  refine Fin.sum_mul_add_congr (S := 16) (n := 512) fun s k hl => ?_
  blk_point [idx t0_15]

end Cert.Step.Xattn

end
-- ==== Proof.XattnReference.lean ====
/- The derivative of cross attention: the reference's values at an index, and its frame. -/
module

public import proofs.«01_k».proof.Defs
public import proofs.«01_k».proof.Proof.XattnSpec
public import proofs.«01_k».proof.Proof.Gen.ReferenceXattnIdeal.Run
public import Idealize.ShloMosaic.Lib.Quiescent

@[expose] public section

set_option maxRecDepth 16384

noncomputable section

namespace Cert.Step.XattnRef

open Cert.ReferenceXattnIdeal Cert.ReferenceXattnIdeal.Gen Idealize.ShloMosaic Idealize.ShloMosaic.TcCoe Idealize.SL.Sem
open Cert.Step.Xattn
open scoped BigOperators

variable (m : (ℓ : Loc nD τ sig) → Buf (Elt Ideal) ℓ)

/-- The argument arrays on core `c`: the queries, the keys and values, the output's cotangent. -/
abbrev Q (c : Dev nD) (r : Fin 8192) (k : Fin 1024) : EReal := (m ((c.tc : Thread nD τ).loc main_arg0) : S8192x1024.Idx → EReal) (ix2 r k)
abbrev KV (c : Dev nD) (r : Fin 256) (k : Fin 2048) : EReal := (m ((c.tc : Thread nD τ).loc main_arg1) : S256x2048.Idx → EReal) (ix2 r k)
abbrev Do (c : Dev nD) (r : Fin 8192) (k : Fin 1024) : EReal := (m ((c.tc : Thread nD τ).loc main_arg2) : S8192x1024.Idx → EReal) (ix2 r k)

/-- The same two arrays whole, and the rows of any such two. -/
abbrev argQ (c : Dev nD) : FVec Ideal S8192x1024 .f32 := m ((c.tc : Thread nD τ).loc main_arg0)
abbrev argKV (c : Dev nD) : FVec Ideal S256x2048 .f32 := m ((c.tc : Thread nD τ).loc main_arg1)
abbrev rowsQ (q : FVec Ideal S8192x1024 .f32) (r : Fin 8192) (k : Fin 1024) : EReal := q (ix2 r k)
abbrev rowsKV (kv : FVec Ideal S256x2048 .f32) (r : Fin 256) (k : Fin 2048) : EReal := kv (ix2 r k)

/-- The reference's arrays: the queries, keys and values by heads. -/
def qA (q : FVec Ideal S8192x1024 .f32) : FVec Ideal S8192x4x256 .f32 :=
  shapeCast _ q shapeCasts_S8192x1024_S8192x4x256
def kvA (kv : FVec Ideal S256x2048 .f32) : FVec Ideal S256x2x4x256 .f32 :=
  shapeCast _ kv shapeCasts_S256x2048_S256x2x4x256
def kA (kv : FVec Ideal S256x2048 .f32) : FVec Ideal S256x4x256 .f32 := shapeCast _
  (extractStridedSlice S256x1x4x256 ![0, 0, 0, 0] (kvA kv) slices_S256x2x4x256_S256x1x4x256_0_0_0_0) shapeCasts_S256x1x4x256_S256x4x256
def vA (kv : FVec Ideal S256x2048 .f32) : FVec Ideal S256x4x256 .f32 := shapeCast _
  (extractStridedSlice S256x1x4x256 ![0, 1, 0, 0] (kvA kv) slices_S256x2x4x256_S256x1x4x256_0_1_0_0) shapeCasts_S256x1x4x256_S256x4x256

theorem qA_at (q : FVec Ideal S8192x1024 .f32) (j : S8192x4x256.Idx) : qA q j = rowsQ q (j 0) (colQ (j 1) (j 2)) := by
  pointwise [qA, colQ]
theorem kA_at (kv : FVec Ideal S256x2048 .f32) (j : S256x4x256.Idx) : kA kv j = rowsKV kv (j 0) (colK (j 1) (j 2)) := by
  pointwise [kA, kvA, colK]
theorem vA_at (kv : FVec Ideal S256x2048 .f32) (j : S256x4x256.Idx) : vA kv j = rowsKV kv (j 0) (colV (j 1) (j 2)) := by
  pointwise [vA, kvA, colV]

/-- The scores, their rows' maxima, the exponentials and their rows' sums. -/
def sA (q : FVec Ideal S8192x1024 .f32) (kv : FVec Ideal S256x2048 .f32) : FVec Ideal S4x8192x256 .f32 :=
  mulf (Host.dotGeneral dot_S8192x4x256_S256x4x256_S4x8192x256_2_2_0_0_1_1 none (qA q) (kA kv))
    (broadcastInDim S4x8192x256 ![] bcast_S_S4x8192x256 (constant S_ .f32 0x3D800000#32))
def mA (q : FVec Ideal S8192x1024 .f32) (kv : FVec Ideal S256x2048 .f32) : FVec Ideal S4x8192 .f32 :=
  maximumf (broadcastInDim S4x8192 ![] bcast_S_S4x8192 (constant S_ .f32 0xFF800000#32))
    (Host.reduce FloatOps.maximumf (sA q kv) (constant S_ .f32 0xFF800000#32) reducesTo_S4x8192x256_S4x8192_d2 h_S_)
def eA (q : FVec Ideal S8192x1024 .f32) (kv : FVec Ideal S256x2048 .f32) : FVec Ideal S4x8192x256 .f32 :=
  Host.exp (subf (sA q kv) (broadcastInDim S4x8192x256 ![0, 1, 2] bcast_S4x8192x1_S4x8192x256_0_1_2
    (broadcastInDim S4x8192x1 ![0, 1] bcast_S4x8192_S4x8192x1_0_1 (mA q kv))))
def zA (q : FVec Ideal S8192x1024 .f32) (kv : FVec Ideal S256x2048 .f32) : FVec Ideal S4x8192x1 .f32 :=
  broadcastInDim S4x8192x1 ![0, 1] bcast_S4x8192_S4x8192x1_0_1
    (Host.reduceAdd (eA q kv) (constant S_ .f32 0x00000000#32) reducesTo_S4x8192x256_S4x8192_d2 h_S_)
def zW (q : FVec Ideal S8192x1024 .f32) (kv : FVec Ideal S256x2048 .f32) : FVec Ideal S4x8192x256 .f32 :=
  broadcastInDim S4x8192x256 ![0, 1, 2] bcast_S4x8192x1_S4x8192x256_0_1_2 (zA q kv)
def pA (q : FVec Ideal S8192x1024 .f32) (kv : FVec Ideal S256x2048 .f32) : FVec Ideal S4x8192x256 .f32 := Host.divf (eA q kv) (zW q kv)

theorem sA_at (q : FVec Ideal S8192x1024 .f32) (kv : FVec Ideal S256x2048 .f32) (j : S4x8192x256.Idx) : sA q kv j = score (rowsQ q) (rowsKV kv) (j 1) (j 0) (j 2) := by
  pointwise [sA, qA_at, kA_at, score]
theorem mA_at (q : FVec Ideal S8192x1024 .f32) (kv : FVec Ideal S256x2048 .f32) (j : S4x8192.Idx) : mA q kv j = max wNegInf (rowMax (score (rowsQ q) (rowsKV kv) (j 1) (j 0))) := by
  rw [mA, ValueIdx.maximumf_apply]
  refine congrArg (max wNegInf) ((host_max_last _ _ _ _ _).trans ?_)
  exact congrArg (fun f => Finset.fold max wNegInf f Finset.univ) (funext fun k => sA_at q kv _)
theorem eA_at (q : FVec Ideal S8192x1024 .f32) (kv : FVec Ideal S256x2048 .f32) (j : S4x8192x256.Idx) : eA q kv j = expBelow (score (rowsQ q) (rowsKV kv) (j 1) (j 0)) (j 2) := by
  pointwise [eA, sA_at, mA_at, max_rowMax, expBelow]
theorem zA_at (q : FVec Ideal S8192x1024 .f32) (kv : FVec Ideal S256x2048 .f32) (j : S4x8192x1.Idx) : zA q kv j = ∑ k, expBelow (score (rowsQ q) (rowsKV kv) (j 1) (j 0)) k := by
  pointwise [zA, eA_at]
theorem zW_at (q : FVec Ideal S8192x1024 .f32) (kv : FVec Ideal S256x2048 .f32) (j : S4x8192x256.Idx) : zW q kv j = ∑ k, expBelow (score (rowsQ q) (rowsKV kv) (j 1) (j 0)) k := by
  pointwise [zW, zA_at]
theorem pA_at (q : FVec Ideal S8192x1024 .f32) (kv : FVec Ideal S256x2048 .f32) (j : S4x8192x256.Idx) : pA q kv j = prob (score (rowsQ q) (rowsKV kv) (j 1) (j 0)) (j 2) := by
  pointwise [pA, eA_at, zW_at, prob]

/-- The cotangent by heads. -/
def doA (c : Dev nD) : FVec Ideal S4x256x8192 .f32 := transpose S4x256x8192 [1, 2, 0]
  (shapeCast _ (m ((c.tc : Thread nD τ).loc main_arg2) : FVec Ideal S8192x1024 .f32) shapeCasts_S8192x1024_S8192x4x256)
  transposes_S8192x4x256_S4x256x8192_1_2_0

theorem doA_at (c : Dev nD) (j : S4x256x8192.Idx) : doA m c j = Do m c (j 2) (colQ (j 0) (j 1)) := by
  pointwise [doA, colQ]

/-- The gradients of the probabilities and of the products. -/
def dpA (c : Dev nD) : FVec Ideal S4x8192x256 .f32 :=
  Host.dotGeneral dot_S4x256x8192_S256x4x256_S4x8192x256_1_2_2_0_0_1 none (doA m c) (vA (argKV m c))
def nA (c : Dev nD) : FVec Ideal S4x8192x1 .f32 :=
  Host.negf (shapeCast _ (Host.reduceAdd (mulf (mulf (dpA m c)
    (broadcastInDim S4x8192x256 ![0, 1, 2] bcast_S4x8192x1_S4x8192x256_0_1_2
      (Host.divf (broadcastInDim S4x8192x1 ![] bcast_S_S4x8192x1 (constant S_ .f32 0x3F800000#32))
        (mulf (zA (argQ m c) (argKV m c)) (zA (argQ m c) (argKV m c)))))) (eA (argQ m c) (argKV m c))) (constant S_ .f32 0x00000000#32) reducesTo_S4x8192x256_S4x8192_d2 h_S_)
    shapeCasts_S4x8192_S4x8192x1)
def dsA (c : Dev nD) : FVec Ideal S4x8192x256 .f32 :=
  mulf (mulf (addf (Host.divf (dpA m c) (zW (argQ m c) (argKV m c))) (broadcastInDim S4x8192x256 ![0, 1] bcast_S4x8192_S4x8192x256_0_1
    (Host.reduceAdd (nA m c) (constant S_ .f32 0x00000000#32) reducesTo_S4x8192x1_S4x8192_d2 h_S_))) (eA (argQ m c) (argKV m c)))
    (broadcastInDim S4x8192x256 ![] bcast_S_S4x8192x256 (constant S_ .f32 0x3D800000#32))

theorem dpA_at (c : Dev nD) (j : S4x8192x256.Idx) : dpA m c j = dProb (Do m c) (KV m c) (j 1) (j 0) (j 2) := by
  pointwise [dpA, doA_at, vA_at, dProb]
theorem nA_at (c : Dev nD) (j : S4x8192x1.Idx) : nA m c j = -(∑ k, dProb (Do m c) (KV m c) (j 1) (j 0) k *
    Ideal.div wOne ((∑ i, expBelow (score (Q m c) (KV m c) (j 1) (j 0)) i) * ∑ i, expBelow (score (Q m c) (KV m c) (j 1) (j 0)) i) *
      expBelow (score (Q m c) (KV m c) (j 1) (j 0)) k) := by
  pointwise [nA, dpA_at, zA_at, eA_at]
theorem dsA_at (c : Dev nD) (j : S4x8192x256.Idx) : dsA m c j = dSRule (Q m c) (Do m c) (KV m c) (j 1) (j 0) (j 2) := by
  pointwise [dsA, dpA_at, zW_at, eA_at, nA_at, dSRule, dScoreRule]
  rw [Fin.sum_univ_one]

/-- The reference's results of these arrays. -/
theorem res_dq (c : Dev nD) : Value.res_main_v70 m c = truncf .bf16 (shapeCast _ (transpose S8192x4x256 [1, 0, 2]
    (Host.dotGeneral dot_S4x8192x256_S256x4x256_S4x8192x256_2_0_1_2_0_1 none (dsA m c) (kA (argKV m c)))
    transposes_S4x8192x256_S8192x4x256_1_0_2) shapeCasts_S8192x4x256_S8192x1024) bitsLt_bf16_f32 := rfl
theorem res_dkv (c : Dev nD) : Value.res_main_v68 m c = shapeCast _ (addf
    (pad S256x2x4x256 ![0, 1, 0, 0] ![0, 0, 0, 0] ![0, 0, 0, 0] (broadcastInDim S256x1x4x256 ![0, 2, 3] bcast_S256x4x256_S256x1x4x256_0_2_3
      (transpose S256x4x256 [2, 0, 1] (Host.dotGeneral dot_S4x256x8192_S4x8192x256_S4x256x256_2_1_1_2_0_0 none (doA m c) (pA (argQ m c) (argKV m c)))
        transposes_S4x256x256_S256x4x256_2_0_1)) (constant S_ .f32 0x00000000#32) pads_S256x1x4x256_S256x2x4x256_000_100_000_000 h_S_)
    (pad S256x2x4x256 ![0, 0, 0, 0] ![0, 1, 0, 0] ![0, 0, 0, 0] (broadcastInDim S256x1x4x256 ![0, 2, 3] bcast_S256x4x256_S256x1x4x256_0_2_3
      (transpose S256x4x256 [1, 0, 2] (Host.dotGeneral dot_S4x8192x256_S8192x4x256_S4x256x256_1_0_2_2_0_1 none (dsA m c) (qA (argQ m c)))
        transposes_S4x256x256_S256x4x256_1_0_2)) (constant S_ .f32 0x00000000#32) pads_S256x1x4x256_S256x2x4x256_000_010_000_000 h_S_))
    shapeCasts_S256x2x4x256_S256x2048 := rfl

theorem dq (c : Dev nD) (i : S8192x1024.Idx) : Value.res_main_v70 m c i =
    ∑ k : Fin 256, dSRule (Q m c) (Do m c) (KV m c) (i 0) (head (i 1)) k * KV m c k (wide (i 1)) := by
  rw [res_dq]
  pointwise [dsA_at, kA_at, colK]
  change @Eq EReal _ _
  refine Finset.sum_congr rfl fun k _ => congrArg (fun x => _ * KV m c k x) (Fin.ext ?_)
  show (i 1).val / 256 * 256 + (i 1).val % 256 = (i 1).val
  omega
theorem dkv (c : Dev nD) (i : S256x2048.Idx) : Value.res_main_v68 m c i =
    ∑ r : Fin 8192, part (Q m c) (Do m c) (KV m c) (dSRule (Q m c) (Do m c) (KV m c)) r (i 0) (i 1) := by
  rw [res_dkv]
  pointwise [dsA_at, qA_at, pA_at, doA_at, colQ]
  have hi : (i 1).val < 2048 := (i 1).isLt
  have e1 : ∀ p, (⟨(i 1).val / 256 % 4, p⟩ : Fin 4) = head (low (i 1)) := fun _ => Fin.ext (by
    show (i 1).val / 256 % 4 = (i 1).val % 1024 / 256; omega)
  have e2 : ∀ p, (⟨(i 1).val / 256 % 4 * 256 + (i 1).val % 256, p⟩ : Fin 1024) = low (i 1) := fun _ => Fin.ext (by
    show (i 1).val / 256 % 4 * 256 + (i 1).val % 256 = (i 1).val % 1024; omega)
  simp only [e1, e2]
  rcases em ((i 1).val < 1024) with hlo | hhi
  · rw [dif_neg (by omega), dif_pos (by omega), zero_add]
    change @Eq EReal _ _
    exact Finset.sum_congr rfl fun r _ => (if_pos hlo).symm
  · rw [dif_pos (by omega), dif_neg (by omega), add_zero]
    change @Eq EReal _ _
    exact Finset.sum_congr rfl fun r _ => (mul_comm (G := EReal) _ _).trans (if_neg hhi).symm

theorem run (ρ : Dev nD → PrngReg) : θ_run defs (onTc (τ := τ) (main (F := Ideal))) ⟨m, fun _ => 0, ρ⟩ fun r => ∀ c : Dev nD,
    (r.2.mem ((c.tc : Thread nD τ).loc main_v70) = fun i : S8192x1024.Idx =>
      ∑ k : Fin 256, dSRule (Q m c) (Do m c) (KV m c) (i 0) (head (i 1)) k * KV m c k (wide (i 1))) ∧
    (r.2.mem ((c.tc : Thread nD τ).loc main_v68) = fun i : S256x2048.Idx =>
      ∑ r : Fin 8192, part (Q m c) (Do m c) (KV m c) (dSRule (Q m c) (Do m c) (KV m c)) r (i 0) (i 1)) ∧
    (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (funext fun i => dq m c i), (h c).2.1.trans (funext fun i => dkv m c i),
    (h c).2.2⟩) (Value.run m ρ)

/-- The frame of the reference, which has no semaphores. -/
theorem frame : Cert.quiescent_ReferenceXattnIdeal := fun m ρ _ =>
  (θ_run defs _ _).mono (fun r h => ⟨fun c => (h c).2.2, sem_eq_zero_of_no_sems (by decide) r.2⟩) (Value.run m ρ)

end Cert.Step.XattnRef

end
-- ==== Proof.XattnPair.lean ====
/- Cross attention, backwards: the kernel's results are the reference's where the arguments are finite. -/
module

public import proofs.«01_k».proof.Proof.XattnKernel
public import proofs.«01_k».proof.Proof.XattnReference

@[expose] public section

set_option maxRecDepth 16384

noncomputable section

namespace Cert.Step.XattnPair

open Idealize.ShloMosaic Idealize.ShloMosaic.TcCoe Idealize.SL.Sem Cert.KernelXattnIdeal Cert.Step.Xattn
open scoped BigOperators

/-- What the precondition's function states of its shapes. -/
instance finite_facts : Cert.Pre_finite_xattn.Facts := by constructor <;> decide

variable {m : (ℓ : Loc nD τ sig) → Buf (Elt Ideal) ℓ}

/-- The scale is a real. -/
theorem scale_isReal : IsReal wScale := ⟨_, by simp only [Ideal.ofBits, Ideal.ieee]; simp; rfl⟩

/-- The two forms of the gradient of the products agree. -/
theorem dS_eq (h : Cert.Pre_KernelXattnIdeal_finite_xattn m) (c : Dev nD) :
    dSRule (Q m c) (Do m c) (KV m c) = dS (Q m c) (Do m c) (KV m c) :=
  funext fun r => funext fun i => funext fun k => congrArg (· * wScale) (dScore_eq (by decide)
    (fun _ => (IsReal.sum fun _ => (isReal_of_pred (fun _ => rfl) (h c).1 _).mul
      (isReal_of_pred (fun _ => rfl) (h c).2.1 _)).mul scale_isReal)
    (fun _ => IsReal.sum fun _ => (isReal_of_pred (fun _ => rfl) (h c).2.2 _).mul
      (isReal_of_pred (fun _ => rfl) (h c).2.1 _)) k).symm

theorem algebraic : Cert.algebraic_KernelXattnIdeal_ReferenceXattnIdeal_pre_finite_xattn := by
  intro m ρ m' ρ' hp hm
  refine ⟨fun c => (Gen.dats m 0 c).arrAt 3 cfg0.N, fun c => (Gen.dats m 0 c).arrAt 4 cfg0.N,
    Value.run_blocks m ρ, (θ_run Cert.ReferenceXattnIdeal.defs _ _).mono (fun r h c => ?_) (XattnRef.run m' ρ')⟩
  obtain ⟨h0, h1, ha⟩ := h c
  obtain ⟨e0, e1, e2⟩ := hm c
  have eQ : XattnRef.Q m' c = Q m c := funext₂ fun _ _ => congrFun e0 _
  have eKV : XattnRef.KV m' c = KV m c := funext₂ fun _ _ => congrFun e1 _
  have eDo : XattnRef.Do m' c = Do m c := funext₂ fun _ _ => congrFun e2 _
  rw [eQ, eKV, eDo, dS_eq hp c] at h0 h1
  exact ⟨h0.trans (dq m c).symm, h1.trans (dkv m c).symm, ha⟩

end Cert.Step.XattnPair

end
-- ==== Proof.RmsKernel.lean ====
/- What the norm's backward kernel leaves in its two result arrays, at an index. -/
module

public import proofs.«01_k».proof.Proof.NormGrad
public import proofs.«01_k».proof.Proof.Gen.KernelRmsIdeal.Value
public import Idealize.ShloMosaic.Lib.Pipeline.ValueKit

@[expose] public section

set_option maxRecDepth 16384

noncomputable section

namespace Cert.Step.Rms

open Cert.KernelRmsIdeal Cert.KernelRmsIdeal.Gen Idealize.ShloMosaic Idealize.ShloMosaic.TcCoe Idealize.SL.Sem
open scoped BigOperators

variable (m : (ℓ : Loc nD τ sig) → Buf (Elt Ideal) ℓ)

/-- The argument arrays on core `c`: the rows, the gain, the cotangent. -/
abbrev X (c : Dev nD) : S256x1024.Idx → EReal := m ((c : Thread nD τ).loc main_arg0)
abbrev Gn (c : Dev nD) : S1024.Idx → EReal := m ((c : Thread nD τ).loc main_arg1)
abbrev Dy (c : Dev nD) : S256x1024.Idx → EReal := m ((c : Thread nD τ).loc main_arg2)

/-- The one grid point's blocks are whole arrays. -/
theorem idx (t : Fin cfg0.N) : win0_0.index t = ![0, 0] ∧ win0_1.index t = ![0, 0] ∧ win0_2.index t = ![0, 0] ∧
    win0_3.index t = ![0, 0] ∧ win0_4.index t = ![0, 0] :=
  (by decide +kernel : ∀ t : Fin grid0.N, win0_0.index t = ![0, 0] ∧ win0_1.index t = ![0, 0] ∧
    win0_2.index t = ![0, 0] ∧ win0_3.index t = ![0, 0] ∧ win0_4.index t = ![0, 0]) t

/-- The first result is the norm's gradient, row by row, in the kernel's form. -/
theorem dx (c : Dev nD) : (dats m 0 c).arrAt 3 cfg0.N = fun i : S256x1024.Idx =>
    gradHat (Ideal.ofBits .f32 0x44800000#32) (Ideal.ofBits .f32 0x358637BD#32)
      (fun k : Fin 1024 => X m c (ix2 (i 0) k)) (fun k => Dy m c (ix2 (i 0) k) * Gn m c (ix1 k)) (i 1) := by
  refine (dats m 0 c).arrAt_eq_of_covers 3 _ (by decide +kernel) fun t hf y => ?_
  blk_simp
  rw [after0_3]
  unfold outsAt0
  frame_out
  unfold_payloads
  pointwise [gradHat, rinv, meanSq]
  blk_point [iblk, V, idx t]

/-- The second result is the gain's gradient: the cotangent times the normalised rows, summed over the rows. -/
theorem dg (c : Dev nD) : (dats m 0 c).arrAt 4 cfg0.N = fun i : S1x1024.Idx =>
    ∑ r : Fin 256, Dy m c (ix2 r (i 1)) * (X m c (ix2 r (i 1)) *
      rinv (Ideal.ofBits .f32 0x44800000#32) (Ideal.ofBits .f32 0x358637BD#32) (fun k : Fin 1024 => X m c (ix2 r k))) := by
  refine (dats m 0 c).arrAt_eq_of_covers 4 _ (by decide +kernel) fun t hf y => ?_
  blk_simp
  rw [after0_4]
  unfold outsAt0
  frame_out
  unfold_payloads
  pointwise [rinv, meanSq]
  blk_point [iblk, V, idx t]

end Cert.Step.Rms

end
-- ==== Proof.RmsReference.lean ====
/- The norm's backward reference: what its run leaves in the two results, at an index. -/
module

public import proofs.«01_k».proof.Proof.NormGrad
public import proofs.«01_k».proof.Proof.Gen.ReferenceRmsIdeal.Run

@[expose] public section

set_option maxRecDepth 16384

noncomputable section

namespace Cert.Step.RmsRef

open Cert.ReferenceRmsIdeal Cert.ReferenceRmsIdeal.Gen Idealize.ShloMosaic Idealize.ShloMosaic.TcCoe Idealize.SL.Sem
open scoped BigOperators

variable (m : (ℓ : Loc nD τ sig) → Buf (Elt Ideal) ℓ) (ρ : Dev nD → PrngReg)

/-- The argument arrays on core `c`: the rows, the gain, the cotangent. -/
abbrev X (c : Dev nD) : S256x1024.Idx → EReal := m ((c.tc : Thread nD τ).loc main_arg0)
abbrev Gn (c : Dev nD) : S1024.Idx → EReal := m ((c.tc : Thread nD τ).loc main_arg1)
abbrev Dy (c : Dev nD) : S256x1024.Idx → EReal := m ((c.tc : Thread nD τ).loc main_arg2)

/-- The run: the first result is the norm's gradient by the product rule, the second the gain's gradient. -/
theorem run : θ_run defs (onTc (τ := τ) (main (F := Ideal))) ⟨m, fun _ => 0, ρ⟩ fun r => ∀ c : Dev nD,
    (r.2.mem ((c.tc : Thread nD τ).loc main_v35) = fun i : S256x1024.Idx =>
      gradRule (Ideal.ofBits .f32 0x44800000#32) (Ideal.ofBits .f32 0x358637BD#32) (Ideal.ofBits .f32 0xBF000000#32)
        (fun k : Fin 1024 => X m c (ix2 (i 0) k)) (fun k => Dy m c (ix2 (i 0) k) * Gn m c (ix1 k)) (i 1))
    ∧ (r.2.mem ((c.tc : Thread nD τ).loc main_v36) = fun i : S1x1024.Idx =>
      ∑ r : Fin 256, Dy m c (ix2 r (i 1)) * (X m c (ix2 r (i 1)) *
        rinv (Ideal.ofBits .f32 0x44800000#32) (Ideal.ofBits .f32 0x358637BD#32) (fun k : Fin 1024 => X m c (ix2 r k))))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun _ h c => ⟨(h c).1.trans (funext fun i => ?_), (h c).2.1.trans (funext fun i => ?_),
      (h c).2.2⟩)
    (Value.run m ρ)
  · clear * -
    pointwise [gradRule, coef, rinv, meanSq]
    rw [Fin.sum_univ_one]
  · clear * -
    pointwise [rinv, meanSq]
    rw [Fin.sum_univ_one]
    exact Finset.sum_congr rfl fun r _ => mul_comm (G := EReal) _ _

/-- The reference has no semaphores: its run above is its frame. -/
theorem frame : θ_run defs (onTc (τ := τ) (main (F := Ideal))) ⟨m, fun _ => 0, ρ⟩ fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) ∧ r.2.sem = fun _ => 0 :=
  (θ_run defs _ _).mono (fun r h => ⟨fun c => (h c).2.2, sem_eq_zero_of_no_sems (by decide) r.2⟩) (Value.run m ρ)

end Cert.Step.RmsRef

end
-- ==== Proof.RmsPair.lean ====
/- The norm's backward: the kernel's two results are the reference's where the arguments are finite. -/
module

public import proofs.«01_k».proof.Proof.RmsKernel
public import proofs.«01_k».proof.Proof.RmsReference
public import proofs.«01_k».proof.Defs

@[expose] public section

set_option maxRecDepth 16384

noncomputable section

namespace Cert.Step.RmsPair

open Idealize.ShloMosaic Idealize.ShloMosaic.TcCoe Idealize.SL.Sem Cert.KernelRmsIdeal
open scoped BigOperators

/-- What the precondition's function states of its shapes. -/
instance finite_facts : Cert.Pre_finite_rms.Facts := ⟨by decide, by decide⟩

/-- The precondition: every argument is finite. -/
theorem reals {m : (ℓ : Loc nD τ sig) → Buf (Elt Ideal) ℓ} (h : Cert.Pre_KernelRmsIdeal_finite_rms m) (c : Dev nD) :
    (∀ i, IsReal (Rms.X m c i)) ∧ (∀ i, IsReal (Rms.Gn m c i)) ∧ ∀ i, IsReal (Rms.Dy m c i) :=
  ⟨isReal_of_pred (fun _ => rfl) (h c).1, isReal_of_pred (fun _ => rfl) (h c).2.1,
    isReal_of_pred (fun _ => rfl) (h c).2.2⟩

theorem algebraic : Cert.algebraic_KernelRmsIdeal_ReferenceRmsIdeal_pre_finite_rms := by
  intro m ρ m' ρ' hp hm
  refine ⟨fun c => (Gen.dats m 0 c).arrAt 3 cfg0.N, fun c => (Gen.dats m 0 c).arrAt 4 cfg0.N,
    Value.run_blocks m ρ, (θ_run Cert.ReferenceRmsIdeal.defs _ _).mono (fun r h c => ?_) (RmsRef.run m' ρ')⟩
  obtain ⟨h0, h1, ha⟩ := h c
  have eX : RmsRef.X m' c = Rms.X m c := (hm c).1
  have eG : RmsRef.Gn m' c = Rms.Gn m c := (hm c).2.1
  have eD : RmsRef.Dy m' c = Rms.Dy m c := (hm c).2.2
  obtain ⟨rX, rG, rD⟩ := reals hp c
  obtain ⟨e, he, hε⟩ := bits_eps
  refine ⟨h0.trans (Eq.trans (funext fun i => ?_) (Rms.dx m c).symm), h1.trans (Eq.trans (funext fun i => ?_) (Rms.dg m c).symm), ha⟩
  · rw [eX, eG, eD, bits_1024, bits_neg_half, hε]
    exact (gradHat_eq_gradRule (by norm_num) he (fun k => rX _) (fun k => (rD _).mul (rG _)) _).symm
  · rw [eX, eD]

end Cert.Step.RmsPair

end
-- ==== Proof.Silu.lean ====
/- The gate `a · σ(a)` and its derivative on real numbers: the logistic function in the form with the hyperbolic tangent. -/
module

public import proofs.«01_k».proof.Proof.NormGrad

@[expose] public section

set_option maxRecDepth 16384

noncomputable section

namespace Cert.Step

open Idealize.ShloMosaic
open scoped BigOperators

theorem bits_half : wHalf = ((1 / 2 : ℝ) : EReal) := by
  simp only [wHalf, Ideal.ofBits, Ideal.ieee]
  simp
  rw [← EReal.coe_mul]; norm_num

/-- The logistic function by the hyperbolic tangent of the half. -/
def sigTanh (a : EReal) : EReal := wHalf * (Ideal.tanh (wHalf * a) + wOne)

/-- The logistic function by the exponential. -/
def sigExp (a : EReal) : EReal := Ideal.div wOne (wOne + Ideal.exp (-a))

theorem sigTanh_coe (a : ℝ) : sigTanh a = ((1 / (1 + Real.exp (-a)) : ℝ) : EReal) := by
  have h : (Real.tanh (1 / 2 * a) + 1) / 2 = 1 / (1 + Real.exp (-a)) := by
    have e : Real.exp (-a) = Real.exp (-(1 / 2 * a)) * Real.exp (-(1 / 2 * a)) := by
      rw [← Real.exp_add]; congr 1; ring
    have p : Real.exp (1 / 2 * a) * Real.exp (-(1 / 2 * a)) = 1 := by rw [← Real.exp_add]; simp
    have q := Real.exp_pos (-(1 / 2 * a))
    have s := Real.exp_pos (1 / 2 * a)
    rw [Real.tanh_eq_sinh_div_cosh, Real.sinh_eq, Real.cosh_eq, e]
    generalize Real.exp (-(1 / 2 * a)) = u at *
    generalize Real.exp (1 / 2 * a) = v at *
    have h1 : (v + u) / 2 ≠ 0 := by positivity
    have h2 : 1 + u * u ≠ 0 := by positivity
    have h3 : v + u ≠ 0 := by positivity
    field_simp
    nlinarith
  rw [sigTanh, bits_half, bits_one, ← EReal.coe_mul]
  show ((1 / 2 : ℝ) : EReal) * (((Real.tanh (1 / 2 * a) : ℝ) : EReal) + ((1 : ℝ) : EReal)) = _
  rw [← EReal.coe_add, ← EReal.coe_mul, ← h]
  congr 1; ring

theorem sigExp_coe (a : ℝ) : sigExp a = ((1 / (1 + Real.exp (-a)) : ℝ) : EReal) := by
  have h : 1 + Real.exp (-a) ≠ 0 := by have := Real.exp_pos (-a); positivity
  have e : Ideal.exp (-(a : EReal)) = ((Real.exp (-a) : ℝ) : EReal) := by rw [← EReal.coe_neg]; rfl
  rw [sigExp, e, bits_one, ← EReal.coe_add, Ideal.div_coe h, ← EReal.coe_mul, one_mul]

/-- The two forms agree everywhere, at the infinities too. -/
theorem sigTanh_eq_sigExp (a : EReal) : sigTanh a = sigExp a := by
  induction a with
  | coe a => rw [sigTanh_coe, sigExp_coe]
  | top =>
    have h : ((1 / 2 : ℝ) : EReal) * ⊤ = ⊤ := EReal.coe_mul_top_of_pos (by norm_num)
    rw [sigTanh, sigExp, bits_half, bits_one, h, EReal.neg_top]
    show ((1 / 2 : ℝ) : EReal) * (1 + ((1 : ℝ) : EReal)) = Ideal.div ((1 : ℝ) : EReal) (((1 : ℝ) : EReal) + 0)
    rw [add_zero, Ideal.div_coe one_ne_zero, ← EReal.coe_one, ← EReal.coe_add, ← EReal.coe_mul, ← EReal.coe_mul]
    norm_num
  | bot =>
    have h : ((1 / 2 : ℝ) : EReal) * ⊥ = ⊥ := EReal.coe_mul_bot_of_pos (by norm_num)
    rw [sigTanh, sigExp, bits_half, bits_one, h, EReal.neg_bot]
    show ((1 / 2 : ℝ) : EReal) * (-1 + ((1 : ℝ) : EReal)) = Ideal.div ((1 : ℝ) : EReal) (((1 : ℝ) : EReal) + ⊤)
    have e : (-1 + ((1 : ℝ) : EReal)) = 0 := by
      rw [← EReal.coe_one, ← EReal.coe_neg, ← EReal.coe_add, neg_add_cancel, EReal.coe_zero]
    rw [e, EReal.coe_add_top, Ideal.div, if_neg EReal.top_ne_zero, EReal.inv_top, mul_zero, mul_zero]

/-- The gate's two cotangents, in the kernel's form: `a` the gate's argument, `b` the other factor, `d` the cotangent of
    the product. -/
def gateA (a b d : EReal) : EReal := d * b * (sigTanh a * (wOne + a * (wOne - sigTanh a)))
def gateB (a d : EReal) : EReal := d * (a * sigTanh a)

/-- The same two by the product rule. -/
def gateRuleA (a b d : EReal) : EReal :=
  d * b * sigExp a + a * (d * b) * (sigExp a * (wOne - sigExp a))
def gateRuleB (a d : EReal) : EReal := a * sigExp a * d

theorem gateA_eq {a b d : EReal} (ha : IsReal a) (hb : IsReal b) (hd : IsReal d) : gateA a b d = gateRuleA a b d := by
  obtain ⟨a, rfl⟩ := ha; obtain ⟨b, rfl⟩ := hb; obtain ⟨d, rfl⟩ := hd
  unfold gateA gateRuleA
  rw [sigTanh_coe, sigExp_coe, bits_one]
  simp only [← EReal.coe_mul, ← EReal.coe_add, ← EReal.coe_sub]
  congr 1; ring

theorem gateB_eq {a : EReal} (ha : IsReal a) (d : EReal) : gateB a d = gateRuleB a d := by
  obtain ⟨a, rfl⟩ := ha
  unfold gateB gateRuleB
  rw [sigTanh_coe, sigExp_coe, mul_comm]

end Cert.Step

end
-- ==== Proof.LossSpec.lean ====
/- The loss, half the mean square error of the normalised rows summed over the rows, in two forms; and its cotangent's
   factors. -/
module

public import proofs.«01_k».proof.Proof.Silu
public import Idealize.ShloMosaic.Lib.Pipeline.ValueKit

@[expose] public section

set_option maxRecDepth 16384

noncomputable section

namespace Cert.Step

open Idealize.ShloMosaic
open scoped BigOperators

abbrev wTwo : EReal := Ideal.ofBits .f32 0x40000000#32
abbrev wInv : EReal := Ideal.ofBits .f32 0x3A800000#32
abbrev wHalfInv : EReal := Ideal.ofBits .f32 0x3A000000#32

theorem bits_two : wTwo = ((2 : ℝ) : EReal) := by
  simp only [wTwo, Ideal.ofBits, Ideal.ieee]
  simp
  rw [← EReal.coe_mul]; norm_num

theorem bits_inv : wInv = ((1 / 1024 : ℝ) : EReal) := by
  simp only [wInv, Ideal.ofBits, Ideal.ieee]
  simp
  rw [← EReal.coe_mul]; norm_num

theorem bits_half_inv : wHalfInv = ((1 / 2048 : ℝ) : EReal) := by
  simp only [wHalfInv, Ideal.ofBits, Ideal.ieee]
  simp
  rw [← EReal.coe_mul]; norm_num

/-- The error of the normalised rows with their gain against the target. -/
def errOf (x t : Fin 8192 → Fin 1024 → EReal) (g : Fin 1024 → EReal) (r : Fin 8192) (k : Fin 1024) : EReal :=
  x r k * rinv w1024 wEps (x r) * g k - t r k

/-- A row's sum of squares. -/
def sq (e : Fin 8192 → Fin 1024 → EReal) (r : Fin 8192) : EReal := ∑ k, e r k * e r k

/-- The loss by blocks of 512 rows, each block's sum scaled. -/
def lossBlocks (e : Fin 8192 → Fin 1024 → EReal) : EReal :=
  ∑ t : Fin 16, (∑ r : Fin 512, sq e (rowOf (N := 16) (S := 512) t r)) * wHalfInv

/-- The loss over all rows, each row's sum divided by its length. -/
def lossRows (e : Fin 8192 → Fin 1024 → EReal) : EReal := wHalf * ∑ r : Fin 8192, Ideal.div (sq e r) w1024

theorem lossBlocks_eq {e : Fin 8192 → Fin 1024 → EReal} (he : ∀ r k, IsReal (e r k)) : lossBlocks e = lossRows e := by
  choose a ha using fun r => IsReal.sum (s := Finset.univ) fun k => (he r k).mul (he r k)
  have hs : sq e = fun r => (a r : EReal) := funext ha
  unfold lossBlocks lossRows
  rw [hs, bits_half, bits_half_inv, w1024, bits_1024]
  simp only [Ideal.div_coe (show (1024 : ℝ) ≠ 0 by norm_num), ← EReal.coe_mul, ← coe_sum]
  have h : ∑ t : Fin 16, ∑ r : Fin 512, a (rowOf (N := 16) (S := 512) t r) = ∑ r : Fin 8192, a r :=
    Fin.sum_mul_add_congr (S := 16) (n := 512) fun s k hl => congrArg a (Fin.ext rfl)
  rw [← Finset.sum_mul, h, ← Finset.sum_mul]
  congr 1; ring

theorem errOf_isReal {x t : Fin 8192 → Fin 1024 → EReal} {g : Fin 1024 → EReal} (hx : ∀ r k, IsReal (x r k))
    (ht : ∀ r k, IsReal (t r k)) (hg : ∀ k, IsReal (g k)) (r : Fin 8192) (k : Fin 1024) : IsReal (errOf x t g r k) := by
  obtain ⟨e, he, hε⟩ := bits_eps
  have hr : IsReal (rinv w1024 wEps (x r)) := by
    rw [wEps, hε, w1024, bits_1024]
    exact rinv_isReal (by norm_num) he (hx r)
  obtain ⟨a, ha⟩ := ((hx r k).mul hr).mul (hg k)
  obtain ⟨b, hb⟩ := ht r k
  exact ⟨a - b, by rw [errOf, ha, hb, EReal.coe_sub]⟩

/-- The cotangent's constant factor, as the derivative writes it and as one word. -/
theorem factor_eq (e : EReal) : Ideal.div (wHalf * wOne) w1024 * (wTwo * e) = e * wInv := by
  rw [← mul_assoc, mul_comm e, bits_half, bits_one, w1024, bits_1024, bits_two, bits_inv,
    Ideal.div_coe (by norm_num), ← EReal.coe_mul, ← EReal.coe_mul, ← EReal.coe_mul]
  congr 2; norm_num

end Cert.Step

end
-- ==== Proof.LossKernel.lean ====
/- The loss and its gradient: what the kernel leaves in its four result arrays, at an index. -/
module

public import proofs.«01_k».proof.Proof.LossSpec
public import proofs.«01_k».proof.Proof.Gen.KernelLossIdeal.Value
public import Idealize.ShloMosaic.Lib.Pipeline.ValueKit

@[expose] public section

set_option maxRecDepth 16384

noncomputable section

namespace Cert.Step.Loss

open Cert.KernelLossIdeal Cert.KernelLossIdeal.Gen Idealize.ShloMosaic Idealize.ShloMosaic.TcCoe Idealize.SL.Sem
open scoped BigOperators

variable (m : (ℓ : Loc nD τ sig) → Buf (Elt Ideal) ℓ)

/-- The argument arrays on core `c`: the rows, the targets, the gain. -/
abbrev X (c : Dev nD) (r : Fin 8192) (k : Fin 1024) : EReal := (m ((c : Thread nD τ).loc main_arg0) : S8192x1024.Idx → EReal) (ix2 r k)
abbrev Tg (c : Dev nD) (r : Fin 8192) (k : Fin 1024) : EReal := (m ((c : Thread nD τ).loc main_arg1) : S8192x1024.Idx → EReal) (ix2 r k)
abbrev Gn (c : Dev nD) (k : Fin 1024) : EReal := (m ((c : Thread nD τ).loc main_arg2) : S1024.Idx → EReal) (ix1 k)

/-- The cotangent of the normalised rows with their gain. -/
def dy (c : Dev nD) (r : Fin 8192) (k : Fin 1024) : EReal := errOf (X m c) (Tg m c) (Gn m c) r k * wInv

/-- Where each grid point's blocks lie. -/
theorem idx (t : Fin cfg0.N) : win0_0.index t = ![t.val, 0] ∧
    win0_1.index t = ![t.val, 0] ∧
    win0_2.index t = ![0, 0] ∧
    win0_3.index t = ![0, 0] ∧
    win0_4.index t = ![t.val, 0] ∧
    win0_5.index t = ![t.val, 0] ∧
    win0_6.index t = ![0, 0] :=
  (by decide +kernel : ∀ t : Fin grid0.N, win0_0.index t = ![t.val, 0] ∧
    win0_1.index t = ![t.val, 0] ∧
    win0_2.index t = ![0, 0] ∧
    win0_3.index t = ![0, 0] ∧
    win0_4.index t = ![t.val, 0] ∧
    win0_5.index t = ![t.val, 0] ∧
    win0_6.index t = ![0, 0]) t

/-- The second result is the norm's gradient. -/
theorem dx (c : Dev nD) : (dats m 0 c).arrAt 4 cfg0.N = fun i : S8192x1024.Idx =>
    normDx w1024 wEps (X m c) (Gn m c) (dy m c) (i 0) (i 1) := by
  refine (dats m 0 c).arrAt_eq_of_covers 4 _ (by decide +kernel) fun t hf y => ?_
  blk_simp
  rw [after0_4]
  rcases em (t.val % 16 = 0) with h | h
  on_goal 1 => rw [outsAt0_A m c t h]
  on_goal 2 => rw [outsAt0_B m c t h]
  all_goals
    frame_out
    unfold_payloads
    pointwise [normDx, gradHat, dy, errOf, rinv, meanSq, X, Tg, Gn]
    blk_point [iblk, V, idx t]

/-- The third result is half the second. -/
theorem half (c : Dev nD) : (dats m 0 c).arrAt 5 cfg0.N = fun i : S8192x1024.Idx =>
    normDx w1024 wEps (X m c) (Gn m c) (dy m c) (i 0) (i 1) * wHalf := by
  refine (dats m 0 c).arrAt_eq_of_covers 5 _ (by decide +kernel) fun t hf y => ?_
  blk_simp
  rw [after0_5]
  rcases em (t.val % 16 = 0) with h | h
  on_goal 1 => rw [outsAt0_A m c t h]
  on_goal 2 => rw [outsAt0_B m c t h]
  all_goals
    frame_out
    unfold_payloads
    pointwise [normDx, gradHat, dy, errOf, rinv, meanSq, X, Tg, Gn]
    blk_point [iblk, V, idx t]

/-- The first result, gathered over the grid, is the loss in each lane. -/
theorem loss (c : Dev nD) : (dats m 0 c).arrAt 3 cfg0.N = fun _ : S1x128.Idx =>
    lossBlocks (errOf (X m c) (Tg m c) (Gn m c)) := by
  refine (dats m 0 c).arrAt_eq_of_after_last 3 t0_15 (by decide +kernel) _ fun j => ?_
  blk_simp
  rw [after0_3]
  refine (Pipeline.eq_sum_fin_of_reset_step_apply_last (fun n h => (outsAt0 m c n h).1) 16 (fun _ => (0 : EReal))
    (fun t _ => (∑ r : Fin 512, sq (errOf (X m c) (Tg m c) (Gn m c)) (rowOf (N := 16) (S := 512) t r)) * wHalfInv)
    (fun t h j => ?_) (fun t h j => ?_) (by decide) t0_15 rfl j).trans ?_
  on_goal 3 =>
    rw [zero_add]
    rfl
  on_goal 1 => rw [outsAt0_A m c t h]
  on_goal 2 => rw [outsAt0_B m c t h]
  all_goals
    frame_out
    unfold_payloads
    pointwise [sq, errOf, rinv, meanSq, X, Tg, Gn, rowOf]
    blk_point [iblk, V, idx t]

/-- The fourth result, gathered over the grid, is the gain's gradient. -/
theorem dg (c : Dev nD) : (dats m 0 c).arrAt 6 cfg0.N = fun i : S1x1024.Idx =>
    ∑ r : Fin 8192, gainPart w1024 wEps (X m c) (dy m c) r (i 1) := by
  refine (dats m 0 c).arrAt_eq_of_after_last 6 t0_15 (by decide +kernel) _ fun j => ?_
  blk_simp
  rw [after0_6]
  refine (Pipeline.eq_sum_fin_of_reset_step_apply_last (fun n h => (outsAt0 m c n h).2.2.2) 16 (fun _ => (0 : EReal))
    (fun t j => ∑ r : Fin 512, gainPart w1024 wEps (X m c) (dy m c) (rowOf (N := 16) (S := 512) t r) (j 1))
    (fun t h j => ?_) (fun t h j => ?_) (by decide) t0_15 rfl j).trans ?_
  on_goal 3 =>
    rw [zero_add]
    refine Fin.sum_mul_add_congr (S := 16) (n := 512) fun s k hl => ?_
    blk_point [idx t0_15]
  on_goal 1 => rw [outsAt0_A m c t h]
  on_goal 2 => rw [outsAt0_B m c t h]
  all_goals
    frame_out
    unfold_payloads
    pointwise [gainPart, dy, errOf, rinv, meanSq, X, Tg, Gn, rowOf]
    blk_point [iblk, V, idx t]

end Cert.Step.Loss

end
-- ==== Proof.LossReference.lean ====
/- The loss and its derivative: what the reference leaves in its four results. -/
module

public import proofs.«01_k».proof.Proof.LossSpec
public import proofs.«01_k».proof.Defs
public import proofs.«01_k».proof.Proof.Gen.ReferenceLossIdeal.Run

@[expose] public section

set_option maxRecDepth 16384

noncomputable section

namespace Cert.Step.LossRef

open Cert.ReferenceLossIdeal Cert.ReferenceLossIdeal.Gen Idealize.ShloMosaic Idealize.ShloMosaic.TcCoe Idealize.SL.Sem
open scoped BigOperators

variable (m : (ℓ : Loc nD τ sig) → Buf (Elt Ideal) ℓ) (ρ : Dev nD → PrngReg)

/-- The argument arrays on core `c`: the rows, the targets, the gain. -/
abbrev X (c : Dev nD) (r : Fin 8192) (k : Fin 1024) : EReal := (m ((c.tc : Thread nD τ).loc main_arg0) : S8192x1024.Idx → EReal) (ix2 r k)
abbrev Tg (c : Dev nD) (r : Fin 8192) (k : Fin 1024) : EReal := (m ((c.tc : Thread nD τ).loc main_arg1) : S8192x1024.Idx → EReal) (ix2 r k)
abbrev Gn (c : Dev nD) (k : Fin 1024) : EReal := (m ((c.tc : Thread nD τ).loc main_arg2) : S1024.Idx → EReal) (ix1 k)

/-- The cotangent of the normalised rows with their gain. -/
def dy (c : Dev nD) (r : Fin 8192) (k : Fin 1024) : EReal :=
  Ideal.div (wHalf * wOne) w1024 * (wTwo * errOf (X m c) (Tg m c) (Gn m c) r k)

/-- The frame of the reference, which has no semaphores. -/
theorem frame : Cert.quiescent_ReferenceLossIdeal := fun m ρ _ =>
  (θ_run defs _ _).mono (fun r h => ⟨fun c => (h c).2.2.2.2, sem_eq_zero_of_no_sems (by decide) r.2⟩) (Value.run m ρ)

/-- The run: the loss in each lane, the norm's gradient by the product rule, half of it, the gain's gradient. -/
theorem run : θ_run defs (onTc (τ := τ) (main (F := Ideal))) ⟨m, fun _ => 0, ρ⟩ fun r => ∀ c : Dev nD,
    (r.2.mem ((c.tc : Thread nD τ).loc main_v51) = fun _ : S1x128.Idx => lossRows (errOf (X m c) (Tg m c) (Gn m c)))
    ∧ (r.2.mem ((c.tc : Thread nD τ).loc main_v50) = fun i : S8192x1024.Idx =>
      normDxRule w1024 wEps wNegHalf (X m c) (Gn m c) (dy m c) (i 0) (i 1))
    ∧ (r.2.mem ((c.tc : Thread nD τ).loc main_v54) = fun i : S8192x1024.Idx =>
      normDxRule w1024 wEps wNegHalf (X m c) (Gn m c) (dy m c) (i 0) (i 1) * wHalf)
    ∧ (r.2.mem ((c.tc : Thread nD τ).loc main_v55) = fun i : S1x1024.Idx =>
      ∑ r : Fin 8192, gainPart w1024 wEps (X m c) (dy m c) r (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun _ h c => ⟨(h c).1.trans (funext fun i => ?_), (h c).2.1.trans (funext fun i => ?_),
      (h c).2.2.1.trans (funext fun i => ?_), (h c).2.2.2.1.trans (funext fun i => ?_), (h c).2.2.2.2⟩) (Value.run m ρ)
  · clear * -
    pointwise [lossRows, sq, errOf, rinv, meanSq, X, Tg, Gn]
  · clear * -
    unfold Value.res_main_v50
    pointwise [normDxRule, gradRule, coef, dy, errOf, rinv, meanSq, X, Tg, Gn]
    rw [Fin.sum_univ_one]
  · clear * -
    unfold Value.res_main_v54
    pointwise [normDxRule, gradRule, coef, dy, errOf, rinv, meanSq, X, Tg, Gn]
    rw [Fin.sum_univ_one]
    exact mul_comm (G := EReal) _ _
  · clear * -
    pointwise [gainPart, dy, errOf, rinv, meanSq, X, Tg, Gn]
    rw [Fin.sum_univ_one]
    exact Finset.sum_congr rfl fun r _ => mul_comm (G := EReal) _ _

end Cert.Step.LossRef

end
-- ==== Proof.LossPair.lean ====
/- The loss and its gradient: the kernel's results are the reference's where the arguments are finite. -/
module

public import proofs.«01_k».proof.Proof.LossKernel
public import proofs.«01_k».proof.Proof.LossReference

@[expose] public section

set_option maxRecDepth 16384

noncomputable section

namespace Cert.Step.LossPair

open Idealize.ShloMosaic Idealize.ShloMosaic.TcCoe Idealize.SL.Sem Cert.KernelLossIdeal
open scoped BigOperators

/-- What the precondition's function states of its shapes. -/
instance finite_facts : Cert.Pre_finite_loss.Facts := by constructor <;> decide

variable {m : (ℓ : Loc nD τ sig) → Buf (Elt Ideal) ℓ}

/-- The error is finite where the arguments are. -/
theorem err_isReal (h : Cert.Pre_KernelLossIdeal_finite_loss m) (c : Dev nD) (r : Fin 8192) (k : Fin 1024) :
    IsReal (errOf (Loss.X m c) (Loss.Tg m c) (Loss.Gn m c) r k) :=
  errOf_isReal (fun _ _ => isReal_of_pred (fun _ => rfl) (h c).1 _) (fun _ _ => isReal_of_pred (fun _ => rfl) (h c).2.1 _)
    (fun _ => isReal_of_pred (fun _ => rfl) (h c).2.2 _) r k

/-- The norm's gradient in the kernel's form and by the product rule. -/
theorem norm (h : Cert.Pre_KernelLossIdeal_finite_loss m) (c : Dev nD) (r : Fin 8192) (k : Fin 1024) :
    normDx w1024 wEps (Loss.X m c) (Loss.Gn m c) (Loss.dy m c) r k
      = normDxRule w1024 wEps wNegHalf (Loss.X m c) (Loss.Gn m c) (Loss.dy m c) r k :=
  normDx_eq w1024_pos (fun _ _ => isReal_of_pred (fun _ => rfl) (h c).1 _)
    (fun _ => isReal_of_pred (fun _ => rfl) (h c).2.2 _)
    (fun _ _ => (err_isReal h c _ _).mul ⟨_, bits_inv⟩) r k

theorem algebraic : Cert.algebraic_KernelLossIdeal_ReferenceLossIdeal_pre_finite_loss := by
  intro m ρ m' ρ' hp hm
  refine ⟨fun c => (Gen.dats m 0 c).arrAt 3 cfg0.N, fun c => (Gen.dats m 0 c).arrAt 4 cfg0.N,
    fun c => (Gen.dats m 0 c).arrAt 5 cfg0.N, fun c => (Gen.dats m 0 c).arrAt 6 cfg0.N,
    Value.run_blocks m ρ, (θ_run Cert.ReferenceLossIdeal.defs _ _).mono (fun r h c => ?_) (LossRef.run m' ρ')⟩
  obtain ⟨h0, h1, h2, h3, ha⟩ := h c
  obtain ⟨e0, e1, e2⟩ := hm c
  have eX : LossRef.X m' c = Loss.X m c := funext₂ fun _ _ => congrFun e0 _
  have eT : LossRef.Tg m' c = Loss.Tg m c := funext₂ fun _ _ => congrFun e1 _
  have eG : LossRef.Gn m' c = Loss.Gn m c := funext fun _ => congrFun e2 _
  have eY : LossRef.dy m' c = Loss.dy m c := funext₂ fun _ _ => by
    unfold LossRef.dy Loss.dy; rw [eX, eT, eG]; exact factor_eq _
  rw [eX, eT, eG] at h0
  rw [eX, eY, eG] at h1 h2
  rw [eX, eY] at h3
  exact ⟨h0.trans (Eq.trans (funext fun _ => (lossBlocks_eq (err_isReal hp c)).symm) (Loss.loss m c).symm),
    h1.trans (Eq.trans (funext fun _ => (norm hp c _ _).symm) (Loss.dx m c).symm),
    h2.trans (Eq.trans (funext fun _ => congrArg (· * wHalf) (norm hp c _ _).symm) (Loss.half m c).symm),
    h3.trans (Loss.dg m c).symm, ha⟩

end Cert.Step.LossPair

end
-- ==== Proof.MidKernel.lean ====
/- The feed-forward block's down projection fused with its gate's gradient: what the kernel leaves in its two result
   arrays, at an index. -/
module

public import proofs.«01_k».proof.Proof.Silu
public import proofs.«01_k».proof.Proof.Gen.KernelMidIdeal.Value
public import Idealize.ShloMosaic.Lib.Pipeline.ValueKit

@[expose] public section

set_option maxRecDepth 16384

noncomputable section

namespace Cert.Step.Mid

open Cert.KernelMidIdeal Cert.KernelMidIdeal.Gen Idealize.ShloMosaic Idealize.ShloMosaic.TcCoe Idealize.SL.Sem
open scoped BigOperators

variable (m : (ℓ : Loc nD τ sig) → Buf (Elt Ideal) ℓ)

/-- The argument arrays on core `c`: the two up projections, the down weights, the output's cotangent. -/
abbrev A (c : Dev nD) (r : Fin 8192) (k : Fin 2816) : EReal := (m ((c : Thread nD τ).loc main_arg0) : S8192x2816.Idx → EReal) (ix2 r k)
abbrev B (c : Dev nD) (r : Fin 8192) (k : Fin 2816) : EReal := (m ((c : Thread nD τ).loc main_arg1) : S8192x2816.Idx → EReal) (ix2 r k)
abbrev W (c : Dev nD) (k : Fin 2816) (q : Fin 1024) : EReal := (m ((c : Thread nD τ).loc main_arg2) : S2816x1024.Idx → EReal) (ix2 k q)
abbrev Dy (c : Dev nD) (r : Fin 8192) (q : Fin 1024) : EReal := (m ((c : Thread nD τ).loc main_arg3) : S8192x1024.Idx → EReal) (ix2 r q)

/-- The cotangent of the gated product. -/
def ds (c : Dev nD) (r : Fin 8192) (k : Fin 2816) : EReal := ∑ q : Fin 1024, Dy m c r q * W m c k q

/-- Where each grid point's blocks lie. -/
theorem idx (t : Fin cfg0.N) : win0_0.index t = ![t.val % 16, 0] ∧
    win0_1.index t = ![t.val / 16, 0] ∧
    win0_2.index t = ![t.val % 16, t.val / 16] ∧
    win0_3.index t = ![t.val % 16, t.val / 16] ∧
    win0_4.index t = ![t.val % 16, t.val / 16] ∧
    win0_5.index t = ![t.val % 16, t.val / 16] :=
  (by decide +kernel : ∀ t : Fin grid0.N, win0_0.index t = ![t.val % 16, 0] ∧
    win0_1.index t = ![t.val / 16, 0] ∧
    win0_2.index t = ![t.val % 16, t.val / 16] ∧
    win0_3.index t = ![t.val % 16, t.val / 16] ∧
    win0_4.index t = ![t.val % 16, t.val / 16] ∧
    win0_5.index t = ![t.val % 16, t.val / 16]) t

/-- The gradient of the gated product with respect to its first argument. -/
theorem da (c : Dev nD) : (dats m 0 c).arrAt 4 cfg0.N = fun i : S8192x2816.Idx =>
    gateA (A m c (i 0) (i 1)) (B m c (i 0) (i 1)) (ds m c (i 0) (i 1)) := by
  refine (dats m 0 c).arrAt_eq_of_covers 4 _ (by decide +kernel) fun t hf y => ?_
  blk_simp
  rw [after0_4]
  frame_out
  unfold_payloads
  pointwise [gateA, sigTanh, ds, A, B, W, Dy]
  blk_point [iblk, V, idx t]

/-- The gradient of the gated product with respect to its second argument. -/
theorem db (c : Dev nD) : (dats m 0 c).arrAt 5 cfg0.N = fun i : S8192x2816.Idx =>
    gateB (A m c (i 0) (i 1)) (ds m c (i 0) (i 1)) := by
  refine (dats m 0 c).arrAt_eq_of_covers 5 _ (by decide +kernel) fun t hf y => ?_
  blk_simp
  rw [after0_5]
  frame_out
  unfold_payloads
  pointwise [gateB, sigTanh, ds, A, B, W, Dy]
  blk_point [iblk, V, idx t]

end Cert.Step.Mid

end
-- ==== Proof.MidReference.lean ====
/- The derivative of the gated product and the down projection: what the reference leaves in its two results. -/
module

public import proofs.«01_k».proof.Proof.Silu
public import proofs.«01_k».proof.Defs
public import proofs.«01_k».proof.Proof.Gen.ReferenceMidIdeal.Run

@[expose] public section

set_option maxRecDepth 16384

noncomputable section

namespace Cert.Step.MidRef

open Cert.ReferenceMidIdeal Cert.ReferenceMidIdeal.Gen Idealize.ShloMosaic Idealize.ShloMosaic.TcCoe Idealize.SL.Sem
open scoped BigOperators

variable (m : (ℓ : Loc nD τ sig) → Buf (Elt Ideal) ℓ) (ρ : Dev nD → PrngReg)

/-- The argument arrays on core `c`: the two up projections, the down weights, the output's cotangent. -/
abbrev A (c : Dev nD) (r : Fin 8192) (k : Fin 2816) : EReal := (m ((c.tc : Thread nD τ).loc main_arg0) : S8192x2816.Idx → EReal) (ix2 r k)
abbrev B (c : Dev nD) (r : Fin 8192) (k : Fin 2816) : EReal := (m ((c.tc : Thread nD τ).loc main_arg1) : S8192x2816.Idx → EReal) (ix2 r k)
abbrev W (c : Dev nD) (k : Fin 2816) (q : Fin 1024) : EReal := (m ((c.tc : Thread nD τ).loc main_arg2) : S2816x1024.Idx → EReal) (ix2 k q)
abbrev Dy (c : Dev nD) (r : Fin 8192) (q : Fin 1024) : EReal := (m ((c.tc : Thread nD τ).loc main_arg3) : S8192x1024.Idx → EReal) (ix2 r q)

/-- The cotangent of the gated product. -/
def ds (c : Dev nD) (r : Fin 8192) (k : Fin 2816) : EReal := ∑ q : Fin 1024, Dy m c r q * W m c k q

/-- The frame of the reference, which has no semaphores. -/
theorem frame : Cert.quiescent_ReferenceMidIdeal := fun m ρ _ =>
  (θ_run defs _ _).mono (fun r h => ⟨fun c => (h c).2.2, sem_eq_zero_of_no_sems (by decide) r.2⟩) (Value.run m ρ)

/-- The run: the gate's two cotangents by the product rule. -/
theorem run : θ_run defs (onTc (τ := τ) (main (F := Ideal))) ⟨m, fun _ => 0, ρ⟩ fun r => ∀ c : Dev nD,
    (r.2.mem ((c.tc : Thread nD τ).loc main_v7) = fun i : S8192x2816.Idx =>
      gateRuleA (A m c (i 0) (i 1)) (B m c (i 0) (i 1)) (ds m c (i 0) (i 1)))
    ∧ (r.2.mem ((c.tc : Thread nD τ).loc main_v8) = fun i : S8192x2816.Idx => gateRuleB (A m c (i 0) (i 1)) (ds m c (i 0) (i 1)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine (θ_run defs _ _).mono (fun _ h c => ⟨(h c).1.trans (funext fun i => ?_), (h c).2.1.trans (funext fun i => ?_),
      (h c).2.2⟩) (Value.run m ρ)
  · clear * -
    pointwise [gateRuleA, sigExp, ds, A, B, W, Dy]
  · clear * -
    pointwise [gateRuleB, sigExp, ds, A, B, W, Dy]

end Cert.Step.MidRef

end
-- ==== Proof.MidPair.lean ====
/- The feed-forward block's gate and down projection, backwards: the kernel's results are the reference's where the
   arguments are finite. -/
module

public import proofs.«01_k».proof.Proof.MidKernel
public import proofs.«01_k».proof.Proof.MidReference

@[expose] public section

set_option maxRecDepth 16384

noncomputable section

namespace Cert.Step.MidPair

open Idealize.ShloMosaic Idealize.ShloMosaic.TcCoe Idealize.SL.Sem Cert.KernelMidIdeal
open scoped BigOperators

/-- What the precondition's function states of its shapes. -/
instance finite_facts : Cert.Pre_finite_mid.Facts := by constructor <;> decide

theorem algebraic : Cert.algebraic_KernelMidIdeal_ReferenceMidIdeal_pre_finite_mid := by
  intro m ρ m' ρ' hp hm
  refine ⟨fun c => (Gen.dats m 0 c).arrAt 4 cfg0.N, fun c => (Gen.dats m 0 c).arrAt 5 cfg0.N,
    Value.run_blocks m ρ, (θ_run Cert.ReferenceMidIdeal.defs _ _).mono (fun r h c => ?_) (MidRef.run m' ρ')⟩
  obtain ⟨h0, h1, ha⟩ := h c
  obtain ⟨e0, e1, e2, e3⟩ := hm c
  have eA : MidRef.A m' c = Mid.A m c := funext₂ fun _ _ => congrFun e0 _
  have eB : MidRef.B m' c = Mid.B m c := funext₂ fun _ _ => congrFun e1 _
  have eW : MidRef.W m' c = Mid.W m c := funext₂ fun _ _ => congrFun e2 _
  have eD : MidRef.Dy m' c = Mid.Dy m c := funext₂ fun _ _ => congrFun e3 _
  have eS : MidRef.ds m' c = Mid.ds m c := by unfold MidRef.ds Mid.ds; rw [eW, eD]
  rw [eA, eS] at h0 h1
  rw [eB] at h0
  have hA (i) (k) : IsReal (Mid.A m c i k) := isReal_of_pred (fun _ => rfl) (hp c).1 _
  exact ⟨h0.trans (Eq.trans (funext fun _ => (gateA_eq (hA _ _) (isReal_of_pred (fun _ => rfl) (hp c).2.1 _)
      (IsReal.sum fun _ => (isReal_of_pred (fun _ => rfl) (hp c).2.2.2 _).mul
        (isReal_of_pred (fun _ => rfl) (hp c).2.2.1 _))).symm) (Mid.da m c).symm),
    h1.trans (Eq.trans (funext fun _ => (gateB_eq (hA _ _) _).symm) (Mid.db m c).symm), ha⟩

end Cert.Step.MidPair

end
-- ==== Proof.DhKernel.lean ====
/- The feed-forward block's two up projections fused with their norm's gradient: what the kernel leaves in its three result
   arrays, at an index. -/
module

public import proofs.«01_k».proof.Proof.NormGrad
public import proofs.«01_k».proof.Proof.Gen.KernelDhIdeal.Value
public import Idealize.ShloMosaic.Lib.Pipeline.ValueKit

@[expose] public section

set_option maxRecDepth 16384

noncomputable section

namespace Cert.Step.Dh

open Cert.KernelDhIdeal Cert.KernelDhIdeal.Gen Idealize.ShloMosaic Idealize.ShloMosaic.TcCoe Idealize.SL.Sem
open scoped BigOperators

variable (m : (ℓ : Loc nD τ sig) → Buf (Elt Ideal) ℓ)

/-- The argument arrays on core `c`: the rows, the gain, the two weights, the residual's cotangent, the cotangents of the
    two projections. -/
abbrev X (c : Dev nD) (r : Fin 8192) (k : Fin 1024) : EReal := (m ((c : Thread nD τ).loc main_arg0) : S8192x1024.Idx → EReal) (ix2 r k)
abbrev Gn (c : Dev nD) (k : Fin 1024) : EReal := (m ((c : Thread nD τ).loc main_arg1) : S1024.Idx → EReal) (ix1 k)
abbrev Wg (c : Dev nD) (k : Fin 1024) (q : Fin 2816) : EReal := (m ((c : Thread nD τ).loc main_arg2) : S1024x2816.Idx → EReal) (ix2 k q)
abbrev Wu (c : Dev nD) (k : Fin 1024) (q : Fin 2816) : EReal := (m ((c : Thread nD τ).loc main_arg3) : S1024x2816.Idx → EReal) (ix2 k q)
abbrev Dx (c : Dev nD) (r : Fin 8192) (k : Fin 1024) : EReal := (m ((c : Thread nD τ).loc main_arg4) : S8192x1024.Idx → EReal) (ix2 r k)
abbrev Da (c : Dev nD) (r : Fin 8192) (q : Fin 2816) : EReal := (m ((c : Thread nD τ).loc main_arg5) : S8192x2816.Idx → EReal) (ix2 r q)
abbrev Db (c : Dev nD) (r : Fin 8192) (q : Fin 2816) : EReal := (m ((c : Thread nD τ).loc main_arg6) : S8192x2816.Idx → EReal) (ix2 r q)

/-- The cotangent of the normalised rows. -/
def dh (c : Dev nD) (r : Fin 8192) (k : Fin 1024) : EReal :=
  ∑ q : Fin 2816, Da m c r q * Wg m c k q + ∑ q : Fin 2816, Db m c r q * Wu m c k q

/-- Where each grid point's blocks lie. -/
theorem idx (t : Fin cfg0.N) : win0_0.index t = ![t.val, 0] ∧
    win0_1.index t = ![t.val, 0] ∧
    win0_2.index t = ![0, 0] ∧
    win0_3.index t = ![0, 0] ∧
    win0_4.index t = ![t.val, 0] ∧
    win0_5.index t = ![0, 0] ∧
    win0_6.index t = ![t.val, 0] ∧
    win0_7.index t = ![t.val, 0] ∧
    win0_8.index t = ![0, 0] ∧
    win0_9.index t = ![t.val, 0] :=
  (by decide +kernel : ∀ t : Fin grid0.N, win0_0.index t = ![t.val, 0] ∧
    win0_1.index t = ![t.val, 0] ∧
    win0_2.index t = ![0, 0] ∧
    win0_3.index t = ![0, 0] ∧
    win0_4.index t = ![t.val, 0] ∧
    win0_5.index t = ![0, 0] ∧
    win0_6.index t = ![t.val, 0] ∧
    win0_7.index t = ![t.val, 0] ∧
    win0_8.index t = ![0, 0] ∧
    win0_9.index t = ![t.val, 0]) t

/-- The last grid point. -/
abbrev tLast : Fin cfg0.N := ⟨31, by decide⟩

/-- The first result is the norm's gradient plus the residual's cotangent. -/
theorem dx (c : Dev nD) : (dats m 0 c).arrAt 7 cfg0.N = fun i : S8192x1024.Idx =>
    normDx w1024 wEps (X m c) (Gn m c) (dh m c) (i 0) (i 1) + Dx m c (i 0) (i 1) := by
  refine (dats m 0 c).arrAt_eq_of_covers 7 _ (by decide +kernel) fun t hf y => ?_
  blk_simp
  rw [after0_7]
  rcases em (t.val % 32 = 0) with h | h
  on_goal 1 => rw [outsAt0_A m c t h]
  on_goal 2 => rw [outsAt0_B m c t h]
  all_goals
    frame_out
    unfold_payloads
    pointwise [normDx, gradHat, rinv, meanSq, dh, X, Gn, Wg, Wu, Dx, Da, Db]
    blk_point [iblk, V, idx t]

/-- The second result is the gain's gradient, summed over all the rows. -/
theorem dg (c : Dev nD) : (dats m 0 c).arrAt 8 cfg0.N = fun i : S1x1024.Idx =>
    ∑ r : Fin 8192, gainPart w1024 wEps (X m c) (dh m c) r (i 1) := by
  refine (dats m 0 c).arrAt_eq_of_after_last 8 tLast (by decide +kernel) _ fun j => ?_
  blk_simp
  rw [after0_8]
  refine (Pipeline.eq_sum_fin_of_reset_step_apply_last (fun n h => (outsAt0 m c n h).2.1) 32 (fun _ => (0 : EReal))
    (fun t j => ∑ r : Fin 256, gainPart w1024 wEps (X m c) (dh m c) (rowOf (N := 32) (S := 256) t r) (j 1))
    (fun t h j => ?_) (fun t h j => ?_) (by decide) tLast rfl j).trans ?_
  on_goal 3 =>
    rw [zero_add]
    refine Fin.sum_mul_add_congr (S := 32) (n := 256) fun s k hl => ?_
    blk_point [idx tLast]
  on_goal 1 => rw [outsAt0_A m c t h]
  on_goal 2 => rw [outsAt0_B m c t h]
  all_goals
    frame_out
    unfold_payloads
    pointwise [gainPart, rinv, meanSq, dh, X, Gn, Wg, Wu, Dx, Da, Db, rowOf]
    blk_point [iblk, V, idx t]

/-- The third result is half the first. -/
theorem half (c : Dev nD) : (dats m 0 c).arrAt 9 cfg0.N = fun i : S8192x1024.Idx =>
    (normDx w1024 wEps (X m c) (Gn m c) (dh m c) (i 0) (i 1) + Dx m c (i 0) (i 1)) * wHalf := by
  refine (dats m 0 c).arrAt_eq_of_covers 9 _ (by decide +kernel) fun t hf y => ?_
  blk_simp
  rw [after0_9]
  rcases em (t.val % 32 = 0) with h | h
  on_goal 1 => rw [outsAt0_A m c t h]
  on_goal 2 => rw [outsAt0_B m c t h]
  all_goals
    frame_out
    unfold_payloads
    pointwise [normDx, gradHat, rinv, meanSq, dh, X, Gn, Wg, Wu, Dx, Da, Db]
    blk_point [iblk, V, idx t]

end Cert.Step.Dh

end
-- ==== Proof.DhReference.lean ====
/- The derivative of the first feed-forward block's two up projections and their norm: what the reference leaves in its two results. -/
module

public import proofs.«01_k».proof.Proof.NormGrad
public import proofs.«01_k».proof.Defs
public import proofs.«01_k».proof.Proof.Gen.ReferenceDhIdeal.Run

@[expose] public section

set_option maxRecDepth 16384

noncomputable section

namespace Cert.Step.DhRef

open Cert.ReferenceDhIdeal Cert.ReferenceDhIdeal.Gen Idealize.ShloMosaic Idealize.ShloMosaic.TcCoe Idealize.SL.Sem
open scoped BigOperators

variable (m : (ℓ : Loc nD τ sig) → Buf (Elt Ideal) ℓ) (ρ : Dev nD → PrngReg)

/-- The argument arrays on core `c`: the rows, the gain, the two weights, the residual's cotangent, the cotangents of the
    two projections. -/
abbrev X (c : Dev nD) (r : Fin 8192) (k : Fin 1024) : EReal := (m ((c.tc : Thread nD τ).loc main_arg0) : S8192x1024.Idx → EReal) (ix2 r k)
abbrev Gn (c : Dev nD) (k : Fin 1024) : EReal := (m ((c.tc : Thread nD τ).loc main_arg1) : S1024.Idx → EReal) (ix1 k)
abbrev Wg (c : Dev nD) (k : Fin 1024) (q : Fin 2816) : EReal := (m ((c.tc : Thread nD τ).loc main_arg2) : S1024x2816.Idx → EReal) (ix2 k q)
abbrev Wu (c : Dev nD) (k : Fin 1024) (q : Fin 2816) : EReal := (m ((c.tc : Thread nD τ).loc main_arg3) : S1024x2816.Idx → EReal) (ix2 k q)
abbrev Dx (c : Dev nD) (r : Fin 8192) (k : Fin 1024) : EReal := (m ((c.tc : Thread nD τ).loc main_arg4) : S8192x1024.Idx → EReal) (ix2 r k)
abbrev Da (c : Dev nD) (r : Fin 8192) (q : Fin 2816) : EReal := (m ((c.tc : Thread nD τ).loc main_arg5) : S8192x2816.Idx → EReal) (ix2 r q)
abbrev Db (c : Dev nD) (r : Fin 8192) (q : Fin 2816) : EReal := (m ((c.tc : Thread nD τ).loc main_arg6) : S8192x2816.Idx → EReal) (ix2 r q)

/-- The cotangent of the normalised rows. -/
def dh (c : Dev nD) (r : Fin 8192) (k : Fin 1024) : EReal :=
  ∑ q : Fin 2816, Db m c r q * Wu m c k q + ∑ q : Fin 2816, Da m c r q * Wg m c k q

/-- The frame of the reference, which has no semaphores. -/
theorem frame : Cert.quiescent_ReferenceDhIdeal := fun m ρ _ =>
  (θ_run defs _ _).mono (fun r h => ⟨fun c => (h c).2.2.2, sem_eq_zero_of_no_sems (by decide) r.2⟩) (Value.run m ρ)

/-- The run: the first result is the norm's gradient by the product rule plus the residual's cotangent, the second the
    gain's gradient. -/
theorem run : θ_run defs (onTc (τ := τ) (main (F := Ideal))) ⟨m, fun _ => 0, ρ⟩ fun r => ∀ c : Dev nD,
    (r.2.mem ((c.tc : Thread nD τ).loc main_v41) = fun i : S8192x1024.Idx =>
      normDxRule w1024 wEps wNegHalf (X m c) (Gn m c) (dh m c) (i 0) (i 1) + Dx m c (i 0) (i 1))
    ∧ (r.2.mem ((c.tc : Thread nD τ).loc main_v42) = fun i : S1x1024.Idx =>
      ∑ r : Fin 8192, gainPart w1024 wEps (X m c) (dh m c) r (i 1))
    ∧ (r.2.mem ((c.tc : Thread nD τ).loc main_v45) = fun i : S8192x1024.Idx =>
      (normDxRule w1024 wEps wNegHalf (X m c) (Gn m c) (dh m c) (i 0) (i 1) + Dx m c (i 0) (i 1)) * wHalf)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) := by
  refine (θ_run defs _ _).mono (fun _ h c => ⟨(h c).1.trans (funext fun i => ?_), (h c).2.1.trans (funext fun i => ?_),
      (h c).2.2.1.trans (funext fun i => ?_), (h c).2.2.2⟩) (Value.run m ρ)
  · clear * -
    unfold Value.res_main_v41
    pointwise [normDxRule, gradRule, coef, rinv, meanSq, dh, X, Gn, Wg, Wu, Dx, Da, Db]
    rw [Fin.sum_univ_one]
    exact add_last _ _ _ _
  · clear * -
    pointwise [gainPart, rinv, meanSq, dh, X, Gn, Wg, Wu, Dx, Da, Db]
    rw [Fin.sum_univ_one]
    exact Finset.sum_congr rfl fun r _ => mul_comm (G := EReal) _ _
  · clear * -
    unfold Value.res_main_v45
    pointwise [normDxRule, gradRule, coef, rinv, meanSq, dh, X, Gn, Wg, Wu, Dx, Da, Db]
    rw [Fin.sum_univ_one]
    exact (mul_comm _ _).trans (congrArg (· * wHalf) (add_last _ _ _ _))

end Cert.Step.DhRef

end
-- ==== Proof.DhPair.lean ====
/- The feed-forward block's up projections with their norm, backwards, with the half of the result: the kernel's results are the reference's where the arguments that the
   claim asks to be finite are. -/
module

public import proofs.«01_k».proof.Proof.DhKernel
public import proofs.«01_k».proof.Proof.DhReference

@[expose] public section

set_option maxRecDepth 16384

noncomputable section

namespace Cert.Step.DhPair

open Idealize.ShloMosaic Idealize.ShloMosaic.TcCoe Idealize.SL.Sem Cert.KernelDhIdeal
open scoped BigOperators

/-- What the precondition's function states of its shapes. -/
instance finite_facts : Cert.Pre_finite_dh.Facts := by constructor <;> decide

variable {m : (ℓ : Loc nD τ sig) → Buf (Elt Ideal) ℓ}

/-- The cotangent of the normalised rows is finite where its factors are. -/
theorem dh_isReal (h : Cert.Pre_KernelDhIdeal_finite_dh m) (c : Dev nD) (r : Fin 8192) (k : Fin 1024) :
    IsReal (Dh.dh m c r k) :=
  (IsReal.sum fun _ => (isReal_of_pred (fun _ => rfl) (h c).2.2.2.2.1 _).mul (isReal_of_pred (fun _ => rfl) (h c).2.2.1 _)).add
    (IsReal.sum fun _ => (isReal_of_pred (fun _ => rfl) (h c).2.2.2.2.2 _).mul (isReal_of_pred (fun _ => rfl) (h c).2.2.2.1 _))

theorem algebraic : Cert.algebraic_KernelDhIdeal_ReferenceDhIdeal_pre_finite_dh := by
  intro m ρ m' ρ' hp hm
  refine ⟨fun c => (Gen.dats m 0 c).arrAt 7 cfg0.N, fun c => (Gen.dats m 0 c).arrAt 8 cfg0.N, fun c => (Gen.dats m 0 c).arrAt 9 cfg0.N,
    Value.run_blocks m ρ, (θ_run Cert.ReferenceDhIdeal.defs _ _).mono (fun r h c => ?_) (DhRef.run m' ρ')⟩
  obtain ⟨h0, h1, h2, ha⟩ := h c
  obtain ⟨e0, e1, e2, e3, e4, e5, e6⟩ := hm c
  have eX : DhRef.X m' c = Dh.X m c := funext₂ fun _ _ => congrFun e0 _
  have eGn : DhRef.Gn m' c = Dh.Gn m c := funext fun _ => congrFun e1 _
  have eWg : DhRef.Wg m' c = Dh.Wg m c := funext₂ fun _ _ => congrFun e2 _
  have eWu : DhRef.Wu m' c = Dh.Wu m c := funext₂ fun _ _ => congrFun e3 _
  have eDx : DhRef.Dx m' c = Dh.Dx m c := funext₂ fun _ _ => congrFun e4 _
  have eDa : DhRef.Da m' c = Dh.Da m c := funext₂ fun _ _ => congrFun e5 _
  have eDb : DhRef.Db m' c = Dh.Db m c := funext₂ fun _ _ => congrFun e6 _
  have eH : DhRef.dh m' c = Dh.dh m c := funext₂ fun _ _ => by
    unfold DhRef.dh Dh.dh; rw [eWg, eWu, eDa, eDb]; exact add_comm _ _
  rw [eX, eH] at h0 h1 h2
  rw [eGn, eDx] at h0 h2
  have e (i j) : normDx w1024 wEps (Dh.X m c) (Dh.Gn m c) (Dh.dh m c) i j = _ := normDx_eq w1024_pos (fun _ _ => isReal_of_pred (fun _ => rfl) (hp c).1 _)
    (fun _ => isReal_of_pred (fun _ => rfl) (hp c).2.1 _) (dh_isReal hp c) i j
  refine ⟨h0.trans (Eq.trans (funext fun i => ?_) (Dh.dx m c).symm), h1.trans (Dh.dg m c).symm,
    h2.trans (Eq.trans (funext fun i => ?_) (Dh.half m c).symm), ha⟩
  · exact congrArg (· + Dh.Dx m c (i 0) (i 1)) (e _ _).symm
  · exact congrArg (fun x => (x + Dh.Dx m c (i 0) (i 1)) * wHalf) (e _ _).symm

end Cert.Step.DhPair

end
-- ==== Proof.DhnKernel.lean ====
/- The feed-forward block's two up projections fused with their norm's gradient (the call without the half): what the kernel leaves in its two result
   arrays, at an index. -/
module

public import proofs.«01_k».proof.Proof.NormGrad
public import proofs.«01_k».proof.Proof.Gen.KernelDhnIdeal.Value
public import Idealize.ShloMosaic.Lib.Pipeline.ValueKit

@[expose] public section

set_option maxRecDepth 16384

noncomputable section

namespace Cert.Step.Dhn

open Cert.KernelDhnIdeal Cert.KernelDhnIdeal.Gen Idealize.ShloMosaic Idealize.ShloMosaic.TcCoe Idealize.SL.Sem
open scoped BigOperators

variable (m : (ℓ : Loc nD τ sig) → Buf (Elt Ideal) ℓ)

/-- The argument arrays on core `c`: the rows, the gain, the two weights, the residual's cotangent, the cotangents of the
    two projections. -/
abbrev X (c : Dev nD) (r : Fin 8192) (k : Fin 1024) : EReal := (m ((c : Thread nD τ).loc main_arg0) : S8192x1024.Idx → EReal) (ix2 r k)
abbrev Gn (c : Dev nD) (k : Fin 1024) : EReal := (m ((c : Thread nD τ).loc main_arg1) : S1024.Idx → EReal) (ix1 k)
abbrev Wg (c : Dev nD) (k : Fin 1024) (q : Fin 2816) : EReal := (m ((c : Thread nD τ).loc main_arg2) : S1024x2816.Idx → EReal) (ix2 k q)
abbrev Wu (c : Dev nD) (k : Fin 1024) (q : Fin 2816) : EReal := (m ((c : Thread nD τ).loc main_arg3) : S1024x2816.Idx → EReal) (ix2 k q)
abbrev Dx (c : Dev nD) (r : Fin 8192) (k : Fin 1024) : EReal := (m ((c : Thread nD τ).loc main_arg4) : S8192x1024.Idx → EReal) (ix2 r k)
abbrev Da (c : Dev nD) (r : Fin 8192) (q : Fin 2816) : EReal := (m ((c : Thread nD τ).loc main_arg5) : S8192x2816.Idx → EReal) (ix2 r q)
abbrev Db (c : Dev nD) (r : Fin 8192) (q : Fin 2816) : EReal := (m ((c : Thread nD τ).loc main_arg6) : S8192x2816.Idx → EReal) (ix2 r q)

/-- The cotangent of the normalised rows. -/
def dh (c : Dev nD) (r : Fin 8192) (k : Fin 1024) : EReal :=
  ∑ q : Fin 2816, Da m c r q * Wg m c k q + ∑ q : Fin 2816, Db m c r q * Wu m c k q

/-- Where each grid point's blocks lie. -/
theorem idx (t : Fin cfg0.N) : win0_0.index t = ![t.val, 0] ∧
    win0_1.index t = ![t.val, 0] ∧
    win0_2.index t = ![0, 0] ∧
    win0_3.index t = ![0, 0] ∧
    win0_4.index t = ![t.val, 0] ∧
    win0_5.index t = ![0, 0] ∧
    win0_6.index t = ![t.val, 0] ∧
    win0_7.index t = ![t.val, 0] ∧
    win0_8.index t = ![0, 0] :=
  (by decide +kernel : ∀ t : Fin grid0.N, win0_0.index t = ![t.val, 0] ∧
    win0_1.index t = ![t.val, 0] ∧
    win0_2.index t = ![0, 0] ∧
    win0_3.index t = ![0, 0] ∧
    win0_4.index t = ![t.val, 0] ∧
    win0_5.index t = ![0, 0] ∧
    win0_6.index t = ![t.val, 0] ∧
    win0_7.index t = ![t.val, 0] ∧
    win0_8.index t = ![0, 0]) t

/-- The last grid point. -/
abbrev tLast : Fin cfg0.N := ⟨31, by decide⟩

/-- The first result is the norm's gradient plus the residual's cotangent. -/
theorem dx (c : Dev nD) : (dats m 0 c).arrAt 7 cfg0.N = fun i : S8192x1024.Idx =>
    normDx w1024 wEps (X m c) (Gn m c) (dh m c) (i 0) (i 1) + Dx m c (i 0) (i 1) := by
  refine (dats m 0 c).arrAt_eq_of_covers 7 _ (by decide +kernel) fun t hf y => ?_
  blk_simp
  rw [after0_7]
  rcases em (t.val % 32 = 0) with h | h
  on_goal 1 => rw [outsAt0_A m c t h]
  on_goal 2 => rw [outsAt0_B m c t h]
  all_goals
    frame_out
    unfold_payloads
    pointwise [normDx, gradHat, rinv, meanSq, dh, X, Gn, Wg, Wu, Dx, Da, Db]
    blk_point [iblk, V, idx t]

/-- The second result is the gain's gradient, summed over all the rows. -/
theorem dg (c : Dev nD) : (dats m 0 c).arrAt 8 cfg0.N = fun i : S1x1024.Idx =>
    ∑ r : Fin 8192, gainPart w1024 wEps (X m c) (dh m c) r (i 1) := by
  refine (dats m 0 c).arrAt_eq_of_after_last 8 tLast (by decide +kernel) _ fun j => ?_
  blk_simp
  rw [after0_8]
  refine (Pipeline.eq_sum_fin_of_reset_step_apply_last (fun n h => (outsAt0 m c n h).2) 32 (fun _ => (0 : EReal))
    (fun t j => ∑ r : Fin 256, gainPart w1024 wEps (X m c) (dh m c) (rowOf (N := 32) (S := 256) t r) (j 1))
    (fun t h j => ?_) (fun t h j => ?_) (by decide) tLast rfl j).trans ?_
  on_goal 3 =>
    rw [zero_add]
    refine Fin.sum_mul_add_congr (S := 32) (n := 256) fun s k hl => ?_
    blk_point [idx tLast]
  on_goal 1 => rw [outsAt0_A m c t h]
  on_goal 2 => rw [outsAt0_B m c t h]
  all_goals
    frame_out
    unfold_payloads
    pointwise [gainPart, rinv, meanSq, dh, X, Gn, Wg, Wu, Dx, Da, Db, rowOf]
    blk_point [iblk, V, idx t]

end Cert.Step.Dhn

end
-- ==== Proof.DhnReference.lean ====
/- The derivative of the second feed-forward block's two up projections and their norm: what the reference leaves in its two results. -/
module

public import proofs.«01_k».proof.Proof.NormGrad
public import proofs.«01_k».proof.Defs
public import proofs.«01_k».proof.Proof.Gen.ReferenceDhnIdeal.Run

@[expose] public section

set_option maxRecDepth 16384

noncomputable section

namespace Cert.Step.DhnRef

open Cert.ReferenceDhnIdeal Cert.ReferenceDhnIdeal.Gen Idealize.ShloMosaic Idealize.ShloMosaic.TcCoe Idealize.SL.Sem
open scoped BigOperators

variable (m : (ℓ : Loc nD τ sig) → Buf (Elt Ideal) ℓ) (ρ : Dev nD → PrngReg)

/-- The argument arrays on core `c`: the rows, the gain, the two weights, the residual's cotangent, the cotangents of the
    two projections. -/
abbrev X (c : Dev nD) (r : Fin 8192) (k : Fin 1024) : EReal := (m ((c.tc : Thread nD τ).loc main_arg0) : S8192x1024.Idx → EReal) (ix2 r k)
abbrev Gn (c : Dev nD) (k : Fin 1024) : EReal := (m ((c.tc : Thread nD τ).loc main_arg1) : S1024.Idx → EReal) (ix1 k)
abbrev Wg (c : Dev nD) (k : Fin 1024) (q : Fin 2816) : EReal := (m ((c.tc : Thread nD τ).loc main_arg2) : S1024x2816.Idx → EReal) (ix2 k q)
abbrev Wu (c : Dev nD) (k : Fin 1024) (q : Fin 2816) : EReal := (m ((c.tc : Thread nD τ).loc main_arg3) : S1024x2816.Idx → EReal) (ix2 k q)
abbrev Dx (c : Dev nD) (r : Fin 8192) (k : Fin 1024) : EReal := (m ((c.tc : Thread nD τ).loc main_arg4) : S8192x1024.Idx → EReal) (ix2 r k)
abbrev Da (c : Dev nD) (r : Fin 8192) (q : Fin 2816) : EReal := (m ((c.tc : Thread nD τ).loc main_arg5) : S8192x2816.Idx → EReal) (ix2 r q)
abbrev Db (c : Dev nD) (r : Fin 8192) (q : Fin 2816) : EReal := (m ((c.tc : Thread nD τ).loc main_arg6) : S8192x2816.Idx → EReal) (ix2 r q)

/-- The cotangent of the normalised rows. -/
def dh (c : Dev nD) (r : Fin 8192) (k : Fin 1024) : EReal :=
  ∑ q : Fin 2816, Db m c r q * Wu m c k q + ∑ q : Fin 2816, Da m c r q * Wg m c k q

/-- The frame of the reference, which has no semaphores. -/
theorem frame : Cert.quiescent_ReferenceDhnIdeal := fun m ρ _ =>
  (θ_run defs _ _).mono (fun r h => ⟨fun c => (h c).2.2, sem_eq_zero_of_no_sems (by decide) r.2⟩) (Value.run m ρ)

/-- The run: the first result is the norm's gradient by the product rule plus the residual's cotangent, the second the
    gain's gradient. -/
theorem run : θ_run defs (onTc (τ := τ) (main (F := Ideal))) ⟨m, fun _ => 0, ρ⟩ fun r => ∀ c : Dev nD,
    (r.2.mem ((c.tc : Thread nD τ).loc main_v41) = fun i : S8192x1024.Idx =>
      normDxRule w1024 wEps wNegHalf (X m c) (Gn m c) (dh m c) (i 0) (i 1) + Dx m c (i 0) (i 1))
    ∧ (r.2.mem ((c.tc : Thread nD τ).loc main_v42) = fun i : S1x1024.Idx =>
      ∑ r : Fin 8192, gainPart w1024 wEps (X m c) (dh m c) r (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) := by
  refine (θ_run defs _ _).mono (fun _ h c => ⟨(h c).1.trans (funext fun i => ?_), (h c).2.1.trans (funext fun i => ?_),
      (h c).2.2⟩) (Value.run m ρ)
  · clear * -
    unfold Value.res_main_v41
    pointwise [normDxRule, gradRule, coef, rinv, meanSq, dh, X, Gn, Wg, Wu, Dx, Da, Db]
    rw [Fin.sum_univ_one]
    exact add_last _ _ _ _
  · clear * -
    pointwise [gainPart, rinv, meanSq, dh, X, Gn, Wg, Wu, Dx, Da, Db]
    rw [Fin.sum_univ_one]
    exact Finset.sum_congr rfl fun r _ => mul_comm (G := EReal) _ _

end Cert.Step.DhnRef

end
-- ==== Proof.DhnPair.lean ====
/- The feed-forward block's up projections with their norm, backwards: the kernel's results are the reference's where the arguments that the
   claim asks to be finite are. -/
module

public import proofs.«01_k».proof.Proof.DhnKernel
public import proofs.«01_k».proof.Proof.DhnReference

@[expose] public section

set_option maxRecDepth 16384

noncomputable section

namespace Cert.Step.DhnPair

open Idealize.ShloMosaic Idealize.ShloMosaic.TcCoe Idealize.SL.Sem Cert.KernelDhnIdeal
open scoped BigOperators

/-- What the precondition's function states of its shapes. -/
instance finite_facts : Cert.Pre_finite_dhn.Facts := by constructor <;> decide

variable {m : (ℓ : Loc nD τ sig) → Buf (Elt Ideal) ℓ}

/-- The cotangent of the normalised rows is finite where its factors are. -/
theorem dh_isReal (h : Cert.Pre_KernelDhnIdeal_finite_dhn m) (c : Dev nD) (r : Fin 8192) (k : Fin 1024) :
    IsReal (Dhn.dh m c r k) :=
  (IsReal.sum fun _ => (isReal_of_pred (fun _ => rfl) (h c).2.2.2.2.1 _).mul (isReal_of_pred (fun _ => rfl) (h c).2.2.1 _)).add
    (IsReal.sum fun _ => (isReal_of_pred (fun _ => rfl) (h c).2.2.2.2.2 _).mul (isReal_of_pred (fun _ => rfl) (h c).2.2.2.1 _))

theorem algebraic : Cert.algebraic_KernelDhnIdeal_ReferenceDhnIdeal_pre_finite_dhn := by
  intro m ρ m' ρ' hp hm
  refine ⟨fun c => (Gen.dats m 0 c).arrAt 7 cfg0.N, fun c => (Gen.dats m 0 c).arrAt 8 cfg0.N,
    Value.run_blocks m ρ, (θ_run Cert.ReferenceDhnIdeal.defs _ _).mono (fun r h c => ?_) (DhnRef.run m' ρ')⟩
  obtain ⟨h0, h1, ha⟩ := h c
  obtain ⟨e0, e1, e2, e3, e4, e5, e6⟩ := hm c
  have eX : DhnRef.X m' c = Dhn.X m c := funext₂ fun _ _ => congrFun e0 _
  have eGn : DhnRef.Gn m' c = Dhn.Gn m c := funext fun _ => congrFun e1 _
  have eWg : DhnRef.Wg m' c = Dhn.Wg m c := funext₂ fun _ _ => congrFun e2 _
  have eWu : DhnRef.Wu m' c = Dhn.Wu m c := funext₂ fun _ _ => congrFun e3 _
  have eDx : DhnRef.Dx m' c = Dhn.Dx m c := funext₂ fun _ _ => congrFun e4 _
  have eDa : DhnRef.Da m' c = Dhn.Da m c := funext₂ fun _ _ => congrFun e5 _
  have eDb : DhnRef.Db m' c = Dhn.Db m c := funext₂ fun _ _ => congrFun e6 _
  have eH : DhnRef.dh m' c = Dhn.dh m c := funext₂ fun _ _ => by
    unfold DhnRef.dh Dhn.dh; rw [eWg, eWu, eDa, eDb]; exact add_comm _ _
  rw [eX, eH] at h0 h1
  rw [eGn, eDx] at h0
  refine ⟨h0.trans (Eq.trans (funext fun i => ?_) (Dhn.dx m c).symm), h1.trans (Dhn.dg m c).symm, ha⟩
  exact congrArg (· + Dhn.Dx m c (i 0) (i 1)) (normDx_eq w1024_pos (fun _ _ => isReal_of_pred (fun _ => rfl) (hp c).1 _)
    (fun _ => isReal_of_pred (fun _ => rfl) (hp c).2.1 _) (dh_isReal hp c) _ _).symm

end Cert.Step.DhnPair

end
-- ==== Proof.Dh3Kernel.lean ====
/- The cross attention's query projection fused with its norm's gradient: what the kernel leaves in its two result
   arrays, at an index. -/
module

public import proofs.«01_k».proof.Proof.NormGrad
public import proofs.«01_k».proof.Proof.Gen.KernelDh3Ideal.Value
public import Idealize.ShloMosaic.Lib.Pipeline.ValueKit

@[expose] public section

set_option maxRecDepth 16384

noncomputable section

namespace Cert.Step.Dh3

open Cert.KernelDh3Ideal Cert.KernelDh3Ideal.Gen Idealize.ShloMosaic Idealize.ShloMosaic.TcCoe Idealize.SL.Sem
open scoped BigOperators

variable (m : (ℓ : Loc nD τ sig) → Buf (Elt Ideal) ℓ)

/-- The argument arrays on core `c`: the rows, the gain, the weights, the residual's cotangent, the queries' cotangent. -/
abbrev X (c : Dev nD) (r : Fin 8192) (k : Fin 1024) : EReal := (m ((c : Thread nD τ).loc main_arg0) : S8192x1024.Idx → EReal) (ix2 r k)
abbrev Gn (c : Dev nD) (k : Fin 1024) : EReal := (m ((c : Thread nD τ).loc main_arg1) : S1024.Idx → EReal) (ix1 k)
abbrev W (c : Dev nD) (k q : Fin 1024) : EReal := (m ((c : Thread nD τ).loc main_arg2) : S1024x1024.Idx → EReal) (ix2 k q)
abbrev Dx (c : Dev nD) (r : Fin 8192) (k : Fin 1024) : EReal := (m ((c : Thread nD τ).loc main_arg3) : S8192x1024.Idx → EReal) (ix2 r k)
abbrev Dq (c : Dev nD) (r : Fin 8192) (q : Fin 1024) : EReal := (m ((c : Thread nD τ).loc main_arg4) : S8192x1024.Idx → EReal) (ix2 r q)

/-- The cotangent of the normalised rows. -/
def dh (c : Dev nD) (r : Fin 8192) (k : Fin 1024) : EReal := ∑ q : Fin 1024, Dq m c r q * W m c k q

/-- Where each grid point's blocks lie. -/
theorem idx (t : Fin cfg0.N) : win0_0.index t = ![t.val, 0] ∧ win0_1.index t = ![0, 0] ∧ win0_2.index t = ![t.val, 0] ∧
    win0_3.index t = ![0, 0] ∧ win0_4.index t = ![t.val, 0] ∧ win0_5.index t = ![t.val, 0] ∧ win0_6.index t = ![0, 0] :=
  (by decide +kernel : ∀ t : Fin grid0.N, win0_0.index t = ![t.val, 0] ∧ win0_1.index t = ![0, 0] ∧
    win0_2.index t = ![t.val, 0] ∧ win0_3.index t = ![0, 0] ∧ win0_4.index t = ![t.val, 0] ∧
    win0_5.index t = ![t.val, 0] ∧ win0_6.index t = ![0, 0]) t

/-- The first result is the norm's gradient plus the residual's cotangent. -/
theorem dx (c : Dev nD) : (dats m 0 c).arrAt 5 cfg0.N = fun i : S8192x1024.Idx =>
    normDx w1024 wEps (X m c) (Gn m c) (dh m c) (i 0) (i 1) + Dx m c (i 0) (i 1) := by
  refine (dats m 0 c).arrAt_eq_of_covers 5 _ (by decide +kernel) fun t hf y => ?_
  blk_simp
  rw [after0_5]
  rcases em (t.val % 16 = 0) with h | h
  on_goal 1 => rw [outsAt0_A m c t h]
  on_goal 2 => rw [outsAt0_B m c t h]
  all_goals
    frame_out
    unfold_payloads
    pointwise [normDx, gradHat, rinv, meanSq, dh, X, Gn, W, Dx, Dq]
    blk_point [iblk, V, idx t]

/-- The second result is the gain's gradient, summed over all the rows. -/
theorem dg (c : Dev nD) : (dats m 0 c).arrAt 6 cfg0.N = fun i : S1x1024.Idx =>
    ∑ r : Fin 8192, gainPart w1024 wEps (X m c) (dh m c) r (i 1) := by
  refine (dats m 0 c).arrAt_eq_of_after_last 6 t0_15 (by decide +kernel) _ fun j => ?_
  blk_simp
  rw [after0_6]
  refine (Pipeline.eq_sum_fin_of_reset_step_apply_last (fun n h => (outsAt0 m c n h).2) 16 (fun _ => (0 : EReal))
    (fun t j => ∑ r : Fin 512, gainPart w1024 wEps (X m c) (dh m c) (rowOf (N := 16) (S := 512) t r) (j 1))
    (fun t h j => ?_) (fun t h j => ?_) (by decide) t0_15 rfl j).trans ?_
  on_goal 3 =>
    rw [zero_add]
    refine Fin.sum_mul_add_congr (S := 16) (n := 512) fun s k hl => ?_
    blk_point [idx t0_15]
  on_goal 1 => rw [outsAt0_A m c t h]
  on_goal 2 => rw [outsAt0_B m c t h]
  all_goals
    frame_out
    unfold_payloads
    pointwise [gainPart, rinv, meanSq, dh, X, Gn, W, Dx, Dq, rowOf]
    blk_point [iblk, V, idx t]

end Cert.Step.Dh3

end
-- ==== Proof.Dh3Reference.lean ====
/- The derivative of the cross attention's query projection and norm: what the reference leaves in its two results. -/
module

public import proofs.«01_k».proof.Proof.NormGrad
public import proofs.«01_k».proof.Defs
public import proofs.«01_k».proof.Proof.Gen.ReferenceDh3Ideal.Run

@[expose] public section

set_option maxRecDepth 16384

noncomputable section

namespace Cert.Step.Dh3Ref

open Cert.ReferenceDh3Ideal Cert.ReferenceDh3Ideal.Gen Idealize.ShloMosaic Idealize.ShloMosaic.TcCoe Idealize.SL.Sem
open scoped BigOperators

variable (m : (ℓ : Loc nD τ sig) → Buf (Elt Ideal) ℓ) (ρ : Dev nD → PrngReg)

/-- The argument arrays on core `c`: the rows, the gain, the weights, the residual's cotangent, the queries' cotangent. -/
abbrev X (c : Dev nD) (r : Fin 8192) (k : Fin 1024) : EReal := (m ((c.tc : Thread nD τ).loc main_arg0) : S8192x1024.Idx → EReal) (ix2 r k)
abbrev Gn (c : Dev nD) (k : Fin 1024) : EReal := (m ((c.tc : Thread nD τ).loc main_arg1) : S1024.Idx → EReal) (ix1 k)
abbrev W (c : Dev nD) (k q : Fin 1024) : EReal := (m ((c.tc : Thread nD τ).loc main_arg2) : S1024x1024.Idx → EReal) (ix2 k q)
abbrev Dx (c : Dev nD) (r : Fin 8192) (k : Fin 1024) : EReal := (m ((c.tc : Thread nD τ).loc main_arg3) : S8192x1024.Idx → EReal) (ix2 r k)
abbrev Dq (c : Dev nD) (r : Fin 8192) (q : Fin 1024) : EReal := (m ((c.tc : Thread nD τ).loc main_arg4) : S8192x1024.Idx → EReal) (ix2 r q)

/-- The cotangent of the normalised rows. -/
def dh (c : Dev nD) (r : Fin 8192) (k : Fin 1024) : EReal := ∑ q : Fin 1024, Dq m c r q * W m c k q

/-- The frame of the reference, which has no semaphores. -/
theorem frame : Cert.quiescent_ReferenceDh3Ideal := fun m ρ _ =>
  (θ_run defs _ _).mono (fun r h => ⟨fun c => (h c).2.2, sem_eq_zero_of_no_sems (by decide) r.2⟩) (Value.run m ρ)

/-- The run: the first result is the norm's gradient by the product rule plus the residual's cotangent, the second the
    gain's gradient. -/
theorem run : θ_run defs (onTc (τ := τ) (main (F := Ideal))) ⟨m, fun _ => 0, ρ⟩ fun r => ∀ c : Dev nD,
    (r.2.mem ((c.tc : Thread nD τ).loc main_v38) = fun i : S8192x1024.Idx =>
      normDxRule w1024 wEps wNegHalf (X m c) (Gn m c) (dh m c) (i 0) (i 1) + Dx m c (i 0) (i 1))
    ∧ (r.2.mem ((c.tc : Thread nD τ).loc main_v39) = fun i : S1x1024.Idx =>
      ∑ r : Fin 8192, gainPart w1024 wEps (X m c) (dh m c) r (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  refine (θ_run defs _ _).mono (fun _ h c => ⟨(h c).1.trans (funext fun i => ?_), (h c).2.1.trans (funext fun i => ?_),
      (h c).2.2⟩) (Value.run m ρ)
  · clear * -
    unfold Value.res_main_v38
    pointwise [normDxRule, gradRule, coef, rinv, meanSq, dh, X, Gn, W, Dx, Dq]
    rw [Fin.sum_univ_one]
    exact add_last _ _ _ _
  · clear * -
    pointwise [gainPart, rinv, meanSq, dh, X, Gn, W, Dx, Dq]
    rw [Fin.sum_univ_one]
    exact Finset.sum_congr rfl fun r _ => mul_comm (G := EReal) _ _

end Cert.Step.Dh3Ref

end
-- ==== Proof.Dh3Pair.lean ====
/- The query projection with its norm, backwards: the kernel's results are the reference's where the arguments that the
   claim asks to be finite are. -/
module

public import proofs.«01_k».proof.Proof.Dh3Kernel
public import proofs.«01_k».proof.Proof.Dh3Reference

@[expose] public section

set_option maxRecDepth 16384

noncomputable section

namespace Cert.Step.Dh3Pair

open Idealize.ShloMosaic Idealize.ShloMosaic.TcCoe Idealize.SL.Sem Cert.KernelDh3Ideal
open scoped BigOperators

/-- What the precondition's function states of its shapes. -/
instance finite_facts : Cert.Pre_finite_dh3.Facts := by constructor <;> decide

variable {m : (ℓ : Loc nD τ sig) → Buf (Elt Ideal) ℓ}

/-- The cotangent of the normalised rows is finite where its factors are. -/
theorem dh_isReal (h : Cert.Pre_KernelDh3Ideal_finite_dh3 m) (c : Dev nD) (r : Fin 8192) (k : Fin 1024) :
    IsReal (Dh3.dh m c r k) :=
  IsReal.sum fun _ => (isReal_of_pred (fun _ => rfl) (h c).2.2.2 _).mul (isReal_of_pred (fun _ => rfl) (h c).2.2.1 _)

theorem algebraic : Cert.algebraic_KernelDh3Ideal_ReferenceDh3Ideal_pre_finite_dh3 := by
  intro m ρ m' ρ' hp hm
  refine ⟨fun c => (Gen.dats m 0 c).arrAt 5 cfg0.N, fun c => (Gen.dats m 0 c).arrAt 6 cfg0.N,
    Value.run_blocks m ρ, (θ_run Cert.ReferenceDh3Ideal.defs _ _).mono (fun r h c => ?_) (Dh3Ref.run m' ρ')⟩
  obtain ⟨h0, h1, ha⟩ := h c
  obtain ⟨e0, e1, e2, e3, e4⟩ := hm c
  have eX : Dh3Ref.X m' c = Dh3.X m c := funext₂ fun _ _ => congrFun e0 _
  have eG : Dh3Ref.Gn m' c = Dh3.Gn m c := funext fun _ => congrFun e1 _
  have eW : Dh3Ref.W m' c = Dh3.W m c := funext₂ fun _ _ => congrFun e2 _
  have eR : Dh3Ref.Dx m' c = Dh3.Dx m c := funext₂ fun _ _ => congrFun e3 _
  have eQ : Dh3Ref.Dq m' c = Dh3.Dq m c := funext₂ fun _ _ => congrFun e4 _
  have eH : Dh3Ref.dh m' c = Dh3.dh m c := by unfold Dh3Ref.dh Dh3.dh; rw [eW, eQ]
  rw [eX, eH] at h0 h1
  rw [eG, eR] at h0
  refine ⟨h0.trans (Eq.trans (funext fun i => ?_) (Dh3.dx m c).symm), h1.trans (Dh3.dg m c).symm, ha⟩
  exact congrArg (· + Dh3.Dx m c (i 0) (i 1)) (normDx_eq w1024_pos (fun _ _ => isReal_of_pred (fun _ => rfl) (hp c).1 _)
    (fun _ => isReal_of_pred (fun _ => rfl) (hp c).2.1 _) (dh_isReal hp c) _ _).symm

end Cert.Step.Dh3Pair

end
-- ==== Proof.Dh2Kernel.lean ====
/- The mixer's input projection fused with its norm's gradient: what the kernel leaves in its three result
   arrays, at an index. -/
module

public import proofs.«01_k».proof.Proof.NormGrad
public import proofs.«01_k».proof.Proof.Gen.KernelDh2Ideal.Value
public import Idealize.ShloMosaic.Lib.Pipeline.ValueKit

@[expose] public section

set_option maxRecDepth 16384

noncomputable section

namespace Cert.Step.Dh2

open Cert.KernelDh2Ideal Cert.KernelDh2Ideal.Gen Idealize.ShloMosaic Idealize.ShloMosaic.TcCoe Idealize.SL.Sem
open scoped BigOperators

variable (m : (ℓ : Loc nD τ sig) → Buf (Elt Ideal) ℓ)

/-- The argument arrays on core `c`: the rows, the gain, the weights, the residual's cotangent, the projection's cotangent. -/
abbrev X (c : Dev nD) (r : Fin 8192) (k : Fin 1024) : EReal := (m ((c : Thread nD τ).loc main_arg0) : S8192x1024.Idx → EReal) (ix2 r k)
abbrev Gn (c : Dev nD) (k : Fin 1024) : EReal := (m ((c : Thread nD τ).loc main_arg1) : S1024.Idx → EReal) (ix1 k)
abbrev W (c : Dev nD) (k : Fin 1024) (q : Fin 1280) : EReal := (m ((c : Thread nD τ).loc main_arg2) : S1024x1280.Idx → EReal) (ix2 k q)
abbrev Dx (c : Dev nD) (r : Fin 8192) (k : Fin 1024) : EReal := (m ((c : Thread nD τ).loc main_arg3) : S8192x1024.Idx → EReal) (ix2 r k)
abbrev Dp (c : Dev nD) (r : Fin 8192) (q : Fin 1280) : EReal := (m ((c : Thread nD τ).loc main_arg4) : S8192x1280.Idx → EReal) (ix2 r q)

/-- The cotangent of the normalised rows. -/
def dh (c : Dev nD) (r : Fin 8192) (k : Fin 1024) : EReal := ∑ q : Fin 1280, Dp m c r q * W m c k q

/-- Where each grid point's blocks lie. -/
theorem idx (t : Fin cfg0.N) : win0_0.index t = ![t.val, 0] ∧
    win0_1.index t = ![0, 0] ∧
    win0_2.index t = ![t.val, 0] ∧
    win0_3.index t = ![0, 0] ∧
    win0_4.index t = ![t.val, 0] ∧
    win0_5.index t = ![t.val, 0] ∧
    win0_6.index t = ![0, 0] ∧
    win0_7.index t = ![t.val, 0] :=
  (by decide +kernel : ∀ t : Fin grid0.N, win0_0.index t = ![t.val, 0] ∧
    win0_1.index t = ![0, 0] ∧
    win0_2.index t = ![t.val, 0] ∧
    win0_3.index t = ![0, 0] ∧
    win0_4.index t = ![t.val, 0] ∧
    win0_5.index t = ![t.val, 0] ∧
    win0_6.index t = ![0, 0] ∧
    win0_7.index t = ![t.val, 0]) t

/-- The first result is the norm's gradient plus the residual's cotangent. -/
theorem dx (c : Dev nD) : (dats m 0 c).arrAt 5 cfg0.N = fun i : S8192x1024.Idx =>
    normDx w1024 wEps (X m c) (Gn m c) (dh m c) (i 0) (i 1) + Dx m c (i 0) (i 1) := by
  refine (dats m 0 c).arrAt_eq_of_covers 5 _ (by decide +kernel) fun t hf y => ?_
  blk_simp
  rw [after0_5]
  rcases em (t.val % 16 = 0) with h | h
  on_goal 1 => rw [outsAt0_A m c t h]
  on_goal 2 => rw [outsAt0_B m c t h]
  all_goals
    frame_out
    unfold_payloads
    pointwise [normDx, gradHat, rinv, meanSq, dh, X, Gn, W, Dx, Dp]
    blk_point [iblk, V, idx t]

/-- The second result is the gain's gradient, summed over all the rows. -/
theorem dg (c : Dev nD) : (dats m 0 c).arrAt 6 cfg0.N = fun i : S1x1024.Idx =>
    ∑ r : Fin 8192, gainPart w1024 wEps (X m c) (dh m c) r (i 1) := by
  refine (dats m 0 c).arrAt_eq_of_after_last 6 t0_15 (by decide +kernel) _ fun j => ?_
  blk_simp
  rw [after0_6]
  refine (Pipeline.eq_sum_fin_of_reset_step_apply_last (fun n h => (outsAt0 m c n h).2.1) 16 (fun _ => (0 : EReal))
    (fun t j => ∑ r : Fin 512, gainPart w1024 wEps (X m c) (dh m c) (rowOf (N := 16) (S := 512) t r) (j 1))
    (fun t h j => ?_) (fun t h j => ?_) (by decide) t0_15 rfl j).trans ?_
  on_goal 3 =>
    rw [zero_add]
    refine Fin.sum_mul_add_congr (S := 16) (n := 512) fun s k hl => ?_
    blk_point [idx t0_15]
  on_goal 1 => rw [outsAt0_A m c t h]
  on_goal 2 => rw [outsAt0_B m c t h]
  all_goals
    frame_out
    unfold_payloads
    pointwise [gainPart, rinv, meanSq, dh, X, Gn, W, Dx, Dp, rowOf]
    blk_point [iblk, V, idx t]

/-- The third result is half the first. -/
theorem half (c : Dev nD) : (dats m 0 c).arrAt 7 cfg0.N = fun i : S8192x1024.Idx =>
    (normDx w1024 wEps (X m c) (Gn m c) (dh m c) (i 0) (i 1) + Dx m c (i 0) (i 1)) * wHalf := by
  refine (dats m 0 c).arrAt_eq_of_covers 7 _ (by decide +kernel) fun t hf y => ?_
  blk_simp
  rw [after0_7]
  rcases em (t.val % 16 = 0) with h | h
  on_goal 1 => rw [outsAt0_A m c t h]
  on_goal 2 => rw [outsAt0_B m c t h]
  all_goals
    frame_out
    unfold_payloads
    pointwise [normDx, gradHat, rinv, meanSq, dh, X, Gn, W, Dx, Dp]
    blk_point [iblk, V, idx t]

end Cert.Step.Dh2

end
-- ==== Proof.Dh2Reference.lean ====
/- The derivative of the mixer's input projection and norm: what the reference leaves in its two results. -/
module

public import proofs.«01_k».proof.Proof.NormGrad
public import proofs.«01_k».proof.Defs
public import proofs.«01_k».proof.Proof.Gen.ReferenceDh2Ideal.Run

@[expose] public section

set_option maxRecDepth 16384

noncomputable section

namespace Cert.Step.Dh2Ref

open Cert.ReferenceDh2Ideal Cert.ReferenceDh2Ideal.Gen Idealize.ShloMosaic Idealize.ShloMosaic.TcCoe Idealize.SL.Sem
open scoped BigOperators

variable (m : (ℓ : Loc nD τ sig) → Buf (Elt Ideal) ℓ) (ρ : Dev nD → PrngReg)

/-- The argument arrays on core `c`: the rows, the gain, the weights, the residual's cotangent, the projection's cotangent. -/
abbrev X (c : Dev nD) (r : Fin 8192) (k : Fin 1024) : EReal := (m ((c.tc : Thread nD τ).loc main_arg0) : S8192x1024.Idx → EReal) (ix2 r k)
abbrev Gn (c : Dev nD) (k : Fin 1024) : EReal := (m ((c.tc : Thread nD τ).loc main_arg1) : S1024.Idx → EReal) (ix1 k)
abbrev W (c : Dev nD) (k : Fin 1024) (q : Fin 1280) : EReal := (m ((c.tc : Thread nD τ).loc main_arg2) : S1024x1280.Idx → EReal) (ix2 k q)
abbrev Dx (c : Dev nD) (r : Fin 8192) (k : Fin 1024) : EReal := (m ((c.tc : Thread nD τ).loc main_arg3) : S8192x1024.Idx → EReal) (ix2 r k)
abbrev Dp (c : Dev nD) (r : Fin 8192) (q : Fin 1280) : EReal := (m ((c.tc : Thread nD τ).loc main_arg4) : S8192x1280.Idx → EReal) (ix2 r q)

/-- The cotangent of the normalised rows. -/
def dh (c : Dev nD) (r : Fin 8192) (k : Fin 1024) : EReal := ∑ q : Fin 1280, Dp m c r q * W m c k q

/-- The frame of the reference, which has no semaphores. -/
theorem frame : Cert.quiescent_ReferenceDh2Ideal := fun m ρ _ =>
  (θ_run defs _ _).mono (fun r h => ⟨fun c => (h c).2.2.2, sem_eq_zero_of_no_sems (by decide) r.2⟩) (Value.run m ρ)

/-- The run: the first result is the norm's gradient by the product rule plus the residual's cotangent, the second the
    gain's gradient. -/
theorem run : θ_run defs (onTc (τ := τ) (main (F := Ideal))) ⟨m, fun _ => 0, ρ⟩ fun r => ∀ c : Dev nD,
    (r.2.mem ((c.tc : Thread nD τ).loc main_v38) = fun i : S8192x1024.Idx =>
      normDxRule w1024 wEps wNegHalf (X m c) (Gn m c) (dh m c) (i 0) (i 1) + Dx m c (i 0) (i 1))
    ∧ (r.2.mem ((c.tc : Thread nD τ).loc main_v39) = fun i : S1x1024.Idx =>
      ∑ r : Fin 8192, gainPart w1024 wEps (X m c) (dh m c) r (i 1))
    ∧ (r.2.mem ((c.tc : Thread nD τ).loc main_v42) = fun i : S8192x1024.Idx =>
      (normDxRule w1024 wEps wNegHalf (X m c) (Gn m c) (dh m c) (i 0) (i 1) + Dx m c (i 0) (i 1)) * wHalf)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  refine (θ_run defs _ _).mono (fun _ h c => ⟨(h c).1.trans (funext fun i => ?_), (h c).2.1.trans (funext fun i => ?_),
      (h c).2.2.1.trans (funext fun i => ?_), (h c).2.2.2⟩) (Value.run m ρ)
  · clear * -
    unfold Value.res_main_v38
    pointwise [normDxRule, gradRule, coef, rinv, meanSq, dh, X, Gn, W, Dx, Dp]
    rw [Fin.sum_univ_one]
    exact add_last _ _ _ _
  · clear * -
    pointwise [gainPart, rinv, meanSq, dh, X, Gn, W, Dx, Dp]
    rw [Fin.sum_univ_one]
    exact Finset.sum_congr rfl fun r _ => mul_comm (G := EReal) _ _
  · clear * -
    unfold Value.res_main_v42
    pointwise [normDxRule, gradRule, coef, rinv, meanSq, dh, X, Gn, W, Dx, Dp]
    rw [Fin.sum_univ_one]
    exact (mul_comm _ _).trans (congrArg (· * wHalf) (add_last _ _ _ _))

end Cert.Step.Dh2Ref

end
-- ==== Proof.Dh2Pair.lean ====
/- The mixer's input projection with its norm, backwards: the kernel's results are the reference's where the arguments that the
   claim asks to be finite are. -/
module

public import proofs.«01_k».proof.Proof.Dh2Kernel
public import proofs.«01_k».proof.Proof.Dh2Reference

@[expose] public section

set_option maxRecDepth 16384

noncomputable section

namespace Cert.Step.Dh2Pair

open Idealize.ShloMosaic Idealize.ShloMosaic.TcCoe Idealize.SL.Sem Cert.KernelDh2Ideal
open scoped BigOperators

/-- What the precondition's function states of its shapes. -/
instance finite_facts : Cert.Pre_finite_dh2.Facts := by constructor <;> decide

variable {m : (ℓ : Loc nD τ sig) → Buf (Elt Ideal) ℓ}

/-- The cotangent of the normalised rows is finite where its factors are. -/
theorem dh_isReal (h : Cert.Pre_KernelDh2Ideal_finite_dh2 m) (c : Dev nD) (r : Fin 8192) (k : Fin 1024) :
    IsReal (Dh2.dh m c r k) :=
  IsReal.sum fun _ => (isReal_of_pred (fun _ => rfl) (h c).2.2.2 _).mul (isReal_of_pred (fun _ => rfl) (h c).2.2.1 _)

theorem algebraic : Cert.algebraic_KernelDh2Ideal_ReferenceDh2Ideal_pre_finite_dh2 := by
  intro m ρ m' ρ' hp hm
  refine ⟨fun c => (Gen.dats m 0 c).arrAt 5 cfg0.N, fun c => (Gen.dats m 0 c).arrAt 6 cfg0.N, fun c => (Gen.dats m 0 c).arrAt 7 cfg0.N,
    Value.run_blocks m ρ, (θ_run Cert.ReferenceDh2Ideal.defs _ _).mono (fun r h c => ?_) (Dh2Ref.run m' ρ')⟩
  obtain ⟨h0, h1, h2, ha⟩ := h c
  obtain ⟨e0, e1, e2, e3, e4⟩ := hm c
  have eX : Dh2Ref.X m' c = Dh2.X m c := funext₂ fun _ _ => congrFun e0 _
  have eGn : Dh2Ref.Gn m' c = Dh2.Gn m c := funext fun _ => congrFun e1 _
  have eW : Dh2Ref.W m' c = Dh2.W m c := funext₂ fun _ _ => congrFun e2 _
  have eDx : Dh2Ref.Dx m' c = Dh2.Dx m c := funext₂ fun _ _ => congrFun e3 _
  have eDp : Dh2Ref.Dp m' c = Dh2.Dp m c := funext₂ fun _ _ => congrFun e4 _
  have eH : Dh2Ref.dh m' c = Dh2.dh m c := by unfold Dh2Ref.dh Dh2.dh; rw [eW, eDp]
  rw [eX, eH] at h0 h1 h2
  rw [eGn, eDx] at h0 h2
  have e (i j) : normDx w1024 wEps (Dh2.X m c) (Dh2.Gn m c) (Dh2.dh m c) i j = _ := normDx_eq w1024_pos (fun _ _ => isReal_of_pred (fun _ => rfl) (hp c).1 _)
    (fun _ => isReal_of_pred (fun _ => rfl) (hp c).2.1 _) (dh_isReal hp c) i j
  refine ⟨h0.trans (Eq.trans (funext fun i => ?_) (Dh2.dx m c).symm), h1.trans (Dh2.dg m c).symm,
    h2.trans (Eq.trans (funext fun i => ?_) (Dh2.half m c).symm), ha⟩
  · exact congrArg (· + Dh2.Dx m c (i 0) (i 1)) (e _ _).symm
  · exact congrArg (fun x => (x + Dh2.Dx m c (i 0) (i 1)) * wHalf) (e _ _).symm

end Cert.Step.Dh2Pair

end
-- ==== Proof.DmgKernel.lean ====
/- The mixer's output projection fused with the gradients of the two branch norms: what the kernel leaves in its four
   result arrays, at an index. -/
module

public import proofs.«01_k».proof.Proof.NormGrad
public import proofs.«01_k».proof.Proof.Gen.KernelDmgIdeal.Value
public import Idealize.ShloMosaic.Lib.Pipeline.ValueKit

@[expose] public section

set_option maxRecDepth 16384

noncomputable section

namespace Cert.Step.Dmg

open Cert.KernelDmgIdeal Cert.KernelDmgIdeal.Gen Idealize.ShloMosaic Idealize.ShloMosaic.TcCoe Idealize.SL.Sem
open scoped BigOperators

variable (m : (ℓ : Loc nD τ sig) → Buf (Elt Ideal) ℓ)

/-- The argument arrays on core `c`: the two branches' rows, their gains, the output weights, the output's cotangent. -/
abbrev Oa (c : Dev nD) (r : Fin 8192) (k : Fin 512) : EReal := (m ((c : Thread nD τ).loc main_arg0) : S8192x512.Idx → EReal) (ix2 r k)
abbrev Ob (c : Dev nD) (r : Fin 8192) (k : Fin 512) : EReal := (m ((c : Thread nD τ).loc main_arg1) : S8192x512.Idx → EReal) (ix2 r k)
abbrev Ga (c : Dev nD) (k : Fin 512) : EReal := (m ((c : Thread nD τ).loc main_arg2) : S512.Idx → EReal) (ix1 k)
abbrev Gb (c : Dev nD) (k : Fin 512) : EReal := (m ((c : Thread nD τ).loc main_arg3) : S512.Idx → EReal) (ix1 k)
abbrev W (c : Dev nD) (k : Fin 1024) (q : Fin 1024) : EReal := (m ((c : Thread nD τ).loc main_arg4) : S1024x1024.Idx → EReal) (ix2 k q)
abbrev Dx (c : Dev nD) (r : Fin 8192) (k : Fin 1024) : EReal := (m ((c : Thread nD τ).loc main_arg5) : S8192x1024.Idx → EReal) (ix2 r k)

/-- The cotangents of the two normalised branches, which share the output weights' rows. -/
def dhA (c : Dev nD) (r : Fin 8192) (k : Fin 512) : EReal :=
  ∑ q : Fin 1024, Dx m c r q * W m c ⟨k.val, k.isLt.trans (by decide)⟩ q
def dhB (c : Dev nD) (r : Fin 8192) (k : Fin 512) : EReal :=
  ∑ q : Fin 1024, Dx m c r q * W m c ⟨512 + k.val, Nat.add_lt_add_left k.isLt 512⟩ q

/-- Where each grid point's blocks lie. -/
theorem idx (t : Fin cfg0.N) : win0_0.index t = ![t.val, 0] ∧
    win0_1.index t = ![0, 0] ∧
    win0_2.index t = ![t.val, 0] ∧
    win0_3.index t = ![0, 0] ∧
    win0_4.index t = ![t.val, 0] ∧
    win0_5.index t = ![0, 0] ∧
    win0_6.index t = ![t.val, 0] ∧
    win0_7.index t = ![t.val, 0] ∧
    win0_8.index t = ![0, 0] ∧
    win0_9.index t = ![0, 0] :=
  (by decide +kernel : ∀ t : Fin grid0.N, win0_0.index t = ![t.val, 0] ∧
    win0_1.index t = ![0, 0] ∧
    win0_2.index t = ![t.val, 0] ∧
    win0_3.index t = ![0, 0] ∧
    win0_4.index t = ![t.val, 0] ∧
    win0_5.index t = ![0, 0] ∧
    win0_6.index t = ![t.val, 0] ∧
    win0_7.index t = ![t.val, 0] ∧
    win0_8.index t = ![0, 0] ∧
    win0_9.index t = ![0, 0]) t

/-- The first result is the first branch norm's gradient. -/
theorem doa (c : Dev nD) : (dats m 0 c).arrAt 6 cfg0.N = fun i : S8192x512.Idx =>
    normDx w512 wEps (Oa m c) (Ga m c) (dhA m c) (i 0) (i 1) := by
  refine (dats m 0 c).arrAt_eq_of_covers 6 _ (by decide +kernel) fun t hf y => ?_
  blk_simp
  rw [after0_6]
  rcases em (t.val % 16 = 0) with h | h
  on_goal 1 => rw [outsAt0_A m c t h h]
  on_goal 2 => rw [outsAt0_B m c t h h]
  all_goals
    frame_out
    unfold_payloads
    pointwise [normDx, gradHat, rinv, meanSq, dhA, Oa, Ob, Ga, Gb, W, Dx]
    blk_point [iblk, V, idx t]

/-- The second result is the second branch norm's gradient. -/
theorem dob (c : Dev nD) : (dats m 0 c).arrAt 7 cfg0.N = fun i : S8192x512.Idx =>
    normDx w512 wEps (Ob m c) (Gb m c) (dhB m c) (i 0) (i 1) := by
  refine (dats m 0 c).arrAt_eq_of_covers 7 _ (by decide +kernel) fun t hf y => ?_
  blk_simp
  rw [after0_7]
  rcases em (t.val % 16 = 0) with h | h
  on_goal 1 => rw [outsAt0_A m c t h h]
  on_goal 2 => rw [outsAt0_B m c t h h]
  all_goals
    frame_out
    unfold_payloads
    pointwise [normDx, gradHat, rinv, meanSq, dhB, Oa, Ob, Ga, Gb, W, Dx]
    blk_point [iblk, V, idx t]

/-- The third result, gathered over the grid, is the first gain's gradient. -/
theorem dga (c : Dev nD) : (dats m 0 c).arrAt 8 cfg0.N = fun i : S1x512.Idx =>
    ∑ r : Fin 8192, gainPart w512 wEps (Oa m c) (dhA m c) r (i 1) := by
  refine (dats m 0 c).arrAt_eq_of_after_last 8 t0_15 (by decide +kernel) _ fun j => ?_
  blk_simp
  rw [after0_8]
  refine (Pipeline.eq_sum_fin_of_reset_step_apply_last (fun n h => (outsAt0 m c n h).2.2.1) 16 (fun _ => (0 : EReal))
    (fun t j => ∑ r : Fin 512, gainPart w512 wEps (Oa m c) (dhA m c) (rowOf (N := 16) (S := 512) t r) (j 1))
    (fun t h j => ?_) (fun t h j => ?_) (by decide) t0_15 rfl j).trans ?_
  on_goal 3 =>
    rw [zero_add]
    refine Fin.sum_mul_add_congr (S := 16) (n := 512) fun s k hl => ?_
    blk_point [idx t0_15]
  on_goal 1 => rw [outsAt0_A m c t h h]
  on_goal 2 => rw [outsAt0_B m c t h h]
  all_goals
    frame_out
    unfold_payloads
    pointwise [gainPart, rinv, meanSq, dhA, Oa, Ob, Ga, Gb, W, Dx, rowOf]
    blk_point [iblk, V, idx t]

/-- The fourth result, gathered over the grid, is the second gain's gradient. -/
theorem dgb (c : Dev nD) : (dats m 0 c).arrAt 9 cfg0.N = fun i : S1x512.Idx =>
    ∑ r : Fin 8192, gainPart w512 wEps (Ob m c) (dhB m c) r (i 1) := by
  refine (dats m 0 c).arrAt_eq_of_after_last 9 t0_15 (by decide +kernel) _ fun j => ?_
  blk_simp
  rw [after0_9]
  refine (Pipeline.eq_sum_fin_of_reset_step_apply_last (fun n h => (outsAt0 m c n h).2.2.2) 16 (fun _ => (0 : EReal))
    (fun t j => ∑ r : Fin 512, gainPart w512 wEps (Ob m c) (dhB m c) (rowOf (N := 16) (S := 512) t r) (j 1))
    (fun t h j => ?_) (fun t h j => ?_) (by decide) t0_15 rfl j).trans ?_
  on_goal 3 =>
    rw [zero_add]
    refine Fin.sum_mul_add_congr (S := 16) (n := 512) fun s k hl => ?_
    blk_point [idx t0_15]
  on_goal 1 => rw [outsAt0_A m c t h h]
  on_goal 2 => rw [outsAt0_B m c t h h]
  all_goals
    frame_out
    unfold_payloads
    pointwise [gainPart, rinv, meanSq, dhB, Oa, Ob, Ga, Gb, W, Dx, rowOf]
    blk_point [iblk, V, idx t]

end Cert.Step.Dmg

end
-- ==== Proof.DmgReference.lean ====
/- The derivative of the mixer's output projection and its two norms: what the reference leaves in its four results. -/
module

public import proofs.«01_k».proof.Proof.NormGrad
public import proofs.«01_k».proof.Defs
public import proofs.«01_k».proof.Proof.Gen.ReferenceDmgIdeal.Run

@[expose] public section

set_option maxRecDepth 16384

noncomputable section

namespace Cert.Step.DmgRef

open Cert.ReferenceDmgIdeal Cert.ReferenceDmgIdeal.Gen Idealize.ShloMosaic Idealize.ShloMosaic.TcCoe Idealize.SL.Sem
open scoped BigOperators

variable (m : (ℓ : Loc nD τ sig) → Buf (Elt Ideal) ℓ) (ρ : Dev nD → PrngReg)

/-- The argument arrays on core `c`: the two branches' rows, their gains, the output weights, the output's cotangent. -/
abbrev Oa (c : Dev nD) (r : Fin 8192) (k : Fin 512) : EReal := (m ((c.tc : Thread nD τ).loc main_arg0) : S8192x512.Idx → EReal) (ix2 r k)
abbrev Ob (c : Dev nD) (r : Fin 8192) (k : Fin 512) : EReal := (m ((c.tc : Thread nD τ).loc main_arg1) : S8192x512.Idx → EReal) (ix2 r k)
abbrev Ga (c : Dev nD) (k : Fin 512) : EReal := (m ((c.tc : Thread nD τ).loc main_arg2) : S512.Idx → EReal) (ix1 k)
abbrev Gb (c : Dev nD) (k : Fin 512) : EReal := (m ((c.tc : Thread nD τ).loc main_arg3) : S512.Idx → EReal) (ix1 k)
abbrev W (c : Dev nD) (k : Fin 1024) (q : Fin 1024) : EReal := (m ((c.tc : Thread nD τ).loc main_arg4) : S1024x1024.Idx → EReal) (ix2 k q)
abbrev Dx (c : Dev nD) (r : Fin 8192) (k : Fin 1024) : EReal := (m ((c.tc : Thread nD τ).loc main_arg5) : S8192x1024.Idx → EReal) (ix2 r k)

/-- The cotangents of the two normalised branches, which share the output weights' rows. -/
def dhA (c : Dev nD) (r : Fin 8192) (k : Fin 512) : EReal :=
  ∑ q : Fin 1024, Dx m c r q * W m c ⟨k.val, k.isLt.trans (by decide)⟩ q
def dhB (c : Dev nD) (r : Fin 8192) (k : Fin 512) : EReal :=
  ∑ q : Fin 1024, Dx m c r q * W m c ⟨512 + k.val, Nat.add_lt_add_left k.isLt 512⟩ q

/-- The frame of the reference, which has no semaphores. -/
theorem frame : Cert.quiescent_ReferenceDmgIdeal := fun m ρ _ =>
  (θ_run defs _ _).mono (fun r h => ⟨fun c => (h c).2.2.2.2, sem_eq_zero_of_no_sems (by decide) r.2⟩) (Value.run m ρ)

/-- The run: the two norms' gradients by the product rule, then the two gains'. -/
theorem run : θ_run defs (onTc (τ := τ) (main (F := Ideal))) ⟨m, fun _ => 0, ρ⟩ fun r => ∀ c : Dev nD,
    (r.2.mem ((c.tc : Thread nD τ).loc main_v76) = fun i : S8192x512.Idx =>
      normDxRule w512 wEps wNegHalf (Oa m c) (Ga m c) (dhA m c) (i 0) (i 1))
    ∧ (r.2.mem ((c.tc : Thread nD τ).loc main_v56) = fun i : S8192x512.Idx =>
      normDxRule w512 wEps wNegHalf (Ob m c) (Gb m c) (dhB m c) (i 0) (i 1))
    ∧ (r.2.mem ((c.tc : Thread nD τ).loc main_v77) = fun i : S1x512.Idx =>
      ∑ r : Fin 8192, gainPart w512 wEps (Oa m c) (dhA m c) r (i 1))
    ∧ (r.2.mem ((c.tc : Thread nD τ).loc main_v78) = fun i : S1x512.Idx =>
      ∑ r : Fin 8192, gainPart w512 wEps (Ob m c) (dhB m c) r (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) := by
  refine (θ_run defs _ _).mono (fun _ h c => ⟨(h c).1.trans (funext fun i => ?_), (h c).2.1.trans (funext fun i => ?_),
      (h c).2.2.1.trans (funext fun i => ?_), (h c).2.2.2.1.trans (funext fun i => ?_), (h c).2.2.2.2⟩) (Value.run m ρ)
  · clear * -
    unfold Value.res_main_v76
    pointwise [normDxRule, gradRule, coef, rinv, meanSq, dhA, Oa, Ob, Ga, Gb, W, Dx]
    rw [Fin.sum_univ_one]
  · clear * -
    unfold Value.res_main_v56
    pointwise [normDxRule, gradRule, coef, rinv, meanSq, dhB, Oa, Ob, Ga, Gb, W, Dx]
    rw [Fin.sum_univ_one]
  · clear * -
    pointwise [gainPart, rinv, meanSq, dhA, Oa, Ob, Ga, Gb, W, Dx]
    rw [Fin.sum_univ_one]
    exact Finset.sum_congr rfl fun r _ => mul_comm (G := EReal) _ _
  · clear * -
    pointwise [gainPart, rinv, meanSq, dhB, Oa, Ob, Ga, Gb, W, Dx]
    rw [Fin.sum_univ_one]
    exact Finset.sum_congr rfl fun r _ => mul_comm (G := EReal) _ _

end Cert.Step.DmgRef

end
-- ==== Proof.DmgPair.lean ====
/- The mixer's output projection with its two norms, backwards: the kernel's results are the reference's where the
   arguments are finite. -/
module

public import proofs.«01_k».proof.Proof.DmgKernel
public import proofs.«01_k».proof.Proof.DmgReference

@[expose] public section

set_option maxRecDepth 16384

noncomputable section

namespace Cert.Step.DmgPair

open Idealize.ShloMosaic Idealize.ShloMosaic.TcCoe Idealize.SL.Sem Cert.KernelDmgIdeal
open scoped BigOperators

/-- What the precondition's function states of its shapes. -/
instance finite_facts : Cert.Pre_finite_dmg.Facts := by constructor <;> decide

variable {m : (ℓ : Loc nD τ sig) → Buf (Elt Ideal) ℓ}

/-- The two norms' gradients, in the kernel's form and by the product rule. -/
theorem normA (h : Cert.Pre_KernelDmgIdeal_finite_dmg m) (c : Dev nD) (r : Fin 8192) (k : Fin 512) :
    normDx w512 wEps (Dmg.Oa m c) (Dmg.Ga m c) (Dmg.dhA m c) r k
      = normDxRule w512 wEps wNegHalf (Dmg.Oa m c) (Dmg.Ga m c) (Dmg.dhA m c) r k :=
  normDx_eq w512_pos (fun _ _ => isReal_of_pred (fun _ => rfl) (h c).1 _)
    (fun _ => isReal_of_pred (fun _ => rfl) (h c).2.2.1 _) (fun _ _ => IsReal.sum fun _ =>
      (isReal_of_pred (fun _ => rfl) (h c).2.2.2.2.2 _).mul (isReal_of_pred (fun _ => rfl) (h c).2.2.2.2.1 _)) r k
theorem normB (h : Cert.Pre_KernelDmgIdeal_finite_dmg m) (c : Dev nD) (r : Fin 8192) (k : Fin 512) :
    normDx w512 wEps (Dmg.Ob m c) (Dmg.Gb m c) (Dmg.dhB m c) r k
      = normDxRule w512 wEps wNegHalf (Dmg.Ob m c) (Dmg.Gb m c) (Dmg.dhB m c) r k :=
  normDx_eq w512_pos (fun _ _ => isReal_of_pred (fun _ => rfl) (h c).2.1 _)
    (fun _ => isReal_of_pred (fun _ => rfl) (h c).2.2.2.1 _) (fun _ _ => IsReal.sum fun _ =>
      (isReal_of_pred (fun _ => rfl) (h c).2.2.2.2.2 _).mul (isReal_of_pred (fun _ => rfl) (h c).2.2.2.2.1 _)) r k

theorem algebraic : Cert.algebraic_KernelDmgIdeal_ReferenceDmgIdeal_pre_finite_dmg := by
  intro m ρ m' ρ' hp hm
  refine ⟨fun c => (Gen.dats m 0 c).arrAt 6 cfg0.N, fun c => (Gen.dats m 0 c).arrAt 7 cfg0.N,
    fun c => (Gen.dats m 0 c).arrAt 8 cfg0.N, fun c => (Gen.dats m 0 c).arrAt 9 cfg0.N,
    Value.run_blocks m ρ, (θ_run Cert.ReferenceDmgIdeal.defs _ _).mono (fun r h c => ?_) (DmgRef.run m' ρ')⟩
  obtain ⟨h0, h1, h2, h3, ha⟩ := h c
  obtain ⟨e0, e1, e2, e3, e4, e5⟩ := hm c
  have eOa : DmgRef.Oa m' c = Dmg.Oa m c := funext₂ fun _ _ => congrFun e0 _
  have eOb : DmgRef.Ob m' c = Dmg.Ob m c := funext₂ fun _ _ => congrFun e1 _
  have eGa : DmgRef.Ga m' c = Dmg.Ga m c := funext fun _ => congrFun e2 _
  have eGb : DmgRef.Gb m' c = Dmg.Gb m c := funext fun _ => congrFun e3 _
  have eW : DmgRef.W m' c = Dmg.W m c := funext₂ fun _ _ => congrFun e4 _
  have eDx : DmgRef.Dx m' c = Dmg.Dx m c := funext₂ fun _ _ => congrFun e5 _
  have eA : DmgRef.dhA m' c = Dmg.dhA m c := by unfold DmgRef.dhA Dmg.dhA; rw [eW, eDx]
  have eB : DmgRef.dhB m' c = Dmg.dhB m c := by unfold DmgRef.dhB Dmg.dhB; rw [eW, eDx]
  rw [eOa, eA] at h0 h2
  rw [eOb, eB] at h1 h3
  rw [eGa] at h0
  rw [eGb] at h1
  exact ⟨h0.trans (Eq.trans (funext fun _ => (normA hp c _ _).symm) (Dmg.doa m c).symm),
    h1.trans (Eq.trans (funext fun _ => (normB hp c _ _).symm) (Dmg.dob m c).symm),
    h2.trans (Dmg.dga m c).symm, h3.trans (Dmg.dgb m c).symm, ha⟩

end Cert.Step.DmgPair

end
-- ==== Proof.PoolSpec.lean ====
/- Multiscale pooling and its gradient as functions of the inputs, the weights, the scales and the output's cotangent: four
   groups of 128 columns, group `g` averaging each column over the last `2 ^ (g + 1)` rows. -/
module

public import proofs.«01_k».proof.Proof.Reals

@[expose] public section

noncomputable section

namespace Cert.Step.Pool

open Idealize.ShloMosaic
open scoped BigOperators

/-- A column read at any row number, zero below its last row. -/
def ext (u : Fin 8192 → EReal) (n : ℕ) : EReal := if h : n < 8192 then u ⟨n, h⟩ else 0

theorem ext_val (u : Fin 8192 → EReal) (n : Fin 8192) : ext u n.val = u n := dif_pos n.isLt

/-- The sum over the `w` rows that end in row `n`, and over the `w` rows that start in it. -/
def back (w : ℕ) (u : ℕ → EReal) (n : ℕ) : EReal := ∑ k ∈ Finset.range w, if k ≤ n then u (n - k) else 0
def ahead (w : ℕ) (f : ℕ → EReal) (n : ℕ) : EReal := ∑ k ∈ Finset.range w, if n + k < 8192 then f (n + k) else 0

/-- How many rows the window that ends in row `n` has. -/
def count (w n : ℕ) : EReal := (((min (n + 1) w : ℕ) : ℝ) : EReal)

theorem zero_div_count {w : ℕ} (hw : 0 < w) (n : ℕ) : Ideal.div 0 (count w n) = 0 := by
  rw [count, Ideal.div_coe (by positivity), zero_mul]

/-- The words of small numbers, and that count computed with them. -/
theorem toInt_small {n : ℕ} (hn : n < 2 ^ 31) : (BitVec.ofNat 32 n).toInt = n := by
  rw [BitVec.toInt_eq_toNat_cond, BitVec.toNat_ofNat]
  have : n % 2 ^ 32 = n := Nat.mod_eq_of_lt (by omega)
  rw [this, if_pos (by omega)]

theorem count_min {w n : ℕ} (hw : w ≤ 16) (hn : n < 9000) :
    FloatOps.sitofp (F := Ideal) .f32 (IntOp.minsi (BitVec.ofNat 32 (n + 1)) (BitVec.ofNat 32 w)) = count w n := by
  have e : (IntOp.minsi (BitVec.ofNat 32 (n + 1)) (BitVec.ofNat 32 w)).toInt = ((min (n + 1) w : ℕ) : ℤ) := by
    unfold IntOp.minsi
    simp only [BitVec.slt, toInt_small (show n + 1 < 2 ^ 31 by omega), toInt_small (show w < 2 ^ 31 by omega)]
    split_ifs with h
    · rw [toInt_small (by omega)]
      simp at h
      omega
    · rw [toInt_small (by omega)]
      simp at h
      omega
  show (((_ : ℤ) : ℝ) : EReal) = _
  rw [e, count, Int.cast_natCast]

/-- The mean over the window, less the row itself. -/
def pooled (w : ℕ) (u : ℕ → EReal) (n : ℕ) : EReal := Ideal.div (back w u n) (count w n) - u n

/-- Its gradient, `z` being the gradient of the pooled column. -/
def unpooled (w : ℕ) (z : ℕ → EReal) (n : ℕ) : EReal := ahead w (fun k => Ideal.div (z k) (count w k)) n - z n

/-- The window of group `g`; column `c` of group `g`; a column's group and its place in it. -/
def width (g : Fin 4) : ℕ := 2 ^ (g.val + 1)
def col (g : Fin 4) (c : Fin 128) : Fin 512 := ⟨128 * g.val + c.val, by omega⟩
def group (k : Fin 512) : Fin 4 := ⟨k.val / 128, by omega⟩
def lane (k : Fin 512) : Fin 128 := ⟨k.val % 128, by omega⟩

theorem col_group (k : Fin 512) : col (group k) (lane k) = k := Fin.ext (Nat.div_add_mod k.val 128)

variable (U D : Fin 8192 → Fin 512 → EReal) (W : Fin 4 → Fin 128 → Fin 128 → EReal) (S : Fin 512 → EReal)

/-- The pooled inputs, the gradient of the mixed columns, and the gradient of the pooled columns. -/
def pool (g : Fin 4) (c : Fin 128) : ℕ → EReal := pooled (width g) (ext fun r => U r (col g c))
def dMix (k : Fin 512) (n : ℕ) : EReal := ext (fun r => D r k * S k) n
def dPool (g : Fin 4) (c : Fin 128) (n : ℕ) : EReal := ∑ e : Fin 128, dMix D S (col g e) n * W g c e

/-- What row `r` adds to the gradients of the weights and of the scales. -/
def wPart (g : Fin 4) (c e : Fin 128) (r : Fin 8192) : EReal := pool U g c r.val * dMix D S (col g e) r.val
def sPart (g : Fin 4) (e : Fin 128) (r : Fin 8192) : EReal := D r (col g e) * ∑ c : Fin 128, pool U g c r.val * W g c e

end Cert.Step.Pool

end
-- ==== Proof.PoolRows.lean ====
/- Multiscale pooling: the kernel's windows over the rows of one tile, made by doubling with rotations of the rows. -/
module

public import proofs.«01_k».proof.Proof.PoolSpec
public import proofs.«01_k».proof.Proof.Gen.KernelPoolIdeal.Value

@[expose] public section

set_option maxRecDepth 16384

noncomputable section

namespace Cert.Step.Pool

open Cert.KernelPoolIdeal Cert.KernelPoolIdeal.Gen Idealize.ShloMosaic Idealize.ShloMosaic.TcCoe Idealize.SL.Sem
open scoped BigOperators

/-- Row `n` of a tile with its halo. -/
def row (n : ℕ) : Fin 528 := ⟨n % 528, Nat.mod_lt _ (by decide)⟩

theorem row_val (x : Fin 528) : row x.val = x := Fin.ext (Nat.mod_eq_of_lt x.isLt)

/-- `A` holds the sums of `X` over the `w` rows that end in each row; over the `w` rows that start in it. -/
def IsBack (w : ℕ) (X A : FVec Ideal S528x128 .f32) : Prop := ∀ (x : Fin 528) (c : Fin 128), w ≤ x.val + 1 →
  A (ix2 x c) = ∑ k ∈ Finset.range w, X (ix2 (row (x.val - k)) c)
def IsAhead (w : ℕ) (X A : FVec Ideal S528x128 .f32) : Prop := ∀ (x : Fin 528) (c : Fin 128), x.val + w ≤ 528 →
  A (ix2 x c) = ∑ k ∈ Finset.range w, X (ix2 (row (x.val + k)) c)

theorem isBack_one (X : FVec Ideal S528x128 .f32) : IsBack 1 X X := fun x c _ => by
  rw [Finset.sum_range_one, Nat.sub_zero, row_val]

theorem isAhead_one (X : FVec Ideal S528x128 .f32) : IsAhead 1 X X := fun x c _ => by
  rw [Finset.sum_range_one, Nat.add_zero, row_val]

theorem IsBack.double {w : ℕ} {X A : FVec Ideal S528x128 .f32} (hA : IsBack w X A) (hw : w ≤ 16) :
    IsBack (w + w) X (addf A (dynamicRotate 0 (BitVec.ofNat 32 w) none A rotates_S528x128_d0)) := fun x c hx => by
  have h : addf A (dynamicRotate 0 (BitVec.ofNat 32 w) none A rotates_S528x128_d0) (ix2 x c) =
      A (ix2 x c) + A (ix2 (row (x.val - w)) c) := by
    pointwise [row]
    congr 3
    have : (BitVec.ofNat 32 w).toNat = w := by rw [BitVec.toNat_ofNat]; omega
    exact Fin.ext (by simp only [this]; omega)
  rw [h, hA x c (by omega), hA (row (x.val - w)) c (by show _ ≤ (x.val - w) % 528 + 1; omega), Finset.sum_range_add]
  congr 1
  refine Finset.sum_congr rfl fun k hk => ?_
  have : (x.val - w) % 528 - k = x.val - (w + k) := by omega
  show X (ix2 (row ((x.val - w) % 528 - k)) c) = _
  rw [this]

theorem IsAhead.double {w n : ℕ} {X A : FVec Ideal S528x128 .f32} (hA : IsAhead w X A) (hw : w + n = 528) :
    IsAhead (w + w) X (addf A (dynamicRotate 0 (BitVec.ofNat 32 n) none A rotates_S528x128_d0)) := fun x c hx => by
  have h : addf A (dynamicRotate 0 (BitVec.ofNat 32 n) none A rotates_S528x128_d0) (ix2 x c) =
      A (ix2 x c) + A (ix2 (row (x.val + w)) c) := by
    pointwise [row]
    congr 3
    have : (BitVec.ofNat 32 n).toNat = n := by rw [BitVec.toNat_ofNat]; omega
    exact Fin.ext (by simp only [this]; omega)
  rw [h, hA x c (by omega), hA (row (x.val + w)) c (by show (x.val + w) % 528 + w ≤ 528; omega), Finset.sum_range_add]
  congr 1
  refine Finset.sum_congr rfl fun k hk => ?_
  have : (x.val + w) % 528 + k = x.val + (w + k) := by
    have := Finset.mem_range.mp hk
    omega
  show X (ix2 (row ((x.val + w) % 528 + k)) c) = _
  rw [this]

/-- The row numbers the kernel counts with. -/
theorem count_word (w : ℕ) (hw : w ≤ 16) (t r : ℕ) (ht : t < 16) (hr : r < 528) :
    FloatOps.sitofp (F := Ideal) .f32 (IntOp.minsi (IntOp.addi (IntOp.addi (Scalar.muli (BitVec.ofNat 32 t) 512#32) (BitVec.ofNat 32 r)) 1#32)
      (BitVec.ofNat 32 w)) = count w (512 * t + r) := by
  have e1 : IntOp.addi (IntOp.addi (Scalar.muli (BitVec.ofNat 32 t) 512#32) (BitVec.ofNat 32 r)) 1#32 = BitVec.ofNat 32 (512 * t + r + 1) := by
    show BitVec.ofNat 32 t * 512#32 + BitVec.ofNat 32 r + 1#32 = _
    refine BitVec.eq_of_toNat_eq ?_
    simp only [BitVec.toNat_add, BitVec.toNat_mul, BitVec.toNat_ofNat]
    omega
  rw [e1, count_min hw (by omega)]

variable {w t : ℕ}

/-- The pooled columns of a tile. -/
theorem pooled_at (hw : w ≤ 16) (ht : t < 16) {X A : FVec Ideal S528x128 .f32} (hA : IsBack w X A) (f : Fin 128 → ℕ → EReal)
    (hX : ∀ x c, X (ix2 x c) = if 16 ≤ 512 * t + x.val then f c (512 * t + x.val - 16) else 0) (r : Fin 512) (c : Fin 128) :
    subf (divf (extractStridedSlice S512x128 ![16, 0] A slices_S528x128_o16_0_S512x128)
      (broadcastTo S512x128 (sitofp (F := Ideal) .f32 (minsi (addi (addi (broadcast S512x1 (Scalar.muli (BitVec.ofNat 32 t) 512#32))
        (iota .tc S512x1 32 [0] iota_S512x1_d0_w32)) (broadcast S512x1 1#32)) (broadcast S512x1 (BitVec.ofNat 32 w)))) broadcasts_S512x1_S512x128))
      (extractStridedSlice S512x128 ![16, 0] X slices_S528x128_o16_0_S512x128) (ix2 r c) = pooled w (f c) (512 * t + r.val) := by
  pointwise [hX]
  rw [count_word w hw t r.val ht (by omega), hA _ _ (by show w ≤ _ + 1; simp only []; omega), pooled, back]
  congr 1
  · congr 1
    refine Finset.sum_congr rfl fun k hk => ?_
    have := Finset.mem_range.mp hk
    rw [hX]
    have e : (row (16 + r.val - k)).val = 16 + r.val - k := Nat.mod_eq_of_lt (by omega)
    simp only [e]
    split_ifs
    · exact congrArg (f c) (by omega)
    · omega
    · omega
    · rfl
  · rw [if_pos (by omega)]
    exact congrArg (f c) (by omega)

/-- The gradient of the inputs, in a tile. -/
theorem unpooled_at (hw0 : 0 < w) (hw : w ≤ 16) (ht : t < 16) {Z B : FVec Ideal S528x128 .f32}
    (hB : IsAhead w (divf Z (broadcastTo S528x128 (sitofp (F := Ideal) .f32 (minsi (addi (addi (broadcast S528x1 (Scalar.muli (BitVec.ofNat 32 t) 512#32))
        (iota .tc S528x1 32 [0] iota_S528x1_d0_w32)) (broadcast S528x1 1#32)) (broadcast S528x1 (BitVec.ofNat 32 w)))) broadcasts_S528x1_S528x128)) B)
    (z : Fin 128 → ℕ → EReal) (hZ : ∀ x c, Z (ix2 x c) = if 512 * t + x.val < 8192 then z c (512 * t + x.val) else 0) (r : Fin 512) (c : Fin 128) :
    subf (extractStridedSlice S512x128 ![0, 0] B slices_S528x128_o0_0_S512x128)
      (extractStridedSlice S512x128 ![0, 0] Z slices_S528x128_o0_0_S512x128) (ix2 r c) = unpooled w (z c) (512 * t + r.val) := by
  pointwise
  rw [hB _ _ (by simp only []; omega), unpooled, ahead, hZ]
  congr 1
  · refine Finset.sum_congr rfl fun k hk => ?_
    have := Finset.mem_range.mp hk
    pointwise
    rw [hZ, count_word w hw t _ ht (Fin.isLt _)]
    have e : (row (r.val + k)).val = r.val + k := Nat.mod_eq_of_lt (by omega)
    simp only [e, ← Nat.add_assoc]
    split_ifs
    · rfl
    · exact zero_div_count hw0 _
  · exact if_pos (by show 512 * t + r.val < 8192; omega)

end Cert.Step.Pool

end
-- ==== Proof.PoolKernel.lean ====
/- Multiscale pooling's gradient: what the kernel leaves in its three result arrays, at an index. -/
module

public import proofs.«01_k».proof.Proof.PoolRows
public import proofs.«01_k».proof.Proof.Stores

@[expose] public section

set_option maxRecDepth 16384
noncomputable section
namespace Cert.Step.Pool
open Cert.KernelPoolIdeal Cert.KernelPoolIdeal.Gen Idealize.ShloMosaic Idealize.ShloMosaic.TcCoe Idealize.SL.Sem
open scoped BigOperators
variable (m : (ℓ : Loc nD τ sig) → Buf (Elt Ideal) ℓ)

/-- The argument arrays on core `c`: the inputs, the weights, the scales, the output's cotangent. -/
abbrev U (c : Dev nD) (r : Fin 8192) (k : Fin 512) : EReal := (m ((c : Thread nD τ).loc main_arg0) : S8192x512.Idx → EReal) (ix2 r k)
abbrev W (c : Dev nD) (g : Fin 4) (i k : Fin 128) : EReal := (m ((c : Thread nD τ).loc main_arg1) : S4x128x128.Idx → EReal) (ix3 g i k)
abbrev S (c : Dev nD) (k : Fin 512) : EReal := (m ((c : Thread nD τ).loc main_arg2) : S512.Idx → EReal) (ix1 k)
abbrev D (c : Dev nD) (r : Fin 8192) (k : Fin 512) : EReal := (m ((c : Thread nD τ).loc main_arg3) : S8192x512.Idx → EReal) (ix2 r k)

/-- Where each grid point's blocks lie. -/
theorem idx (t : Fin cfg0.N) : win0_0.index t = ![t.val, 0] ∧ win0_1.index t = ![t.val * 32 - 1, 0] ∧ win0_2.index t = ![t.val, 0] ∧
    win0_3.index t = ![min ((t.val + 1) * 32) 511, 0] ∧ win0_4.index t = ![0, 0, 0] ∧ win0_5.index t = ![0, 0] ∧
    win0_6.index t = ![t.val, 0] ∧ win0_7.index t = ![0, 0, 0] ∧ win0_8.index t = ![0, 0] :=
  (by decide +kernel : ∀ t : Fin grid0.N, win0_0.index t = ![t.val, 0] ∧ win0_1.index t = ![t.val * 32 - 1, 0] ∧ win0_2.index t = ![t.val, 0] ∧
    win0_3.index t = ![min ((t.val + 1) * 32) 511, 0] ∧ win0_4.index t = ![0, 0, 0] ∧ win0_5.index t = ![0, 0] ∧
    win0_6.index t = ![t.val, 0] ∧ win0_7.index t = ![0, 0, 0] ∧ win0_8.index t = ![0, 0]) t

theorem coord (t : Fin cfg0.N) : (grid0.coords t 0).val = t.val :=
  (by decide +kernel : ∀ t : Fin grid0.N, (grid0.coords t 0).val = t.val) t

/-- What the blocks hold. -/
theorem blk_u (c : Dev nD) (t : Fin cfg0.N) (r k : Fin 512) : iblk m c 0 t (ix2 r k) = ext (fun r => U m c r k) (512 * t.val + r.val) := by
  rw [ext, dif_pos (show 512 * t.val + r.val < 8192 by have : t.val < 16 := t.isLt; omega)]
  blk_point [iblk, V, idx t]

theorem blk_before (c : Dev nD) (t : Fin cfg0.N) (ht : 0 < t.val) (r : Fin 16) (k : Fin 512) :
    iblk m c 1 t (ix2 r k) = ext (fun r => U m c r k) (512 * t.val + r.val - 16) := by
  rw [ext, dif_pos (show 512 * t.val + r.val - 16 < 8192 by have : t.val < 16 := t.isLt; omega)]
  blk_point [iblk, V, idx t]

theorem blk_d (c : Dev nD) (t : Fin cfg0.N) (r k : Fin 512) : iblk m c 2 t (ix2 r k) = ext (fun r => D m c r k) (512 * t.val + r.val) := by
  rw [ext, dif_pos (show 512 * t.val + r.val < 8192 by have : t.val < 16 := t.isLt; omega)]
  blk_point [iblk, V, idx t]

theorem blk_after (c : Dev nD) (t : Fin cfg0.N) (ht : t.val < 15) (r : Fin 16) (k : Fin 512) :
    iblk m c 3 t (ix2 r k) = ext (fun r => D m c r k) (512 * t.val + 512 + r.val) := by
  rw [ext, dif_pos (show 512 * t.val + 512 + r.val < 8192 by omega)]
  blk_point [iblk, V, idx t]

theorem blk_w (c : Dev nD) (t : Fin cfg0.N) (g : Fin 4) (i k : Fin 128) : iblk m c 4 t (ix3 g i k) = W m c g i k := by
  blk_point [iblk, V, idx t]

theorem blk_s (c : Dev nD) (t : Fin cfg0.N) (k : Fin 512) : iblk m c 5 t (ix2 0 k) = S m c k := by
  blk_point [iblk, V, idx t]

/-- The factors that blank the rows outside the array. -/
theorem flag_before (t : Fin cfg0.N) : (Scalar.extui (Scalar.cmpi .sgt (BitVec.ofNat 32 t.val) 0#32) : BitVec 32).toInt = if 0 < t.val then 1 else 0 :=
  (by decide +kernel : ∀ t : Fin 16, (Scalar.extui (Scalar.cmpi .sgt (BitVec.ofNat 32 t.val) 0#32) : BitVec 32).toInt = if 0 < t.val then 1 else 0) t

theorem flag_after (t : Fin cfg0.N) : (Scalar.extui (Scalar.cmpi .slt (BitVec.ofNat 32 t.val) 15#32) : BitVec 32).toInt = if t.val < 15 then 1 else 0 :=
  (by decide +kernel : ∀ t : Fin 16, (Scalar.extui (Scalar.cmpi .slt (BitVec.ofNat 32 t.val) 15#32) : BitVec 32).toInt = if t.val < 15 then 1 else 0) t

/-- The inputs of a grid point with the sixteen rows before them. -/
theorem tile_u (c : Dev nD) (t : Fin cfg0.N) (x : Fin 528) (k : Fin 512) : k0_pay3 (grid0.coords t) (iblk m c 1 t) (iblk m c 0 t) (ix2 x k) =
    if 16 ≤ 512 * t.val + x.val then ext (fun r => U m c r k) (512 * t.val + x.val - 16) else 0 := by
  unfold k0_pay3
  pointwise
  simp only [coord t, flag_before t]
  by_cases hx : x.val < 16
  · simp only [dif_pos hx]
    by_cases ht : 0 < t.val
    · simp only [if_pos ht, blk_before m c t ht, if_pos (show 16 ≤ 512 * t.val + x.val by omega), Int.cast_one, EReal.coe_one, mul_one]
    · simp only [if_neg ht, if_neg (show ¬16 ≤ 512 * t.val + x.val by omega), Int.cast_zero, EReal.coe_zero, mul_zero]
  · simp only [dif_neg hx, blk_u, if_pos (show 16 ≤ 512 * t.val + x.val by omega)]
    exact congrArg _ (by show 512 * t.val + (x.val - 16) = _; omega)

/-- The output's cotangent of a grid point, with the sixteen rows after it, times the scales. -/
theorem tile_d (c : Dev nD) (t : Fin cfg0.N) (x : Fin 528) (k : Fin 512) :
    k0_pay9 (BitVec.ofNat 32 ↑(grid0.coords t 0)) (iblk m c 3 t) (15#32) (iblk m c 2 t) (iblk m c 5 t) (ix2 x k) =
    if 512 * t.val + x.val < 8192 then dMix (D m c) (S m c) k (512 * t.val + x.val) else 0 := by
  have e (n : ℕ) (hn : n < 8192) : ext (fun r => D m c r k) n * S m c k = dMix (D m c) (S m c) k n := by
    rw [dMix, ext, ext, dif_pos hn, dif_pos hn]
  have h16 : t.val < 16 := t.isLt
  unfold k0_pay9
  pointwise
  simp only [coord t, flag_after t, blk_s]
  by_cases hx : x.val < 512
  · simp only [dif_pos hx, blk_d, if_pos (show 512 * t.val + x.val < 8192 by omega)]
    exact e _ (by show 512 * t.val + x.val < _; omega)
  · simp only [dif_neg hx]
    by_cases ht : t.val < 15
    · simp only [if_pos ht, blk_after m c t ht, if_pos (show 512 * t.val + x.val < 8192 by omega), Int.cast_one, EReal.coe_one, mul_one,
        show 512 * t.val + 512 + (x.val - 512) = 512 * t.val + x.val by omega]
      exact e _ (by omega)
    · simp only [if_neg ht, if_neg (show ¬512 * t.val + x.val < 8192 by omega), Int.cast_zero, EReal.coe_zero, mul_zero, zero_mul]

/-- Four groups of columns side by side. -/
theorem group_col (g : Fin 4) (i : Fin 128) : group (col g i) = g := Fin.ext (by show (128 * g.val + i.val) / 128 = _; omega)
theorem lane_col (g : Fin 4) (i : Fin 128) : lane (col g i) = i := Fin.ext (by show (128 * g.val + i.val) % 128 = _; omega)

theorem groups (k : Fin 512) {f : Fin 512 → EReal} {a b c d : Fin 128 → EReal} (ha : ∀ i, a i = f (col 0 i)) (hb : ∀ i, b i = f (col 1 i))
    (hc : ∀ i, c i = f (col 2 i)) (hd : ∀ i, d i = f (col 3 i)) :
    (if h : k.val < 128 then a ⟨k.val, h⟩ else if h : k.val - 128 < 128 then b ⟨k.val - 128, h⟩ else
      if h : k.val - 128 - 128 < 128 then c ⟨k.val - 128 - 128, h⟩ else d ⟨k.val - 128 - 128 - 128, by omega⟩) = f k := by
  split_ifs with h0 h1 h2
  · exact (ha _).trans (congrArg f (Fin.ext (by show 128 * 0 + k.val = _; omega)))
  · exact (hb _).trans (congrArg f (Fin.ext (by show 128 * 1 + (k.val - 128) = _; omega)))
  · exact (hc _).trans (congrArg f (Fin.ext (by show 128 * 2 + (k.val - 128 - 128) = _; omega)))
  · exact (hd _).trans (congrArg f (Fin.ext (by show 128 * 3 + (k.val - 128 - 128 - 128) = _; omega)))

theorem beside {a b c d : FVec Ideal S512x128 .f32} {r : Fin 512} (k : Fin 512) {f : Fin 512 → EReal} (ha : ∀ i, a (ix2 r i) = f (col 0 i))
    (hb : ∀ i, b (ix2 r i) = f (col 1 i)) (hc : ∀ i, c (ix2 r i) = f (col 2 i)) (hd : ∀ i, d (ix2 r i) = f (col 3 i)) :
    concatenate S512x512 1 [⟨S512x128, a⟩, ⟨S512x128, b⟩, ⟨S512x128, c⟩, ⟨S512x128, d⟩]
      concatenates_S512x128_S512x128_S512x128_S512x128_S512x512_d1 (ix2 r k) = f k := by
  pointwise
  exact groups k ha hb hc hd

theorem beside_row {a b c d : FVec Ideal S1x128 .f32} (k : Fin 512) {f : Fin 512 → EReal} (ha : ∀ i, a (ix2 0 i) = f (col 0 i))
    (hb : ∀ i, b (ix2 0 i) = f (col 1 i)) (hc : ∀ i, c (ix2 0 i) = f (col 2 i)) (hd : ∀ i, d (ix2 0 i) = f (col 3 i)) :
    concatenate S1x512 1 [⟨S1x128, a⟩, ⟨S1x128, b⟩, ⟨S1x128, c⟩, ⟨S1x128, d⟩]
      concatenates_S1x128_S1x128_S1x128_S1x128_S1x512_d1 (ix2 0 k) = f k := by
  pointwise
  exact groups k ha hb hc hd

section Tile

variable (c : Dev nD) (t : Fin cfg0.N)

/-- A group's columns of the inputs with the rows before them. -/
theorem rows_u (g : Fin 4) (X : FVec Ideal S528x128 .f32)
    (hX : ∀ x i, X (ix2 x i) = k0_pay3 (grid0.coords t) (iblk m c 1 t) (iblk m c 0 t) (ix2 x (col g i))) (x : Fin 528) (i : Fin 128) :
    X (ix2 x i) = if 16 ≤ 512 * (grid0.coords t 0).val + x.val then
      ext (fun r => U m c r (col g i)) (512 * (grid0.coords t 0).val + x.val - 16) else 0 := by
  rw [hX, tile_u, coord t]

theorem coord_lt : (grid0.coords t 0).val < 16 := by rw [coord t]; exact t.isLt

/-- The pooled inputs, group by group. -/
theorem pool_0 (r : Fin 512) (i : Fin 128) : k0_pay4 (grid0.coords t) (iblk m c 1 t) (iblk m c 0 t) (ix2 r i) =
    pool (U m c) 0 i (512 * t.val + r.val) :=
  (pooled_at (by decide) (coord_lt t) ((isBack_one _).double (by decide)) _
    (rows_u m c t 0 _ fun x i => by pointwise [col]) r i).trans (by rw [coord t]; rfl)

theorem pool_1 (r : Fin 512) (i : Fin 128) : k0_pay5 (grid0.coords t) (iblk m c 1 t) (iblk m c 0 t) (ix2 r i) =
    pool (U m c) 1 i (512 * t.val + r.val) :=
  (pooled_at (by decide) (coord_lt t) (((isBack_one _).double (by decide)).double (by decide)) _
    (rows_u m c t 1 _ fun x i => by pointwise [col]) r i).trans (by rw [coord t]; rfl)

theorem pool_2 (r : Fin 512) (i : Fin 128) : k0_pay7 (BitVec.ofNat 32 ↑(grid0.coords t 0)) (k0_pay6 (grid0.coords t) (iblk m c 1 t) (iblk m c 0 t)) (ix2 r i) =
    pool (U m c) 2 i (512 * t.val + r.val) :=
  (pooled_at (by decide) (coord_lt t) ((((isBack_one _).double (by decide)).double (by decide)).double (by decide)) _
    (rows_u m c t 2 _ fun x i => by unfold k0_pay6; pointwise [col]) r i).trans (by rw [coord t]; rfl)

theorem pool_3 (r : Fin 512) (i : Fin 128) : k0_pay8 (BitVec.ofNat 32 ↑(grid0.coords t 0)) (k0_pay3 (grid0.coords t) (iblk m c 1 t) (iblk m c 0 t)) (ix2 r i) =
    pool (U m c) 3 i (512 * t.val + r.val) :=
  (pooled_at (by decide) (coord_lt t) (((((isBack_one _).double (by decide)).double (by decide)).double (by decide)).double (by decide)) _
    (rows_u m c t 3 _ fun x i => by pointwise [col]) r i).trans (by rw [coord t]; rfl)

/-- The scaled cotangents and the weights that the kernel multiplies. -/
abbrev dTile : FVec Ideal S528x512 .f32 :=
  k0_pay9 (BitVec.ofNat 32 ↑(grid0.coords t 0)) (iblk m c 3 t) (15#32) (iblk m c 2 t) (iblk m c 5 t)

theorem rows_d (g : Fin 4) (z : FVec Ideal S528x128 .f32)
    (hz : ∀ x i, z (ix2 x i) = ∑ e : Fin 128, dTile m c t (ix2 x (col g e)) * iblk m c 4 t (ix3 g i e)) (x : Fin 528) (i : Fin 128) :
    z (ix2 x i) = if 512 * (grid0.coords t 0).val + x.val < 8192 then
      dPool (D m c) (W m c) (S m c) g i (512 * (grid0.coords t 0).val + x.val) else 0 := by
  rw [hz, coord t]
  simp only [tile_d, blk_w]
  split_ifs
  · rfl
  · simp only [zero_mul, Finset.sum_const_zero]

/-- The gradient of the inputs, group by group. -/
theorem du_0 (r : Fin 512) (i : Fin 128) : k0_pay18 (k0_pay17 (BitVec.ofNat 32 ↑(grid0.coords t 0)) (iblk m c 3 t) (15#32) (iblk m c 2 t) (iblk m c 5 t)
      (View.ld (iblk m c 4 t) (Rect.unit ![0, 0, 0] ![1, 128, 128] inb_S4x128x128_S1x128x128_0_0_0)))
      (Scalar.muli (BitVec.ofNat 32 ↑(grid0.coords t 0)) 512#32) (iota Kind.tc S528x1 32 [0] iota_S528x1_d0_w32) (ix2 r i) =
    unpooled 2 (dPool (D m c) (W m c) (S m c) 0 i) (512 * t.val + r.val) :=
  (unpooled_at (by decide) (by decide) (coord_lt t) ((isAhead_one _).double (by decide)) _
    (rows_d m c t 0 _ fun x i => by unfold k0_pay17 k0_pay14 k0_pay12; pointwise [col]) r i).trans (by rw [coord t])

theorem du_1 (r : Fin 512) (i : Fin 128) : k0_pay27 (k0_pay24 (dTile m c t)
      (View.ld (iblk m c 4 t) (Rect.unit ![1, 0, 0] ![1, 128, 128] inb_S4x128x128_S1x128x128_1_0_0)))
      (k0_pay25 (BitVec.ofNat 32 ↑(grid0.coords t 0))) k0_pay26 (ix2 r i) =
    unpooled 4 (dPool (D m c) (W m c) (S m c) 1 i) (512 * t.val + r.val) :=
  (unpooled_at (by decide) (by decide) (coord_lt t) (((isAhead_one _).double (by decide)).double (by decide)) _
    (rows_d m c t 1 _ fun x i => by unfold k0_pay24 k0_pay21 k0_pay19; pointwise [col]) r i).trans (by rw [coord t])

theorem du_2 (r : Fin 512) (i : Fin 128) : k0_pay35 (k0_pay33 (dTile m c t)
      (View.ld (iblk m c 4 t) (Rect.unit ![2, 0, 0] ![1, 128, 128] inb_S4x128x128_S1x128x128_2_0_0)))
      (k0_pay34 (BitVec.ofNat 32 ↑(grid0.coords t 0))) (ix2 r i) =
    unpooled 8 (dPool (D m c) (W m c) (S m c) 2 i) (512 * t.val + r.val) :=
  (unpooled_at (by decide) (by decide) (coord_lt t) ((((isAhead_one _).double (by decide)).double (by decide)).double (by decide)) _
    (rows_d m c t 2 _ fun x i => by unfold k0_pay33 k0_pay30 k0_pay28; pointwise [col]) r i).trans (by rw [coord t])

/-- The gradient of the inputs at column `k` of row `n`. -/
def dU (k : Fin 512) (n : ℕ) : EReal := unpooled (width (group k)) (dPool (D m c) (W m c) (S m c) (group k) (lane k)) n

theorem du_tile (r k : Fin 512) : k0_pay1
      (k0_pay18
        (k0_pay17 (BitVec.ofNat 32 ↑(grid0.coords t 0)) (iblk m c 3 t) (15#32) (iblk m c 2 t) (iblk m c 5 t)
          (View.ld (iblk m c 4 t) (Rect.unit ![0, 0, 0] ![1, 128, 128] inb_S4x128x128_S1x128x128_0_0_0)))
        (Scalar.muli (BitVec.ofNat 32 ↑(grid0.coords t 0)) 512#32) (iota Kind.tc S528x1 32 [0] iota_S528x1_d0_w32))
      (k0_pay27
        (k0_pay24 (dTile m c t)
          (View.ld (iblk m c 4 t) (Rect.unit ![1, 0, 0] ![1, 128, 128] inb_S4x128x128_S1x128x128_1_0_0)))
        (k0_pay25 (BitVec.ofNat 32 ↑(grid0.coords t 0))) k0_pay26)
      (k0_pay35
        (k0_pay33 (dTile m c t)
          (View.ld (iblk m c 4 t) (Rect.unit ![2, 0, 0] ![1, 128, 128] inb_S4x128x128_S1x128x128_2_0_0)))
        (k0_pay34 (BitVec.ofNat 32 ↑(grid0.coords t 0))))
      (k0_pay41 (dTile m c t)
        (View.ld (iblk m c 4 t) (Rect.unit ![3, 0, 0] ![1, 128, 128] inb_S4x128x128_S1x128x128_3_0_0)))
      (k0_pay42 (BitVec.ofNat 32 ↑(grid0.coords t 0))) (1#32) (ix2 r k) =
    dU m c k (512 * t.val + r.val) := by
  refine beside k (f := fun k => dU m c k (512 * t.val + r.val)) (fun i => (du_0 m c t r i).trans ?_)
    (fun i => (du_1 m c t r i).trans ?_) (fun i => (du_2 m c t r i).trans ?_) (fun i => (unpooled_at (by decide) (by decide) (coord_lt t)
      (((((isAhead_one _).double (by decide)).double (by decide)).double (by decide)).double (by decide)) _
      (rows_d m c t 3 _ fun x i => by unfold k0_pay41 k0_pay38 k0_pay36; pointwise [col]) r i).trans ?_)
  all_goals
    simp only [dU, group_col, lane_col, coord t]
    rfl

end Tile

set_option maxHeartbeats 4000000 in
/-- The first result is the gradient of the inputs. -/
theorem du (c : Dev nD) : (dats m 0 c).arrAt 6 cfg0.N = fun i : S8192x512.Idx => dU m c (i 1) (i 0).val := by
  refine (dats m 0 c).arrAt_eq_of_covers 6 _ (by decide +kernel) fun t hf y => ?_
  blk_simp
  rw [after0_6]
  rcases em (t.val % 16 = 0) with hh | hh
  on_goal 1 => rw [outsAt0_A m c t hh]
  on_goal 2 => rw [outsAt0_B m c t hh]
  all_goals
    frame_out
    refine (congrArg _ (eq_ix2 (n0 := 512) (n1 := 512) y)).trans ((du_tile m c t (y 0) (y 1)).trans ?_)
    rw [Nat.mul_comm]
    refine congrArg₂ (dU m c) (Fin.ext ?_) ?_ <;> blk_point [idx t]

/-- What grid point `t` adds to the gradients of the weights and of the scales. -/
def wTile (c : Dev nD) (t : Fin 16) (g : Fin 4) (i k : Fin 128) : EReal :=
  ∑ r : Fin 512, wPart (U m c) (D m c) (S m c) g i k (rowOf (N := 16) (S := 512) t r)
def sTile (c : Dev nD) (t : Fin 16) (k : Fin 512) : EReal :=
  ∑ r : Fin 512, sPart (U m c) (D m c) (W m c) (group k) (lane k) (rowOf (N := 16) (S := 512) t r)

theorem blk_row (c : Dev nD) (t : Fin cfg0.N) (r k : Fin 512) :
    iblk m c 2 t (ix2 r k) = D m c (rowOf (N := 16) (S := 512) t r) k := by
  blk_point [iblk, V, idx t]

theorem tile_d_lo (c : Dev nD) (t : Fin cfg0.N) (r : Fin 512) (h : r.val < 528) (k : Fin 512) :
    dTile m c t (ix2 ⟨r.val, h⟩ k) = dMix (D m c) (S m c) k (512 * t.val + r.val) :=
  (tile_d m c t _ _).trans (if_pos (by have : t.val < 16 := t.isLt; show 512 * t.val + r.val < 8192; omega))

theorem at_index {j : S4x128x128.Idx} {g : Fin 4} {i k : Fin 128} (h0 : (j 0).val = g.val) (h1 : (j 1).val = i.val) (h2 : (j 2).val = k.val) :
    j = ix3 g i k :=
  (eq_ix3 (n0 := 4) (n1 := 128) (n2 := 128) j).trans (by rw [Fin.ext h0, Fin.ext h1, Fin.ext h2])

set_option maxHeartbeats 4000000 in
theorem w_step (c : Dev nD) (t : Fin cfg0.N) (hh : ¬t.val % 16 = 0) (j : S4x128x128.Idx) : (outsAt0 m c t.val t.isLt).2.1 j =
    (outsAt0 m c (t.val - 1) (Nat.lt_of_le_of_lt (Nat.sub_le _ _) t.isLt)).2.1 j + wTile m c t (j 0) (j 1) (j 2) := by
  rw [outsAt0_B m c t hh]
  frame_out
  canon_tiles x h
  · rw [at_index (g := 3) (by show (j 0).val = 3; omega) h1 h2]
    unfold k0_pay40 k0_pay38 k0_pay37
    pointwise [pool_3 m c t, tile_d_lo m c t, wTile, wPart, col]
    simp only [Nat.mul_comm 512]
  · rw [at_index (g := 2) (by show (j 0).val = 2; omega) h1 h2]
    unfold k0_pay32 k0_pay30 k0_pay29
    pointwise [pool_2 m c t, tile_d_lo m c t, wTile, wPart, col]
    simp only [Nat.mul_comm 512]
  · rw [at_index (g := 1) (by show (j 0).val = 1; omega) h1 h2]
    unfold k0_pay23 k0_pay21 k0_pay20
    pointwise [pool_1 m c t, tile_d_lo m c t, wTile, wPart, col]
    simp only [Nat.mul_comm 512]
  · rw [at_index (g := 0) (by show (j 0).val = 0; omega) h1 h2]
    unfold k0_pay16 k0_pay14 k0_pay13
    pointwise [pool_0 m c t, tile_d_lo m c t, wTile, wPart, col]
    simp only [Nat.mul_comm 512]

set_option maxHeartbeats 4000000 in
theorem w_start (c : Dev nD) (t : Fin cfg0.N) (hh : t.val % 16 = 0) (j : S4x128x128.Idx) : (outsAt0 m c t.val t.isLt).2.1 j =
    0 + wTile m c t (j 0) (j 1) (j 2) := by
  rw [outsAt0_A m c t hh]
  frame_open
  simp (disch := decide) only [↓ View.readCov_skip, ↓ View.readCov_cons_toLoadRect, ↓ View.readCov_fill]
  frame_out
  refine (canon_drop_earlier [_] [_, _, _, _] j
    (View.cover_of_tiledL (s := S4x128x128) _ ![1, 128, 128] (by sl_kernel_rfl) j)).trans ?_
  canon_tiles x h
  · rw [at_index (g := 3) (by show (j 0).val = 3; omega) h1 h2]
    unfold k0_pay40 k0_pay38 k0_pay37 k0_pay10
    pointwise [pool_3 m c t, tile_d_lo m c t, wTile, wPart, col]
    simp only [Nat.mul_comm 512]
  · rw [at_index (g := 2) (by show (j 0).val = 2; omega) h1 h2]
    unfold k0_pay32 k0_pay30 k0_pay29 k0_pay10
    pointwise [pool_2 m c t, tile_d_lo m c t, wTile, wPart, col]
    simp only [Nat.mul_comm 512]
  · rw [at_index (g := 1) (by show (j 0).val = 1; omega) h1 h2]
    unfold k0_pay23 k0_pay21 k0_pay20 k0_pay10
    pointwise [pool_1 m c t, tile_d_lo m c t, wTile, wPart, col]
    simp only [Nat.mul_comm 512]
  · rw [at_index (g := 0) (by show (j 0).val = 0; omega) h1 h2]
    unfold k0_pay16 k0_pay14 k0_pay13 k0_pay10
    pointwise [pool_0 m c t, tile_d_lo m c t, wTile, wPart, col]
    simp only [Nat.mul_comm 512]

/-- The scales' part of each group. -/
theorem s_0 (c : Dev nD) (t : Fin cfg0.N) (i : Fin 128) : k0_pay15 (k0_pay4 (grid0.coords t) (iblk m c 1 t) (iblk m c 0 t))
        (View.ld (iblk m c 4 t) (Rect.unit ![0, 0, 0] ![1, 128, 128] inb_S4x128x128_S1x128x128_0_0_0))
        (View.ld (iblk m c 2 t) (Rect.unit ![0, 0] ![512, 128] inb_S512x512_S512x128_0_0)) (ix2 0 i) = sTile m c t (col 0 i) := by
  unfold k0_pay15 k0_pay13 k0_pay12
  pointwise [pool_0 m c t, blk_w, blk_row, sTile, sPart, group_col, lane_col]
  simp only [Nat.mul_comm 512]
  rw [show col 0 i = ⟨i.val, by omega⟩ from Fin.ext (Nat.zero_add _)]

theorem s_1 (c : Dev nD) (t : Fin cfg0.N) (i : Fin 128) : k0_pay22 (k0_pay5 (grid0.coords t) (iblk m c 1 t) (iblk m c 0 t))
        (View.ld (iblk m c 4 t) (Rect.unit ![1, 0, 0] ![1, 128, 128] inb_S4x128x128_S1x128x128_1_0_0))
        (View.ld (iblk m c 2 t) (Rect.unit ![0, 128] ![512, 128] inb_S512x512_S512x128_0_128)) (ix2 0 i) = sTile m c t (col 1 i) := by
  unfold k0_pay22 k0_pay20 k0_pay19
  pointwise [pool_1 m c t, blk_w, blk_row, sTile, sPart, group_col, lane_col]
  simp only [Nat.mul_comm 512]
  rfl

theorem s_2 (c : Dev nD) (t : Fin cfg0.N) (i : Fin 128) : k0_pay31 (k0_pay7 (BitVec.ofNat 32 ↑(grid0.coords t 0)) (k0_pay6 (grid0.coords t) (iblk m c 1 t) (iblk m c 0 t)))
        (View.ld (iblk m c 4 t) (Rect.unit ![2, 0, 0] ![1, 128, 128] inb_S4x128x128_S1x128x128_2_0_0))
        (View.ld (iblk m c 2 t) (Rect.unit ![0, 256] ![512, 128] inb_S512x512_S512x128_0_256)) (ix2 0 i) = sTile m c t (col 2 i) := by
  unfold k0_pay31 k0_pay29 k0_pay28
  pointwise [pool_2 m c t, blk_w, blk_row, sTile, sPart, group_col, lane_col]
  simp only [Nat.mul_comm 512]
  rfl

theorem s_3 (c : Dev nD) (t : Fin cfg0.N) (i : Fin 128) : k0_pay39 (k0_pay8 (BitVec.ofNat 32 ↑(grid0.coords t 0)) (k0_pay3 (grid0.coords t) (iblk m c 1 t) (iblk m c 0 t)))
        (View.ld (iblk m c 4 t) (Rect.unit ![3, 0, 0] ![1, 128, 128] inb_S4x128x128_S1x128x128_3_0_0))
        (View.ld (iblk m c 2 t) (Rect.unit ![0, 384] ![512, 128] inb_S512x512_S512x128_0_384)) (ix2 0 i) = sTile m c t (col 3 i) := by
  unfold k0_pay39 k0_pay37 k0_pay36
  pointwise [pool_3 m c t, blk_w, blk_row, sTile, sPart, group_col, lane_col]
  simp only [Nat.mul_comm 512]
  rfl

theorem s_sum (c : Dev nD) (t : Fin cfg0.N) (v : Vec Ideal S1x512 .f32) (j : S1x512.Idx) : k0_pay2
      (k0_pay15 (k0_pay4 (grid0.coords t) (iblk m c 1 t) (iblk m c 0 t))
        (View.ld (iblk m c 4 t) (Rect.unit ![0, 0, 0] ![1, 128, 128] inb_S4x128x128_S1x128x128_0_0_0))
        (View.ld (iblk m c 2 t) (Rect.unit ![0, 0] ![512, 128] inb_S512x512_S512x128_0_0)))
      (k0_pay22 (k0_pay5 (grid0.coords t) (iblk m c 1 t) (iblk m c 0 t))
        (View.ld (iblk m c 4 t) (Rect.unit ![1, 0, 0] ![1, 128, 128] inb_S4x128x128_S1x128x128_1_0_0))
        (View.ld (iblk m c 2 t) (Rect.unit ![0, 128] ![512, 128] inb_S512x512_S512x128_0_128)))
      (k0_pay31 (k0_pay7 (BitVec.ofNat 32 ↑(grid0.coords t 0)) (k0_pay6 (grid0.coords t) (iblk m c 1 t) (iblk m c 0 t)))
        (View.ld (iblk m c 4 t) (Rect.unit ![2, 0, 0] ![1, 128, 128] inb_S4x128x128_S1x128x128_2_0_0))
        (View.ld (iblk m c 2 t) (Rect.unit ![0, 256] ![512, 128] inb_S512x512_S512x128_0_256)))
      (k0_pay39 (k0_pay8 (BitVec.ofNat 32 ↑(grid0.coords t 0)) (k0_pay3 (grid0.coords t) (iblk m c 1 t) (iblk m c 0 t)))
        (View.ld (iblk m c 4 t) (Rect.unit ![3, 0, 0] ![1, 128, 128] inb_S4x128x128_S1x128x128_3_0_0))
        (View.ld (iblk m c 2 t) (Rect.unit ![0, 384] ![512, 128] inb_S512x512_S512x128_0_384)))
      v j = v j + sTile m c t (j 1) := by
  have ej : j = ix2 0 (j 1) := (eq_ix2 (n0 := 1) (n1 := 512) j).trans (by rw [Subsingleton.elim (α := Fin 1) (j 0) 0]; rfl)
  unfold k0_pay2
  refine congrArg₂ (fun x y : EReal => x + y) (by pointwise) ((congrArg _ ej).trans
    (beside_row (j 1) (f := sTile m c t) (s_0 m c t) (s_1 m c t) (s_2 m c t) (s_3 m c t)))

set_option maxHeartbeats 4000000 in
theorem s_step (c : Dev nD) (t : Fin cfg0.N) (hh : ¬t.val % 16 = 0) (j : S1x512.Idx) : (outsAt0 m c t.val t.isLt).2.2 j =
    (outsAt0 m c (t.val - 1) (Nat.lt_of_le_of_lt (Nat.sub_le _ _) t.isLt)).2.2 j + sTile m c t (j 1) := by
  rw [outsAt0_B m c t hh]
  frame_out
  exact s_sum m c t _ j

set_option maxHeartbeats 4000000 in
theorem s_start (c : Dev nD) (t : Fin cfg0.N) (hh : t.val % 16 = 0) (j : S1x512.Idx) : (outsAt0 m c t.val t.isLt).2.2 j =
    0 + sTile m c t (j 1) := by
  rw [outsAt0_A m c t hh]
  frame_out
  exact (s_sum m c t _ j).trans (congrArg (· + sTile m c t (j 1)) (by unfold k0_pay11; pointwise))

/-- The second result is the gradient of the weights. -/
theorem dw (c : Dev nD) : (dats m 0 c).arrAt 7 cfg0.N = fun i : S4x128x128.Idx =>
    ∑ r : Fin 8192, wPart (U m c) (D m c) (S m c) (i 0) (i 1) (i 2) r := by
  refine (dats m 0 c).arrAt_eq_of_after_last 7 t0_15 (by decide +kernel) _ fun j => ?_
  blk_simp
  rw [after0_7]
  refine (Pipeline.eq_sum_fin_of_reset_step_apply_last (fun n h => (outsAt0 m c n h).2.1) 16 (fun _ => (0 : EReal))
    (fun t j => wTile m c t (j 0) (j 1) (j 2)) (fun t h j => w_start m c t h j) (fun t h j => w_step m c t h j)
    (by decide) t0_15 rfl j).trans ?_
  rw [zero_add]
  refine Fin.sum_mul_add_congr (S := 16) (n := 512) fun s k hl => ?_
  blk_point [idx t0_15]

/-- The third result is the gradient of the scales. -/
theorem ds (c : Dev nD) : (dats m 0 c).arrAt 8 cfg0.N = fun i : S1x512.Idx =>
    ∑ r : Fin 8192, sPart (U m c) (D m c) (W m c) (group (i 1)) (lane (i 1)) r := by
  refine (dats m 0 c).arrAt_eq_of_after_last 8 t0_15 (by decide +kernel) _ fun j => ?_
  blk_simp
  rw [after0_8]
  refine (Pipeline.eq_sum_fin_of_reset_step_apply_last (fun n h => (outsAt0 m c n h).2.2) 16 (fun _ => (0 : EReal))
    (fun t j => sTile m c t (j 1)) (fun t h j => s_start m c t h j) (fun t h j => s_step m c t h j)
    (by decide) t0_15 rfl j).trans ?_
  rw [zero_add]
  refine Fin.sum_mul_add_congr (S := 16) (n := 512) fun s k hl => ?_
  blk_point [idx t0_15]

end Cert.Step.Pool
end
-- ==== Proof.PoolSums.lean ====
/- Sums over windows of rows: the host's window sum at an index, and the two ways to take a window's sum out of a running sum. -/
module

public import proofs.«01_k».proof.Proof.PoolSpec

@[expose] public section

set_option maxRecDepth 16384

noncomputable section

namespace Cert.Step.Pool

open Idealize.ShloMosaic
open scoped BigOperators

theorem foldl_add {ι : Type} (f : ι → EReal) (l : List ι) (v : EReal) :
    l.foldl (fun r n => r + f n) v = v + (l.map f).sum := by
  induction l generalizing v with
  | nil => simp
  | cons a l ih => rw [List.foldl_cons, ih, List.map_cons, List.sum_cons, add_assoc]

/-- Columns of 8192 rows in four groups. -/
abbrev Cols : Shape := ⟨3, ![8192, 4, 128]⟩

/-- Column `c` of group `g` read at any row number. -/
def colAt (x : Cols.Idx → EReal) (g : Fin 4) (c : Fin 128) (n : ℕ) : EReal := ext (fun r => x (ix3 r g c)) n

theorem colAt_lt (x : Cols.Idx → EReal) (g : Fin 4) (c : Fin 128) {n : ℕ} (h : n < 8192) : colAt x g c n = x (ix3 ⟨n, h⟩ g c) := dif_pos h
theorem colAt_ge (x : Cols.Idx → EReal) (g : Fin 4) (c : Fin 128) {n : ℕ} (h : ¬n < 8192) : colAt x g c n = 0 := dif_neg h

/-- The host's sum over windows of 8192 rows, padded low by `lo`. -/
theorem windowSum_at {lo hi : ℕ} (x : Cols.Idx → EReal) (init : (⟨0, ![]⟩ : Shape).Idx → EReal)
    (h : Cols.ReduceWindows (![8192, 1, 1] : Fin 3 → ℕ) ![1, 1, 1] ![lo, 0, 0] ![hi, 0, 0] Cols)
    (hu : 0 < (⟨0, ![]⟩ : Shape).numel) (hv : init (Shape.Idx.first hu) = 0) (j : Cols.Idx) :
    Host.reduceWindow (fun a b : EReal => a + b) ![8192, 1, 1] ![1, 1, 1] ![lo, 0, 0] ![hi, 0, 0] x init h hu j
      = ∑ n : Fin 8192, if lo ≤ (j 0).val + n.val then colAt x (j 1) (j 2) ((j 0).val + n.val - lo) else 0 := by
  unfold Host.reduceWindow
  dsimp only
  rw [foldl_add, hv, zero_add, ← Fin.sum_univ_def]
  refine (Equiv.sum_comp (Shape.rowMajor ⟨3, ![8192, 1, 1]⟩).symm (fun i : (⟨3, ![8192, 1, 1]⟩ : Shape).Idx =>
    if lo ≤ (j 0).val + (i 0).val then colAt x (j 1) (j 2) ((j 0).val + (i 0).val - lo) else 0) |>.symm.trans ?_).symm.trans ?_
  · refine Finset.sum_congr rfl fun n _ => ?_
    have h1 : ((Shape.rowMajor ⟨3, ![8192, 1, 1]⟩).symm n 1).val = 0 := Nat.lt_one_iff.1 (Fin.isLt _)
    have h2 : ((Shape.rowMajor ⟨3, ![8192, 1, 1]⟩).symm n 2).val = 0 := Nat.lt_one_iff.1 (Fin.isLt _)
    have hj1 : (j 1).val < 4 := (j 1).isLt
    have hj2 : (j 2).val < 128 := (j 2).isLt
    symm
    split
    · next hin =>
      have h0 := hin 0
      change lo ≤ (j 0).val * 1 + ((Shape.rowMajor ⟨3, ![8192, 1, 1]⟩).symm n 0).val
        ∧ (j 0).val * 1 + ((Shape.rowMajor ⟨3, ![8192, 1, 1]⟩).symm n 0).val - lo < 8192 at h0
      rw [Nat.mul_one] at h0
      refine ((if_pos h0.1).trans ((colAt_lt x _ _ h0.2).trans ?_)).symm
      refine congrArg x (funext fun a => Fin.ext ?_)
      match a with
      | ⟨0, _⟩ =>
        show (j 0).val + ((Shape.rowMajor ⟨3, ![8192, 1, 1]⟩).symm n 0).val - lo
          = (j 0).val * 1 + ((Shape.rowMajor ⟨3, ![8192, 1, 1]⟩).symm n 0).val - lo
        rw [Nat.mul_one]
      | ⟨1, _⟩ =>
        show (j 1).val = (j 1).val * 1 + ((Shape.rowMajor ⟨3, ![8192, 1, 1]⟩).symm n 1).val - 0
        omega
      | ⟨2, _⟩ =>
        show (j 2).val = (j 2).val * 1 + ((Shape.rowMajor ⟨3, ![8192, 1, 1]⟩).symm n 2).val - 0
        omega
    · next hin =>
      split
      · next hlo =>
        refine (colAt_ge x _ _ fun hlt => hin fun a => ?_).symm
        match a with
        | ⟨0, _⟩ =>
          show lo ≤ (j 0).val * 1 + ((Shape.rowMajor ⟨3, ![8192, 1, 1]⟩).symm n 0).val
            ∧ (j 0).val * 1 + ((Shape.rowMajor ⟨3, ![8192, 1, 1]⟩).symm n 0).val - lo < 8192
          rw [Nat.mul_one]
          exact ⟨hlo, hlt⟩
        | ⟨1, _⟩ =>
          show 0 ≤ (j 1).val * 1 + ((Shape.rowMajor ⟨3, ![8192, 1, 1]⟩).symm n 1).val
            ∧ (j 1).val * 1 + ((Shape.rowMajor ⟨3, ![8192, 1, 1]⟩).symm n 1).val - 0 < 4
          omega
        | ⟨2, _⟩ =>
          show 0 ≤ (j 2).val * 1 + ((Shape.rowMajor ⟨3, ![8192, 1, 1]⟩).symm n 2).val
            ∧ (j 2).val * 1 + ((Shape.rowMajor ⟨3, ![8192, 1, 1]⟩).symm n 2).val - 0 < 128
          omega
      · rfl
  · rw [sum_idx3]
    refine Finset.sum_congr rfl fun a _ => ?_
    rw [Fin.sum_univ_one, Fin.sum_univ_one]
    rfl

theorem windowAdd_at {lo hi : ℕ} (x : FVec Ideal Cols .f32) (init : FVec Ideal ⟨0, ![]⟩ .f32)
    (h : Cols.ReduceWindows (![8192, 1, 1] : Fin 3 → ℕ) ![1, 1, 1] ![lo, 0, 0] ![hi, 0, 0] Cols)
    (hu : 0 < (⟨0, ![]⟩ : Shape).numel) (hv : init (Shape.Idx.first hu) = (0 : EReal)) (j : Cols.Idx) :
    Host.reduceWindowAdd ![8192, 1, 1] ![1, 1, 1] ![lo, 0, 0] ![hi, 0, 0] x init h hu j
      = ∑ n : Fin 8192, if lo ≤ (j 0).val + n.val then colAt x (j 1) (j 2) ((j 0).val + n.val - lo) else 0 := by
  unfold Host.reduceWindowAdd
  rw [Ideal.hostReduceWindowAdd_def]
  unfold Ideal.hostReduceWindowAdd
  rw [windowSum_at]
  exact hv

/-- The running sums from the top and from the bottom. -/
theorem runDown_at (x : ℕ → EReal) (n : ℕ) (hn : n < 8192) :
    (∑ k : Fin 8192, if 8191 ≤ n + k.val then x (n + k.val - 8191) else 0) = back 8192 x n := by
  rw [Fin.sum_univ_eq_sum_range (fun k => if 8191 ≤ n + k then x (n + k - 8191) else 0), ← Finset.sum_range_reflect, back]
  refine Finset.sum_congr rfl fun k hk => ?_
  have := Finset.mem_range.1 hk
  by_cases h : k ≤ n
  · rw [if_pos (by omega), if_pos h]; exact congrArg x (by omega)
  · rw [if_neg (by omega), if_neg h]

theorem runUp_at (u : Fin 8192 → EReal) (n : ℕ) :
    (∑ k : Fin 8192, if 0 ≤ n + k.val then ext u (n + k.val - 0) else 0) = ahead 8192 (ext u) n := by
  rw [Fin.sum_univ_eq_sum_range (fun k => if 0 ≤ n + k then ext u (n + k - 0) else 0), ahead]
  refine Finset.sum_congr rfl fun k _ => ?_
  rw [if_pos (Nat.zero_le _), Nat.sub_zero]
  split
  · rfl
  · next h => exact dif_neg h

theorem back_all {M n : ℕ} (h : n < M) (u : ℕ → EReal) : back M u n = ∑ k ∈ Finset.range (n + 1), u (n - k) := by
  rw [back, ← Finset.sum_filter]
  refine Finset.sum_congr (Finset.ext fun k => ?_) fun _ _ => rfl
  simp only [Finset.mem_filter, Finset.mem_range]; omega

theorem ext_isReal {u : Fin 8192 → EReal} (hu : ∀ r, IsReal (u r)) (n : ℕ) : IsReal (ext u n) := by
  unfold ext
  split
  · exact hu _
  · exact ⟨0, rfl⟩

theorem back_isReal {w n : ℕ} {u : ℕ → EReal} (hu : ∀ n, IsReal (u n)) : IsReal (back w u n) :=
  IsReal.sum fun k => by split <;> [exact hu _; exact ⟨0, rfl⟩]

/-- A window's sum is what the running sum gains over it. -/
theorem back_sub {w n : ℕ} (hn : n < 8192) (hw : w ≤ 8192) {u : ℕ → EReal} (hu : ∀ n, IsReal (u n)) :
    back 8192 u n - (if n + 1 ≤ w then 0 else back 8192 u (n - w)) = back w u n := by
  split
  · next h => rw [sub_zero, back_all hn, back_all (by omega)]
  · next h =>
    obtain ⟨b, hb⟩ := back_isReal (w := 8192) (n := n - w) hu
    have e : back 8192 u n = back w u n + back 8192 u (n - w) := by
      rw [back_all hn, back_all (by omega : n - w < 8192), show n + 1 = w + (n - w + 1) by omega, Finset.sum_range_add, back]
      congr 1
      · refine Finset.sum_congr rfl fun k hk => (if_pos ?_).symm
        have := Finset.mem_range.1 hk; omega
      · exact Finset.sum_congr rfl fun k _ => congrArg u (by omega)
    obtain ⟨a, ha⟩ := back_isReal (w := w) (n := n) hu
    rw [e, ha, hb, ← EReal.coe_add, ← EReal.coe_sub, add_sub_cancel_right]

theorem sum_range_up (f : ℕ → ℝ) (N n : ℕ) :
    (∑ k ∈ Finset.range N, if n + k < N then f (n + k) else 0) = ∑ r ∈ Finset.range N, if n ≤ r then f r else 0 := by
  rw [← Finset.sum_filter, ← Finset.sum_filter]
  refine Finset.sum_bij (fun k _ => n + k) (fun k hk => ?_) (fun a _ b _ h => by omega) (fun r hr => ⟨r - n, ?_, ?_⟩) fun _ _ => rfl
  · simp only [Finset.mem_filter, Finset.mem_range] at hk ⊢; omega
  · simp only [Finset.mem_filter, Finset.mem_range] at hr ⊢; omega
  · simp only [Finset.mem_filter, Finset.mem_range] at hr; omega

/-- What comes back from the running sum: each row's term, less the term of the row whose window starts after it. -/
theorem ahead_real (f : ℕ → ℝ) (N w n : ℕ) :
    (∑ r ∈ Finset.range N, if n ≤ r then (∑ t ∈ Finset.range N, if t + 1 - w = r + 1 then -f t else 0) + f r else 0)
      = ∑ r ∈ Finset.range N, if n ≤ r ∧ r < n + w then f r else 0 := by
  have e : (∑ r ∈ Finset.range N, if n ≤ r then ∑ t ∈ Finset.range N, (if t + 1 - w = r + 1 then -f t else 0) else 0)
      = ∑ t ∈ Finset.range N, if n + w ≤ t then -f t else 0 := by
    simp only [← Finset.sum_filter]
    rw [Finset.sum_filter, Finset.sum_congr rfl fun r _ => (show (if n ≤ r then _ else (0 : ℝ)) = ∑ t ∈ Finset.range N,
      if n ≤ r ∧ t + 1 - w = r + 1 then -f t else 0 from ?_), Finset.sum_comm, Finset.sum_filter]
    · refine Finset.sum_congr rfl fun t ht => ?_
      have ht := Finset.mem_range.1 ht
      by_cases h : n + w ≤ t
      · rw [if_pos h, Finset.sum_eq_single (t - w) (fun r _ hr => if_neg (by omega)) (fun hr => absurd (Finset.mem_range.2 (by omega)) hr),
          if_pos (by omega)]
      · rw [if_neg h]
        exact Finset.sum_eq_zero fun r _ => if_neg (by omega)
    · split
      · next h => rw [Finset.sum_filter]; exact Finset.sum_congr rfl fun t _ => by simp only [h, true_and]
      · next h => exact (Finset.sum_eq_zero fun t _ => if_neg fun q => h q.1).symm
  rw [Finset.sum_congr rfl fun r _ => (show (if n ≤ r then _ else (0 : ℝ)) = (if n ≤ r then ∑ t ∈ Finset.range N,
    (if t + 1 - w = r + 1 then -f t else 0) else 0) + if n ≤ r then f r else 0 by split <;> simp), Finset.sum_add_distrib, e,
    ← Finset.sum_add_distrib]
  refine Finset.sum_congr rfl fun r _ => ?_
  by_cases h1 : n ≤ r <;> by_cases h2 : n + w ≤ r
  · rw [if_pos h2, if_pos h1, if_neg (by omega), neg_add_cancel]
  · rw [if_neg h2, if_pos h1, if_pos ⟨h1, by omega⟩, zero_add]
  · omega
  · rw [if_neg h2, if_neg h1, if_neg (by omega), add_zero]

theorem ahead_coe (f : ℕ → ℝ) (w n : ℕ) : ahead w (fun k => (f k : EReal)) n
    = ((∑ k ∈ Finset.range w, if n + k < 8192 then f (n + k) else 0 : ℝ) : EReal) := by
  rw [ahead, coe_sum]
  exact Finset.sum_congr rfl fun k _ => by split <;> rfl

theorem ahead_eq {w : ℕ} (hw : w ≤ 8192) {f : ℕ → EReal} (hf : ∀ n, IsReal (f n)) (n : ℕ) :
    ahead 8192 (fun r => (∑ t ∈ Finset.range 8192, if t + 1 - w = r + 1 then -f t else 0) + f r) n = ahead w f n := by
  choose a ha using hf
  obtain rfl : f = fun k => (a k : EReal) := funext ha
  rw [ahead_coe, show (fun r => (∑ t ∈ Finset.range 8192, if t + 1 - w = r + 1 then -(a t : EReal) else 0) + (a r : EReal))
    = fun r => (((∑ t ∈ Finset.range 8192, if t + 1 - w = r + 1 then -a t else 0) + a r : ℝ) : EReal) from funext fun r => ?_, ahead_coe]
  · refine congrArg _ ?_
    rw [sum_range_up (fun r => (∑ t ∈ Finset.range 8192, if t + 1 - w = r + 1 then -a t else 0) + a r), ahead_real,
      ← Finset.sum_filter, ← Finset.sum_filter]
    symm
    refine Finset.sum_bij (fun k _ => n + k) (fun k hk => ?_) (fun a _ b _ h => by omega) (fun r hr => ⟨r - n, ?_, ?_⟩) fun _ _ => rfl
    · simp only [Finset.mem_filter, Finset.mem_range] at hk ⊢; omega
    · simp only [Finset.mem_filter, Finset.mem_range] at hr ⊢; omega
    · simp only [Finset.mem_filter, Finset.mem_range] at hr; omega
  · rw [EReal.coe_add, coe_sum]
    exact congrArg (· + (a r : EReal)) (Finset.sum_congr rfl fun t _ => by split <;> rfl)

end Cert.Step.Pool

end
-- ==== Proof.PoolIndex.lean ====
/- Multiscale pooling: the words with which the reference picks rows, and its gather and scatter at an index. -/
module

public import proofs.«01_k».proof.Defs
public import proofs.«01_k».proof.Proof.PoolSums
public import proofs.«01_k».proof.Proof.Gen.ReferencePoolIdeal.Run
public import Idealize.ShloMosaic.Lib.Routing.OpsPair
public import Idealize.ShloMosaic.Lib.Quiescent

@[expose] public section

set_option maxRecDepth 16384

noncomputable section

namespace Cert.Step.PoolRef

open Cert.ReferencePoolIdeal Cert.ReferencePoolIdeal.Gen Idealize.ShloMosaic Idealize.ShloMosaic.TcCoe Idealize.SL.Sem
open Cert.Step.Pool
open scoped BigOperators

/-- The row a window starts after, counted from one, and its group, as words; the windows' numbers of rows. -/
def rowA : IVec S8192x1 32 := addi (broadcastInDim S8192x1 ![0] bcast_S8192_S8192x1_0 (iotaInDim S8192 32 0))
  (broadcastInDim S8192x1 ![] bcast_S_S8192x1 (constantI S_ 32 1#32))
def widthA : IVec S1x4 32 := broadcastInDim S1x4 ![1] bcast_S4_S1x4_1 (fun i => lit0 (S4.rowMajor i))
def firstA : IVec S8192x4 32 := maxsi (subi (broadcastInDim S8192x4 ![0, 1] bcast_S8192x1_S8192x4_0_1 rowA)
  (broadcastInDim S8192x4 ![0, 1] bcast_S1x4_S8192x4_0_1 widthA)) (broadcastInDim S8192x4 ![] bcast_S_S8192x4 (constantI S_ 32 0#32))
def startA : IVec S8192x4 32 := select (cmpi .slt firstA (broadcastInDim S8192x4 ![] bcast_S_S8192x4 (constantI S_ 32 0#32)))
  (addi firstA (broadcastInDim S8192x4 ![] bcast_S_S8192x4 (constantI S_ 32 8193#32))) firstA
def numA : IVec S1x4 32 := broadcastInDim S1x4 ![1] bcast_S4_S1x4_1 (iotaInDim S4 32 0)
def groupA : IVec S1x4 32 := select (cmpi .slt numA (broadcastInDim S1x4 ![] bcast_S_S1x4 (constantI S_ 32 0#32)))
  (addi numA (broadcastInDim S1x4 ![] bcast_S_S1x4 (constantI S_ 32 4#32))) numA
def idxA : IVec S8192x4x2 32 := Value.fn_main_v32 (F := Ideal) (broadcastInDim S8192x4x1 ![0, 1] bcast_S8192x4_S8192x4x1_0_1 startA)
  (broadcastInDim S8192x4x1 ![0, 1] bcast_S8192x4_S8192x4x1_0_1 (broadcastInDim S8192x4 ![0, 1] bcast_S1x4_S8192x4_0_1 groupA))
def countA : FVec Ideal S8192x4x1 .f32 := broadcastInDim S8192x4x1 ![0, 1] bcast_S8192x4_S8192x4x1_0_1 (sitofp .f32
  (minsi (broadcastInDim S8192x4 ![0, 1] bcast_S8192x1_S8192x4_0_1 rowA) (broadcastInDim S8192x4 ![0, 1] bcast_S1x4_S8192x4_0_1 widthA)))

theorem lit0_at (g : Fin 4) : lit0 g = BitVec.ofNat 32 (width g) := by fin_cases g <;> rfl
theorem width_le (g : Fin 4) : width g ≤ 16 := by fin_cases g <;> decide
theorem width_pos (g : Fin 4) : 0 < width g := Nat.two_pow_pos _

theorem lit_at (g : Fin 4) : lit0 (S4.rowMajor (ix1 g)) = BitVec.ofNat 32 (width g) :=
  (congrArg lit0 (show S4.rowMajor (ix1 g) = g from by fin_cases g <;> rfl)).trans (lit0_at g)
theorem succ_word (t : Fin 8192) : IntOp.addi (BitVec.ofNat 32 t.val) 1#32 = BitVec.ofNat 32 (t.val + 1) := (BitVec.ofNat_add _ _).symm

/-- A word that isn't negative is left by the wrapping of negative ones. -/
theorem keep_word {n : ℕ} (hn : n < 2 ^ 31) (x : BitVec 32) :
    Scalar.select (IntOp.cmpi .slt (BitVec.ofNat 32 n) 0#32) x (BitVec.ofNat 32 n) = BitVec.ofNat 32 n := by
  have : IntOp.cmpi .slt (BitVec.ofNat 32 n) 0#32 = 0#1 := by
    show BitVec.ofBool ((BitVec.ofNat 32 n).slt 0#32) = _
    simp only [BitVec.slt, toInt_small hn, BitVec.toInt_zero]
    rw [decide_eq_false (by omega)]
    rfl
  rw [this]
  rfl

theorem first_at (t : Fin 8192) (g : Fin 4) : firstA (ix2 t g) = BitVec.ofNat 32 (t.val + 1 - width g) := by
  pointwise [firstA, rowA, widthA]
  rw [lit_at, succ_word]
  have hw := width_le g
  have e : BitVec.ofNat 32 (t.val + 1) - BitVec.ofNat 32 (width g)
      = if width g ≤ t.val + 1 then BitVec.ofNat 32 (t.val + 1 - width g) else BitVec.ofNat 32 (2 ^ 32 + (t.val + 1) - width g) := by
    refine BitVec.eq_of_toNat_eq ?_
    split <;> simp only [BitVec.toNat_sub, BitVec.toNat_ofNat] <;> omega
  show IntOp.maxsi (BitVec.ofNat 32 (t.val + 1) - BitVec.ofNat 32 (width g)) 0#32 = _
  rw [e]
  split
  · unfold IntOp.maxsi
    split
    · rfl
    · next h =>
      simp only [BitVec.slt, toInt_small (show t.val + 1 - width g < 2 ^ 31 by omega), BitVec.toInt_zero, decide_eq_true_eq] at h
      rw [show t.val + 1 - width g = 0 by omega]
  · unfold IntOp.maxsi
    rw [if_neg, show t.val + 1 - width g = 0 by omega]
    simp only [BitVec.slt, BitVec.toInt_eq_toNat_cond, BitVec.toNat_ofNat, decide_eq_true_eq]
    split_ifs <;> omega

theorem count_at (t : Fin 8192) (g : Fin 4) : countA (ix3 t g 0) = count (width g) t.val := by
  pointwise [countA, rowA, widthA]
  rw [lit_at, succ_word, count_min (width_le g) (by omega)]

theorem group_at (z : Fin 1) (g : Fin 4) : groupA (ix2 z g) = BitVec.ofNat 32 g.val := by
  pointwise [groupA, numA]
  exact keep_word (by omega) _

theorem start_at (t : Fin 8192) (g : Fin 4) : startA (ix2 t g) = BitVec.ofNat 32 (t.val + 1 - width g) := by
  pointwise [startA, first_at]
  exact keep_word (by omega) _

theorem idx_row (t : Fin 8192) (g : Fin 4) : idxA (ix3 t g 0) = BitVec.ofNat 32 (t.val + 1 - width g) := by
  pointwise [idxA, Value.fn_main_v32, start_at]
theorem idx_group (t : Fin 8192) (g : Fin 4) : idxA (ix3 t g 1) = BitVec.ofNat 32 g.val := by
  pointwise [idxA, Value.fn_main_v32, group_at]

/-- The gather at those words. -/
theorem gather_at (x : S8193x4x128.Idx → EReal) (t : Fin 8192) (g : Fin 4) (c : Fin 128) :
    Host.gather gather_S8193x4x128_S8192x4x2_S8192x4x128_2_01_n_n_01_2_11128 x idxA (ix3 t g c)
      = x (ix3 ⟨t.val + 1 - width g, by omega⟩ g c) := by
  have e0 : (idxA (ix3 t g 0)).toInt.toNat = t.val + 1 - width g := by rw [idx_row, toInt_small (by omega)]; rfl
  have e1 : (idxA (ix3 t g 1)).toInt.toNat = g.val := by rw [idx_group, toInt_small (by omega)]; rfl
  unfold Host.gather
  refine congrArg x (funext fun a => Fin.ext ?_)
  match a with
  | ⟨0, _⟩ =>
    show min (idxA (ix3 t g 0)).toInt.toNat 8192 + 0 + 0 = t.val + 1 - width g
    rw [e0]; omega
  | ⟨1, _⟩ =>
    show min (idxA (ix3 t g 1)).toInt.toNat 3 + 0 + 0 = g.val
    rw [e1]; omega
  | ⟨2, _⟩ =>
    show 0 + 0 + c.val = c.val
    omega

/-- Where an update of the scatter lands. -/
theorem lands_row (idx : IVec S8192x4x2 32) (t : Fin 8192) (g' g : Fin 4) (c' c : Fin 128) (r : Fin 8193) :
    scatter_S8193x4x128_S8192x4x2_S8192x4x128_2_01_01_2.resultIdx? (ix3 t g' c') idx = some (ix3 r g c)
      ↔ (idx (ix3 t g' 0)).toInt = r.val ∧ (idx (ix3 t g' 1)).toInt = g.val ∧ c' = c := by
  rw [Routing.resultIdx?_eq_some]
  have w0 : scatter_S8193x4x128_S8192x4x2_S8192x4x128_2_01_01_2.window (ix3 t g' c') 0 = 0 := rfl
  have w1 : scatter_S8193x4x128_S8192x4x2_S8192x4x128_2_01_01_2.window (ix3 t g' c') 1 = 0 := rfl
  have w2 : scatter_S8193x4x128_S8192x4x2_S8192x4x128_2_01_01_2.window (ix3 t g' c') 2 = c'.val := rfl
  have s0 : scatter_S8193x4x128_S8192x4x2_S8192x4x128_2_01_01_2.start (ix3 t g' c') idx 0 = (idx (ix3 t g' 0)).toInt :=
    congrArg (fun i => (idx i).toInt) (funext fun b => Fin.ext (by match b with | ⟨0, _⟩ => rfl | ⟨1, _⟩ => rfl | ⟨2, _⟩ => rfl))
  have s1 : scatter_S8193x4x128_S8192x4x2_S8192x4x128_2_01_01_2.start (ix3 t g' c') idx 1 = (idx (ix3 t g' 1)).toInt :=
    congrArg (fun i => (idx i).toInt) (funext fun b => Fin.ext (by match b with | ⟨0, _⟩ => rfl | ⟨1, _⟩ => rfl | ⟨2, _⟩ => rfl))
  have s2 : scatter_S8193x4x128_S8192x4x2_S8192x4x128_2_01_01_2.start (ix3 t g' c') idx 2 = 0 := rfl
  constructor
  · intro h
    have h0 := h 0
    have h1 := h 1
    have h2 := h 2
    rw [s0, w0] at h0
    rw [s1, w1] at h1
    rw [s2, w2] at h2
    exact ⟨by simpa using h0, by simpa using h1, Fin.ext (by simpa using h2)⟩
  · rintro ⟨h0, h1, rfl⟩ a
    match a with
    | ⟨0, _⟩ => exact (congrArg₂ (fun (x : ℤ) (y : ℕ) => x + (y : ℤ)) s0 w0).trans ((add_zero _).trans h0)
    | ⟨1, _⟩ => exact (congrArg₂ (fun (x : ℤ) (y : ℕ) => x + (y : ℤ)) s1 w1).trans ((add_zero _).trans h1)
    | ⟨2, _⟩ => exact (congrArg₂ (fun (x : ℤ) (y : ℕ) => x + (y : ℤ)) s2 w2).trans (zero_add _)

theorem lands_at (t r : Fin 8192) (g g' : Fin 4) (c c' : Fin 128) :
    scatter_S8193x4x128_S8192x4x2_S8192x4x128_2_01_01_2.resultIdx? (ix3 t g' c') idxA = some (ix3 ⟨r.val + 1, by omega⟩ g c)
      ↔ t.val + 1 - width g = r.val + 1 ∧ g' = g ∧ c' = c := by
  rw [lands_row, idx_row, idx_group, toInt_small (by omega), toInt_small (by omega)]
  constructor
  · rintro ⟨h0, h1, rfl⟩
    obtain rfl : g' = g := Fin.ext (by omega)
    exact ⟨Nat.cast_inj.1 h0, rfl, rfl⟩
  · rintro ⟨h0, rfl, rfl⟩
    exact ⟨congrArg _ h0, rfl, rfl⟩

/-- The scatter's sums. -/
theorem scatter_at (x : S8193x4x128.Idx → EReal) (y : S8192x4x128.Idx → EReal) (r : Fin 8192) (g : Fin 4) (c : Fin 128) :
    (x (ix3 ⟨r.val + 1, by omega⟩ g c) + ∑ j ∈ Finset.univ.filter (fun j =>
      scatter_S8193x4x128_S8192x4x2_S8192x4x128_2_01_01_2.resultIdx? j idxA = some (ix3 ⟨r.val + 1, by omega⟩ g c)), y j)
      = x (ix3 ⟨r.val + 1, by omega⟩ g c) + ∑ t : Fin 8192, if t.val + 1 - width g = r.val + 1 then y (ix3 t g c) else 0 := by
  refine congrArg (_ + ·) ?_
  rw [Finset.sum_filter, sum_idx3]
  refine Finset.sum_congr rfl fun t _ => ?_
  simp only [lands_at]
  rw [Finset.sum_eq_single g (fun g' _ h => Finset.sum_eq_zero fun c' _ => if_neg fun q => h q.2.1) (fun h => absurd (Finset.mem_univ _) h),
    Finset.sum_eq_single c (fun c' _ h => if_neg fun q => h q.2.2) (fun h => absurd (Finset.mem_univ _) h)]
  simp only [and_self, and_true]

end Cert.Step.PoolRef

end
-- ==== Proof.PoolReference.lean ====
/- The derivative of the multi-scale pool: the reference's values at an index, and its frame. -/
module

public import proofs.«01_k».proof.Defs
public import proofs.«01_k».proof.Proof.PoolIndex
public import proofs.«01_k».proof.Proof.Gen.ReferencePoolIdeal.Run
public import Idealize.ShloMosaic.Lib.Quiescent

@[expose] public section

set_option maxRecDepth 16384

noncomputable section

namespace Cert.Step.PoolRef

open Cert.ReferencePoolIdeal Cert.ReferencePoolIdeal.Gen Idealize.ShloMosaic Idealize.ShloMosaic.TcCoe Idealize.SL.Sem
open Cert.Step.Pool
open scoped BigOperators

variable (m : (ℓ : Loc nD τ sig) → Buf (Elt Ideal) ℓ)

/-- The argument arrays on core `c`: the inputs, the weights, the scales, the output's cotangent. -/
abbrev U (c : Dev nD) (r : Fin 8192) (k : Fin 512) : EReal := (m ((c.tc : Thread nD τ).loc main_arg0) : S8192x512.Idx → EReal) (ix2 r k)
abbrev W (c : Dev nD) (g : Fin 4) (i e : Fin 128) : EReal := (m ((c.tc : Thread nD τ).loc main_arg1) : S4x128x128.Idx → EReal) (ix3 g i e)
abbrev S (c : Dev nD) (k : Fin 512) : EReal := (m ((c.tc : Thread nD τ).loc main_arg2) : S512.Idx → EReal) (ix1 k)
abbrev D (c : Dev nD) (r : Fin 8192) (k : Fin 512) : EReal := (m ((c.tc : Thread nD τ).loc main_arg3) : S8192x512.Idx → EReal) (ix2 r k)

/-- The inputs by groups, their running sums below a row of zeros, the pooled inputs. -/
def uA (c : Dev nD) : FVec Ideal S8192x4x128 .f32 :=
  shapeCast _ (m ((c.tc : Thread nD τ).loc main_arg0) : FVec Ideal S8192x512 .f32) shapeCasts_S8192x512_S8192x4x128
def runA (c : Dev nD) : FVec Ideal S8192x4x128 .f32 :=
  Host.reduceWindowAdd ![8192, 1, 1] ![1, 1, 1] ![8191, 0, 0] ![0, 0, 0] (uA m c)
    (broadcastInDim S_ ![] bcast_S_S_ (constant S_ .f32 0x00000000#32)) reduceWindows_S8192x4x128_S8192x4x128_w8192s1p8191_0_w1s1p0_0_w1s1p0_0 h_S_
def sumA (c : Dev nD) : FVec Ideal S8193x4x128 .f32 :=
  Value.fn_main_v4 (F := Ideal) (broadcastInDim S1x4x128 ![] bcast_S_S1x4x128 (constant (F := Ideal) S_ .f32 0x00000000#32)) (runA m c)
def windowA (c : Dev nD) : FVec Ideal S8192x4x128 .f32 :=
  subf (extractStridedSlice S8192x4x128 ![1, 0, 0] (sumA m c) slices_S8193x4x128_S8192x4x128_1_0_0)
    (Host.gather gather_S8193x4x128_S8192x4x2_S8192x4x128_2_01_n_n_01_2_11128 (sumA m c) idxA)
def poolA (c : Dev nD) : FVec Ideal S8192x4x128 .f32 :=
  subf (Host.divf (windowA m c) (broadcastInDim S8192x4x128 ![0, 1, 2] bcast_S8192x4x1_S8192x4x128_0_1_2 countA)) (uA m c)

theorem uA_at (c : Dev nD) (j : S8192x4x128.Idx) : uA m c j = U m c (j 0) (col (j 1) (j 2)) := by
  pointwise [uA, col, Nat.mul_comm]
theorem colAt_uA (c : Dev nD) (g : Fin 4) (k : Fin 128) : colAt (uA m c) g k = ext fun r => U m c r (col g k) := by
  funext n
  exact congrArg (ext · n) (funext fun r => uA_at m c _)
theorem runA_at (c : Dev nD) (r : Fin 8192) (g : Fin 4) (k : Fin 128) :
    runA m c (ix3 r g k) = back 8192 (ext fun r => U m c r (col g k)) r.val := by
  refine (windowAdd_at (uA m c) _ _ _ (by pointwise) (ix3 r g k)).trans (Eq.trans ?_ (runDown_at _ _ r.isLt))
  rw [← colAt_uA]
  rfl
theorem sumA_zero (c : Dev nD) (g : Fin 4) (k : Fin 128) : sumA m c (ix3 0 g k) = 0 := by
  pointwise [sumA, Value.fn_main_v4]
theorem sumA_succ (c : Dev nD) (r : Fin 8192) (g : Fin 4) (k : Fin 128) :
    sumA m c (ix3 ⟨r.val + 1, by omega⟩ g k) = back 8192 (ext fun r => U m c r (col g k)) r.val := by
  pointwise [sumA, Value.fn_main_v4, runA_at]
  rw [dif_neg (by omega), Nat.add_sub_cancel]
theorem one_add_row (r : Fin 8192) (h : 1 + r.val < 8193) : (⟨1 + r.val, h⟩ : Fin 8193) = ⟨r.val + 1, by omega⟩ := Fin.ext (Nat.add_comm _ _)
theorem windowA_at (c : Dev nD) (hU : ∀ r k, IsReal (U m c r k)) (r : Fin 8192) (g : Fin 4) (k : Fin 128) :
    windowA m c (ix3 r g k) = back (width g) (ext fun r => U m c r (col g k)) r.val := by
  have hw := width_le g
  have hw0 := width_pos g
  pointwise [windowA, gather_at]
  rw [one_add_row, sumA_succ,
    ← back_sub r.isLt (by omega : width g ≤ 8192) (u := ext fun r => U m c r (col g k)) fun n => ext_isReal (fun r => hU r _) n]
  refine congrArg (_ - ·) ?_
  split
  · next h =>
    exact (congrArg (fun i => sumA m c (ix3 i g k)) (Fin.ext (by show r.val + 1 - width g = 0; omega))).trans (sumA_zero m c g k)
  · next h =>
    exact (congrArg (fun i => sumA m c (ix3 i g k)) (Fin.ext (by show r.val + 1 - width g = r.val - width g + 1; omega))).trans
      (sumA_succ m c ⟨r.val - width g, by omega⟩ g k)
theorem poolA_at (c : Dev nD) (hU : ∀ r k, IsReal (U m c r k)) (r : Fin 8192) (g : Fin 4) (k : Fin 128) :
    poolA m c (ix3 r g k) = pool (U m c) g k r.val := by
  pointwise [poolA, windowA_at m c hU, uA_at, count_at, Pool.pool, pooled, ext_val]

/-- The cotangent and the scales by groups; the gradients of the mixed columns and of the pooled ones. -/
def doA (c : Dev nD) : FVec Ideal S8192x4x128 .f32 :=
  shapeCast _ (m ((c.tc : Thread nD τ).loc main_arg3) : FVec Ideal S8192x512 .f32) shapeCasts_S8192x512_S8192x4x128
def wA (c : Dev nD) : FVec Ideal S4x128x128 .f32 := m ((c.tc : Thread nD τ).loc main_arg1)
def scaleA (c : Dev nD) : FVec Ideal S1x4x128 .f32 := broadcastInDim S1x4x128 ![1, 2] bcast_S4x128_S1x4x128_1_2
  (shapeCast _ (m ((c.tc : Thread nD τ).loc main_arg2) : FVec Ideal S512 .f32) shapeCasts_S512_S4x128)
def dMixA (c : Dev nD) : FVec Ideal S4x128x8192 .f32 := transpose S4x128x8192 [1, 2, 0]
  (mulf (doA m c) (broadcastInDim S8192x4x128 ![0, 1, 2] bcast_S1x4x128_S8192x4x128_0_1_2 (scaleA m c)))
  transposes_S8192x4x128_S4x128x8192_1_2_0
def dPoolA (c : Dev nD) : FVec Ideal S8192x4x128 .f32 := transpose S8192x4x128 [1, 0, 2]
  (Host.dotGeneral dot_S4x128x8192_S4x128x128_S4x8192x128_1_2_2_1_0_0 none (dMixA m c) (wA m c)) transposes_S4x8192x128_S8192x4x128_1_0_2
def meanA (c : Dev nD) : FVec Ideal S8192x4x128 .f32 :=
  Host.divf (dPoolA m c) (broadcastInDim S8192x4x128 ![0, 1, 2] bcast_S8192x4x1_S8192x4x128_0_1_2 countA)
def spreadA (c : Dev nD) : FVec Ideal S8193x4x128 .f32 := addf
  (Host.scatterAdd scatter_S8193x4x128_S8192x4x2_S8192x4x128_2_01_01_2
    (broadcastInDim S8193x4x128 ![] bcast_S_S8193x4x128 (constant S_ .f32 0x00000000#32)) idxA (Host.negf (meanA m c)))
  (pad S8193x4x128 ![1, 0, 0] ![0, 0, 0] ![0, 0, 0] (meanA m c) (constant S_ .f32 0x00000000#32) pads_S8192x4x128_S8193x4x128_100_000_000 h_S_)
def tailA (c : Dev nD) : FVec Ideal S8192x4x128 .f32 :=
  extractStridedSlice S8192x4x128 ![1, 0, 0] (spreadA m c) slices_S8193x4x128_S8192x4x128_1_0_0
def backA (c : Dev nD) : FVec Ideal S8192x4x128 .f32 :=
  Host.reduceWindowAdd ![8192, 1, 1] ![1, 1, 1] ![0, 0, 0] ![8191, 0, 0] (tailA m c)
    (broadcastInDim S_ ![] bcast_S_S_ (constant S_ .f32 0x00000000#32)) reduceWindows_S8192x4x128_S8192x4x128_w8192s1p0_8191_w1s1p0_0_w1s1p0_0 h_S_

theorem doA_at (c : Dev nD) (j : S8192x4x128.Idx) : doA m c j = D m c (j 0) (col (j 1) (j 2)) := by
  pointwise [doA, col, Nat.mul_comm]
theorem scaleA_at (c : Dev nD) (j : S1x4x128.Idx) : scaleA m c j = S m c (col (j 1) (j 2)) := by
  pointwise [scaleA, col, Nat.mul_comm]
theorem dMixA_at (c : Dev nD) (j : S4x128x8192.Idx) : dMixA m c j = dMix (D m c) (S m c) (col (j 0) (j 1)) (j 2).val := by
  pointwise [dMixA, doA_at, scaleA_at, dMix, ext_val]
theorem dPoolA_at (c : Dev nD) (j : S8192x4x128.Idx) : dPoolA m c j = dPool (D m c) (W m c) (S m c) (j 1) (j 2) (j 0).val := by
  pointwise [dPoolA, dMixA_at, wA, Pool.dPool]
theorem meanA_at (c : Dev nD) (r : Fin 8192) (g : Fin 4) (k : Fin 128) :
    meanA m c (ix3 r g k) = Ideal.div (dPool (D m c) (W m c) (S m c) g k r.val) (count (width g) r.val) := by
  pointwise [meanA, dPoolA_at, count_at]
theorem tailA_at (c : Dev nD) (r : Fin 8192) (g : Fin 4) (k : Fin 128) :
    tailA m c (ix3 r g k) = (∑ t : Fin 8192, if t.val + 1 - width g = r.val + 1 then -meanA m c (ix3 t g k) else 0) + meanA m c (ix3 r g k) := by
  have e : Host.scatterAdd scatter_S8193x4x128_S8192x4x2_S8192x4x128_2_01_01_2
      (broadcastInDim S8193x4x128 ![] bcast_S_S8193x4x128 (constant S_ .f32 0x00000000#32)) idxA (Host.negf (meanA m c))
      (ix3 ⟨r.val + 1, by omega⟩ g k) = ∑ t : Fin 8192, if t.val + 1 - width g = r.val + 1 then -meanA m c (ix3 t g k) else 0 := by
    refine (scatter_at (broadcastInDim S8193x4x128 ![] bcast_S_S8193x4x128 (constant (F := Ideal) S_ .f32 0x00000000#32)) (Host.negf (meanA m c)) r g k).trans ?_
    pointwise
  pointwise [tailA, spreadA]
  exact (congrArg (fun i => Host.scatterAdd scatter_S8193x4x128_S8192x4x2_S8192x4x128_2_01_01_2
    (broadcastInDim S8193x4x128 ![] bcast_S_S8193x4x128 (constant (F := Ideal) S_ .f32 0x00000000#32)) idxA (Host.negf (meanA m c))
    (ix3 i g k) + meanA m c (ix3 r g k)) (one_add_row r _)).trans (congrArg (· + meanA m c (ix3 r g k)) e)

theorem dPool_isReal (c : Dev nD) (hD : ∀ r k, IsReal (D m c r k)) (hW : ∀ g i e, IsReal (W m c g i e)) (hS : ∀ k, IsReal (S m c k))
    (g : Fin 4) (k : Fin 128) (n : ℕ) : IsReal (dPool (D m c) (W m c) (S m c) g k n) :=
  IsReal.sum fun _ => (ext_isReal (fun _ => (hD _ _).mul (hS _)) n).mul (hW _ _ _)

theorem mean_isReal {w : ℕ} (hw : 0 < w) {x : EReal} (hx : IsReal x) (n : ℕ) : IsReal (Ideal.div x (count w n)) := by
  rw [Pool.count, Ideal.div_coe (by positivity)]
  exact hx.mul (.coe _)

theorem backA_at (c : Dev nD) (hD : ∀ r k, IsReal (D m c r k)) (hW : ∀ g i e, IsReal (W m c g i e)) (hS : ∀ k, IsReal (S m c k))
    (r : Fin 8192) (g : Fin 4) (k : Fin 128) : backA m c (ix3 r g k) =
      ahead (width g) (fun n => Ideal.div (dPool (D m c) (W m c) (S m c) g k n) (count (width g) n)) r.val := by
  have hw := width_le g
  refine (windowAdd_at (tailA m c) _ _ _ (by pointwise) (ix3 r g k)).trans ((runUp_at _ r.val).trans
    (Eq.trans ?_ (ahead_eq (by omega) (fun n => mean_isReal (width_pos g) (dPool_isReal m c hD hW hS g k n) n) r.val)))
  refine Finset.sum_congr rfl fun x _ => ?_
  split
  · next h =>
    refine (ext_val _ ⟨r.val + x, h⟩).trans ((tailA_at m c _ g k).trans ?_)
    simp only [meanA_at]
    exact congrArg (· + _) (Fin.sum_univ_eq_sum_range (fun t => if t + 1 - width g = r.val + x + 1 then
      -Ideal.div (dPool (D m c) (W m c) (S m c) g k t) (count (width g) t) else 0) 8192)
  · rfl

/-- The results' terms over those arrays. -/
theorem res_du (c : Dev nD) : Value.res_main_v77 m c = shapeCast S8192x512 (addf (Host.negf (dPoolA m c)) (backA m c))
    shapeCasts_S8192x4x128_S8192x512 := rfl
theorem res_dw (c : Dev nD) : Value.res_main_v64 m c = transpose S4x128x128 [0, 2, 1]
    (Host.dotGeneral dot_S4x128x8192_S8192x4x128_S4x128x128_2_0_1_2_0_1 none (dMixA m c) (poolA m c))
    transposes_S4x128x128_S4x128x128_0_2_1 := rfl
def partA (c : Dev nD) : FVec Ideal S8192x4x128 .f32 := mulf (transpose S8192x4x128 [2, 0, 1]
  (Host.dotGeneral dot_S4x128x128_S8192x4x128_S4x128x8192_1_2_2_0_0_1 none (wA m c) (poolA m c)) transposes_S4x128x8192_S8192x4x128_2_0_1) (doA m c)
theorem res_ds (c : Dev nD) : Value.res_main_v78 m c = broadcastInDim S1x512 ![1] bcast_S512_S1x512_1 (shapeCast S512
    (Host.reduceAdd (shapeCast S1x4x128 (Host.reduceAdd (partA m c) (constant S_ .f32 0x00000000#32) reducesTo_S8192x4x128_S4x128_d0 h_S_)
      shapeCasts_S4x128_S1x4x128) (constant S_ .f32 0x00000000#32) reducesTo_S1x4x128_S4x128_d0 h_S_) shapeCasts_S4x128_S512) := rfl

section
variable (c : Dev nD) (hU : ∀ r k, IsReal (U m c r k)) (hD : ∀ r k, IsReal (D m c r k)) (hW : ∀ g i e, IsReal (W m c g i e))
  (hS : ∀ k, IsReal (S m c k))

include hD hW hS in
theorem du : Value.res_main_v77 m c = fun i : S8192x512.Idx =>
    unpooled (width (group (i 1))) (dPool (D m c) (W m c) (S m c) (group (i 1)) (lane (i 1))) (i 0).val := by
  rw [res_du]
  funext i
  pointwise [backA_at m c hD hW hS, dPoolA_at, unpooled]
  rw [add_comm]
  rfl

include hU in
theorem dw : Value.res_main_v64 m c = fun i : S4x128x128.Idx =>
    ∑ r : Fin 8192, wPart (U m c) (D m c) (S m c) (i 0) (i 1) (i 2) r := by
  rw [res_dw]
  funext i
  pointwise [poolA_at m c hU, dMixA_at, wPart]
  change @Eq EReal _ _
  exact Finset.sum_congr rfl fun r _ => mul_comm (G := EReal) _ _

include hU in
theorem partA_at (r : Fin 8192) (g : Fin 4) (e : Fin 128) : partA m c (ix3 r g e) = sPart (U m c) (D m c) (W m c) g e r := by
  pointwise [partA, poolA_at m c hU, doA_at, wA, sPart]
  exact (mul_comm (G := EReal) _ _).trans (congrArg (fun x : EReal => D m c r (col g e) * x) (Finset.sum_congr rfl fun x _ => mul_comm (G := EReal) _ _))

include hU in
theorem ds : Value.res_main_v78 m c = fun i : S1x512.Idx =>
    ∑ r : Fin 8192, sPart (U m c) (D m c) (W m c) (group (i 1)) (lane (i 1)) r := by
  rw [res_ds]
  funext i
  pointwise [partA_at m c hU]
  exact Fin.sum_univ_one _
end

theorem run (ρ : Dev nD → PrngReg) (hU : ∀ c r k, IsReal (U m c r k)) (hD : ∀ c r k, IsReal (D m c r k))
    (hW : ∀ c g i e, IsReal (W m c g i e)) (hS : ∀ c k, IsReal (S m c k)) :
    θ_run defs (onTc (τ := τ) (main (F := Ideal))) ⟨m, fun _ => 0, ρ⟩ fun r => ∀ c : Dev nD,
    (r.2.mem ((c.tc : Thread nD τ).loc main_v77) = fun i : S8192x512.Idx =>
      unpooled (width (group (i 1))) (dPool (D m c) (W m c) (S m c) (group (i 1)) (lane (i 1))) (i 0).val) ∧
    (r.2.mem ((c.tc : Thread nD τ).loc main_v64) = fun i : S4x128x128.Idx =>
      ∑ r : Fin 8192, wPart (U m c) (D m c) (S m c) (i 0) (i 1) (i 2) r) ∧
    (r.2.mem ((c.tc : Thread nD τ).loc main_v78) = fun i : S1x512.Idx =>
      ∑ r : Fin 8192, sPart (U m c) (D m c) (W m c) (group (i 1)) (lane (i 1)) r) ∧
    (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (du m c (hD c) (hW c) (hS c)), (h c).2.1.trans (dw m c (hU c)),
    (h c).2.2.1.trans (ds m c (hU c)), (h c).2.2.2⟩) (Value.run m ρ)

/-- The frame of the reference, which has no semaphores. -/
theorem frame : Cert.quiescent_ReferencePoolIdeal := fun m ρ _ =>
  (θ_run defs _ _).mono (fun r h => ⟨fun c => (h c).2.2.2, sem_eq_zero_of_no_sems (by decide) r.2⟩) (Value.run m ρ)

end Cert.Step.PoolRef

end
-- ==== Proof.PoolPair.lean ====
/- Multiscale pooling, backwards: the kernel's results are the reference's where the arguments are finite. -/
module

public import proofs.«01_k».proof.Proof.PoolKernel
public import proofs.«01_k».proof.Proof.PoolReference

@[expose] public section

set_option maxRecDepth 16384

noncomputable section

namespace Cert.Step.PoolPair

open Idealize.ShloMosaic Idealize.ShloMosaic.TcCoe Idealize.SL.Sem Cert.KernelPoolIdeal Cert.Step.Pool
open scoped BigOperators

/-- What the precondition's function states of its shapes. -/
instance finite_facts : Cert.Pre_finite_pool.Facts := by constructor <;> decide

theorem algebraic : Cert.algebraic_KernelPoolIdeal_ReferencePoolIdeal_pre_finite_pool := by
  intro m ρ m' ρ' hp hm
  have eU (c) : PoolRef.U m' c = U m c := funext₂ fun _ _ => congrFun (hm c).1 _
  have eW (c) : PoolRef.W m' c = W m c := funext₃ fun _ _ _ => congrFun (hm c).2.1 _
  have eS (c) : PoolRef.S m' c = S m c := funext fun _ => congrFun (hm c).2.2.1 _
  have eD (c) : PoolRef.D m' c = D m c := funext₂ fun _ _ => congrFun (hm c).2.2.2 _
  refine ⟨fun c => (Gen.dats m 0 c).arrAt 6 cfg0.N, fun c => (Gen.dats m 0 c).arrAt 7 cfg0.N, fun c => (Gen.dats m 0 c).arrAt 8 cfg0.N,
    Value.run_blocks m ρ, (θ_run Cert.ReferencePoolIdeal.defs _ _).mono (fun r h c => ?_) (PoolRef.run m' ρ'
      (fun c r k => (congrFun₂ (eU c) r k).symm ▸ isReal_of_pred (fun _ => rfl) (hp c).1 _)
      (fun c r k => (congrFun₂ (eD c) r k).symm ▸ isReal_of_pred (fun _ => rfl) (hp c).2.2.2 _)
      (fun c g i e => (congrFun (congrFun₂ (eW c) g i) e).symm ▸ isReal_of_pred (fun _ => rfl) (hp c).2.1 _)
      (fun c k => (congrFun (eS c) k).symm ▸ isReal_of_pred (fun _ => rfl) (hp c).2.2.1 _))⟩
  obtain ⟨h0, h1, h2, ha⟩ := h c
  rw [eU, eW, eS, eD] at *
  exact ⟨h0.trans (du m c).symm, h1.trans (dw m c).symm, h2.trans (ds m c).symm, ha⟩

end Cert.Step.PoolPair

end
-- ==== Proof.SwaStages.lean ====
/- The window attention's gradient: the kernel's steps for one block of queries and one head group, as arrays. -/
module

public import proofs.«01_k».proof.Proof.Gen.KernelSwaIdeal.Frame
public import proofs.«01_k».proof.Proof.Softmax
public import proofs.«01_k».proof.Proof.Stores

@[expose] public section

set_option maxRecDepth 16384

noncomputable section

namespace Cert.Step.Swa

open Cert.KernelSwaIdeal Cert.KernelSwaIdeal.Gen Idealize.ShloMosaic Idealize.ShloMosaic.TcCoe Idealize.SL.Sem
open scoped BigOperators

/-- One block's keys against one head group's stacked queries. -/
def stScore (bias : FVec Ideal S256x512 .f32) (kh : FVec Ideal S256x64 .bf16) (qs : FVec Ideal S512x64 .bf16) : FVec Ideal S256x512 .f32 :=
  addf (matmul dot_S256x64_S512x64_S256x512_1_1_0_0_n_n none kh qs (constant S256x512 .f32 0x00000000#32)) bias

/-- Each query's maximum, the sink's score included. -/
def stMax (s : FVec Ideal S256x512 .f32) (z : FVec Ideal S1x512 .f32) : FVec Ideal S1x512 .f32 :=
  maximumf (shapeCast S1x512 (multiReduction .maximumf [0] S512 s 0xFF800000#32 reduces_S256x512_S512 (.inl rfl) rfl) shapeCasts_S512_S1x512) z

def stExp (s : FVec Ideal S256x512 .f32) (z : FVec Ideal S1x512 .f32) : FVec Ideal S256x512 .f32 :=
  exp (subf s (broadcastTo S256x512 (stMax s z) broadcasts_S1x512_S256x512))

def stExpSink (s : FVec Ideal S256x512 .f32) (z : FVec Ideal S1x512 .f32) : FVec Ideal S1x512 .f32 :=
  exp (subf z (stMax s z))

/-- The reciprocal of each query's sum. -/
def stInv (s : FVec Ideal S256x512 .f32) (z : FVec Ideal S1x512 .f32) : FVec Ideal S1x512 .f32 :=
  divf (broadcast S1x512 (Scalar.ofBits .f32 0x3F800000#32))
    (addf (shapeCast S1x512 (multiReduction .add [0] S512 (stExp s z) 0x00000000#32 reduces_S256x512_S512 (.inl rfl) rfl) shapeCasts_S512_S1x512)
      (stExpSink s z))

def stProb (s : FVec Ideal S256x512 .f32) (z : FVec Ideal S1x512 .f32) : FVec Ideal S256x512 .f32 :=
  mulf (stExp s z) (broadcastTo S256x512 (stInv s z) broadcasts_S1x512_S256x512)

def stDp (vh : FVec Ideal S256x64 .bf16) (dos : FVec Ideal S512x64 .bf16) : FVec Ideal S256x512 .f32 :=
  matmul dot_S256x64_S512x64_S256x512_1_1_0_0_n_n none vh dos (constant S256x512 .f32 0x00000000#32)

/-- Each query's sum of probability times its gradient. -/
def stDelta (s : FVec Ideal S256x512 .f32) (z : FVec Ideal S1x512 .f32) (dp : FVec Ideal S256x512 .f32) : FVec Ideal S1x512 .f32 :=
  shapeCast S1x512 (multiReduction .add [0] S512 (mulf (stProb s z) dp) 0x00000000#32 reduces_S256x512_S512 (.inl rfl) rfl) shapeCasts_S512_S1x512

/-- The scores' gradient. -/
def stDs (s : FVec Ideal S256x512 .f32) (z : FVec Ideal S1x512 .f32) (dp : FVec Ideal S256x512 .f32) : FVec Ideal S256x512 .bf16 :=
  truncf .bf16 (mulf (stProb s z) (subf dp (broadcastTo S256x512 (stDelta s z dp) broadcasts_S1x512_S256x512))) bitsLt_bf16_f32

/-- The queries' gradient, one column a query. -/
def stDqT (kh : FVec Ideal S256x64 .bf16) (ds : FVec Ideal S256x512 .bf16) : FVec Ideal S64x512 .f32 :=
  mulf (matmul dot_S256x64_S256x512_S64x512_0_0_1_1_n_n none kh ds (constant S64x512 .f32 0x00000000#32))
    (broadcast S64x512 (Scalar.ofBits .f32 0x3E000000#32))

/-- A product summed over the stacked queries: the keys' gradient and the values'. -/
def stRows (p : FVec Ideal S256x512 .bf16) (x : FVec Ideal S512x64 .bf16) : FVec Ideal S256x64 .f32 :=
  matmul dot_S256x512_S512x64_S256x64_1_0_0_1_n_n none p x (constant S256x64 .f32 0x00000000#32)

/-- The sink's gradient, one column a query. -/
def stDsink (s : FVec Ideal S256x512 .f32) (z : FVec Ideal S1x512 .f32) (dp : FVec Ideal S256x512 .f32) : FVec Ideal S1x512 .f32 :=
  mulf (subf (broadcast S1x512 (Scalar.ofBits .f32 0x00000000#32)) (mulf (stExpSink s z) (stInv s z))) (stDelta s z dp)

/-- Two head groups' columns side by side. -/
def stBeside (a b : FVec Ideal S256x64 .f32) : FVec Ideal S256x128 .f32 :=
  concatenate S256x128 1 [⟨S256x64, a⟩, ⟨S256x64, b⟩] concatenates_S256x64_S256x64_S256x128_d1

def stLow (a : FVec Ideal S256x128 .f32) : FVec Ideal S128x128 .f32 := extractStridedSlice S128x128 ![0, 0] a slices_S256x128_o0_0_S128x128
def stHigh (a : FVec Ideal S256x128 .f32) : FVec Ideal S128x128 .f32 := extractStridedSlice S128x128 ![128, 0] a slices_S256x128_o128_0_S128x128

/-- The four blocks' windows added where they overlap. -/
def stOverlap (a0 a1 a2 a3 : FVec Ideal S256x128 .f32) : FVec Ideal S512x128 .f32 :=
  concatenate S512x128 0 [⟨S128x128, addf (stHigh a0) (stLow a1)⟩, ⟨S128x128, addf (stHigh a1) (stLow a2)⟩,
    ⟨S128x128, addf (stHigh a2) (stLow a3)⟩, ⟨S128x128, stHigh a3⟩] concatenates_S128x128_S128x128_S128x128_S128x128_S512x128_d0

def stKeys0 (a : FVec Ideal S256x128 .bf16) : FVec Ideal S256x64 .bf16 := extractStridedSlice S256x64 ![0, 0] a slices_S256x128_o0_0_S256x64
def stKeys1 (a : FVec Ideal S256x128 .bf16) : FVec Ideal S256x64 .bf16 := extractStridedSlice S256x64 ![0, 64] a slices_S256x128_o0_64_S256x64

def stWin0 (a : FVec Ideal S640x128 .bf16) : FVec Ideal S256x128 .bf16 := extractStridedSlice S256x128 ![0, 0] a slices_S640x128_o0_0_S256x128
def stWin1 (a : FVec Ideal S640x128 .bf16) : FVec Ideal S256x128 .bf16 := extractStridedSlice S256x128 ![128, 0] a slices_S640x128_o128_0_S256x128
def stWin2 (a : FVec Ideal S640x128 .bf16) : FVec Ideal S256x128 .bf16 := extractStridedSlice S256x128 ![256, 0] a slices_S640x128_o256_0_S256x128
def stWin3 (a : FVec Ideal S640x128 .bf16) : FVec Ideal S256x128 .bf16 := extractStridedSlice S256x128 ![384, 0] a slices_S640x128_o384_0_S256x128

/-- One head group's four heads stacked below each other. -/
def stHeads0 (a : FVec Ideal S128x512 .bf16) : FVec Ideal S512x64 .bf16 :=
  concatenate S512x64 0 [⟨S128x64, extractStridedSlice S128x64 ![0, 0] a slices_S128x512_o0_0_S128x64⟩,
    ⟨S128x64, extractStridedSlice S128x64 ![0, 64] a slices_S128x512_o0_64_S128x64⟩,
    ⟨S128x64, extractStridedSlice S128x64 ![0, 128] a slices_S128x512_o0_128_S128x64⟩,
    ⟨S128x64, extractStridedSlice S128x64 ![0, 192] a slices_S128x512_o0_192_S128x64⟩] concatenates_S128x64_S128x64_S128x64_S128x64_S512x64_d0
def stHeads1 (a : FVec Ideal S128x512 .bf16) : FVec Ideal S512x64 .bf16 :=
  concatenate S512x64 0 [⟨S128x64, extractStridedSlice S128x64 ![0, 256] a slices_S128x512_o0_256_S128x64⟩,
    ⟨S128x64, extractStridedSlice S128x64 ![0, 320] a slices_S128x512_o0_320_S128x64⟩,
    ⟨S128x64, extractStridedSlice S128x64 ![0, 384] a slices_S128x512_o0_384_S128x64⟩,
    ⟨S128x64, extractStridedSlice S128x64 ![0, 448] a slices_S128x512_o0_448_S128x64⟩] concatenates_S128x64_S128x64_S128x64_S128x64_S512x64_d0

/-- A block's queries, scaled; a block's output gradient, rounded. -/
def stQ (a : Vec Ideal S128x512 .bf16) : FVec Ideal S128x512 .bf16 :=
  mulf (shapeCast S128x512 a shapeCasts_S128x512_S128x512) (broadcast S128x512 (Scalar.ofBits .bf16 0x3E00#16))
def stDo (a : Vec Ideal S128x512 .f32) : FVec Ideal S128x512 .bf16 := truncf .bf16 a bitsLt_bf16_f32

/-- The keys' gradient over one block's window. -/
def stDk (bias : FVec Ideal S256x512 .f32) (z0 z1 : FVec Ideal S1x512 .f32) (k v : FVec Ideal S256x128 .bf16) (q d : FVec Ideal S128x512 .bf16) : FVec Ideal S256x128 .f32 :=
  stBeside
    (stRows (stDs (stScore bias (stKeys0 k) (stHeads0 q)) z0 (stDp (stKeys0 v) (stHeads0 d))) (stHeads0 q))
    (stRows (stDs (stScore bias (stKeys1 k) (stHeads1 q)) z1 (stDp (stKeys1 v) (stHeads1 d))) (stHeads1 q))

/-- The values' gradient over one block's window. -/
def stDv (bias : FVec Ideal S256x512 .f32) (z0 z1 : FVec Ideal S1x512 .f32) (k : FVec Ideal S256x128 .bf16) (q d : FVec Ideal S128x512 .bf16) : FVec Ideal S256x128 .f32 :=
  stBeside
    (stRows (truncf .bf16 (stProb (stScore bias (stKeys0 k) (stHeads0 q)) z0) bitsLt_bf16_f32) (stHeads0 d))
    (stRows (truncf .bf16 (stProb (stScore bias (stKeys1 k) (stHeads1 q)) z1) bitsLt_bf16_f32) (stHeads1 d))

end Cert.Step.Swa

end
-- ==== Proof.SwaSpec.lean ====
/- The window attention's gradient in plain terms: rotation tables, windows, scores with a sink, and what each result is. -/
module

public import proofs.«01_k».proof.Proof.Softmax
public import proofs.«01_k».proof.Proof.PoolSpec

@[expose] public section

noncomputable section

namespace Cert.Step.Swa

open Idealize.ShloMosaic
open scoped BigOperators

/-- The scores' factor. -/
abbrev wEighth : EReal := Ideal.ofBits .f32 0x3E000000#32

/-- A row of scores with the sink's score behind it. -/
def row {n : ℕ} (s : Fin n → EReal) (z : EReal) (j : Fin (n + 1)) : EReal := if h : j.val < n then s ⟨j.val, h⟩ else z

section Row

variable {n : ℕ} (s dp : Fin n → EReal) (z w : EReal)

theorem row_castSucc (j : Fin n) : row s z j.castSucc = s j := dif_pos j.isLt
theorem row_last : row s z (Fin.last n) = z := dif_neg (lt_irrefl n)

/-- One query's maximum, exponentials, reciprocal sum, probabilities and gradients, the sink's kept apart from the scores'. -/
def kMax : EReal := max (rowMax s) z
def kExp (j : Fin n) : EReal := Ideal.exp (s j - kMax s z)
def kInv : EReal := Ideal.div wOne ((∑ j, kExp s z j) + Ideal.exp (z - kMax s z))
def kProb (j : Fin n) : EReal := kExp s z j * kInv s z
def kDelta : EReal := ∑ j, kProb s z j * dp j
def kDs (j : Fin n) : EReal := kProb s z j * (dp j - kDelta s dp z)
def kDsink : EReal := -(Ideal.exp (z - kMax s z) * kInv s z) * kDelta s dp z

theorem rowMax_row : rowMax (row s z) = kMax s z := by
  unfold kMax rowMax
  apply le_antisymm
  · refine (Finset.fold_max_le _).2 ⟨le_max_of_le_left ((Finset.le_fold_max _).2 (Or.inl le_rfl)), fun j _ => ?_⟩
    refine Fin.lastCases ?_ (fun i => ?_) j
    · rw [row_last]; exact le_max_right _ _
    · rw [row_castSucc]; exact le_max_of_le_left ((Finset.le_fold_max _).2 (Or.inr ⟨i, Finset.mem_univ _, le_rfl⟩))
  · refine max_le ((Finset.fold_max_le _).2 ⟨(Finset.le_fold_max _).2 (Or.inl le_rfl), fun i _ => ?_⟩) ?_
    · exact (Finset.le_fold_max _).2 (Or.inr ⟨i.castSucc, Finset.mem_univ _, (row_castSucc s z i).ge⟩)
    · exact (Finset.le_fold_max _).2 (Or.inr ⟨Fin.last n, Finset.mem_univ _, (row_last s z).ge⟩)

theorem expBelow_castSucc (j : Fin n) : expBelow (row s z) j.castSucc = kExp s z j := by
  rw [expBelow, rowMax_row, row_castSucc, kExp]

theorem expBelow_last : expBelow (row s z) (Fin.last n) = Ideal.exp (z - kMax s z) := by
  rw [expBelow, rowMax_row, row_last]

theorem sum_expBelow : ∑ j, expBelow (row s z) j = (∑ j, kExp s z j) + Ideal.exp (z - kMax s z) := by
  rw [Fin.sum_univ_castSucc, expBelow_last]
  simp only [expBelow_castSucc]

variable {s z}

/-- Scores that are reals or minus infinity, beside a real sink: the exponentials are reals of positive sum. -/
theorem expBelow_row_real (hs : ∀ j, IsReal (s j) ∨ s j = ⊥) (hz : IsReal z) :
    ∃ e : Fin (n + 1) → ℝ, 0 < ∑ j, e j ∧ ∀ j, expBelow (row s z) j = (e j : EReal) := by
  have hrow : ∀ j, IsReal (row s z j) ∨ row s z j = ⊥ := fun j => by
    refine Fin.lastCases ?_ (fun i => ?_) j
    · rw [row_last]; exact Or.inl hz
    · rw [row_castSucc]; exact hs i
  obtain ⟨k, -, hk⟩ := Finset.exists_mem_eq_sup Finset.univ ⟨Fin.last n, Finset.mem_univ _⟩ (row s z)
  have e0 : rowMax (row s z) = Finset.univ.sup (row s z) := by rw [rowMax, bits_negInf]; rfl
  have hle : z ≤ rowMax (row s z) := (rowMax_row s z).ge.trans' (le_max_right _ _)
  obtain ⟨M, hM⟩ : IsReal (rowMax (row s z)) := by
    rcases hrow k with h | h
    · rw [e0, hk]; exact h
    · obtain ⟨a, rfl⟩ := hz
      rw [e0, hk, h] at hle
      exact absurd (le_bot_iff.1 hle) (EReal.coe_ne_bot a)
  have key : ∀ j, ∃ a : ℝ, 0 ≤ a ∧ expBelow (row s z) j = (a : EReal) ∧ (IsReal (row s z j) → 0 < a) := fun j => by
    rcases hrow j with h | h
    · obtain ⟨a, ha⟩ := h
      refine ⟨Real.exp (a - M), (Real.exp_pos _).le, ?_, fun _ => Real.exp_pos _⟩
      rw [expBelow, ha, hM, ← EReal.coe_sub]; rfl
    · refine ⟨0, le_rfl, ?_, fun ⟨a, ha⟩ => absurd (ha.symm.trans h) (EReal.coe_ne_bot a)⟩
      rw [expBelow, h, EReal.bot_sub]; rfl
  choose e h0 hE hp using key
  refine ⟨e, ?_, hE⟩
  rw [Fin.sum_univ_castSucc]
  exact add_pos_of_nonneg_of_pos (Finset.sum_nonneg fun j _ => h0 _) (hp _ (by rw [row_last]; exact hz))

/-- Where a score is minus infinity its probability is zero. -/
theorem kProb_masked {j : Fin n} (h : s j = ⊥) : kProb s z j = 0 := by
  rw [kProb, kExp, h, EReal.bot_sub]
  exact zero_mul _

theorem kDs_masked {j : Fin n} (h : s j = ⊥) : kDs s dp z j = 0 := by
  rw [kDs, kProb_masked h, zero_mul]

theorem kDelta_congr {dp dp' : Fin n → EReal} (h : ∀ j, s j = ⊥ ∨ dp j = dp' j) : kDelta s dp z = kDelta s dp' z := by
  refine Finset.sum_congr rfl fun j _ => ?_
  rcases h j with h | h
  · rw [kProb_masked h, zero_mul, zero_mul]
  · rw [h]

theorem kDs_congr {dp dp' : Fin n → EReal} (h : ∀ j, s j = ⊥ ∨ dp j = dp' j) (j : Fin n) : kDs s dp z j = kDs s dp' z j := by
  rcases h j with h' | h'
  · rw [kDs_masked _ h', kDs_masked _ h']
  · rw [kDs, kDs, kDelta_congr h, h']

section Real

variable (hs : ∀ j, IsReal (s j) ∨ s j = ⊥) (hz : IsReal z)
include hs hz

theorem kProb_eq (j : Fin n) : kProb s z j = prob (row s z) j.castSucc := by
  obtain ⟨e, hZ, hE⟩ := expBelow_row_real hs hz
  rw [prob, expBelow_castSucc, kProb, kInv, ← sum_expBelow]
  simp only [hE, ← coe_sum]
  rw [Ideal.div_coe hZ.ne', Ideal.div_coe hZ.ne', bits_one, ← EReal.coe_mul, one_mul]

theorem kProb_real (j : Fin n) : IsReal (kProb s z j) := by
  obtain ⟨e, hZ, hE⟩ := expBelow_row_real hs hz
  rw [kProb_eq hs hz, prob]
  simp only [hE, ← coe_sum]
  rw [Ideal.div_coe hZ.ne']
  exact (IsReal.coe _).mul (.coe _)

theorem kSink_eq : Ideal.exp (z - kMax s z) * kInv s z = prob (row s z) (Fin.last n) := by
  obtain ⟨e, hZ, hE⟩ := expBelow_row_real hs hz
  rw [prob, ← expBelow_last, kInv, ← sum_expBelow]
  simp only [hE, ← coe_sum]
  rw [Ideal.div_coe hZ.ne', Ideal.div_coe hZ.ne', bits_one, ← EReal.coe_mul, one_mul]

theorem kDelta_eq : kDelta s dp z = ∑ j, prob (row s z) j * row dp 0 j := by
  rw [Fin.sum_univ_castSucc, row_last, mul_zero, add_zero]
  exact Finset.sum_congr rfl fun j _ => by rw [row_castSucc, kProb_eq hs hz]

theorem kDelta_real (hd : ∀ j, IsReal (dp j)) : IsReal (kDelta s dp z) :=
  IsReal.sum fun j => (kProb_real hs hz j).mul (hd j)

theorem kDs_real (hd : ∀ j, IsReal (dp j)) (j : Fin n) : IsReal (kDs s dp z j) := by
  obtain ⟨a, ha⟩ := hd j
  obtain ⟨b, hb⟩ := kDelta_real dp hs hz hd
  rw [kDs, ha, hb, ← EReal.coe_sub]
  exact (kProb_real hs hz j).mul (.coe _)

theorem dScore_row (hd : ∀ j, IsReal (dp j)) (j : Fin (n + 1)) : dScore (row s z) (row dp 0) j = dScoreRule (row s z) (row dp 0) j := by
  obtain ⟨e, hZ, hE⟩ := expBelow_row_real hs hz
  refine dScore_eq_of_exp hZ hE (fun j => ?_) j
  refine Fin.lastCases ?_ (fun i => ?_) j
  · rw [row_last]; exact .coe 0
  · rw [row_castSucc]; exact hd i

/-- The scores' gradient, by the product rule over the whole row. -/
theorem kDs_eq (hd : ∀ j, IsReal (dp j)) (j : Fin n) : kDs s dp z j = dScoreRule (row s z) (row dp 0) j.castSucc := by
  rw [← dScore_row dp hs hz hd, dScore, row_castSucc, ← kDelta_eq dp hs hz, ← kProb_eq hs hz, kDs]

/-- The sink's gradient likewise. -/
theorem kDsink_eq (hd : ∀ j, IsReal (dp j)) : kDsink s dp z = dScoreRule (row s z) (row dp 0) (Fin.last n) := by
  rw [← dScore_row dp hs hz hd, dScore, row_last, ← kDelta_eq dp hs hz, ← kSink_eq hs hz, kDsink, zero_sub,
    mul_neg, neg_mul]

end Real

end Row

/-- A position's angle in one rotation plane. -/
def angle (p : BitVec 32) (i : Fin 32) : EReal :=
  FloatOps.sitofp (F := Ideal) .f32 p * Ideal.pow (Ideal.ofBits .f32 0x461C4000#32)
    (Ideal.div (-(Ideal.ofBits .f32 0x40000000#32 * FloatOps.sitofp (F := Ideal) .f32 (BitVec.ofNat 32 i.val))) (Ideal.ofBits .f32 0x42800000#32))

/-- One head rotated: the planes pair a lane of the first half with one of the second. -/
def rope (x : Fin 64 → EReal) (p : BitVec 32) (d : Fin 64) : EReal :=
  if h : d.val < 32 then x ⟨d.val, d.isLt⟩ * Ideal.cos (angle p ⟨d.val, h⟩) - x ⟨32 + d.val, by omega⟩ * Ideal.sin (angle p ⟨d.val, h⟩)
  else x ⟨32 + (d.val - 32), by omega⟩ * Ideal.cos (angle p ⟨d.val - 32, by omega⟩) + x ⟨d.val - 32, by omega⟩ * Ideal.sin (angle p ⟨d.val - 32, by omega⟩)

/-- The rotation's gradient. -/
def ropeBack (x : Fin 64 → EReal) (p : BitVec 32) (d : Fin 64) : EReal :=
  if h : d.val < 32 then x ⟨d.val, d.isLt⟩ * Ideal.cos (angle p ⟨d.val, h⟩) + x ⟨32 + d.val, by omega⟩ * Ideal.sin (angle p ⟨d.val, h⟩)
  else x ⟨32 + (d.val - 32), by omega⟩ * Ideal.cos (angle p ⟨d.val - 32, by omega⟩) - x ⟨d.val - 32, by omega⟩ * Ideal.sin (angle p ⟨d.val - 32, by omega⟩)

/-- A block's row among all rows. -/
abbrev rowOf (n : Fin 64) (q : Fin 128) : Fin 8192 := ⟨n.val * 128 + q.val, by omega⟩

section Arguments

variable (P : Fin 8192 → Fin 1280 → EReal) (pos : Fin 8192 → BitVec 32) (O : Fin 8192 → Fin 512 → EReal)

/-- The rotated queries and keys, the values and the output's gradient, by block, row, head and lane. -/
def argQ (n : Fin 64) (q : Fin 128) (h : Fin 8) (d : Fin 64) : EReal :=
  rope (fun e => P (rowOf n q) ⟨h.val * 64 + e.val, by omega⟩) (pos (rowOf n q)) d
def argK (n : Fin 64) (i : Fin 128) (kv : Fin 2) (d : Fin 64) : EReal :=
  rope (fun e => P (rowOf n i) ⟨512 + (kv.val * 64 + e.val), by omega⟩) (pos (rowOf n i)) d
def argV (n : Fin 64) (i : Fin 128) (kv : Fin 2) (d : Fin 64) : EReal := P (rowOf n i) ⟨640 + (kv.val * 64 + d.val), by omega⟩
def argD (n : Fin 64) (q : Fin 128) (h : Fin 8) (d : Fin 64) : EReal := O (rowOf n q) ⟨h.val * 64 + d.val, by omega⟩

end Arguments

/-- Where the query `q` of block `n` sees the window's key `j`. -/
abbrev Valid (n : Fin 64) (q : Fin 128) (j : Fin 256) : Prop := (j.val ≤ q.val + 128 ∧ q.val < j.val) ∧ (n.val = 0 → 128 ≤ j.val)

/-- A head's group, and the head at a place in its group. -/
abbrev kvOf (h : Fin 8) : Fin 2 := ⟨h.val / 4, by omega⟩
abbrev headOf (kv : Fin 2) (g : Fin 4) : Fin 8 := ⟨kv.val * 4 + g.val, by omega⟩

/-- The distance of a key from its query, and a key's row number, as the programs count them. -/
theorem near_toInt (q : Fin 128) (j : Fin 256) :
    (IntOp.subi (IntOp.addi (BitVec.ofNat 32 q.val) 128#32) (BitVec.ofNat 32 j.val)).toInt = (q.val : ℤ) + 128 - j.val := by
  rw [IntOp.subi, IntOp.addi, BitVec.toInt_sub, BitVec.toInt_add, Pool.toInt_small (by omega), Pool.toInt_small (by omega),
    Pool.toInt_small (by omega)]
  simp only [Int.bmod]
  omega

theorem rowNumber_toInt (n : Fin 64) (j : Fin 256) :
    (IntOp.addi (IntOp.muli (IntOp.subi (BitVec.ofNat 32 n.val) 1#32) 128#32) (BitVec.ofNat 32 j.val)).toInt = ((n.val : ℤ) - 1) * 128 + j.val := by
  rw [IntOp.subi, IntOp.addi, IntOp.muli, BitVec.toInt_add, BitVec.toInt_mul, BitVec.toInt_sub, Pool.toInt_small (by omega),
    Pool.toInt_small (by omega), Pool.toInt_small (by omega), Pool.toInt_small (by omega)]
  simp only [Int.bmod]
  omega

/-- The comparison of a distance with the window's two ends. -/
theorem near_at (q : Fin 128) (j : Fin 256) : IntOp.andi
      (IntOp.cmpi .sge (IntOp.subi (IntOp.addi (BitVec.ofNat 32 q.val) 128#32) (BitVec.ofNat 32 j.val)) 0#32)
      (IntOp.cmpi .slt (IntOp.subi (IntOp.addi (BitVec.ofNat 32 q.val) 128#32) (BitVec.ofNat 32 j.val)) 128#32) =
    if j.val ≤ q.val + 128 ∧ q.val < j.val then 1#1 else 0#1 := by
  simp only [IntOp.cmpi, BitVec.sle, BitVec.slt, near_toInt]
  rw [show (0#32 : BitVec 32).toInt = 0 from rfl, show (128#32 : BitVec 32).toInt = 128 from rfl,
    (decide_eq_decide.2 (by omega) : decide (0 ≤ (q.val : ℤ) + 128 - j.val) = decide (j.val ≤ q.val + 128)),
    (decide_eq_decide.2 (by omega) : decide ((q.val : ℤ) + 128 - j.val < 128) = decide (q.val < j.val))]
  by_cases h : j.val ≤ q.val + 128 <;> by_cases h' : q.val < j.val <;> simp [h, h', IntOp.andi]

theorem andi_if (P Q : Prop) [Decidable P] [Decidable Q] :
    IntOp.andi (if P then 1#1 else 0#1) (BitVec.ofBool (decide Q)) = if P ∧ Q then 1#1 else 0#1 := by
  by_cases h : P <;> by_cases h' : Q <;> simp [h, h', IntOp.andi]

theorem mask_at (n : Fin 64) (q : Fin 128) (j : Fin 256) : IntOp.andi
      (IntOp.andi
        (IntOp.cmpi .sge (IntOp.subi (IntOp.addi (BitVec.ofNat 32 q.val) 128#32) (BitVec.ofNat 32 j.val)) 0#32)
        (IntOp.cmpi .slt (IntOp.subi (IntOp.addi (BitVec.ofNat 32 q.val) 128#32) (BitVec.ofNat 32 j.val)) 128#32))
      (IntOp.cmpi .sge (IntOp.addi (IntOp.muli (IntOp.subi (BitVec.ofNat 32 n.val) 1#32) 128#32) (BitVec.ofNat 32 j.val)) 0#32) =
    if Valid n q j then 1#1 else 0#1 := by
  rw [near_at]
  simp only [IntOp.cmpi, BitVec.sle, rowNumber_toInt]
  rw [show (0#32 : BitVec 32).toInt = 0 from rfl,
    (decide_eq_decide.2 (by omega) : decide (0 ≤ ((n.val : ℤ) - 1) * 128 + j.val) = decide (n.val = 0 → 128 ≤ j.val))]
  exact andi_if _ _

theorem kvOf_headOf (kv : Fin 2) (g : Fin 4) : kvOf (headOf kv g) = kv := Fin.ext (by simp only []; omega)
theorem headOf_kvOf (h : Fin 8) : headOf ⟨h.val / 4, by omega⟩ ⟨h.val % 4, by omega⟩ = h := Fin.ext (by simp only []; omega)

/-- A window: the block before (zeros before the first block) and the block. -/
def win (x : Fin 64 → Fin 128 → Fin 2 → Fin 64 → EReal) (n : Fin 64) (j : Fin 256) (kv : Fin 2) (d : Fin 64) : EReal :=
  if h : j.val < 128 then if _h : n.val < 1 then 0 else x ⟨n.val - 1, by omega⟩ ⟨j.val, h⟩ kv d else x n ⟨j.val - 128, by omega⟩ kv d

/-- A window whose first block, before the first block, is the first block itself. -/
def winK (x : Fin 64 → Fin 128 → Fin 2 → Fin 64 → EReal) (n : Fin 64) (j : Fin 256) (kv : Fin 2) (d : Fin 64) : EReal :=
  if h : j.val < 128 then x ⟨n.val - 1, by omega⟩ ⟨j.val, h⟩ kv d else x n ⟨j.val - 128, by omega⟩ kv d

theorem select_valid (p : Prop) [Decidable p] (a b : EReal) : Scalar.select (if p then 1#1 else 0#1) a b = if p then a else b := by
  split <;> rfl

theorem winK_eq (x : Fin 64 → Fin 128 → Fin 2 → Fin 64 → EReal) {n : Fin 64} {q : Fin 128} {j : Fin 256} (h : Valid n q j) (kv : Fin 2)
    (d : Fin 64) : winK x n j kv d = win x n j kv d := by
  unfold winK win
  split
  · rw [dif_neg (by omega)]
  · rfl

theorem winK_real {x : Fin 64 → Fin 128 → Fin 2 → Fin 64 → EReal} (hx : ∀ n i kv d, IsReal (x n i kv d)) (n : Fin 64) (j : Fin 256)
    (kv : Fin 2) (d : Fin 64) : IsReal (winK x n j kv d) := by
  unfold winK
  split <;> exact hx _ _ _ _

theorem win_real {x : Fin 64 → Fin 128 → Fin 2 → Fin 64 → EReal} (hx : ∀ n i kv d, IsReal (x n i kv d)) (n : Fin 64) (j : Fin 256)
    (kv : Fin 2) (d : Fin 64) : IsReal (win x n j kv d) := by
  unfold win
  split
  · split
    · exact .coe 0
    · exact hx _ _ _ _
  · exact hx _ _ _ _

theorem eighth_real : IsReal wEighth := ⟨1 / 8, by simp [Ideal.ofBits, Ideal.ieee]; rw [← EReal.coe_mul]; norm_num⟩

/-- A real factor goes into a sum of reals. -/
theorem sum_mul_real {ι : Type} [Fintype ι] {f : ι → EReal} {e : EReal} (hf : ∀ i, IsReal (f i)) (he : IsReal e) :
    (∑ i, f i) * e = ∑ i, f i * e := by
  choose a ha using hf
  obtain ⟨b, rfl⟩ := he
  simp only [ha, ← coe_sum, ← EReal.coe_mul]
  rw [Finset.sum_mul]

section Swa

variable (K V : Fin 64 → Fin 128 → Fin 2 → Fin 64 → EReal) (Q D : Fin 64 → Fin 128 → Fin 8 → Fin 64 → EReal) (z : Fin 8 → EReal)

/-- The masked, scaled scores, the probabilities' gradient, and what the softmax makes of them. -/
def refScore (n : Fin 64) (q : Fin 128) (h : Fin 8) (j : Fin 256) : EReal :=
  if Valid n q j then (∑ d, win K n j (kvOf h) d * Q n q h d) * wEighth else ⊥
def refDp (n : Fin 64) (q : Fin 128) (h : Fin 8) (j : Fin 256) : EReal := ∑ d, D n q h d * win V n j (kvOf h) d
def refProb (n : Fin 64) (q : Fin 128) (h : Fin 8) (j : Fin 257) : EReal := prob (row (refScore K Q n q h) (z h)) j
def refDs (n : Fin 64) (q : Fin 128) (h : Fin 8) (j : Fin 257) : EReal :=
  dScoreRule (row (refScore K Q n q h) (z h)) (row (refDp V D n q h) 0) j
def refG (n : Fin 64) (q : Fin 128) (h : Fin 8) (j : Fin 256) : EReal :=
  (if Valid n q j then refDs K V Q D z n q h j.castSucc else 0) * wEighth

/-- The gradients: the queries', the windows' keys' and values', the sinks'. -/
def refDq (n : Fin 64) (q : Fin 128) (h : Fin 8) (d : Fin 64) : EReal := ∑ j, refG K V Q D z n q h j * win K n j (kvOf h) d
def refDk (n : Fin 64) (j : Fin 256) (kv : Fin 2) (d : Fin 64) : EReal :=
  ∑ q, ∑ g, refG K V Q D z n q (headOf kv g) j * Q n q (headOf kv g) d
def refDv (n : Fin 64) (j : Fin 256) (kv : Fin 2) (d : Fin 64) : EReal :=
  ∑ g, ∑ q, D n q (headOf kv g) d * refProb K Q z n q (headOf kv g) j.castSucc

/-- What a block's row receives from its own window and from the next block's. -/
def refBoth (x : Fin 64 → Fin 256 → Fin 2 → Fin 64 → EReal) (n : Fin 64) (i : Fin 128) (kv : Fin 2) (d : Fin 64) : EReal :=
  x n ⟨128 + i.val, by omega⟩ kv d + if h : n.val < 63 ∧ i.val < 128 then x ⟨1 + n.val, by omega⟩ ⟨i.val, by omega⟩ kv d else 0

/-- The packed gradient: the queries' and keys' rotated back, the values', and the gate's cotangent beside them. -/
def packed (dq : Fin 8192 → Fin 8 → Fin 64 → EReal) (dk dv : Fin 8192 → Fin 2 → Fin 64 → EReal) (pos : Fin 8192 → BitVec 32)
    (u : Fin 8192 → Fin 512 → EReal) (r : Fin 8192) (c : Fin 1280) : EReal :=
  if h : c.val < 512 then ropeBack (dq r ⟨c.val / 64, by omega⟩) (pos r) ⟨c.val % 64, by omega⟩
  else if h : c.val < 640 then ropeBack (dk r ⟨(c.val - 512) / 64, by omega⟩) (pos r) ⟨(c.val - 512) % 64, by omega⟩
  else if h : c.val < 768 then dv r ⟨(c.val - 640) / 64, by omega⟩ ⟨(c.val - 640) % 64, by omega⟩
  else u r ⟨c.val - 768, by omega⟩

/-- The same gradients with the scale on the queries, the mask added, and the windows padded otherwise. -/
def kerScore (n : Fin 64) (q : Fin 128) (h : Fin 8) (j : Fin 256) : EReal :=
  (∑ d, winK K n j (kvOf h) d * (Q n q h d * wEighth)) + (if Valid n q j then 0 else ⊥)
def kerDp (n : Fin 64) (q : Fin 128) (h : Fin 8) (j : Fin 256) : EReal := ∑ d, winK V n j (kvOf h) d * D n q h d
def kerDs (n : Fin 64) (q : Fin 128) (h : Fin 8) (j : Fin 256) : EReal := kDs (kerScore K Q n q h) (kerDp V D n q h) (z h) j
def kerDq (n : Fin 64) (q : Fin 128) (h : Fin 8) (d : Fin 64) : EReal :=
  (∑ j, winK K n j (kvOf h) d * kerDs K V Q D z n q h j) * wEighth
def kerDk (n : Fin 64) (j : Fin 256) (kv : Fin 2) (d : Fin 64) : EReal :=
  ∑ g, ∑ q, kerDs K V Q D z n q (headOf kv g) j * (Q n q (headOf kv g) d * wEighth)
def kerDv (n : Fin 64) (j : Fin 256) (kv : Fin 2) (d : Fin 64) : EReal :=
  ∑ g, ∑ q, kProb (kerScore K Q n q (headOf kv g)) (z (headOf kv g)) j * D n q (headOf kv g) d
def kerDsink (n : Fin 64) (q : Fin 128) (h : Fin 8) : EReal := kDsink (kerScore K Q n q h) (kerDp V D n q h) (z h)

variable {K V Q D z}
variable (hK : ∀ n i kv d, IsReal (K n i kv d)) (hQ : ∀ n q h d, IsReal (Q n q h d))

section
include hK hQ

theorem kerScore_eq (n : Fin 64) (q : Fin 128) (h : Fin 8) (j : Fin 256) : kerScore K Q n q h j = refScore K Q n q h j := by
  unfold kerScore refScore
  split
  · next hv =>
    rw [add_zero, sum_mul_real (fun d => (win_real hK _ _ _ _).mul (hQ _ _ _ _)) eighth_real]
    exact Finset.sum_congr rfl fun d _ => by rw [winK_eq K hv, mul_assoc]
  · exact EReal.add_bot _

theorem refScore_cases (n : Fin 64) (q : Fin 128) (h : Fin 8) (j : Fin 256) :
    IsReal (refScore K Q n q h j) ∨ refScore K Q n q h j = ⊥ := by
  unfold refScore
  split
  · exact Or.inl ((IsReal.sum fun d => (win_real hK _ _ _ _).mul (hQ _ _ _ _)).mul eighth_real)
  · exact Or.inr rfl

end

theorem refScore_masked {n : Fin 64} {q : Fin 128} {j : Fin 256} (hv : ¬Valid n q j) (h : Fin 8) : refScore K Q n q h j = ⊥ := if_neg hv

theorem kerDp_eq (n : Fin 64) (q : Fin 128) (h : Fin 8) (j : Fin 256) : refScore K Q n q h j = ⊥ ∨ kerDp V D n q h j = refDp V D n q h j := by
  by_cases hv : Valid n q j
  · exact Or.inr (Finset.sum_congr rfl fun d _ => by rw [winK_eq V hv, mul_comm])
  · exact Or.inl (refScore_masked hv h)

variable (hV : ∀ n i kv d, IsReal (V n i kv d)) (hD : ∀ n q h d, IsReal (D n q h d)) (hz : ∀ h, IsReal (z h))
include hK hQ hz

theorem kerProb_eq (n : Fin 64) (q : Fin 128) (h : Fin 8) (j : Fin 256) :
    kProb (kerScore K Q n q h) (z h) j = refProb K Q z n q h j.castSucc := by
  rw [show kerScore K Q n q h = refScore K Q n q h from funext (kerScore_eq hK hQ n q h)]
  exact kProb_eq (refScore_cases hK hQ n q h) (hz h) j

theorem dv_eq (n : Fin 64) (j : Fin 256) (kv : Fin 2) (d : Fin 64) : kerDv K Q D z n j kv d = refDv K Q D z n j kv d :=
  Finset.sum_congr rfl fun g _ => Finset.sum_congr rfl fun q _ => by rw [kerProb_eq hK hQ hz, mul_comm]

include hV hD

theorem refDp_real (n : Fin 64) (q : Fin 128) (h : Fin 8) (j : Fin 256) : IsReal (refDp V D n q h j) :=
  IsReal.sum fun d => (hD _ _ _ _).mul (win_real hV _ _ _ _)

theorem kerDs_eq' (n : Fin 64) (q : Fin 128) (h : Fin 8) (j : Fin 256) :
    kerDs K V Q D z n q h j = kDs (refScore K Q n q h) (refDp V D n q h) (z h) j := by
  rw [kerDs, show kerScore K Q n q h = refScore K Q n q h from funext (kerScore_eq hK hQ n q h)]
  exact kDs_congr (kerDp_eq n q h) j

theorem kerDs_real (n : Fin 64) (q : Fin 128) (h : Fin 8) (j : Fin 256) : IsReal (kerDs K V Q D z n q h j) := by
  rw [kerDs_eq' hK hQ hV hD hz]
  exact kDs_real _ (refScore_cases hK hQ n q h) (hz h) (refDp_real hK hQ hV hD hz n q h) j

theorem kerDs_eq (n : Fin 64) (q : Fin 128) (h : Fin 8) (j : Fin 256) :
    kerDs K V Q D z n q h j = if Valid n q j then refDs K V Q D z n q h j.castSucc else 0 := by
  rw [kerDs_eq' hK hQ hV hD hz]
  split
  · exact kDs_eq _ (refScore_cases hK hQ n q h) (hz h) (refDp_real hK hQ hV hD hz n q h) j
  · next hv => exact kDs_masked _ (refScore_masked hv h)

theorem dsink_eq (n : Fin 64) (q : Fin 128) (h : Fin 8) : kerDsink K V Q D z n q h = refDs K V Q D z n q h (Fin.last 256) := by
  rw [kerDsink, show kerScore K Q n q h = refScore K Q n q h from funext (kerScore_eq hK hQ n q h), kDsink,
    kDelta_congr (kerDp_eq n q h)]
  exact kDsink_eq _ (refScore_cases hK hQ n q h) (hz h) (refDp_real hK hQ hV hD hz n q h)

theorem dq_eq (n : Fin 64) (q : Fin 128) (h : Fin 8) (d : Fin 64) : kerDq K V Q D z n q h d = refDq K V Q D z n q h d := by
  rw [kerDq, sum_mul_real (fun j => (winK_real hK _ _ _ _).mul (kerDs_real hK hQ hV hD hz _ _ _ _)) eighth_real]
  refine Finset.sum_congr rfl fun j _ => ?_
  rw [kerDs_eq hK hQ hV hD hz, refG]
  split
  · next hv => rw [winK_eq K hv, mul_comm (win _ _ _ _ _), mul_right_comm]
  · rw [mul_zero, zero_mul, zero_mul]

theorem dk_eq (n : Fin 64) (j : Fin 256) (kv : Fin 2) (d : Fin 64) : kerDk K V Q D z n j kv d = refDk K V Q D z n j kv d := by
  rw [kerDk, refDk, Finset.sum_comm]
  refine Finset.sum_congr rfl fun q _ => Finset.sum_congr rfl fun g _ => ?_
  rw [kerDs_eq hK hQ hV hD hz, refG, mul_comm (Q _ _ _ _), mul_assoc]

end Swa

end Cert.Step.Swa

end
-- ==== Proof.SwaBlocks.lean ====
/- The window attention's gradient: each of the kernel's arrays at an index. -/
module

public import proofs.«01_k».proof.Proof.SwaStages
public import proofs.«01_k».proof.Proof.SwaSpec
public import Idealize.ShloMosaic.Lib.Pipeline.ValueKit

@[expose] public section

set_option maxRecDepth 16384

noncomputable section

namespace Cert.Step.Swa

open Cert.KernelSwaIdeal Cert.KernelSwaIdeal.Gen Idealize.ShloMosaic Idealize.ShloMosaic.TcCoe Idealize.SL.Sem
open scoped BigOperators

section Columns

variable (s : FVec Ideal S256x512 .f32) (z : FVec Ideal S1x512 .f32) (dp : FVec Ideal S256x512 .f32)

/-- A column of scores, and its sink's score. -/
abbrev colOf (x : FVec Ideal S256x512 .f32) (c : Fin 512) (j : Fin 256) : EReal := (x : S256x512.Idx → EReal) (ix2 j c)
abbrev at0 (x : FVec Ideal S1x512 .f32) (c : Fin 512) : EReal := (x : S1x512.Idx → EReal) (ix2 0 c)

theorem stMax_at (a : Fin 1) (c : Fin 512) : (stMax s z : S1x512.Idx → EReal) (ix2 a c) = kMax (colOf s c) (at0 z c) := by
  obtain rfl := Subsingleton.elim 0 a
  unfold stMax kMax rowMax
  pointwise

theorem stExp_at (j : Fin 256) (c : Fin 512) : (stExp s z : S256x512.Idx → EReal) (ix2 j c) = kExp (colOf s c) (at0 z c) j := by
  unfold stExp kExp
  pointwise [stMax_at]

theorem stExpSink_at (a : Fin 1) (c : Fin 512) : (stExpSink s z : S1x512.Idx → EReal) (ix2 a c) =
    Ideal.exp (at0 z c - kMax (colOf s c) (at0 z c)) := by
  obtain rfl := Subsingleton.elim 0 a
  unfold stExpSink
  pointwise [stMax_at]

theorem stInv_at (a : Fin 1) (c : Fin 512) : (stInv s z : S1x512.Idx → EReal) (ix2 a c) = kInv (colOf s c) (at0 z c) := by
  unfold stInv kInv
  pointwise [stExp_at, stExpSink_at]

theorem stProb_at (j : Fin 256) (c : Fin 512) : (stProb s z : S256x512.Idx → EReal) (ix2 j c) = kProb (colOf s c) (at0 z c) j := by
  unfold stProb kProb
  pointwise [stExp_at, stInv_at]

theorem stDelta_at (a : Fin 1) (c : Fin 512) : (stDelta s z dp : S1x512.Idx → EReal) (ix2 a c) = kDelta (colOf s c) (colOf dp c) (at0 z c) := by
  unfold stDelta kDelta
  pointwise [stProb_at]

theorem stDs_at (j : Fin 256) (c : Fin 512) : (stDs s z dp : S256x512.Idx → EReal) (ix2 j c) = kDs (colOf s c) (colOf dp c) (at0 z c) j := by
  unfold stDs kDs
  pointwise [stProb_at, stDelta_at]

theorem stDsink_at (a : Fin 1) (c : Fin 512) : (stDsink s z dp : S1x512.Idx → EReal) (ix2 a c) = kDsink (colOf s c) (colOf dp c) (at0 z c) := by
  unfold stDsink kDsink
  pointwise [stExpSink_at, stInv_at, stDelta_at]
  rw [zero_sub]

end Columns

section Group

variable (K V : Fin 64 → Fin 128 → Fin 2 → Fin 64 → EReal) (Q D : Fin 64 → Fin 128 → Fin 8 → Fin 64 → EReal) (z : Fin 8 → EReal)

/-- A column's query in the block, and its head in the group. -/
abbrev cq (c : Fin 512) : Fin 128 := ⟨c.val % 128, by omega⟩
abbrev cg (c : Fin 512) : Fin 4 := ⟨c.val / 128, by omega⟩

/-- One block's arrays for one head group, and what they hold. -/
structure Group (n : Fin 64) (kv : Fin 2) (bias : FVec Ideal S256x512 .f32) (zz : FVec Ideal S1x512 .f32) (kh vh : FVec Ideal S256x64 .bf16)
    (qs ds : FVec Ideal S512x64 .bf16) : Prop where
  bias : ∀ j c, (bias : S256x512.Idx → EReal) (ix2 j c) = if Valid n (cq c) j then 0 else ⊥
  sink : ∀ a c, (zz : S1x512.Idx → EReal) (ix2 a c) = z (headOf kv (cg c))
  key : ∀ j d, (kh : S256x64.Idx → EReal) (ix2 j d) = winK K n j kv d
  value : ∀ j d, (vh : S256x64.Idx → EReal) (ix2 j d) = winK V n j kv d
  query : ∀ c d, (qs : S512x64.Idx → EReal) (ix2 c d) = Q n (cq c) (headOf kv (cg c)) d * wEighth
  ct : ∀ c d, (ds : S512x64.Idx → EReal) (ix2 c d) = D n (cq c) (headOf kv (cg c)) d

variable {K V Q D z} {n : Fin 64} {kv : Fin 2} {bias : FVec Ideal S256x512 .f32} {zz : FVec Ideal S1x512 .f32} {kh vh : FVec Ideal S256x64 .bf16}
  {qs ds : FVec Ideal S512x64 .bf16} (G : Group K V Q D z n kv bias zz kh vh qs ds)
include G

theorem Group.score_at (j : Fin 256) (c : Fin 512) : (stScore bias kh qs : S256x512.Idx → EReal) (ix2 j c) =
    kerScore K Q n (cq c) (headOf kv (cg c)) j := by
  unfold stScore kerScore
  pointwise [G.bias, G.key, G.query, kvOf_headOf]

theorem Group.dp_at (j : Fin 256) (c : Fin 512) : (stDp vh ds : S256x512.Idx → EReal) (ix2 j c) =
    kerDp V D n (cq c) (headOf kv (cg c)) j := by
  unfold stDp kerDp
  pointwise [G.value, G.ct, kvOf_headOf]

theorem Group.scores (c : Fin 512) : colOf (stScore bias kh qs) c = kerScore K Q n (cq c) (headOf kv (cg c)) := funext fun j => G.score_at j c
theorem Group.dps (c : Fin 512) : colOf (stDp vh ds) c = kerDp V D n (cq c) (headOf kv (cg c)) := funext fun j => G.dp_at j c

theorem Group.ds_at (j : Fin 256) (c : Fin 512) : (stDs (stScore bias kh qs) zz (stDp vh ds) : S256x512.Idx → EReal) (ix2 j c) =
    kerDs K V Q D z n (cq c) (headOf kv (cg c)) j := by
  rw [stDs_at, kerDs, G.scores c, G.dps c, at0, G.sink]

theorem Group.prob_at (j : Fin 256) (c : Fin 512) : (stProb (stScore bias kh qs) zz : S256x512.Idx → EReal) (ix2 j c) =
    kProb (kerScore K Q n (cq c) (headOf kv (cg c))) (z (headOf kv (cg c))) j := by
  rw [stProb_at, G.scores c, at0, G.sink]

theorem Group.dsink_at (a : Fin 1) (c : Fin 512) : (stDsink (stScore bias kh qs) zz (stDp vh ds) : S1x512.Idx → EReal) (ix2 a c) =
    kerDsink K V Q D z n (cq c) (headOf kv (cg c)) := by
  rw [stDsink_at, kerDsink, G.scores c, G.dps c, at0, G.sink]

theorem Group.dq_at (d : Fin 64) (c : Fin 512) :
    (stDqT kh (stDs (stScore bias kh qs) zz (stDp vh ds)) : S64x512.Idx → EReal) (ix2 d c) =
      kerDq K V Q D z n (cq c) (headOf kv (cg c)) d := by
  unfold stDqT kerDq
  pointwise [G.key, G.ds_at, kvOf_headOf]

theorem Group.dk_at (j : Fin 256) (d : Fin 64) :
    (stRows (stDs (stScore bias kh qs) zz (stDp vh ds)) qs : S256x64.Idx → EReal) (ix2 j d) = kerDk K V Q D z n j kv d := by
  unfold stRows kerDk
  pointwise [G.query, G.ds_at]
  refine (Fin.sum_mul_add_congr (S := 4) (n := 128) fun g q hl => ?_).symm
  rw [show cq ⟨g.val * 128 + q.val, hl⟩ = q from Fin.ext (by simp only []; omega), show cg ⟨g.val * 128 + q.val, hl⟩ = g from Fin.ext (by simp only []; omega)]

theorem Group.dv_at (j : Fin 256) (d : Fin 64) :
    (stRows (truncf .bf16 (stProb (stScore bias kh qs) zz) bitsLt_bf16_f32) ds : S256x64.Idx → EReal) (ix2 j d) = kerDv K Q D z n j kv d := by
  unfold stRows kerDv
  pointwise [G.ct, G.prob_at]
  refine (Fin.sum_mul_add_congr (S := 4) (n := 128) fun g q hl => ?_).symm
  rw [show cq ⟨g.val * 128 + q.val, hl⟩ = q from Fin.ext (by simp only []; omega), show cg ⟨g.val * 128 + q.val, hl⟩ = g from Fin.ext (by simp only []; omega)]

end Group

section Block

variable (K V : Fin 64 → Fin 128 → Fin 2 → Fin 64 → EReal) (Q D : Fin 64 → Fin 128 → Fin 8 → Fin 64 → EReal) (z : Fin 8 → EReal)

/-- One block's arrays, and what they hold. -/
structure Block (n : Fin 64) (bias : FVec Ideal S256x512 .f32) (z0 z1 : FVec Ideal S1x512 .f32) (k v : FVec Ideal S256x128 .bf16)
    (q d : FVec Ideal S128x512 .bf16) : Prop where
  bias : ∀ j c, (bias : S256x512.Idx → EReal) (ix2 j c) = if Valid n (cq c) j then 0 else ⊥
  sink0 : ∀ a c, (z0 : S1x512.Idx → EReal) (ix2 a c) = z (headOf 0 (cg c))
  sink1 : ∀ a c, (z1 : S1x512.Idx → EReal) (ix2 a c) = z (headOf 1 (cg c))
  key : ∀ j (kv : Fin 2) (d : Fin 64) l, l.val = kv.val * 64 + d.val → (k : S256x128.Idx → EReal) (ix2 j l) = winK K n j kv d
  value : ∀ j (kv : Fin 2) (d : Fin 64) l, l.val = kv.val * 64 + d.val → (v : S256x128.Idx → EReal) (ix2 j l) = winK V n j kv d
  query : ∀ i (h : Fin 8) (e : Fin 64) i' l, i'.val = i.val → l.val = h.val * 64 + e.val → (q : S128x512.Idx → EReal) (ix2 i' l) = Q n i h e * wEighth
  ct : ∀ i (h : Fin 8) (e : Fin 64) i' l, i'.val = i.val → l.val = h.val * 64 + e.val → (d : S128x512.Idx → EReal) (ix2 i' l) = D n i h e

variable {K V Q D z} {n : Fin 64} {bias : FVec Ideal S256x512 .f32} {z0 z1 : FVec Ideal S1x512 .f32} {k v : FVec Ideal S256x128 .bf16}
  {q d : FVec Ideal S128x512 .bf16} (B : Block K V Q D z n bias z0 z1 k v q d)
include B

theorem Block.group0 : Group K V Q D z n 0 bias z0 (stKeys0 k) (stKeys0 v) (stHeads0 q) (stHeads0 d) where
  bias := B.bias
  sink := B.sink0
  key j e := by
    unfold stKeys0
    pointwise
    exact B.key j 0 e _ (by simp)
  value j e := by
    unfold stKeys0
    pointwise
    exact B.value j 0 e _ (by simp)
  query c e := by
    unfold stHeads0
    pointwise
    split_ifs <;> exact B.query _ _ _ _ _ (by simp only []; omega) (by simp only []; omega)
  ct c e := by
    unfold stHeads0
    pointwise
    split_ifs <;> exact B.ct _ _ _ _ _ (by simp only []; omega) (by simp only []; omega)

theorem Block.group1 : Group K V Q D z n 1 bias z1 (stKeys1 k) (stKeys1 v) (stHeads1 q) (stHeads1 d) where
  bias := B.bias
  sink := B.sink1
  key j e := by
    unfold stKeys1
    pointwise
    exact B.key j 1 e _ (by simp)
  value j e := by
    unfold stKeys1
    pointwise
    exact B.value j 1 e _ (by simp)
  query c e := by
    unfold stHeads1
    pointwise
    split_ifs <;> exact B.query _ _ _ _ _ (by simp only []; omega) (by simp only []; omega)
  ct c e := by
    unfold stHeads1
    pointwise
    split_ifs <;> exact B.ct _ _ _ _ _ (by simp only []; omega) (by simp only []; omega)

theorem Block.dk_at (j : Fin 256) (kv : Fin 2) (e : Fin 64) (l : Fin 128) (hl : l.val = kv.val * 64 + e.val) :
    (stDk bias z0 z1 k v q d : S256x128.Idx → EReal) (ix2 j l) = kerDk K V Q D z n j kv e := by
  unfold stDk stBeside
  pointwise [B.group0.dk_at, B.group1.dk_at]
  by_cases hk : l.val < 64
  · obtain rfl : kv = 0 := Fin.ext (by simp only [Fin.val_zero]; omega)
    rw [dif_pos hk]
    exact congrArg _ (Fin.ext (by simpa using hl))
  · obtain rfl : kv = 1 := Fin.ext (by simp only [Fin.val_one]; omega)
    rw [dif_neg hk]
    exact congrArg _ (Fin.ext (by simp only [Fin.val_one] at hl ⊢; omega))

theorem Block.dv_at (j : Fin 256) (kv : Fin 2) (e : Fin 64) (l : Fin 128) (hl : l.val = kv.val * 64 + e.val) :
    (stDv bias z0 z1 k q d : S256x128.Idx → EReal) (ix2 j l) = kerDv K Q D z n j kv e := by
  unfold stDv stBeside
  pointwise [B.group0.dv_at, B.group1.dv_at]
  by_cases hk : l.val < 64
  · obtain rfl : kv = 0 := Fin.ext (by simp only [Fin.val_zero]; omega)
    rw [dif_pos hk]
    exact congrArg _ (Fin.ext (by simpa using hl))
  · obtain rfl : kv = 1 := Fin.ext (by simp only [Fin.val_one]; omega)
    rw [dif_neg hk]
    exact congrArg _ (Fin.ext (by simp only [Fin.val_one] at hl ⊢; omega))

end Block

end Cert.Step.Swa
end
-- ==== Proof.SwaTile.lean ====
/- The window attention's gradient: what each grid point's arrays hold, and what the first region leaves. -/
module

public import proofs.«01_k».proof.Proof.SwaBlocks

@[expose] public section

set_option maxRecDepth 16384

noncomputable section

namespace Cert.Step.Swa

open Cert.KernelSwaIdeal Cert.KernelSwaIdeal.Gen Idealize.ShloMosaic Idealize.ShloMosaic.TcCoe Idealize.SL.Sem
open scoped BigOperators

theorem coord0 (t : Fin cfg0.N) : (grid0.coords t 0).val = t.val :=
  (by decide +kernel : ∀ t : Fin grid0.N, (grid0.coords t 0).val = t.val) t

/-- A column's query, as the kernel finds it. -/
theorem rem_at (c : Fin 512) :
    Scalar.select
      (IntOp.andi
        (IntOp.xori (IntOp.cmpi .slt (IntOp.remsi .vector (BitVec.ofNat 32 c.val) (Scalar.select (Scalar.cmpi .eq 128#32 0#32) 1#32 128#32)) 0#32)
          (Scalar.cmpi .slt (Scalar.select (Scalar.cmpi .eq 128#32 0#32) 1#32 128#32) 0#32))
        (IntOp.cmpi .ne (IntOp.remsi .vector (BitVec.ofNat 32 c.val) (Scalar.select (Scalar.cmpi .eq 128#32 0#32) 1#32 128#32)) 0#32))
      (IntOp.addi (IntOp.remsi .vector (BitVec.ofNat 32 c.val) (Scalar.select (Scalar.cmpi .eq 128#32 0#32) 1#32 128#32))
        (Scalar.select (Scalar.cmpi .eq 128#32 0#32) 1#32 128#32))
      (IntOp.remsi .vector (BitVec.ofNat 32 c.val) (Scalar.select (Scalar.cmpi .eq 128#32 0#32) 1#32 128#32)) = BitVec.ofNat 32 (c.val % 128) :=
  (by decide +kernel : ∀ c : Fin 512, Scalar.select
      (IntOp.andi
        (IntOp.xori (IntOp.cmpi .slt (IntOp.remsi .vector (BitVec.ofNat 32 c.val) (Scalar.select (Scalar.cmpi .eq 128#32 0#32) 1#32 128#32)) 0#32)
          (Scalar.cmpi .slt (Scalar.select (Scalar.cmpi .eq 128#32 0#32) 1#32 128#32) 0#32))
        (IntOp.cmpi .ne (IntOp.remsi .vector (BitVec.ofNat 32 c.val) (Scalar.select (Scalar.cmpi .eq 128#32 0#32) 1#32 128#32)) 0#32))
      (IntOp.addi (IntOp.remsi .vector (BitVec.ofNat 32 c.val) (Scalar.select (Scalar.cmpi .eq 128#32 0#32) 1#32 128#32))
        (Scalar.select (Scalar.cmpi .eq 128#32 0#32) 1#32 128#32))
      (IntOp.remsi .vector (BitVec.ofNat 32 c.val) (Scalar.select (Scalar.cmpi .eq 128#32 0#32) 1#32 128#32)) = BitVec.ofNat 32 (c.val % 128)) c

theorem mask_bot : (Named.named κ "mask" 0xF149F2CA#32 : Ideal .f32) = (⊥ : EReal) := by
  exact IdealRules.named_const.ideal_named_scalar _ _ _ _ rfl

/-- The mask's bias: nothing on a query's own window, minus infinity elsewhere. -/
theorem bias_at (j : Fin 256) (c : Fin 512) : (k0_pay4 (F := Ideal) : S256x512.Idx → EReal) (ix2 j c) =
    if j.val ≤ (cq c).val + 128 ∧ (cq c).val < j.val then 0 else ⊥ := by
  unfold k0_pay4
  pointwise [rem_at, mask_bot]
  rw [near_at (cq c) j]
  exact select_valid _ _ _

/-- The first block has no keys before it. -/
theorem first_at (t : Fin 16) (j : Fin 256) :
    IntOp.cmpi .slt (BitVec.ofNat 32 j.val) (Scalar.select (Scalar.cmpi .eq (BitVec.ofNat 32 t.val) 0#32) 128#32 0#32) =
      if t.val = 0 ∧ j.val < 128 then 1#1 else 0#1 :=
  (by decide +kernel : ∀ (t : Fin 16) (j : Fin 256),
    IntOp.cmpi .slt (BitVec.ofNat 32 j.val) (Scalar.select (Scalar.cmpi .eq (BitVec.ofNat 32 t.val) 0#32) 128#32 0#32) =
      if t.val = 0 ∧ j.val < 128 then 1#1 else 0#1) t j

theorem bias0_at (t : Fin cfg0.N) (j : Fin 256) (c : Fin 512) : (k0_pay5 (F := Ideal) (grid0.coords t) : S256x512.Idx → EReal) (ix2 j c) =
    if Valid ⟨4 * t.val, by have : t.val < 16 := t.isLt; omega⟩ (cq c) j then 0 else ⊥ := by
  unfold k0_pay5
  pointwise [bias_at, mask_bot, coord0 t, first_at]
  rw [select_valid]
  simp only [Valid]
  by_cases ht : t.val = 0 <;> by_cases hj : j.val < 128 <;> by_cases hw : j.val ≤ c.val % 128 + 128 ∧ c.val % 128 < j.val <;> simp [ht, hj, hw] <;> omega

/-- Four pieces side by side, at a column. -/
theorem pick_at (x0 x1 x2 x3 : EReal) (c : Fin 512) :
    (if _h : c.val < 128 then x0 else if _h : c.val - 128 < 128 then x1 else if _h : c.val - 128 - 128 < 128 then x2 else x3) =
      ![x0, x1, x2, x3] (cg c) := by
  by_cases h₁ : c.val < 128
  · rw [dif_pos h₁, show cg c = 0 from Fin.ext (by simp only [Fin.val_zero]; omega)]; rfl
  by_cases h₂ : c.val < 256
  · rw [dif_neg h₁, dif_pos (by omega), show cg c = 1 from Fin.ext (by simp only [Fin.val_one]; omega)]; rfl
  by_cases h₃ : c.val < 384
  · rw [dif_neg h₁, dif_neg (by omega), dif_pos (by omega), show cg c = 2 from Fin.ext (by simp only [Fin.val_two]; omega)]; rfl
  · rw [dif_neg h₁, dif_neg (by omega), dif_neg (by omega), show cg c = 3 from Fin.ext (by show c.val / 128 = 3; omega)]; rfl

theorem sinks0_at (x0 x1 x2 x3 : EReal) (a : Fin 1) (c : Fin 512) :
    (k0_pay8 (F := Ideal) (k0_pay6 x0) (k0_pay7 x1) x2 x3 : S1x512.Idx → EReal) (ix2 a c) = ![x0, x1, x2, x3] (cg c) := by
  unfold k0_pay8 k0_pay6 k0_pay7
  pointwise
  exact pick_at x0 x1 x2 x3 c

theorem sinks1_at (x0 x1 x2 x3 : EReal) (a : Fin 1) (c : Fin 512) :
    (k0_pay9 (F := Ideal) x0 x1 x2 x3 : S1x512.Idx → EReal) (ix2 a c) = ![x0, x1, x2, x3] (cg c) := by
  unfold k0_pay9
  pointwise
  exact pick_at x0 x1 x2 x3 c

section Region

variable (V : (c : Dev nD) → (b : Ref sig Kind.tc) → Buf (Elt Ideal) ((c.tc : Thread nD τ).loc b)) (c : Dev nD)

/-- The first region's input arrays, by block, row, head and lane. -/
def inQ (n : Fin 64) (q : Fin 128) (h : Fin 8) (e : Fin 64) : EReal := (V c main_v58 : S8192x512.Idx → EReal) (ix2 (rowOf n q) ⟨h.val * 64 + e.val, by omega⟩)
def inK (n : Fin 64) (i : Fin 128) (kv : Fin 2) (e : Fin 64) : EReal := (V c main_v75 : S8192x128.Idx → EReal) (ix2 (rowOf n i) ⟨kv.val * 64 + e.val, by omega⟩)
def inV (n : Fin 64) (i : Fin 128) (kv : Fin 2) (e : Fin 64) : EReal := (V c main_v77 : S8192x128.Idx → EReal) (ix2 (rowOf n i) ⟨kv.val * 64 + e.val, by omega⟩)
def inD (n : Fin 64) (q : Fin 128) (h : Fin 8) (e : Fin 64) : EReal := (V c main_arg3 : S8192x512.Idx → EReal) (ix2 (rowOf n q) ⟨h.val * 64 + e.val, by omega⟩)
def inZ (h : Fin 8) : EReal := (V c main_v78 : S1x8.Idx → EReal) (ix2 0 h)

/-- Where each grid point's blocks lie. -/
theorem idx0 (t : Fin cfg0.N) : win0_0.index t = ![0, 0] ∧ win0_1.index t = ![t.val, 0] ∧ win0_2.index t = ![t.val, 0] ∧
    win0_3.index t = ![4 * t.val - 1, 0] ∧ win0_4.index t = ![t.val, 0] ∧ win0_5.index t = ![4 * t.val - 1, 0] ∧ win0_6.index t = ![t.val, 0] ∧
    win0_7.index t = ![t.val, 0] ∧ win0_8.index t = ![t.val, 0] ∧ win0_9.index t = ![t.val, 0] ∧ win0_10.index t = ![t.val, 0] ∧
    win0_11.index t = ![t.val, 0] ∧ win0_12.index t = ![0, 0] :=
  (by decide +kernel : ∀ t : Fin grid0.N, win0_0.index t = ![0, 0] ∧ win0_1.index t = ![t.val, 0] ∧ win0_2.index t = ![t.val, 0] ∧
    win0_3.index t = ![4 * t.val - 1, 0] ∧ win0_4.index t = ![t.val, 0] ∧ win0_5.index t = ![4 * t.val - 1, 0] ∧ win0_6.index t = ![t.val, 0] ∧
    win0_7.index t = ![t.val, 0] ∧ win0_8.index t = ![t.val, 0] ∧ win0_9.index t = ![t.val, 0] ∧ win0_10.index t = ![t.val, 0] ∧
    win0_11.index t = ![t.val, 0] ∧ win0_12.index t = ![0, 0]) t

/-- A grid point's block of queries. -/
abbrev blockOf (t : Fin cfg0.N) (b : Fin 4) : Fin 64 := ⟨4 * t.val + b.val, by have : t.val < 16 := t.isLt; omega⟩

theorem blk_z (t : Fin cfg0.N) (h : Fin 8) : iblk0 V c 0 t (ix2 0 h) = inZ V c h := by
  blk_point [iblk0, idx0 t, inZ]

theorem blk_q (t : Fin cfg0.N) (b : Fin 4) (q : Fin 128) (h : Fin 8) (e : Fin 64) (r l : Fin 512) (hr : r.val = b.val * 128 + q.val)
    (hl : l.val = h.val * 64 + e.val) : iblk0 V c 1 t (ix2 r l) = inQ V c (blockOf t b) q h e := by
  blk_point [iblk0, idx0 t, inQ]

theorem blk_d (t : Fin cfg0.N) (b : Fin 4) (q : Fin 128) (h : Fin 8) (e : Fin 64) (r l : Fin 512) (hr : r.val = b.val * 128 + q.val)
    (hl : l.val = h.val * 64 + e.val) : iblk0 V c 6 t (ix2 r l) = inD V c (blockOf t b) q h e := by
  blk_point [iblk0, idx0 t, inD]

theorem blk_k (t : Fin cfg0.N) (b : Fin 4) (i : Fin 128) (kv : Fin 2) (e : Fin 64) (r : Fin 512) (l : Fin 128) (hr : r.val = b.val * 128 + i.val)
    (hl : l.val = kv.val * 64 + e.val) : iblk0 V c 2 t (ix2 r l) = inK V c (blockOf t b) i kv e := by
  blk_point [iblk0, idx0 t, inK]

theorem blk_v (t : Fin cfg0.N) (b : Fin 4) (i : Fin 128) (kv : Fin 2) (e : Fin 64) (r : Fin 512) (l : Fin 128) (hr : r.val = b.val * 128 + i.val)
    (hl : l.val = kv.val * 64 + e.val) : iblk0 V c 4 t (ix2 r l) = inV V c (blockOf t b) i kv e := by
  blk_point [iblk0, idx0 t, inV]

theorem blk_kp (t : Fin cfg0.N) (i : Fin 128) (kv : Fin 2) (e : Fin 64) (l : Fin 128)
    (hl : l.val = kv.val * 64 + e.val) : iblk0 V c 3 t (ix2 i l) = inK V c ⟨4 * t.val - 1, by have : t.val < 16 := t.isLt; omega⟩ i kv e := by
  blk_point [iblk0, idx0 t, inK]

theorem blk_vp (t : Fin cfg0.N) (i : Fin 128) (kv : Fin 2) (e : Fin 64) (l : Fin 128)
    (hl : l.val = kv.val * 64 + e.val) : iblk0 V c 5 t (ix2 i l) = inV V c ⟨4 * t.val - 1, by have : t.val < 16 := t.isLt; omega⟩ i kv e := by
  blk_point [iblk0, idx0 t, inV]

end Region

end Cert.Step.Swa
end
-- ==== Proof.SwaOverlap.lean ====
/- The window attention's gradient: what each grid point's arrays hold, and what the first region leaves. -/
module

public import proofs.«01_k».proof.Proof.SwaTile

@[expose] public section

set_option maxRecDepth 16384

noncomputable section

namespace Cert.Step.Swa

open Cert.KernelSwaIdeal Cert.KernelSwaIdeal.Gen Idealize.ShloMosaic Idealize.ShloMosaic.TcCoe Idealize.SL.Sem
open scoped BigOperators

theorem bits_eighth : Ideal.ofBits .bf16 0x3E00#16 = wEighth := by
  simp [Ideal.ofBits, Ideal.ieee, -EReal.coe_mul]
  norm_num

/-- What a tile's row receives from the windows of the tile's own blocks. -/
def over (X : Fin 64 → Fin 256 → Fin 2 → Fin 64 → EReal) (n : Fin 64) (i : Fin 128) (kv : Fin 2) (e : Fin 64) : EReal :=
  X n ⟨128 + i.val, by omega⟩ kv e + if h : n.val % 4 < 3 then X ⟨1 + n.val, by omega⟩ ⟨i.val, by omega⟩ kv e else 0

theorem overlap_at {X : Fin 64 → Fin 256 → Fin 2 → Fin 64 → EReal} (t : Fin cfg0.N) {a0 a1 a2 a3 : FVec Ideal S256x128 .f32} {kv : Fin 2} {e : Fin 64}
    {l : Fin 128}
    (h0 : ∀ j, (a0 : S256x128.Idx → EReal) (ix2 j l) = X (blockOf t 0) j kv e) (h1 : ∀ j, (a1 : S256x128.Idx → EReal) (ix2 j l) = X (blockOf t 1) j kv e)
    (h2 : ∀ j, (a2 : S256x128.Idx → EReal) (ix2 j l) = X (blockOf t 2) j kv e) (h3 : ∀ j, (a3 : S256x128.Idx → EReal) (ix2 j l) = X (blockOf t 3) j kv e)
    (r : Fin 512) : (stOverlap a0 a1 a2 a3 : S512x128.Idx → EReal) (ix2 r l) = over X (blockOf t ⟨r.val / 128, by omega⟩) ⟨r.val % 128, by omega⟩ kv e := by
  unfold stOverlap stHigh stLow over
  pointwise [h0, h1, h2, h3]
  have X2 {n n' : Fin 64} {i i' : Fin 256} (hn : n.val = n'.val) (hi : i.val = i'.val) : X n i kv e = X n' i' kv e := by
    rw [Fin.ext hn, Fin.ext hi]
  by_cases h₁ : r.val < 128
  · rw [dif_pos h₁, dif_pos (by omega)]
    exact congrArg₂ (· + ·) (X2 (by show 4 * t.val + 0 = 4 * t.val + r.val / 128; omega) (by show 128 + r.val = 128 + r.val % 128; omega))
      (X2 (by show 4 * t.val + 1 = 1 + (4 * t.val + r.val / 128); omega) (by show r.val = r.val % 128; omega))
  by_cases h₂ : r.val < 256
  · rw [dif_neg h₁, dif_pos (by omega), dif_pos (by omega)]
    exact congrArg₂ (· + ·) (X2 (by show 4 * t.val + 1 = 4 * t.val + r.val / 128; omega) (by show 128 + (r.val - 128) = 128 + r.val % 128; omega))
      (X2 (by show 4 * t.val + 2 = 1 + (4 * t.val + r.val / 128); omega) (by show r.val - 128 = r.val % 128; omega))
  by_cases h₃ : r.val < 384
  · rw [dif_neg h₁, dif_neg (by omega), dif_pos (by omega), dif_pos (by omega)]
    exact congrArg₂ (· + ·) (X2 (by show 4 * t.val + 2 = 4 * t.val + r.val / 128; omega) (by show 128 + (r.val - 128 - 128) = 128 + r.val % 128; omega))
      (X2 (by show 4 * t.val + 3 = 1 + (4 * t.val + r.val / 128); omega) (by show r.val - 128 - 128 = r.val % 128; omega))
  · rw [dif_neg h₁, dif_neg (by omega), dif_neg (by omega), dif_neg (by omega), add_zero]
    exact X2 (by show 4 * t.val + 3 = 4 * t.val + r.val / 128; omega) (by show 128 + (r.val - 128 - 128 - 128) = 128 + r.val % 128; omega)

/-- A lane's key head and its place in the head; a value at a tile's row and lane. -/
abbrev lkv (l : Fin 128) : Fin 2 := ⟨l.val / 64, by omega⟩
abbrev le (l : Fin 128) : Fin 64 := ⟨l.val % 64, by omega⟩
abbrev tileRow (X : Fin 64 → Fin 128 → Fin 2 → Fin 64 → EReal) (t : Fin cfg0.N) (r : Fin 512) (l : Fin 128) : EReal :=
  X (blockOf t ⟨r.val / 128, by omega⟩) ⟨r.val % 128, by omega⟩ (lkv l) (le l)

section Tile

variable (V : (c : Dev nD) → (b : Ref sig Kind.tc) → Buf (Elt Ideal) ((c.tc : Thread nD τ).loc b)) (c : Dev nD)

abbrev VDk := kerDk (inK V c) (inV V c) (inQ V c) (inD V c) (inZ V c)
abbrev VDv := kerDv (inK V c) (inQ V c) (inD V c) (inZ V c)

theorem tile_k (t : Fin cfg0.N) (b : Fin 4) (j : Fin 256) (kv : Fin 2) (e : Fin 64) (r : Fin 640) (l : Fin 128) (hr : r.val = b.val * 128 + j.val)
    (hl : l.val = kv.val * 64 + e.val) : (k0_pay10 (F := Ideal) (iblk0 V c 3 t) (iblk0 V c 2 t) : S640x128.Idx → EReal) (ix2 r l) =
      winK (inK V c) (blockOf t b) j kv e := by
  unfold k0_pay10 winK
  pointwise
  by_cases hj : j.val < 128
  · rw [dif_pos hj]
    by_cases hb : r.val < 128
    · rw [dif_pos hb]
      refine (blk_kp V c t _ kv e l hl).trans ?_
      congr 1 <;> apply Fin.ext <;> simp only [] <;> omega
    · rw [dif_neg hb]
      refine (blk_k V c t ⟨b.val - 1, by omega⟩ ⟨j.val, hj⟩ kv e _ l (by simp only []; omega) hl).trans ?_
      congr 1
      apply Fin.ext
      simp only []
      omega
  · rw [dif_neg hj, dif_neg (by omega)]
    exact blk_k V c t b ⟨j.val - 128, by omega⟩ kv e _ l (by simp only []; omega) hl

theorem tile_v (t : Fin cfg0.N) (b : Fin 4) (j : Fin 256) (kv : Fin 2) (e : Fin 64) (r : Fin 640) (l : Fin 128) (hr : r.val = b.val * 128 + j.val)
    (hl : l.val = kv.val * 64 + e.val) : (k0_pay11 (F := Ideal) (iblk0 V c 5 t) (iblk0 V c 4 t) : S640x128.Idx → EReal) (ix2 r l) =
      winK (inV V c) (blockOf t b) j kv e := by
  unfold k0_pay11 winK
  pointwise
  by_cases hj : j.val < 128
  · rw [dif_pos hj]
    by_cases hb : r.val < 128
    · rw [dif_pos hb]
      refine (blk_vp V c t _ kv e l hl).trans ?_
      congr 1 <;> apply Fin.ext <;> simp only [] <;> omega
    · rw [dif_neg hb]
      refine (blk_v V c t ⟨b.val - 1, by omega⟩ ⟨j.val, hj⟩ kv e _ l (by simp only []; omega) hl).trans ?_
      congr 1
      apply Fin.ext
      simp only []
      omega
  · rw [dif_neg hj, dif_neg (by omega)]
    exact blk_v V c t b ⟨j.val - 128, by omega⟩ kv e _ l (by simp only []; omega) hl

theorem mkBlock (t : Fin cfg0.N) (b : Fin 4) {bias : FVec Ideal S256x512 .f32} {z0 z1 : FVec Ideal S1x512 .f32} {k v : FVec Ideal S256x128 .bf16}
    {q : Vec Ideal S128x512 .bf16} {d : Vec Ideal S128x512 .f32}
    (hb : ∀ j c, (bias : S256x512.Idx → EReal) (ix2 j c) = if Valid (blockOf t b) (cq c) j then 0 else ⊥)
    (h0 : ∀ a x, (z0 : S1x512.Idx → EReal) (ix2 a x) = inZ V c (headOf 0 (cg x))) (h1 : ∀ a x, (z1 : S1x512.Idx → EReal) (ix2 a x) = inZ V c (headOf 1 (cg x)))
    (hk : ∀ j l, (k : S256x128.Idx → EReal) (ix2 j l) = (k0_pay10 (F := Ideal) (iblk0 V c 3 t) (iblk0 V c 2 t) : S640x128.Idx → EReal) (ix2 ⟨b.val * 128 + j.val, by omega⟩ l))
    (hv : ∀ j l, (v : S256x128.Idx → EReal) (ix2 j l) = (k0_pay11 (F := Ideal) (iblk0 V c 5 t) (iblk0 V c 4 t) : S640x128.Idx → EReal) (ix2 ⟨b.val * 128 + j.val, by omega⟩ l))
    (hq : ∀ i l, (q : S128x512.Idx → EReal) (ix2 i l) = (iblk0 V c 1 t : S512x512.Idx → EReal) (ix2 ⟨b.val * 128 + i.val, by omega⟩ l))
    (hd : ∀ i l, (d : S128x512.Idx → EReal) (ix2 i l) = (iblk0 V c 6 t : S512x512.Idx → EReal) (ix2 ⟨b.val * 128 + i.val, by omega⟩ l)) :
    Block (inK V c) (inV V c) (inQ V c) (inD V c) (inZ V c) (blockOf t b) bias z0 z1 k v (stQ q) (stDo d) where
  bias := hb
  sink0 := h0
  sink1 := h1
  key j kv e l hl := (hk j l).trans (tile_k V c t b j kv e _ l rfl hl)
  value j kv e l hl := (hv j l).trans (tile_v V c t b j kv e _ l rfl hl)
  query i h e i' l hi hl := by
    unfold stQ
    pointwise [hq]
    rw [bits_eighth]
    exact congrArg (· * wEighth) (blk_q V c t b i h e _ l (by simp only []; omega) hl)
  ct i h e i' l hi hl := by
    unfold stDo
    pointwise [hd]
    exact blk_d V c t b i h e _ l (by simp only []; omega) hl

/-- The first region's arrays at one grid point: the windows' keys and values, and the four blocks. -/
abbrev tK (t : Fin cfg0.N) : FVec Ideal S640x128 .bf16 := k0_pay10 (iblk0 V c 3 t) (iblk0 V c 2 t)
abbrev tV (t : Fin cfg0.N) : FVec Ideal S640x128 .bf16 := k0_pay11 (iblk0 V c 5 t) (iblk0 V c 4 t)
abbrev bias0 (t : Fin cfg0.N) : FVec Ideal S256x512 .f32 := k0_pay5 (F := Ideal) (grid0.coords t)
abbrev bias1 : FVec Ideal S256x512 .f32 := k0_pay4 (F := Ideal)

structure Tile (t : Fin cfg0.N) (z0 z1 : FVec Ideal S1x512 .f32) (q0 d0 q1 d1 q2 d2 q3 d3 : FVec Ideal S128x512 .bf16) : Prop where
  B0 : Block (inK V c) (inV V c) (inQ V c) (inD V c) (inZ V c) (blockOf t 0) (bias0 t) z0 z1 (stWin0 (tK V c t)) (stWin0 (tV V c t)) q0 d0
  B1 : Block (inK V c) (inV V c) (inQ V c) (inD V c) (inZ V c) (blockOf t 1) bias1 z0 z1 (stWin1 (tK V c t)) (stWin1 (tV V c t)) q1 d1
  B2 : Block (inK V c) (inV V c) (inQ V c) (inD V c) (inZ V c) (blockOf t 2) bias1 z0 z1 (stWin2 (tK V c t)) (stWin2 (tV V c t)) q2 d2
  B3 : Block (inK V c) (inV V c) (inQ V c) (inD V c) (inZ V c) (blockOf t 3) bias1 z0 z1 (stWin3 (tK V c t)) (stWin3 (tV V c t)) q3 d3

theorem mkTile (t : Fin cfg0.N) {x0 x1 x2 x3 x4 x5 x6 x7 : EReal} {q0 q1 q2 q3 : Vec Ideal S128x512 .bf16} {d0 d1 d2 d3 : Vec Ideal S128x512 .f32}
    (hx0 : x0 = inZ V c 0) (hx1 : x1 = inZ V c 1) (hx2 : x2 = inZ V c 2) (hx3 : x3 = inZ V c 3) (hx4 : x4 = inZ V c 4) (hx5 : x5 = inZ V c 5)
    (hx6 : x6 = inZ V c 6) (hx7 : x7 = inZ V c 7)
    (hq0 : ∀ i l, (q0 : S128x512.Idx → EReal) (ix2 i l) = (iblk0 V c 1 t : S512x512.Idx → EReal) (ix2 ⟨0 + i.val, by omega⟩ l))
    (hd0 : ∀ i l, (d0 : S128x512.Idx → EReal) (ix2 i l) = (iblk0 V c 6 t : S512x512.Idx → EReal) (ix2 ⟨0 + i.val, by omega⟩ l))
    (hq1 : ∀ i l, (q1 : S128x512.Idx → EReal) (ix2 i l) = (iblk0 V c 1 t : S512x512.Idx → EReal) (ix2 ⟨128 + i.val, by omega⟩ l))
    (hd1 : ∀ i l, (d1 : S128x512.Idx → EReal) (ix2 i l) = (iblk0 V c 6 t : S512x512.Idx → EReal) (ix2 ⟨128 + i.val, by omega⟩ l))
    (hq2 : ∀ i l, (q2 : S128x512.Idx → EReal) (ix2 i l) = (iblk0 V c 1 t : S512x512.Idx → EReal) (ix2 ⟨256 + i.val, by omega⟩ l))
    (hd2 : ∀ i l, (d2 : S128x512.Idx → EReal) (ix2 i l) = (iblk0 V c 6 t : S512x512.Idx → EReal) (ix2 ⟨256 + i.val, by omega⟩ l))
    (hq3 : ∀ i l, (q3 : S128x512.Idx → EReal) (ix2 i l) = (iblk0 V c 1 t : S512x512.Idx → EReal) (ix2 ⟨384 + i.val, by omega⟩ l))
    (hd3 : ∀ i l, (d3 : S128x512.Idx → EReal) (ix2 i l) = (iblk0 V c 6 t : S512x512.Idx → EReal) (ix2 ⟨384 + i.val, by omega⟩ l)) :
    Tile V c t (k0_pay8 (F := Ideal) (k0_pay6 x0) (k0_pay7 x1) x2 x3) (k0_pay9 (F := Ideal) x4 x5 x6 x7)
      (stQ q0) (stDo d0) (stQ q1) (stDo d1) (stQ q2) (stDo d2) (stQ q3) (stDo d3) := by
  have z0 (a : Fin 1) (x : Fin 512) : (k0_pay8 (F := Ideal) (k0_pay6 x0) (k0_pay7 x1) x2 x3 : S1x512.Idx → EReal) (ix2 a x) = inZ V c (headOf 0 (cg x)) := by
    rw [sinks0_at, hx0, hx1, hx2, hx3]
    generalize cg x = g
    fin_cases g <;> rfl
  have z1 (a : Fin 1) (x : Fin 512) : (k0_pay9 (F := Ideal) x4 x5 x6 x7 : S1x512.Idx → EReal) (ix2 a x) = inZ V c (headOf 1 (cg x)) := by
    refine (sinks1_at x4 x5 x6 x7 a x).trans ?_
    rw [hx4, hx5, hx6, hx7]
    generalize cg x = g
    fin_cases g <;> rfl
  have later (b : Fin 4) (hb : 0 < b.val) (j : Fin 256) (x : Fin 512) : (bias1 : S256x512.Idx → EReal) (ix2 j x) = if Valid (blockOf t b) (cq x) j then 0 else ⊥ := by
    refine (bias_at j x).trans (if_congr ?_ rfl rfl)
    simp only [Valid]
    omega
  refine ⟨mkBlock V c t 0 (bias0_at t) z0 z1 ?_ ?_ ?_ ?_, mkBlock V c t 1 (later 1 (by decide)) z0 z1 ?_ ?_ ?_ ?_,
    mkBlock V c t 2 (later 2 (by decide)) z0 z1 ?_ ?_ ?_ ?_, mkBlock V c t 3 (later 3 (by decide)) z0 z1 ?_ ?_ ?_ ?_⟩
  · intro j l
    unfold stWin0
    pointwise
  · intro j l
    unfold stWin0
    pointwise
  · exact hq0
  · exact hd0
  · intro j l
    unfold stWin1
    pointwise
  · intro j l
    unfold stWin1
    pointwise
  · exact hq1
  · exact hd1
  · intro j l
    unfold stWin2
    pointwise
  · intro j l
    unfold stWin2
    pointwise
  · exact hq2
  · exact hd2
  · intro j l
    unfold stWin3
    pointwise
  · intro j l
    unfold stWin3
    pointwise
  · exact hq3
  · exact hd3

variable {V c} {t : Fin cfg0.N} {z0 z1 : FVec Ideal S1x512 .f32} {q0 d0 q1 d1 q2 d2 q3 d3 : FVec Ideal S128x512 .bf16}
  (T : Tile V c t z0 z1 q0 d0 q1 d1 q2 d2 q3 d3)
include T

/-- The keys' and the values' gradients over a tile, and over the block before it. -/
theorem Tile.dk (j : S512x128.Idx) :
    (stOverlap (stDk (bias0 t) z0 z1 (stWin0 (tK V c t)) (stWin0 (tV V c t)) q0 d0) (stDk bias1 z0 z1 (stWin1 (tK V c t)) (stWin1 (tV V c t)) q1 d1)
      (stDk bias1 z0 z1 (stWin2 (tK V c t)) (stWin2 (tV V c t)) q2 d2) (stDk bias1 z0 z1 (stWin3 (tK V c t)) (stWin3 (tV V c t)) q3 d3) : S512x128.Idx → EReal) j =
      tileRow (over (VDk V c)) t (j 0) (j 1) := by
  have hl : (j 1).val = (lkv (j 1)).val * 64 + (le (j 1)).val := by show _ = (j 1).val / 64 * 64 + (j 1).val % 64; omega
  refine (congrArg _ (eq_ix2 (n0 := 512) (n1 := 128) j)).trans ?_
  exact overlap_at t (fun i => T.B0.dk_at i _ _ _ hl) (fun i => T.B1.dk_at i _ _ _ hl) (fun i => T.B2.dk_at i _ _ _ hl) (fun i => T.B3.dk_at i _ _ _ hl) (j 0)

theorem Tile.dv (j : S512x128.Idx) :
    (stOverlap (stDv (bias0 t) z0 z1 (stWin0 (tK V c t)) q0 d0) (stDv bias1 z0 z1 (stWin1 (tK V c t)) q1 d1)
      (stDv bias1 z0 z1 (stWin2 (tK V c t)) q2 d2) (stDv bias1 z0 z1 (stWin3 (tK V c t)) q3 d3) : S512x128.Idx → EReal) j =
      tileRow (over (VDv V c)) t (j 0) (j 1) := by
  have hl : (j 1).val = (lkv (j 1)).val * 64 + (le (j 1)).val := by show _ = (j 1).val / 64 * 64 + (j 1).val % 64; omega
  refine (congrArg _ (eq_ix2 (n0 := 512) (n1 := 128) j)).trans ?_
  exact overlap_at t (fun i => T.B0.dv_at i _ _ _ hl) (fun i => T.B1.dv_at i _ _ _ hl) (fun i => T.B2.dv_at i _ _ _ hl) (fun i => T.B3.dv_at i _ _ _ hl) (j 0)

omit T in
theorem Block.low_dk {n : Fin 64} {bias : FVec Ideal S256x512 .f32} {k v : FVec Ideal S256x128 .bf16} {q d : FVec Ideal S128x512 .bf16}
    (B : Block (inK V c) (inV V c) (inQ V c) (inD V c) (inZ V c) n bias z0 z1 k v q d) (j : S128x128.Idx) :
    (stLow (stDk bias z0 z1 k v q d) : S128x128.Idx → EReal) j =
      VDk V c n ⟨(j 0).val, by have : (j 0).val < 128 := (j 0).isLt; omega⟩ (lkv (j 1)) (le (j 1)) := by
  have hl : (j 1).val = (lkv (j 1)).val * 64 + (le (j 1)).val := by show _ = (j 1).val / 64 * 64 + (j 1).val % 64; omega
  unfold stLow
  pointwise [B.dk_at _ _ _ _ hl]

omit T in
theorem Block.low_dv {n : Fin 64} {bias : FVec Ideal S256x512 .f32} {k v : FVec Ideal S256x128 .bf16} {q d : FVec Ideal S128x512 .bf16}
    (B : Block (inK V c) (inV V c) (inQ V c) (inD V c) (inZ V c) n bias z0 z1 k v q d) (j : S128x128.Idx) :
    (stLow (stDv bias z0 z1 k q d) : S128x128.Idx → EReal) j =
      VDv V c n ⟨(j 0).val, by have : (j 0).val < 128 := (j 0).isLt; omega⟩ (lkv (j 1)) (le (j 1)) := by
  have hl : (j 1).val = (lkv (j 1)).val * 64 + (le (j 1)).val := by show _ = (j 1).val / 64 * 64 + (j 1).val % 64; omega
  unfold stLow
  pointwise [B.dv_at _ _ _ _ hl]

end Tile

end Cert.Step.Swa
end
-- ==== Proof.SwaPacked.lean ====
/- The window attention's gradient: what the kernel's second region leaves. -/
module

public import proofs.«01_k».proof.Proof.SwaOverlap

@[expose] public section

set_option maxRecDepth 16384

noncomputable section

namespace Cert.Step.Swa

open Cert.KernelSwaIdeal Cert.KernelSwaIdeal.Gen Idealize.ShloMosaic Idealize.ShloMosaic.TcCoe Idealize.SL.Sem
open scoped BigOperators

/-- A row rotated back, lane by lane: the partner lane is 32 away in the same head. -/
def turned {w : ℕ} (x c s : Fin w → EReal) (j : Fin w) : EReal :=
  x j * c j + if j.val % 64 < 32 then (if h : j.val + 32 < w then x ⟨j.val + 32, h⟩ * s ⟨j.val + 32, h⟩ else 0) else x ⟨j.val - 32, by omega⟩ * s ⟨j.val - 32, by omega⟩

/-- A row of the packed gradient, from its parts and the tables. -/
def outRow (q : Fin 512 → EReal) (k v : Fin 128 → EReal) (u : Fin 512 → EReal) (c s : Fin 128 → EReal) (j : Fin 1280) : EReal :=
  if h : j.val < 512 then turned q (fun l => c ⟨l.val % 128, by omega⟩) (fun l => s ⟨l.val % 128, by omega⟩) ⟨j.val, h⟩
  else if h : j.val - 512 < 128 then turned k c s ⟨j.val - 512, h⟩
  else if h : j.val - 512 - 128 < 128 then v ⟨j.val - 512 - 128, h⟩
  else u ⟨j.val - 512 - 128 - 128, by omega⟩

/-- Which half of its head a lane lies in, as the kernel finds it. -/
theorem half_at (l : Fin 512) :
    IntOp.cmpi .slt
      (Scalar.select
        (IntOp.andi
          (IntOp.xori (IntOp.cmpi .slt (IntOp.remsi .vector (BitVec.ofNat 32 l.val) (Scalar.select (Scalar.cmpi .eq 64#32 0#32) 1#32 64#32)) 0#32)
            (Scalar.cmpi .slt (Scalar.select (Scalar.cmpi .eq 64#32 0#32) 1#32 64#32) 0#32))
          (IntOp.cmpi .ne (IntOp.remsi .vector (BitVec.ofNat 32 l.val) (Scalar.select (Scalar.cmpi .eq 64#32 0#32) 1#32 64#32)) 0#32))
        (IntOp.addi (IntOp.remsi .vector (BitVec.ofNat 32 l.val) (Scalar.select (Scalar.cmpi .eq 64#32 0#32) 1#32 64#32))
          (Scalar.select (Scalar.cmpi .eq 64#32 0#32) 1#32 64#32))
        (IntOp.remsi .vector (BitVec.ofNat 32 l.val) (Scalar.select (Scalar.cmpi .eq 64#32 0#32) 1#32 64#32))) 32#32 = if l.val % 64 < 32 then 1#1 else 0#1 :=
  (by decide +kernel : ∀ l : Fin 512, IntOp.cmpi .slt
      (Scalar.select
        (IntOp.andi
          (IntOp.xori (IntOp.cmpi .slt (IntOp.remsi .vector (BitVec.ofNat 32 l.val) (Scalar.select (Scalar.cmpi .eq 64#32 0#32) 1#32 64#32)) 0#32)
            (Scalar.cmpi .slt (Scalar.select (Scalar.cmpi .eq 64#32 0#32) 1#32 64#32) 0#32))
          (IntOp.cmpi .ne (IntOp.remsi .vector (BitVec.ofNat 32 l.val) (Scalar.select (Scalar.cmpi .eq 64#32 0#32) 1#32 64#32)) 0#32))
        (IntOp.addi (IntOp.remsi .vector (BitVec.ofNat 32 l.val) (Scalar.select (Scalar.cmpi .eq 64#32 0#32) 1#32 64#32))
          (Scalar.select (Scalar.cmpi .eq 64#32 0#32) 1#32 64#32))
        (IntOp.remsi .vector (BitVec.ofNat 32 l.val) (Scalar.select (Scalar.cmpi .eq 64#32 0#32) 1#32 64#32))) 32#32 = if l.val % 64 < 32 then 1#1 else 0#1) l

theorem tiled_at (f : Fin 128 → EReal) (l : Fin 512) :
    (if h : l.val < 128 then f ⟨l.val, h⟩ else if h : l.val - 128 < 128 then f ⟨l.val - 128, h⟩ else
      if h : l.val - 128 - 128 < 128 then f ⟨l.val - 128 - 128, h⟩ else f ⟨l.val - 128 - 128 - 128, by omega⟩) = f ⟨l.val % 128, by omega⟩ := by
  split_ifs <;> exact congrArg f (Fin.ext (by simp only []; omega))

theorem turn_congr {p : Prop} [Decidable p] {y y' a a' b b' : EReal} (hy : y = y') (ha : p → a = a') (hb : ¬p → b = b') :
    (y + if p then a else b) = y' + if p then a' else b' := by
  split_ifs with h
  · rw [hy, ha h]
  · rw [hy, hb h]

theorem mul_at {w : ℕ} (f g : Fin w → EReal) {i j : Fin w} (h : i.val = j.val) : f i * g i = f j * g j := by
  rw [Fin.ext h]

theorem rotQ_at (c s : Vec Ideal S512x128 .f32) (x : Vec Ideal S512x512 .f32) (r l : Fin 512) : (k1_pay5 c s x : S512x512.Idx → EReal) (ix2 r l) =
    turned (fun l => x (ix2 r l)) (fun l => c (ix2 r ⟨l.val % 128, by omega⟩)) (fun l => s (ix2 r ⟨l.val % 128, by omega⟩)) l := by
  unfold k1_pay5 k1_pay3 k1_pay4 turned
  pointwise
  rw [half_at l, select_valid]
  refine turn_congr (congrArg (x (ix2 r l) * ·) (tiled_at (fun l => c (ix2 r l)) l)) (fun h => ?_) fun h => ?_
  · rw [dif_pos (show l.val + 32 < 512 by omega)]
    refine (congrArg (x (ix2 r ⟨(l.val + 512 - 480) % 512, by omega⟩) * ·) (tiled_at (fun l => s (ix2 r l)) ⟨(l.val + 512 - 480) % 512, by omega⟩)).trans ?_
    exact mul_at (fun l => x (ix2 r l)) (fun l => s (ix2 r ⟨l.val % 128, by omega⟩)) (i := ⟨(l.val + 512 - 480) % 512, by omega⟩) (j := ⟨l.val + 32, by omega⟩) (by simp only []; omega)
  · refine (congrArg (x (ix2 r ⟨(l.val + 512 - 32) % 512, by omega⟩) * ·) (tiled_at (fun l => s (ix2 r l)) ⟨(l.val + 512 - 32) % 512, by omega⟩)).trans ?_
    exact mul_at (fun l => x (ix2 r l)) (fun l => s (ix2 r ⟨l.val % 128, by omega⟩)) (i := ⟨(l.val + 512 - 32) % 512, by omega⟩) (j := ⟨l.val - 32, by omega⟩) (by simp only []; omega)

theorem more_at (t : Fin cfg1.N) : k1_pay2 (F := Ideal) (grid1.coords t) = if t.val < 15 then 1 else 0 := by
  unfold k1_pay2
  rw [show (grid1.coords t 0).val = t.val from (by decide +kernel : ∀ t : Fin grid1.N, (grid1.coords t 0).val = t.val) t]
  show FloatOps.sitofp (F := Ideal) .f32 (Scalar.extui (Scalar.cmpi .slt (BitVec.ofNat 32 t.val) 15#32)) = _
  rw [(by decide +kernel : ∀ t : Fin 16, (Scalar.extui (Scalar.cmpi .slt (BitVec.ofNat 32 t.val) 15#32) : BitVec 32) = if t.val < 15 then 1#32 else 0#32) t]
  split_ifs
  · show (((1#32 : BitVec 32).toInt : ℝ) : EReal) = 1
    simp
  · show (((0#32 : BitVec 32).toInt : ℝ) : EReal) = 0
    simp

/-- The tile's last rows with what the next tile passes back. -/
abbrev lastRows (m : EReal) (x : Vec Ideal S512x128 .f32) (n : Vec Ideal S128x128 .f32) (r : Fin 512) (l : Fin 128) : EReal :=
  if h : r.val < 384 then x (ix2 r l) else x (ix2 r l) + m * n (ix2 ⟨r.val - 384, by omega⟩ l)

theorem rotK_at (m : EReal) (c s : Vec Ideal S512x128 .f32) (x : Vec Ideal S512x128 .f32) (a n : Vec Ideal S128x128 .f32)
    (ha : ∀ (r : Fin 512) (h : ¬r.val < 384) l, a (ix2 ⟨r.val - 384, by omega⟩ l) = x (ix2 r l)) (r : Fin 512) (l : Fin 128) :
    (k1_pay7 (F := Ideal) m c s x a n : S512x128.Idx → EReal) (ix2 r l) =
      turned (fun l => lastRows m x n r l) (fun l => c (ix2 r l)) (fun l => s (ix2 r l)) l := by
  unfold k1_pay7 turned
  pointwise
  rw [half_at ⟨l.val, by omega⟩, select_valid]
  have hx (l : Fin 128) : (if h : r.val < 384 then x (ix2 r l) else a (ix2 ⟨r.val - 384, by omega⟩ l) + m * n (ix2 ⟨r.val - 384, by omega⟩ l)) = lastRows m x n r l := by
    unfold lastRows
    split_ifs with h
    · rfl
    · rw [ha r h]
  refine turn_congr (congrArg (· * c (ix2 r l)) (hx l)) (fun h => ?_) fun h => ?_
  · have h' : l.val % 64 < 32 := h
    rw [dif_pos (show l.val + 32 < 128 by omega)]
    refine (congrArg (· * s (ix2 r ⟨(l.val + 128 - 96) % 128, by omega⟩)) (hx ⟨(l.val + 128 - 96) % 128, by omega⟩)).trans ?_
    exact mul_at (fun l => lastRows m x n r l) (fun l => s (ix2 r l)) (i := ⟨(l.val + 128 - 96) % 128, by omega⟩) (j := ⟨l.val + 32, by omega⟩) (by simp only []; omega)
  · have h' : ¬l.val % 64 < 32 := h
    refine (congrArg (· * s (ix2 r ⟨(l.val + 128 - 32) % 128, by omega⟩)) (hx ⟨(l.val + 128 - 32) % 128, by omega⟩)).trans ?_
    exact mul_at (fun l => lastRows m x n r l) (fun l => s (ix2 r l)) (i := ⟨(l.val + 128 - 32) % 128, by omega⟩) (j := ⟨l.val - 32, by omega⟩) (by simp only []; omega)

theorem idx1 (t : Fin cfg1.N) : win1_0.index t = ![t.val, 0] ∧ win1_1.index t = ![t.val, 0] ∧ win1_2.index t = ![min (t.val + 1) 15, 0] ∧
    win1_3.index t = ![t.val, 0] ∧ win1_4.index t = ![min (t.val + 1) 15, 0] ∧ win1_5.index t = ![t.val, 0] ∧ win1_6.index t = ![t.val, 0] ∧
    win1_7.index t = ![t.val, 0] ∧ win1_8.index t = ![t.val, 0] :=
  (by decide +kernel : ∀ t : Fin grid1.N, win1_0.index t = ![t.val, 0] ∧ win1_1.index t = ![t.val, 0] ∧ win1_2.index t = ![min (t.val + 1) 15, 0] ∧
    win1_3.index t = ![t.val, 0] ∧ win1_4.index t = ![min (t.val + 1) 15, 0] ∧ win1_5.index t = ![t.val, 0] ∧ win1_6.index t = ![t.val, 0] ∧
    win1_7.index t = ![t.val, 0] ∧ win1_8.index t = ![t.val, 0]) t

theorem row_at (m : EReal) (c s : Vec Ideal S512x128 .f32) (q : Vec Ideal S512x512 .f32) (k v : Vec Ideal S512x128 .f32) (a b n n' : Vec Ideal S128x128 .f32)
    (u : Vec Ideal S512x512 .f32) (ha : ∀ (r : Fin 512) (h : ¬r.val < 384) l, a (ix2 ⟨r.val - 384, by omega⟩ l) = k (ix2 r l))
    (hb : ∀ (r : Fin 512) (h : ¬r.val < 384) l, b (ix2 ⟨r.val - 384, by omega⟩ l) = v (ix2 r l)) (r : Fin 512) (j : Fin 1280) :
    (k1_pay1 (k1_pay5 c s q) (k1_pay7 (F := Ideal) m (k1_pay3 c) (k1_pay4 s) (k1_pay6 k) a n) (k1_pay8 m b n') (k1_pay9 v) u : S512x1280.Idx → EReal) (ix2 r j) =
      outRow (fun l => q (ix2 r l)) (fun l => lastRows m k n r l) (fun l => lastRows m v n' r l) (fun l => u (ix2 r l)) (fun l => c (ix2 r l)) (fun l => s (ix2 r l)) j := by
  unfold k1_pay1 outRow k1_pay8 k1_pay9
  pointwise
  by_cases h1 : j.val < 512
  · rw [dif_pos h1, dif_pos h1]
    exact rotQ_at c s q r ⟨j.val, h1⟩
  rw [dif_neg h1, dif_neg h1]
  by_cases h2 : j.val - 512 < 128
  · rw [dif_pos h2, dif_pos h2]
    have e3 : k1_pay3 c = c := shapeCast_self _ _
    have e4 : k1_pay4 s = s := shapeCast_self _ _
    have e6 : k1_pay6 k = k := shapeCast_self _ _
    rw [e3, e4, e6]
    exact rotK_at m c s k a n ha r ⟨j.val - 512, h2⟩
  rw [dif_neg h2, dif_neg h2]
  by_cases h3 : j.val - 512 - 128 < 128
  · rw [dif_pos h3, dif_pos h3]
    unfold lastRows
    by_cases h : r.val < 384
    · rw [dif_pos h, dif_pos h]
    · rw [dif_neg h, dif_neg h]
      exact congrArg (· + _) (hb r h ⟨j.val - 512 - 128, h3⟩)
  · rw [dif_neg h3, dif_neg h3]

/-- A row of keys or values with what the next tile passes back, over the whole array. -/
def joined (A : S8192x128.Idx → EReal) (P : S2048x128.Idx → EReal) (R : Fin 8192) (l : Fin 128) : EReal :=
  if h : R.val % 512 < 384 then A (ix2 R l)
  else A (ix2 R l) + (if R.val / 512 < 15 then 1 else 0) * P (ix2 ⟨min (R.val / 512 + 1) 15 * 128 + (R.val % 512 - 384), by omega⟩ l)

variable (V : (c : Dev nD) → (b : Ref sig Kind.tc) → Buf (Elt Ideal) ((c.tc : Thread nD τ).loc b)) (c : Dev nD)

/-- The packed gradient's row `R`, from the arrays the second call reads. -/
def rowFrom (R : Fin 8192) : Fin 1280 → EReal :=
  outRow (fun l => (V c main_v79_0 : S8192x512.Idx → EReal) (ix2 R l)) (joined (V c main_v79_1) (V c main_v79_2) R) (joined (V c main_v79_3) (V c main_v79_4) R)
    (fun l => (V c main_arg4 : S8192x512.Idx → EReal) (ix2 R l)) (fun l => (V c main_v38 : S8192x128.Idx → EReal) (ix2 R l)) (fun l => (V c main_v41 : S8192x128.Idx → EReal) (ix2 R l))

theorem joined_at (A : S8192x128.Idx → EReal) (P : S2048x128.Idx → EReal) (t : Fin cfg1.N) (x : Vec Ideal S512x128 .f32) (n : Vec Ideal S128x128 .f32)
    (r : Fin 512) (R : Fin 8192) (hR : R.val = t.val * 512 + r.val) (l : Fin 128) (hx : x (ix2 r l) = A (ix2 R l))
    (hn : ∀ (a : Fin 128) (b : Fin 2048), b.val = min (t.val + 1) 15 * 128 + a.val → n (ix2 a l) = P (ix2 b l)) :
    lastRows (k1_pay2 (F := Ideal) (grid1.coords t)) x n r l = joined A P R l := by
  unfold lastRows joined
  have e : R.val / 512 = t.val := by omega
  have e' : R.val % 512 = r.val := by omega
  rw [more_at]
  by_cases h : r.val < 384
  · rw [dif_pos h, dif_pos (by rw [e']; exact h), hx]
  · rw [dif_neg h, dif_neg (by rw [e']; exact h), hx]
    refine congrArg (A (ix2 R l) + ·) (congrArg₂ (· * ·) (if_congr (by rw [e]) rfl rfl) (hn _ _ ?_))
    simp only [e, e']

theorem tail_at (x : Vec Ideal S512x128 .f32) (r : Fin 512) (h : ¬r.val < 384) (l : Fin 128) : View.ld x r1_2 (ix2 ⟨r.val - 384, by omega⟩ l) = x (ix2 r l) := by
  refine congrArg x (funext fun a => ?_)
  fin_cases a <;> apply Fin.ext <;> simp [r1_2, ix2] <;> omega

theorem outRow_congr {q q' : Fin 512 → EReal} {k k' v v' : Fin 128 → EReal} {u u' : Fin 512 → EReal} {c c' s s' : Fin 128 → EReal} {j j' : Fin 1280}
    (hq : ∀ l, q l = q' l) (hk : ∀ l, k l = k' l) (hv : ∀ l, v l = v' l) (hu : ∀ l, u l = u' l) (hc : ∀ l, c l = c' l) (hs : ∀ l, s l = s' l) (hj : j.val = j'.val) :
    outRow q k v u c s j = outRow q' k' v' u' c' s' j' := by
  rw [funext hq, funext hk, funext hv, funext hu, funext hc, funext hs, Fin.ext hj]

set_option maxHeartbeats 2000000 in
theorem packed_out : ((dat1 V c).arrAt 8 cfg1.N : S8192x1280.Idx → EReal) = fun i => rowFrom V c (i 0) (i 1) := by
  refine (dat1 V c).arrAt_eq_of_covers 8 _ (by decide +kernel) fun t hf y => ?_
  blk_simp
  rw [after1_8]
  frame_out
  obtain ⟨r, j, rfl⟩ : ∃ (r : Fin 512) (j : Fin 1280), y = ix2 r j := ⟨y 0, y 1, by funext a; fin_cases a <;> rfl⟩
  refine (row_at _ _ _ _ _ _ _ _ _ _ _ ?_ ?_ r j).trans ?_
  on_goal 3 => refine outRow_congr (fun l => ?_) (fun l => joined_at (V c main_v79_1) (V c main_v79_2) t _ _ r _ ?_ l ?_ fun a b h => ?_) (fun l => joined_at (V c main_v79_3) (V c main_v79_4) t _ _ r _ ?_ l ?_ fun a b h => ?_) (fun l => ?_) (fun l => ?_) (fun l => ?_) ?_
  on_goal 1 => exact tail_at _
  on_goal 1 => exact tail_at _
  all_goals blk_point [iblk1, idx1 t]

end Cert.Step.Swa

end
-- ==== Proof.SwaRegion.lean ====
/- The window attention's gradient: what the kernel's first region leaves. -/
module

public import proofs.«01_k».proof.Proof.SwaOverlap

@[expose] public section

set_option maxRecDepth 16384

noncomputable section

namespace Cert.Step.Swa

open Cert.KernelSwaIdeal Cert.KernelSwaIdeal.Gen Idealize.ShloMosaic Idealize.ShloMosaic.TcCoe Idealize.SL.Sem
open scoped BigOperators

variable (V : (c : Dev nD) → (b : Ref sig Kind.tc) → Buf (Elt Ideal) ((c.tc : Thread nD τ).loc b)) (c : Dev nD)

/-- The arrays a grid point reads are a tile's. -/
theorem tile_read (t : Fin cfg0.N) : Tile V c t
    (k0_pay8 (F := Ideal) (k0_pay6 (View.ld (iblk0 V c 0 t) (Rect.unit ![0, 0] ![1, 1] inb_S1x8_S1x1_0_0) (Shape.Idx.first Nat.one_pos)))
      (k0_pay7 (View.ld (iblk0 V c 0 t) (Rect.unit ![0, 1] ![1, 1] inb_S1x8_S1x1_0_1) (Shape.Idx.first Nat.one_pos)))
      (View.ld (iblk0 V c 0 t) (Rect.unit ![0, 2] ![1, 1] inb_S1x8_S1x1_0_2) (Shape.Idx.first Nat.one_pos))
      (View.ld (iblk0 V c 0 t) (Rect.unit ![0, 3] ![1, 1] inb_S1x8_S1x1_0_3) (Shape.Idx.first Nat.one_pos)))
    (k0_pay9 (F := Ideal) (View.ld (iblk0 V c 0 t) (Rect.unit ![0, 4] ![1, 1] inb_S1x8_S1x1_0_4) (Shape.Idx.first Nat.one_pos))
      (View.ld (iblk0 V c 0 t) (Rect.unit ![0, 5] ![1, 1] inb_S1x8_S1x1_0_5) (Shape.Idx.first Nat.one_pos))
      (View.ld (iblk0 V c 0 t) (Rect.unit ![0, 6] ![1, 1] inb_S1x8_S1x1_0_6) (Shape.Idx.first Nat.one_pos))
      (View.ld (iblk0 V c 0 t) (Rect.unit ![0, 7] ![1, 1] inb_S1x8_S1x1_0_7) (Shape.Idx.first Nat.one_pos)))
    (k0_pay13 (F := Ideal) (View.ld (iblk0 V c 1 t) (Rect.unit ![0, 0] ![128, 512] inb_S512x512_S128x512_0_0)))
    (k0_pay14 (F := Ideal) (View.ld (iblk0 V c 6 t) (Rect.unit ![0, 0] ![128, 512] inb_S512x512_S128x512_0_0)))
    (k0_pay71 (F := Ideal) (View.ld (iblk0 V c 1 t) (Rect.unit ![128, 0] ![128, 512] inb_S512x512_S128x512_128_0)))
    (k0_pay72 (F := Ideal) (View.ld (iblk0 V c 6 t) (Rect.unit ![128, 0] ![128, 512] inb_S512x512_S128x512_128_0)))
    (k0_pay129 (F := Ideal) (View.ld (iblk0 V c 1 t) (Rect.unit ![256, 0] ![128, 512] inb_S512x512_S128x512_256_0)))
    (k0_pay130 (F := Ideal) (View.ld (iblk0 V c 6 t) (Rect.unit ![256, 0] ![128, 512] inb_S512x512_S128x512_256_0)))
    (k0_pay186 (F := Ideal) (View.ld (iblk0 V c 1 t) (Rect.unit ![384, 0] ![128, 512] inb_S512x512_S128x512_384_0)))
    (k0_pay187 (F := Ideal) (View.ld (iblk0 V c 6 t) (Rect.unit ![384, 0] ![128, 512] inb_S512x512_S128x512_384_0))) := by
  refine mkTile V c t ?_ ?_ ?_ ?_ ?_ ?_ ?_ ?_ ?_ ?_ ?_ ?_ ?_ ?_ ?_ ?_
  all_goals first
    | (pointwise; exact blk_z V c t _)
    | (intro i l; pointwise)

/-- A value at a tile's row and lane, by the row of the whole array. -/
theorem tileRow_at (X : Fin 64 → Fin 128 → Fin 2 → Fin 64 → EReal) (t : Fin cfg0.N) (r : Fin 512) (l : Fin 128) (R : ℕ) (hR : R = t.val * 512 + r.val) (l' : Fin 128)
    (hl : l'.val = l.val) (p1 : R / 128 < 64) (p2 : R % 128 < 128) : tileRow X t r l = X ⟨R / 128, p1⟩ ⟨R % 128, p2⟩ (lkv l') (le l') := by
  subst hR
  rw [show l' = l from Fin.ext hl]
  unfold tileRow
  congr 1 <;> apply Fin.ext <;> simp only [] <;> omega

set_option maxHeartbeats 2000000 in
/-- The keys' gradient, as far as the tile's own windows carry it. -/
theorem dk_out : ((dat0 V c).arrAt 8 cfg0.N : S8192x128.Idx → EReal) = fun i =>
    over (VDk V c) ⟨(i 0).val / 128, by have : (i 0).val < 8192 := (i 0).isLt; omega⟩ ⟨(i 0).val % 128, by omega⟩ (lkv (i 1)) (le (i 1)) := by
  refine (dat0 V c).arrAt_eq_of_covers 8 _ (by decide +kernel) fun t hf y => ?_
  blk_simp
  rw [after0_8]
  rcases em (t.val % 16 = 0) with hh | hh
  on_goal 1 => rw [outsAt0_A V c t hh]
  on_goal 2 => rw [outsAt0_B V c t hh]
  all_goals
    frame_out
    refine (Tile.dk (V := V) (c := c) (t := t) ?_ _).trans ?_
    on_goal 1 => exact tile_read V c t
    refine tileRow_at _ t _ _ _ ?_ _ ?_ _ _
    all_goals blk_point [idx0 t]

set_option maxHeartbeats 2000000 in
/-- The values' gradient, as far as the tile's own windows carry it. -/
theorem dv_out : ((dat0 V c).arrAt 10 cfg0.N : S8192x128.Idx → EReal) = fun i =>
    over (VDv V c) ⟨(i 0).val / 128, by have : (i 0).val < 8192 := (i 0).isLt; omega⟩ ⟨(i 0).val % 128, by omega⟩ (lkv (i 1)) (le (i 1)) := by
  refine (dat0 V c).arrAt_eq_of_covers 10 _ (by decide +kernel) fun t hf y => ?_
  blk_simp
  rw [after0_10]
  rcases em (t.val % 16 = 0) with hh | hh
  on_goal 1 => rw [outsAt0_A V c t hh]
  on_goal 2 => rw [outsAt0_B V c t hh]
  all_goals
    frame_out
    refine (Tile.dv (V := V) (c := c) (t := t) ?_ _).trans ?_
    on_goal 1 => exact tile_read V c t
    refine tileRow_at _ t _ _ _ ?_ _ ?_ _ _
    all_goals blk_point [idx0 t]

/-- What the tile before receives, by the row of the whole array. -/
theorem lowRow_at (X : Fin 64 → Fin 256 → Fin 2 → Fin 64 → EReal) (t : Fin cfg0.N) (r : Fin 256) (l : Fin 128) (R : ℕ) (hR : R = t.val * 128 + r.val) (hr : r.val < 128)
    (l' : Fin 128) (hl : l'.val = l.val) (p1 : 4 * (R / 128) < 64) (p2 : R % 128 < 256) :
    X (blockOf t 0) r (lkv l) (le l) = X ⟨4 * (R / 128), p1⟩ ⟨R % 128, p2⟩ (lkv l') (le l') := by
  subst hR
  rw [show l' = l from Fin.ext hl]
  congr 1 <;> apply Fin.ext <;> simp only [] <;> omega

set_option maxHeartbeats 2000000 in
/-- The keys' gradient that a tile passes to the block before it. -/
theorem dkp_out : ((dat0 V c).arrAt 9 cfg0.N : S2048x128.Idx → EReal) = fun i =>
    VDk V c ⟨4 * ((i 0).val / 128), by have : (i 0).val < 2048 := (i 0).isLt; omega⟩ ⟨(i 0).val % 128, by omega⟩ (lkv (i 1)) (le (i 1)) := by
  refine (dat0 V c).arrAt_eq_of_covers 9 _ (by decide +kernel) fun t hf y => ?_
  blk_simp
  rw [after0_9]
  rcases em (t.val % 16 = 0) with hh | hh
  on_goal 1 => rw [outsAt0_A V c t hh]
  on_goal 2 => rw [outsAt0_B V c t hh]
  all_goals
    frame_out
    refine (Block.low_dk (V := V) (c := c) (n := blockOf t 0) ?_ _).trans ?_
    on_goal 1 => exact (tile_read V c t).B0
    refine lowRow_at _ t _ _ _ ?_ (y 0).isLt _ ?_ _ _
    all_goals blk_point [idx0 t]

set_option maxHeartbeats 2000000 in
/-- The values' gradient that a tile passes to the block before it. -/
theorem dvp_out : ((dat0 V c).arrAt 11 cfg0.N : S2048x128.Idx → EReal) = fun i =>
    VDv V c ⟨4 * ((i 0).val / 128), by have : (i 0).val < 2048 := (i 0).isLt; omega⟩ ⟨(i 0).val % 128, by omega⟩ (lkv (i 1)) (le (i 1)) := by
  refine (dat0 V c).arrAt_eq_of_covers 11 _ (by decide +kernel) fun t hf y => ?_
  blk_simp
  rw [after0_11]
  rcases em (t.val % 16 = 0) with hh | hh
  on_goal 1 => rw [outsAt0_A V c t hh]
  on_goal 2 => rw [outsAt0_B V c t hh]
  all_goals
    frame_out
    refine (Block.low_dv (V := V) (c := c) (n := blockOf t 0) (v := k0_pay16 (k0_pay11 (iblk0 V c 5 t) (iblk0 V c 4 t))) ?_ _).trans ?_
    on_goal 1 => exact (tile_read V c t).B0
    refine lowRow_at _ t _ _ _ ?_ (y 0).isLt _ ?_ _ _
    all_goals blk_point [idx0 t]

end Cert.Step.Swa

end
-- ==== Proof.SwaQuery.lean ====
/- The window attention's gradient: what the kernel's first region leaves of the queries and sinks. -/
module

public import proofs.«01_k».proof.Proof.SwaRegion

@[expose] public section

set_option maxRecDepth 16384

noncomputable section

namespace Cert.Step.Swa

open Cert.KernelSwaIdeal Cert.KernelSwaIdeal.Gen Idealize.ShloMosaic Idealize.ShloMosaic.TcCoe Idealize.SL.Sem
open scoped BigOperators

variable (V : (c : Dev nD) → (b : Ref sig Kind.tc) → Buf (Elt Ideal) ((c.tc : Thread nD τ).loc b)) (c : Dev nD)

/-- A head's part of the queries' gradient, turned. -/
theorem head_at (n : Fin 64) (kv : Fin 2) {bias : FVec Ideal S256x512 .f32} {zz : FVec Ideal S1x512 .f32} {kh vh : FVec Ideal S256x64 .bf16} {qs ds : FVec Ideal S512x64 .bf16}
    (G : Group (inK V c) (inV V c) (inQ V c) (inD V c) (inZ V c) n kv bias zz kh vh qs ds) {o : ℕ} (ho : o % 128 = 0 ∧ o < 512) (hs : S64x512.Slices ![0, o] S64x128) (x : S128x64.Idx) :
    (transpose S128x64 [1, 0] (extractStridedSlice S64x128 ![0, o] (stDqT kh (stDs (stScore bias kh qs) zz (stDp vh ds))) hs)
      transposes_S64x128_p1_0_S128x64 : S128x64.Idx → EReal) x =
      kerDq (inK V c) (inV V c) (inQ V c) (inD V c) (inZ V c) n (x 0) (headOf kv ⟨o / 128, by omega⟩) (x 1) := by
  pointwise [G.dq_at]
  congr 1
  · apply Fin.ext
    show (o + (x 0).val) % 128 = (x 0).val
    have : (x 0).val < 128 := (x 0).isLt
    omega
  · congr 1
    apply Fin.ext
    show (o + (x 0).val) / 128 = o / 128
    have : (x 0).val < 128 := (x 0).isLt
    omega

theorem four_congr (X : Fin 64 → Fin 128 → Fin 8 → Fin 64 → EReal) {n n' q q' h h' e e'} (hn : n.val = n'.val) (hq : q.val = q'.val) (hh : h.val = h'.val)
    (he : e.val = e'.val) : X n q h e = X n' q' h' e' := by
  rw [Fin.ext hn, Fin.ext hq, Fin.ext hh, Fin.ext he]

set_option maxHeartbeats 4000000 in
/-- A grid point's part of the queries' gradient. -/
theorem dq_block (t : Fin cfg0.N) (y : S512x512.Idx) : (outsAt0 V c t.val t.isLt).1 y = kerDq (inK V c) (inV V c) (inQ V c) (inD V c) (inZ V c)
    (blockOf t ⟨(y 0).val / 128, by have : (y 0).val < 512 := (y 0).isLt; omega⟩) ⟨(y 0).val % 128, by omega⟩
    ⟨(y 1).val / 64, by have : (y 1).val < 512 := (y 1).isLt; omega⟩ ⟨(y 1).val % 64, by omega⟩ := by
  rcases em (t.val % 16 = 0) with hh | hh
  on_goal 1 => rw [outsAt0_A V c t hh]
  on_goal 2 => rw [outsAt0_B V c t hh]
  all_goals
    frame_out
    canon_tiles x h
    all_goals
      first
        | (have _ : (y 0).val < 128 ∧ (y 1).val < 256 := (by omega); refine (head_at V c (blockOf t 0) 0 ?_ (by decide) _ x).trans ?_; on_goal 1 => exact (tile_read V c t).B0.group0)
        | (have _ : (y 0).val < 128 := (by omega); refine (head_at V c (blockOf t 0) 1 ?_ (by decide) _ x).trans ?_; on_goal 1 => exact (tile_read V c t).B0.group1)
        | (have _ : (y 0).val < 256 ∧ (y 1).val < 256 := (by omega); refine (head_at V c (blockOf t 1) 0 ?_ (by decide) _ x).trans ?_; on_goal 1 => exact (tile_read V c t).B1.group0)
        | (have _ : (y 0).val < 256 := (by omega); refine (head_at V c (blockOf t 1) 1 ?_ (by decide) _ x).trans ?_; on_goal 1 => exact (tile_read V c t).B1.group1)
        | (have _ : (y 0).val < 384 ∧ (y 1).val < 256 := (by omega); refine (head_at V c (blockOf t 2) 0 ?_ (by decide) _ x).trans ?_; on_goal 1 => exact (tile_read V c t).B2.group0)
        | (have _ : (y 0).val < 384 := (by omega); refine (head_at V c (blockOf t 2) 1 ?_ (by decide) _ x).trans ?_; on_goal 1 => exact (tile_read V c t).B2.group1)
        | (have _ : (y 1).val < 256 := (by omega); refine (head_at V c (blockOf t 3) 0 ?_ (by decide) _ x).trans ?_; on_goal 1 => exact (tile_read V c t).B3.group0)
        | (refine (head_at V c (blockOf t 3) 1 ?_ (by decide) _ x).trans ?_; on_goal 1 => exact (tile_read V c t).B3.group1)
      refine four_congr _ ?_ ?_ ?_ ?_
      all_goals
        simp only []
        omega

theorem four_at (X : Fin 64 → Fin 128 → Fin 8 → Fin 64 → EReal) (t : Fin cfg0.N) (r l : Fin 512) (R L : ℕ) (hR : R = t.val * 512 + r.val) (hL : L = l.val)
    (p1 : R / 128 < 64) (p2 : R % 128 < 128) (p3 : L / 64 < 8) (p4 : L % 64 < 64) :
    X (blockOf t ⟨r.val / 128, by omega⟩) ⟨r.val % 128, by omega⟩ ⟨l.val / 64, by omega⟩ ⟨l.val % 64, by omega⟩ =
      X ⟨R / 128, p1⟩ ⟨R % 128, p2⟩ ⟨L / 64, p3⟩ ⟨L % 64, p4⟩ := by
  subst hR hL
  refine four_congr X ?_ ?_ ?_ ?_ <;> simp only [] <;> omega

set_option maxHeartbeats 1000000 in
/-- The queries' gradient. -/
theorem dq_out : ((dat0 V c).arrAt 7 cfg0.N : S8192x512.Idx → EReal) = fun i =>
    kerDq (inK V c) (inV V c) (inQ V c) (inD V c) (inZ V c) ⟨(i 0).val / 128, by have : (i 0).val < 8192 := (i 0).isLt; omega⟩ ⟨(i 0).val % 128, by omega⟩
      ⟨(i 1).val / 64, by have : (i 1).val < 512 := (i 1).isLt; omega⟩ ⟨(i 1).val % 64, by omega⟩ := by
  refine (dat0 V c).arrAt_eq_of_covers 7 _ (by decide +kernel) fun t hf y => ?_
  blk_simp
  rw [after0_7]
  refine (dq_block V c t y).trans (four_at _ t _ _ _ _ ?_ ?_ _ _ _ _)
  all_goals blk_point [idx0 t]

/-- A grid point's part of a sink's gradient. -/
def tileSink (t : Fin cfg0.N) (h : Fin 8) : EReal :=
  ∑ b : Fin 4, ∑ q : Fin 128, kerDsink (inK V c) (inV V c) (inQ V c) (inD V c) (inZ V c) (blockOf t b) q h

def stSinkSum (s : FVec Ideal S256x512 .f32) (zz : FVec Ideal S1x512 .f32) (dp : FVec Ideal S256x512 .f32) (o : ℕ) (hs : S1x512.Slices ![0, o] S1x128) : FVec Ideal S1x1 .f32 :=
  shapeCast S1x1 (multiReduction .add [1] S1 (extractStridedSlice S1x128 ![0, o] (stDsink s zz dp) hs) 0x00000000#32 reduces_S1x128_S1 (.inl rfl) rfl) shapeCasts_S1_S1x1

theorem sinkSum_at {n : Fin 64} {kv : Fin 2} {bias : FVec Ideal S256x512 .f32} {zz : FVec Ideal S1x512 .f32} {kh vh : FVec Ideal S256x64 .bf16} {qs ds : FVec Ideal S512x64 .bf16}
    (G : Group (inK V c) (inV V c) (inQ V c) (inD V c) (inZ V c) n kv bias zz kh vh qs ds) {o : ℕ} (ho : o % 128 = 0 ∧ o < 512) (hs : S1x512.Slices ![0, o] S1x128)
    (a b : Fin 1) : (stSinkSum (stScore bias kh qs) zz (stDp vh ds) o hs : S1x1.Idx → EReal) (ix2 a b) =
      ∑ q : Fin 128, kerDsink (inK V c) (inV V c) (inQ V c) (inD V c) (inZ V c) n q (headOf kv ⟨o / 128, by omega⟩) := by
  unfold stSinkSum
  pointwise [G.dsink_at]
  refine Finset.sum_congr rfl fun q _ => ?_
  congr 1
  · apply Fin.ext
    simp only []
    omega
  · congr 1
    apply Fin.ext
    simp only []
    omega

section Sinks

variable (t : Fin cfg0.N) (kv : Fin 2) {z : FVec Ideal S1x512 .f32} {b0 b1 b2 b3 : FVec Ideal S256x512 .f32} {k0 k1 k2 k3 v0 v1 v2 v3 : FVec Ideal S256x64 .bf16}
  {q0 q1 q2 q3 d0 d1 d2 d3 : FVec Ideal S512x64 .bf16}

theorem sinkRow_at
    (G : Group (inK V c) (inV V c) (inQ V c) (inD V c) (inZ V c) (blockOf t 0) kv b0 z k0 v0 q0 d0 ∧
      Group (inK V c) (inV V c) (inQ V c) (inD V c) (inZ V c) (blockOf t 1) kv b1 z k1 v1 q1 d1 ∧
      Group (inK V c) (inV V c) (inQ V c) (inD V c) (inZ V c) (blockOf t 2) kv b2 z k2 v2 q2 d2 ∧
      Group (inK V c) (inV V c) (inQ V c) (inD V c) (inZ V c) (blockOf t 3) kv b3 z k3 v3 q3 d3)
    {o : ℕ} (ho : o % 128 = 0 ∧ o < 512) (hs : S1x512.Slices ![0, o] S1x128) (old : Vec Ideal S1x128 .f32) (x : S1x128.Idx) :
    (addf (shapeCast S1x128 old shapeCasts_S1x128_S1x128) (broadcastTo S1x128 (shapeCast S1x1 (addf (addf (addf (stSinkSum (stScore b0 k0 q0) z (stDp v0 d0) o hs)
      (stSinkSum (stScore b1 k1 q1) z (stDp v1 d1) o hs)) (stSinkSum (stScore b2 k2 q2) z (stDp v2 d2) o hs)) (stSinkSum (stScore b3 k3 q3) z (stDp v3 d3) o hs))
      shapeCasts_S1x1_S1x1) broadcasts_S1x1_S1x128) : S1x128.Idx → EReal) x = old x + tileSink V c t (headOf kv ⟨o / 128, by omega⟩) := by
  unfold tileSink
  pointwise [sinkSum_at V c G.1 ho hs, sinkSum_at V c G.2.1 ho hs, sinkSum_at V c G.2.2.1 ho hs, sinkSum_at V c G.2.2.2 ho hs, Fin.sum_univ_four]

end Sinks

set_option maxHeartbeats 4000000 in
/-- A grid point after the first adds its part. -/
theorem step (t : Fin cfg0.N) (hh : ¬t.val % 16 = 0) (j : S8x128.Idx) : (outsAt0 V c t.val t.isLt).2.2.2.2.2 j =
    (outsAt0 V c (t.val - 1) (Nat.lt_of_le_of_lt (Nat.sub_le _ _) t.isLt)).2.2.2.2.2 j + tileSink V c t (j 0) := by
  rw [outsAt0_B V c t hh]
  frame_out
  canon_tiles x h
  all_goals
    first
      | (have _ : 4 ≤ (j 0).val := (by omega); refine (sinkRow_at V c t 1 ?_ (by decide) _ _ x).trans ?_; on_goal 1 => exact ⟨(tile_read V c t).B0.group1, (tile_read V c t).B1.group1, (tile_read V c t).B2.group1, (tile_read V c t).B3.group1⟩)
      | (refine (sinkRow_at V c t 0 ?_ (by decide) _ _ x).trans ?_; on_goal 1 => exact ⟨(tile_read V c t).B0.group0, (tile_read V c t).B1.group0, (tile_read V c t).B2.group0, (tile_read V c t).B3.group0⟩)
    refine congrArg₂ (· + ·) ?_ (congrArg _ ?_)
    · pointwise [h0, h1]
      blk_point []
    · apply Fin.ext
      simp only []
      omega

set_option maxHeartbeats 4000000 in
/-- The first grid point starts from zero. -/
theorem start (t : Fin cfg0.N) (hh : t.val % 16 = 0) (j : S8x128.Idx) : (outsAt0 V c t.val t.isLt).2.2.2.2.2 j =
    0 + tileSink V c t (j 0) := by
  rw [outsAt0_A V c t hh]
  frame_open
  simp (disch := decide) only [↓ View.readCov_skip, ↓ View.readCov_cons_toLoadRect, ↓ View.readCov_fill]
  frame_out
  refine (canon_drop_earlier [_] [_, _, _, _, _, _, _, _] j
    (View.cover_of_tiledL (s := S8x128) _ ![1, 128] (by sl_kernel_rfl) j)).trans ?_
  canon_tiles x h
  all_goals
    first
      | (have _ : 4 ≤ (j 0).val := (by omega); refine (sinkRow_at V c t 1 ?_ (by decide) _ _ x).trans ?_; on_goal 1 => exact ⟨(tile_read V c t).B0.group1, (tile_read V c t).B1.group1, (tile_read V c t).B2.group1, (tile_read V c t).B3.group1⟩)
      | (refine (sinkRow_at V c t 0 ?_ (by decide) _ _ x).trans ?_; on_goal 1 => exact ⟨(tile_read V c t).B0.group0, (tile_read V c t).B1.group0, (tile_read V c t).B2.group0, (tile_read V c t).B3.group0⟩)
    refine congrArg₂ (· + ·) ?_ (congrArg _ ?_)
    · pointwise [h0, h1]
      blk_point []
    · apply Fin.ext
      simp only []
      omega

/-- The sinks' gradient. -/
theorem sink_out : ((dat0 V c).arrAt 12 cfg0.N : S8x128.Idx → EReal) = fun i =>
    ∑ n : Fin 64, ∑ q : Fin 128, kerDsink (inK V c) (inV V c) (inQ V c) (inD V c) (inZ V c) n q (i 0) := by
  refine (dat0 V c).arrAt_eq_of_after_last 12 t0_15 (by decide +kernel) _ fun j => ?_
  blk_simp
  rw [after0_12]
  refine (Pipeline.eq_sum_fin_of_reset_step_apply_last (fun n h => (outsAt0 V c n h).2.2.2.2.2) 16 (fun _ => (0 : EReal))
    (fun t j => tileSink V c t (j 0)) (fun t h j => start V c t h j) (fun t h j => step V c t h j)
    (by decide) t0_15 rfl j).trans ?_
  rw [zero_add]
  refine Fin.sum_mul_add_congr (S := 16) (n := 4) fun s k hl => ?_
  exact congrArg (fun n => ∑ q : Fin 128, kerDsink (inK V c) (inV V c) (inQ V c) (inD V c) (inZ V c) n q (j 0)) (Fin.ext (by show 4 * s.val + k.val = s.val * 4 + k.val; omega))

end Cert.Step.Swa

end
-- ==== Proof.SwaKernel.lean ====
/- The window attention's gradient: what the kernel's program leaves, from its arguments. -/
module

public import proofs.«01_k».proof.Proof.SwaPacked
public import proofs.«01_k».proof.Proof.SwaQuery
public import Idealize.ShloMosaic.Lib.StableHlo.RunRead

@[expose] public section

set_option maxRecDepth 16384

noncomputable section

namespace Cert.Step.Swa

open Cert.KernelSwaIdeal Cert.KernelSwaIdeal.Gen Idealize.ShloMosaic Idealize.ShloMosaic.TcCoe Idealize.SL.Sem
open scoped BigOperators

variable (m : (ℓ : Loc nD τ sig) → Buf (Elt Ideal) ℓ) (ρ : Dev nD → PrngReg) (c : Dev nD)

/-- The argument arrays: the projections, the positions, the sinks, the outputs' two cotangents. -/
abbrev kP (r : Fin 8192) (k : Fin 1280) : EReal := (W0 m ρ c (Proc.devRef .tc main_arg0) : S8192x1280.Idx → EReal) (ix2 r k)
abbrev kPos (r : Fin 8192) : BitVec 32 := (W0 m ρ c (Proc.devRef .tc main_arg1) : S8192.Idx → BitVec 32) (ix1 r)
abbrev kZ (h : Fin 8) : EReal := (W0 m ρ c (Proc.devRef .tc main_arg2) : S8.Idx → EReal) (ix1 h)
abbrev kO (r : Fin 8192) (k : Fin 512) : EReal := (W0 m ρ c (Proc.devRef .tc main_arg3) : S8192x512.Idx → EReal) (ix2 r k)
abbrev kU (r : Fin 8192) (k : Fin 512) : EReal := (W0 m ρ c (Proc.devRef .tc main_arg4) : S8192x512.Idx → EReal) (ix2 r k)

theorem planes_at (f g : Fin 32 → EReal) (l : Fin 128) :
    (if h : l.val < 32 then f ⟨l.val, h⟩ else if h : l.val - 32 < 32 then g ⟨l.val - 32, h⟩ else
      if h : l.val - 32 - 32 < 32 then f ⟨l.val - 32 - 32, h⟩ else g ⟨l.val - 32 - 32 - 32, by omega⟩) =
      if l.val % 64 < 32 then f ⟨l.val % 32, by omega⟩ else g ⟨l.val % 32, by omega⟩ := by
  split_ifs <;> first | omega | exact congrArg f (Fin.ext (by simp only []; omega)) | exact congrArg g (Fin.ext (by simp only []; omega))

theorem cos_at (r : Fin 8192) (l : Fin 128) : (V1 m ρ c main_v38 : S8192x128.Idx → EReal) (ix2 r l) = Ideal.cos (angle (kPos m ρ c r) ⟨l.val % 32, by omega⟩) := by
  unfold_abbrev_sides
  after_reads_simp
  simp only [Matrix.cons_val]
  after_reads_simp
  pointwise
  refine (planes_at (fun i => Ideal.cos (angle (kPos m ρ c r) i)) (fun i => Ideal.cos (angle (kPos m ρ c r) i)) l).trans (ite_self _)

theorem sin_at (r : Fin 8192) (l : Fin 128) : (V1 m ρ c main_v41 : S8192x128.Idx → EReal) (ix2 r l) =
    if l.val % 64 < 32 then -Ideal.sin (angle (kPos m ρ c r) ⟨l.val % 32, by omega⟩) else Ideal.sin (angle (kPos m ρ c r) ⟨l.val % 32, by omega⟩) := by
  unfold_abbrev_sides
  after_reads_simp
  simp only [Matrix.cons_val]
  after_reads_simp
  pointwise
  exact planes_at (fun i => -Ideal.sin (angle (kPos m ρ c r) i)) (fun i => Ideal.sin (angle (kPos m ρ c r) i)) l

theorem z_at (h : Fin 8) : inZ (V1 m ρ) c h = kZ m ρ c h := by
  unfold inZ
  unfold_abbrev_sides
  after_reads_simp
  pointwise

theorem v_at (n : Fin 64) (i : Fin 128) (kv : Fin 2) (d : Fin 64) : inV (V1 m ρ) c n i kv d = argV (kP m ρ c) n i kv d := by
  unfold inV argV
  unfold_abbrev_sides
  after_reads_simp
  pointwise

theorem q_at (n : Fin 64) (q : Fin 128) (h : Fin 8) (d : Fin 64) : inQ (V1 m ρ) c n q h d = argQ (kP m ρ c) (kPos m ρ c) n q h d := by
  unfold inQ argQ rope
  unfold_abbrev_sides
  after_reads_simp
  pointwise
  by_cases hd : d.val < 32
  on_goal 1 => rw [dif_pos hd, dif_pos (by omega)]
  on_goal 2 => rw [dif_neg hd, dif_neg (by omega)]
  all_goals
    after_reads_simp
    unfold angle
    pointwise
    simp only [show (h.val * 64 + d.val) / 64 = h.val by omega, show (h.val * 64 + d.val) % 64 = d.val by omega]

theorem k_at (n : Fin 64) (i : Fin 128) (kv : Fin 2) (d : Fin 64) : inK (V1 m ρ) c n i kv d = argK (kP m ρ c) (kPos m ρ c) n i kv d := by
  unfold inK argK rope
  unfold_abbrev_sides
  after_reads_simp
  pointwise
  by_cases hd : d.val < 32
  on_goal 1 => rw [dif_pos hd, dif_pos (by omega)]
  on_goal 2 => rw [dif_neg hd, dif_neg (by omega)]
  all_goals
    after_reads_simp
    unfold angle
    pointwise
    simp only [show (kv.val * 64 + d.val) / 64 = kv.val by omega, show (kv.val * 64 + d.val) % 64 = d.val by omega]

theorem d_at (n : Fin 64) (q : Fin 128) (h : Fin 8) (d : Fin 64) : inD (V1 m ρ) c n q h d = argD (kO m ρ c) n q h d := by
  unfold inD argD
  rw [show V1 m ρ c main_arg3 = W0 m ρ c (Proc.devRef .tc main_arg3) from W1_of m ρ c main_arg3 (by decide)]

theorem turned_back {w H : ℕ} (hw : w = 64 * H) (x c s : Fin w → EReal) (y : Fin H → Fin 64 → EReal) (p : BitVec 32)
    (hx : ∀ l : Fin w, x l = y ⟨l.val / 64, by omega⟩ ⟨l.val % 64, by omega⟩) (hc : ∀ l : Fin w, c l = Ideal.cos (angle p ⟨l.val % 32, by omega⟩))
    (hs : ∀ l : Fin w, s l = if l.val % 64 < 32 then -Ideal.sin (angle p ⟨l.val % 32, by omega⟩) else Ideal.sin (angle p ⟨l.val % 32, by omega⟩))
    (j : Fin w) : turned x c s j = ropeBack (y ⟨j.val / 64, by omega⟩) p ⟨j.val % 64, by omega⟩ := by
  unfold turned ropeBack
  by_cases h : j.val % 64 < 32
  · rw [if_pos h, dif_pos (show j.val + 32 < w by omega), dif_pos h, hx, hx, hc, hs, if_neg (show ¬(j.val + 32) % 64 < 32 by omega)]
    refine congrArg₂ (· + ·) (congrArg₂ (· * ·) rfl ?_) (congrArg₂ (· * ·) ?_ ?_)
    · exact congrArg (fun i => Ideal.cos (angle p i)) (Fin.ext (by simp only []; omega))
    · exact congrArg₂ y (Fin.ext (by simp only []; omega)) (Fin.ext (by simp only []; omega))
    · exact congrArg (fun i => Ideal.sin (angle p i)) (Fin.ext (by simp only []; omega))
  · rw [if_neg h, dif_neg h, hx, hx, hc, hs, if_pos (show (j.val - 32) % 64 < 32 by omega), mul_neg, ← sub_eq_add_neg]
    refine congrArg₂ (· - ·) (congrArg₂ (· * ·) ?_ ?_) (congrArg₂ (· * ·) ?_ ?_)
    · exact congrArg₂ y rfl (Fin.ext (by simp only []; omega))
    · exact congrArg (fun i => Ideal.cos (angle p i)) (Fin.ext (by simp only []; omega))
    · exact congrArg₂ y (Fin.ext (by simp only []; omega)) (Fin.ext (by simp only []; omega))
    · exact congrArg (fun i => Ideal.sin (angle p i)) (Fin.ext (by simp only []; omega))

theorem outRow_packed {q : Fin 512 → EReal} {k v : Fin 128 → EReal} {u : Fin 512 → EReal} {c s : Fin 128 → EReal} {dq : Fin 8192 → Fin 8 → Fin 64 → EReal}
    {dk dv : Fin 8192 → Fin 2 → Fin 64 → EReal} {pos : Fin 8192 → BitVec 32} {u' : Fin 8192 → Fin 512 → EReal} (r : Fin 8192)
    (hq : ∀ l : Fin 512, q l = dq r ⟨l.val / 64, by omega⟩ ⟨l.val % 64, by omega⟩)
    (hk : ∀ l : Fin 128, k l = dk r ⟨l.val / 64, by omega⟩ ⟨l.val % 64, by omega⟩)
    (hv : ∀ l : Fin 128, v l = dv r ⟨l.val / 64, by omega⟩ ⟨l.val % 64, by omega⟩) (hu : ∀ l, u l = u' r l)
    (hc : ∀ l : Fin 128, c l = Ideal.cos (angle (pos r) ⟨l.val % 32, by omega⟩))
    (hs : ∀ l : Fin 128, s l = if l.val % 64 < 32 then -Ideal.sin (angle (pos r) ⟨l.val % 32, by omega⟩) else Ideal.sin (angle (pos r) ⟨l.val % 32, by omega⟩))
    (j : Fin 1280) : outRow q k v u c s j = packed dq dk dv pos u' r j := by
  unfold outRow packed
  by_cases h1 : j.val < 512
  · rw [dif_pos h1, dif_pos h1]
    refine turned_back (H := 8) rfl q _ _ (dq r) (pos r) hq (fun l => (hc _).trans ?_) (fun l => (hs _).trans ?_) ⟨j.val, h1⟩
    · exact congrArg (fun i => Ideal.cos (angle (pos r) i)) (Fin.ext (by simp only []; omega))
    · rw [show (⟨l.val % 128 % 32, by omega⟩ : Fin 32) = ⟨l.val % 32, by omega⟩ from Fin.ext (by simp only []; omega),
        show l.val % 128 % 64 = l.val % 64 by omega]
  rw [dif_neg h1, dif_neg h1]
  by_cases h2 : j.val < 640
  · rw [dif_pos (show j.val - 512 < 128 by omega), dif_pos h2]
    exact turned_back (H := 2) rfl k _ _ (dk r) (pos r) hk hc hs ⟨j.val - 512, by omega⟩
  rw [dif_neg (show ¬j.val - 512 < 128 by omega), dif_neg h2]
  by_cases h3 : j.val < 768
  · rw [dif_pos (show j.val - 512 - 128 < 128 by omega), dif_pos h3, hv]
    exact congrArg₂ (dv r) (Fin.ext (by simp only []; omega)) (Fin.ext (by simp only []; omega))
  · rw [dif_neg (show ¬j.val - 512 - 128 < 128 by omega), dif_neg h3, hu]
    exact congrArg (u' r) (Fin.ext (by simp only []; omega))

theorem joined_both {A : S8192x128.Idx → EReal} {P : S2048x128.Idx → EReal} (X : Fin 64 → Fin 256 → Fin 2 → Fin 64 → EReal)
    (hA : ∀ (R : Fin 8192) l, A (ix2 R l) = over X ⟨R.val / 128, by omega⟩ ⟨R.val % 128, by omega⟩ (lkv l) (le l))
    (hP : ∀ (R : Fin 2048) l, P (ix2 R l) = X ⟨4 * (R.val / 128), by omega⟩ ⟨R.val % 128, by omega⟩ (lkv l) (le l)) (R : Fin 8192) (l : Fin 128) :
    joined A P R l = refBoth X ⟨R.val / 128, by omega⟩ ⟨R.val % 128, by omega⟩ (lkv l) (le l) := by
  unfold joined refBoth
  simp only [hA, hP, over]
  by_cases h : R.val % 512 < 384
  · rw [dif_pos h, dif_pos (show R.val / 128 % 4 < 3 by omega), dif_pos (show R.val / 128 < 63 ∧ R.val % 128 < 128 by omega)]
  · rw [dif_neg h, dif_neg (show ¬R.val / 128 % 4 < 3 by omega), add_zero]
    refine congrArg (X _ _ _ _ + ·) ?_
    by_cases h' : R.val / 512 < 15
    · rw [if_pos h', one_mul, dif_pos (show R.val / 128 < 63 ∧ R.val % 128 < 128 by omega)]
      exact congrArg₂ (fun a b => X a b (lkv l) (le l)) (Fin.ext (by simp only []; omega)) (Fin.ext (by simp only []; omega))
    · rw [if_neg h', zero_mul, dif_neg (show ¬(R.val / 128 < 63 ∧ R.val % 128 < 128) by omega)]

abbrev argsK := argK (kP m ρ c) (kPos m ρ c)
abbrev argsV := argV (kP m ρ c)
abbrev argsQ := argQ (kP m ρ c) (kPos m ρ c)
abbrev argsD := argD (kO m ρ c)

theorem ins_eq : inK (V1 m ρ) c = argsK m ρ c ∧ inV (V1 m ρ) c = argsV m ρ c ∧ inQ (V1 m ρ) c = argsQ m ρ c ∧ inD (V1 m ρ) c = argsD m ρ c ∧ inZ (V1 m ρ) c = kZ m ρ c :=
  ⟨funext fun n => funext₃ (k_at m ρ c n), funext fun n => funext₃ (v_at m ρ c n), funext fun n => funext₃ (q_at m ρ c n), funext fun n => funext₃ (d_at m ρ c n),
    funext (z_at m ρ c)⟩

theorem sinks_left (h : Fin 8) (l : Fin 128) : (W3 m ρ c (Proc.devRef .tc main_v79_5) : S8x128.Idx → EReal) (ix2 h l) =
    ∑ n : Fin 64, ∑ q : Fin 128, kerDsink (argsK m ρ c) (argsV m ρ c) (argsQ m ρ c) (argsD m ρ c) (kZ m ρ c) n q h := by
  obtain ⟨e1, e2, e3, e4, e5⟩ := ins_eq m ρ c
  rw [← e1, ← e2, ← e3, ← e4, ← e5]
  exact congrFun ((W3_of_ne m ρ c main_v79_5 (by decide)).trans ((W2_arr m ρ c 12).trans (sink_out (V1 m ρ) c))) (ix2 h l)

theorem packed_left (r : Fin 8192) (k : Fin 1280) : (W3 m ρ c (Proc.devRef .tc main_v80) : S8192x1280.Idx → EReal) (ix2 r k) =
    packed (fun r => kerDq (argsK m ρ c) (argsV m ρ c) (argsQ m ρ c) (argsD m ρ c) (kZ m ρ c) ⟨r.val / 128, by omega⟩ ⟨r.val % 128, by omega⟩)
      (fun r => refBoth (kerDk (argsK m ρ c) (argsV m ρ c) (argsQ m ρ c) (argsD m ρ c) (kZ m ρ c)) ⟨r.val / 128, by omega⟩ ⟨r.val % 128, by omega⟩)
      (fun r => refBoth (kerDv (argsK m ρ c) (argsQ m ρ c) (argsD m ρ c) (kZ m ρ c)) ⟨r.val / 128, by omega⟩ ⟨r.val % 128, by omega⟩)
      (kPos m ρ c) (kU m ρ c) r k := by
  obtain ⟨e1, e2, e3, e4, e5⟩ := ins_eq m ρ c
  rw [← e1, ← e2, ← e3, ← e4, ← e5]
  refine (congrFun ((W3_arr m ρ c 8).trans (packed_out (V2 m ρ) c)) (ix2 r k)).trans ?_
  refine outRow_packed r (fun l => ?_) (joined_both (VDk (V1 m ρ) c) (fun R l => ?_) (fun R l => ?_) r) (joined_both (VDv (V1 m ρ) c) (fun R l => ?_) (fun R l => ?_) r)
    (fun l => ?_) (fun l => ?_) (fun l => ?_) k
  · exact congrFun ((W2_arr m ρ c 7).trans (dq_out (V1 m ρ) c)) (ix2 r l)
  · exact congrFun ((W2_arr m ρ c 8).trans (dk_out (V1 m ρ) c)) (ix2 R l)
  · exact congrFun ((W2_arr m ρ c 9).trans (dkp_out (V1 m ρ) c)) (ix2 R l)
  · exact congrFun ((W2_arr m ρ c 10).trans (dv_out (V1 m ρ) c)) (ix2 R l)
  · exact congrFun ((W2_arr m ρ c 11).trans (dvp_out (V1 m ρ) c)) (ix2 R l)
  · exact congrFun ((W2_of_ne m ρ c main_arg4 (by decide)).trans (W1_of m ρ c main_arg4 (by decide))) (ix2 r l)
  · exact (congrFun (W2_of_ne m ρ c main_v38 (by decide)) (ix2 r l)).trans (cos_at m ρ c r l)
  · exact (congrFun (W2_of_ne m ρ c main_v41 (by decide)) (ix2 r l)).trans (sin_at m ρ c r l)

end Cert.Step.Swa

namespace Cert.Step.Swa

open Cert.KernelSwaIdeal Cert.KernelSwaIdeal.Gen Idealize.ShloMosaic Idealize.ShloMosaic.TcCoe Idealize.SL Idealize.SL.RA Idealize.SL.BI Idealize.SL.BI.BIBase
open Idealize.SL.BI.Laws Idealize.SL.ProofMode Idealize.SL.Sem Idealize.ShloMosaic.Rounds
open scoped Idealize.SL.BI

set_option backward.isDefEq.respectTransparency.types false in
/-- The kernel's program ends with every buffer as the two calls' folds leave it. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD, ∀ b ∈ Pipeline.ucRefs τ sig,
      r.2.mem (((c : Thread nD τ)).1, b) = W3 m ρ c b := by
  refine Pipeline.θ_run_regions_kit_sems (pcfgs (F := Ideal)) adm (pdats m ρ) () cellOf_inj emb₁ defs₀ 𝒱₀ L lv m ρ main (segs m ρ)
    (fun c Q => by rw [main_run m ρ c]) (by simp only [segs, Pipeline.Seg.pipes_host, Pipeline.Seg.pipes_region, Pipeline.Seg.pipes_nil]; decide)
    (O₀ := 0) (hL := fun _ _ => rfl) (G := fun _ => iprop(emp)) (u₀ := initOf (Pipeline.cells cfgs cellOf_inj) (Pipeline.launchToks cfgs cellOf_inj))
    (hu₀ := ?_) (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩) (hinit := ?_)
    (QY := fun c s => ∀ b ∈ Pipeline.ucRefs τ sig, s.mem (((c : Thread nD τ)).1, b) = W3 m ρ c b) (hfin := fun c s' => ?_) (hQ := fun s h _ => h)
  · iintro H; imodintro
    isplitl [H]
    · iapply (show (ownU (initOf (Pipeline.cells cfgs cellOf_inj) (Pipeline.launchToks cfgs cellOf_inj)) : sProp (MT nD τ sig Unit (Elt Ideal) ℕ (UR sig nD τ) ℕ))
          ⊢ BI.own (emb₁ (initOf (Pipeline.cells cfgs cellOf_inj) (Pipeline.launchToks cfgs cellOf_inj))) from .rfl)
      iexact H
    iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
    iempintro
  · refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨H, -, HO, -, Hp, -⟩, -⟩
    imodintro
    isplitl [H]; · iexact H
    isplitl [Hp]; · iexists _; iexact Hp
    iexists ∅; iexact HO
  · iintro ⟨⟨H, -⟩, HS⟩
    unfold StableHlo.held
    imodintro
    iapply (pointsTo_read_all (Pipeline.ucRefs τ sig) (fun b => (((c : Thread nD τ)).1, b)) (W3 m ρ c) s')
    isplitl [H] <;> iassumption

end Cert.Step.Swa

end
-- ==== Proof.SwaReference.lean ====
/- The derivative of the sliding-window attention with its rotation: the reference's frame. -/
module

public import proofs.«01_k».proof.Defs
public import proofs.«01_k».proof.Proof.Gen.ReferenceSwaIdeal.Run
public import Idealize.ShloMosaic.Lib.Quiescent

@[expose] public section

set_option maxRecDepth 16384

noncomputable section

namespace Cert.Step.SwaRef

open Cert.ReferenceSwaIdeal Cert.ReferenceSwaIdeal.Gen Idealize.ShloMosaic Idealize.ShloMosaic.TcCoe Idealize.SL.Sem

/-- The frame of the reference, which has no semaphores. -/
theorem frame : Cert.quiescent_ReferenceSwaIdeal := fun m ρ _ =>
  (θ_run defs _ _).mono (fun r h => ⟨fun c => (h c).2.2, sem_eq_zero_of_no_sems (by decide) r.2⟩) (Value.run m ρ)

/-- The mask's word stands for −∞ once idealized. -/
theorem preserves : Cert.preserves_KernelSwa_KernelSwaIdeal :=
  IdealRules.named_const.statement Cert.KernelSwaIdeal.κ "mask" .f32 0xF149F2CA#32 ⊥ rfl

end Cert.Step.SwaRef

end
-- ==== Proof.SwaRefValue.lean ====
module

public import proofs.«01_k».proof.Proof.Gen.ReferenceSwaIdeal.Run
public import proofs.«01_k».proof.Proof.SwaSpec
public import proofs.«01_k».proof.Proof.PoolSpec
public import Idealize.ShloMosaic.Lib.Pipeline.ValueKit

@[expose] public section

set_option maxRecDepth 16384

noncomputable section

namespace Cert.Step.SwaRef

open Cert.ReferenceSwaIdeal Cert.ReferenceSwaIdeal.Gen Idealize.ShloMosaic Idealize.ShloMosaic.TcCoe Idealize.SL.Sem
open Cert.Step.Swa
open scoped BigOperators

variable (V0 : Valuation τ sig (Elt Ideal))

/-- The argument arrays: the projections, the positions, the sinks, the outputs' two cotangents. -/
abbrev aP (r : Fin 8192) (k : Fin 1280) : EReal := (V0 (Proc.devRef .tc main_arg0) : S8192x1280.Idx → EReal) (ix2 r k)
abbrev aPos (r : Fin 8192) : BitVec 32 := (V0 (Proc.devRef .tc main_arg1) : S8192.Idx → BitVec 32) (ix1 r)
abbrev aZ (h : Fin 8) : EReal := (V0 (Proc.devRef .tc main_arg2) : S8.Idx → EReal) (ix1 h)
abbrev aO (r : Fin 8192) (k : Fin 512) : EReal := (V0 (Proc.devRef .tc main_arg3) : S8192x512.Idx → EReal) (ix2 r k)
abbrev aU (r : Fin 8192) (k : Fin 512) : EReal := (V0 (Proc.devRef .tc main_arg4) : S8192x512.Idx → EReal) (ix2 r k)

abbrev rK := argK (aP V0) (aPos V0)
abbrev rV := argV (aP V0)
abbrev rQ := argQ (aP V0) (aPos V0)
abbrev rD := argD (aO V0)

theorem v15_at (r : Fin 8192) (i : Fin 32) : (Value.res_main_v15 V0 : S8192x32.Idx → EReal) (ix2 r i) = angle (aPos V0 r) i := by
  unfold Value.res_main_v15 angle
  pointwise

theorem v17_at (r : Fin 8192) (a : Fin 1) (i : Fin 32) : (Value.res_main_v17 V0 : S8192x1x32.Idx → EReal) (ix3 r a i) = Ideal.cos (angle (aPos V0 r) i) := by
  unfold Value.res_main_v17
  pointwise [v15_at]

theorem v19_at (r : Fin 8192) (a : Fin 1) (i : Fin 32) : (Value.res_main_v19 V0 : S8192x1x32.Idx → EReal) (ix3 r a i) = Ideal.sin (angle (aPos V0 r) i) := by
  unfold Value.res_main_v19
  pointwise [v15_at]

theorem v53_at (n : Fin 64) (q : Fin 128) (kv : Fin 2) (g : Fin 4) (d : Fin 64) : (Value.res_main_v53 V0 : S64x128x2x4x64.Idx → EReal) (ix5 n q kv g d) =
    rQ V0 n q (headOf kv g) d := by
  unfold Value.res_main_v53 Value.res_main_v27 Value.res_main_v28 Value.res_main_v21 rQ argQ rope
  pointwise [v17_at, v19_at]

theorem v54_at (n : Fin 64) (q : Fin 128) (kv : Fin 2) (d : Fin 64) : (Value.res_main_v54 V0 : S64x128x2x64.Idx → EReal) (ix4 n q kv d) =
    rK V0 n q kv d := by
  unfold Value.res_main_v54 Value.res_main_v40 Value.res_main_v41 Value.res_main_v23 rK argK rope
  pointwise [v17_at, v19_at]

theorem v60_at (n : Fin 64) (j : Fin 256) (kv : Fin 2) (d : Fin 64) : (Value.res_main_v60 V0 : S64x256x2x64.Idx → EReal) (ix4 n j kv d) = win (rK V0) n j kv d := by
  unfold Value.res_main_v60 win
  pointwise [v54_at]

theorem v61_at (n : Fin 64) (q : Fin 128) (kv : Fin 2) (d : Fin 64) : (Value.res_main_v61 V0 : S64x128x2x64.Idx → EReal) (ix4 n q kv d) =
    rV V0 n q kv d := by
  unfold Value.res_main_v61 rV argV
  pointwise

theorem v67_at (n : Fin 64) (j : Fin 256) (kv : Fin 2) (d : Fin 64) : (Value.res_main_v67 V0 : S64x256x2x64.Idx → EReal) (ix4 n j kv d) = win (rV V0) n j kv d := by
  unfold Value.res_main_v67 win
  pointwise [v61_at]

theorem v103_at (kv : Fin 2) (g : Fin 4) (n : Fin 64) (q : Fin 128) (j : Fin 256) :
    (Value.res_main_v103_1 V0 : S2x4x64x128x256.Idx → BitVec 1) (ix5 kv g n q j) = if Valid n q j then 1#1 else 0#1 := by
  unfold Value.res_main_v103_1 Value.res_main_v80 Value.res_main_v75
  pointwise
  exact mask_at n q j

theorem v106_at (kv : Fin 2) (g : Fin 4) (n : Fin 64) (q : Fin 128) (j : Fin 257) :
    (Value.res_main_v106 V0 : S2x4x64x128x257.Idx → EReal) (ix5 kv g n q j) =
      row (refScore (rK V0) (rQ V0) n q (headOf kv g)) (aZ V0 (headOf kv g)) j := by
  unfold Value.res_main_v106 row refScore
  rw [← bits_negInf]
  pointwise [v103_at, v60_at, v53_at, select_valid, kvOf_headOf]
  by_cases hj : j.val < 256
  · rw [dif_pos hj, dif_pos hj]
    exact select_valid _ _ _
  · rw [dif_neg hj, dif_neg hj]

/-- The maximum along the last of five axes, at an index. -/
theorem host_max_last5 {a b e f n : ℕ} (v : FVec Ideal ⟨5, ![a, b, e, f, n]⟩ .f32) (c : FVec Ideal ⟨0, ![]⟩ .f32)
    (h : Shape.ReducesTo ⟨5, ![a, b, e, f, n]⟩ [4] ⟨4, ![a, b, e, f]⟩) (hu : 0 < Shape.numel ⟨0, ![]⟩) (j : Shape.Idx ⟨4, ![a, b, e, f]⟩) :
    Host.reduce FloatOps.maximumf v c h hu j =
      Finset.fold max (c (Shape.Idx.first hu)) (fun k : Fin n => v (ix5 (j 0) (j 1) (j 2) (j 3) k)) Finset.univ := by
  simp only [pointwise]

abbrev rRow (n : Fin 64) (q : Fin 128) (h : Fin 8) : Fin 257 → EReal := row (refScore (rK V0) (rQ V0) n q h) (aZ V0 h)

def mA : FVec Ideal S2x4x64x128 .f32 :=
  maximumf (broadcastInDim S2x4x64x128 ![] bcast_S_S2x4x64x128 (constant S_ .f32 0xFF800000#32)) (Value.res_main_v107 V0)

theorem mA_at (j : S2x4x64x128.Idx) : mA V0 j = rowMax (rRow V0 (j 2) (j 3) (headOf (j 0) (j 1))) := by
  rw [mA, ValueIdx.maximumf_apply]
  refine (congrArg (max wNegInf) ((host_max_last5 _ _ _ _ _).trans ?_)).trans (max_rowMax _)
  exact congrArg (fun f => Finset.fold max wNegInf f Finset.univ) (funext fun k => v106_at V0 _ _ _ _ k)

theorem v127_eq : Value.res_main_v127 V0 = Host.exp (subf (Value.res_main_v106 V0)
    (broadcastInDim S2x4x64x128x257 ![0, 1, 2, 3, 4] bcast_S2x4x64x128x1_S2x4x64x128x257_0_1_2_3_4
      (broadcastInDim S2x4x64x128x1 ![0, 1, 2, 3] bcast_S2x4x64x128_S2x4x64x128x1_0_1_2_3 (mA V0)))) := by
  unfold Value.res_main_v127 mA
  rfl

theorem v127_at (kv : Fin 2) (g : Fin 4) (n : Fin 64) (q : Fin 128) (j : Fin 257) :
    (Value.res_main_v127 V0 : S2x4x64x128x257.Idx → EReal) (ix5 kv g n q j) = expBelow (rRow V0 n q (headOf kv g)) j := by
  rw [v127_eq]
  pointwise [v106_at, mA_at, expBelow]

theorem v129_at (kv : Fin 2) (g : Fin 4) (n : Fin 64) (q : Fin 128) (j : Fin 1) :
    (Value.res_main_v129 V0 : S2x4x64x128x1.Idx → EReal) (ix5 kv g n q j) = ∑ k, expBelow (rRow V0 n q (headOf kv g)) k := by
  unfold Value.res_main_v129
  pointwise [v127_at]

theorem v135_at (kv : Fin 2) (g : Fin 4) (n : Fin 64) (q : Fin 128) (j : Fin 256) :
    (Value.res_main_v135 V0 : S2x4x64x128x256.Idx → EReal) (ix5 kv g n q j) = refProb (rK V0) (rQ V0) (aZ V0) n q (headOf kv g) j.castSucc := by
  unfold Value.res_main_v135 refProb prob
  pointwise [v127_at, v129_at]
  rfl

theorem v140_at (n : Fin 64) (kv : Fin 2) (d : Fin 64) (g : Fin 4) (q : Fin 128) :
    (Value.res_main_v140 V0 : S64x2x64x4x128.Idx → EReal) (ix5 n kv d g q) = rD V0 n q (headOf kv g) d := by
  unfold Value.res_main_v140 rD argD
  pointwise
  exact congrArg (aO V0 (rowOf n q)) (Fin.ext (by simp only []; omega))

theorem v145_at (kv : Fin 2) (g : Fin 4) (n : Fin 64) (q : Fin 128) (j : Fin 257) :
    (Value.res_main_v145 V0 : S2x4x64x128x257.Idx → EReal) (ix5 kv g n q j) =
      row (refDp (rV V0) (rD V0) n q (headOf kv g)) 0 j := by
  unfold Value.res_main_v145 row refDp
  pointwise [v140_at, v67_at, kvOf_headOf]

theorem v157_at (kv : Fin 2) (g : Fin 4) (n : Fin 64) (q : Fin 128) (j : Fin 257) :
    (Value.res_main_v157 V0 : S2x4x64x128x257.Idx → EReal) (ix5 kv g n q j) =
      refDs (rK V0) (rV V0) (rQ V0) (rD V0) (aZ V0) n q (headOf kv g) j := by
  unfold Value.res_main_v157 refDs dScoreRule
  pointwise [v145_at, v127_at, v129_at, Fin.sum_univ_one]

theorem v166_at (kv : Fin 2) (n : Fin 64) (j : Fin 256) (q : Fin 128) (g : Fin 4) :
    (Value.res_main_v166 V0 : S2x64x256x128x4.Idx → EReal) (ix5 kv n j q g) =
      refG (rK V0) (rV V0) (rQ V0) (rD V0) (aZ V0) n q (headOf kv g) j := by
  unfold Value.res_main_v166 refG
  pointwise [v157_at, v103_at, select_valid]
  rfl

theorem v170_at (n : Fin 64) (j : Fin 256) (kv : Fin 2) (d : Fin 64) : (Value.res_main_v170 V0 : S64x256x2x64.Idx → EReal) (ix4 n j kv d) =
    refDk (rK V0) (rV V0) (rQ V0) (rD V0) (aZ V0) n j kv d := by
  unfold Value.res_main_v170 refDk
  pointwise [v166_at, v53_at]

theorem v144_at (n : Fin 64) (j : Fin 256) (kv : Fin 2) (d : Fin 64) : (Value.res_main_v144 V0 : S64x256x2x64.Idx → EReal) (ix4 n j kv d) =
    refDv (rK V0) (rQ V0) (rD V0) (aZ V0) n j kv d := by
  unfold Value.res_main_v144 refDv
  pointwise [v140_at, v135_at]

theorem v185_at (r : Fin 8192) (h : Fin 8) (d : Fin 64) : (Value.res_main_v185 V0 : S8192x8x64.Idx → EReal) (ix3 r h d) =
    refDq (rK V0) (rV V0) (rQ V0) (rD V0) (aZ V0) ⟨r.val / 128, by omega⟩ ⟨r.val % 128, by omega⟩ h d := by
  unfold Value.res_main_v185 refDq
  pointwise [v166_at, v60_at, headOf_kvOf]

/-- A key's two windows: its own block's and the next block's. -/
theorem v184_at (r : Fin 8192) (kv : Fin 2) (d : Fin 64) : (Value.res_main_v184 V0 : S8192x2x64.Idx → EReal) (ix3 r kv d) =
    refBoth (refDk (rK V0) (rV V0) (rQ V0) (rD V0) (aZ V0)) ⟨r.val / 128, by omega⟩ ⟨r.val % 128, by omega⟩ kv d := by
  unfold Value.res_main_v184 Value.res_main_v178 refBoth
  pointwise [v170_at]

def dvA : FVec Ideal S8192x2x64 .f32 := shapeCast S8192x2x64
  (addf (extractStridedSlice S64x128x2x64 ![0, 128, 0, 0] (Value.res_main_v144 V0) slices_S64x256x2x64_S64x128x2x64_0_128_0_0)
    (pad S64x128x2x64 ![0, 0, 0, 0] ![1, 0, 0, 0] ![0, 0, 0, 0]
      (extractStridedSlice S63x128x2x64 ![1, 0, 0, 0] (Value.res_main_v171 V0) slices_S64x128x2x64_S63x128x2x64_1_0_0_0)
      (constant (F := Ideal) S_ .f32 0x00000000#32) pads_S63x128x2x64_S64x128x2x64_010_000_000_000 h_S_)) shapeCasts_S64x128x2x64_S8192x2x64

theorem dvA_at (r : Fin 8192) (kv : Fin 2) (d : Fin 64) : (dvA V0 : S8192x2x64.Idx → EReal) (ix3 r kv d) =
    refBoth (refDv (rK V0) (rQ V0) (rD V0) (aZ V0)) ⟨r.val / 128, by omega⟩ ⟨r.val % 128, by omega⟩ kv d := by
  unfold dvA Value.res_main_v171 refBoth
  pointwise [v144_at]

def kLo : FVec Ideal S8192x2x32 .f32 := Value.res_main_v186 V0
theorem kLo_at (r : Fin 8192) (kv : Fin 2) (i : Fin 32) : (kLo V0 : S8192x2x32.Idx → EReal) (ix3 r kv i) =
    refBoth (refDk (rK V0) (rV V0) (rQ V0) (rD V0) (aZ V0)) ⟨r.val / 128, by omega⟩ ⟨r.val % 128, by omega⟩ kv ⟨i.val, by omega⟩ := by
  unfold kLo Value.res_main_v186
  pointwise [v184_at]

def kHi : FVec Ideal S8192x2x32 .f32 := Value.res_main_v187 V0
theorem kHi_at (r : Fin 8192) (kv : Fin 2) (i : Fin 32) : (kHi V0 : S8192x2x32.Idx → EReal) (ix3 r kv i) =
    refBoth (refDk (rK V0) (rV V0) (rQ V0) (rD V0) (aZ V0)) ⟨r.val / 128, by omega⟩ ⟨r.val % 128, by omega⟩ kv ⟨32 + i.val, by omega⟩ := by
  unfold kHi Value.res_main_v187
  pointwise [v184_at]

def qLo : FVec Ideal S8192x8x32 .f32 := Value.res_main_v202 V0
theorem qLo_at (r : Fin 8192) (h : Fin 8) (i : Fin 32) : (qLo V0 : S8192x8x32.Idx → EReal) (ix3 r h i) =
    refDq (rK V0) (rV V0) (rQ V0) (rD V0) (aZ V0) ⟨r.val / 128, by omega⟩ ⟨r.val % 128, by omega⟩ h ⟨i.val, by omega⟩ := by
  unfold qLo Value.res_main_v202
  pointwise [v185_at]

def qHi : FVec Ideal S8192x8x32 .f32 := Value.res_main_v203 V0
theorem qHi_at (r : Fin 8192) (h : Fin 8) (i : Fin 32) : (qHi V0 : S8192x8x32.Idx → EReal) (ix3 r h i) =
    refDq (rK V0) (rV V0) (rQ V0) (rD V0) (aZ V0) ⟨r.val / 128, by omega⟩ ⟨r.val % 128, by omega⟩ h ⟨32 + i.val, by omega⟩ := by
  unfold qHi Value.res_main_v203
  pointwise [v185_at]

def uA : FVec Ideal S8192x512 .f32 := V0 (Proc.devRef .tc main_arg4)
theorem uA_at (r : Fin 8192) (k : Fin 512) : (uA V0 : S8192x512.Idx → EReal) (ix2 r k) = aU V0 r k := rfl

def dkA : FVec Ideal S8192x2x64 .f32 := addf
  (pad S8192x2x64 ![0, 0, 32] ![0, 0, 0] ![0, 0, 0]
    (addf (mulf (kHi V0) (broadcastInDim S8192x2x32 ![0, 1, 2] bcast_S8192x1x32_S8192x2x32_0_1_2 (Value.res_main_v17 V0)))
      (mulf (Host.negf (kLo V0)) (broadcastInDim S8192x2x32 ![0, 1, 2] bcast_S8192x1x32_S8192x2x32_0_1_2 (Value.res_main_v19 V0))))
    (constant (F := Ideal) S_ .f32 0x00000000#32) pads_S8192x2x32_S8192x2x64_000_000_3200 h_S_)
  (pad S8192x2x64 ![0, 0, 0] ![0, 0, 32] ![0, 0, 0]
    (addf (mulf (kHi V0) (broadcastInDim S8192x2x32 ![0, 1, 2] bcast_S8192x1x32_S8192x2x32_0_1_2 (Value.res_main_v19 V0)))
      (mulf (kLo V0) (broadcastInDim S8192x2x32 ![0, 1, 2] bcast_S8192x1x32_S8192x2x32_0_1_2 (Value.res_main_v17 V0))))
    (constant (F := Ideal) S_ .f32 0x00000000#32) pads_S8192x2x32_S8192x2x64_000_000_0320 h_S_)

theorem dkA_at (r : Fin 8192) (kv : Fin 2) (d : Fin 64) : (dkA V0 : S8192x2x64.Idx → EReal) (ix3 r kv d) =
    ropeBack (refBoth (refDk (rK V0) (rV V0) (rQ V0) (rD V0) (aZ V0)) ⟨r.val / 128, by omega⟩ ⟨r.val % 128, by omega⟩ kv) (aPos V0 r) d := by
  unfold dkA ropeBack
  pointwise [kLo_at, kHi_at, v17_at, v19_at]
  by_cases hd : d.val < 32
  · rw [dif_neg (by omega), dif_pos hd, dif_pos hd, zero_add, add_comm]
  · rw [dif_pos (by omega), dif_neg hd, dif_neg hd, add_zero, neg_mul, sub_eq_add_neg]

def dqA : FVec Ideal S8192x8x64 .f32 := addf
  (pad S8192x8x64 ![0, 0, 32] ![0, 0, 0] ![0, 0, 0]
    (addf (mulf (qHi V0) (broadcastInDim S8192x8x32 ![0, 1, 2] bcast_S8192x1x32_S8192x8x32_0_1_2 (Value.res_main_v17 V0)))
      (mulf (Host.negf (qLo V0)) (broadcastInDim S8192x8x32 ![0, 1, 2] bcast_S8192x1x32_S8192x8x32_0_1_2 (Value.res_main_v19 V0))))
    (constant (F := Ideal) S_ .f32 0x00000000#32) pads_S8192x8x32_S8192x8x64_000_000_3200 h_S_)
  (pad S8192x8x64 ![0, 0, 0] ![0, 0, 32] ![0, 0, 0]
    (addf (mulf (qHi V0) (broadcastInDim S8192x8x32 ![0, 1, 2] bcast_S8192x1x32_S8192x8x32_0_1_2 (Value.res_main_v19 V0)))
      (mulf (qLo V0) (broadcastInDim S8192x8x32 ![0, 1, 2] bcast_S8192x1x32_S8192x8x32_0_1_2 (Value.res_main_v17 V0))))
    (constant (F := Ideal) S_ .f32 0x00000000#32) pads_S8192x8x32_S8192x8x64_000_000_0320 h_S_)

theorem dqA_at (r : Fin 8192) (h : Fin 8) (d : Fin 64) : (dqA V0 : S8192x8x64.Idx → EReal) (ix3 r h d) =
    ropeBack (refDq (rK V0) (rV V0) (rQ V0) (rD V0) (aZ V0) ⟨r.val / 128, by omega⟩ ⟨r.val % 128, by omega⟩ h) (aPos V0 r) d := by
  unfold dqA ropeBack
  pointwise [qLo_at, qHi_at, v17_at, v19_at]
  by_cases hd : d.val < 32
  · rw [dif_neg (by omega), dif_pos hd, dif_pos hd, zero_add, add_comm]
  · rw [dif_pos (by omega), dif_neg hd, dif_neg hd, add_zero, neg_mul, sub_eq_add_neg]

def outA : FVec Ideal S8192x1280 .bf16 := truncf .bf16
  (addf (addf (addf
    (pad S8192x1280 ![0, 768] ![0, 0] ![0, 0] (uA V0) (constant (F := Ideal) S_ .f32 0x00000000#32) pads_S8192x512_S8192x1280_000_76800 h_S_)
    (pad S8192x1280 ![0, 640] ![0, 512] ![0, 0] (shapeCast S8192x128 (dvA V0) shapeCasts_S8192x2x64_S8192x128) (constant (F := Ideal) S_ .f32 0x00000000#32) pads_S8192x128_S8192x1280_000_6405120 h_S_))
    (pad S8192x1280 ![0, 512] ![0, 640] ![0, 0] (shapeCast S8192x128 (dkA V0) shapeCasts_S8192x2x64_S8192x128) (constant (F := Ideal) S_ .f32 0x00000000#32) pads_S8192x128_S8192x1280_000_5126400 h_S_))
    (pad S8192x1280 ![0, 0] ![0, 768] ![0, 0] (shapeCast S8192x512 (dqA V0) shapeCasts_S8192x8x64_S8192x512) (constant (F := Ideal) S_ .f32 0x00000000#32) pads_S8192x512_S8192x1280_000_07680 h_S_))
  bitsLt_bf16_f32

theorem outA_at (r : Fin 8192) (k : Fin 1280) : (outA V0 : S8192x1280.Idx → EReal) (ix2 r k) = packed
    (fun r => refDq (rK V0) (rV V0) (rQ V0) (rD V0) (aZ V0) ⟨r.val / 128, by omega⟩ ⟨r.val % 128, by omega⟩)
    (fun r => refBoth (refDk (rK V0) (rV V0) (rQ V0) (rD V0) (aZ V0)) ⟨r.val / 128, by omega⟩ ⟨r.val % 128, by omega⟩)
    (fun r => refBoth (refDv (rK V0) (rQ V0) (rD V0) (aZ V0)) ⟨r.val / 128, by omega⟩ ⟨r.val % 128, by omega⟩)
    (aPos V0) (aU V0) r k := by
  unfold outA packed
  pointwise [uA_at, dvA_at, dkA_at, dqA_at]
  by_cases h₁ : k.val < 512
  · rw [dif_neg (by omega), dif_neg (by omega), dif_neg (by omega), dif_pos h₁, dif_pos h₁, add_zero, add_zero, zero_add]
  by_cases h₂ : k.val < 640
  · rw [dif_neg (by omega), dif_neg (by omega), dif_pos (by omega), dif_neg h₁, dif_neg h₁, dif_pos h₂, add_zero, zero_add, zero_add]
  by_cases h₃ : k.val < 768
  · rw [dif_neg (by omega), dif_pos (by omega), dif_neg (by omega), dif_neg h₁, dif_neg h₁, dif_neg h₂, dif_pos h₃, zero_add, add_zero, add_zero]
  · rw [dif_pos (by omega), dif_neg (by omega), dif_neg (by omega), dif_neg h₁, dif_neg h₁, dif_neg h₂, dif_neg h₃, add_zero, add_zero, add_zero]

/-- The sinks' gradients, one per head, beside copies of themselves. -/
def sinkA : FVec Ideal S8x128 .f32 := broadcastInDim S8x128 ![0, 1] bcast_S8x1_S8x128_0_1 (broadcastInDim S8x1 ![0] bcast_S8_S8x1_0
  (shapeCast S8 (broadcastInDim S2x4x1x1x1 ![0, 1] bcast_S2x4_S2x4x1x1x1_0_1
    (Host.reduceAdd (extractStridedSlice S2x4x64x128x1 ![0, 0, 0, 0, 256] (Value.res_main_v157 V0) slices_S2x4x64x128x257_S2x4x64x128x1_0_0_0_0_256)
      (constant (F := Ideal) S_ .f32 0x00000000#32) reducesTo_S2x4x64x128x1_S2x4_d2_3_4 h_S_)) shapeCasts_S2x4x1x1x1_S8))

theorem sinkA_at (h : Fin 8) (l : Fin 128) : (sinkA V0 : S8x128.Idx → EReal) (ix2 h l) =
    ∑ n : Fin 64, ∑ q : Fin 128, refDs (rK V0) (rV V0) (rQ V0) (rD V0) (aZ V0) n q h (Fin.last 256) := by
  unfold sinkA
  pointwise [v157_at]
  exact Finset.sum_congr rfl fun n _ => Finset.sum_congr rfl fun q _ => (Fin.sum_univ_one _).trans
    (congrArg (fun h' : Fin 8 => refDs (rK V0) (rV V0) (rQ V0) (rD V0) (aZ V0) n q h' (Fin.last 256)) (Fin.ext (by simp only [headOf]; omega)))

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v229) = (sinkA (StableHlo.launchContents m c) : S8x128.Idx → EReal) ∧
      r.2.mem ((c.tc : Thread nD τ).loc main_v230) = (outA (StableHlo.launchContents m c) : S8192x1280.Idx → EReal) ∧
      ∀ a ∈ ([main_arg0, main_arg1, main_arg2, main_arg3, main_arg4] : List (Ref sig .tc)), r.2.mem ((c.tc : Thread nD τ).loc a) = m ((c.tc : Thread nD τ).loc a) :=
  (θ_run defs _ _).mono (fun _ h c => ⟨(h c).1, (h c).2.1, by simpa using (h c).2.2⟩) (Value.run m ρ)

end Cert.Step.SwaRef
end
-- ==== Proof.SwaPair.lean ====
/- The window attention's gradient: the kernel's results are the reference's where the projections, the sinks and the
   outputs' cotangent are finite. -/
module

public import proofs.«01_k».proof.Proof.SwaKernel
public import proofs.«01_k».proof.Proof.SwaReference
public import proofs.«01_k».proof.Proof.SwaRefValue

@[expose] public section

set_option maxRecDepth 16384

noncomputable section

namespace Cert.Step.SwaPair

open Idealize.ShloMosaic Idealize.ShloMosaic.TcCoe Idealize.SL.Sem Cert.KernelSwaIdeal Cert.Step.Swa
open scoped BigOperators

/-- What the precondition's function states of its shapes. -/
instance finite_facts : Cert.Pre_finite_swa.Facts := by constructor <;> decide

theorem bits_64 : Ideal.ofBits .f32 0x42800000#32 = ((64 : ℝ) : EReal) := by
  simp only [Ideal.ofBits, Ideal.ieee]
  simp
  rw [← EReal.coe_mul]; norm_num

theorem neg_real {x : EReal} (h : IsReal x) : IsReal (-x) := by
  obtain ⟨a, rfl⟩ := h
  exact ⟨-a, rfl⟩

theorem angle_real (p : BitVec 32) (i : Fin 32) : IsReal (angle p i) := by
  obtain ⟨a, ha⟩ : IsReal (Ideal.ofBits .f32 0x40000000#32) := ⟨_, by simp only [Ideal.ofBits, Ideal.ieee]; simp; rfl⟩
  obtain ⟨b, hb⟩ : IsReal (Ideal.ofBits .f32 0x461C4000#32) := ⟨_, by simp only [Ideal.ofBits, Ideal.ieee]; simp; rfl⟩
  obtain ⟨y, hy⟩ : IsReal (Ideal.div (-(Ideal.ofBits .f32 0x40000000#32 * FloatOps.sitofp (F := Ideal) .f32 (BitVec.ofNat 32 i.val))) (Ideal.ofBits .f32 0x42800000#32)) := by
    rw [bits_64, Ideal.div_coe (by norm_num), ha]
    exact (neg_real ((IsReal.coe a).mul (IsReal.coe _))).mul (IsReal.coe _)
  rw [angle, hy, hb, Ideal.pow_coe_coe]
  exact (IsReal.coe _).mul (IsReal.coe _)

theorem cos_real (p : BitVec 32) (i : Fin 32) : IsReal (Ideal.cos (angle p i)) := by
  obtain ⟨a, ha⟩ := angle_real p i
  rw [ha, Ideal.cos_coe]
  exact IsReal.coe _

theorem sin_real (p : BitVec 32) (i : Fin 32) : IsReal (Ideal.sin (angle p i)) := by
  obtain ⟨a, ha⟩ := angle_real p i
  rw [ha, Ideal.sin_coe]
  exact IsReal.coe _

/-- A rotated head of reals holds reals. -/
theorem rope_real {x : Fin 64 → EReal} (h : ∀ e, IsReal (x e)) (p : BitVec 32) (d : Fin 64) : IsReal (rope x p d) := by
  unfold rope
  split_ifs
  · rw [sub_eq_add_neg]
    exact ((h _).mul (cos_real p _)).add (neg_real ((h _).mul (sin_real p _)))
  · exact ((h _).mul (cos_real p _)).add ((h _).mul (sin_real p _))

theorem algebraic : Cert.algebraic_KernelSwaIdeal_ReferenceSwaIdeal_pre_finite_swa := by
  intro m ρ m' ρ' hp hm
  refine ⟨fun c => Gen.W3 m ρ c (Proc.devRef .tc main_v79_5), fun c => Gen.W3 m ρ c (Proc.devRef .tc main_v80), ?_, ?_⟩
  · refine (θ_run defs _ _).mono (fun r h c => ⟨h c _ (Gen.mem_uc main_v79_5 (by decide)), h c _ (Gen.mem_uc main_v80 (by decide)),
      (h c _ (Gen.mem_uc main_arg0 (by decide))).trans (Gen.W3_main_arg0 m ρ c), (h c _ (Gen.mem_uc main_arg1 (by decide))).trans (Gen.W3_main_arg1 m ρ c),
      (h c _ (Gen.mem_uc main_arg2 (by decide))).trans (Gen.W3_main_arg2 m ρ c), (h c _ (Gen.mem_uc main_arg3 (by decide))).trans (Gen.W3_main_arg3 m ρ c),
      (h c _ (Gen.mem_uc main_arg4 (by decide))).trans (Gen.W3_main_arg4 m ρ c)⟩) (Swa.run m ρ)
  refine (θ_run Cert.ReferenceSwaIdeal.defs _ _).mono (fun r h c => ?_) (SwaRef.run m' ρ')
  obtain ⟨h0, h1, ha⟩ := h c
  obtain ⟨e0, e1, e2, e3, e4⟩ := hm c
  have eP : SwaRef.aP (StableHlo.launchContents m' c) = kP m ρ c := funext₂ fun _ _ => congrFun e0 _
  have ePos : SwaRef.aPos (StableHlo.launchContents m' c) = kPos m ρ c := funext fun _ => congrFun e1 _
  have eZ : SwaRef.aZ (StableHlo.launchContents m' c) = kZ m ρ c := funext fun _ => congrFun e2 _
  have eO : SwaRef.aO (StableHlo.launchContents m' c) = kO m ρ c := funext₂ fun _ _ => congrFun e3 _
  have eU : SwaRef.aU (StableHlo.launchContents m' c) = kU m ρ c := funext₂ fun _ _ => congrFun e4 _
  have hP (r k) : IsReal (kP m ρ c r k) := isReal_of_pred (fun _ => rfl) (hp c).1 _
  have hz (h) : IsReal (kZ m ρ c h) := isReal_of_pred (fun _ => rfl) (hp c).2.1 _
  have hD (n q h d) : IsReal (argsD m ρ c n q h d) := isReal_of_pred (fun _ => rfl) (hp c).2.2 _
  have hV (n i kv d) : IsReal (argsV m ρ c n i kv d) := hP _ _
  have hQ (n q h d) : IsReal (argsQ m ρ c n q h d) := rope_real (fun _ => hP _ _) _ _
  have hK (n i kv d) : IsReal (argsK m ρ c n i kv d) := rope_real (fun _ => hP _ _) _ _
  refine ⟨h0.trans (funext fun i => ?_), h1.trans (funext fun i => ?_), ha _ (by decide), ha _ (by decide), ha _ (by decide), ha _ (by decide), ha _ (by decide)⟩
  · obtain ⟨a, l, rfl⟩ : ∃ (a : Fin 8) (l : Fin 128), i = ix2 a l := ⟨i 0, i 1, eq_ix2 (n0 := 8) (n1 := 128) i⟩
    refine (SwaRef.sinkA_at _ a l).trans (Eq.trans ?_ (sinks_left m ρ c a l).symm)
    unfold SwaRef.rK SwaRef.rV SwaRef.rQ SwaRef.rD
    rw [eP, ePos, eZ, eO]
    exact Finset.sum_congr rfl fun n _ => Finset.sum_congr rfl fun q _ => (dsink_eq hK hQ hV hD hz n q a).symm
  · obtain ⟨a, l, rfl⟩ : ∃ (a : Fin 8192) (l : Fin 1280), i = ix2 a l := ⟨i 0, i 1, eq_ix2 (n0 := 8192) (n1 := 1280) i⟩
    refine (SwaRef.outA_at _ a l).trans (Eq.trans ?_ (packed_left m ρ c a l).symm)
    unfold SwaRef.rK SwaRef.rV SwaRef.rQ SwaRef.rD
    rw [eP, ePos, eZ, eO, eU]
    have q : kerDq (argsK m ρ c) (argsV m ρ c) (argsQ m ρ c) (argsD m ρ c) (kZ m ρ c) = refDq (argsK m ρ c) (argsV m ρ c) (argsQ m ρ c) (argsD m ρ c) (kZ m ρ c) :=
      funext fun n => funext₃ (dq_eq hK hQ hV hD hz n)
    have k : kerDk (argsK m ρ c) (argsV m ρ c) (argsQ m ρ c) (argsD m ρ c) (kZ m ρ c) = refDk (argsK m ρ c) (argsV m ρ c) (argsQ m ρ c) (argsD m ρ c) (kZ m ρ c) :=
      funext fun n => funext₃ (dk_eq hK hQ hV hD hz n)
    have v : kerDv (argsK m ρ c) (argsQ m ρ c) (argsD m ρ c) (kZ m ρ c) = refDv (argsK m ρ c) (argsQ m ρ c) (argsD m ρ c) (kZ m ρ c) :=
      funext fun n => funext₃ (dv_eq hK hQ hz n)
    rw [q, k, v]

end Cert.Step.SwaPair

end
-- ==== Proof.ProjKernel.lean ====
/- The projection with its rotation: what the kernel leaves in its four result arrays, at an index. -/
module

public import proofs.«01_k».proof.Proof.SwaKernel
public import proofs.«01_k».proof.Proof.Gen.KernelProjIdeal.Value

@[expose] public section

set_option maxRecDepth 16384

noncomputable section

namespace Cert.Step.Proj

open Cert.KernelProjIdeal Cert.KernelProjIdeal.Gen Idealize.ShloMosaic Idealize.ShloMosaic.TcCoe Idealize.SL.Sem
open Cert.Step.Swa (angle rope half_at tiled_at planes_at select_valid)
open scoped BigOperators

/-- A row rotated, lane by lane: the partner lane is 32 away in the same head. -/
def spun {w : ℕ} (x c s : Fin w → EReal) (j : Fin w) : EReal :=
  x j * c j + (if j.val % 64 < 32 then (if h : j.val + 32 < w then x ⟨j.val + 32, h⟩ else 0) else x ⟨j.val - 32, by omega⟩) * s j

/-- The rotated lane is the rotation of its head. -/
theorem spun_rope {w H : ℕ} (hw : w = 64 * H) (x c s : Fin w → EReal) (y : Fin H → Fin 64 → EReal) (p : BitVec 32)
    (hx : ∀ l : Fin w, x l = y ⟨l.val / 64, by omega⟩ ⟨l.val % 64, by omega⟩) (hc : ∀ l : Fin w, c l = Ideal.cos (angle p ⟨l.val % 32, by omega⟩))
    (hs : ∀ l : Fin w, s l = if l.val % 64 < 32 then -Ideal.sin (angle p ⟨l.val % 32, by omega⟩) else Ideal.sin (angle p ⟨l.val % 32, by omega⟩))
    (j : Fin w) : spun x c s j = rope (y ⟨j.val / 64, by omega⟩) p ⟨j.val % 64, by omega⟩ := by
  unfold spun rope
  by_cases h : j.val % 64 < 32
  · rw [if_pos h, dif_pos (show j.val + 32 < w by omega), dif_pos h, hx, hx, hc, hs, if_pos h, mul_neg, ← sub_eq_add_neg]
    refine congrArg₂ (· - ·) (congrArg₂ (· * ·) rfl ?_) (congrArg₂ (· * ·) ?_ ?_)
    · exact congrArg (fun i => Ideal.cos (angle p i)) (Fin.ext (by simp only []; omega))
    · exact congrArg₂ y (Fin.ext (by simp only []; omega)) (Fin.ext (by simp only []; omega))
    · exact congrArg (fun i => Ideal.sin (angle p i)) (Fin.ext (by simp only []; omega))
  · rw [if_neg h, dif_neg h, hx, hx, hc, hs, if_neg h]
    refine congrArg₂ (· + ·) (congrArg₂ (· * ·) ?_ ?_) (congrArg₂ (· * ·) ?_ ?_)
    · exact congrArg₂ y rfl (Fin.ext (by simp only []; omega))
    · exact congrArg (fun i => Ideal.cos (angle p i)) (Fin.ext (by simp only []; omega))
    · exact congrArg₂ y (Fin.ext (by simp only []; omega)) (Fin.ext (by simp only []; omega))
    · exact congrArg (fun i => Ideal.sin (angle p i)) (Fin.ext (by simp only []; omega))

theorem rotQ_at (v0 : Vec Ideal S512x1024 .bf16) (v2 : Vec Ideal S1280x1024 .bf16) (c s : Vec Ideal S512x128 .f32) (r l : Fin 512) :
    (k0_pay7 v0 v2 c s : S512x512.Idx → EReal) (ix2 r l) =
      spun (fun l : Fin 512 => (k0_pay4 v0 v2 : S512x1280.Idx → EReal) (ix2 r ⟨l.val, by omega⟩))
        (fun l => c (ix2 r ⟨l.val % 128, by omega⟩)) (fun l => s (ix2 r ⟨l.val % 128, by omega⟩)) l := by
  unfold k0_pay7 k0_pay5 k0_pay6 spun
  generalize k0_pay4 v0 v2 = x
  pointwise
  rw [half_at l, select_valid]
  refine congrArg₂ (· + ·) (congrArg (x (ix2 r ⟨l.val, by omega⟩) * ·) (tiled_at (fun l => c (ix2 r l)) l))
    (congrArg₂ (· * ·) ?_ (tiled_at (fun l => s (ix2 r l)) l))
  by_cases h : l.val % 64 < 32
  · rw [if_pos h, if_pos h, dif_pos (show l.val + 32 < 512 by omega)]
    exact congrArg (fun l : Fin 1280 => x (ix2 r l)) (Fin.ext (by simp only []; omega))
  · rw [if_neg h, if_neg h]
    exact congrArg (fun l : Fin 1280 => x (ix2 r l)) (Fin.ext (by simp only []; omega))

theorem rotK_at (x : FVec Ideal S512x1280 .f32) (c s : Vec Ideal S512x128 .f32) (r : Fin 512) (l : Fin 128) :
    (k0_pay1 x (k0_pay5 c) (k0_pay6 s) : S512x128.Idx → EReal) (ix2 r l) =
      spun (fun l : Fin 128 => x (ix2 r ⟨512 + l.val, by omega⟩)) (fun l => c (ix2 r l)) (fun l => s (ix2 r l)) l := by
  unfold k0_pay1 k0_pay5 k0_pay6 spun
  pointwise
  rw [half_at ⟨l.val, by omega⟩, select_valid]
  refine congrArg (_ + ·) (congrArg (· * s (ix2 r l)) ?_)
  by_cases h : l.val % 64 < 32
  · rw [if_pos h, if_pos h, dif_pos (show l.val + 32 < 128 by omega)]
    exact congrArg (fun l : Fin 1280 => x (ix2 r l)) (Fin.ext (by simp only []; omega))
  · rw [if_neg h, if_neg h]
    exact congrArg (fun l : Fin 1280 => x (ix2 r l)) (Fin.ext (by simp only []; omega))

variable (m : (ℓ : Loc nD τ sig) → Buf (Elt Ideal) ℓ)

/-- The argument arrays: the rows, the weights, the positions. -/
abbrev Hh (c : Dev nD) (r : Fin 8192) (k : Fin 1024) : EReal := (m ((c : Thread nD τ).loc main_arg0) : S8192x1024.Idx → EReal) (ix2 r k)
abbrev W (c : Dev nD) (k : Fin 1024) (q : Fin 1280) : EReal := (m ((c : Thread nD τ).loc main_arg1) : S1024x1280.Idx → EReal) (ix2 k q)
abbrev Pos (c : Dev nD) (r : Fin 8192) : BitVec 32 := (m ((c : Thread nD τ).loc main_arg2) : S8192.Idx → BitVec 32) (ix1 r)

/-- The product with the weights. -/
def proj (c : Dev nD) (r : Fin 8192) (q : Fin 1280) : EReal := ∑ k : Fin 1024, Hh m c r k * W m c k q

/-- Where each grid point's blocks lie. -/
theorem idx (t : Fin cfg0.N) : win0_0.index t = ![t.val, 0] ∧ win0_1.index t = ![0, 0] ∧ win0_2.index t = ![t.val, 0] ∧
    win0_3.index t = ![t.val, 0] ∧ win0_4.index t = ![t.val, 0] ∧ win0_5.index t = ![t.val, 0] ∧ win0_6.index t = ![t.val, 0] ∧
    win0_7.index t = ![t.val, 0] :=
  (by decide +kernel : ∀ t : Fin grid0.N, win0_0.index t = ![t.val, 0] ∧ win0_1.index t = ![0, 0] ∧ win0_2.index t = ![t.val, 0] ∧
    win0_3.index t = ![t.val, 0] ∧ win0_4.index t = ![t.val, 0] ∧ win0_5.index t = ![t.val, 0] ∧ win0_6.index t = ![t.val, 0] ∧
    win0_7.index t = ![t.val, 0]) t

theorem v_out (c : Dev nD) : (dats m 0 c).arrAt 6 cfg0.N = fun i : S8192x128.Idx => proj m c (i 0) ⟨640 + (i 1).val, by have : (i 1).val < 128 := (i 1).isLt; omega⟩ := by
  refine (dats m 0 c).arrAt_eq_of_covers 6 _ (by decide +kernel) fun t hf y => ?_
  blk_simp
  rw [after0_6]
  frame_out
  unfold_payloads
  pointwise [proj, Hh, W]
  blk_point [iblk, V, idx t]

theorem u_out (c : Dev nD) : (dats m 0 c).arrAt 7 cfg0.N = fun i : S8192x512.Idx => proj m c (i 0) ⟨768 + (i 1).val, by have : (i 1).val < 512 := (i 1).isLt; omega⟩ := by
  refine (dats m 0 c).arrAt_eq_of_covers 7 _ (by decide +kernel) fun t hf y => ?_
  blk_simp
  rw [after0_7]
  frame_out
  unfold_payloads
  pointwise [proj, Hh, W]
  blk_point [iblk, V, idx t]

/-- The tables of the angles' cosines and signed sines. -/
theorem cos_at (c : Dev nD) (r : Fin 8192) (l : Fin 128) : (V m c main_v18 : S8192x128.Idx → EReal) (ix2 r l) = Ideal.cos (angle (Pos m c r) ⟨l.val % 32, by omega⟩) := by
  unfold_abbrev_sides
  after_reads_simp
  simp only [Matrix.cons_val]
  after_reads_simp
  pointwise
  refine (planes_at (fun i => Ideal.cos (angle (Pos m c r) i)) (fun i => Ideal.cos (angle (Pos m c r) i)) l).trans (ite_self _)

theorem sin_at (c : Dev nD) (r : Fin 8192) (l : Fin 128) : (V m c main_v21 : S8192x128.Idx → EReal) (ix2 r l) =
    if l.val % 64 < 32 then -Ideal.sin (angle (Pos m c r) ⟨l.val % 32, by omega⟩) else Ideal.sin (angle (Pos m c r) ⟨l.val % 32, by omega⟩) := by
  unfold_abbrev_sides
  after_reads_simp
  simp only [Matrix.cons_val]
  after_reads_simp
  pointwise
  exact planes_at (fun i => -Ideal.sin (angle (Pos m c r) i)) (fun i => Ideal.sin (angle (Pos m c r) i)) l

/-- The array's row under a tile's row. -/
def row (t : Fin cfg0.N) (r : Fin 512) : Fin 8192 := ⟨t.val * 512 + r.val, by have : t.val < 16 := t.isLt; omega⟩

/-- A tile's product is the product's rows. -/
theorem tile_at (c : Dev nD) (t : Fin cfg0.N) (r : Fin 512) (q : Fin 1280) :
    (k0_pay4 (iblk m c 0 t) (iblk m c 1 t) : S512x1280.Idx → EReal) (ix2 r q) = proj m c (row t r) q := by
  unfold k0_pay4
  pointwise [proj, Hh, W]
  blk_point [iblk, V, idx t, row]

theorem cosBlk_at (c : Dev nD) (t : Fin cfg0.N) (r : Fin 512) (l : Fin 128) :
    (iblk m c 2 t : S512x128.Idx → EReal) (ix2 r l) = (V m c main_v18 : S8192x128.Idx → EReal) (ix2 (row t r) l) := by
  blk_point [iblk, idx t, row]
theorem sinBlk_at (c : Dev nD) (t : Fin cfg0.N) (r : Fin 512) (l : Fin 128) :
    (iblk m c 3 t : S512x128.Idx → EReal) (ix2 r l) = (V m c main_v21 : S8192x128.Idx → EReal) (ix2 (row t r) l) := by
  blk_point [iblk, idx t, row]

/-- The rotated queries and keys. -/
def qRow (c : Dev nD) (R : Fin 8192) (j : Fin 512) : EReal :=
  rope (fun e => proj m c R ⟨j.val / 64 * 64 + e.val, by omega⟩) (Pos m c R) ⟨j.val % 64, by omega⟩
def kRow (c : Dev nD) (R : Fin 8192) (j : Fin 128) : EReal :=
  rope (fun e => proj m c R ⟨512 + (j.val / 64 * 64 + e.val), by omega⟩) (Pos m c R) ⟨j.val % 64, by omega⟩

theorem q_out (c : Dev nD) : (dats m 0 c).arrAt 4 cfg0.N = fun i : S8192x512.Idx => qRow m c (i 0) (i 1) := by
  refine (dats m 0 c).arrAt_eq_of_covers 4 _ (by decide +kernel) fun t hf y => ?_
  blk_simp
  rw [after0_4]
  frame_out
  obtain ⟨r, j, rfl⟩ : ∃ (r : Fin 512) (j : Fin 512), y = ix2 r j := ⟨y 0, y 1, by funext a; fin_cases a <;> rfl⟩
  have main : (k0_pay7 (iblk m c 0 t) (iblk m c 1 t) (iblk m c 2 t) (iblk m c 3 t) : S512x512.Idx → EReal) (ix2 r j) = qRow m c (row t r) j := by
    rw [rotQ_at]
    refine spun_rope (H := 8) rfl _ _ _ (fun h e => proj m c (row t r) ⟨h.val * 64 + e.val, by omega⟩) (Pos m c (row t r))
      (fun l => (tile_at m c t r _).trans ?_) (fun l => ((cosBlk_at m c t r _).trans (cos_at m c _ _)).trans ?_)
      (fun l => ((sinBlk_at m c t r _).trans (sin_at m c _ _)).trans ?_) j
    · exact congrArg (proj m c _) (Fin.ext (by simp only []; omega))
    · exact congrArg (fun i => Ideal.cos (angle _ i)) (Fin.ext (by simp only []; omega))
    · rw [show (⟨l.val % 128 % 32, by omega⟩ : Fin 32) = ⟨l.val % 32, by omega⟩ from Fin.ext (by simp only []; omega)]
      simp only [show l.val % 128 % 64 = l.val % 64 by omega]
  refine main.trans (congrArg₂ (qRow m c) (Fin.ext ?_) (Fin.ext ?_))
  all_goals blk_point [row, idx t]

theorem kTile_at (c : Dev nD) (t : Fin cfg0.N) (r : Fin 512) (j : Fin 128) :
    (k0_pay1 (k0_pay4 (iblk m c 0 t) (iblk m c 1 t)) (k0_pay5 (iblk m c 2 t)) (k0_pay6 (iblk m c 3 t)) : S512x128.Idx → EReal) (ix2 r j) =
      kRow m c (row t r) j := by
  rw [rotK_at]
  refine spun_rope (H := 2) rfl _ _ _ (fun h e => proj m c (row t r) ⟨512 + (h.val * 64 + e.val), by omega⟩) (Pos m c (row t r))
    (fun l => (tile_at m c t r _).trans ?_) (fun l => ((cosBlk_at m c t r _).trans (cos_at m c _ _)).trans ?_)
    (fun l => ((sinBlk_at m c t r _).trans (sin_at m c _ _)).trans ?_) j
  · exact congrArg (proj m c _) (Fin.ext (by simp only []; omega))
  · rfl
  · rfl

theorem k_out (c : Dev nD) : (dats m 0 c).arrAt 5 cfg0.N = fun i : S8192x128.Idx => kRow m c (i 0) (i 1) := by
  refine (dats m 0 c).arrAt_eq_of_covers 5 _ (by decide +kernel) fun t hf y => ?_
  blk_simp
  rw [after0_5]
  unfold_out out0_5
  frame_out
  obtain ⟨r, j, rfl⟩ : ∃ (r : Fin 512) (j : Fin 128), y = ix2 r j := ⟨y 0, y 1, by funext a; fin_cases a <;> rfl⟩
  refine (kTile_at m c t r j).trans (congrArg₂ (kRow m c) (Fin.ext ?_) (Fin.ext ?_))
  all_goals blk_point [row, idx t]

end Cert.Step.Proj

end
-- ==== Proof.ProjReference.lean ====
/- The mixer's input projection: what the reference leaves, and its frame. -/
module

public import proofs.«01_k».proof.Defs
public import proofs.«01_k».proof.Proof.SwaSpec
public import proofs.«01_k».proof.Proof.Gen.ReferenceProjIdeal.Run
public import Idealize.ShloMosaic.Lib.Quiescent

@[expose] public section

set_option maxRecDepth 16384

noncomputable section

namespace Cert.Step.ProjRef

open Cert.ReferenceProjIdeal Cert.ReferenceProjIdeal.Gen Idealize.ShloMosaic Idealize.ShloMosaic.TcCoe Idealize.SL.Sem
open Cert.Step.Swa (angle rope)
open scoped BigOperators

variable (m : (ℓ : Loc nD τ sig) → Buf (Elt Ideal) ℓ) (ρ : Dev nD → PrngReg)

/-- The argument arrays on core `c`: the rows, the weights, the positions. -/
abbrev Hh (c : Dev nD) (r : Fin 8192) (k : Fin 1024) : EReal := (m ((c.tc : Thread nD τ).loc main_arg0) : S8192x1024.Idx → EReal) (ix2 r k)
abbrev W (c : Dev nD) (r : Fin 1024) (k : Fin 1280) : EReal := (m ((c.tc : Thread nD τ).loc main_arg1) : S1024x1280.Idx → EReal) (ix2 r k)

abbrev Pos (c : Dev nD) (r : Fin 8192) : BitVec 32 := (m ((c.tc : Thread nD τ).loc main_arg2) : S8192.Idx → BitVec 32) (ix1 r)

/-- The product with the weights. -/
def proj (c : Dev nD) (r : Fin 8192) (q : Fin 1280) : EReal := ∑ k : Fin 1024, Hh m c r k * W m c k q

/-- The rotated queries and keys. -/
def qRow (c : Dev nD) (R : Fin 8192) (j : Fin 512) : EReal :=
  rope (fun e => proj m c R ⟨j.val / 64 * 64 + e.val, by omega⟩) (Pos m c R) ⟨j.val % 64, by omega⟩
def kRow (c : Dev nD) (R : Fin 8192) (j : Fin 128) : EReal :=
  rope (fun e => proj m c R ⟨512 + (j.val / 64 * 64 + e.val), by omega⟩) (Pos m c R) ⟨j.val % 64, by omega⟩

theorem q_at (c : Dev nD) (i : S8192x512.Idx) : (Value.res_main_v55 m c : S8192x512.Idx → EReal) i = qRow m c (i 0) (i 1) := by
  unfold Value.res_main_v55 qRow rope angle
  pointwise [proj, Hh, W, Pos]
  simp only [Nat.div_add_mod']

theorem k_at (c : Dev nD) (i : S8192x128.Idx) : (Value.res_main_v56 m c : S8192x128.Idx → EReal) i = kRow m c (i 0) (i 1) := by
  unfold Value.res_main_v56 kRow rope angle
  pointwise [proj, Hh, W, Pos]
  simp only [Nat.div_add_mod']

/-- The frame of the reference, which has no semaphores. -/
theorem frame : Cert.quiescent_ReferenceProjIdeal := fun m ρ _ =>
  (θ_run defs _ _).mono (fun r h => ⟨fun c => (h c).2.2.2.2, sem_eq_zero_of_no_sems (by decide) r.2⟩) (Value.run m ρ)

/-- The run: the rotated queries and keys, the values, and the pooled part. -/
theorem run : θ_run defs (onTc (τ := τ) (main (F := Ideal))) ⟨m, fun _ => 0, ρ⟩ fun r => ∀ c : Dev nD,
    (r.2.mem ((c.tc : Thread nD τ).loc main_v55) = fun i : S8192x512.Idx => qRow m c (i 0) (i 1))
    ∧ (r.2.mem ((c.tc : Thread nD τ).loc main_v56) = fun i : S8192x128.Idx => kRow m c (i 0) (i 1))
    ∧ (r.2.mem ((c.tc : Thread nD τ).loc main_v57) = fun i : S8192x128.Idx => proj m c (i 0) ⟨640 + (i 1).val, by have : (i 1).val < 128 := (i 1).isLt; omega⟩)
    ∧ (r.2.mem ((c.tc : Thread nD τ).loc main_v26) = fun i : S8192x512.Idx => proj m c (i 0) ⟨768 + (i 1).val, by have : (i 1).val < 512 := (i 1).isLt; omega⟩)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun _ h c => ⟨(h c).1.trans (funext fun i => ?_), (h c).2.1.trans (funext fun i => ?_), (h c).2.2.1.trans (funext fun i => ?_), (h c).2.2.2.1.trans (funext fun i => ?_),
      (h c).2.2.2.2⟩) (Value.run m ρ)
  · clear * -
    exact q_at m c i
  · clear * -
    exact k_at m c i
  · clear * -
    pointwise [proj, Hh, W]
  · clear * -
    pointwise [proj, Hh, W]

end Cert.Step.ProjRef

end
-- ==== Proof.ProjPair.lean ====
/- The mixer's input projection: the kernel's results are the reference's. -/
module

public import proofs.«01_k».proof.Proof.ProjKernel
public import proofs.«01_k».proof.Proof.ProjReference
public import proofs.«01_k».proof.Defs

@[expose] public section

set_option maxRecDepth 16384

noncomputable section

namespace Cert.Step.ProjPair

open Idealize.ShloMosaic Idealize.ShloMosaic.TcCoe Idealize.SL.Sem Cert.KernelProjIdeal
open scoped BigOperators

theorem algebraic : Cert.algebraic_KernelProjIdeal_ReferenceProjIdeal := by
  intro m ρ m' ρ' hp hm
  refine ⟨fun c => (Gen.dats m 0 c).arrAt 4 cfg0.N, fun c => (Gen.dats m 0 c).arrAt 5 cfg0.N, fun c => (Gen.dats m 0 c).arrAt 6 cfg0.N, fun c => (Gen.dats m 0 c).arrAt 7 cfg0.N,
    Value.run_blocks m ρ, (θ_run Cert.ReferenceProjIdeal.defs _ _).mono (fun r h c => ?_) (ProjRef.run m' ρ')⟩
  obtain ⟨h0, h1, h2, h3, ha⟩ := h c
  obtain ⟨e0, e1, e2⟩ := hm c
  have E0 : ProjRef.Hh m' c = Proj.Hh m c := funext₂ fun _ _ => congrFun e0 _
  have E1 : ProjRef.W m' c = Proj.W m c := funext₂ fun _ _ => congrFun e1 _
  have E2 : ProjRef.Pos m' c = Proj.Pos m c := funext fun _ => congrFun e2 _
  have Ep : ProjRef.proj m' c = Proj.proj m c := by unfold ProjRef.proj Proj.proj; rw [E0, E1]
  have Eq : ProjRef.qRow m' c = Proj.qRow m c := by unfold ProjRef.qRow Proj.qRow; rw [Ep, E2]
  have Ek : ProjRef.kRow m' c = Proj.kRow m c := by unfold ProjRef.kRow Proj.kRow; rw [Ep, E2]
  rw [Eq] at h0
  rw [Ek] at h1
  rw [Ep] at h2 h3
  exact ⟨h0.trans (Proj.q_out m c).symm, h1.trans (Proj.k_out m c).symm, h2.trans (Proj.v_out m c).symm, h3.trans (Proj.u_out m c).symm, ha⟩

end Cert.Step.ProjPair

end
-- ==== Proof.XattnFKernel.lean ====
/- Cross attention: what the kernel leaves in its result array, at an index. -/
module

public import proofs.«01_k».proof.Proof.XattnSpec
public import proofs.«01_k».proof.Proof.Gen.KernelXattnFIdeal.Value
public import proofs.«01_k».proof.Proof.Stores

@[expose] public section

set_option maxRecDepth 16384

noncomputable section

namespace Cert.Step.XattnF

open Cert.KernelXattnFIdeal Cert.KernelXattnFIdeal.Gen Idealize.ShloMosaic Idealize.ShloMosaic.TcCoe Idealize.SL.Sem
open Cert.Step.Xattn (score head colQ colK colV)
open scoped BigOperators

variable (m : (ℓ : Loc nD τ sig) → Buf (Elt Ideal) ℓ)

/-- The argument arrays on core `c`: the queries, the keys and values. -/
abbrev Q (c : Dev nD) (r : Fin 8192) (k : Fin 1024) : EReal := (m ((c : Thread nD τ).loc main_arg0) : S8192x1024.Idx → EReal) (ix2 r k)
abbrev KV (c : Dev nD) (r : Fin 256) (k : Fin 2048) : EReal := (m ((c : Thread nD τ).loc main_arg1) : S256x2048.Idx → EReal) (ix2 r k)

/-- Where each grid point's blocks lie. -/
theorem idx (t : Fin cfg0.N) : win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0]) t

theorem mix (c : Dev nD) : (dats m 0 c).arrAt 2 cfg0.N = fun i : S8192x1024.Idx => ∑ k : Fin 256, prob (score (Q m c) (KV m c) (i 0) (head (i 1))) k * KV m c k (colV (head (i 1)) ⟨(i 1).val % 256, Nat.mod_lt _ (by decide)⟩) := by
  refine (dats m 0 c).arrAt_eq_of_covers 2 _ (by decide +kernel) fun t hf y => ?_
  blk_simp
  rw [after0_2]
  frame_out
  canon_tiles x h
  all_goals
    unfold_payloads
    pointwise [prob, expBelow, rowMax, score, head, colQ, colK, colV, Q, KV]
    blk_point [iblk, V, idx t]

end Cert.Step.XattnF

end
-- ==== Proof.XattnFReference.lean ====
/- Cross attention: what the reference leaves, and its frame. -/
module

public import proofs.«01_k».proof.Proof.XattnReference
public import proofs.«01_k».proof.Proof.Gen.ReferenceXattnFIdeal.Run

@[expose] public section

set_option maxRecDepth 16384

noncomputable section

namespace Cert.Step.XattnFRef

open Cert.ReferenceXattnFIdeal Cert.ReferenceXattnFIdeal.Gen Idealize.ShloMosaic Idealize.ShloMosaic.TcCoe Idealize.SL.Sem
open Cert.Step.Xattn (score head colQ colK colV)
open scoped BigOperators

variable (m : (ℓ : Loc nD τ sig) → Buf (Elt Ideal) ℓ) (ρ : Dev nD → PrngReg)

/-- The argument arrays on core `c`: the queries, the keys and values. -/
abbrev Q (c : Dev nD) (r : Fin 8192) (k : Fin 1024) : EReal := (m ((c.tc : Thread nD τ).loc main_arg0) : S8192x1024.Idx → EReal) (ix2 r k)
abbrev KV (c : Dev nD) (r : Fin 256) (k : Fin 2048) : EReal := (m ((c.tc : Thread nD τ).loc main_arg1) : S256x2048.Idx → EReal) (ix2 r k)

/-- The reference's result, of the arrays of the derivative's reference. -/
theorem res_eq (q : FVec Ideal S8192x1024 .f32) (kv : FVec Ideal S256x2048 .f32) (i : S8192x1024.Idx) :
    (truncf .bf16 (shapeCast S8192x1024 (transpose S8192x4x256 [2, 0, 1]
      (Host.dotGeneral dot_S256x4x256_S4x8192x256_S4x256x8192_0_2_2_1_1_0 none (XattnRef.vA kv) (XattnRef.pA q kv))
      transposes_S4x256x8192_S8192x4x256_2_0_1) shapeCasts_S8192x4x256_S8192x1024) bitsLt_bf16_f32 : S8192x1024.Idx → EReal) i =
    ∑ k : Fin 256, prob (score (XattnRef.rowsQ q) (XattnRef.rowsKV kv) (i 0) (head (i 1))) k *
      kv (ix2 k (colV (head (i 1)) ⟨(i 1).val % 256, Nat.mod_lt _ (by decide)⟩)) := by
  pointwise [XattnRef.pA_at, XattnRef.vA_at, colV]
  change @Eq EReal _ _
  exact Finset.sum_congr rfl fun k _ => mul_comm (G := EReal) _ _

/-- The frame of the reference, which has no semaphores. -/
theorem frame : Cert.quiescent_ReferenceXattnFIdeal := fun m ρ _ =>
  (θ_run defs _ _).mono (fun r h => ⟨fun c => (h c).2, sem_eq_zero_of_no_sems (by decide) r.2⟩) (Value.run m ρ)

/-- The run: the values weighted by the probabilities. -/
theorem run : θ_run defs (onTc (τ := τ) (main (F := Ideal))) ⟨m, fun _ => 0, ρ⟩ fun r => ∀ c : Dev nD,
    (r.2.mem ((c.tc : Thread nD τ).loc main_v23) = fun i : S8192x1024.Idx => ∑ k : Fin 256, prob (score (Q m c) (KV m c) (i 0) (head (i 1))) k * KV m c k (colV (head (i 1)) ⟨(i 1).val % 256, Nat.mod_lt _ (by decide)⟩))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run defs _ _).mono (fun _ h c => ⟨(h c).1.trans (funext fun i => ?_),
      (h c).2⟩) (Value.run m ρ)
  · clear * -
    exact res_eq (m ((c.tc : Thread nD τ).loc main_arg0)) (m ((c.tc : Thread nD τ).loc main_arg1)) i

end Cert.Step.XattnFRef

end
-- ==== Proof.XattnFPair.lean ====
/- Cross attention: the kernel's result is the reference's. -/
module

public import proofs.«01_k».proof.Proof.XattnFKernel
public import proofs.«01_k».proof.Proof.XattnFReference
public import proofs.«01_k».proof.Defs

@[expose] public section

set_option maxRecDepth 16384

noncomputable section

namespace Cert.Step.XattnFPair

open Idealize.ShloMosaic Idealize.ShloMosaic.TcCoe Idealize.SL.Sem Cert.KernelXattnFIdeal
open scoped BigOperators

theorem algebraic : Cert.algebraic_KernelXattnFIdeal_ReferenceXattnFIdeal := by
  intro m ρ m' ρ' hp hm
  refine ⟨fun c => (Gen.dats m 0 c).arrAt 2 cfg0.N,
    Value.run_blocks m ρ, (θ_run Cert.ReferenceXattnFIdeal.defs _ _).mono (fun r h c => ?_) (XattnFRef.run m' ρ')⟩
  obtain ⟨h0, ha⟩ := h c
  obtain ⟨e0, e1⟩ := hm c
  have E0 : XattnFRef.Q m' c = XattnF.Q m c := funext₂ fun _ _ => congrFun e0 _
  have E1 : XattnFRef.KV m' c = XattnF.KV m c := funext₂ fun _ _ => congrFun e1 _
  rw [E0, E1] at h0
  exact ⟨h0.trans (XattnF.mix m c).symm, ha⟩

end Cert.Step.XattnFPair

end
-- ==== Proof.UpKernel.lean ====
/- The gate and its two products: what the kernel leaves in its three result arrays, at an index. -/
module

public import proofs.«01_k».proof.Proof.Silu
public import proofs.«01_k».proof.Proof.Gen.KernelUpIdeal.Value
public import Idealize.ShloMosaic.Lib.Pipeline.ValueKit

@[expose] public section

set_option maxRecDepth 16384

noncomputable section

namespace Cert.Step.Up

open Cert.KernelUpIdeal Cert.KernelUpIdeal.Gen Idealize.ShloMosaic Idealize.ShloMosaic.TcCoe Idealize.SL.Sem
open scoped BigOperators

variable (m : (ℓ : Loc nD τ sig) → Buf (Elt Ideal) ℓ)

/-- The argument arrays on core `c`: the rows, the two weights. -/
abbrev H (c : Dev nD) (r : Fin 8192) (k : Fin 1024) : EReal := (m ((c : Thread nD τ).loc main_arg0) : S8192x1024.Idx → EReal) (ix2 r k)
abbrev Wg (c : Dev nD) (r : Fin 1024) (k : Fin 2816) : EReal := (m ((c : Thread nD τ).loc main_arg1) : S1024x2816.Idx → EReal) (ix2 r k)
abbrev Wu (c : Dev nD) (r : Fin 1024) (k : Fin 2816) : EReal := (m ((c : Thread nD τ).loc main_arg2) : S1024x2816.Idx → EReal) (ix2 r k)

/-- The two products. -/
def a (c : Dev nD) (r : Fin 8192) (q : Fin 2816) : EReal := ∑ k : Fin 1024, H m c r k * Wg m c k q
def b (c : Dev nD) (r : Fin 8192) (q : Fin 2816) : EReal := ∑ k : Fin 1024, H m c r k * Wu m c k q

/-- Where each grid point's blocks lie. -/
theorem idx (t : Fin cfg0.N) : win0_0.index t = ![t.val % 16, 0] ∧ win0_1.index t = ![t.val / 16, 0] ∧ win0_2.index t = ![t.val / 16, 0] ∧ win0_3.index t = ![t.val % 16, t.val / 16] ∧ win0_4.index t = ![t.val % 16, t.val / 16] ∧ win0_5.index t = ![t.val % 16, t.val / 16] :=
  (by decide +kernel : ∀ t : Fin grid0.N, win0_0.index t = ![t.val % 16, 0] ∧ win0_1.index t = ![t.val / 16, 0] ∧ win0_2.index t = ![t.val / 16, 0] ∧ win0_3.index t = ![t.val % 16, t.val / 16] ∧ win0_4.index t = ![t.val % 16, t.val / 16] ∧ win0_5.index t = ![t.val % 16, t.val / 16]) t

theorem gate (c : Dev nD) : (dats m 0 c).arrAt 3 cfg0.N = fun i : S8192x2816.Idx => a m c (i 0) (i 1) := by
  refine (dats m 0 c).arrAt_eq_of_covers 3 _ (by decide +kernel) fun t hf y => ?_
  blk_simp
  rw [after0_3]
  frame_out
  unfold_payloads
  pointwise [a, H, Wg]
  blk_point [iblk, V, idx t]

theorem other (c : Dev nD) : (dats m 0 c).arrAt 4 cfg0.N = fun i : S8192x2816.Idx => b m c (i 0) (i 1) := by
  refine (dats m 0 c).arrAt_eq_of_covers 4 _ (by decide +kernel) fun t hf y => ?_
  blk_simp
  rw [after0_4]
  frame_out
  unfold_payloads
  pointwise [b, H, Wu]
  blk_point [iblk, V, idx t]

theorem gated (c : Dev nD) : (dats m 0 c).arrAt 5 cfg0.N = fun i : S8192x2816.Idx => a m c (i 0) (i 1) * sigTanh (a m c (i 0) (i 1)) * b m c (i 0) (i 1) := by
  refine (dats m 0 c).arrAt_eq_of_covers 5 _ (by decide +kernel) fun t hf y => ?_
  blk_simp
  rw [after0_5]
  frame_out
  unfold_payloads
  pointwise [sigTanh, a, b, H, Wg, Wu]
  blk_point [iblk, V, idx t]

end Cert.Step.Up

end
-- ==== Proof.UpReference.lean ====
/- The gate and its two products: what the reference leaves, and its frame. -/
module

public import proofs.«01_k».proof.Defs
public import proofs.«01_k».proof.Proof.Silu
public import proofs.«01_k».proof.Proof.Gen.ReferenceUpIdeal.Run
public import Idealize.ShloMosaic.Lib.Quiescent

@[expose] public section

set_option maxRecDepth 16384

noncomputable section

namespace Cert.Step.UpRef

open Cert.ReferenceUpIdeal Cert.ReferenceUpIdeal.Gen Idealize.ShloMosaic Idealize.ShloMosaic.TcCoe Idealize.SL.Sem
open scoped BigOperators

variable (m : (ℓ : Loc nD τ sig) → Buf (Elt Ideal) ℓ) (ρ : Dev nD → PrngReg)

/-- The argument arrays on core `c`: the rows, the two weights. -/
abbrev H (c : Dev nD) (r : Fin 8192) (k : Fin 1024) : EReal := (m ((c.tc : Thread nD τ).loc main_arg0) : S8192x1024.Idx → EReal) (ix2 r k)
abbrev Wg (c : Dev nD) (r : Fin 1024) (k : Fin 2816) : EReal := (m ((c.tc : Thread nD τ).loc main_arg1) : S1024x2816.Idx → EReal) (ix2 r k)
abbrev Wu (c : Dev nD) (r : Fin 1024) (k : Fin 2816) : EReal := (m ((c.tc : Thread nD τ).loc main_arg2) : S1024x2816.Idx → EReal) (ix2 r k)

/-- The two products. -/
def a (c : Dev nD) (r : Fin 8192) (q : Fin 2816) : EReal := ∑ k : Fin 1024, H m c r k * Wg m c k q
def b (c : Dev nD) (r : Fin 8192) (q : Fin 2816) : EReal := ∑ k : Fin 1024, H m c r k * Wu m c k q

/-- The frame of the reference, which has no semaphores. -/
theorem frame : Cert.quiescent_ReferenceUpIdeal := fun m ρ _ =>
  (θ_run defs _ _).mono (fun r h => ⟨fun c => (h c).2.2.2, sem_eq_zero_of_no_sems (by decide) r.2⟩) (Value.run m ρ)

/-- The run: the two products and the gated one. -/
theorem run : θ_run defs (onTc (τ := τ) (main (F := Ideal))) ⟨m, fun _ => 0, ρ⟩ fun r => ∀ c : Dev nD,
    (r.2.mem ((c.tc : Thread nD τ).loc main_v4) = fun i : S8192x2816.Idx => a m c (i 0) (i 1))
    ∧ (r.2.mem ((c.tc : Thread nD τ).loc main_v5) = fun i : S8192x2816.Idx => b m c (i 0) (i 1))
    ∧ (r.2.mem ((c.tc : Thread nD τ).loc main_v6) = fun i : S8192x2816.Idx => a m c (i 0) (i 1) * sigExp (a m c (i 0) (i 1)) * b m c (i 0) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun _ h c => ⟨(h c).1.trans (funext fun i => ?_), (h c).2.1.trans (funext fun i => ?_), (h c).2.2.1.trans (funext fun i => ?_),
      (h c).2.2.2⟩) (Value.run m ρ)
  · clear * -
    pointwise [a, H, Wg]
  · clear * -
    pointwise [b, H, Wu]
  · clear * -
    pointwise [sigExp, a, b, H, Wg, Wu]

end Cert.Step.UpRef

end
-- ==== Proof.UpPair.lean ====
/- The gate and its two products: the kernel's results are the reference's. -/
module

public import proofs.«01_k».proof.Proof.UpKernel
public import proofs.«01_k».proof.Proof.UpReference
public import proofs.«01_k».proof.Defs

@[expose] public section

set_option maxRecDepth 16384

noncomputable section

namespace Cert.Step.UpPair

open Idealize.ShloMosaic Idealize.ShloMosaic.TcCoe Idealize.SL.Sem Cert.KernelUpIdeal
open scoped BigOperators

theorem algebraic : Cert.algebraic_KernelUpIdeal_ReferenceUpIdeal := by
  intro m ρ m' ρ' hp hm
  refine ⟨fun c => (Gen.dats m 0 c).arrAt 3 cfg0.N, fun c => (Gen.dats m 0 c).arrAt 4 cfg0.N, fun c => (Gen.dats m 0 c).arrAt 5 cfg0.N,
    Value.run_blocks m ρ, (θ_run Cert.ReferenceUpIdeal.defs _ _).mono (fun r h c => ?_) (UpRef.run m' ρ')⟩
  obtain ⟨h0, h1, h2, ha⟩ := h c
  obtain ⟨e0, e1, e2⟩ := hm c
  have E0 : UpRef.H m' c = Up.H m c := funext₂ fun _ _ => congrFun e0 _
  have E1 : UpRef.Wg m' c = Up.Wg m c := funext₂ fun _ _ => congrFun e1 _
  have E2 : UpRef.Wu m' c = Up.Wu m c := funext₂ fun _ _ => congrFun e2 _
  have Ea : UpRef.a m' c = Up.a m c := by unfold UpRef.a Up.a; rw [E0, E1]
  have Eb : UpRef.b m' c = Up.b m c := by unfold UpRef.b Up.b; rw [E0, E2]
  rw [Ea] at h0
  rw [Eb] at h1
  rw [Ea, Eb] at h2
  simp only [← sigTanh_eq_sigExp] at h2
  exact ⟨h0.trans (Up.gate m c).symm, h1.trans (Up.other m c).symm, h2.trans (Up.gated m c).symm, ha⟩

end Cert.Step.UpPair

end
-- ==== Proof.RmsFKernel.lean ====
/- The norm: what the kernel leaves in its result array, at an index. -/
module

public import proofs.«01_k».proof.Proof.NormGrad
public import proofs.«01_k».proof.Proof.Gen.KernelRmsFIdeal.Value
public import Idealize.ShloMosaic.Lib.Pipeline.ValueKit

@[expose] public section

set_option maxRecDepth 16384

noncomputable section

namespace Cert.Step.RmsF

open Cert.KernelRmsFIdeal Cert.KernelRmsFIdeal.Gen Idealize.ShloMosaic Idealize.ShloMosaic.TcCoe Idealize.SL.Sem
open scoped BigOperators

variable (m : (ℓ : Loc nD τ sig) → Buf (Elt Ideal) ℓ)

/-- The argument arrays on core `c`: the rows, the gain. -/
abbrev X (c : Dev nD) (r : Fin 8192) (k : Fin 1024) : EReal := (m ((c : Thread nD τ).loc main_arg0) : S8192x1024.Idx → EReal) (ix2 r k)
abbrev Gn (c : Dev nD) (k : Fin 1024) : EReal := (m ((c : Thread nD τ).loc main_arg1) : S1024.Idx → EReal) (ix1 k)

/-- Where each grid point's blocks lie. -/
theorem idx (t : Fin cfg0.N) : win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0]) t

theorem rows (c : Dev nD) : (dats m 0 c).arrAt 2 cfg0.N = fun i : S8192x1024.Idx => X m c (i 0) (i 1) * rinv (Ideal.ofBits .f32 0x44800000#32) (Ideal.ofBits .f32 0x358637BD#32) (fun k : Fin 1024 => X m c (i 0) k) * Gn m c (i 1) := by
  refine (dats m 0 c).arrAt_eq_of_covers 2 _ (by decide +kernel) fun t hf y => ?_
  blk_simp
  rw [after0_2]
  frame_out
  unfold_payloads
  pointwise [rinv, meanSq, X, Gn]
  blk_point [iblk, V, idx t]

end Cert.Step.RmsF

end
-- ==== Proof.RmsFReference.lean ====
/- The norm: what the reference leaves, and its frame. -/
module

public import proofs.«01_k».proof.Defs
public import proofs.«01_k».proof.Proof.NormGrad
public import proofs.«01_k».proof.Proof.Gen.ReferenceRmsFIdeal.Run
public import Idealize.ShloMosaic.Lib.Quiescent

@[expose] public section

set_option maxRecDepth 16384

noncomputable section

namespace Cert.Step.RmsFRef

open Cert.ReferenceRmsFIdeal Cert.ReferenceRmsFIdeal.Gen Idealize.ShloMosaic Idealize.ShloMosaic.TcCoe Idealize.SL.Sem
open scoped BigOperators

variable (m : (ℓ : Loc nD τ sig) → Buf (Elt Ideal) ℓ) (ρ : Dev nD → PrngReg)

/-- The argument arrays on core `c`: the rows, the gain. -/
abbrev X (c : Dev nD) (r : Fin 8192) (k : Fin 1024) : EReal := (m ((c.tc : Thread nD τ).loc main_arg0) : S8192x1024.Idx → EReal) (ix2 r k)
abbrev Gn (c : Dev nD) (k : Fin 1024) : EReal := (m ((c.tc : Thread nD τ).loc main_arg1) : S1024.Idx → EReal) (ix1 k)

/-- The frame of the reference, which has no semaphores. -/
theorem frame : Cert.quiescent_ReferenceRmsFIdeal := fun m ρ _ =>
  (θ_run defs _ _).mono (fun r h => ⟨fun c => (h c).2, sem_eq_zero_of_no_sems (by decide) r.2⟩) (Value.run m ρ)

/-- The run: the normalised rows times the gain. -/
theorem run : θ_run defs (onTc (τ := τ) (main (F := Ideal))) ⟨m, fun _ => 0, ρ⟩ fun r => ∀ c : Dev nD,
    (r.2.mem ((c.tc : Thread nD τ).loc main_v13) = fun i : S8192x1024.Idx => X m c (i 0) (i 1) * rinv (Ideal.ofBits .f32 0x44800000#32) (Ideal.ofBits .f32 0x358637BD#32) (fun k : Fin 1024 => X m c (i 0) k) * Gn m c (i 1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run defs _ _).mono (fun _ h c => ⟨(h c).1.trans (funext fun i => ?_),
      (h c).2⟩) (Value.run m ρ)
  · clear * -
    pointwise [rinv, meanSq, X, Gn]

end Cert.Step.RmsFRef

end
-- ==== Proof.RmsFPair.lean ====
/- The norm: the kernel's result is the reference's. -/
module

public import proofs.«01_k».proof.Proof.RmsFKernel
public import proofs.«01_k».proof.Proof.RmsFReference
public import proofs.«01_k».proof.Defs

@[expose] public section

set_option maxRecDepth 16384

noncomputable section

namespace Cert.Step.RmsFPair

open Idealize.ShloMosaic Idealize.ShloMosaic.TcCoe Idealize.SL.Sem Cert.KernelRmsFIdeal
open scoped BigOperators

theorem algebraic : Cert.algebraic_KernelRmsFIdeal_ReferenceRmsFIdeal := by
  intro m ρ m' ρ' hp hm
  refine ⟨fun c => (Gen.dats m 0 c).arrAt 2 cfg0.N,
    Value.run_blocks m ρ, (θ_run Cert.ReferenceRmsFIdeal.defs _ _).mono (fun r h c => ?_) (RmsFRef.run m' ρ')⟩
  obtain ⟨h0, ha⟩ := h c
  obtain ⟨e0, e1⟩ := hm c
  have E0 : RmsFRef.X m' c = RmsF.X m c := funext₂ fun _ _ => congrFun e0 _
  have E1 : RmsFRef.Gn m' c = RmsF.Gn m c := funext fun _ => congrFun e1 _
  rw [E0, E1] at h0
  exact ⟨h0.trans (RmsF.rows m c).symm, ha⟩

end Cert.Step.RmsFPair

end
-- ==== Proof.DownKernel.lean ====
/- The down projection added to its rows, and the next norm: what the kernel leaves in its two result arrays, at an index. -/
module

public import proofs.«01_k».proof.Proof.Silu
public import proofs.«01_k».proof.Proof.Gen.KernelDownIdeal.Value
public import Idealize.ShloMosaic.Lib.Pipeline.ValueKit

@[expose] public section

set_option maxRecDepth 16384

noncomputable section

namespace Cert.Step.Down

open Cert.KernelDownIdeal Cert.KernelDownIdeal.Gen Idealize.ShloMosaic Idealize.ShloMosaic.TcCoe Idealize.SL.Sem
open scoped BigOperators

variable (m : (ℓ : Loc nD τ sig) → Buf (Elt Ideal) ℓ)

/-- The argument arrays on core `c`: the gated rows, the weights, the rows, the gain. -/
abbrev S (c : Dev nD) (r : Fin 8192) (k : Fin 2816) : EReal := (m ((c : Thread nD τ).loc main_arg0) : S8192x2816.Idx → EReal) (ix2 r k)
abbrev W (c : Dev nD) (r : Fin 2816) (k : Fin 1024) : EReal := (m ((c : Thread nD τ).loc main_arg1) : S2816x1024.Idx → EReal) (ix2 r k)
abbrev X (c : Dev nD) (r : Fin 8192) (k : Fin 1024) : EReal := (m ((c : Thread nD τ).loc main_arg2) : S8192x1024.Idx → EReal) (ix2 r k)
abbrev Gn (c : Dev nD) (k : Fin 1024) : EReal := (m ((c : Thread nD τ).loc main_arg3) : S1024.Idx → EReal) (ix1 k)

/-- The rows with half the product added. -/
def added (c : Dev nD) (r : Fin 8192) (q : Fin 1024) : EReal := X m c r q + wHalf * ∑ k : Fin 2816, S m c r k * W m c k q

/-- Where each grid point's blocks lie. -/
theorem idx (t : Fin cfg0.N) : win0_0.index t = ![t.val, 0] ∧ win0_1.index t = ![0, 0] ∧ win0_2.index t = ![t.val, 0] ∧ win0_3.index t = ![0, 0] ∧ win0_4.index t = ![t.val, 0] ∧ win0_5.index t = ![t.val, 0] :=
  (by decide +kernel : ∀ t : Fin grid0.N, win0_0.index t = ![t.val, 0] ∧ win0_1.index t = ![0, 0] ∧ win0_2.index t = ![t.val, 0] ∧ win0_3.index t = ![0, 0] ∧ win0_4.index t = ![t.val, 0] ∧ win0_5.index t = ![t.val, 0]) t

theorem sum (c : Dev nD) : (dats m 0 c).arrAt 4 cfg0.N = fun i : S8192x1024.Idx => added m c (i 0) (i 1) := by
  refine (dats m 0 c).arrAt_eq_of_covers 4 _ (by decide +kernel) fun t hf y => ?_
  blk_simp
  rw [after0_4]
  frame_out
  unfold_payloads
  pointwise [added, S, W, X]
  blk_point [iblk, V, idx t]

theorem normed (c : Dev nD) : (dats m 0 c).arrAt 5 cfg0.N = fun i : S8192x1024.Idx => added m c (i 0) (i 1) * rinv (Ideal.ofBits .f32 0x44800000#32) (Ideal.ofBits .f32 0x358637BD#32) (fun k : Fin 1024 => added m c (i 0) k) * Gn m c (i 1) := by
  refine (dats m 0 c).arrAt_eq_of_covers 5 _ (by decide +kernel) fun t hf y => ?_
  blk_simp
  rw [after0_5]
  frame_out
  unfold_payloads
  pointwise [rinv, meanSq, added, S, W, X, Gn]
  blk_point [iblk, V, idx t]

end Cert.Step.Down

end
-- ==== Proof.DownReference.lean ====
/- The down projection added to its rows, and the next norm: what the reference leaves, and its frame. -/
module

public import proofs.«01_k».proof.Defs
public import proofs.«01_k».proof.Proof.Silu
public import proofs.«01_k».proof.Proof.Gen.ReferenceDownIdeal.Run
public import Idealize.ShloMosaic.Lib.Quiescent

@[expose] public section

set_option maxRecDepth 16384

noncomputable section

namespace Cert.Step.DownRef

open Cert.ReferenceDownIdeal Cert.ReferenceDownIdeal.Gen Idealize.ShloMosaic Idealize.ShloMosaic.TcCoe Idealize.SL.Sem
open scoped BigOperators

variable (m : (ℓ : Loc nD τ sig) → Buf (Elt Ideal) ℓ) (ρ : Dev nD → PrngReg)

/-- The argument arrays on core `c`: the gated rows, the weights, the rows, the gain. -/
abbrev S (c : Dev nD) (r : Fin 8192) (k : Fin 2816) : EReal := (m ((c.tc : Thread nD τ).loc main_arg0) : S8192x2816.Idx → EReal) (ix2 r k)
abbrev W (c : Dev nD) (r : Fin 2816) (k : Fin 1024) : EReal := (m ((c.tc : Thread nD τ).loc main_arg1) : S2816x1024.Idx → EReal) (ix2 r k)
abbrev X (c : Dev nD) (r : Fin 8192) (k : Fin 1024) : EReal := (m ((c.tc : Thread nD τ).loc main_arg2) : S8192x1024.Idx → EReal) (ix2 r k)
abbrev Gn (c : Dev nD) (k : Fin 1024) : EReal := (m ((c.tc : Thread nD τ).loc main_arg3) : S1024.Idx → EReal) (ix1 k)

/-- The rows with half the product added. -/
def added (c : Dev nD) (r : Fin 8192) (q : Fin 1024) : EReal := X m c r q + wHalf * ∑ k : Fin 2816, S m c r k * W m c k q

/-- The frame of the reference, which has no semaphores. -/
theorem frame : Cert.quiescent_ReferenceDownIdeal := fun m ρ _ =>
  (θ_run defs _ _).mono (fun r h => ⟨fun c => (h c).2.2, sem_eq_zero_of_no_sems (by decide) r.2⟩) (Value.run m ρ)

/-- The run: the rows with half the product added, and these normalised. -/
theorem run : θ_run defs (onTc (τ := τ) (main (F := Ideal))) ⟨m, fun _ => 0, ρ⟩ fun r => ∀ c : Dev nD,
    (r.2.mem ((c.tc : Thread nD τ).loc main_v3) = fun i : S8192x1024.Idx => added m c (i 0) (i 1))
    ∧ (r.2.mem ((c.tc : Thread nD τ).loc main_v17) = fun i : S8192x1024.Idx => added m c (i 0) (i 1) * rinv (Ideal.ofBits .f32 0x44800000#32) (Ideal.ofBits .f32 0x358637BD#32) (fun k : Fin 1024 => added m c (i 0) k) * Gn m c (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine (θ_run defs _ _).mono (fun _ h c => ⟨(h c).1.trans (funext fun i => ?_), (h c).2.1.trans (funext fun i => ?_),
      (h c).2.2⟩) (Value.run m ρ)
  · clear * -
    pointwise [added, S, W, X]
  · clear * -
    pointwise [rinv, meanSq, added, S, W, X, Gn]

end Cert.Step.DownRef

end
-- ==== Proof.DownPair.lean ====
/- The down projection added to its rows, and the next norm: the kernel's results are the reference's. -/
module

public import proofs.«01_k».proof.Proof.DownKernel
public import proofs.«01_k».proof.Proof.DownReference
public import proofs.«01_k».proof.Defs

@[expose] public section

set_option maxRecDepth 16384

noncomputable section

namespace Cert.Step.DownPair

open Idealize.ShloMosaic Idealize.ShloMosaic.TcCoe Idealize.SL.Sem Cert.KernelDownIdeal
open scoped BigOperators

theorem algebraic : Cert.algebraic_KernelDownIdeal_ReferenceDownIdeal := by
  intro m ρ m' ρ' hp hm
  refine ⟨fun c => (Gen.dats m 0 c).arrAt 4 cfg0.N, fun c => (Gen.dats m 0 c).arrAt 5 cfg0.N,
    Value.run_blocks m ρ, (θ_run Cert.ReferenceDownIdeal.defs _ _).mono (fun r h c => ?_) (DownRef.run m' ρ')⟩
  obtain ⟨h0, h1, ha⟩ := h c
  obtain ⟨e0, e1, e2, e3⟩ := hm c
  have E0 : DownRef.S m' c = Down.S m c := funext₂ fun _ _ => congrFun e0 _
  have E1 : DownRef.W m' c = Down.W m c := funext₂ fun _ _ => congrFun e1 _
  have E2 : DownRef.X m' c = Down.X m c := funext₂ fun _ _ => congrFun e2 _
  have E3 : DownRef.Gn m' c = Down.Gn m c := funext fun _ => congrFun e3 _
  have Ey : DownRef.added m' c = Down.added m c := by unfold DownRef.added Down.added; rw [E0, E1, E2]
  rw [Ey] at h0
  rw [Ey, E3] at h1
  exact ⟨h0.trans (Down.sum m c).symm, h1.trans (Down.normed m c).symm, ha⟩

end Cert.Step.DownPair

end
-- ==== Proof.lean ====
/- The proof of the claim: for each call of the step the frames of its programs, that idealizing keeps the program, and
   that its results are the reference's. -/
module

public import proofs.«01_k».proof.Defs
public import proofs.«01_k».proof.Proof.XattnPair
public import proofs.«01_k».proof.Proof.Gen.KernelXattn.Frame
public import proofs.«01_k».proof.Proof.Gen.KernelXattnIdeal.Frame
public import proofs.«01_k».proof.Proof.Gen.ReferenceXattnIdeal
public import proofs.«01_k».proof.Proof.RmsPair
public import proofs.«01_k».proof.Proof.Gen.KernelRms.Frame
public import proofs.«01_k».proof.Proof.Gen.KernelRmsIdeal.Frame
public import proofs.«01_k».proof.Proof.Gen.ReferenceRmsIdeal
public import proofs.«01_k».proof.Proof.LossPair
public import proofs.«01_k».proof.Proof.Gen.KernelLoss.Frame
public import proofs.«01_k».proof.Proof.Gen.KernelLossIdeal.Frame
public import proofs.«01_k».proof.Proof.Gen.ReferenceLossIdeal
public import proofs.«01_k».proof.Proof.MidPair
public import proofs.«01_k».proof.Proof.Gen.KernelMid.Frame
public import proofs.«01_k».proof.Proof.Gen.KernelMidIdeal.Frame
public import proofs.«01_k».proof.Proof.Gen.ReferenceMidIdeal
public import proofs.«01_k».proof.Proof.DhPair
public import proofs.«01_k».proof.Proof.Gen.KernelDh.Frame
public import proofs.«01_k».proof.Proof.Gen.KernelDhIdeal.Frame
public import proofs.«01_k».proof.Proof.Gen.ReferenceDhIdeal
public import proofs.«01_k».proof.Proof.DhnPair
public import proofs.«01_k».proof.Proof.Gen.KernelDhn.Frame
public import proofs.«01_k».proof.Proof.Gen.KernelDhnIdeal.Frame
public import proofs.«01_k».proof.Proof.Gen.ReferenceDhnIdeal
public import proofs.«01_k».proof.Proof.Dh3Pair
public import proofs.«01_k».proof.Proof.Gen.KernelDh3.Frame
public import proofs.«01_k».proof.Proof.Gen.KernelDh3Ideal.Frame
public import proofs.«01_k».proof.Proof.Gen.ReferenceDh3Ideal
public import proofs.«01_k».proof.Proof.Dh2Pair
public import proofs.«01_k».proof.Proof.Gen.KernelDh2.Frame
public import proofs.«01_k».proof.Proof.Gen.KernelDh2Ideal.Frame
public import proofs.«01_k».proof.Proof.Gen.ReferenceDh2Ideal
public import proofs.«01_k».proof.Proof.DmgPair
public import proofs.«01_k».proof.Proof.Gen.KernelDmg.Frame
public import proofs.«01_k».proof.Proof.Gen.KernelDmgIdeal.Frame
public import proofs.«01_k».proof.Proof.Gen.ReferenceDmgIdeal
public import proofs.«01_k».proof.Proof.PoolPair
public import proofs.«01_k».proof.Proof.Gen.KernelPool.Frame
public import proofs.«01_k».proof.Proof.Gen.KernelPoolIdeal.Frame
public import proofs.«01_k».proof.Proof.Gen.ReferencePoolIdeal
public import proofs.«01_k».proof.Proof.SwaPair
public import proofs.«01_k».proof.Proof.Gen.KernelSwa.Frame
public import proofs.«01_k».proof.Proof.Gen.KernelSwaIdeal.Frame
public import proofs.«01_k».proof.Proof.Gen.ReferenceSwaIdeal
public import proofs.«01_k».proof.Proof.ProjPair
public import proofs.«01_k».proof.Proof.Gen.KernelProj.Frame
public import proofs.«01_k».proof.Proof.Gen.KernelProjIdeal.Frame
public import proofs.«01_k».proof.Proof.Gen.ReferenceProjIdeal
public import proofs.«01_k».proof.Proof.XattnFPair
public import proofs.«01_k».proof.Proof.Gen.KernelXattnF.Frame
public import proofs.«01_k».proof.Proof.Gen.KernelXattnFIdeal.Frame
public import proofs.«01_k».proof.Proof.Gen.ReferenceXattnFIdeal
public import proofs.«01_k».proof.Proof.UpPair
public import proofs.«01_k».proof.Proof.Gen.KernelUp.Frame
public import proofs.«01_k».proof.Proof.Gen.KernelUpIdeal.Frame
public import proofs.«01_k».proof.Proof.Gen.ReferenceUpIdeal
public import proofs.«01_k».proof.Proof.RmsFPair
public import proofs.«01_k».proof.Proof.Gen.KernelRmsF.Frame
public import proofs.«01_k».proof.Proof.Gen.KernelRmsFIdeal.Frame
public import proofs.«01_k».proof.Proof.Gen.ReferenceRmsFIdeal
public import proofs.«01_k».proof.Proof.DownPair
public import proofs.«01_k».proof.Proof.Gen.KernelDown.Frame
public import proofs.«01_k».proof.Proof.Gen.KernelDownIdeal.Frame
public import proofs.«01_k».proof.Proof.Gen.ReferenceDownIdeal

@[expose] public section

noncomputable section

namespace Cert.Proof

theorem claim : Cert.Claim := ⟨
  Cert.KernelXattn.Gen.facts,
  Cert.KernelXattnIdeal.Gen.facts,
  Cert.ReferenceXattnIdeal.Gen.facts,
  Cert.KernelRms.Gen.facts,
  Cert.KernelRmsIdeal.Gen.facts,
  Cert.ReferenceRmsIdeal.Gen.facts,
  Cert.KernelLoss.Gen.facts,
  Cert.KernelLossIdeal.Gen.facts,
  Cert.ReferenceLossIdeal.Gen.facts,
  Cert.KernelMid.Gen.facts,
  Cert.KernelMidIdeal.Gen.facts,
  Cert.ReferenceMidIdeal.Gen.facts,
  Cert.KernelDh.Gen.facts,
  Cert.KernelDhIdeal.Gen.facts,
  Cert.ReferenceDhIdeal.Gen.facts,
  Cert.KernelDhn.Gen.facts,
  Cert.KernelDhnIdeal.Gen.facts,
  Cert.ReferenceDhnIdeal.Gen.facts,
  Cert.KernelDh3.Gen.facts,
  Cert.KernelDh3Ideal.Gen.facts,
  Cert.ReferenceDh3Ideal.Gen.facts,
  Cert.KernelDh2.Gen.facts,
  Cert.KernelDh2Ideal.Gen.facts,
  Cert.ReferenceDh2Ideal.Gen.facts,
  Cert.KernelDmg.Gen.facts,
  Cert.KernelDmgIdeal.Gen.facts,
  Cert.ReferenceDmgIdeal.Gen.facts,
  Cert.KernelPool.Gen.facts,
  Cert.KernelPoolIdeal.Gen.facts,
  Cert.ReferencePoolIdeal.Gen.facts,
  Cert.KernelSwa.Gen.facts,
  Cert.KernelSwaIdeal.Gen.facts,
  Cert.ReferenceSwaIdeal.Gen.facts,
  Cert.KernelProj.Gen.facts,
  Cert.KernelProjIdeal.Gen.facts,
  Cert.ReferenceProjIdeal.Gen.facts,
  Cert.KernelXattnF.Gen.facts,
  Cert.KernelXattnFIdeal.Gen.facts,
  Cert.ReferenceXattnFIdeal.Gen.facts,
  Cert.KernelUp.Gen.facts,
  Cert.KernelUpIdeal.Gen.facts,
  Cert.ReferenceUpIdeal.Gen.facts,
  Cert.KernelRmsF.Gen.facts,
  Cert.KernelRmsFIdeal.Gen.facts,
  Cert.ReferenceRmsFIdeal.Gen.facts,
  Cert.KernelDown.Gen.facts,
  Cert.KernelDownIdeal.Gen.facts,
  Cert.ReferenceDownIdeal.Gen.facts,
  Cert.Step.XattnPair.finite_facts,
  Cert.Step.RmsPair.finite_facts,
  Cert.Step.LossPair.finite_facts,
  Cert.Step.MidPair.finite_facts,
  Cert.Step.DhPair.finite_facts,
  Cert.Step.DhnPair.finite_facts,
  Cert.Step.Dh3Pair.finite_facts,
  Cert.Step.Dh2Pair.finite_facts,
  Cert.Step.DmgPair.finite_facts,
  Cert.Step.PoolPair.finite_facts,
  Cert.Step.SwaPair.finite_facts,
  fun m ρ _ => Cert.KernelXattn.Gen.frame m ρ, fun m ρ _ => Cert.KernelXattnIdeal.Gen.frame m ρ, fun m ρ _ => Cert.KernelXattnIdeal.Gen.frame m ρ,
    Cert.Step.XattnRef.frame, fun m ρ _ => Cert.Step.XattnRef.frame m ρ trivial,
  fun m ρ _ => Cert.KernelRms.Gen.frame m ρ, fun m ρ _ => Cert.KernelRmsIdeal.Gen.frame m ρ, fun m ρ _ => Cert.KernelRmsIdeal.Gen.frame m ρ,
    fun m ρ _ => Cert.Step.RmsRef.frame m ρ, fun m ρ _ => Cert.Step.RmsRef.frame m ρ,
  fun m ρ _ => Cert.KernelLoss.Gen.frame m ρ, fun m ρ _ => Cert.KernelLossIdeal.Gen.frame m ρ, fun m ρ _ => Cert.KernelLossIdeal.Gen.frame m ρ,
    Cert.Step.LossRef.frame, fun m ρ _ => Cert.Step.LossRef.frame m ρ trivial,
  fun m ρ _ => Cert.KernelMid.Gen.frame m ρ, fun m ρ _ => Cert.KernelMidIdeal.Gen.frame m ρ, fun m ρ _ => Cert.KernelMidIdeal.Gen.frame m ρ,
    Cert.Step.MidRef.frame, fun m ρ _ => Cert.Step.MidRef.frame m ρ trivial,
  fun m ρ _ => Cert.KernelDh.Gen.frame m ρ, fun m ρ _ => Cert.KernelDhIdeal.Gen.frame m ρ, fun m ρ _ => Cert.KernelDhIdeal.Gen.frame m ρ,
    Cert.Step.DhRef.frame, fun m ρ _ => Cert.Step.DhRef.frame m ρ trivial,
  fun m ρ _ => Cert.KernelDhn.Gen.frame m ρ, fun m ρ _ => Cert.KernelDhnIdeal.Gen.frame m ρ, fun m ρ _ => Cert.KernelDhnIdeal.Gen.frame m ρ,
    Cert.Step.DhnRef.frame, fun m ρ _ => Cert.Step.DhnRef.frame m ρ trivial,
  fun m ρ _ => Cert.KernelDh3.Gen.frame m ρ, fun m ρ _ => Cert.KernelDh3Ideal.Gen.frame m ρ, fun m ρ _ => Cert.KernelDh3Ideal.Gen.frame m ρ,
    Cert.Step.Dh3Ref.frame, fun m ρ _ => Cert.Step.Dh3Ref.frame m ρ trivial,
  fun m ρ _ => Cert.KernelDh2.Gen.frame m ρ, fun m ρ _ => Cert.KernelDh2Ideal.Gen.frame m ρ, fun m ρ _ => Cert.KernelDh2Ideal.Gen.frame m ρ,
    Cert.Step.Dh2Ref.frame, fun m ρ _ => Cert.Step.Dh2Ref.frame m ρ trivial,
  fun m ρ _ => Cert.KernelDmg.Gen.frame m ρ, fun m ρ _ => Cert.KernelDmgIdeal.Gen.frame m ρ, fun m ρ _ => Cert.KernelDmgIdeal.Gen.frame m ρ,
    Cert.Step.DmgRef.frame, fun m ρ _ => Cert.Step.DmgRef.frame m ρ trivial,
  fun m ρ _ => Cert.KernelPool.Gen.frame m ρ, fun m ρ _ => Cert.KernelPoolIdeal.Gen.frame m ρ, fun m ρ _ => Cert.KernelPoolIdeal.Gen.frame m ρ,
    Cert.Step.PoolRef.frame, fun m ρ _ => Cert.Step.PoolRef.frame m ρ trivial,
  fun m ρ _ => Cert.KernelSwa.Gen.frame m ρ, fun m ρ _ => Cert.KernelSwaIdeal.Gen.frame m ρ, fun m ρ _ => Cert.KernelSwaIdeal.Gen.frame m ρ,
    Cert.Step.SwaRef.frame, fun m ρ _ => Cert.Step.SwaRef.frame m ρ trivial,
  fun m ρ _ => Cert.KernelProj.Gen.frame m ρ, fun m ρ _ => Cert.KernelProjIdeal.Gen.frame m ρ,
    Cert.Step.ProjRef.frame,
  fun m ρ _ => Cert.KernelXattnF.Gen.frame m ρ, fun m ρ _ => Cert.KernelXattnFIdeal.Gen.frame m ρ,
    Cert.Step.XattnFRef.frame,
  fun m ρ _ => Cert.KernelUp.Gen.frame m ρ, fun m ρ _ => Cert.KernelUpIdeal.Gen.frame m ρ,
    Cert.Step.UpRef.frame,
  fun m ρ _ => Cert.KernelRmsF.Gen.frame m ρ, fun m ρ _ => Cert.KernelRmsFIdeal.Gen.frame m ρ,
    Cert.Step.RmsFRef.frame,
  fun m ρ _ => Cert.KernelDown.Gen.frame m ρ, fun m ρ _ => Cert.KernelDownIdeal.Gen.frame m ρ,
    Cert.Step.DownRef.frame,
  trivial, Cert.Step.XattnPair.algebraic,
  trivial, Cert.Step.RmsPair.algebraic,
  trivial, Cert.Step.LossPair.algebraic,
  trivial, Cert.Step.MidPair.algebraic,
  trivial, Cert.Step.DhPair.algebraic,
  trivial, Cert.Step.DhnPair.algebraic,
  trivial, Cert.Step.Dh3Pair.algebraic,
  trivial, Cert.Step.Dh2Pair.algebraic,
  trivial, Cert.Step.DmgPair.algebraic,
  trivial, Cert.Step.PoolPair.algebraic,
  (Cert.Step.SwaRef.preserves), Cert.Step.SwaPair.algebraic,
  trivial, Cert.Step.ProjPair.algebraic,
  trivial, Cert.Step.XattnFPair.algebraic,
  trivial, Cert.Step.UpPair.algebraic,
  trivial, Cert.Step.RmsFPair.algebraic,
  trivial, Cert.Step.DownPair.algebraic⟩

end Cert.Proof

end
